-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_attn_finite [hPre_attn_finite : Cert.Pre_attn_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attn_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_attn_finite [hPre_attn_finite : Cert.Pre_attn_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_attn_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_Dx1RefIdeal (m : (ℓ : Loc Cert.Dx1RefIdeal.nD Cert.Dx1RefIdeal.τ Cert.Dx1RefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_ProjAttn (m : (ℓ : Loc Cert.ProjAttn.nD Cert.ProjAttn.τ Cert.ProjAttn.sig) → Buf (Elt Bits) ℓ) : Prop :=
  True

def Pre_ProjAttnIdeal (m : (ℓ : Loc Cert.ProjAttnIdeal.nD Cert.ProjAttnIdeal.τ Cert.ProjAttnIdeal.sig) → Buf (Elt Ideal) ℓ) : Prop :=
  True

def Pre_ProjAttnRefIdeal (m : (ℓ : Loc Cert.ProjAttnRefIdeal.nD Cert.ProjAttnRefIdeal.τ Cert.ProjAttnRefIdeal.sig) → Buf (Elt Ideal) ℓ) : Prop :=
  True

def Pre_ProjRest (m : (ℓ : Loc Cert.ProjRest.nD Cert.ProjRest.τ Cert.ProjRest.sig) → Buf (Elt Bits) ℓ) : Prop :=
  True

def Pre_ProjRestIdeal (m : (ℓ : Loc Cert.ProjRestIdeal.nD Cert.ProjRestIdeal.τ Cert.ProjRestIdeal.sig) → Buf (Elt Ideal) ℓ) : Prop :=
  True

def Pre_ProjRestRefIdeal (m : (ℓ : Loc Cert.ProjRestRefIdeal.nD Cert.ProjRestRefIdeal.τ Cert.ProjRestRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_Branch0 (m : (ℓ : Loc Cert.Branch0.nD Cert.Branch0.τ Cert.Branch0.sig) → Buf (Elt Bits) ℓ) : Prop :=
  True

def Pre_Branch0Ideal (m : (ℓ : Loc Cert.Branch0Ideal.nD Cert.Branch0Ideal.τ Cert.Branch0Ideal.sig) → Buf (Elt Ideal) ℓ) : Prop :=
  True

def Pre_Branch0RefIdeal (m : (ℓ : Loc Cert.Branch0RefIdeal.nD Cert.Branch0RefIdeal.τ Cert.Branch0RefIdeal.sig) → Buf (Elt Ideal) ℓ) : Prop :=
  True

def Pre_Branch1 (m : (ℓ : Loc Cert.Branch1.nD Cert.Branch1.τ Cert.Branch1.sig) → Buf (Elt Bits) ℓ) : Prop :=
  True

def Pre_Branch1Ideal (m : (ℓ : Loc Cert.Branch1Ideal.nD Cert.Branch1Ideal.τ Cert.Branch1Ideal.sig) → Buf (Elt Ideal) ℓ) : Prop :=
  True

def Pre_Branch1RefIdeal (m : (ℓ : Loc Cert.Branch1RefIdeal.nD Cert.Branch1RefIdeal.τ Cert.Branch1RefIdeal.sig) → Buf (Elt Ideal) ℓ) : Prop :=
  True

def Pre_Branch2 (m : (ℓ : Loc Cert.Branch2.nD Cert.Branch2.τ Cert.Branch2.sig) → Buf (Elt Bits) ℓ) : Prop :=
  True

def Pre_Branch2Ideal (m : (ℓ : Loc Cert.Branch2Ideal.nD Cert.Branch2Ideal.τ Cert.Branch2Ideal.sig) → Buf (Elt Ideal) ℓ) : Prop :=
  True

def Pre_Branch2RefIdeal (m : (ℓ : Loc Cert.Branch2RefIdeal.nD Cert.Branch2RefIdeal.τ Cert.Branch2RefIdeal.sig) → Buf (Elt Ideal) ℓ) : Prop :=
  True

def Pre_DwBranch0 (m : (ℓ : Loc Cert.DwBranch0.nD Cert.DwBranch0.τ Cert.DwBranch0.sig) → Buf (Elt Bits) ℓ) : Prop :=
  True

def Pre_DwBranch0Ideal (m : (ℓ : Loc Cert.DwBranch0Ideal.nD Cert.DwBranch0Ideal.τ Cert.DwBranch0Ideal.sig) → Buf (Elt Ideal) ℓ) : Prop :=
  True

def Pre_DwBranch0RefIdeal (m : (ℓ : Loc Cert.DwBranch0RefIdeal.nD Cert.DwBranch0RefIdeal.τ Cert.DwBranch0RefIdeal.sig) → Buf (Elt Ideal) ℓ) : Prop :=
  True

def Pre_DwBranch1 (m : (ℓ : Loc Cert.DwBranch1.nD Cert.DwBranch1.τ Cert.DwBranch1.sig) → Buf (Elt Bits) ℓ) : Prop :=
  True

def Pre_DwBranch1Ideal (m : (ℓ : Loc Cert.DwBranch1Ideal.nD Cert.DwBranch1Ideal.τ Cert.DwBranch1Ideal.sig) → Buf (Elt Ideal) ℓ) : Prop :=
  True

def Pre_DwBranch1RefIdeal (m : (ℓ : Loc Cert.DwBranch1RefIdeal.nD Cert.DwBranch1RefIdeal.τ Cert.DwBranch1RefIdeal.sig) → Buf (Elt Ideal) ℓ) : Prop :=
  True

def Pre_DwBranch2 (m : (ℓ : Loc Cert.DwBranch2.nD Cert.DwBranch2.τ Cert.DwBranch2.sig) → Buf (Elt Bits) ℓ) : Prop :=
  True

def Pre_DwBranch2Ideal (m : (ℓ : Loc Cert.DwBranch2Ideal.nD Cert.DwBranch2Ideal.τ Cert.DwBranch2Ideal.sig) → Buf (Elt Ideal) ℓ) : Prop :=
  True

def Pre_DwBranch2RefIdeal (m : (ℓ : Loc Cert.DwBranch2RefIdeal.nD Cert.DwBranch2RefIdeal.τ Cert.DwBranch2RefIdeal.sig) → Buf (Elt Ideal) ℓ) : Prop :=
  True

def Pre_DoBranch0 (m : (ℓ : Loc Cert.DoBranch0.nD Cert.DoBranch0.τ Cert.DoBranch0.sig) → Buf (Elt Bits) ℓ) : Prop :=
  True

def Pre_DoBranch0Ideal (m : (ℓ : Loc Cert.DoBranch0Ideal.nD Cert.DoBranch0Ideal.τ Cert.DoBranch0Ideal.sig) → Buf (Elt Ideal) ℓ) : Prop :=
  True

def Pre_DoBranch0RefIdeal (m : (ℓ : Loc Cert.DoBranch0RefIdeal.nD Cert.DoBranch0RefIdeal.τ Cert.DoBranch0RefIdeal.sig) → Buf (Elt Ideal) ℓ) : Prop :=
  True

def Pre_DoBranch2 (m : (ℓ : Loc Cert.DoBranch2.nD Cert.DoBranch2.τ Cert.DoBranch2.sig) → Buf (Elt Bits) ℓ) : Prop :=
  True

def Pre_DoBranch2Ideal (m : (ℓ : Loc Cert.DoBranch2Ideal.nD Cert.DoBranch2Ideal.τ Cert.DoBranch2Ideal.sig) → Buf (Elt Ideal) ℓ) : Prop :=
  True

def Pre_DoBranch2RefIdeal (m : (ℓ : Loc Cert.DoBranch2RefIdeal.nD Cert.DoBranch2RefIdeal.τ Cert.DoBranch2RefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_finite [hPre_conv_finite : Cert.Pre_conv_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_norm_finite [hPre_norm_finite : Cert.Pre_norm_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_norm_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_norm_finite [hPre_norm_finite : Cert.Pre_norm_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_norm_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_CombBwd (m : (ℓ : Loc Cert.CombBwd.nD Cert.CombBwd.τ Cert.CombBwd.sig) → Buf (Elt Bits) ℓ) : Prop :=
  True

def Pre_CombBwdIdeal (m : (ℓ : Loc Cert.CombBwdIdeal.nD Cert.CombBwdIdeal.τ Cert.CombBwdIdeal.sig) → Buf (Elt Ideal) ℓ) : Prop :=
  True

def Pre_CombBwdIdeal_combine_bwd_finite [hPre_combine_bwd_finite : Cert.Pre_combine_bwd_finite.Facts] (m : (ℓ : Loc Cert.CombBwdIdeal.nD Cert.CombBwdIdeal.τ Cert.CombBwdIdeal.sig) → Buf (Elt Ideal) ℓ) : Prop :=
  ∀ c : Dev Cert.CombBwdIdeal.nD,
    (Cert.Pre_combine_bwd_finite.fn (F := Ideal) (m ((c.tc : Thread Cert.CombBwdIdeal.nD Cert.CombBwdIdeal.τ).loc Cert.CombBwdIdeal.main_arg0)) (m ((c.tc : Thread Cert.CombBwdIdeal.nD Cert.CombBwdIdeal.τ).loc Cert.CombBwdIdeal.main_arg1)) (m ((c.tc : Thread Cert.CombBwdIdeal.nD Cert.CombBwdIdeal.τ).loc Cert.CombBwdIdeal.main_arg2)) (m ((c.tc : Thread Cert.CombBwdIdeal.nD Cert.CombBwdIdeal.τ).loc Cert.CombBwdIdeal.main_arg3)) (m ((c.tc : Thread Cert.CombBwdIdeal.nD Cert.CombBwdIdeal.τ).loc Cert.CombBwdIdeal.main_arg4)) (m ((c.tc : Thread Cert.CombBwdIdeal.nD Cert.CombBwdIdeal.τ).loc Cert.CombBwdIdeal.main_arg5)) (m ((c.tc : Thread Cert.CombBwdIdeal.nD Cert.CombBwdIdeal.τ).loc Cert.CombBwdIdeal.main_arg6))) = (fun _ => 1#1)

def Pre_CombBwdRefIdeal (m : (ℓ : Loc Cert.CombBwdRefIdeal.nD Cert.CombBwdRefIdeal.τ Cert.CombBwdRefIdeal.sig) → Buf (Elt Ideal) ℓ) : Prop :=
  True

def Pre_CombBwdRefIdeal_combine_bwd_finite [hPre_combine_bwd_finite : Cert.Pre_combine_bwd_finite.Facts] (m : (ℓ : Loc Cert.CombBwdRefIdeal.nD Cert.CombBwdRefIdeal.τ Cert.CombBwdRefIdeal.sig) → Buf (Elt Ideal) ℓ) : Prop :=
  ∀ c : Dev Cert.CombBwdRefIdeal.nD,
    (Cert.Pre_combine_bwd_finite.fn (F := Ideal) (m ((c.tc : Thread Cert.CombBwdRefIdeal.nD Cert.CombBwdRefIdeal.τ).loc Cert.CombBwdRefIdeal.main_arg0)) (m ((c.tc : Thread Cert.CombBwdRefIdeal.nD Cert.CombBwdRefIdeal.τ).loc Cert.CombBwdRefIdeal.main_arg1)) (m ((c.tc : Thread Cert.CombBwdRefIdeal.nD Cert.CombBwdRefIdeal.τ).loc Cert.CombBwdRefIdeal.main_arg2)) (m ((c.tc : Thread Cert.CombBwdRefIdeal.nD Cert.CombBwdRefIdeal.τ).loc Cert.CombBwdRefIdeal.main_arg3)) (m ((c.tc : Thread Cert.CombBwdRefIdeal.nD Cert.CombBwdRefIdeal.τ).loc Cert.CombBwdRefIdeal.main_arg4)) (m ((c.tc : Thread Cert.CombBwdRefIdeal.nD Cert.CombBwdRefIdeal.τ).loc Cert.CombBwdRefIdeal.main_arg5)) (m ((c.tc : Thread Cert.CombBwdRefIdeal.nD Cert.CombBwdRefIdeal.τ).loc Cert.CombBwdRefIdeal.main_arg6))) = (fun _ => 1#1)

def Pre_CombFwd (m : (ℓ : Loc Cert.CombFwd.nD Cert.CombFwd.τ Cert.CombFwd.sig) → Buf (Elt Bits) ℓ) : Prop :=
  True

def Pre_CombFwdIdeal (m : (ℓ : Loc Cert.CombFwdIdeal.nD Cert.CombFwdIdeal.τ Cert.CombFwdIdeal.sig) → Buf (Elt Ideal) ℓ) : Prop :=
  True

def Pre_CombFwdIdeal_combine_finite [hPre_combine_finite : Cert.Pre_combine_finite.Facts] (m : (ℓ : Loc Cert.CombFwdIdeal.nD Cert.CombFwdIdeal.τ Cert.CombFwdIdeal.sig) → Buf (Elt Ideal) ℓ) : Prop :=
  ∀ c : Dev Cert.CombFwdIdeal.nD,
    (Cert.Pre_combine_finite.fn (F := Ideal) (m ((c.tc : Thread Cert.CombFwdIdeal.nD Cert.CombFwdIdeal.τ).loc Cert.CombFwdIdeal.main_arg0)) (m ((c.tc : Thread Cert.CombFwdIdeal.nD Cert.CombFwdIdeal.τ).loc Cert.CombFwdIdeal.main_arg1)) (m ((c.tc : Thread Cert.CombFwdIdeal.nD Cert.CombFwdIdeal.τ).loc Cert.CombFwdIdeal.main_arg2)) (m ((c.tc : Thread Cert.CombFwdIdeal.nD Cert.CombFwdIdeal.τ).loc Cert.CombFwdIdeal.main_arg3)) (m ((c.tc : Thread Cert.CombFwdIdeal.nD Cert.CombFwdIdeal.τ).loc Cert.CombFwdIdeal.main_arg4)) (m ((c.tc : Thread Cert.CombFwdIdeal.nD Cert.CombFwdIdeal.τ).loc Cert.CombFwdIdeal.main_arg5))) = (fun _ => 1#1)

def Pre_CombFwdRefIdeal (m : (ℓ : Loc Cert.CombFwdRefIdeal.nD Cert.CombFwdRefIdeal.τ Cert.CombFwdRefIdeal.sig) → Buf (Elt Ideal) ℓ) : Prop :=
  True

def Pre_CombFwdRefIdeal_combine_finite [hPre_combine_finite : Cert.Pre_combine_finite.Facts] (m : (ℓ : Loc Cert.CombFwdRefIdeal.nD Cert.CombFwdRefIdeal.τ Cert.CombFwdRefIdeal.sig) → Buf (Elt Ideal) ℓ) : Prop :=
  ∀ c : Dev Cert.CombFwdRefIdeal.nD,
    (Cert.Pre_combine_finite.fn (F := Ideal) (m ((c.tc : Thread Cert.CombFwdRefIdeal.nD Cert.CombFwdRefIdeal.τ).loc Cert.CombFwdRefIdeal.main_arg0)) (m ((c.tc : Thread Cert.CombFwdRefIdeal.nD Cert.CombFwdRefIdeal.τ).loc Cert.CombFwdRefIdeal.main_arg1)) (m ((c.tc : Thread Cert.CombFwdRefIdeal.nD Cert.CombFwdRefIdeal.τ).loc Cert.CombFwdRefIdeal.main_arg2)) (m ((c.tc : Thread Cert.CombFwdRefIdeal.nD Cert.CombFwdRefIdeal.τ).loc Cert.CombFwdRefIdeal.main_arg3)) (m ((c.tc : Thread Cert.CombFwdRefIdeal.nD Cert.CombFwdRefIdeal.τ).loc Cert.CombFwdRefIdeal.main_arg4)) (m ((c.tc : Thread Cert.CombFwdRefIdeal.nD Cert.CombFwdRefIdeal.τ).loc Cert.CombFwdRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_attn_finite [hAttentionIdeal : Cert.AttentionIdeal.Facts] [hPre_attn_finite : Cert.Pre_attn_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attn_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_attn_finite [hAttentionRefIdeal : Cert.AttentionRefIdeal.Facts] [hPre_attn_finite : Cert.Pre_attn_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_attn_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1)
      ∧ r.2.mem ((c.tc : Thread Cert.Dx1.nD Cert.Dx1.τ).loc Cert.Dx1.main_arg2) = m ((c.tc : Thread Cert.Dx1.nD Cert.Dx1.τ).loc Cert.Dx1.main_arg2))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
      ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ r.2.sem = fun _ => 0)

def quiescent_Dx1RefIdeal [hDx1RefIdeal : Cert.Dx1RefIdeal.Facts] : Prop :=
  ∀ (m : (ℓ : Loc Cert.Dx1RefIdeal.nD Cert.Dx1RefIdeal.τ Cert.Dx1RefIdeal.sig) → Buf (Elt Ideal) ℓ) (g : Dev Cert.Dx1RefIdeal.nD → PrngReg), Pre_Dx1RefIdeal m →
    θ_run (Cert.Dx1RefIdeal.defs (F := Ideal)) (onTc (τ := Cert.Dx1RefIdeal.τ) (Cert.Dx1RefIdeal.main (F := Ideal))) ⟨m, fun _ => 0, g⟩ (fun r => (∀ c : Dev Cert.Dx1RefIdeal.nD,
      r.2.mem ((c.tc : Thread Cert.Dx1RefIdeal.nD Cert.Dx1RefIdeal.τ).loc Cert.Dx1RefIdeal.main_arg0) = m ((c.tc : Thread Cert.Dx1RefIdeal.nD Cert.Dx1RefIdeal.τ).loc Cert.Dx1RefIdeal.main_arg0)
      ∧ r.2.mem ((c.tc : Thread Cert.Dx1RefIdeal.nD Cert.Dx1RefIdeal.τ).loc Cert.Dx1RefIdeal.main_arg1) = m ((c.tc : Thread Cert.Dx1RefIdeal.nD Cert.Dx1RefIdeal.τ).loc Cert.Dx1RefIdeal.main_arg1)
      ∧ r.2.mem ((c.tc : Thread Cert.Dx1RefIdeal.nD Cert.Dx1RefIdeal.τ).loc Cert.Dx1RefIdeal.main_arg2) = m ((c.tc : Thread Cert.Dx1RefIdeal.nD Cert.Dx1RefIdeal.τ).loc Cert.Dx1RefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_ProjAttn [hProjAttn : Cert.ProjAttn.Facts] : Prop :=
  ∀ (m : (ℓ : Loc Cert.ProjAttn.nD Cert.ProjAttn.τ Cert.ProjAttn.sig) → Buf (Elt Bits) ℓ) (g : Dev Cert.ProjAttn.nD → PrngReg), Pre_ProjAttn m →
    θ_run (Cert.ProjAttn.defs (F := Bits)) (onTc (τ := Cert.ProjAttn.τ) (Cert.ProjAttn.main (F := Bits))) ⟨m, fun _ => 0, g⟩ (fun r => (∀ c : Dev Cert.ProjAttn.nD,
      r.2.mem ((c.tc : Thread Cert.ProjAttn.nD Cert.ProjAttn.τ).loc Cert.ProjAttn.main_arg0) = m ((c.tc : Thread Cert.ProjAttn.nD Cert.ProjAttn.τ).loc Cert.ProjAttn.main_arg0)
      ∧ r.2.mem ((c.tc : Thread Cert.ProjAttn.nD Cert.ProjAttn.τ).loc Cert.ProjAttn.main_arg1) = m ((c.tc : Thread Cert.ProjAttn.nD Cert.ProjAttn.τ).loc Cert.ProjAttn.main_arg1))
      ∧ r.2.sem = fun _ => 0)

def quiescent_ProjAttnIdeal [hProjAttnIdeal : Cert.ProjAttnIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg), Pre_ProjAttnIdeal m →
    θ_run (Cert.ProjAttnIdeal.defs (F := Ideal)) (onTc (τ := Cert.ProjAttnIdeal.τ) (Cert.ProjAttnIdeal.main (F := Ideal))) ⟨m, fun _ => 0, g⟩ (fun r => (∀ c : Dev Cert.ProjAttnIdeal.nD,
      r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
      ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ r.2.sem = fun _ => 0)

def quiescent_ProjAttnRefIdeal [hProjAttnRefIdeal : Cert.ProjAttnRefIdeal.Facts] : Prop :=
  ∀ (m : (ℓ : Loc Cert.ProjAttnRefIdeal.nD Cert.ProjAttnRefIdeal.τ Cert.ProjAttnRefIdeal.sig) → Buf (Elt Ideal) ℓ) (g : Dev Cert.ProjAttnRefIdeal.nD → PrngReg), Pre_ProjAttnRefIdeal m →
    θ_run (Cert.ProjAttnRefIdeal.defs (F := Ideal)) (onTc (τ := Cert.ProjAttnRefIdeal.τ) (Cert.ProjAttnRefIdeal.main (F := Ideal))) ⟨m, fun _ => 0, g⟩ (fun r => (∀ c : Dev Cert.ProjAttnRefIdeal.nD,
      r.2.mem ((c.tc : Thread Cert.ProjAttnRefIdeal.nD Cert.ProjAttnRefIdeal.τ).loc Cert.ProjAttnRefIdeal.main_arg0) = m ((c.tc : Thread Cert.ProjAttnRefIdeal.nD Cert.ProjAttnRefIdeal.τ).loc Cert.ProjAttnRefIdeal.main_arg0)
      ∧ r.2.mem ((c.tc : Thread Cert.ProjAttnRefIdeal.nD Cert.ProjAttnRefIdeal.τ).loc Cert.ProjAttnRefIdeal.main_arg1) = m ((c.tc : Thread Cert.ProjAttnRefIdeal.nD Cert.ProjAttnRefIdeal.τ).loc Cert.ProjAttnRefIdeal.main_arg1))
      ∧ r.2.sem = fun _ => 0)

def quiescent_ProjRest [hProjRest : Cert.ProjRest.Facts] : Prop :=
  ∀ (m : (ℓ : Loc Cert.ProjRest.nD Cert.ProjRest.τ Cert.ProjRest.sig) → Buf (Elt Bits) ℓ) (g : Dev Cert.ProjRest.nD → PrngReg), Pre_ProjRest m →
    θ_run (Cert.ProjRest.defs (F := Bits)) (onTc (τ := Cert.ProjRest.τ) (Cert.ProjRest.main (F := Bits))) ⟨m, fun _ => 0, g⟩ (fun r => (∀ c : Dev Cert.ProjRest.nD,
      r.2.mem ((c.tc : Thread Cert.ProjRest.nD Cert.ProjRest.τ).loc Cert.ProjRest.main_arg0) = m ((c.tc : Thread Cert.ProjRest.nD Cert.ProjRest.τ).loc Cert.ProjRest.main_arg0)
      ∧ r.2.mem ((c.tc : Thread Cert.ProjRest.nD Cert.ProjRest.τ).loc Cert.ProjRest.main_arg1) = m ((c.tc : Thread Cert.ProjRest.nD Cert.ProjRest.τ).loc Cert.ProjRest.main_arg1))
      ∧ r.2.sem = fun _ => 0)

def quiescent_ProjRestIdeal [hProjRestIdeal : Cert.ProjRestIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg), Pre_ProjRestIdeal m →
    θ_run (Cert.ProjRestIdeal.defs (F := Ideal)) (onTc (τ := Cert.ProjRestIdeal.τ) (Cert.ProjRestIdeal.main (F := Ideal))) ⟨m, fun _ => 0, g⟩ (fun r => (∀ c : Dev Cert.ProjRestIdeal.nD,
      r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
      ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1))
      ∧ r.2.sem = fun _ => 0)

def quiescent_ProjRestRefIdeal [hProjRestRefIdeal : Cert.ProjRestRefIdeal.Facts] : Prop :=
  ∀ (m : (ℓ : Loc Cert.ProjRestRefIdeal.nD Cert.ProjRestRefIdeal.τ Cert.ProjRestRefIdeal.sig) → Buf (Elt Ideal) ℓ) (g : Dev Cert.ProjRestRefIdeal.nD → PrngReg), Pre_ProjRestRefIdeal m →
    θ_run (Cert.ProjRestRefIdeal.defs (F := Ideal)) (onTc (τ := Cert.ProjRestRefIdeal.τ) (Cert.ProjRestRefIdeal.main (F := Ideal))) ⟨m, fun _ => 0, g⟩ (fun r => (∀ c : Dev Cert.ProjRestRefIdeal.nD,
      r.2.mem ((c.tc : Thread Cert.ProjRestRefIdeal.nD Cert.ProjRestRefIdeal.τ).loc Cert.ProjRestRefIdeal.main_arg0) = m ((c.tc : Thread Cert.ProjRestRefIdeal.nD Cert.ProjRestRefIdeal.τ).loc Cert.ProjRestRefIdeal.main_arg0)
      ∧ r.2.mem ((c.tc : Thread Cert.ProjRestRefIdeal.nD Cert.ProjRestRefIdeal.τ).loc Cert.ProjRestRefIdeal.main_arg1) = m ((c.tc : Thread Cert.ProjRestRefIdeal.nD Cert.ProjRestRefIdeal.τ).loc Cert.ProjRestRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1))
      ∧ r.2.sem = fun _ => 0)

def quiescent_Branch0 [hBranch0 : Cert.Branch0.Facts] : Prop :=
  ∀ (m : (ℓ : Loc Cert.Branch0.nD Cert.Branch0.τ Cert.Branch0.sig) → Buf (Elt Bits) ℓ) (g : Dev Cert.Branch0.nD → PrngReg), Pre_Branch0 m →
    θ_run (Cert.Branch0.defs (F := Bits)) (onTc (τ := Cert.Branch0.τ) (Cert.Branch0.main (F := Bits))) ⟨m, fun _ => 0, g⟩ (fun r => (∀ c : Dev Cert.Branch0.nD,
      r.2.mem ((c.tc : Thread Cert.Branch0.nD Cert.Branch0.τ).loc Cert.Branch0.main_arg0) = m ((c.tc : Thread Cert.Branch0.nD Cert.Branch0.τ).loc Cert.Branch0.main_arg0)
      ∧ r.2.mem ((c.tc : Thread Cert.Branch0.nD Cert.Branch0.τ).loc Cert.Branch0.main_arg1) = m ((c.tc : Thread Cert.Branch0.nD Cert.Branch0.τ).loc Cert.Branch0.main_arg1))
      ∧ r.2.sem = fun _ => 0)

def quiescent_Branch0Ideal [hBranch0Ideal : Cert.Branch0Ideal.Facts] : Prop :=
  ∀ (m : (ℓ : Loc Cert.Branch0Ideal.nD Cert.Branch0Ideal.τ Cert.Branch0Ideal.sig) → Buf (Elt Ideal) ℓ) (g : Dev Cert.Branch0Ideal.nD → PrngReg), Pre_Branch0Ideal m →
    θ_run (Cert.Branch0Ideal.defs (F := Ideal)) (onTc (τ := Cert.Branch0Ideal.τ) (Cert.Branch0Ideal.main (F := Ideal))) ⟨m, fun _ => 0, g⟩ (fun r => (∀ c : Dev Cert.Branch0Ideal.nD,
      r.2.mem ((c.tc : Thread Cert.Branch0Ideal.nD Cert.Branch0Ideal.τ).loc Cert.Branch0Ideal.main_arg0) = m ((c.tc : Thread Cert.Branch0Ideal.nD Cert.Branch0Ideal.τ).loc Cert.Branch0Ideal.main_arg0)
      ∧ r.2.mem ((c.tc : Thread Cert.Branch0Ideal.nD Cert.Branch0Ideal.τ).loc Cert.Branch0Ideal.main_arg1) = m ((c.tc : Thread Cert.Branch0Ideal.nD Cert.Branch0Ideal.τ).loc Cert.Branch0Ideal.main_arg1))
      ∧ r.2.sem = fun _ => 0)

def quiescent_Branch0RefIdeal [hBranch0RefIdeal : Cert.Branch0RefIdeal.Facts] : Prop :=
  ∀ (m : (ℓ : Loc Cert.Branch0RefIdeal.nD Cert.Branch0RefIdeal.τ Cert.Branch0RefIdeal.sig) → Buf (Elt Ideal) ℓ) (g : Dev Cert.Branch0RefIdeal.nD → PrngReg), Pre_Branch0RefIdeal m →
    θ_run (Cert.Branch0RefIdeal.defs (F := Ideal)) (onTc (τ := Cert.Branch0RefIdeal.τ) (Cert.Branch0RefIdeal.main (F := Ideal))) ⟨m, fun _ => 0, g⟩ (fun r => (∀ c : Dev Cert.Branch0RefIdeal.nD,
      r.2.mem ((c.tc : Thread Cert.Branch0RefIdeal.nD Cert.Branch0RefIdeal.τ).loc Cert.Branch0RefIdeal.main_arg0) = m ((c.tc : Thread Cert.Branch0RefIdeal.nD Cert.Branch0RefIdeal.τ).loc Cert.Branch0RefIdeal.main_arg0)
      ∧ r.2.mem ((c.tc : Thread Cert.Branch0RefIdeal.nD Cert.Branch0RefIdeal.τ).loc Cert.Branch0RefIdeal.main_arg1) = m ((c.tc : Thread Cert.Branch0RefIdeal.nD Cert.Branch0RefIdeal.τ).loc Cert.Branch0RefIdeal.main_arg1))
      ∧ r.2.sem = fun _ => 0)

def quiescent_Branch1 [hBranch1 : Cert.Branch1.Facts] : Prop :=
  ∀ (m : (ℓ : Loc Cert.Branch1.nD Cert.Branch1.τ Cert.Branch1.sig) → Buf (Elt Bits) ℓ) (g : Dev Cert.Branch1.nD → PrngReg), Pre_Branch1 m →
    θ_run (Cert.Branch1.defs (F := Bits)) (onTc (τ := Cert.Branch1.τ) (Cert.Branch1.main (F := Bits))) ⟨m, fun _ => 0, g⟩ (fun r => (∀ c : Dev Cert.Branch1.nD,
      r.2.mem ((c.tc : Thread Cert.Branch1.nD Cert.Branch1.τ).loc Cert.Branch1.main_arg0) = m ((c.tc : Thread Cert.Branch1.nD Cert.Branch1.τ).loc Cert.Branch1.main_arg0)
      ∧ r.2.mem ((c.tc : Thread Cert.Branch1.nD Cert.Branch1.τ).loc Cert.Branch1.main_arg1) = m ((c.tc : Thread Cert.Branch1.nD Cert.Branch1.τ).loc Cert.Branch1.main_arg1))
      ∧ r.2.sem = fun _ => 0)

def quiescent_Branch1Ideal [hBranch1Ideal : Cert.Branch1Ideal.Facts] : Prop :=
  ∀ (m : (ℓ : Loc Cert.Branch1Ideal.nD Cert.Branch1Ideal.τ Cert.Branch1Ideal.sig) → Buf (Elt Ideal) ℓ) (g : Dev Cert.Branch1Ideal.nD → PrngReg), Pre_Branch1Ideal m →
    θ_run (Cert.Branch1Ideal.defs (F := Ideal)) (onTc (τ := Cert.Branch1Ideal.τ) (Cert.Branch1Ideal.main (F := Ideal))) ⟨m, fun _ => 0, g⟩ (fun r => (∀ c : Dev Cert.Branch1Ideal.nD,
      r.2.mem ((c.tc : Thread Cert.Branch1Ideal.nD Cert.Branch1Ideal.τ).loc Cert.Branch1Ideal.main_arg0) = m ((c.tc : Thread Cert.Branch1Ideal.nD Cert.Branch1Ideal.τ).loc Cert.Branch1Ideal.main_arg0)
      ∧ r.2.mem ((c.tc : Thread Cert.Branch1Ideal.nD Cert.Branch1Ideal.τ).loc Cert.Branch1Ideal.main_arg1) = m ((c.tc : Thread Cert.Branch1Ideal.nD Cert.Branch1Ideal.τ).loc Cert.Branch1Ideal.main_arg1))
      ∧ r.2.sem = fun _ => 0)

def quiescent_Branch1RefIdeal [hBranch1RefIdeal : Cert.Branch1RefIdeal.Facts] : Prop :=
  ∀ (m : (ℓ : Loc Cert.Branch1RefIdeal.nD Cert.Branch1RefIdeal.τ Cert.Branch1RefIdeal.sig) → Buf (Elt Ideal) ℓ) (g : Dev Cert.Branch1RefIdeal.nD → PrngReg), Pre_Branch1RefIdeal m →
    θ_run (Cert.Branch1RefIdeal.defs (F := Ideal)) (onTc (τ := Cert.Branch1RefIdeal.τ) (Cert.Branch1RefIdeal.main (F := Ideal))) ⟨m, fun _ => 0, g⟩ (fun r => (∀ c : Dev Cert.Branch1RefIdeal.nD,
      r.2.mem ((c.tc : Thread Cert.Branch1RefIdeal.nD Cert.Branch1RefIdeal.τ).loc Cert.Branch1RefIdeal.main_arg0) = m ((c.tc : Thread Cert.Branch1RefIdeal.nD Cert.Branch1RefIdeal.τ).loc Cert.Branch1RefIdeal.main_arg0)
      ∧ r.2.mem ((c.tc : Thread Cert.Branch1RefIdeal.nD Cert.Branch1RefIdeal.τ).loc Cert.Branch1RefIdeal.main_arg1) = m ((c.tc : Thread Cert.Branch1RefIdeal.nD Cert.Branch1RefIdeal.τ).loc Cert.Branch1RefIdeal.main_arg1))
      ∧ r.2.sem = fun _ => 0)

def quiescent_Branch2 [hBranch2 : Cert.Branch2.Facts] : Prop :=
  ∀ (m : (ℓ : Loc Cert.Branch2.nD Cert.Branch2.τ Cert.Branch2.sig) → Buf (Elt Bits) ℓ) (g : Dev Cert.Branch2.nD → PrngReg), Pre_Branch2 m →
    θ_run (Cert.Branch2.defs (F := Bits)) (onTc (τ := Cert.Branch2.τ) (Cert.Branch2.main (F := Bits))) ⟨m, fun _ => 0, g⟩ (fun r => (∀ c : Dev Cert.Branch2.nD,
      r.2.mem ((c.tc : Thread Cert.Branch2.nD Cert.Branch2.τ).loc Cert.Branch2.main_arg0) = m ((c.tc : Thread Cert.Branch2.nD Cert.Branch2.τ).loc Cert.Branch2.main_arg0)
      ∧ r.2.mem ((c.tc : Thread Cert.Branch2.nD Cert.Branch2.τ).loc Cert.Branch2.main_arg1) = m ((c.tc : Thread Cert.Branch2.nD Cert.Branch2.τ).loc Cert.Branch2.main_arg1))
      ∧ r.2.sem = fun _ => 0)

def quiescent_Branch2Ideal [hBranch2Ideal : Cert.Branch2Ideal.Facts] : Prop :=
  ∀ (m : (ℓ : Loc Cert.Branch2Ideal.nD Cert.Branch2Ideal.τ Cert.Branch2Ideal.sig) → Buf (Elt Ideal) ℓ) (g : Dev Cert.Branch2Ideal.nD → PrngReg), Pre_Branch2Ideal m →
    θ_run (Cert.Branch2Ideal.defs (F := Ideal)) (onTc (τ := Cert.Branch2Ideal.τ) (Cert.Branch2Ideal.main (F := Ideal))) ⟨m, fun _ => 0, g⟩ (fun r => (∀ c : Dev Cert.Branch2Ideal.nD,
      r.2.mem ((c.tc : Thread Cert.Branch2Ideal.nD Cert.Branch2Ideal.τ).loc Cert.Branch2Ideal.main_arg0) = m ((c.tc : Thread Cert.Branch2Ideal.nD Cert.Branch2Ideal.τ).loc Cert.Branch2Ideal.main_arg0)
      ∧ r.2.mem ((c.tc : Thread Cert.Branch2Ideal.nD Cert.Branch2Ideal.τ).loc Cert.Branch2Ideal.main_arg1) = m ((c.tc : Thread Cert.Branch2Ideal.nD Cert.Branch2Ideal.τ).loc Cert.Branch2Ideal.main_arg1))
      ∧ r.2.sem = fun _ => 0)

def quiescent_Branch2RefIdeal [hBranch2RefIdeal : Cert.Branch2RefIdeal.Facts] : Prop :=
  ∀ (m : (ℓ : Loc Cert.Branch2RefIdeal.nD Cert.Branch2RefIdeal.τ Cert.Branch2RefIdeal.sig) → Buf (Elt Ideal) ℓ) (g : Dev Cert.Branch2RefIdeal.nD → PrngReg), Pre_Branch2RefIdeal m →
    θ_run (Cert.Branch2RefIdeal.defs (F := Ideal)) (onTc (τ := Cert.Branch2RefIdeal.τ) (Cert.Branch2RefIdeal.main (F := Ideal))) ⟨m, fun _ => 0, g⟩ (fun r => (∀ c : Dev Cert.Branch2RefIdeal.nD,
      r.2.mem ((c.tc : Thread Cert.Branch2RefIdeal.nD Cert.Branch2RefIdeal.τ).loc Cert.Branch2RefIdeal.main_arg0) = m ((c.tc : Thread Cert.Branch2RefIdeal.nD Cert.Branch2RefIdeal.τ).loc Cert.Branch2RefIdeal.main_arg0)
      ∧ r.2.mem ((c.tc : Thread Cert.Branch2RefIdeal.nD Cert.Branch2RefIdeal.τ).loc Cert.Branch2RefIdeal.main_arg1) = m ((c.tc : Thread Cert.Branch2RefIdeal.nD Cert.Branch2RefIdeal.τ).loc Cert.Branch2RefIdeal.main_arg1))
      ∧ r.2.sem = fun _ => 0)

def quiescent_DwBranch0 [hDwBranch0 : Cert.DwBranch0.Facts] : Prop :=
  ∀ (m : (ℓ : Loc Cert.DwBranch0.nD Cert.DwBranch0.τ Cert.DwBranch0.sig) → Buf (Elt Bits) ℓ) (g : Dev Cert.DwBranch0.nD → PrngReg), Pre_DwBranch0 m →
    θ_run (Cert.DwBranch0.defs (F := Bits)) (onTc (τ := Cert.DwBranch0.τ) (Cert.DwBranch0.main (F := Bits))) ⟨m, fun _ => 0, g⟩ (fun r => (∀ c : Dev Cert.DwBranch0.nD,
      r.2.mem ((c.tc : Thread Cert.DwBranch0.nD Cert.DwBranch0.τ).loc Cert.DwBranch0.main_arg0) = m ((c.tc : Thread Cert.DwBranch0.nD Cert.DwBranch0.τ).loc Cert.DwBranch0.main_arg0)
      ∧ r.2.mem ((c.tc : Thread Cert.DwBranch0.nD Cert.DwBranch0.τ).loc Cert.DwBranch0.main_arg1) = m ((c.tc : Thread Cert.DwBranch0.nD Cert.DwBranch0.τ).loc Cert.DwBranch0.main_arg1))
      ∧ r.2.sem = fun _ => 0)

def quiescent_DwBranch0Ideal [hDwBranch0Ideal : Cert.DwBranch0Ideal.Facts] : Prop :=
  ∀ (m : (ℓ : Loc Cert.DwBranch0Ideal.nD Cert.DwBranch0Ideal.τ Cert.DwBranch0Ideal.sig) → Buf (Elt Ideal) ℓ) (g : Dev Cert.DwBranch0Ideal.nD → PrngReg), Pre_DwBranch0Ideal m →
    θ_run (Cert.DwBranch0Ideal.defs (F := Ideal)) (onTc (τ := Cert.DwBranch0Ideal.τ) (Cert.DwBranch0Ideal.main (F := Ideal))) ⟨m, fun _ => 0, g⟩ (fun r => (∀ c : Dev Cert.DwBranch0Ideal.nD,
      r.2.mem ((c.tc : Thread Cert.DwBranch0Ideal.nD Cert.DwBranch0Ideal.τ).loc Cert.DwBranch0Ideal.main_arg0) = m ((c.tc : Thread Cert.DwBranch0Ideal.nD Cert.DwBranch0Ideal.τ).loc Cert.DwBranch0Ideal.main_arg0)
      ∧ r.2.mem ((c.tc : Thread Cert.DwBranch0Ideal.nD Cert.DwBranch0Ideal.τ).loc Cert.DwBranch0Ideal.main_arg1) = m ((c.tc : Thread Cert.DwBranch0Ideal.nD Cert.DwBranch0Ideal.τ).loc Cert.DwBranch0Ideal.main_arg1))
      ∧ r.2.sem = fun _ => 0)

def quiescent_DwBranch0RefIdeal [hDwBranch0RefIdeal : Cert.DwBranch0RefIdeal.Facts] : Prop :=
  ∀ (m : (ℓ : Loc Cert.DwBranch0RefIdeal.nD Cert.DwBranch0RefIdeal.τ Cert.DwBranch0RefIdeal.sig) → Buf (Elt Ideal) ℓ) (g : Dev Cert.DwBranch0RefIdeal.nD → PrngReg), Pre_DwBranch0RefIdeal m →
    θ_run (Cert.DwBranch0RefIdeal.defs (F := Ideal)) (onTc (τ := Cert.DwBranch0RefIdeal.τ) (Cert.DwBranch0RefIdeal.main (F := Ideal))) ⟨m, fun _ => 0, g⟩ (fun r => (∀ c : Dev Cert.DwBranch0RefIdeal.nD,
      r.2.mem ((c.tc : Thread Cert.DwBranch0RefIdeal.nD Cert.DwBranch0RefIdeal.τ).loc Cert.DwBranch0RefIdeal.main_arg0) = m ((c.tc : Thread Cert.DwBranch0RefIdeal.nD Cert.DwBranch0RefIdeal.τ).loc Cert.DwBranch0RefIdeal.main_arg0)
      ∧ r.2.mem ((c.tc : Thread Cert.DwBranch0RefIdeal.nD Cert.DwBranch0RefIdeal.τ).loc Cert.DwBranch0RefIdeal.main_arg1) = m ((c.tc : Thread Cert.DwBranch0RefIdeal.nD Cert.DwBranch0RefIdeal.τ).loc Cert.DwBranch0RefIdeal.main_arg1))
      ∧ r.2.sem = fun _ => 0)

def quiescent_DwBranch1 [hDwBranch1 : Cert.DwBranch1.Facts] : Prop :=
  ∀ (m : (ℓ : Loc Cert.DwBranch1.nD Cert.DwBranch1.τ Cert.DwBranch1.sig) → Buf (Elt Bits) ℓ) (g : Dev Cert.DwBranch1.nD → PrngReg), Pre_DwBranch1 m →
    θ_run (Cert.DwBranch1.defs (F := Bits)) (onTc (τ := Cert.DwBranch1.τ) (Cert.DwBranch1.main (F := Bits))) ⟨m, fun _ => 0, g⟩ (fun r => (∀ c : Dev Cert.DwBranch1.nD,
      r.2.mem ((c.tc : Thread Cert.DwBranch1.nD Cert.DwBranch1.τ).loc Cert.DwBranch1.main_arg0) = m ((c.tc : Thread Cert.DwBranch1.nD Cert.DwBranch1.τ).loc Cert.DwBranch1.main_arg0)
      ∧ r.2.mem ((c.tc : Thread Cert.DwBranch1.nD Cert.DwBranch1.τ).loc Cert.DwBranch1.main_arg1) = m ((c.tc : Thread Cert.DwBranch1.nD Cert.DwBranch1.τ).loc Cert.DwBranch1.main_arg1))
      ∧ r.2.sem = fun _ => 0)

def quiescent_DwBranch1Ideal [hDwBranch1Ideal : Cert.DwBranch1Ideal.Facts] : Prop :=
  ∀ (m : (ℓ : Loc Cert.DwBranch1Ideal.nD Cert.DwBranch1Ideal.τ Cert.DwBranch1Ideal.sig) → Buf (Elt Ideal) ℓ) (g : Dev Cert.DwBranch1Ideal.nD → PrngReg), Pre_DwBranch1Ideal m →
    θ_run (Cert.DwBranch1Ideal.defs (F := Ideal)) (onTc (τ := Cert.DwBranch1Ideal.τ) (Cert.DwBranch1Ideal.main (F := Ideal))) ⟨m, fun _ => 0, g⟩ (fun r => (∀ c : Dev Cert.DwBranch1Ideal.nD,
      r.2.mem ((c.tc : Thread Cert.DwBranch1Ideal.nD Cert.DwBranch1Ideal.τ).loc Cert.DwBranch1Ideal.main_arg0) = m ((c.tc : Thread Cert.DwBranch1Ideal.nD Cert.DwBranch1Ideal.τ).loc Cert.DwBranch1Ideal.main_arg0)
      ∧ r.2.mem ((c.tc : Thread Cert.DwBranch1Ideal.nD Cert.DwBranch1Ideal.τ).loc Cert.DwBranch1Ideal.main_arg1) = m ((c.tc : Thread Cert.DwBranch1Ideal.nD Cert.DwBranch1Ideal.τ).loc Cert.DwBranch1Ideal.main_arg1))
      ∧ r.2.sem = fun _ => 0)

def quiescent_DwBranch1RefIdeal [hDwBranch1RefIdeal : Cert.DwBranch1RefIdeal.Facts] : Prop :=
  ∀ (m : (ℓ : Loc Cert.DwBranch1RefIdeal.nD Cert.DwBranch1RefIdeal.τ Cert.DwBranch1RefIdeal.sig) → Buf (Elt Ideal) ℓ) (g : Dev Cert.DwBranch1RefIdeal.nD → PrngReg), Pre_DwBranch1RefIdeal m →
    θ_run (Cert.DwBranch1RefIdeal.defs (F := Ideal)) (onTc (τ := Cert.DwBranch1RefIdeal.τ) (Cert.DwBranch1RefIdeal.main (F := Ideal))) ⟨m, fun _ => 0, g⟩ (fun r => (∀ c : Dev Cert.DwBranch1RefIdeal.nD,
      r.2.mem ((c.tc : Thread Cert.DwBranch1RefIdeal.nD Cert.DwBranch1RefIdeal.τ).loc Cert.DwBranch1RefIdeal.main_arg0) = m ((c.tc : Thread Cert.DwBranch1RefIdeal.nD Cert.DwBranch1RefIdeal.τ).loc Cert.DwBranch1RefIdeal.main_arg0)
      ∧ r.2.mem ((c.tc : Thread Cert.DwBranch1RefIdeal.nD Cert.DwBranch1RefIdeal.τ).loc Cert.DwBranch1RefIdeal.main_arg1) = m ((c.tc : Thread Cert.DwBranch1RefIdeal.nD Cert.DwBranch1RefIdeal.τ).loc Cert.DwBranch1RefIdeal.main_arg1))
      ∧ r.2.sem = fun _ => 0)

def quiescent_DwBranch2 [hDwBranch2 : Cert.DwBranch2.Facts] : Prop :=
  ∀ (m : (ℓ : Loc Cert.DwBranch2.nD Cert.DwBranch2.τ Cert.DwBranch2.sig) → Buf (Elt Bits) ℓ) (g : Dev Cert.DwBranch2.nD → PrngReg), Pre_DwBranch2 m →
    θ_run (Cert.DwBranch2.defs (F := Bits)) (onTc (τ := Cert.DwBranch2.τ) (Cert.DwBranch2.main (F := Bits))) ⟨m, fun _ => 0, g⟩ (fun r => (∀ c : Dev Cert.DwBranch2.nD,
      r.2.mem ((c.tc : Thread Cert.DwBranch2.nD Cert.DwBranch2.τ).loc Cert.DwBranch2.main_arg0) = m ((c.tc : Thread Cert.DwBranch2.nD Cert.DwBranch2.τ).loc Cert.DwBranch2.main_arg0)
      ∧ r.2.mem ((c.tc : Thread Cert.DwBranch2.nD Cert.DwBranch2.τ).loc Cert.DwBranch2.main_arg1) = m ((c.tc : Thread Cert.DwBranch2.nD Cert.DwBranch2.τ).loc Cert.DwBranch2.main_arg1))
      ∧ r.2.sem = fun _ => 0)

def quiescent_DwBranch2Ideal [hDwBranch2Ideal : Cert.DwBranch2Ideal.Facts] : Prop :=
  ∀ (m : (ℓ : Loc Cert.DwBranch2Ideal.nD Cert.DwBranch2Ideal.τ Cert.DwBranch2Ideal.sig) → Buf (Elt Ideal) ℓ) (g : Dev Cert.DwBranch2Ideal.nD → PrngReg), Pre_DwBranch2Ideal m →
    θ_run (Cert.DwBranch2Ideal.defs (F := Ideal)) (onTc (τ := Cert.DwBranch2Ideal.τ) (Cert.DwBranch2Ideal.main (F := Ideal))) ⟨m, fun _ => 0, g⟩ (fun r => (∀ c : Dev Cert.DwBranch2Ideal.nD,
      r.2.mem ((c.tc : Thread Cert.DwBranch2Ideal.nD Cert.DwBranch2Ideal.τ).loc Cert.DwBranch2Ideal.main_arg0) = m ((c.tc : Thread Cert.DwBranch2Ideal.nD Cert.DwBranch2Ideal.τ).loc Cert.DwBranch2Ideal.main_arg0)
      ∧ r.2.mem ((c.tc : Thread Cert.DwBranch2Ideal.nD Cert.DwBranch2Ideal.τ).loc Cert.DwBranch2Ideal.main_arg1) = m ((c.tc : Thread Cert.DwBranch2Ideal.nD Cert.DwBranch2Ideal.τ).loc Cert.DwBranch2Ideal.main_arg1))
      ∧ r.2.sem = fun _ => 0)

def quiescent_DwBranch2RefIdeal [hDwBranch2RefIdeal : Cert.DwBranch2RefIdeal.Facts] : Prop :=
  ∀ (m : (ℓ : Loc Cert.DwBranch2RefIdeal.nD Cert.DwBranch2RefIdeal.τ Cert.DwBranch2RefIdeal.sig) → Buf (Elt Ideal) ℓ) (g : Dev Cert.DwBranch2RefIdeal.nD → PrngReg), Pre_DwBranch2RefIdeal m →
    θ_run (Cert.DwBranch2RefIdeal.defs (F := Ideal)) (onTc (τ := Cert.DwBranch2RefIdeal.τ) (Cert.DwBranch2RefIdeal.main (F := Ideal))) ⟨m, fun _ => 0, g⟩ (fun r => (∀ c : Dev Cert.DwBranch2RefIdeal.nD,
      r.2.mem ((c.tc : Thread Cert.DwBranch2RefIdeal.nD Cert.DwBranch2RefIdeal.τ).loc Cert.DwBranch2RefIdeal.main_arg0) = m ((c.tc : Thread Cert.DwBranch2RefIdeal.nD Cert.DwBranch2RefIdeal.τ).loc Cert.DwBranch2RefIdeal.main_arg0)
      ∧ r.2.mem ((c.tc : Thread Cert.DwBranch2RefIdeal.nD Cert.DwBranch2RefIdeal.τ).loc Cert.DwBranch2RefIdeal.main_arg1) = m ((c.tc : Thread Cert.DwBranch2RefIdeal.nD Cert.DwBranch2RefIdeal.τ).loc Cert.DwBranch2RefIdeal.main_arg1))
      ∧ r.2.sem = fun _ => 0)

def quiescent_DoBranch0 [hDoBranch0 : Cert.DoBranch0.Facts] : Prop :=
  ∀ (m : (ℓ : Loc Cert.DoBranch0.nD Cert.DoBranch0.τ Cert.DoBranch0.sig) → Buf (Elt Bits) ℓ) (g : Dev Cert.DoBranch0.nD → PrngReg), Pre_DoBranch0 m →
    θ_run (Cert.DoBranch0.defs (F := Bits)) (onTc (τ := Cert.DoBranch0.τ) (Cert.DoBranch0.main (F := Bits))) ⟨m, fun _ => 0, g⟩ (fun r => (∀ c : Dev Cert.DoBranch0.nD,
      r.2.mem ((c.tc : Thread Cert.DoBranch0.nD Cert.DoBranch0.τ).loc Cert.DoBranch0.main_arg0) = m ((c.tc : Thread Cert.DoBranch0.nD Cert.DoBranch0.τ).loc Cert.DoBranch0.main_arg0)
      ∧ r.2.mem ((c.tc : Thread Cert.DoBranch0.nD Cert.DoBranch0.τ).loc Cert.DoBranch0.main_arg1) = m ((c.tc : Thread Cert.DoBranch0.nD Cert.DoBranch0.τ).loc Cert.DoBranch0.main_arg1))
      ∧ r.2.sem = fun _ => 0)

def quiescent_DoBranch0Ideal [hDoBranch0Ideal : Cert.DoBranch0Ideal.Facts] : Prop :=
  ∀ (m : (ℓ : Loc Cert.DoBranch0Ideal.nD Cert.DoBranch0Ideal.τ Cert.DoBranch0Ideal.sig) → Buf (Elt Ideal) ℓ) (g : Dev Cert.DoBranch0Ideal.nD → PrngReg), Pre_DoBranch0Ideal m →
    θ_run (Cert.DoBranch0Ideal.defs (F := Ideal)) (onTc (τ := Cert.DoBranch0Ideal.τ) (Cert.DoBranch0Ideal.main (F := Ideal))) ⟨m, fun _ => 0, g⟩ (fun r => (∀ c : Dev Cert.DoBranch0Ideal.nD,
      r.2.mem ((c.tc : Thread Cert.DoBranch0Ideal.nD Cert.DoBranch0Ideal.τ).loc Cert.DoBranch0Ideal.main_arg0) = m ((c.tc : Thread Cert.DoBranch0Ideal.nD Cert.DoBranch0Ideal.τ).loc Cert.DoBranch0Ideal.main_arg0)
      ∧ r.2.mem ((c.tc : Thread Cert.DoBranch0Ideal.nD Cert.DoBranch0Ideal.τ).loc Cert.DoBranch0Ideal.main_arg1) = m ((c.tc : Thread Cert.DoBranch0Ideal.nD Cert.DoBranch0Ideal.τ).loc Cert.DoBranch0Ideal.main_arg1))
      ∧ r.2.sem = fun _ => 0)

def quiescent_DoBranch0RefIdeal [hDoBranch0RefIdeal : Cert.DoBranch0RefIdeal.Facts] : Prop :=
  ∀ (m : (ℓ : Loc Cert.DoBranch0RefIdeal.nD Cert.DoBranch0RefIdeal.τ Cert.DoBranch0RefIdeal.sig) → Buf (Elt Ideal) ℓ) (g : Dev Cert.DoBranch0RefIdeal.nD → PrngReg), Pre_DoBranch0RefIdeal m →
    θ_run (Cert.DoBranch0RefIdeal.defs (F := Ideal)) (onTc (τ := Cert.DoBranch0RefIdeal.τ) (Cert.DoBranch0RefIdeal.main (F := Ideal))) ⟨m, fun _ => 0, g⟩ (fun r => (∀ c : Dev Cert.DoBranch0RefIdeal.nD,
      r.2.mem ((c.tc : Thread Cert.DoBranch0RefIdeal.nD Cert.DoBranch0RefIdeal.τ).loc Cert.DoBranch0RefIdeal.main_arg0) = m ((c.tc : Thread Cert.DoBranch0RefIdeal.nD Cert.DoBranch0RefIdeal.τ).loc Cert.DoBranch0RefIdeal.main_arg0)
      ∧ r.2.mem ((c.tc : Thread Cert.DoBranch0RefIdeal.nD Cert.DoBranch0RefIdeal.τ).loc Cert.DoBranch0RefIdeal.main_arg1) = m ((c.tc : Thread Cert.DoBranch0RefIdeal.nD Cert.DoBranch0RefIdeal.τ).loc Cert.DoBranch0RefIdeal.main_arg1))
      ∧ r.2.sem = fun _ => 0)

def quiescent_DoBranch2 [hDoBranch2 : Cert.DoBranch2.Facts] : Prop :=
  ∀ (m : (ℓ : Loc Cert.DoBranch2.nD Cert.DoBranch2.τ Cert.DoBranch2.sig) → Buf (Elt Bits) ℓ) (g : Dev Cert.DoBranch2.nD → PrngReg), Pre_DoBranch2 m →
    θ_run (Cert.DoBranch2.defs (F := Bits)) (onTc (τ := Cert.DoBranch2.τ) (Cert.DoBranch2.main (F := Bits))) ⟨m, fun _ => 0, g⟩ (fun r => (∀ c : Dev Cert.DoBranch2.nD,
      r.2.mem ((c.tc : Thread Cert.DoBranch2.nD Cert.DoBranch2.τ).loc Cert.DoBranch2.main_arg0) = m ((c.tc : Thread Cert.DoBranch2.nD Cert.DoBranch2.τ).loc Cert.DoBranch2.main_arg0)
      ∧ r.2.mem ((c.tc : Thread Cert.DoBranch2.nD Cert.DoBranch2.τ).loc Cert.DoBranch2.main_arg1) = m ((c.tc : Thread Cert.DoBranch2.nD Cert.DoBranch2.τ).loc Cert.DoBranch2.main_arg1))
      ∧ r.2.sem = fun _ => 0)

def quiescent_DoBranch2Ideal [hDoBranch2Ideal : Cert.DoBranch2Ideal.Facts] : Prop :=
  ∀ (m : (ℓ : Loc Cert.DoBranch2Ideal.nD Cert.DoBranch2Ideal.τ Cert.DoBranch2Ideal.sig) → Buf (Elt Ideal) ℓ) (g : Dev Cert.DoBranch2Ideal.nD → PrngReg), Pre_DoBranch2Ideal m →
    θ_run (Cert.DoBranch2Ideal.defs (F := Ideal)) (onTc (τ := Cert.DoBranch2Ideal.τ) (Cert.DoBranch2Ideal.main (F := Ideal))) ⟨m, fun _ => 0, g⟩ (fun r => (∀ c : Dev Cert.DoBranch2Ideal.nD,
      r.2.mem ((c.tc : Thread Cert.DoBranch2Ideal.nD Cert.DoBranch2Ideal.τ).loc Cert.DoBranch2Ideal.main_arg0) = m ((c.tc : Thread Cert.DoBranch2Ideal.nD Cert.DoBranch2Ideal.τ).loc Cert.DoBranch2Ideal.main_arg0)
      ∧ r.2.mem ((c.tc : Thread Cert.DoBranch2Ideal.nD Cert.DoBranch2Ideal.τ).loc Cert.DoBranch2Ideal.main_arg1) = m ((c.tc : Thread Cert.DoBranch2Ideal.nD Cert.DoBranch2Ideal.τ).loc Cert.DoBranch2Ideal.main_arg1))
      ∧ r.2.sem = fun _ => 0)

def quiescent_DoBranch2RefIdeal [hDoBranch2RefIdeal : Cert.DoBranch2RefIdeal.Facts] : Prop :=
  ∀ (m : (ℓ : Loc Cert.DoBranch2RefIdeal.nD Cert.DoBranch2RefIdeal.τ Cert.DoBranch2RefIdeal.sig) → Buf (Elt Ideal) ℓ) (g : Dev Cert.DoBranch2RefIdeal.nD → PrngReg), Pre_DoBranch2RefIdeal m →
    θ_run (Cert.DoBranch2RefIdeal.defs (F := Ideal)) (onTc (τ := Cert.DoBranch2RefIdeal.τ) (Cert.DoBranch2RefIdeal.main (F := Ideal))) ⟨m, fun _ => 0, g⟩ (fun r => (∀ c : Dev Cert.DoBranch2RefIdeal.nD,
      r.2.mem ((c.tc : Thread Cert.DoBranch2RefIdeal.nD Cert.DoBranch2RefIdeal.τ).loc Cert.DoBranch2RefIdeal.main_arg0) = m ((c.tc : Thread Cert.DoBranch2RefIdeal.nD Cert.DoBranch2RefIdeal.τ).loc Cert.DoBranch2RefIdeal.main_arg0)
      ∧ r.2.mem ((c.tc : Thread Cert.DoBranch2RefIdeal.nD Cert.DoBranch2RefIdeal.τ).loc Cert.DoBranch2RefIdeal.main_arg1) = m ((c.tc : Thread Cert.DoBranch2RefIdeal.nD Cert.DoBranch2RefIdeal.τ).loc Cert.DoBranch2RefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_conv_finite [hConvBwdRefIdeal : Cert.ConvBwdRefIdeal.Facts] [hPre_conv_finite : Cert.Pre_conv_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_norm_finite [hNormBwdIdeal : Cert.NormBwdIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_norm_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_NormBwdRefIdeal_pre_norm_finite [hNormBwdRefIdeal : Cert.NormBwdRefIdeal.Facts] [hPre_norm_finite : Cert.Pre_norm_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_norm_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_CombBwd [hCombBwd : Cert.CombBwd.Facts] : Prop :=
  ∀ (m : (ℓ : Loc Cert.CombBwd.nD Cert.CombBwd.τ Cert.CombBwd.sig) → Buf (Elt Bits) ℓ) (g : Dev Cert.CombBwd.nD → PrngReg), Pre_CombBwd m →
    θ_run (Cert.CombBwd.defs (F := Bits)) (onTc (τ := Cert.CombBwd.τ) (Cert.CombBwd.main (F := Bits))) ⟨m, fun _ => 0, g⟩ (fun r => (∀ c : Dev Cert.CombBwd.nD,
      r.2.mem ((c.tc : Thread Cert.CombBwd.nD Cert.CombBwd.τ).loc Cert.CombBwd.main_arg0) = m ((c.tc : Thread Cert.CombBwd.nD Cert.CombBwd.τ).loc Cert.CombBwd.main_arg0)
      ∧ r.2.mem ((c.tc : Thread Cert.CombBwd.nD Cert.CombBwd.τ).loc Cert.CombBwd.main_arg1) = m ((c.tc : Thread Cert.CombBwd.nD Cert.CombBwd.τ).loc Cert.CombBwd.main_arg1)
      ∧ r.2.mem ((c.tc : Thread Cert.CombBwd.nD Cert.CombBwd.τ).loc Cert.CombBwd.main_arg2) = m ((c.tc : Thread Cert.CombBwd.nD Cert.CombBwd.τ).loc Cert.CombBwd.main_arg2)
      ∧ r.2.mem ((c.tc : Thread Cert.CombBwd.nD Cert.CombBwd.τ).loc Cert.CombBwd.main_arg3) = m ((c.tc : Thread Cert.CombBwd.nD Cert.CombBwd.τ).loc Cert.CombBwd.main_arg3)
      ∧ r.2.mem ((c.tc : Thread Cert.CombBwd.nD Cert.CombBwd.τ).loc Cert.CombBwd.main_arg4) = m ((c.tc : Thread Cert.CombBwd.nD Cert.CombBwd.τ).loc Cert.CombBwd.main_arg4)
      ∧ r.2.mem ((c.tc : Thread Cert.CombBwd.nD Cert.CombBwd.τ).loc Cert.CombBwd.main_arg5) = m ((c.tc : Thread Cert.CombBwd.nD Cert.CombBwd.τ).loc Cert.CombBwd.main_arg5)
      ∧ r.2.mem ((c.tc : Thread Cert.CombBwd.nD Cert.CombBwd.τ).loc Cert.CombBwd.main_arg6) = m ((c.tc : Thread Cert.CombBwd.nD Cert.CombBwd.τ).loc Cert.CombBwd.main_arg6))
      ∧ r.2.sem = fun _ => 0)

def quiescent_CombBwdIdeal [hCombBwdIdeal : Cert.CombBwdIdeal.Facts] : Prop :=
  ∀ (m : (ℓ : Loc Cert.CombBwdIdeal.nD Cert.CombBwdIdeal.τ Cert.CombBwdIdeal.sig) → Buf (Elt Ideal) ℓ) (g : Dev Cert.CombBwdIdeal.nD → PrngReg), Pre_CombBwdIdeal m →
    θ_run (Cert.CombBwdIdeal.defs (F := Ideal)) (onTc (τ := Cert.CombBwdIdeal.τ) (Cert.CombBwdIdeal.main (F := Ideal))) ⟨m, fun _ => 0, g⟩ (fun r => (∀ c : Dev Cert.CombBwdIdeal.nD,
      r.2.mem ((c.tc : Thread Cert.CombBwdIdeal.nD Cert.CombBwdIdeal.τ).loc Cert.CombBwdIdeal.main_arg0) = m ((c.tc : Thread Cert.CombBwdIdeal.nD Cert.CombBwdIdeal.τ).loc Cert.CombBwdIdeal.main_arg0)
      ∧ r.2.mem ((c.tc : Thread Cert.CombBwdIdeal.nD Cert.CombBwdIdeal.τ).loc Cert.CombBwdIdeal.main_arg1) = m ((c.tc : Thread Cert.CombBwdIdeal.nD Cert.CombBwdIdeal.τ).loc Cert.CombBwdIdeal.main_arg1)
      ∧ r.2.mem ((c.tc : Thread Cert.CombBwdIdeal.nD Cert.CombBwdIdeal.τ).loc Cert.CombBwdIdeal.main_arg2) = m ((c.tc : Thread Cert.CombBwdIdeal.nD Cert.CombBwdIdeal.τ).loc Cert.CombBwdIdeal.main_arg2)
      ∧ r.2.mem ((c.tc : Thread Cert.CombBwdIdeal.nD Cert.CombBwdIdeal.τ).loc Cert.CombBwdIdeal.main_arg3) = m ((c.tc : Thread Cert.CombBwdIdeal.nD Cert.CombBwdIdeal.τ).loc Cert.CombBwdIdeal.main_arg3)
      ∧ r.2.mem ((c.tc : Thread Cert.CombBwdIdeal.nD Cert.CombBwdIdeal.τ).loc Cert.CombBwdIdeal.main_arg4) = m ((c.tc : Thread Cert.CombBwdIdeal.nD Cert.CombBwdIdeal.τ).loc Cert.CombBwdIdeal.main_arg4)
      ∧ r.2.mem ((c.tc : Thread Cert.CombBwdIdeal.nD Cert.CombBwdIdeal.τ).loc Cert.CombBwdIdeal.main_arg5) = m ((c.tc : Thread Cert.CombBwdIdeal.nD Cert.CombBwdIdeal.τ).loc Cert.CombBwdIdeal.main_arg5)
      ∧ r.2.mem ((c.tc : Thread Cert.CombBwdIdeal.nD Cert.CombBwdIdeal.τ).loc Cert.CombBwdIdeal.main_arg6) = m ((c.tc : Thread Cert.CombBwdIdeal.nD Cert.CombBwdIdeal.τ).loc Cert.CombBwdIdeal.main_arg6))
      ∧ r.2.sem = fun _ => 0)

def quiescent_CombBwdIdeal_pre_combine_bwd_finite [hCombBwdIdeal : Cert.CombBwdIdeal.Facts] [hPre_combine_bwd_finite : Cert.Pre_combine_bwd_finite.Facts] : Prop :=
  ∀ (m : (ℓ : Loc Cert.CombBwdIdeal.nD Cert.CombBwdIdeal.τ Cert.CombBwdIdeal.sig) → Buf (Elt Ideal) ℓ) (g : Dev Cert.CombBwdIdeal.nD → PrngReg), Pre_CombBwdIdeal_combine_bwd_finite m →
    θ_run (Cert.CombBwdIdeal.defs (F := Ideal)) (onTc (τ := Cert.CombBwdIdeal.τ) (Cert.CombBwdIdeal.main (F := Ideal))) ⟨m, fun _ => 0, g⟩ (fun r => (∀ c : Dev Cert.CombBwdIdeal.nD,
      r.2.mem ((c.tc : Thread Cert.CombBwdIdeal.nD Cert.CombBwdIdeal.τ).loc Cert.CombBwdIdeal.main_arg0) = m ((c.tc : Thread Cert.CombBwdIdeal.nD Cert.CombBwdIdeal.τ).loc Cert.CombBwdIdeal.main_arg0)
      ∧ r.2.mem ((c.tc : Thread Cert.CombBwdIdeal.nD Cert.CombBwdIdeal.τ).loc Cert.CombBwdIdeal.main_arg1) = m ((c.tc : Thread Cert.CombBwdIdeal.nD Cert.CombBwdIdeal.τ).loc Cert.CombBwdIdeal.main_arg1)
      ∧ r.2.mem ((c.tc : Thread Cert.CombBwdIdeal.nD Cert.CombBwdIdeal.τ).loc Cert.CombBwdIdeal.main_arg2) = m ((c.tc : Thread Cert.CombBwdIdeal.nD Cert.CombBwdIdeal.τ).loc Cert.CombBwdIdeal.main_arg2)
      ∧ r.2.mem ((c.tc : Thread Cert.CombBwdIdeal.nD Cert.CombBwdIdeal.τ).loc Cert.CombBwdIdeal.main_arg3) = m ((c.tc : Thread Cert.CombBwdIdeal.nD Cert.CombBwdIdeal.τ).loc Cert.CombBwdIdeal.main_arg3)
      ∧ r.2.mem ((c.tc : Thread Cert.CombBwdIdeal.nD Cert.CombBwdIdeal.τ).loc Cert.CombBwdIdeal.main_arg4) = m ((c.tc : Thread Cert.CombBwdIdeal.nD Cert.CombBwdIdeal.τ).loc Cert.CombBwdIdeal.main_arg4)
      ∧ r.2.mem ((c.tc : Thread Cert.CombBwdIdeal.nD Cert.CombBwdIdeal.τ).loc Cert.CombBwdIdeal.main_arg5) = m ((c.tc : Thread Cert.CombBwdIdeal.nD Cert.CombBwdIdeal.τ).loc Cert.CombBwdIdeal.main_arg5)
      ∧ r.2.mem ((c.tc : Thread Cert.CombBwdIdeal.nD Cert.CombBwdIdeal.τ).loc Cert.CombBwdIdeal.main_arg6) = m ((c.tc : Thread Cert.CombBwdIdeal.nD Cert.CombBwdIdeal.τ).loc Cert.CombBwdIdeal.main_arg6))
      ∧ r.2.sem = fun _ => 0)

def quiescent_CombBwdRefIdeal [hCombBwdRefIdeal : Cert.CombBwdRefIdeal.Facts] : Prop :=
  ∀ (m : (ℓ : Loc Cert.CombBwdRefIdeal.nD Cert.CombBwdRefIdeal.τ Cert.CombBwdRefIdeal.sig) → Buf (Elt Ideal) ℓ) (g : Dev Cert.CombBwdRefIdeal.nD → PrngReg), Pre_CombBwdRefIdeal m →
    θ_run (Cert.CombBwdRefIdeal.defs (F := Ideal)) (onTc (τ := Cert.CombBwdRefIdeal.τ) (Cert.CombBwdRefIdeal.main (F := Ideal))) ⟨m, fun _ => 0, g⟩ (fun r => (∀ c : Dev Cert.CombBwdRefIdeal.nD,
      r.2.mem ((c.tc : Thread Cert.CombBwdRefIdeal.nD Cert.CombBwdRefIdeal.τ).loc Cert.CombBwdRefIdeal.main_arg0) = m ((c.tc : Thread Cert.CombBwdRefIdeal.nD Cert.CombBwdRefIdeal.τ).loc Cert.CombBwdRefIdeal.main_arg0)
      ∧ r.2.mem ((c.tc : Thread Cert.CombBwdRefIdeal.nD Cert.CombBwdRefIdeal.τ).loc Cert.CombBwdRefIdeal.main_arg1) = m ((c.tc : Thread Cert.CombBwdRefIdeal.nD Cert.CombBwdRefIdeal.τ).loc Cert.CombBwdRefIdeal.main_arg1)
      ∧ r.2.mem ((c.tc : Thread Cert.CombBwdRefIdeal.nD Cert.CombBwdRefIdeal.τ).loc Cert.CombBwdRefIdeal.main_arg2) = m ((c.tc : Thread Cert.CombBwdRefIdeal.nD Cert.CombBwdRefIdeal.τ).loc Cert.CombBwdRefIdeal.main_arg2)
      ∧ r.2.mem ((c.tc : Thread Cert.CombBwdRefIdeal.nD Cert.CombBwdRefIdeal.τ).loc Cert.CombBwdRefIdeal.main_arg3) = m ((c.tc : Thread Cert.CombBwdRefIdeal.nD Cert.CombBwdRefIdeal.τ).loc Cert.CombBwdRefIdeal.main_arg3)
      ∧ r.2.mem ((c.tc : Thread Cert.CombBwdRefIdeal.nD Cert.CombBwdRefIdeal.τ).loc Cert.CombBwdRefIdeal.main_arg4) = m ((c.tc : Thread Cert.CombBwdRefIdeal.nD Cert.CombBwdRefIdeal.τ).loc Cert.CombBwdRefIdeal.main_arg4)
      ∧ r.2.mem ((c.tc : Thread Cert.CombBwdRefIdeal.nD Cert.CombBwdRefIdeal.τ).loc Cert.CombBwdRefIdeal.main_arg5) = m ((c.tc : Thread Cert.CombBwdRefIdeal.nD Cert.CombBwdRefIdeal.τ).loc Cert.CombBwdRefIdeal.main_arg5)
      ∧ r.2.mem ((c.tc : Thread Cert.CombBwdRefIdeal.nD Cert.CombBwdRefIdeal.τ).loc Cert.CombBwdRefIdeal.main_arg6) = m ((c.tc : Thread Cert.CombBwdRefIdeal.nD Cert.CombBwdRefIdeal.τ).loc Cert.CombBwdRefIdeal.main_arg6))
      ∧ r.2.sem = fun _ => 0)

def quiescent_CombBwdRefIdeal_pre_combine_bwd_finite [hCombBwdRefIdeal : Cert.CombBwdRefIdeal.Facts] [hPre_combine_bwd_finite : Cert.Pre_combine_bwd_finite.Facts] : Prop :=
  ∀ (m : (ℓ : Loc Cert.CombBwdRefIdeal.nD Cert.CombBwdRefIdeal.τ Cert.CombBwdRefIdeal.sig) → Buf (Elt Ideal) ℓ) (g : Dev Cert.CombBwdRefIdeal.nD → PrngReg), Pre_CombBwdRefIdeal_combine_bwd_finite m →
    θ_run (Cert.CombBwdRefIdeal.defs (F := Ideal)) (onTc (τ := Cert.CombBwdRefIdeal.τ) (Cert.CombBwdRefIdeal.main (F := Ideal))) ⟨m, fun _ => 0, g⟩ (fun r => (∀ c : Dev Cert.CombBwdRefIdeal.nD,
      r.2.mem ((c.tc : Thread Cert.CombBwdRefIdeal.nD Cert.CombBwdRefIdeal.τ).loc Cert.CombBwdRefIdeal.main_arg0) = m ((c.tc : Thread Cert.CombBwdRefIdeal.nD Cert.CombBwdRefIdeal.τ).loc Cert.CombBwdRefIdeal.main_arg0)
      ∧ r.2.mem ((c.tc : Thread Cert.CombBwdRefIdeal.nD Cert.CombBwdRefIdeal.τ).loc Cert.CombBwdRefIdeal.main_arg1) = m ((c.tc : Thread Cert.CombBwdRefIdeal.nD Cert.CombBwdRefIdeal.τ).loc Cert.CombBwdRefIdeal.main_arg1)
      ∧ r.2.mem ((c.tc : Thread Cert.CombBwdRefIdeal.nD Cert.CombBwdRefIdeal.τ).loc Cert.CombBwdRefIdeal.main_arg2) = m ((c.tc : Thread Cert.CombBwdRefIdeal.nD Cert.CombBwdRefIdeal.τ).loc Cert.CombBwdRefIdeal.main_arg2)
      ∧ r.2.mem ((c.tc : Thread Cert.CombBwdRefIdeal.nD Cert.CombBwdRefIdeal.τ).loc Cert.CombBwdRefIdeal.main_arg3) = m ((c.tc : Thread Cert.CombBwdRefIdeal.nD Cert.CombBwdRefIdeal.τ).loc Cert.CombBwdRefIdeal.main_arg3)
      ∧ r.2.mem ((c.tc : Thread Cert.CombBwdRefIdeal.nD Cert.CombBwdRefIdeal.τ).loc Cert.CombBwdRefIdeal.main_arg4) = m ((c.tc : Thread Cert.CombBwdRefIdeal.nD Cert.CombBwdRefIdeal.τ).loc Cert.CombBwdRefIdeal.main_arg4)
      ∧ r.2.mem ((c.tc : Thread Cert.CombBwdRefIdeal.nD Cert.CombBwdRefIdeal.τ).loc Cert.CombBwdRefIdeal.main_arg5) = m ((c.tc : Thread Cert.CombBwdRefIdeal.nD Cert.CombBwdRefIdeal.τ).loc Cert.CombBwdRefIdeal.main_arg5)
      ∧ r.2.mem ((c.tc : Thread Cert.CombBwdRefIdeal.nD Cert.CombBwdRefIdeal.τ).loc Cert.CombBwdRefIdeal.main_arg6) = m ((c.tc : Thread Cert.CombBwdRefIdeal.nD Cert.CombBwdRefIdeal.τ).loc Cert.CombBwdRefIdeal.main_arg6))
      ∧ r.2.sem = fun _ => 0)

def quiescent_CombFwd [hCombFwd : Cert.CombFwd.Facts] : Prop :=
  ∀ (m : (ℓ : Loc Cert.CombFwd.nD Cert.CombFwd.τ Cert.CombFwd.sig) → Buf (Elt Bits) ℓ) (g : Dev Cert.CombFwd.nD → PrngReg), Pre_CombFwd m →
    θ_run (Cert.CombFwd.defs (F := Bits)) (onTc (τ := Cert.CombFwd.τ) (Cert.CombFwd.main (F := Bits))) ⟨m, fun _ => 0, g⟩ (fun r => (∀ c : Dev Cert.CombFwd.nD,
      r.2.mem ((c.tc : Thread Cert.CombFwd.nD Cert.CombFwd.τ).loc Cert.CombFwd.main_arg0) = m ((c.tc : Thread Cert.CombFwd.nD Cert.CombFwd.τ).loc Cert.CombFwd.main_arg0)
      ∧ r.2.mem ((c.tc : Thread Cert.CombFwd.nD Cert.CombFwd.τ).loc Cert.CombFwd.main_arg1) = m ((c.tc : Thread Cert.CombFwd.nD Cert.CombFwd.τ).loc Cert.CombFwd.main_arg1)
      ∧ r.2.mem ((c.tc : Thread Cert.CombFwd.nD Cert.CombFwd.τ).loc Cert.CombFwd.main_arg2) = m ((c.tc : Thread Cert.CombFwd.nD Cert.CombFwd.τ).loc Cert.CombFwd.main_arg2)
      ∧ r.2.mem ((c.tc : Thread Cert.CombFwd.nD Cert.CombFwd.τ).loc Cert.CombFwd.main_arg3) = m ((c.tc : Thread Cert.CombFwd.nD Cert.CombFwd.τ).loc Cert.CombFwd.main_arg3)
      ∧ r.2.mem ((c.tc : Thread Cert.CombFwd.nD Cert.CombFwd.τ).loc Cert.CombFwd.main_arg4) = m ((c.tc : Thread Cert.CombFwd.nD Cert.CombFwd.τ).loc Cert.CombFwd.main_arg4)
      ∧ r.2.mem ((c.tc : Thread Cert.CombFwd.nD Cert.CombFwd.τ).loc Cert.CombFwd.main_arg5) = m ((c.tc : Thread Cert.CombFwd.nD Cert.CombFwd.τ).loc Cert.CombFwd.main_arg5))
      ∧ r.2.sem = fun _ => 0)

def quiescent_CombFwdIdeal [hCombFwdIdeal : Cert.CombFwdIdeal.Facts] : Prop :=
  ∀ (m : (ℓ : Loc Cert.CombFwdIdeal.nD Cert.CombFwdIdeal.τ Cert.CombFwdIdeal.sig) → Buf (Elt Ideal) ℓ) (g : Dev Cert.CombFwdIdeal.nD → PrngReg), Pre_CombFwdIdeal m →
    θ_run (Cert.CombFwdIdeal.defs (F := Ideal)) (onTc (τ := Cert.CombFwdIdeal.τ) (Cert.CombFwdIdeal.main (F := Ideal))) ⟨m, fun _ => 0, g⟩ (fun r => (∀ c : Dev Cert.CombFwdIdeal.nD,
      r.2.mem ((c.tc : Thread Cert.CombFwdIdeal.nD Cert.CombFwdIdeal.τ).loc Cert.CombFwdIdeal.main_arg0) = m ((c.tc : Thread Cert.CombFwdIdeal.nD Cert.CombFwdIdeal.τ).loc Cert.CombFwdIdeal.main_arg0)
      ∧ r.2.mem ((c.tc : Thread Cert.CombFwdIdeal.nD Cert.CombFwdIdeal.τ).loc Cert.CombFwdIdeal.main_arg1) = m ((c.tc : Thread Cert.CombFwdIdeal.nD Cert.CombFwdIdeal.τ).loc Cert.CombFwdIdeal.main_arg1)
      ∧ r.2.mem ((c.tc : Thread Cert.CombFwdIdeal.nD Cert.CombFwdIdeal.τ).loc Cert.CombFwdIdeal.main_arg2) = m ((c.tc : Thread Cert.CombFwdIdeal.nD Cert.CombFwdIdeal.τ).loc Cert.CombFwdIdeal.main_arg2)
      ∧ r.2.mem ((c.tc : Thread Cert.CombFwdIdeal.nD Cert.CombFwdIdeal.τ).loc Cert.CombFwdIdeal.main_arg3) = m ((c.tc : Thread Cert.CombFwdIdeal.nD Cert.CombFwdIdeal.τ).loc Cert.CombFwdIdeal.main_arg3)
      ∧ r.2.mem ((c.tc : Thread Cert.CombFwdIdeal.nD Cert.CombFwdIdeal.τ).loc Cert.CombFwdIdeal.main_arg4) = m ((c.tc : Thread Cert.CombFwdIdeal.nD Cert.CombFwdIdeal.τ).loc Cert.CombFwdIdeal.main_arg4)
      ∧ r.2.mem ((c.tc : Thread Cert.CombFwdIdeal.nD Cert.CombFwdIdeal.τ).loc Cert.CombFwdIdeal.main_arg5) = m ((c.tc : Thread Cert.CombFwdIdeal.nD Cert.CombFwdIdeal.τ).loc Cert.CombFwdIdeal.main_arg5))
      ∧ r.2.sem = fun _ => 0)

def quiescent_CombFwdIdeal_pre_combine_finite [hCombFwdIdeal : Cert.CombFwdIdeal.Facts] [hPre_combine_finite : Cert.Pre_combine_finite.Facts] : Prop :=
  ∀ (m : (ℓ : Loc Cert.CombFwdIdeal.nD Cert.CombFwdIdeal.τ Cert.CombFwdIdeal.sig) → Buf (Elt Ideal) ℓ) (g : Dev Cert.CombFwdIdeal.nD → PrngReg), Pre_CombFwdIdeal_combine_finite m →
    θ_run (Cert.CombFwdIdeal.defs (F := Ideal)) (onTc (τ := Cert.CombFwdIdeal.τ) (Cert.CombFwdIdeal.main (F := Ideal))) ⟨m, fun _ => 0, g⟩ (fun r => (∀ c : Dev Cert.CombFwdIdeal.nD,
      r.2.mem ((c.tc : Thread Cert.CombFwdIdeal.nD Cert.CombFwdIdeal.τ).loc Cert.CombFwdIdeal.main_arg0) = m ((c.tc : Thread Cert.CombFwdIdeal.nD Cert.CombFwdIdeal.τ).loc Cert.CombFwdIdeal.main_arg0)
      ∧ r.2.mem ((c.tc : Thread Cert.CombFwdIdeal.nD Cert.CombFwdIdeal.τ).loc Cert.CombFwdIdeal.main_arg1) = m ((c.tc : Thread Cert.CombFwdIdeal.nD Cert.CombFwdIdeal.τ).loc Cert.CombFwdIdeal.main_arg1)
      ∧ r.2.mem ((c.tc : Thread Cert.CombFwdIdeal.nD Cert.CombFwdIdeal.τ).loc Cert.CombFwdIdeal.main_arg2) = m ((c.tc : Thread Cert.CombFwdIdeal.nD Cert.CombFwdIdeal.τ).loc Cert.CombFwdIdeal.main_arg2)
      ∧ r.2.mem ((c.tc : Thread Cert.CombFwdIdeal.nD Cert.CombFwdIdeal.τ).loc Cert.CombFwdIdeal.main_arg3) = m ((c.tc : Thread Cert.CombFwdIdeal.nD Cert.CombFwdIdeal.τ).loc Cert.CombFwdIdeal.main_arg3)
      ∧ r.2.mem ((c.tc : Thread Cert.CombFwdIdeal.nD Cert.CombFwdIdeal.τ).loc Cert.CombFwdIdeal.main_arg4) = m ((c.tc : Thread Cert.CombFwdIdeal.nD Cert.CombFwdIdeal.τ).loc Cert.CombFwdIdeal.main_arg4)
      ∧ r.2.mem ((c.tc : Thread Cert.CombFwdIdeal.nD Cert.CombFwdIdeal.τ).loc Cert.CombFwdIdeal.main_arg5) = m ((c.tc : Thread Cert.CombFwdIdeal.nD Cert.CombFwdIdeal.τ).loc Cert.CombFwdIdeal.main_arg5))
      ∧ r.2.sem = fun _ => 0)

def quiescent_CombFwdRefIdeal [hCombFwdRefIdeal : Cert.CombFwdRefIdeal.Facts] : Prop :=
  ∀ (m : (ℓ : Loc Cert.CombFwdRefIdeal.nD Cert.CombFwdRefIdeal.τ Cert.CombFwdRefIdeal.sig) → Buf (Elt Ideal) ℓ) (g : Dev Cert.CombFwdRefIdeal.nD → PrngReg), Pre_CombFwdRefIdeal m →
    θ_run (Cert.CombFwdRefIdeal.defs (F := Ideal)) (onTc (τ := Cert.CombFwdRefIdeal.τ) (Cert.CombFwdRefIdeal.main (F := Ideal))) ⟨m, fun _ => 0, g⟩ (fun r => (∀ c : Dev Cert.CombFwdRefIdeal.nD,
      r.2.mem ((c.tc : Thread Cert.CombFwdRefIdeal.nD Cert.CombFwdRefIdeal.τ).loc Cert.CombFwdRefIdeal.main_arg0) = m ((c.tc : Thread Cert.CombFwdRefIdeal.nD Cert.CombFwdRefIdeal.τ).loc Cert.CombFwdRefIdeal.main_arg0)
      ∧ r.2.mem ((c.tc : Thread Cert.CombFwdRefIdeal.nD Cert.CombFwdRefIdeal.τ).loc Cert.CombFwdRefIdeal.main_arg1) = m ((c.tc : Thread Cert.CombFwdRefIdeal.nD Cert.CombFwdRefIdeal.τ).loc Cert.CombFwdRefIdeal.main_arg1)
      ∧ r.2.mem ((c.tc : Thread Cert.CombFwdRefIdeal.nD Cert.CombFwdRefIdeal.τ).loc Cert.CombFwdRefIdeal.main_arg2) = m ((c.tc : Thread Cert.CombFwdRefIdeal.nD Cert.CombFwdRefIdeal.τ).loc Cert.CombFwdRefIdeal.main_arg2)
      ∧ r.2.mem ((c.tc : Thread Cert.CombFwdRefIdeal.nD Cert.CombFwdRefIdeal.τ).loc Cert.CombFwdRefIdeal.main_arg3) = m ((c.tc : Thread Cert.CombFwdRefIdeal.nD Cert.CombFwdRefIdeal.τ).loc Cert.CombFwdRefIdeal.main_arg3)
      ∧ r.2.mem ((c.tc : Thread Cert.CombFwdRefIdeal.nD Cert.CombFwdRefIdeal.τ).loc Cert.CombFwdRefIdeal.main_arg4) = m ((c.tc : Thread Cert.CombFwdRefIdeal.nD Cert.CombFwdRefIdeal.τ).loc Cert.CombFwdRefIdeal.main_arg4)
      ∧ r.2.mem ((c.tc : Thread Cert.CombFwdRefIdeal.nD Cert.CombFwdRefIdeal.τ).loc Cert.CombFwdRefIdeal.main_arg5) = m ((c.tc : Thread Cert.CombFwdRefIdeal.nD Cert.CombFwdRefIdeal.τ).loc Cert.CombFwdRefIdeal.main_arg5))
      ∧ r.2.sem = fun _ => 0)

def quiescent_CombFwdRefIdeal_pre_combine_finite [hCombFwdRefIdeal : Cert.CombFwdRefIdeal.Facts] [hPre_combine_finite : Cert.Pre_combine_finite.Facts] : Prop :=
  ∀ (m : (ℓ : Loc Cert.CombFwdRefIdeal.nD Cert.CombFwdRefIdeal.τ Cert.CombFwdRefIdeal.sig) → Buf (Elt Ideal) ℓ) (g : Dev Cert.CombFwdRefIdeal.nD → PrngReg), Pre_CombFwdRefIdeal_combine_finite m →
    θ_run (Cert.CombFwdRefIdeal.defs (F := Ideal)) (onTc (τ := Cert.CombFwdRefIdeal.τ) (Cert.CombFwdRefIdeal.main (F := Ideal))) ⟨m, fun _ => 0, g⟩ (fun r => (∀ c : Dev Cert.CombFwdRefIdeal.nD,
      r.2.mem ((c.tc : Thread Cert.CombFwdRefIdeal.nD Cert.CombFwdRefIdeal.τ).loc Cert.CombFwdRefIdeal.main_arg0) = m ((c.tc : Thread Cert.CombFwdRefIdeal.nD Cert.CombFwdRefIdeal.τ).loc Cert.CombFwdRefIdeal.main_arg0)
      ∧ r.2.mem ((c.tc : Thread Cert.CombFwdRefIdeal.nD Cert.CombFwdRefIdeal.τ).loc Cert.CombFwdRefIdeal.main_arg1) = m ((c.tc : Thread Cert.CombFwdRefIdeal.nD Cert.CombFwdRefIdeal.τ).loc Cert.CombFwdRefIdeal.main_arg1)
      ∧ r.2.mem ((c.tc : Thread Cert.CombFwdRefIdeal.nD Cert.CombFwdRefIdeal.τ).loc Cert.CombFwdRefIdeal.main_arg2) = m ((c.tc : Thread Cert.CombFwdRefIdeal.nD Cert.CombFwdRefIdeal.τ).loc Cert.CombFwdRefIdeal.main_arg2)
      ∧ r.2.mem ((c.tc : Thread Cert.CombFwdRefIdeal.nD Cert.CombFwdRefIdeal.τ).loc Cert.CombFwdRefIdeal.main_arg3) = m ((c.tc : Thread Cert.CombFwdRefIdeal.nD Cert.CombFwdRefIdeal.τ).loc Cert.CombFwdRefIdeal.main_arg3)
      ∧ r.2.mem ((c.tc : Thread Cert.CombFwdRefIdeal.nD Cert.CombFwdRefIdeal.τ).loc Cert.CombFwdRefIdeal.main_arg4) = m ((c.tc : Thread Cert.CombFwdRefIdeal.nD Cert.CombFwdRefIdeal.τ).loc Cert.CombFwdRefIdeal.main_arg4)
      ∧ r.2.mem ((c.tc : Thread Cert.CombFwdRefIdeal.nD Cert.CombFwdRefIdeal.τ).loc Cert.CombFwdRefIdeal.main_arg5) = m ((c.tc : Thread Cert.CombFwdRefIdeal.nD Cert.CombFwdRefIdeal.τ).loc Cert.CombFwdRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Attention_AttentionIdeal : Prop :=
  IdealRules.named_const.Statement Cert.AttentionIdeal.κ "mask" .f32 0xF149F2CA#32 ⊥

def algebraic_AttentionIdeal_AttentionRefIdeal_pre_attn_finite [hAttentionIdeal : Cert.AttentionIdeal.Facts] [hAttentionRefIdeal : Cert.AttentionRefIdeal.Facts] [hPre_attn_finite : Cert.Pre_attn_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_attn_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v13_0)) (v1 : (c : Dev Cert.AttentionIdeal.nD) → Buf (Elt Ideal) ((c.tc : Thread Cert.AttentionIdeal.nD Cert.AttentionIdeal.τ).loc Cert.AttentionIdeal.main_v13_1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v13_0) = v0 c
          ∧ r.2.mem ((c.tc : Thread Cert.AttentionIdeal.nD Cert.AttentionIdeal.τ).loc Cert.AttentionIdeal.main_v13_1) = v1 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v35) = v0 c
          ∧ r.2.mem ((c.tc : Thread Cert.AttentionRefIdeal.nD Cert.AttentionRefIdeal.τ).loc Cert.AttentionRefIdeal.main_v37) = v1 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v5) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_Dx1_Dx1Ideal : Prop :=
  True

def algebraic_Dx1Ideal_Dx1RefIdeal [hDx1Ideal : Cert.Dx1Ideal.Facts] [hDx1RefIdeal : Cert.Dx1RefIdeal.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.Dx1RefIdeal.nD Cert.Dx1RefIdeal.τ Cert.Dx1RefIdeal.sig) → Buf (Elt Ideal) ℓ) (g' : Dev Cert.Dx1RefIdeal.nD → PrngReg), Pre_Dx1Ideal m →
    (∀ c : Dev Cert.Dx1Ideal.nD,
      m' ((c.tc : Thread Cert.Dx1RefIdeal.nD Cert.Dx1RefIdeal.τ).loc Cert.Dx1RefIdeal.main_arg0) = m ((c.tc : Thread Cert.Dx1Ideal.nD Cert.Dx1Ideal.τ).loc Cert.Dx1Ideal.main_arg0)
      ∧ m' ((c.tc : Thread Cert.Dx1RefIdeal.nD Cert.Dx1RefIdeal.τ).loc Cert.Dx1RefIdeal.main_arg1) = m ((c.tc : Thread Cert.Dx1Ideal.nD Cert.Dx1Ideal.τ).loc Cert.Dx1Ideal.main_arg1)
      ∧ m' ((c.tc : Thread Cert.Dx1RefIdeal.nD Cert.Dx1RefIdeal.τ).loc Cert.Dx1RefIdeal.main_arg2) = m ((c.tc : Thread Cert.Dx1Ideal.nD Cert.Dx1Ideal.τ).loc Cert.Dx1Ideal.main_arg2)) →
    ∃ (v0 : (c : Dev Cert.Dx1Ideal.nD) → Buf (Elt Ideal) ((c.tc : Thread Cert.Dx1Ideal.nD Cert.Dx1Ideal.τ).loc Cert.Dx1Ideal.main_v0)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          r.2.mem ((c.tc : Thread Cert.Dx1Ideal.nD Cert.Dx1Ideal.τ).loc Cert.Dx1Ideal.main_v0) = v0 c
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
          ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ θ_run (Cert.Dx1RefIdeal.defs (F := Ideal)) (onTc (τ := Cert.Dx1RefIdeal.τ) (Cert.Dx1RefIdeal.main (F := Ideal))) ⟨m', fun _ => 0, g'⟩ (fun r => ∀ c : Dev Cert.Dx1RefIdeal.nD,
          r.2.mem ((c.tc : Thread Cert.Dx1RefIdeal.nD Cert.Dx1RefIdeal.τ).loc Cert.Dx1RefIdeal.main_v5) = v0 c
          ∧ r.2.mem ((c.tc : Thread Cert.Dx1RefIdeal.nD Cert.Dx1RefIdeal.τ).loc Cert.Dx1RefIdeal.main_arg0) = m' ((c.tc : Thread Cert.Dx1RefIdeal.nD Cert.Dx1RefIdeal.τ).loc Cert.Dx1RefIdeal.main_arg0)
          ∧ r.2.mem ((c.tc : Thread Cert.Dx1RefIdeal.nD Cert.Dx1RefIdeal.τ).loc Cert.Dx1RefIdeal.main_arg1) = m' ((c.tc : Thread Cert.Dx1RefIdeal.nD Cert.Dx1RefIdeal.τ).loc Cert.Dx1RefIdeal.main_arg1)
          ∧ r.2.mem ((c.tc : Thread Cert.Dx1RefIdeal.nD Cert.Dx1RefIdeal.τ).loc Cert.Dx1RefIdeal.main_arg2) = m' ((c.tc : Thread Cert.Dx1RefIdeal.nD Cert.Dx1RefIdeal.τ).loc Cert.Dx1RefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v3) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v2) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v3) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v1) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_ProjAttn_ProjAttnIdeal : Prop :=
  True

def algebraic_ProjAttnIdeal_ProjAttnRefIdeal [hProjAttnIdeal : Cert.ProjAttnIdeal.Facts] [hProjAttnRefIdeal : Cert.ProjAttnRefIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg)
    (m' : (ℓ : Loc Cert.ProjAttnRefIdeal.nD Cert.ProjAttnRefIdeal.τ Cert.ProjAttnRefIdeal.sig) → Buf (Elt Ideal) ℓ) (g' : Dev Cert.ProjAttnRefIdeal.nD → PrngReg), Pre_ProjAttnIdeal m →
    (∀ c : Dev Cert.ProjAttnIdeal.nD,
      m' ((c.tc : Thread Cert.ProjAttnRefIdeal.nD Cert.ProjAttnRefIdeal.τ).loc Cert.ProjAttnRefIdeal.main_arg0) = m ((c.tc : Thread Cert.ProjAttnIdeal.nD Cert.ProjAttnIdeal.τ).loc Cert.ProjAttnIdeal.main_arg0)
      ∧ m' ((c.tc : Thread Cert.ProjAttnRefIdeal.nD Cert.ProjAttnRefIdeal.τ).loc Cert.ProjAttnRefIdeal.main_arg1) = m ((c.tc : Thread Cert.ProjAttnIdeal.nD Cert.ProjAttnIdeal.τ).loc Cert.ProjAttnIdeal.main_arg1)) →
    ∃ (v0 : (c : Dev Cert.ProjAttnIdeal.nD) → Buf (Elt Ideal) ((c.tc : Thread Cert.ProjAttnIdeal.nD Cert.ProjAttnIdeal.τ).loc Cert.ProjAttnIdeal.main_v0)),
      θ_run (Cert.ProjAttnIdeal.defs (F := Ideal)) (onTc (τ := Cert.ProjAttnIdeal.τ) (Cert.ProjAttnIdeal.main (F := Ideal))) ⟨m, fun _ => 0, g⟩ (fun r => ∀ c : Dev Cert.ProjAttnIdeal.nD,
          r.2.mem ((c.tc : Thread Cert.ProjAttnIdeal.nD Cert.ProjAttnIdeal.τ).loc Cert.ProjAttnIdeal.main_v0) = v0 c
          ∧ r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
          ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1))
      ∧ θ_run (Cert.ProjAttnRefIdeal.defs (F := Ideal)) (onTc (τ := Cert.ProjAttnRefIdeal.τ) (Cert.ProjAttnRefIdeal.main (F := Ideal))) ⟨m', fun _ => 0, g'⟩ (fun r => ∀ c : Dev Cert.ProjAttnRefIdeal.nD,
          r.2.mem ((c.tc : Thread Cert.ProjAttnRefIdeal.nD Cert.ProjAttnRefIdeal.τ).loc Cert.ProjAttnRefIdeal.main_v3) = v0 c
          ∧ r.2.mem ((c.tc : Thread Cert.ProjAttnRefIdeal.nD Cert.ProjAttnRefIdeal.τ).loc Cert.ProjAttnRefIdeal.main_arg0) = m' ((c.tc : Thread Cert.ProjAttnRefIdeal.nD Cert.ProjAttnRefIdeal.τ).loc Cert.ProjAttnRefIdeal.main_arg0)
          ∧ r.2.mem ((c.tc : Thread Cert.ProjAttnRefIdeal.nD Cert.ProjAttnRefIdeal.τ).loc Cert.ProjAttnRefIdeal.main_arg1) = m' ((c.tc : Thread Cert.ProjAttnRefIdeal.nD Cert.ProjAttnRefIdeal.τ).loc Cert.ProjAttnRefIdeal.main_arg1))

def preserves_ProjRest_ProjRestIdeal : Prop :=
  True

def algebraic_ProjRestIdeal_ProjRestRefIdeal [hProjRestIdeal : Cert.ProjRestIdeal.Facts] [hProjRestRefIdeal : Cert.ProjRestRefIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg)
    (m' : (ℓ : Loc Cert.ProjRestRefIdeal.nD Cert.ProjRestRefIdeal.τ Cert.ProjRestRefIdeal.sig) → Buf (Elt Ideal) ℓ) (g' : Dev Cert.ProjRestRefIdeal.nD → PrngReg), Pre_ProjRestIdeal m →
    (∀ c : Dev Cert.ProjRestIdeal.nD,
      m' ((c.tc : Thread Cert.ProjRestRefIdeal.nD Cert.ProjRestRefIdeal.τ).loc Cert.ProjRestRefIdeal.main_arg0) = m ((c.tc : Thread Cert.ProjRestIdeal.nD Cert.ProjRestIdeal.τ).loc Cert.ProjRestIdeal.main_arg0)
      ∧ m' ((c.tc : Thread Cert.ProjRestRefIdeal.nD Cert.ProjRestRefIdeal.τ).loc Cert.ProjRestRefIdeal.main_arg1) = m ((c.tc : Thread Cert.ProjRestIdeal.nD Cert.ProjRestIdeal.τ).loc Cert.ProjRestIdeal.main_arg1)) →
    ∃ (v0 : (c : Dev Cert.ProjRestIdeal.nD) → Buf (Elt Ideal) ((c.tc : Thread Cert.ProjRestIdeal.nD Cert.ProjRestIdeal.τ).loc Cert.ProjRestIdeal.main_v0)),
      θ_run (Cert.ProjRestIdeal.defs (F := Ideal)) (onTc (τ := Cert.ProjRestIdeal.τ) (Cert.ProjRestIdeal.main (F := Ideal))) ⟨m, fun _ => 0, g⟩ (fun r => ∀ c : Dev Cert.ProjRestIdeal.nD,
          r.2.mem ((c.tc : Thread Cert.ProjRestIdeal.nD Cert.ProjRestIdeal.τ).loc Cert.ProjRestIdeal.main_v0) = v0 c
          ∧ r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
          ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1))
      ∧ θ_run (Cert.ProjRestRefIdeal.defs (F := Ideal)) (onTc (τ := Cert.ProjRestRefIdeal.τ) (Cert.ProjRestRefIdeal.main (F := Ideal))) ⟨m', fun _ => 0, g'⟩ (fun r => ∀ c : Dev Cert.ProjRestRefIdeal.nD,
          r.2.mem ((c.tc : Thread Cert.ProjRestRefIdeal.nD Cert.ProjRestRefIdeal.τ).loc Cert.ProjRestRefIdeal.main_v2) = v0 c
          ∧ r.2.mem ((c.tc : Thread Cert.ProjRestRefIdeal.nD Cert.ProjRestRefIdeal.τ).loc Cert.ProjRestRefIdeal.main_arg0) = m' ((c.tc : Thread Cert.ProjRestRefIdeal.nD Cert.ProjRestRefIdeal.τ).loc Cert.ProjRestRefIdeal.main_arg0)
          ∧ r.2.mem ((c.tc : Thread Cert.ProjRestRefIdeal.nD Cert.ProjRestRefIdeal.τ).loc Cert.ProjRestRefIdeal.main_arg1) = m' ((c.tc : Thread Cert.ProjRestRefIdeal.nD Cert.ProjRestRefIdeal.τ).loc Cert.ProjRestRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v2) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v0)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v0) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v1) = v0 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1))

def preserves_Branch0_Branch0Ideal : Prop :=
  True

def algebraic_Branch0Ideal_Branch0RefIdeal [hBranch0Ideal : Cert.Branch0Ideal.Facts] [hBranch0RefIdeal : Cert.Branch0RefIdeal.Facts] : Prop :=
  ∀ (m : (ℓ : Loc Cert.Branch0Ideal.nD Cert.Branch0Ideal.τ Cert.Branch0Ideal.sig) → Buf (Elt Ideal) ℓ) (g : Dev Cert.Branch0Ideal.nD → PrngReg)
    (m' : (ℓ : Loc Cert.Branch0RefIdeal.nD Cert.Branch0RefIdeal.τ Cert.Branch0RefIdeal.sig) → Buf (Elt Ideal) ℓ) (g' : Dev Cert.Branch0RefIdeal.nD → PrngReg), Pre_Branch0Ideal m →
    (∀ c : Dev Cert.Branch0Ideal.nD,
      m' ((c.tc : Thread Cert.Branch0RefIdeal.nD Cert.Branch0RefIdeal.τ).loc Cert.Branch0RefIdeal.main_arg0) = m ((c.tc : Thread Cert.Branch0Ideal.nD Cert.Branch0Ideal.τ).loc Cert.Branch0Ideal.main_arg0)
      ∧ m' ((c.tc : Thread Cert.Branch0RefIdeal.nD Cert.Branch0RefIdeal.τ).loc Cert.Branch0RefIdeal.main_arg1) = m ((c.tc : Thread Cert.Branch0Ideal.nD Cert.Branch0Ideal.τ).loc Cert.Branch0Ideal.main_arg1)) →
    ∃ (v0 : (c : Dev Cert.Branch0Ideal.nD) → Buf (Elt Ideal) ((c.tc : Thread Cert.Branch0Ideal.nD Cert.Branch0Ideal.τ).loc Cert.Branch0Ideal.main_v0)),
      θ_run (Cert.Branch0Ideal.defs (F := Ideal)) (onTc (τ := Cert.Branch0Ideal.τ) (Cert.Branch0Ideal.main (F := Ideal))) ⟨m, fun _ => 0, g⟩ (fun r => ∀ c : Dev Cert.Branch0Ideal.nD,
          r.2.mem ((c.tc : Thread Cert.Branch0Ideal.nD Cert.Branch0Ideal.τ).loc Cert.Branch0Ideal.main_v0) = v0 c
          ∧ r.2.mem ((c.tc : Thread Cert.Branch0Ideal.nD Cert.Branch0Ideal.τ).loc Cert.Branch0Ideal.main_arg0) = m ((c.tc : Thread Cert.Branch0Ideal.nD Cert.Branch0Ideal.τ).loc Cert.Branch0Ideal.main_arg0)
          ∧ r.2.mem ((c.tc : Thread Cert.Branch0Ideal.nD Cert.Branch0Ideal.τ).loc Cert.Branch0Ideal.main_arg1) = m ((c.tc : Thread Cert.Branch0Ideal.nD Cert.Branch0Ideal.τ).loc Cert.Branch0Ideal.main_arg1))
      ∧ θ_run (Cert.Branch0RefIdeal.defs (F := Ideal)) (onTc (τ := Cert.Branch0RefIdeal.τ) (Cert.Branch0RefIdeal.main (F := Ideal))) ⟨m', fun _ => 0, g'⟩ (fun r => ∀ c : Dev Cert.Branch0RefIdeal.nD,
          r.2.mem ((c.tc : Thread Cert.Branch0RefIdeal.nD Cert.Branch0RefIdeal.τ).loc Cert.Branch0RefIdeal.main_v2) = v0 c
          ∧ r.2.mem ((c.tc : Thread Cert.Branch0RefIdeal.nD Cert.Branch0RefIdeal.τ).loc Cert.Branch0RefIdeal.main_arg0) = m' ((c.tc : Thread Cert.Branch0RefIdeal.nD Cert.Branch0RefIdeal.τ).loc Cert.Branch0RefIdeal.main_arg0)
          ∧ r.2.mem ((c.tc : Thread Cert.Branch0RefIdeal.nD Cert.Branch0RefIdeal.τ).loc Cert.Branch0RefIdeal.main_arg1) = m' ((c.tc : Thread Cert.Branch0RefIdeal.nD Cert.Branch0RefIdeal.τ).loc Cert.Branch0RefIdeal.main_arg1))

def preserves_Branch1_Branch1Ideal : Prop :=
  True

def algebraic_Branch1Ideal_Branch1RefIdeal [hBranch1Ideal : Cert.Branch1Ideal.Facts] [hBranch1RefIdeal : Cert.Branch1RefIdeal.Facts] : Prop :=
  ∀ (m : (ℓ : Loc Cert.Branch1Ideal.nD Cert.Branch1Ideal.τ Cert.Branch1Ideal.sig) → Buf (Elt Ideal) ℓ) (g : Dev Cert.Branch1Ideal.nD → PrngReg)
    (m' : (ℓ : Loc Cert.Branch1RefIdeal.nD Cert.Branch1RefIdeal.τ Cert.Branch1RefIdeal.sig) → Buf (Elt Ideal) ℓ) (g' : Dev Cert.Branch1RefIdeal.nD → PrngReg), Pre_Branch1Ideal m →
    (∀ c : Dev Cert.Branch1Ideal.nD,
      m' ((c.tc : Thread Cert.Branch1RefIdeal.nD Cert.Branch1RefIdeal.τ).loc Cert.Branch1RefIdeal.main_arg0) = m ((c.tc : Thread Cert.Branch1Ideal.nD Cert.Branch1Ideal.τ).loc Cert.Branch1Ideal.main_arg0)
      ∧ m' ((c.tc : Thread Cert.Branch1RefIdeal.nD Cert.Branch1RefIdeal.τ).loc Cert.Branch1RefIdeal.main_arg1) = m ((c.tc : Thread Cert.Branch1Ideal.nD Cert.Branch1Ideal.τ).loc Cert.Branch1Ideal.main_arg1)) →
    ∃ (v0 : (c : Dev Cert.Branch1Ideal.nD) → Buf (Elt Ideal) ((c.tc : Thread Cert.Branch1Ideal.nD Cert.Branch1Ideal.τ).loc Cert.Branch1Ideal.main_v0)),
      θ_run (Cert.Branch1Ideal.defs (F := Ideal)) (onTc (τ := Cert.Branch1Ideal.τ) (Cert.Branch1Ideal.main (F := Ideal))) ⟨m, fun _ => 0, g⟩ (fun r => ∀ c : Dev Cert.Branch1Ideal.nD,
          r.2.mem ((c.tc : Thread Cert.Branch1Ideal.nD Cert.Branch1Ideal.τ).loc Cert.Branch1Ideal.main_v0) = v0 c
          ∧ r.2.mem ((c.tc : Thread Cert.Branch1Ideal.nD Cert.Branch1Ideal.τ).loc Cert.Branch1Ideal.main_arg0) = m ((c.tc : Thread Cert.Branch1Ideal.nD Cert.Branch1Ideal.τ).loc Cert.Branch1Ideal.main_arg0)
          ∧ r.2.mem ((c.tc : Thread Cert.Branch1Ideal.nD Cert.Branch1Ideal.τ).loc Cert.Branch1Ideal.main_arg1) = m ((c.tc : Thread Cert.Branch1Ideal.nD Cert.Branch1Ideal.τ).loc Cert.Branch1Ideal.main_arg1))
      ∧ θ_run (Cert.Branch1RefIdeal.defs (F := Ideal)) (onTc (τ := Cert.Branch1RefIdeal.τ) (Cert.Branch1RefIdeal.main (F := Ideal))) ⟨m', fun _ => 0, g'⟩ (fun r => ∀ c : Dev Cert.Branch1RefIdeal.nD,
          r.2.mem ((c.tc : Thread Cert.Branch1RefIdeal.nD Cert.Branch1RefIdeal.τ).loc Cert.Branch1RefIdeal.main_v1) = v0 c
          ∧ r.2.mem ((c.tc : Thread Cert.Branch1RefIdeal.nD Cert.Branch1RefIdeal.τ).loc Cert.Branch1RefIdeal.main_arg0) = m' ((c.tc : Thread Cert.Branch1RefIdeal.nD Cert.Branch1RefIdeal.τ).loc Cert.Branch1RefIdeal.main_arg0)
          ∧ r.2.mem ((c.tc : Thread Cert.Branch1RefIdeal.nD Cert.Branch1RefIdeal.τ).loc Cert.Branch1RefIdeal.main_arg1) = m' ((c.tc : Thread Cert.Branch1RefIdeal.nD Cert.Branch1RefIdeal.τ).loc Cert.Branch1RefIdeal.main_arg1))

def preserves_Branch2_Branch2Ideal : Prop :=
  True

def algebraic_Branch2Ideal_Branch2RefIdeal [hBranch2Ideal : Cert.Branch2Ideal.Facts] [hBranch2RefIdeal : Cert.Branch2RefIdeal.Facts] : Prop :=
  ∀ (m : (ℓ : Loc Cert.Branch2Ideal.nD Cert.Branch2Ideal.τ Cert.Branch2Ideal.sig) → Buf (Elt Ideal) ℓ) (g : Dev Cert.Branch2Ideal.nD → PrngReg)
    (m' : (ℓ : Loc Cert.Branch2RefIdeal.nD Cert.Branch2RefIdeal.τ Cert.Branch2RefIdeal.sig) → Buf (Elt Ideal) ℓ) (g' : Dev Cert.Branch2RefIdeal.nD → PrngReg), Pre_Branch2Ideal m →
    (∀ c : Dev Cert.Branch2Ideal.nD,
      m' ((c.tc : Thread Cert.Branch2RefIdeal.nD Cert.Branch2RefIdeal.τ).loc Cert.Branch2RefIdeal.main_arg0) = m ((c.tc : Thread Cert.Branch2Ideal.nD Cert.Branch2Ideal.τ).loc Cert.Branch2Ideal.main_arg0)
      ∧ m' ((c.tc : Thread Cert.Branch2RefIdeal.nD Cert.Branch2RefIdeal.τ).loc Cert.Branch2RefIdeal.main_arg1) = m ((c.tc : Thread Cert.Branch2Ideal.nD Cert.Branch2Ideal.τ).loc Cert.Branch2Ideal.main_arg1)) →
    ∃ (v0 : (c : Dev Cert.Branch2Ideal.nD) → Buf (Elt Ideal) ((c.tc : Thread Cert.Branch2Ideal.nD Cert.Branch2Ideal.τ).loc Cert.Branch2Ideal.main_v0)),
      θ_run (Cert.Branch2Ideal.defs (F := Ideal)) (onTc (τ := Cert.Branch2Ideal.τ) (Cert.Branch2Ideal.main (F := Ideal))) ⟨m, fun _ => 0, g⟩ (fun r => ∀ c : Dev Cert.Branch2Ideal.nD,
          r.2.mem ((c.tc : Thread Cert.Branch2Ideal.nD Cert.Branch2Ideal.τ).loc Cert.Branch2Ideal.main_v0) = v0 c
          ∧ r.2.mem ((c.tc : Thread Cert.Branch2Ideal.nD Cert.Branch2Ideal.τ).loc Cert.Branch2Ideal.main_arg0) = m ((c.tc : Thread Cert.Branch2Ideal.nD Cert.Branch2Ideal.τ).loc Cert.Branch2Ideal.main_arg0)
          ∧ r.2.mem ((c.tc : Thread Cert.Branch2Ideal.nD Cert.Branch2Ideal.τ).loc Cert.Branch2Ideal.main_arg1) = m ((c.tc : Thread Cert.Branch2Ideal.nD Cert.Branch2Ideal.τ).loc Cert.Branch2Ideal.main_arg1))
      ∧ θ_run (Cert.Branch2RefIdeal.defs (F := Ideal)) (onTc (τ := Cert.Branch2RefIdeal.τ) (Cert.Branch2RefIdeal.main (F := Ideal))) ⟨m', fun _ => 0, g'⟩ (fun r => ∀ c : Dev Cert.Branch2RefIdeal.nD,
          r.2.mem ((c.tc : Thread Cert.Branch2RefIdeal.nD Cert.Branch2RefIdeal.τ).loc Cert.Branch2RefIdeal.main_v1) = v0 c
          ∧ r.2.mem ((c.tc : Thread Cert.Branch2RefIdeal.nD Cert.Branch2RefIdeal.τ).loc Cert.Branch2RefIdeal.main_arg0) = m' ((c.tc : Thread Cert.Branch2RefIdeal.nD Cert.Branch2RefIdeal.τ).loc Cert.Branch2RefIdeal.main_arg0)
          ∧ r.2.mem ((c.tc : Thread Cert.Branch2RefIdeal.nD Cert.Branch2RefIdeal.τ).loc Cert.Branch2RefIdeal.main_arg1) = m' ((c.tc : Thread Cert.Branch2RefIdeal.nD Cert.Branch2RefIdeal.τ).loc Cert.Branch2RefIdeal.main_arg1))

def preserves_DwBranch0_DwBranch0Ideal : Prop :=
  True

def algebraic_DwBranch0Ideal_DwBranch0RefIdeal [hDwBranch0Ideal : Cert.DwBranch0Ideal.Facts] [hDwBranch0RefIdeal : Cert.DwBranch0RefIdeal.Facts] : Prop :=
  ∀ (m : (ℓ : Loc Cert.DwBranch0Ideal.nD Cert.DwBranch0Ideal.τ Cert.DwBranch0Ideal.sig) → Buf (Elt Ideal) ℓ) (g : Dev Cert.DwBranch0Ideal.nD → PrngReg)
    (m' : (ℓ : Loc Cert.DwBranch0RefIdeal.nD Cert.DwBranch0RefIdeal.τ Cert.DwBranch0RefIdeal.sig) → Buf (Elt Ideal) ℓ) (g' : Dev Cert.DwBranch0RefIdeal.nD → PrngReg), Pre_DwBranch0Ideal m →
    (∀ c : Dev Cert.DwBranch0Ideal.nD,
      m' ((c.tc : Thread Cert.DwBranch0RefIdeal.nD Cert.DwBranch0RefIdeal.τ).loc Cert.DwBranch0RefIdeal.main_arg0) = m ((c.tc : Thread Cert.DwBranch0Ideal.nD Cert.DwBranch0Ideal.τ).loc Cert.DwBranch0Ideal.main_arg0)
      ∧ m' ((c.tc : Thread Cert.DwBranch0RefIdeal.nD Cert.DwBranch0RefIdeal.τ).loc Cert.DwBranch0RefIdeal.main_arg1) = m ((c.tc : Thread Cert.DwBranch0Ideal.nD Cert.DwBranch0Ideal.τ).loc Cert.DwBranch0Ideal.main_arg1)) →
    ∃ (v0 : (c : Dev Cert.DwBranch0Ideal.nD) → Buf (Elt Ideal) ((c.tc : Thread Cert.DwBranch0Ideal.nD Cert.DwBranch0Ideal.τ).loc Cert.DwBranch0Ideal.main_v0)),
      θ_run (Cert.DwBranch0Ideal.defs (F := Ideal)) (onTc (τ := Cert.DwBranch0Ideal.τ) (Cert.DwBranch0Ideal.main (F := Ideal))) ⟨m, fun _ => 0, g⟩ (fun r => ∀ c : Dev Cert.DwBranch0Ideal.nD,
          r.2.mem ((c.tc : Thread Cert.DwBranch0Ideal.nD Cert.DwBranch0Ideal.τ).loc Cert.DwBranch0Ideal.main_v0) = v0 c
          ∧ r.2.mem ((c.tc : Thread Cert.DwBranch0Ideal.nD Cert.DwBranch0Ideal.τ).loc Cert.DwBranch0Ideal.main_arg0) = m ((c.tc : Thread Cert.DwBranch0Ideal.nD Cert.DwBranch0Ideal.τ).loc Cert.DwBranch0Ideal.main_arg0)
          ∧ r.2.mem ((c.tc : Thread Cert.DwBranch0Ideal.nD Cert.DwBranch0Ideal.τ).loc Cert.DwBranch0Ideal.main_arg1) = m ((c.tc : Thread Cert.DwBranch0Ideal.nD Cert.DwBranch0Ideal.τ).loc Cert.DwBranch0Ideal.main_arg1))
      ∧ θ_run (Cert.DwBranch0RefIdeal.defs (F := Ideal)) (onTc (τ := Cert.DwBranch0RefIdeal.τ) (Cert.DwBranch0RefIdeal.main (F := Ideal))) ⟨m', fun _ => 0, g'⟩ (fun r => ∀ c : Dev Cert.DwBranch0RefIdeal.nD,
          r.2.mem ((c.tc : Thread Cert.DwBranch0RefIdeal.nD Cert.DwBranch0RefIdeal.τ).loc Cert.DwBranch0RefIdeal.main_v3) = v0 c
          ∧ r.2.mem ((c.tc : Thread Cert.DwBranch0RefIdeal.nD Cert.DwBranch0RefIdeal.τ).loc Cert.DwBranch0RefIdeal.main_arg0) = m' ((c.tc : Thread Cert.DwBranch0RefIdeal.nD Cert.DwBranch0RefIdeal.τ).loc Cert.DwBranch0RefIdeal.main_arg0)
          ∧ r.2.mem ((c.tc : Thread Cert.DwBranch0RefIdeal.nD Cert.DwBranch0RefIdeal.τ).loc Cert.DwBranch0RefIdeal.main_arg1) = m' ((c.tc : Thread Cert.DwBranch0RefIdeal.nD Cert.DwBranch0RefIdeal.τ).loc Cert.DwBranch0RefIdeal.main_arg1))

def preserves_DwBranch1_DwBranch1Ideal : Prop :=
  True

def algebraic_DwBranch1Ideal_DwBranch1RefIdeal [hDwBranch1Ideal : Cert.DwBranch1Ideal.Facts] [hDwBranch1RefIdeal : Cert.DwBranch1RefIdeal.Facts] : Prop :=
  ∀ (m : (ℓ : Loc Cert.DwBranch1Ideal.nD Cert.DwBranch1Ideal.τ Cert.DwBranch1Ideal.sig) → Buf (Elt Ideal) ℓ) (g : Dev Cert.DwBranch1Ideal.nD → PrngReg)
    (m' : (ℓ : Loc Cert.DwBranch1RefIdeal.nD Cert.DwBranch1RefIdeal.τ Cert.DwBranch1RefIdeal.sig) → Buf (Elt Ideal) ℓ) (g' : Dev Cert.DwBranch1RefIdeal.nD → PrngReg), Pre_DwBranch1Ideal m →
    (∀ c : Dev Cert.DwBranch1Ideal.nD,
      m' ((c.tc : Thread Cert.DwBranch1RefIdeal.nD Cert.DwBranch1RefIdeal.τ).loc Cert.DwBranch1RefIdeal.main_arg0) = m ((c.tc : Thread Cert.DwBranch1Ideal.nD Cert.DwBranch1Ideal.τ).loc Cert.DwBranch1Ideal.main_arg0)
      ∧ m' ((c.tc : Thread Cert.DwBranch1RefIdeal.nD Cert.DwBranch1RefIdeal.τ).loc Cert.DwBranch1RefIdeal.main_arg1) = m ((c.tc : Thread Cert.DwBranch1Ideal.nD Cert.DwBranch1Ideal.τ).loc Cert.DwBranch1Ideal.main_arg1)) →
    ∃ (v0 : (c : Dev Cert.DwBranch1Ideal.nD) → Buf (Elt Ideal) ((c.tc : Thread Cert.DwBranch1Ideal.nD Cert.DwBranch1Ideal.τ).loc Cert.DwBranch1Ideal.main_v0)),
      θ_run (Cert.DwBranch1Ideal.defs (F := Ideal)) (onTc (τ := Cert.DwBranch1Ideal.τ) (Cert.DwBranch1Ideal.main (F := Ideal))) ⟨m, fun _ => 0, g⟩ (fun r => ∀ c : Dev Cert.DwBranch1Ideal.nD,
          r.2.mem ((c.tc : Thread Cert.DwBranch1Ideal.nD Cert.DwBranch1Ideal.τ).loc Cert.DwBranch1Ideal.main_v0) = v0 c
          ∧ r.2.mem ((c.tc : Thread Cert.DwBranch1Ideal.nD Cert.DwBranch1Ideal.τ).loc Cert.DwBranch1Ideal.main_arg0) = m ((c.tc : Thread Cert.DwBranch1Ideal.nD Cert.DwBranch1Ideal.τ).loc Cert.DwBranch1Ideal.main_arg0)
          ∧ r.2.mem ((c.tc : Thread Cert.DwBranch1Ideal.nD Cert.DwBranch1Ideal.τ).loc Cert.DwBranch1Ideal.main_arg1) = m ((c.tc : Thread Cert.DwBranch1Ideal.nD Cert.DwBranch1Ideal.τ).loc Cert.DwBranch1Ideal.main_arg1))
      ∧ θ_run (Cert.DwBranch1RefIdeal.defs (F := Ideal)) (onTc (τ := Cert.DwBranch1RefIdeal.τ) (Cert.DwBranch1RefIdeal.main (F := Ideal))) ⟨m', fun _ => 0, g'⟩ (fun r => ∀ c : Dev Cert.DwBranch1RefIdeal.nD,
          r.2.mem ((c.tc : Thread Cert.DwBranch1RefIdeal.nD Cert.DwBranch1RefIdeal.τ).loc Cert.DwBranch1RefIdeal.main_v2) = v0 c
          ∧ r.2.mem ((c.tc : Thread Cert.DwBranch1RefIdeal.nD Cert.DwBranch1RefIdeal.τ).loc Cert.DwBranch1RefIdeal.main_arg0) = m' ((c.tc : Thread Cert.DwBranch1RefIdeal.nD Cert.DwBranch1RefIdeal.τ).loc Cert.DwBranch1RefIdeal.main_arg0)
          ∧ r.2.mem ((c.tc : Thread Cert.DwBranch1RefIdeal.nD Cert.DwBranch1RefIdeal.τ).loc Cert.DwBranch1RefIdeal.main_arg1) = m' ((c.tc : Thread Cert.DwBranch1RefIdeal.nD Cert.DwBranch1RefIdeal.τ).loc Cert.DwBranch1RefIdeal.main_arg1))

def preserves_DwBranch2_DwBranch2Ideal : Prop :=
  True

def algebraic_DwBranch2Ideal_DwBranch2RefIdeal [hDwBranch2Ideal : Cert.DwBranch2Ideal.Facts] [hDwBranch2RefIdeal : Cert.DwBranch2RefIdeal.Facts] : Prop :=
  ∀ (m : (ℓ : Loc Cert.DwBranch2Ideal.nD Cert.DwBranch2Ideal.τ Cert.DwBranch2Ideal.sig) → Buf (Elt Ideal) ℓ) (g : Dev Cert.DwBranch2Ideal.nD → PrngReg)
    (m' : (ℓ : Loc Cert.DwBranch2RefIdeal.nD Cert.DwBranch2RefIdeal.τ Cert.DwBranch2RefIdeal.sig) → Buf (Elt Ideal) ℓ) (g' : Dev Cert.DwBranch2RefIdeal.nD → PrngReg), Pre_DwBranch2Ideal m →
    (∀ c : Dev Cert.DwBranch2Ideal.nD,
      m' ((c.tc : Thread Cert.DwBranch2RefIdeal.nD Cert.DwBranch2RefIdeal.τ).loc Cert.DwBranch2RefIdeal.main_arg0) = m ((c.tc : Thread Cert.DwBranch2Ideal.nD Cert.DwBranch2Ideal.τ).loc Cert.DwBranch2Ideal.main_arg0)
      ∧ m' ((c.tc : Thread Cert.DwBranch2RefIdeal.nD Cert.DwBranch2RefIdeal.τ).loc Cert.DwBranch2RefIdeal.main_arg1) = m ((c.tc : Thread Cert.DwBranch2Ideal.nD Cert.DwBranch2Ideal.τ).loc Cert.DwBranch2Ideal.main_arg1)) →
    ∃ (v0 : (c : Dev Cert.DwBranch2Ideal.nD) → Buf (Elt Ideal) ((c.tc : Thread Cert.DwBranch2Ideal.nD Cert.DwBranch2Ideal.τ).loc Cert.DwBranch2Ideal.main_v0)),
      θ_run (Cert.DwBranch2Ideal.defs (F := Ideal)) (onTc (τ := Cert.DwBranch2Ideal.τ) (Cert.DwBranch2Ideal.main (F := Ideal))) ⟨m, fun _ => 0, g⟩ (fun r => ∀ c : Dev Cert.DwBranch2Ideal.nD,
          r.2.mem ((c.tc : Thread Cert.DwBranch2Ideal.nD Cert.DwBranch2Ideal.τ).loc Cert.DwBranch2Ideal.main_v0) = v0 c
          ∧ r.2.mem ((c.tc : Thread Cert.DwBranch2Ideal.nD Cert.DwBranch2Ideal.τ).loc Cert.DwBranch2Ideal.main_arg0) = m ((c.tc : Thread Cert.DwBranch2Ideal.nD Cert.DwBranch2Ideal.τ).loc Cert.DwBranch2Ideal.main_arg0)
          ∧ r.2.mem ((c.tc : Thread Cert.DwBranch2Ideal.nD Cert.DwBranch2Ideal.τ).loc Cert.DwBranch2Ideal.main_arg1) = m ((c.tc : Thread Cert.DwBranch2Ideal.nD Cert.DwBranch2Ideal.τ).loc Cert.DwBranch2Ideal.main_arg1))
      ∧ θ_run (Cert.DwBranch2RefIdeal.defs (F := Ideal)) (onTc (τ := Cert.DwBranch2RefIdeal.τ) (Cert.DwBranch2RefIdeal.main (F := Ideal))) ⟨m', fun _ => 0, g'⟩ (fun r => ∀ c : Dev Cert.DwBranch2RefIdeal.nD,
          r.2.mem ((c.tc : Thread Cert.DwBranch2RefIdeal.nD Cert.DwBranch2RefIdeal.τ).loc Cert.DwBranch2RefIdeal.main_v2) = v0 c
          ∧ r.2.mem ((c.tc : Thread Cert.DwBranch2RefIdeal.nD Cert.DwBranch2RefIdeal.τ).loc Cert.DwBranch2RefIdeal.main_arg0) = m' ((c.tc : Thread Cert.DwBranch2RefIdeal.nD Cert.DwBranch2RefIdeal.τ).loc Cert.DwBranch2RefIdeal.main_arg0)
          ∧ r.2.mem ((c.tc : Thread Cert.DwBranch2RefIdeal.nD Cert.DwBranch2RefIdeal.τ).loc Cert.DwBranch2RefIdeal.main_arg1) = m' ((c.tc : Thread Cert.DwBranch2RefIdeal.nD Cert.DwBranch2RefIdeal.τ).loc Cert.DwBranch2RefIdeal.main_arg1))

def preserves_DoBranch0_DoBranch0Ideal : Prop :=
  True

def algebraic_DoBranch0Ideal_DoBranch0RefIdeal [hDoBranch0Ideal : Cert.DoBranch0Ideal.Facts] [hDoBranch0RefIdeal : Cert.DoBranch0RefIdeal.Facts] : Prop :=
  ∀ (m : (ℓ : Loc Cert.DoBranch0Ideal.nD Cert.DoBranch0Ideal.τ Cert.DoBranch0Ideal.sig) → Buf (Elt Ideal) ℓ) (g : Dev Cert.DoBranch0Ideal.nD → PrngReg)
    (m' : (ℓ : Loc Cert.DoBranch0RefIdeal.nD Cert.DoBranch0RefIdeal.τ Cert.DoBranch0RefIdeal.sig) → Buf (Elt Ideal) ℓ) (g' : Dev Cert.DoBranch0RefIdeal.nD → PrngReg), Pre_DoBranch0Ideal m →
    (∀ c : Dev Cert.DoBranch0Ideal.nD,
      m' ((c.tc : Thread Cert.DoBranch0RefIdeal.nD Cert.DoBranch0RefIdeal.τ).loc Cert.DoBranch0RefIdeal.main_arg0) = m ((c.tc : Thread Cert.DoBranch0Ideal.nD Cert.DoBranch0Ideal.τ).loc Cert.DoBranch0Ideal.main_arg0)
      ∧ m' ((c.tc : Thread Cert.DoBranch0RefIdeal.nD Cert.DoBranch0RefIdeal.τ).loc Cert.DoBranch0RefIdeal.main_arg1) = m ((c.tc : Thread Cert.DoBranch0Ideal.nD Cert.DoBranch0Ideal.τ).loc Cert.DoBranch0Ideal.main_arg1)) →
    ∃ (v0 : (c : Dev Cert.DoBranch0Ideal.nD) → Buf (Elt Ideal) ((c.tc : Thread Cert.DoBranch0Ideal.nD Cert.DoBranch0Ideal.τ).loc Cert.DoBranch0Ideal.main_v0)),
      θ_run (Cert.DoBranch0Ideal.defs (F := Ideal)) (onTc (τ := Cert.DoBranch0Ideal.τ) (Cert.DoBranch0Ideal.main (F := Ideal))) ⟨m, fun _ => 0, g⟩ (fun r => ∀ c : Dev Cert.DoBranch0Ideal.nD,
          r.2.mem ((c.tc : Thread Cert.DoBranch0Ideal.nD Cert.DoBranch0Ideal.τ).loc Cert.DoBranch0Ideal.main_v0) = v0 c
          ∧ r.2.mem ((c.tc : Thread Cert.DoBranch0Ideal.nD Cert.DoBranch0Ideal.τ).loc Cert.DoBranch0Ideal.main_arg0) = m ((c.tc : Thread Cert.DoBranch0Ideal.nD Cert.DoBranch0Ideal.τ).loc Cert.DoBranch0Ideal.main_arg0)
          ∧ r.2.mem ((c.tc : Thread Cert.DoBranch0Ideal.nD Cert.DoBranch0Ideal.τ).loc Cert.DoBranch0Ideal.main_arg1) = m ((c.tc : Thread Cert.DoBranch0Ideal.nD Cert.DoBranch0Ideal.τ).loc Cert.DoBranch0Ideal.main_arg1))
      ∧ θ_run (Cert.DoBranch0RefIdeal.defs (F := Ideal)) (onTc (τ := Cert.DoBranch0RefIdeal.τ) (Cert.DoBranch0RefIdeal.main (F := Ideal))) ⟨m', fun _ => 0, g'⟩ (fun r => ∀ c : Dev Cert.DoBranch0RefIdeal.nD,
          r.2.mem ((c.tc : Thread Cert.DoBranch0RefIdeal.nD Cert.DoBranch0RefIdeal.τ).loc Cert.DoBranch0RefIdeal.main_v2) = v0 c
          ∧ r.2.mem ((c.tc : Thread Cert.DoBranch0RefIdeal.nD Cert.DoBranch0RefIdeal.τ).loc Cert.DoBranch0RefIdeal.main_arg0) = m' ((c.tc : Thread Cert.DoBranch0RefIdeal.nD Cert.DoBranch0RefIdeal.τ).loc Cert.DoBranch0RefIdeal.main_arg0)
          ∧ r.2.mem ((c.tc : Thread Cert.DoBranch0RefIdeal.nD Cert.DoBranch0RefIdeal.τ).loc Cert.DoBranch0RefIdeal.main_arg1) = m' ((c.tc : Thread Cert.DoBranch0RefIdeal.nD Cert.DoBranch0RefIdeal.τ).loc Cert.DoBranch0RefIdeal.main_arg1))

def preserves_DoBranch2_DoBranch2Ideal : Prop :=
  True

def algebraic_DoBranch2Ideal_DoBranch2RefIdeal [hDoBranch2Ideal : Cert.DoBranch2Ideal.Facts] [hDoBranch2RefIdeal : Cert.DoBranch2RefIdeal.Facts] : Prop :=
  ∀ (m : (ℓ : Loc Cert.DoBranch2Ideal.nD Cert.DoBranch2Ideal.τ Cert.DoBranch2Ideal.sig) → Buf (Elt Ideal) ℓ) (g : Dev Cert.DoBranch2Ideal.nD → PrngReg)
    (m' : (ℓ : Loc Cert.DoBranch2RefIdeal.nD Cert.DoBranch2RefIdeal.τ Cert.DoBranch2RefIdeal.sig) → Buf (Elt Ideal) ℓ) (g' : Dev Cert.DoBranch2RefIdeal.nD → PrngReg), Pre_DoBranch2Ideal m →
    (∀ c : Dev Cert.DoBranch2Ideal.nD,
      m' ((c.tc : Thread Cert.DoBranch2RefIdeal.nD Cert.DoBranch2RefIdeal.τ).loc Cert.DoBranch2RefIdeal.main_arg0) = m ((c.tc : Thread Cert.DoBranch2Ideal.nD Cert.DoBranch2Ideal.τ).loc Cert.DoBranch2Ideal.main_arg0)
      ∧ m' ((c.tc : Thread Cert.DoBranch2RefIdeal.nD Cert.DoBranch2RefIdeal.τ).loc Cert.DoBranch2RefIdeal.main_arg1) = m ((c.tc : Thread Cert.DoBranch2Ideal.nD Cert.DoBranch2Ideal.τ).loc Cert.DoBranch2Ideal.main_arg1)) →
    ∃ (v0 : (c : Dev Cert.DoBranch2Ideal.nD) → Buf (Elt Ideal) ((c.tc : Thread Cert.DoBranch2Ideal.nD Cert.DoBranch2Ideal.τ).loc Cert.DoBranch2Ideal.main_v0)),
      θ_run (Cert.DoBranch2Ideal.defs (F := Ideal)) (onTc (τ := Cert.DoBranch2Ideal.τ) (Cert.DoBranch2Ideal.main (F := Ideal))) ⟨m, fun _ => 0, g⟩ (fun r => ∀ c : Dev Cert.DoBranch2Ideal.nD,
          r.2.mem ((c.tc : Thread Cert.DoBranch2Ideal.nD Cert.DoBranch2Ideal.τ).loc Cert.DoBranch2Ideal.main_v0) = v0 c
          ∧ r.2.mem ((c.tc : Thread Cert.DoBranch2Ideal.nD Cert.DoBranch2Ideal.τ).loc Cert.DoBranch2Ideal.main_arg0) = m ((c.tc : Thread Cert.DoBranch2Ideal.nD Cert.DoBranch2Ideal.τ).loc Cert.DoBranch2Ideal.main_arg0)
          ∧ r.2.mem ((c.tc : Thread Cert.DoBranch2Ideal.nD Cert.DoBranch2Ideal.τ).loc Cert.DoBranch2Ideal.main_arg1) = m ((c.tc : Thread Cert.DoBranch2Ideal.nD Cert.DoBranch2Ideal.τ).loc Cert.DoBranch2Ideal.main_arg1))
      ∧ θ_run (Cert.DoBranch2RefIdeal.defs (F := Ideal)) (onTc (τ := Cert.DoBranch2RefIdeal.τ) (Cert.DoBranch2RefIdeal.main (F := Ideal))) ⟨m', fun _ => 0, g'⟩ (fun r => ∀ c : Dev Cert.DoBranch2RefIdeal.nD,
          r.2.mem ((c.tc : Thread Cert.DoBranch2RefIdeal.nD Cert.DoBranch2RefIdeal.τ).loc Cert.DoBranch2RefIdeal.main_v2) = v0 c
          ∧ r.2.mem ((c.tc : Thread Cert.DoBranch2RefIdeal.nD Cert.DoBranch2RefIdeal.τ).loc Cert.DoBranch2RefIdeal.main_arg0) = m' ((c.tc : Thread Cert.DoBranch2RefIdeal.nD Cert.DoBranch2RefIdeal.τ).loc Cert.DoBranch2RefIdeal.main_arg0)
          ∧ r.2.mem ((c.tc : Thread Cert.DoBranch2RefIdeal.nD Cert.DoBranch2RefIdeal.τ).loc Cert.DoBranch2RefIdeal.main_arg1) = m' ((c.tc : Thread Cert.DoBranch2RefIdeal.nD Cert.DoBranch2RefIdeal.τ).loc Cert.DoBranch2RefIdeal.main_arg1))

def preserves_ConvBwd_ConvBwdIdeal : Prop :=
  True

def algebraic_ConvBwdIdeal_ConvBwdRefIdeal_pre_conv_finite [hConvBwdIdeal : Cert.ConvBwdIdeal.Facts] [hConvBwdRefIdeal : Cert.ConvBwdRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)) (v4 : (c : Dev Cert.ConvBwdIdeal.nD) → Buf (Elt Ideal) ((c.tc : Thread Cert.ConvBwdIdeal.nD Cert.ConvBwdIdeal.τ).loc Cert.ConvBwdIdeal.main_v0_4)) (v5 : (c : Dev Cert.ConvBwdIdeal.nD) → Buf (Elt Ideal) ((c.tc : Thread Cert.ConvBwdIdeal.nD Cert.ConvBwdIdeal.τ).loc Cert.ConvBwdIdeal.main_v0_5)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_v0_4) = v4 c
          ∧ r.2.mem ((c.tc : Thread Cert.ConvBwdIdeal.nD Cert.ConvBwdIdeal.τ).loc Cert.ConvBwdIdeal.main_v0_5) = v5 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v62) = v0 c
          ∧ r.2.mem ((c.tc : Thread Cert.ConvBwdRefIdeal.nD Cert.ConvBwdRefIdeal.τ).loc Cert.ConvBwdRefIdeal.main_v63) = v1 c
          ∧ r.2.mem ((c.tc : Thread Cert.ConvBwdRefIdeal.nD Cert.ConvBwdRefIdeal.τ).loc Cert.ConvBwdRefIdeal.main_v64) = v2 c
          ∧ r.2.mem ((c.tc : Thread Cert.ConvBwdRefIdeal.nD Cert.ConvBwdRefIdeal.τ).loc Cert.ConvBwdRefIdeal.main_v65) = v3 c
          ∧ r.2.mem ((c.tc : Thread Cert.ConvBwdRefIdeal.nD Cert.ConvBwdRefIdeal.τ).loc Cert.ConvBwdRefIdeal.main_v66) = v4 c
          ∧ r.2.mem ((c.tc : Thread Cert.ConvBwdRefIdeal.nD Cert.ConvBwdRefIdeal.τ).loc Cert.ConvBwdRefIdeal.main_v67) = v5 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v23) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_NormBwd_NormBwdIdeal : Prop :=
  True

def algebraic_NormBwdIdeal_NormBwdRefIdeal_pre_norm_finite [hNormBwdIdeal : Cert.NormBwdIdeal.Facts] [hNormBwdRefIdeal : Cert.NormBwdRefIdeal.Facts] [hPre_norm_finite : Cert.Pre_norm_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_norm_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v61) = v0 c
          ∧ r.2.mem ((c.tc : Thread Cert.NormBwdRefIdeal.nD Cert.NormBwdRefIdeal.τ).loc Cert.NormBwdRefIdeal.main_v35) = v1 c
          ∧ r.2.mem ((c.tc : Thread Cert.NormBwdRefIdeal.nD Cert.NormBwdRefIdeal.τ).loc Cert.NormBwdRefIdeal.main_v32) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0_0)) (v1 : (c : Dev Cert.NormFwdIdeal.nD) → Buf (Elt Ideal) ((c.tc : Thread Cert.NormFwdIdeal.nD Cert.NormFwdIdeal.τ).loc Cert.NormFwdIdeal.main_v0_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0_0) = v0 c
          ∧ r.2.mem ((c.tc : Thread Cert.NormFwdIdeal.nD Cert.NormFwdIdeal.τ).loc Cert.NormFwdIdeal.main_v0_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v24) = v0 c
          ∧ r.2.mem ((c.tc : Thread Cert.NormFwdRefIdeal.nD Cert.NormFwdRefIdeal.τ).loc Cert.NormFwdRefIdeal.main_v25) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)) (v6 : (c : Dev Cert.MergeBwdIdeal.nD) → Buf (Elt Ideal) ((c.tc : Thread Cert.MergeBwdIdeal.nD Cert.MergeBwdIdeal.τ).loc Cert.MergeBwdIdeal.main_v0_6)) (v7 : (c : Dev Cert.MergeBwdIdeal.nD) → Buf (Elt Ideal) ((c.tc : Thread Cert.MergeBwdIdeal.nD Cert.MergeBwdIdeal.τ).loc Cert.MergeBwdIdeal.main_v0_7)) (v8 : (c : Dev Cert.MergeBwdIdeal.nD) → Buf (Elt Ideal) ((c.tc : Thread Cert.MergeBwdIdeal.nD Cert.MergeBwdIdeal.τ).loc Cert.MergeBwdIdeal.main_v0_8)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_v0_6) = v6 c
          ∧ r.2.mem ((c.tc : Thread Cert.MergeBwdIdeal.nD Cert.MergeBwdIdeal.τ).loc Cert.MergeBwdIdeal.main_v0_7) = v7 c
          ∧ r.2.mem ((c.tc : Thread Cert.MergeBwdIdeal.nD Cert.MergeBwdIdeal.τ).loc Cert.MergeBwdIdeal.main_v0_8) = v8 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v58) = v0 c
          ∧ r.2.mem ((c.tc : Thread Cert.MergeBwdRefIdeal.nD Cert.MergeBwdRefIdeal.τ).loc Cert.MergeBwdRefIdeal.main_v59) = v1 c
          ∧ r.2.mem ((c.tc : Thread Cert.MergeBwdRefIdeal.nD Cert.MergeBwdRefIdeal.τ).loc Cert.MergeBwdRefIdeal.main_v60) = v2 c
          ∧ r.2.mem ((c.tc : Thread Cert.MergeBwdRefIdeal.nD Cert.MergeBwdRefIdeal.τ).loc Cert.MergeBwdRefIdeal.main_v61) = v3 c
          ∧ r.2.mem ((c.tc : Thread Cert.MergeBwdRefIdeal.nD Cert.MergeBwdRefIdeal.τ).loc Cert.MergeBwdRefIdeal.main_v62) = v4 c
          ∧ r.2.mem ((c.tc : Thread Cert.MergeBwdRefIdeal.nD Cert.MergeBwdRefIdeal.τ).loc Cert.MergeBwdRefIdeal.main_v63) = v5 c
          ∧ r.2.mem ((c.tc : Thread Cert.MergeBwdRefIdeal.nD Cert.MergeBwdRefIdeal.τ).loc Cert.MergeBwdRefIdeal.main_v57) = v6 c
          ∧ r.2.mem ((c.tc : Thread Cert.MergeBwdRefIdeal.nD Cert.MergeBwdRefIdeal.τ).loc Cert.MergeBwdRefIdeal.main_v52) = v7 c
          ∧ r.2.mem ((c.tc : Thread Cert.MergeBwdRefIdeal.nD Cert.MergeBwdRefIdeal.τ).loc Cert.MergeBwdRefIdeal.main_v47) = v8 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v32) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_CombBwd_CombBwdIdeal : Prop :=
  True

def algebraic_CombBwdIdeal_CombBwdRefIdeal_pre_combine_bwd_finite [hCombBwdIdeal : Cert.CombBwdIdeal.Facts] [hCombBwdRefIdeal : Cert.CombBwdRefIdeal.Facts] [hPre_combine_bwd_finite : Cert.Pre_combine_bwd_finite.Facts] : Prop :=
  ∀ (m : (ℓ : Loc Cert.CombBwdIdeal.nD Cert.CombBwdIdeal.τ Cert.CombBwdIdeal.sig) → Buf (Elt Ideal) ℓ) (g : Dev Cert.CombBwdIdeal.nD → PrngReg)
    (m' : (ℓ : Loc Cert.CombBwdRefIdeal.nD Cert.CombBwdRefIdeal.τ Cert.CombBwdRefIdeal.sig) → Buf (Elt Ideal) ℓ) (g' : Dev Cert.CombBwdRefIdeal.nD → PrngReg), Pre_CombBwdIdeal_combine_bwd_finite m →
    (∀ c : Dev Cert.CombBwdIdeal.nD,
      m' ((c.tc : Thread Cert.CombBwdRefIdeal.nD Cert.CombBwdRefIdeal.τ).loc Cert.CombBwdRefIdeal.main_arg0) = m ((c.tc : Thread Cert.CombBwdIdeal.nD Cert.CombBwdIdeal.τ).loc Cert.CombBwdIdeal.main_arg0)
      ∧ m' ((c.tc : Thread Cert.CombBwdRefIdeal.nD Cert.CombBwdRefIdeal.τ).loc Cert.CombBwdRefIdeal.main_arg1) = m ((c.tc : Thread Cert.CombBwdIdeal.nD Cert.CombBwdIdeal.τ).loc Cert.CombBwdIdeal.main_arg1)
      ∧ m' ((c.tc : Thread Cert.CombBwdRefIdeal.nD Cert.CombBwdRefIdeal.τ).loc Cert.CombBwdRefIdeal.main_arg2) = m ((c.tc : Thread Cert.CombBwdIdeal.nD Cert.CombBwdIdeal.τ).loc Cert.CombBwdIdeal.main_arg2)
      ∧ m' ((c.tc : Thread Cert.CombBwdRefIdeal.nD Cert.CombBwdRefIdeal.τ).loc Cert.CombBwdRefIdeal.main_arg3) = m ((c.tc : Thread Cert.CombBwdIdeal.nD Cert.CombBwdIdeal.τ).loc Cert.CombBwdIdeal.main_arg3)
      ∧ m' ((c.tc : Thread Cert.CombBwdRefIdeal.nD Cert.CombBwdRefIdeal.τ).loc Cert.CombBwdRefIdeal.main_arg4) = m ((c.tc : Thread Cert.CombBwdIdeal.nD Cert.CombBwdIdeal.τ).loc Cert.CombBwdIdeal.main_arg4)
      ∧ m' ((c.tc : Thread Cert.CombBwdRefIdeal.nD Cert.CombBwdRefIdeal.τ).loc Cert.CombBwdRefIdeal.main_arg5) = m ((c.tc : Thread Cert.CombBwdIdeal.nD Cert.CombBwdIdeal.τ).loc Cert.CombBwdIdeal.main_arg5)
      ∧ m' ((c.tc : Thread Cert.CombBwdRefIdeal.nD Cert.CombBwdRefIdeal.τ).loc Cert.CombBwdRefIdeal.main_arg6) = m ((c.tc : Thread Cert.CombBwdIdeal.nD Cert.CombBwdIdeal.τ).loc Cert.CombBwdIdeal.main_arg6)) →
    ∃ (v0 : (c : Dev Cert.CombBwdIdeal.nD) → Buf (Elt Ideal) ((c.tc : Thread Cert.CombBwdIdeal.nD Cert.CombBwdIdeal.τ).loc Cert.CombBwdIdeal.main_v0_0)) (v1 : (c : Dev Cert.CombBwdIdeal.nD) → Buf (Elt Ideal) ((c.tc : Thread Cert.CombBwdIdeal.nD Cert.CombBwdIdeal.τ).loc Cert.CombBwdIdeal.main_v0_1)) (v2 : (c : Dev Cert.CombBwdIdeal.nD) → Buf (Elt Ideal) ((c.tc : Thread Cert.CombBwdIdeal.nD Cert.CombBwdIdeal.τ).loc Cert.CombBwdIdeal.main_v0_2)) (v3 : (c : Dev Cert.CombBwdIdeal.nD) → Buf (Elt Ideal) ((c.tc : Thread Cert.CombBwdIdeal.nD Cert.CombBwdIdeal.τ).loc Cert.CombBwdIdeal.main_v0_3)) (v4 : (c : Dev Cert.CombBwdIdeal.nD) → Buf (Elt Ideal) ((c.tc : Thread Cert.CombBwdIdeal.nD Cert.CombBwdIdeal.τ).loc Cert.CombBwdIdeal.main_v0_4)) (v5 : (c : Dev Cert.CombBwdIdeal.nD) → Buf (Elt Ideal) ((c.tc : Thread Cert.CombBwdIdeal.nD Cert.CombBwdIdeal.τ).loc Cert.CombBwdIdeal.main_v0_5)),
      θ_run (Cert.CombBwdIdeal.defs (F := Ideal)) (onTc (τ := Cert.CombBwdIdeal.τ) (Cert.CombBwdIdeal.main (F := Ideal))) ⟨m, fun _ => 0, g⟩ (fun r => ∀ c : Dev Cert.CombBwdIdeal.nD,
          r.2.mem ((c.tc : Thread Cert.CombBwdIdeal.nD Cert.CombBwdIdeal.τ).loc Cert.CombBwdIdeal.main_v0_0) = v0 c
          ∧ r.2.mem ((c.tc : Thread Cert.CombBwdIdeal.nD Cert.CombBwdIdeal.τ).loc Cert.CombBwdIdeal.main_v0_1) = v1 c
          ∧ r.2.mem ((c.tc : Thread Cert.CombBwdIdeal.nD Cert.CombBwdIdeal.τ).loc Cert.CombBwdIdeal.main_v0_2) = v2 c
          ∧ r.2.mem ((c.tc : Thread Cert.CombBwdIdeal.nD Cert.CombBwdIdeal.τ).loc Cert.CombBwdIdeal.main_v0_3) = v3 c
          ∧ r.2.mem ((c.tc : Thread Cert.CombBwdIdeal.nD Cert.CombBwdIdeal.τ).loc Cert.CombBwdIdeal.main_v0_4) = v4 c
          ∧ r.2.mem ((c.tc : Thread Cert.CombBwdIdeal.nD Cert.CombBwdIdeal.τ).loc Cert.CombBwdIdeal.main_v0_5) = v5 c
          ∧ r.2.mem ((c.tc : Thread Cert.CombBwdIdeal.nD Cert.CombBwdIdeal.τ).loc Cert.CombBwdIdeal.main_arg0) = m ((c.tc : Thread Cert.CombBwdIdeal.nD Cert.CombBwdIdeal.τ).loc Cert.CombBwdIdeal.main_arg0)
          ∧ r.2.mem ((c.tc : Thread Cert.CombBwdIdeal.nD Cert.CombBwdIdeal.τ).loc Cert.CombBwdIdeal.main_arg1) = m ((c.tc : Thread Cert.CombBwdIdeal.nD Cert.CombBwdIdeal.τ).loc Cert.CombBwdIdeal.main_arg1)
          ∧ r.2.mem ((c.tc : Thread Cert.CombBwdIdeal.nD Cert.CombBwdIdeal.τ).loc Cert.CombBwdIdeal.main_arg2) = m ((c.tc : Thread Cert.CombBwdIdeal.nD Cert.CombBwdIdeal.τ).loc Cert.CombBwdIdeal.main_arg2)
          ∧ r.2.mem ((c.tc : Thread Cert.CombBwdIdeal.nD Cert.CombBwdIdeal.τ).loc Cert.CombBwdIdeal.main_arg3) = m ((c.tc : Thread Cert.CombBwdIdeal.nD Cert.CombBwdIdeal.τ).loc Cert.CombBwdIdeal.main_arg3)
          ∧ r.2.mem ((c.tc : Thread Cert.CombBwdIdeal.nD Cert.CombBwdIdeal.τ).loc Cert.CombBwdIdeal.main_arg4) = m ((c.tc : Thread Cert.CombBwdIdeal.nD Cert.CombBwdIdeal.τ).loc Cert.CombBwdIdeal.main_arg4)
          ∧ r.2.mem ((c.tc : Thread Cert.CombBwdIdeal.nD Cert.CombBwdIdeal.τ).loc Cert.CombBwdIdeal.main_arg5) = m ((c.tc : Thread Cert.CombBwdIdeal.nD Cert.CombBwdIdeal.τ).loc Cert.CombBwdIdeal.main_arg5)
          ∧ r.2.mem ((c.tc : Thread Cert.CombBwdIdeal.nD Cert.CombBwdIdeal.τ).loc Cert.CombBwdIdeal.main_arg6) = m ((c.tc : Thread Cert.CombBwdIdeal.nD Cert.CombBwdIdeal.τ).loc Cert.CombBwdIdeal.main_arg6))
      ∧ θ_run (Cert.CombBwdRefIdeal.defs (F := Ideal)) (onTc (τ := Cert.CombBwdRefIdeal.τ) (Cert.CombBwdRefIdeal.main (F := Ideal))) ⟨m', fun _ => 0, g'⟩ (fun r => ∀ c : Dev Cert.CombBwdRefIdeal.nD,
          r.2.mem ((c.tc : Thread Cert.CombBwdRefIdeal.nD Cert.CombBwdRefIdeal.τ).loc Cert.CombBwdRefIdeal.main_v50) = v0 c
          ∧ r.2.mem ((c.tc : Thread Cert.CombBwdRefIdeal.nD Cert.CombBwdRefIdeal.τ).loc Cert.CombBwdRefIdeal.main_v51) = v1 c
          ∧ r.2.mem ((c.tc : Thread Cert.CombBwdRefIdeal.nD Cert.CombBwdRefIdeal.τ).loc Cert.CombBwdRefIdeal.main_v52) = v2 c
          ∧ r.2.mem ((c.tc : Thread Cert.CombBwdRefIdeal.nD Cert.CombBwdRefIdeal.τ).loc Cert.CombBwdRefIdeal.main_v49) = v3 c
          ∧ r.2.mem ((c.tc : Thread Cert.CombBwdRefIdeal.nD Cert.CombBwdRefIdeal.τ).loc Cert.CombBwdRefIdeal.main_v48) = v4 c
          ∧ r.2.mem ((c.tc : Thread Cert.CombBwdRefIdeal.nD Cert.CombBwdRefIdeal.τ).loc Cert.CombBwdRefIdeal.main_v47) = v5 c
          ∧ r.2.mem ((c.tc : Thread Cert.CombBwdRefIdeal.nD Cert.CombBwdRefIdeal.τ).loc Cert.CombBwdRefIdeal.main_arg0) = m' ((c.tc : Thread Cert.CombBwdRefIdeal.nD Cert.CombBwdRefIdeal.τ).loc Cert.CombBwdRefIdeal.main_arg0)
          ∧ r.2.mem ((c.tc : Thread Cert.CombBwdRefIdeal.nD Cert.CombBwdRefIdeal.τ).loc Cert.CombBwdRefIdeal.main_arg1) = m' ((c.tc : Thread Cert.CombBwdRefIdeal.nD Cert.CombBwdRefIdeal.τ).loc Cert.CombBwdRefIdeal.main_arg1)
          ∧ r.2.mem ((c.tc : Thread Cert.CombBwdRefIdeal.nD Cert.CombBwdRefIdeal.τ).loc Cert.CombBwdRefIdeal.main_arg2) = m' ((c.tc : Thread Cert.CombBwdRefIdeal.nD Cert.CombBwdRefIdeal.τ).loc Cert.CombBwdRefIdeal.main_arg2)
          ∧ r.2.mem ((c.tc : Thread Cert.CombBwdRefIdeal.nD Cert.CombBwdRefIdeal.τ).loc Cert.CombBwdRefIdeal.main_arg3) = m' ((c.tc : Thread Cert.CombBwdRefIdeal.nD Cert.CombBwdRefIdeal.τ).loc Cert.CombBwdRefIdeal.main_arg3)
          ∧ r.2.mem ((c.tc : Thread Cert.CombBwdRefIdeal.nD Cert.CombBwdRefIdeal.τ).loc Cert.CombBwdRefIdeal.main_arg4) = m' ((c.tc : Thread Cert.CombBwdRefIdeal.nD Cert.CombBwdRefIdeal.τ).loc Cert.CombBwdRefIdeal.main_arg4)
          ∧ r.2.mem ((c.tc : Thread Cert.CombBwdRefIdeal.nD Cert.CombBwdRefIdeal.τ).loc Cert.CombBwdRefIdeal.main_arg5) = m' ((c.tc : Thread Cert.CombBwdRefIdeal.nD Cert.CombBwdRefIdeal.τ).loc Cert.CombBwdRefIdeal.main_arg5)
          ∧ r.2.mem ((c.tc : Thread Cert.CombBwdRefIdeal.nD Cert.CombBwdRefIdeal.τ).loc Cert.CombBwdRefIdeal.main_arg6) = m' ((c.tc : Thread Cert.CombBwdRefIdeal.nD Cert.CombBwdRefIdeal.τ).loc Cert.CombBwdRefIdeal.main_arg6))

def preserves_CombFwd_CombFwdIdeal : Prop :=
  True

def algebraic_CombFwdIdeal_CombFwdRefIdeal_pre_combine_finite [hCombFwdIdeal : Cert.CombFwdIdeal.Facts] [hCombFwdRefIdeal : Cert.CombFwdRefIdeal.Facts] [hPre_combine_finite : Cert.Pre_combine_finite.Facts] : Prop :=
  ∀ (m : (ℓ : Loc Cert.CombFwdIdeal.nD Cert.CombFwdIdeal.τ Cert.CombFwdIdeal.sig) → Buf (Elt Ideal) ℓ) (g : Dev Cert.CombFwdIdeal.nD → PrngReg)
    (m' : (ℓ : Loc Cert.CombFwdRefIdeal.nD Cert.CombFwdRefIdeal.τ Cert.CombFwdRefIdeal.sig) → Buf (Elt Ideal) ℓ) (g' : Dev Cert.CombFwdRefIdeal.nD → PrngReg), Pre_CombFwdIdeal_combine_finite m →
    (∀ c : Dev Cert.CombFwdIdeal.nD,
      m' ((c.tc : Thread Cert.CombFwdRefIdeal.nD Cert.CombFwdRefIdeal.τ).loc Cert.CombFwdRefIdeal.main_arg0) = m ((c.tc : Thread Cert.CombFwdIdeal.nD Cert.CombFwdIdeal.τ).loc Cert.CombFwdIdeal.main_arg0)
      ∧ m' ((c.tc : Thread Cert.CombFwdRefIdeal.nD Cert.CombFwdRefIdeal.τ).loc Cert.CombFwdRefIdeal.main_arg1) = m ((c.tc : Thread Cert.CombFwdIdeal.nD Cert.CombFwdIdeal.τ).loc Cert.CombFwdIdeal.main_arg1)
      ∧ m' ((c.tc : Thread Cert.CombFwdRefIdeal.nD Cert.CombFwdRefIdeal.τ).loc Cert.CombFwdRefIdeal.main_arg2) = m ((c.tc : Thread Cert.CombFwdIdeal.nD Cert.CombFwdIdeal.τ).loc Cert.CombFwdIdeal.main_arg2)
      ∧ m' ((c.tc : Thread Cert.CombFwdRefIdeal.nD Cert.CombFwdRefIdeal.τ).loc Cert.CombFwdRefIdeal.main_arg3) = m ((c.tc : Thread Cert.CombFwdIdeal.nD Cert.CombFwdIdeal.τ).loc Cert.CombFwdIdeal.main_arg3)
      ∧ m' ((c.tc : Thread Cert.CombFwdRefIdeal.nD Cert.CombFwdRefIdeal.τ).loc Cert.CombFwdRefIdeal.main_arg4) = m ((c.tc : Thread Cert.CombFwdIdeal.nD Cert.CombFwdIdeal.τ).loc Cert.CombFwdIdeal.main_arg4)
      ∧ m' ((c.tc : Thread Cert.CombFwdRefIdeal.nD Cert.CombFwdRefIdeal.τ).loc Cert.CombFwdRefIdeal.main_arg5) = m ((c.tc : Thread Cert.CombFwdIdeal.nD Cert.CombFwdIdeal.τ).loc Cert.CombFwdIdeal.main_arg5)) →
    ∃ (v0 : (c : Dev Cert.CombFwdIdeal.nD) → Buf (Elt Ideal) ((c.tc : Thread Cert.CombFwdIdeal.nD Cert.CombFwdIdeal.τ).loc Cert.CombFwdIdeal.main_v0)),
      θ_run (Cert.CombFwdIdeal.defs (F := Ideal)) (onTc (τ := Cert.CombFwdIdeal.τ) (Cert.CombFwdIdeal.main (F := Ideal))) ⟨m, fun _ => 0, g⟩ (fun r => ∀ c : Dev Cert.CombFwdIdeal.nD,
          r.2.mem ((c.tc : Thread Cert.CombFwdIdeal.nD Cert.CombFwdIdeal.τ).loc Cert.CombFwdIdeal.main_v0) = v0 c
          ∧ r.2.mem ((c.tc : Thread Cert.CombFwdIdeal.nD Cert.CombFwdIdeal.τ).loc Cert.CombFwdIdeal.main_arg0) = m ((c.tc : Thread Cert.CombFwdIdeal.nD Cert.CombFwdIdeal.τ).loc Cert.CombFwdIdeal.main_arg0)
          ∧ r.2.mem ((c.tc : Thread Cert.CombFwdIdeal.nD Cert.CombFwdIdeal.τ).loc Cert.CombFwdIdeal.main_arg1) = m ((c.tc : Thread Cert.CombFwdIdeal.nD Cert.CombFwdIdeal.τ).loc Cert.CombFwdIdeal.main_arg1)
          ∧ r.2.mem ((c.tc : Thread Cert.CombFwdIdeal.nD Cert.CombFwdIdeal.τ).loc Cert.CombFwdIdeal.main_arg2) = m ((c.tc : Thread Cert.CombFwdIdeal.nD Cert.CombFwdIdeal.τ).loc Cert.CombFwdIdeal.main_arg2)
          ∧ r.2.mem ((c.tc : Thread Cert.CombFwdIdeal.nD Cert.CombFwdIdeal.τ).loc Cert.CombFwdIdeal.main_arg3) = m ((c.tc : Thread Cert.CombFwdIdeal.nD Cert.CombFwdIdeal.τ).loc Cert.CombFwdIdeal.main_arg3)
          ∧ r.2.mem ((c.tc : Thread Cert.CombFwdIdeal.nD Cert.CombFwdIdeal.τ).loc Cert.CombFwdIdeal.main_arg4) = m ((c.tc : Thread Cert.CombFwdIdeal.nD Cert.CombFwdIdeal.τ).loc Cert.CombFwdIdeal.main_arg4)
          ∧ r.2.mem ((c.tc : Thread Cert.CombFwdIdeal.nD Cert.CombFwdIdeal.τ).loc Cert.CombFwdIdeal.main_arg5) = m ((c.tc : Thread Cert.CombFwdIdeal.nD Cert.CombFwdIdeal.τ).loc Cert.CombFwdIdeal.main_arg5))
      ∧ θ_run (Cert.CombFwdRefIdeal.defs (F := Ideal)) (onTc (τ := Cert.CombFwdRefIdeal.τ) (Cert.CombFwdRefIdeal.main (F := Ideal))) ⟨m', fun _ => 0, g'⟩ (fun r => ∀ c : Dev Cert.CombFwdRefIdeal.nD,
          r.2.mem ((c.tc : Thread Cert.CombFwdRefIdeal.nD Cert.CombFwdRefIdeal.τ).loc Cert.CombFwdRefIdeal.main_v13) = v0 c
          ∧ r.2.mem ((c.tc : Thread Cert.CombFwdRefIdeal.nD Cert.CombFwdRefIdeal.τ).loc Cert.CombFwdRefIdeal.main_arg0) = m' ((c.tc : Thread Cert.CombFwdRefIdeal.nD Cert.CombFwdRefIdeal.τ).loc Cert.CombFwdRefIdeal.main_arg0)
          ∧ r.2.mem ((c.tc : Thread Cert.CombFwdRefIdeal.nD Cert.CombFwdRefIdeal.τ).loc Cert.CombFwdRefIdeal.main_arg1) = m' ((c.tc : Thread Cert.CombFwdRefIdeal.nD Cert.CombFwdRefIdeal.τ).loc Cert.CombFwdRefIdeal.main_arg1)
          ∧ r.2.mem ((c.tc : Thread Cert.CombFwdRefIdeal.nD Cert.CombFwdRefIdeal.τ).loc Cert.CombFwdRefIdeal.main_arg2) = m' ((c.tc : Thread Cert.CombFwdRefIdeal.nD Cert.CombFwdRefIdeal.τ).loc Cert.CombFwdRefIdeal.main_arg2)
          ∧ r.2.mem ((c.tc : Thread Cert.CombFwdRefIdeal.nD Cert.CombFwdRefIdeal.τ).loc Cert.CombFwdRefIdeal.main_arg3) = m' ((c.tc : Thread Cert.CombFwdRefIdeal.nD Cert.CombFwdRefIdeal.τ).loc Cert.CombFwdRefIdeal.main_arg3)
          ∧ r.2.mem ((c.tc : Thread Cert.CombFwdRefIdeal.nD Cert.CombFwdRefIdeal.τ).loc Cert.CombFwdRefIdeal.main_arg4) = m' ((c.tc : Thread Cert.CombFwdRefIdeal.nD Cert.CombFwdRefIdeal.τ).loc Cert.CombFwdRefIdeal.main_arg4)
          ∧ r.2.mem ((c.tc : Thread Cert.CombFwdRefIdeal.nD Cert.CombFwdRefIdeal.τ).loc Cert.CombFwdRefIdeal.main_arg5) = m' ((c.tc : Thread Cert.CombFwdRefIdeal.nD Cert.CombFwdRefIdeal.τ).loc Cert.CombFwdRefIdeal.main_arg5))

def Claim : Prop :=
  ∃ (hKernel : Cert.Kernel.Facts) (hKernelIdeal : Cert.KernelIdeal.Facts) (hReferenceIdeal : Cert.ReferenceIdeal.Facts) (hAttention : Cert.Attention.Facts) (hAttentionIdeal : Cert.AttentionIdeal.Facts) (hAttentionRefIdeal : Cert.AttentionRefIdeal.Facts) (hDx : Cert.Dx.Facts) (hDxIdeal : Cert.DxIdeal.Facts) (hDxRefIdeal : Cert.DxRefIdeal.Facts) (hDx1 : Cert.Dx1.Facts) (hDx1Ideal : Cert.Dx1Ideal.Facts) (hDx1RefIdeal : Cert.Dx1RefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hDh : Cert.Dh.Facts) (hDhIdeal : Cert.DhIdeal.Facts) (hDhRefIdeal : Cert.DhRefIdeal.Facts) (hProjAttn : Cert.ProjAttn.Facts) (hProjAttnIdeal : Cert.ProjAttnIdeal.Facts) (hProjAttnRefIdeal : Cert.ProjAttnRefIdeal.Facts) (hProjRest : Cert.ProjRest.Facts) (hProjRestIdeal : Cert.ProjRestIdeal.Facts) (hProjRestRefIdeal : Cert.ProjRestRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hDwOut : Cert.DwOut.Facts) (hDwOutIdeal : Cert.DwOutIdeal.Facts) (hDwOutRefIdeal : Cert.DwOutRefIdeal.Facts) (hDmerged : Cert.Dmerged.Facts) (hDmergedIdeal : Cert.DmergedIdeal.Facts) (hDmergedRefIdeal : Cert.DmergedRefIdeal.Facts) (hBranch0 : Cert.Branch0.Facts) (hBranch0Ideal : Cert.Branch0Ideal.Facts) (hBranch0RefIdeal : Cert.Branch0RefIdeal.Facts) (hBranch1 : Cert.Branch1.Facts) (hBranch1Ideal : Cert.Branch1Ideal.Facts) (hBranch1RefIdeal : Cert.Branch1RefIdeal.Facts) (hBranch2 : Cert.Branch2.Facts) (hBranch2Ideal : Cert.Branch2Ideal.Facts) (hBranch2RefIdeal : Cert.Branch2RefIdeal.Facts) (hDwBranch0 : Cert.DwBranch0.Facts) (hDwBranch0Ideal : Cert.DwBranch0Ideal.Facts) (hDwBranch0RefIdeal : Cert.DwBranch0RefIdeal.Facts) (hDwBranch1 : Cert.DwBranch1.Facts) (hDwBranch1Ideal : Cert.DwBranch1Ideal.Facts) (hDwBranch1RefIdeal : Cert.DwBranch1RefIdeal.Facts) (hDwBranch2 : Cert.DwBranch2.Facts) (hDwBranch2Ideal : Cert.DwBranch2Ideal.Facts) (hDwBranch2RefIdeal : Cert.DwBranch2RefIdeal.Facts) (hDoBranch0 : Cert.DoBranch0.Facts) (hDoBranch0Ideal : Cert.DoBranch0Ideal.Facts) (hDoBranch0RefIdeal : Cert.DoBranch0RefIdeal.Facts) (hDoBranch2 : Cert.DoBranch2.Facts) (hDoBranch2Ideal : Cert.DoBranch2Ideal.Facts) (hDoBranch2RefIdeal : Cert.DoBranch2RefIdeal.Facts) (hConvBwd : Cert.ConvBwd.Facts) (hConvBwdIdeal : Cert.ConvBwdIdeal.Facts) (hConvBwdRefIdeal : Cert.ConvBwdRefIdeal.Facts) (hConvFwd : Cert.ConvFwd.Facts) (hConvFwdIdeal : Cert.ConvFwdIdeal.Facts) (hConvFwdRefIdeal : Cert.ConvFwdRefIdeal.Facts) (hNormBwd : Cert.NormBwd.Facts) (hNormBwdIdeal : Cert.NormBwdIdeal.Facts) (hNormBwdRefIdeal : Cert.NormBwdRefIdeal.Facts) (hNormFwd : Cert.NormFwd.Facts) (hNormFwdIdeal : Cert.NormFwdIdeal.Facts) (hNormFwdRefIdeal : Cert.NormFwdRefIdeal.Facts) (hMergeBwd : Cert.MergeBwd.Facts) (hMergeBwdIdeal : Cert.MergeBwdIdeal.Facts) (hMergeBwdRefIdeal : Cert.MergeBwdRefIdeal.Facts) (hMergeFwd : Cert.MergeFwd.Facts) (hMergeFwdIdeal : Cert.MergeFwdIdeal.Facts) (hMergeFwdRefIdeal : Cert.MergeFwdRefIdeal.Facts) (hCombBwd : Cert.CombBwd.Facts) (hCombBwdIdeal : Cert.CombBwdIdeal.Facts) (hCombBwdRefIdeal : Cert.CombBwdRefIdeal.Facts) (hCombFwd : Cert.CombFwd.Facts) (hCombFwdIdeal : Cert.CombFwdIdeal.Facts) (hCombFwdRefIdeal : Cert.CombFwdRefIdeal.Facts) (hPre_finite : Cert.Pre_finite.Facts) (hPre_attn_finite : Cert.Pre_attn_finite.Facts) (hPre_conv_finite : Cert.Pre_conv_finite.Facts) (hPre_norm_finite : Cert.Pre_norm_finite.Facts) (hPre_combine_bwd_finite : Cert.Pre_combine_bwd_finite.Facts) (hPre_combine_finite : Cert.Pre_combine_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Attention (hAttention := hAttention)
    ∧ quiescent_AttentionIdeal (hAttentionIdeal := hAttentionIdeal)
    ∧ quiescent_AttentionIdeal_pre_attn_finite (hAttentionIdeal := hAttentionIdeal) (hPre_attn_finite := hPre_attn_finite)
    ∧ quiescent_AttentionRefIdeal (hAttentionRefIdeal := hAttentionRefIdeal)
    ∧ quiescent_AttentionRefIdeal_pre_attn_finite (hAttentionRefIdeal := hAttentionRefIdeal) (hPre_attn_finite := hPre_attn_finite)
    ∧ quiescent_Dx (hDx := hDx)
    ∧ quiescent_DxIdeal (hDxIdeal := hDxIdeal)
    ∧ quiescent_DxRefIdeal (hDxRefIdeal := hDxRefIdeal)
    ∧ quiescent_Dx1 (hDx1 := hDx1)
    ∧ quiescent_Dx1Ideal (hDx1Ideal := hDx1Ideal)
    ∧ quiescent_Dx1RefIdeal (hDx1RefIdeal := hDx1RefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Dh (hDh := hDh)
    ∧ quiescent_DhIdeal (hDhIdeal := hDhIdeal)
    ∧ quiescent_DhRefIdeal (hDhRefIdeal := hDhRefIdeal)
    ∧ quiescent_ProjAttn (hProjAttn := hProjAttn)
    ∧ quiescent_ProjAttnIdeal (hProjAttnIdeal := hProjAttnIdeal)
    ∧ quiescent_ProjAttnRefIdeal (hProjAttnRefIdeal := hProjAttnRefIdeal)
    ∧ quiescent_ProjRest (hProjRest := hProjRest)
    ∧ quiescent_ProjRestIdeal (hProjRestIdeal := hProjRestIdeal)
    ∧ quiescent_ProjRestRefIdeal (hProjRestRefIdeal := hProjRestRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_Branch0 (hBranch0 := hBranch0)
    ∧ quiescent_Branch0Ideal (hBranch0Ideal := hBranch0Ideal)
    ∧ quiescent_Branch0RefIdeal (hBranch0RefIdeal := hBranch0RefIdeal)
    ∧ quiescent_Branch1 (hBranch1 := hBranch1)
    ∧ quiescent_Branch1Ideal (hBranch1Ideal := hBranch1Ideal)
    ∧ quiescent_Branch1RefIdeal (hBranch1RefIdeal := hBranch1RefIdeal)
    ∧ quiescent_Branch2 (hBranch2 := hBranch2)
    ∧ quiescent_Branch2Ideal (hBranch2Ideal := hBranch2Ideal)
    ∧ quiescent_Branch2RefIdeal (hBranch2RefIdeal := hBranch2RefIdeal)
    ∧ quiescent_DwBranch0 (hDwBranch0 := hDwBranch0)
    ∧ quiescent_DwBranch0Ideal (hDwBranch0Ideal := hDwBranch0Ideal)
    ∧ quiescent_DwBranch0RefIdeal (hDwBranch0RefIdeal := hDwBranch0RefIdeal)
    ∧ quiescent_DwBranch1 (hDwBranch1 := hDwBranch1)
    ∧ quiescent_DwBranch1Ideal (hDwBranch1Ideal := hDwBranch1Ideal)
    ∧ quiescent_DwBranch1RefIdeal (hDwBranch1RefIdeal := hDwBranch1RefIdeal)
    ∧ quiescent_DwBranch2 (hDwBranch2 := hDwBranch2)
    ∧ quiescent_DwBranch2Ideal (hDwBranch2Ideal := hDwBranch2Ideal)
    ∧ quiescent_DwBranch2RefIdeal (hDwBranch2RefIdeal := hDwBranch2RefIdeal)
    ∧ quiescent_DoBranch0 (hDoBranch0 := hDoBranch0)
    ∧ quiescent_DoBranch0Ideal (hDoBranch0Ideal := hDoBranch0Ideal)
    ∧ quiescent_DoBranch0RefIdeal (hDoBranch0RefIdeal := hDoBranch0RefIdeal)
    ∧ quiescent_DoBranch2 (hDoBranch2 := hDoBranch2)
    ∧ quiescent_DoBranch2Ideal (hDoBranch2Ideal := hDoBranch2Ideal)
    ∧ quiescent_DoBranch2RefIdeal (hDoBranch2RefIdeal := hDoBranch2RefIdeal)
    ∧ quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvBwdRefIdeal (hConvBwdRefIdeal := hConvBwdRefIdeal)
    ∧ quiescent_ConvBwdRefIdeal_pre_conv_finite (hConvBwdRefIdeal := hConvBwdRefIdeal) (hPre_conv_finite := hPre_conv_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_NormBwd (hNormBwd := hNormBwd)
    ∧ quiescent_NormBwdIdeal (hNormBwdIdeal := hNormBwdIdeal)
    ∧ quiescent_NormBwdIdeal_pre_norm_finite (hNormBwdIdeal := hNormBwdIdeal) (hPre_norm_finite := hPre_norm_finite)
    ∧ quiescent_NormBwdRefIdeal (hNormBwdRefIdeal := hNormBwdRefIdeal)
    ∧ quiescent_NormBwdRefIdeal_pre_norm_finite (hNormBwdRefIdeal := hNormBwdRefIdeal) (hPre_norm_finite := hPre_norm_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_CombBwd (hCombBwd := hCombBwd)
    ∧ quiescent_CombBwdIdeal (hCombBwdIdeal := hCombBwdIdeal)
    ∧ quiescent_CombBwdIdeal_pre_combine_bwd_finite (hCombBwdIdeal := hCombBwdIdeal) (hPre_combine_bwd_finite := hPre_combine_bwd_finite)
    ∧ quiescent_CombBwdRefIdeal (hCombBwdRefIdeal := hCombBwdRefIdeal)
    ∧ quiescent_CombBwdRefIdeal_pre_combine_bwd_finite (hCombBwdRefIdeal := hCombBwdRefIdeal) (hPre_combine_bwd_finite := hPre_combine_bwd_finite)
    ∧ quiescent_CombFwd (hCombFwd := hCombFwd)
    ∧ quiescent_CombFwdIdeal (hCombFwdIdeal := hCombFwdIdeal)
    ∧ quiescent_CombFwdIdeal_pre_combine_finite (hCombFwdIdeal := hCombFwdIdeal) (hPre_combine_finite := hPre_combine_finite)
    ∧ quiescent_CombFwdRefIdeal (hCombFwdRefIdeal := hCombFwdRefIdeal)
    ∧ quiescent_CombFwdRefIdeal_pre_combine_finite (hCombFwdRefIdeal := hCombFwdRefIdeal) (hPre_combine_finite := hPre_combine_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Attention_AttentionIdeal
    ∧ algebraic_AttentionIdeal_AttentionRefIdeal_pre_attn_finite (hAttentionIdeal := hAttentionIdeal) (hAttentionRefIdeal := hAttentionRefIdeal) (hPre_attn_finite := hPre_attn_finite)
    ∧ preserves_Dx_DxIdeal
    ∧ algebraic_DxIdeal_DxRefIdeal (hDxIdeal := hDxIdeal) (hDxRefIdeal := hDxRefIdeal)
    ∧ preserves_Dx1_Dx1Ideal
    ∧ algebraic_Dx1Ideal_Dx1RefIdeal (hDx1Ideal := hDx1Ideal) (hDx1RefIdeal := hDx1RefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_Dh_DhIdeal
    ∧ algebraic_DhIdeal_DhRefIdeal (hDhIdeal := hDhIdeal) (hDhRefIdeal := hDhRefIdeal)
    ∧ preserves_ProjAttn_ProjAttnIdeal
    ∧ algebraic_ProjAttnIdeal_ProjAttnRefIdeal (hProjAttnIdeal := hProjAttnIdeal) (hProjAttnRefIdeal := hProjAttnRefIdeal)
    ∧ preserves_ProjRest_ProjRestIdeal
    ∧ algebraic_ProjRestIdeal_ProjRestRefIdeal (hProjRestIdeal := hProjRestIdeal) (hProjRestRefIdeal := hProjRestRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_DwOut_DwOutIdeal
    ∧ algebraic_DwOutIdeal_DwOutRefIdeal (hDwOutIdeal := hDwOutIdeal) (hDwOutRefIdeal := hDwOutRefIdeal)
    ∧ preserves_Dmerged_DmergedIdeal
    ∧ algebraic_DmergedIdeal_DmergedRefIdeal (hDmergedIdeal := hDmergedIdeal) (hDmergedRefIdeal := hDmergedRefIdeal)
    ∧ preserves_Branch0_Branch0Ideal
    ∧ algebraic_Branch0Ideal_Branch0RefIdeal (hBranch0Ideal := hBranch0Ideal) (hBranch0RefIdeal := hBranch0RefIdeal)
    ∧ preserves_Branch1_Branch1Ideal
    ∧ algebraic_Branch1Ideal_Branch1RefIdeal (hBranch1Ideal := hBranch1Ideal) (hBranch1RefIdeal := hBranch1RefIdeal)
    ∧ preserves_Branch2_Branch2Ideal
    ∧ algebraic_Branch2Ideal_Branch2RefIdeal (hBranch2Ideal := hBranch2Ideal) (hBranch2RefIdeal := hBranch2RefIdeal)
    ∧ preserves_DwBranch0_DwBranch0Ideal
    ∧ algebraic_DwBranch0Ideal_DwBranch0RefIdeal (hDwBranch0Ideal := hDwBranch0Ideal) (hDwBranch0RefIdeal := hDwBranch0RefIdeal)
    ∧ preserves_DwBranch1_DwBranch1Ideal
    ∧ algebraic_DwBranch1Ideal_DwBranch1RefIdeal (hDwBranch1Ideal := hDwBranch1Ideal) (hDwBranch1RefIdeal := hDwBranch1RefIdeal)
    ∧ preserves_DwBranch2_DwBranch2Ideal
    ∧ algebraic_DwBranch2Ideal_DwBranch2RefIdeal (hDwBranch2Ideal := hDwBranch2Ideal) (hDwBranch2RefIdeal := hDwBranch2RefIdeal)
    ∧ preserves_DoBranch0_DoBranch0Ideal
    ∧ algebraic_DoBranch0Ideal_DoBranch0RefIdeal (hDoBranch0Ideal := hDoBranch0Ideal) (hDoBranch0RefIdeal := hDoBranch0RefIdeal)
    ∧ preserves_DoBranch2_DoBranch2Ideal
    ∧ algebraic_DoBranch2Ideal_DoBranch2RefIdeal (hDoBranch2Ideal := hDoBranch2Ideal) (hDoBranch2RefIdeal := hDoBranch2RefIdeal)
    ∧ preserves_ConvBwd_ConvBwdIdeal
    ∧ algebraic_ConvBwdIdeal_ConvBwdRefIdeal_pre_conv_finite (hConvBwdIdeal := hConvBwdIdeal) (hConvBwdRefIdeal := hConvBwdRefIdeal) (hPre_conv_finite := hPre_conv_finite)
    ∧ preserves_ConvFwd_ConvFwdIdeal
    ∧ algebraic_ConvFwdIdeal_ConvFwdRefIdeal (hConvFwdIdeal := hConvFwdIdeal) (hConvFwdRefIdeal := hConvFwdRefIdeal)
    ∧ preserves_NormBwd_NormBwdIdeal
    ∧ algebraic_NormBwdIdeal_NormBwdRefIdeal_pre_norm_finite (hNormBwdIdeal := hNormBwdIdeal) (hNormBwdRefIdeal := hNormBwdRefIdeal) (hPre_norm_finite := hPre_norm_finite)
    ∧ preserves_NormFwd_NormFwdIdeal
    ∧ algebraic_NormFwdIdeal_NormFwdRefIdeal (hNormFwdIdeal := hNormFwdIdeal) (hNormFwdRefIdeal := hNormFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_CombBwd_CombBwdIdeal
    ∧ algebraic_CombBwdIdeal_CombBwdRefIdeal_pre_combine_bwd_finite (hCombBwdIdeal := hCombBwdIdeal) (hCombBwdRefIdeal := hCombBwdRefIdeal) (hPre_combine_bwd_finite := hPre_combine_bwd_finite)
    ∧ preserves_CombFwd_CombFwdIdeal
    ∧ algebraic_CombFwdIdeal_CombFwdRefIdeal_pre_combine_finite (hCombFwdIdeal := hCombFwdIdeal) (hCombFwdRefIdeal := hCombFwdRefIdeal) (hPre_combine_finite := hPre_combine_finite)
-- ==== Pre_attn_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel

variable [Facts]

def fn {F : FTy → Type} [FloatOps F] (main_arg0 : FVec F S8192x8x96 .f32) (main_arg1 : FVec F S8192x8x96 .f32) (main_arg2 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  main_v8
-- ==== Pre_combine_bwd_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_arg4 : FVec F S8192x512 .f32) (main_arg5 : FVec F S8192x512 .f32) (main_arg6 : FVec F S8192x512 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg6
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  main_v33

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_v13 main_v16
-- ==== Pre_combine_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) (main_arg5 : FVec F S8192x512 .f32) : IVec S_ 1 :=
  let main_v0 : FVec F S8192x512 .f32 := Host.absf main_arg3
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg4
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg5
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Pre_conv_finite.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_v13 : IVec S_ 1) (main_v16 : IVec S1x5632 1) : IVec S_ 1 :=
  let main_c_5 : IVec S_ 1 := constantI S_ 1 1#1
  let main_v17 : IVec S_ 1 := (fun x v => Host.reduce IntOp.andi x v reducesTo_S1x5632_S_d0_1 h_S_) main_v16 main_c_5
  let main_v18 : IVec S_ 1 := andi main_v13 main_v17
  main_v18

def fn {F : FTy → Type} [FloatOps F] (main_arg0 : FVec F S8192x5632 .f32) (main_arg1 : FVec F S8192x2816 .f32) (main_arg2 : FVec F S3x5632 .f32) (main_arg3 : FVec F S1x5632 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S1x5632 .f32 := Host.absf main_arg3
  let main_cst_4 : FVec F S_ .f32 := constant S_ .f32 0x7F800000#32
  let main_v15 : FVec F S1x5632 .f32 := broadcastInDim S1x5632 ![] bcast_S_S1x5632 main_cst_4
  let main_v16 : IVec S1x5632 1 := cmpf .olt main_v14 main_v15
  fn_part1 (F := F) main_v13 main_v16
-- ==== Pre_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Pre_norm_finite.lean ====
abbrev S8192x1024 : Shape := ⟨2, ![8192, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S8192x1024 .f32 := Host.absf main_arg4
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x1 : Shape := ⟨3, ![8192, 8, 1]⟩
abbrev S8192x8x65 : Shape := ⟨3, ![8192, 8, 65]⟩
abbrev S8192x8x128 : Shape := ⟨3, ![8192, 8, 128]⟩
abbrev S8192x1024 : Shape := ⟨2, ![8192, 1024]⟩
abbrev S8192x128 : Shape := ⟨2, ![8192, 128]⟩
abbrev S512x128 : Shape := ⟨2, ![512, 128]⟩
abbrev S512x512 : Shape := ⟨2, ![512, 512]⟩

abbrev nBuf : Space → Nat
  | .hbm => 71
  | .vmem => 20
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S8x8192x8192, .f32⟩
  | .hbm, ⟨8, _⟩ => ⟨S8192, .i32⟩
  | .hbm, ⟨9, _⟩ => ⟨S1x1x8192, .i32⟩
  | .hbm, ⟨10, _⟩ => ⟨S1x8192x1, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x64x8192, .f32⟩
  | .hbm, ⟨31, _⟩ => ⟨S8192x8x64, .f32⟩
  | .hbm, ⟨32, _⟩ => ⟨S8x8192x1, .f32⟩
  | .hbm, ⟨33, _⟩ => ⟨S8x8192x1, .f32⟩
  | .hbm, ⟨34, _⟩ => ⟨S8x8192, .f32⟩
  | .hbm, ⟨35, _⟩ => ⟨S8192x8, .f32⟩
  | .hbm, ⟨36, _⟩ => ⟨S8192x8x64, .f32⟩
  | .hbm, ⟨37, _⟩ => ⟨S_, .f32⟩
  | .hbm, ⟨38, _⟩ => ⟨S8192x8, .f32⟩
  | .hbm, ⟨39, _⟩ => ⟨S_, .f32⟩
  | .hbm, ⟨40, _⟩ => ⟨S8192x8x1, .f32⟩
  | .hbm, ⟨41, _⟩ => ⟨S8192x8x65, .f32⟩
  | .hbm, ⟨42, _⟩ => ⟨S_, .i32⟩
  | .hbm, ⟨43, _⟩ => ⟨S_, .f32⟩
  | .hbm, ⟨44, _⟩ => ⟨S8192x8x128, .f32⟩
  | .hbm, ⟨45, _⟩ => ⟨S8192x1024, .f32⟩
  | .hbm, ⟨46, _⟩ => ⟨S8192x1024, .bf16⟩
  | .hbm, ⟨47, _⟩ => ⟨S_, .i32⟩
  | .hbm, ⟨48, _⟩ => ⟨S_, .f32⟩
  | .hbm, ⟨49, _⟩ => ⟨S8192x8x128, .f32⟩
  | .hbm, ⟨50, _⟩ => ⟨S8192x1024, .f32⟩
  | .hbm, ⟨51, _⟩ => ⟨S8192x1024, .bf16⟩
  | .hbm, ⟨52, _⟩ => ⟨S_, .i32⟩
  | .hbm, ⟨53, _⟩ => ⟨S_, .f32⟩
  | .hbm, ⟨54, _⟩ => ⟨S8192x8x128, .f32⟩
  | .hbm, ⟨55, _⟩ => ⟨S8192x1024, .f32⟩
  | .hbm, ⟨56, _⟩ => ⟨S8192x1024, .bf16⟩
  | .hbm, ⟨57, _⟩ => ⟨S_, .i32⟩
  | .hbm, ⟨58, _⟩ => ⟨S_, .f32⟩
  | .hbm, ⟨59, _⟩ => ⟨S8192x8x128, .f32⟩
  | .hbm, ⟨60, _⟩ => ⟨S8192x1024, .f32⟩
  | .hbm, ⟨61, _⟩ => ⟨S8192x1024, .bf16⟩
  | .hbm, ⟨62, _⟩ => ⟨S8192x8x1, .f32⟩
  | .hbm, ⟨63, _⟩ => ⟨S8192x8x128, .f32⟩
  | .hbm, ⟨64, _⟩ => ⟨S8192x1024, .f32⟩
  | .hbm, ⟨65, _⟩ => ⟨S8192x8x1, .f32⟩
  | .hbm, ⟨66, _⟩ => ⟨S8192x8x128, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_call1_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_call2_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_call3_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_call4_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 2 → Nat :=
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_9 : Index := 0#32
  ![v17.toNat, 0]
@[reducible] def k0_t1_loop (i : grid0.Coords) : Scf.Loop 32 :=
  let c0_i32_35 : BitVec 32 := 0#32
  let c15_i32 : BitVec 32 := 15#32
  let arg1 : BitVec 32 := BitVec.ofNat 32 (i 1).val
  let v64 : BitVec 32 := Scalar.subi c15_i32 arg1
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32 : BitVec 32 := 2#32
  let c0_i32_31 : BitVec 32 := 0#32
  let v71 : BitVec 1 := Scalar.cmpi .sgt c2_i32 c0_i32_31
  let v72 : BitVec 32 := Scalar.extui v71
  let c0_i32_32 : BitVec 32 := 0#32
  let v73 : BitVec 1 := Scalar.cmpi .slt c2_i32 c0_i32_32
  let v74 : BitVec 32 := Scalar.extui v73
  let v75 : BitVec 32 := Scalar.subi v72 v74
  let v76 : BitVec 1 := Scalar.cmpi .ne v70 v75
  let v77 : BitVec 32 := Scalar.remsi v64 c2_i32
  let c0_i32_33 : BitVec 32 := 0#32
  let v78 : BitVec 1 := Scalar.cmpi .ne v77 c0_i32_33
  let v79 : BitVec 1 := Scalar.andi v76 v78
  let v65 : BitVec 32 := Scalar.divsi v64 c2_i32
  let c1_i32 : BitVec 32 := 1#32
  let v80 : BitVec 32 := Scalar.subi v65 c1_i32
  let v81 : BitVec 32 := Scalar.select v79 v80 v65
  let v82 : BitVec 32 := Scalar.subi v81 c0_i32_35
  let c1_i32_36 : BitVec 32 := 1#32
  let v84 : BitVec 32 := Scalar.divsi v82 c1_i32_36
  let v85 : BitVec 32 := Scalar.muli v84 c1_i32_36
  let v86 : BitVec 32 := Scalar.addi c0_i32_35 v85
  let c1_i32_37 : BitVec 32 := 1#32
  ⟨c0_i32_35, v86, c1_i32_37⟩
def k0_mult2 (i : grid0.Coords) (k0_t1 : Fin (k0_t1_loop i).trips) : BitVec 32 :=
  let arg1 : BitVec 32 := BitVec.ofNat 32 (i 1).val
  let c1_i32_55 : BitVec 32 := 1#32
  let v104 : BitVec 32 := Scalar.addi arg1 c1_i32_55
  let c2_i32_56 : BitVec 32 := 2#32
  let c0_i32_35 : BitVec 32 := 0#32
  let c1_i32_37 : BitVec 32 := 1#32
  let arg13 : BitVec 32 := Scf.iv c0_i32_35 c1_i32_37 k0_t1
  let v105 : BitVec 32 := Scalar.muli c2_i32_56 arg13
  let v106 : BitVec 32 := Scalar.addi v104 v105
  let c512_i32_57 : BitVec 32 := 512#32
  let v107 : BitVec 32 := Scalar.muli v106 c512_i32_57
  v107
def k0_off2 (i : grid0.Coords) (k0_t1 : Fin (k0_t1_loop i).trips) (c1_i32_55 : BitVec 32) : Fin 2 → Nat :=
  let arg1 : BitVec 32 := BitVec.ofNat 32 (i 1).val
  let v104 : BitVec 32 := Scalar.addi arg1 c1_i32_55
  let c2_i32_56 : BitVec 32 := 2#32
  let c0_i32_35 : BitVec 32 := 0#32
  let c1_i32_37 : BitVec 32 := 1#32
  let arg13 : BitVec 32 := Scf.iv c0_i32_35 c1_i32_37 k0_t1
  let v105 : BitVec 32 := Scalar.muli c2_i32_56 arg13
  let v106 : BitVec 32 := Scalar.addi v104 v105
  let c512_i32_57 : BitVec 32 := 512#32
  let v107 : BitVec 32 := Scalar.muli v106 c512_i32_57
  let v108 : BitVec 32 := v107
  let v109 : Index := Scalar.indexCast v108
  let c0_58 : Index := 0#32
  ![v109.toNat, 0]
def k0_mult3 (i : grid0.Coords) (k0_t1 : Fin (k0_t1_loop i).trips) : BitVec 32 :=
  let arg1 : BitVec 32 := BitVec.ofNat 32 (i 1).val
  let c2_i32_77 : BitVec 32 := 2#32
  let v151 : BitVec 32 := Scalar.addi arg1 c2_i32_77
  let c2_i32_78 : BitVec 32 := 2#32
  let c0_i32_35 : BitVec 32 := 0#32
  let c1_i32_37 : BitVec 32 := 1#32
  let arg13 : BitVec 32 := Scf.iv c0_i32_35 c1_i32_37 k0_t1
  let v152 : BitVec 32 := Scalar.muli c2_i32_78 arg13
  let v153 : BitVec 32 := Scalar.addi v151 v152
  let c512_i32_79 : BitVec 32 := 512#32
  let v154 : BitVec 32 := Scalar.muli v153 c512_i32_79
  v154
@[reducible] def k0_t2_loop (i : grid0.Coords) : Scf.Loop 32 :=
  let c0_i32_35 : BitVec 32 := 0#32
  let c15_i32 : BitVec 32 := 15#32
  let arg1 : BitVec 32 := BitVec.ofNat 32 (i 1).val
  let v64 : BitVec 32 := Scalar.subi c15_i32 arg1
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32 : BitVec 32 := 2#32
  let c0_i32_31 : BitVec 32 := 0#32
  let v71 : BitVec 1 := Scalar.cmpi .sgt c2_i32 c0_i32_31
  let v72 : BitVec 32 := Scalar.extui v71
  let c0_i32_32 : BitVec 32 := 0#32
  let v73 : BitVec 1 := Scalar.cmpi .slt c2_i32 c0_i32_32
  let v74 : BitVec 32 := Scalar.extui v73
  let v75 : BitVec 32 := Scalar.subi v72 v74
  let v76 : BitVec 1 := Scalar.cmpi .ne v70 v75
  let v77 : BitVec 32 := Scalar.remsi v64 c2_i32
  let c0_i32_33 : BitVec 32 := 0#32
  let v78 : BitVec 1 := Scalar.cmpi .ne v77 c0_i32_33
  let v79 : BitVec 1 := Scalar.andi v76 v78
  let v65 : BitVec 32 := Scalar.divsi v64 c2_i32
  let c1_i32 : BitVec 32 := 1#32
  let v80 : BitVec 32 := Scalar.subi v65 c1_i32
  let v81 : BitVec 32 := Scalar.select v79 v80 v65
  let v82 : BitVec 32 := Scalar.subi v81 c0_i32_35
  let c1_i32_36 : BitVec 32 := 1#32
  let v84 : BitVec 32 := Scalar.divsi v82 c1_i32_36
  let v85 : BitVec 32 := Scalar.muli v84 c1_i32_36
  let v86 : BitVec 32 := Scalar.addi c0_i32_35 v85
  let v83 : BitVec 32 := Scalar.addi c0_i32_35 v82
  let c1_i32_38 : BitVec 32 := 1#32
  ⟨v86, v83, c1_i32_38⟩
def k0_mult4 (i : grid0.Coords) (k0_t2 : Fin (k0_t2_loop i).trips) : BitVec 32 :=
  let arg1 : BitVec 32 := BitVec.ofNat 32 (i 1).val
  let c1_i32_55 : BitVec 32 := 1#32
  let v104 : BitVec 32 := Scalar.addi arg1 c1_i32_55
  let c2_i32_56 : BitVec 32 := 2#32
  let c0_i32_35 : BitVec 32 := 0#32
  let c15_i32 : BitVec 32 := 15#32
  let v64 : BitVec 32 := Scalar.subi c15_i32 arg1
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32 : BitVec 32 := 2#32
  let c0_i32_31 : BitVec 32 := 0#32
  let v71 : BitVec 1 := Scalar.cmpi .sgt c2_i32 c0_i32_31
  let v72 : BitVec 32 := Scalar.extui v71
  let c0_i32_32 : BitVec 32 := 0#32
  let v73 : BitVec 1 := Scalar.cmpi .slt c2_i32 c0_i32_32
  let v74 : BitVec 32 := Scalar.extui v73
  let v75 : BitVec 32 := Scalar.subi v72 v74
  let v76 : BitVec 1 := Scalar.cmpi .ne v70 v75
  let v77 : BitVec 32 := Scalar.remsi v64 c2_i32
  let c0_i32_33 : BitVec 32 := 0#32
  let v78 : BitVec 1 := Scalar.cmpi .ne v77 c0_i32_33
  let v79 : BitVec 1 := Scalar.andi v76 v78
  let v65 : BitVec 32 := Scalar.divsi v64 c2_i32
  let c1_i32 : BitVec 32 := 1#32
  let v80 : BitVec 32 := Scalar.subi v65 c1_i32
  let v81 : BitVec 32 := Scalar.select v79 v80 v65
  let v82 : BitVec 32 := Scalar.subi v81 c0_i32_35
  let c1_i32_36 : BitVec 32 := 1#32
  let v84 : BitVec 32 := Scalar.divsi v82 c1_i32_36
  let v85 : BitVec 32 := Scalar.muli v84 c1_i32_36
  let v86 : BitVec 32 := Scalar.addi c0_i32_35 v85
  let c1_i32_38 : BitVec 32 := 1#32
  let arg13 : BitVec 32 := Scf.iv v86 c1_i32_38 k0_t2
  let v105 : BitVec 32 := Scalar.muli c2_i32_56 arg13
  let v106 : BitVec 32 := Scalar.addi v104 v105
  let c512_i32_57 : BitVec 32 := 512#32
  let v107 : BitVec 32 := Scalar.muli v106 c512_i32_57
  v107
def k0_off3 (i : grid0.Coords) (k0_t2 : Fin (k0_t2_loop i).trips) (c1_i32_55 : BitVec 32) : Fin 2 → Nat :=
  let arg1 : BitVec 32 := BitVec.ofNat 32 (i 1).val
  let v104 : BitVec 32 := Scalar.addi arg1 c1_i32_55
  let c2_i32_56 : BitVec 32 := 2#32
  let c0_i32_35 : BitVec 32 := 0#32
  let c15_i32 : BitVec 32 := 15#32
  let v64 : BitVec 32 := Scalar.subi c15_i32 arg1
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32 : BitVec 32 := 2#32
  let c0_i32_31 : BitVec 32 := 0#32
  let v71 : BitVec 1 := Scalar.cmpi .sgt c2_i32 c0_i32_31
  let v72 : BitVec 32 := Scalar.extui v71
  let c0_i32_32 : BitVec 32 := 0#32
  let v73 : BitVec 1 := Scalar.cmpi .slt c2_i32 c0_i32_32
  let v74 : BitVec 32 := Scalar.extui v73
  let v75 : BitVec 32 := Scalar.subi v72 v74
  let v76 : BitVec 1 := Scalar.cmpi .ne v70 v75
  let v77 : BitVec 32 := Scalar.remsi v64 c2_i32
  let c0_i32_33 : BitVec 32 := 0#32
  let v78 : BitVec 1 := Scalar.cmpi .ne v77 c0_i32_33
  let v79 : BitVec 1 := Scalar.andi v76 v78
  let v65 : BitVec 32 := Scalar.divsi v64 c2_i32
  let c1_i32 : BitVec 32 := 1#32
  let v80 : BitVec 32 := Scalar.subi v65 c1_i32
  let v81 : BitVec 32 := Scalar.select v79 v80 v65
  let v82 : BitVec 32 := Scalar.subi v81 c0_i32_35
  let c1_i32_36 : BitVec 32 := 1#32
  let v84 : BitVec 32 := Scalar.divsi v82 c1_i32_36
  let v85 : BitVec 32 := Scalar.muli v84 c1_i32_36
  let v86 : BitVec 32 := Scalar.addi c0_i32_35 v85
  let c1_i32_38 : BitVec 32 := 1#32
  let arg13 : BitVec 32 := Scf.iv v86 c1_i32_38 k0_t2
  let v105 : BitVec 32 := Scalar.muli c2_i32_56 arg13
  let v106 : BitVec 32 := Scalar.addi v104 v105
  let c512_i32_57 : BitVec 32 := 512#32
  let v107 : BitVec 32 := Scalar.muli v106 c512_i32_57
  let v108 : BitVec 32 := v107
  let v109 : Index := Scalar.indexCast v108
  let c0_58 : Index := 0#32
  ![v109.toNat, 0]
def k0_mult5 (i : grid0.Coords) (k0_t2 : Fin (k0_t2_loop i).trips) : BitVec 32 :=
  let arg1 : BitVec 32 := BitVec.ofNat 32 (i 1).val
  let c2_i32_77 : BitVec 32 := 2#32
  let v151 : BitVec 32 := Scalar.addi arg1 c2_i32_77
  let c2_i32_78 : BitVec 32 := 2#32
  let c0_i32_35 : BitVec 32 := 0#32
  let c15_i32 : BitVec 32 := 15#32
  let v64 : BitVec 32 := Scalar.subi c15_i32 arg1
  let c0_i32_29 : BitVec 32 := 0#32
  let v66 : BitVec 1 := Scalar.cmpi .sgt v64 c0_i32_29
  let v67 : BitVec 32 := Scalar.extui v66
  let c0_i32_30 : BitVec 32 := 0#32
  let v68 : BitVec 1 := Scalar.cmpi .slt v64 c0_i32_30
  let v69 : BitVec 32 := Scalar.extui v68
  let v70 : BitVec 32 := Scalar.subi v67 v69
  let c2_i32 : BitVec 32 := 2#32
  let c0_i32_31 : BitVec 32 := 0#32
  let v71 : BitVec 1 := Scalar.cmpi .sgt c2_i32 c0_i32_31
  let v72 : BitVec 32 := Scalar.extui v71
  let c0_i32_32 : BitVec 32 := 0#32
  let v73 : BitVec 1 := Scalar.cmpi .slt c2_i32 c0_i32_32
  let v74 : BitVec 32 := Scalar.extui v73
  let v75 : BitVec 32 := Scalar.subi v72 v74
  let v76 : BitVec 1 := Scalar.cmpi .ne v70 v75
  let v77 : BitVec 32 := Scalar.remsi v64 c2_i32
  let c0_i32_33 : BitVec 32 := 0#32
  let v78 : BitVec 1 := Scalar.cmpi .ne v77 c0_i32_33
  let v79 : BitVec 1 := Scalar.andi v76 v78
  let v65 : BitVec 32 := Scalar.divsi v64 c2_i32
  let c1_i32 : BitVec 32 := 1#32
  let v80 : BitVec 32 := Scalar.subi v65 c1_i32
  let v81 : BitVec 32 := Scalar.select v79 v80 v65
  let v82 : BitVec 32 := Scalar.subi v81 c0_i32_35
  let c1_i32_36 : BitVec 32 := 1#32
  let v84 : BitVec 32 := Scalar.divsi v82 c1_i32_36
  let v85 : BitVec 32 := Scalar.muli v84 c1_i32_36
  let v86 : BitVec 32 := Scalar.addi c0_i32_35 v85
  let c1_i32_38 : BitVec 32 := 1#32
  let arg13 : BitVec 32 := Scf.iv v86 c1_i32_38 k0_t2
  let v152 : BitVec 32 := Scalar.muli c2_i32_78 arg13
  let v153 : BitVec 32 := Scalar.addi v151 v152
  let c512_i32_79 : BitVec 32 := 512#32
  let v154 : BitVec 32 := Scalar.muli v153 c512_i32_79
  v154
def k0_cond2 (i : grid0.Coords) : BitVec 1 :=
  let c15_i32 : BitVec 32 := 15#32
  let arg1 : BitVec 32 := BitVec.ofNat 32 (i 1).val
  let v64 : BitVec 32 := Scalar.subi c15_i32 arg1
  let c2_i32_39 : BitVec 32 := 2#32
  let c0_i32_40 : BitVec 32 := 0#32
  let v87 : BitVec 1 := Scalar.cmpi .eq c2_i32_39 c0_i32_40
  let c1_i32_41 : BitVec 32 := 1#32
  let v88 : BitVec 32 := Scalar.select v87 c1_i32_41 c2_i32_39
  let v89 : BitVec 32 := Scalar.remsi v64 v88
  let c0_i32_43 : BitVec 32 := 0#32
  let v91 : BitVec 1 := Scalar.cmpi .slt v89 c0_i32_43
  let c0_i32_44 : BitVec 32 := 0#32
  let v92 : BitVec 1 := Scalar.cmpi .slt v88 c0_i32_44
  let v93 : BitVec 1 := Scalar.xori v91 v92
  let c0_i32_42 : BitVec 32 := 0#32
  let v90 : BitVec 1 := Scalar.cmpi .ne v89 c0_i32_42
  let v94 : BitVec 1 := Scalar.andi v93 v90
  let v95 : BitVec 32 := Scalar.addi v89 v88
  let v96 : BitVec 32 := Scalar.select v94 v95 v89
  let c1_i32_45 : BitVec 32 := 1#32
  let v97 : BitVec 1 := Scalar.cmpi .eq v96 c1_i32_45
  let v98 : BitVec 32 := Scalar.extui v97
  let c0_i32_46 : BitVec 32 := 0#32
  let v99 : BitVec 1 := Scalar.cmpi .ne v98 c0_i32_46
  v99

def k0_mult6 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S8192x8x96, .f32⟩
  | .hbm, ⟨6, _⟩ => ⟨S8192x8x96, .f32⟩
  | .hbm, ⟨7, _⟩ => ⟨S8x8192x8192, .f32⟩
  | .hbm, ⟨8, _⟩ => ⟨S8192, .i32⟩
  | .hbm, ⟨9, _⟩ => ⟨S1x1x8192, .i32⟩
  | .hbm, ⟨10, _⟩ => ⟨S1x8192x1, .i32⟩
  | .hbm, ⟨11, _⟩ => ⟨S1x8192x8192, .i32⟩
  | .hbm, ⟨12, _⟩ => ⟨S1x8192x8192, .i32⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .i1⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .i1⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S_, .f32⟩
  | .hbm, ⟨51, _⟩ => ⟨S8x8192, .f32⟩
  | .hbm, ⟨52, _⟩ => ⟨S8x8192x1, .f32⟩
  | .hbm, ⟨53, _⟩ => ⟨S8x8192x8192, .f32⟩
  | .hbm, ⟨54, _⟩ => ⟨S8x8192x8192, .f32⟩
  | .hbm, ⟨55, _⟩ => ⟨S8x8192x1, .f32⟩
  | .hbm, ⟨56, _⟩ => ⟨S_, .f32⟩
  | .hbm, ⟨57, _⟩ => ⟨S8x8192x1, .f32⟩
  | .hbm, ⟨58, _⟩ => ⟨S8x8192x1, .f32⟩
  | .hbm, ⟨59, _⟩ => ⟨S8x64x8192, .f32⟩
  | .hbm, ⟨60, _⟩ => ⟨S8192x8x64, .f32⟩
  | .hbm, ⟨61, _⟩ => ⟨S8x64x8192, .f32⟩
  | .hbm, ⟨62, _⟩ => ⟨S8x8192x8192, .f32⟩
  | .hbm, ⟨63, _⟩ => ⟨S8x64x8192, .f32⟩
  | .hbm, ⟨64, _⟩ => ⟨S8192x8x64, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S8x8192x1, .f32⟩
  | .hbm, ⟨71, _⟩ => ⟨S8x8192x1, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192x8192, .f32⟩
  | .hbm, ⟨81, _⟩ => ⟨S8x8192x8192, .f32⟩
  | .hbm, ⟨82, _⟩ => ⟨S8x8192x96, .f32⟩
  | .hbm, ⟨83, _⟩ => ⟨S8192x8x96, .f32⟩
  | .hbm, ⟨84, _⟩ => ⟨S8x8192x96, .f32⟩
  | .hbm, ⟨85, _⟩ => ⟨S8192x8x96, .f32⟩
  | .hbm, ⟨86, _⟩ => ⟨S_, .i32⟩
  | .hbm, ⟨87, _⟩ => ⟨S_, .f32⟩
  | .hbm, ⟨88, _⟩ => ⟨S8192x8x128, .f32⟩
  | .hbm, ⟨89, _⟩ => ⟨S8192x1024, .f32⟩
  | .hbm, ⟨90, _⟩ => ⟨S_, .i32⟩
  | .hbm, ⟨91, _⟩ => ⟨S_, .f32⟩
  | .hbm, ⟨92, _⟩ => ⟨S8192x8x128, .f32⟩
  | .hbm, ⟨93, _⟩ => ⟨S8192x1024, .f32⟩
  | .hbm, ⟨94, _⟩ => ⟨S_, .i32⟩
  | .hbm, ⟨95, _⟩ => ⟨S_, .f32⟩
  | .hbm, ⟨96, _⟩ => ⟨S8192x8x128, .f32⟩
  | .hbm, ⟨97, _⟩ => ⟨S8192x1024, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c : Ref sig .tc := ⟨.hbm, 86, rfl⟩
abbrev main_call2_v0 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_call3_v0 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_call4_v0 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]

def κ : String → Option EReal := fun
  | "mask" => some ⊥
  | _ => none
-- ==== Attention.lean ====
abbrev S8192x8x96 : Shape := ⟨3, ![8192, 8, 96]⟩
abbrev S8192x8x64 : Shape := ⟨3, ![8192, 8, 64]⟩
abbrev S_ : Shape := ⟨0, ![]⟩
abbrev S8192x8x1 : Shape := ⟨3, ![8192, 8, 1]⟩
abbrev S8192x8x65 : Shape := ⟨3, ![8192, 8, 65]⟩
abbrev S8192x8x128 : Shape := ⟨3, ![8192, 8, 128]⟩
abbrev S8192x1024 : Shape := ⟨2, ![8192, 1024]⟩
abbrev S512x256 : Shape := ⟨2, ![512, 256]⟩
abbrev S8192x256 : Shape := ⟨2, ![8192, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 26
  | .vmem => 12
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S_, .f32⟩
  | .hbm, ⟨4, _⟩ => ⟨S8192x8x1, .f32⟩
  | .hbm, ⟨5, _⟩ => ⟨S8192x8x65, .f32⟩
  | .hbm, ⟨6, _⟩ => ⟨S_, .f32⟩
  | .hbm, ⟨7, _⟩ => ⟨S8192x8x96, .f32⟩
  | .hbm, ⟨8, _⟩ => ⟨S8192x8x96, .f32⟩
  | .hbm, ⟨9, _⟩ => ⟨S_, .i32⟩
  | .hbm, ⟨10, _⟩ => ⟨S_, .f32⟩
  | .hbm, ⟨11, _⟩ => ⟨S8192x8x128, .f32⟩
  | .hbm, ⟨12, _⟩ => ⟨S8192x1024, .f32⟩
  | .hbm, ⟨13, _⟩ => ⟨S8192x1024, .bf16⟩
  | .hbm, ⟨14, _⟩ => ⟨S_, .i32⟩
  | .hbm, ⟨15, _⟩ => ⟨S_, .f32⟩
  | .hbm, ⟨16, _⟩ => ⟨S8192x8x128, .f32⟩
  | .hbm, ⟨17, _⟩ => ⟨S8192x1024, .f32⟩
  | .hbm, ⟨18, _⟩ => ⟨S8192x1024, .bf16⟩
  | .hbm, ⟨19, _⟩ => ⟨S_, .i32⟩
  | .hbm, ⟨20, _⟩ => ⟨S_, .f32⟩
  | .hbm, ⟨21, _⟩ => ⟨S8192x8x128, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult1 (i : grid0.Coords) (k0_t1 : Fin (k0_t1_loop i).trips) : BitVec 32 :=
  let c0_i32_4 : BitVec 32 := 0#32
  let c1_i32_5 : BitVec 32 := 1#32
  let arg9 : BitVec 32 := Scf.iv c0_i32_4 c1_i32_5 k0_t1
  let c512_i32_54 : BitVec 32 := 512#32
  let v105 : BitVec 32 := Scalar.muli arg9 c512_i32_54
  v105
def k0_off1 (i : grid0.Coords) (k0_t1 : Fin (k0_t1_loop i).trips) : Fin 2 → Nat :=
  let c0_i32_4 : BitVec 32 := 0#32
  let c1_i32_5 : BitVec 32 := 1#32
  let arg9 : BitVec 32 := Scf.iv c0_i32_4 c1_i32_5 k0_t1
  let c512_i32_54 : BitVec 32 := 512#32
  let v105 : BitVec 32 := Scalar.muli arg9 c512_i32_54
  let v106 : BitVec 32 := v105
  let v109 : Index := Scalar.indexCast v106
  let c0_57 : Index := 0#32
  ![v109.toNat, 0]
def k0_off2 (i : grid0.Coords) (k0_t1 : Fin (k0_t1_loop i).trips) : Fin 2 → Nat :=
  let c0_i32_4 : BitVec 32 := 0#32
  let c1_i32_5 : BitVec 32 := 1#32
  let arg9 : BitVec 32 := Scf.iv c0_i32_4 c1_i32_5 k0_t1
  let c512_i32_54 : BitVec 32 := 512#32
  let v105 : BitVec 32 := Scalar.muli arg9 c512_i32_54
  let v106 : BitVec 32 := v105
  let v139 : Index := Scalar.indexCast v106
  let c128_72 : Index := 128#32
  ![v139.toNat, 128]
@[reducible] def k0_t2_loop (i : grid0.Coords) : Scf.Loop 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult2 (i : grid0.Coords) (k0_t2 : Fin (k0_t2_loop i).trips) : BitVec 32 :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg9 : BitVec 32 := Scf.iv v12 c1_i32_6 k0_t2
  let c512_i32_54 : BitVec 32 := 512#32
  let v105 : BitVec 32 := Scalar.muli arg9 c512_i32_54
  v105
def k0_off3 (i : grid0.Coords) (k0_t2 : Fin (k0_t2_loop i).trips) : Fin 2 → Nat :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg9 : BitVec 32 := Scf.iv v12 c1_i32_6 k0_t2
  let c512_i32_54 : BitVec 32 := 512#32
  let v105 : BitVec 32 := Scalar.muli arg9 c512_i32_54
  let v106 : BitVec 32 := v105
  let v109 : Index := Scalar.indexCast v106
  let c0_57 : Index := 0#32
  ![v109.toNat, 0]
def k0_off4 (i : grid0.Coords) (k0_t2 : Fin (k0_t2_loop i).trips) : Fin 2 → Nat :=
  let c0_i32_4 : BitVec 32 := 0#32
  let arg1 : BitVec 32 := BitVec.ofNat 32 (i 1).val
  let v8 : BitVec 32 := Scalar.subi arg1 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg9 : BitVec 32 := Scf.iv v12 c1_i32_6 k0_t2
  let c512_i32_54 : BitVec 32 := 512#32
  let v105 : BitVec 32 := Scalar.muli arg9 c512_i32_54
  let v106 : BitVec 32 := v105
  let v139 : Index := Scalar.indexCast v106
  let c128_72 : Index := 128#32
  ![v139.toNat, 128]
def k0_mult3 (i : grid0.Coords) : BitVec 32 :=
  let arg1 : BitVec 32 := BitVec.ofNat 32 (i 1).val
  let c512_i32 : BitVec 32 := 512#32
  let v13 : BitVec 32 := Scalar.muli arg1 c512_i32
  v13
def k0_off5 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v17 : Index := Scalar.indexCast v14
  let c0_9 : Index := 0#32
  ![v17.toNat, 0]
def k0_off6 (i : grid0.Coords) : Fin 2 → Nat :=
  let arg1 : BitVec 32 := BitVec.ofNat 32 (i 1).val
  let c512_i32 : BitVec 32 := 512#32
  let v13 : BitVec 32 := Scalar.muli arg1 c512_i32
  let v14 : BitVec 32 := v13
  let v52 : Index := Scalar.indexCast v14
  let c128_24 : Index := 128#32
  ![v52.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttentionIdeal.lean ====
variable {F : FTy → Type} [FloatOps F] [Named F]
def κ : String → Option EReal := fun
  | "mask" => some ⊥
  | _ => none
-- ==== AttentionRefIdeal.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x1 : Shape := ⟨3, ![8192, 8, 1]⟩
abbrev S8192x8x63 : Shape := ⟨3, ![8192, 8, 63]⟩
abbrev S8192x8x128 : Shape := ⟨3, ![8192, 8, 128]⟩
abbrev S8192x1024 : Shape := ⟨2, ![8192, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S_, .f32⟩
  | .hbm, ⟨4, _⟩ => ⟨S8192x8x96, .f32⟩
  | .hbm, ⟨5, _⟩ => ⟨S8192x8x96, .f32⟩
  | .hbm, ⟨6, _⟩ => ⟨S8x8192x8192, .f32⟩
  | .hbm, ⟨7, _⟩ => ⟨S8192, .i32⟩
  | .hbm, ⟨8, _⟩ => ⟨S1x1x8192, .i32⟩
  | .hbm, ⟨9, _⟩ => ⟨S1x8192x1, .i32⟩
  | .hbm, ⟨10, _⟩ => ⟨S1x8192x8192, .i32⟩
  | .hbm, ⟨11, _⟩ => ⟨S1x8192x8192, .i32⟩
  | .hbm, ⟨12, _⟩ => ⟨S1x8192x8192, .i1⟩
  | .hbm, ⟨13, _⟩ => ⟨S_, .f32⟩
  | .hbm, ⟨14, _⟩ => ⟨S_, .f32⟩
  | .hbm, ⟨15, _⟩ => ⟨S8x8192x8192, .i1⟩
  | .hbm, ⟨16, _⟩ => ⟨S8x8192x8192, .f32⟩
  | .hbm, ⟨17, _⟩ => ⟨S8x8192x8192, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x64x8192, .f32⟩
  | .hbm, ⟨33, _⟩ => ⟨S8192x8x64, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S8x8192, .f32⟩
  | .hbm, ⟨44, _⟩ => ⟨S8192x8, .f32⟩
  | .hbm, ⟨45, _⟩ => ⟨S_, .f32⟩
  | .hbm, ⟨46, _⟩ => ⟨S8192x8x1, .f32⟩
  | .hbm, ⟨47, _⟩ => ⟨S_, .f32⟩
  | .hbm, ⟨48, _⟩ => ⟨S8192x8x63, .f32⟩
  | .hbm, ⟨49, _⟩ => ⟨S8192x8x128, .f32⟩
  | .hbm, ⟨50, _⟩ => ⟨S8192x1024, .f32⟩
  | .hbm, ⟨51, _⟩ => ⟨S8192x8x128, .f32⟩
  | .hbm, ⟨52, _⟩ => ⟨S8192x1024, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]

def κ : String → Option EReal := fun
  | "mask" => some ⊥
  | _ => none
-- ==== Dx.lean ====
abbrev S8192x9728 : Shape := ⟨2, ![8192, 9728]⟩
abbrev S1024x9728 : Shape := ⟨2, ![1024, 9728]⟩
abbrev S8192x1024 : Shape := ⟨2, ![8192, 1024]⟩
abbrev S1024x2432 : Shape := ⟨2, ![1024, 2432]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x9728, .bf16⟩
  | .hbm, ⟨1, _⟩ => ⟨S1024x9728, .bf16⟩
  | .hbm, ⟨2, _⟩ => ⟨S8192x1024, .f32⟩
  | .hbm, ⟨3, _⟩ => ⟨S8192x1024, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxRefIdeal.lean ====
abbrev S8192x9728 : Shape := ⟨2, ![8192, 9728]⟩
abbrev S1024x9728 : Shape := ⟨2, ![1024, 9728]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x9728, .bf16⟩
  | .hbm, ⟨1, _⟩ => ⟨S1024x9728, .bf16⟩
  | .hbm, ⟨2, _⟩ => ⟨S8192x1024, .f32⟩
  | .hbm, ⟨3, _⟩ => ⟨S8192x9728, .f32⟩
  | .hbm, ⟨4, _⟩ => ⟨S1024x9728, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Dx1.lean ====
abbrev S8192x5632 : Shape := ⟨2, ![8192, 5632]⟩
abbrev S1024x5632 : Shape := ⟨2, ![1024, 5632]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dx1RefIdeal.lean ====
abbrev S8192x5632 : Shape := ⟨2, ![8192, 5632]⟩
abbrev S1024x5632 : Shape := ⟨2, ![1024, 5632]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x5632, .f32⟩
  | .hbm, ⟨4, _⟩ => ⟨S1024x5632, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwUp.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x5632, .f32⟩
  | .hbm, ⟨3, _⟩ => ⟨S8192x1024, .f32⟩
  | .hbm, ⟨4, _⟩ => ⟨S5632x1024, .f32⟩
  | .hbm, ⟨5, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S1024x2816, .f32⟩
  | .hbm, ⟨4, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S8192x1024 : Shape := ⟨2, ![8192, 1024]⟩
abbrev S8192x9728 : Shape := ⟨2, ![8192, 9728]⟩
abbrev S1024x9728 : Shape := ⟨2, ![1024, 9728]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x9728, .bf16⟩
  | .hbm, ⟨2, _⟩ => ⟨S1024x9728, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 19, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x1024 : Shape := ⟨2, ![8192, 1024]⟩
abbrev S8192x9728 : Shape := ⟨2, ![8192, 9728]⟩
abbrev S9728x1024 : Shape := ⟨2, ![9728, 1024]⟩
abbrev S1024x9728 : Shape := ⟨2, ![1024, 9728]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x9728, .bf16⟩
  | .hbm, ⟨2, _⟩ => ⟨S8192x9728, .f32⟩
  | .hbm, ⟨3, _⟩ => ⟨S8192x1024, .f32⟩
  | .hbm, ⟨4, _⟩ => ⟨S9728x1024, .f32⟩
  | .hbm, ⟨5, _⟩ => ⟨S1024x9728, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dh.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S2816x1024, .f32⟩
  | .hbm, ⟨3, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjAttn.lean ====
abbrev S8192x1024 : Shape := ⟨2, ![8192, 1024]⟩
abbrev S1024x6144 : Shape := ⟨2, ![1024, 6144]⟩
abbrev S8192x6144 : Shape := ⟨2, ![8192, 6144]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAttnRefIdeal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | .hbm, ⟨5, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjRest.lean ====
abbrev S8192x1024 : Shape := ⟨2, ![8192, 1024]⟩
abbrev S1024x3584 : Shape := ⟨2, ![1024, 3584]⟩
abbrev S8192x3584 : Shape := ⟨2, ![8192, 3584]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRestRefIdeal.lean ====
abbrev S8192x1024 : Shape := ⟨2, ![8192, 1024]⟩
abbrev S1024x3584 : Shape := ⟨2, ![1024, 3584]⟩
abbrev S8192x3584 : Shape := ⟨2, ![8192, 3584]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x1024, .f32⟩
  | .hbm, ⟨3, _⟩ => ⟨S1024x3584, .f32⟩
  | .hbm, ⟨4, _⟩ => ⟨S8192x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dmerged.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Branch0.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Branch0RefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Branch1.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Branch1RefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S512x1024, .f32⟩
  | .hbm, ⟨3, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Branch2.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Branch2RefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwBranch0.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranch0RefIdeal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1024, .f32⟩
  | .hbm, ⟨3, _⟩ => ⟨S8192x512, .f32⟩
  | .hbm, ⟨4, _⟩ => ⟨S1024x512, .f32⟩
  | .hbm, ⟨5, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwBranch1.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .f32⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranch1RefIdeal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x1024, .f32⟩
  | .hbm, ⟨3, _⟩ => ⟨S1024x512, .f32⟩
  | .hbm, ⟨4, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwBranch2.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranch2RefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1024x1024, .f32⟩
  | .hbm, ⟨4, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DoBranch0.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoBranch0RefIdeal.lean ====
abbrev S8192x1024 : Shape := ⟨2, ![8192, 1024]⟩
abbrev S512x1024 : Shape := ⟨2, ![512, 1024]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x1024, .f32⟩
  | .hbm, ⟨3, _⟩ => ⟨S512x1024, .f32⟩
  | .hbm, ⟨4, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DoBranch2.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoBranch2RefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ConvBwd.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S3x2816 : Shape := ⟨2, ![3, 2816]⟩
abbrev S1x2816 : Shape := ⟨2, ![1, 2816]⟩
abbrev S1024x256 : Shape := ⟨2, ![1024, 256]⟩
abbrev S8x256 : Shape := ⟨2, ![8, 256]⟩
abbrev S3x256 : Shape := ⟨2, ![3, 256]⟩
abbrev S1x256 : Shape := ⟨2, ![1, 256]⟩
abbrev S1040x256 : Shape := ⟨2, ![1040, 256]⟩
abbrev S256 : Shape := ⟨1, ![256]⟩

abbrev nBuf : Space → Nat
  | .hbm => 10
  | .vmem => 36
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S1x5632, .f32⟩
  | .hbm, ⟨4, _⟩ => ⟨S8192x2816, .bf16⟩
  | .hbm, ⟨5, _⟩ => ⟨S8192x2816, .bf16⟩
  | .hbm, ⟨6, _⟩ => ⟨S3x2816, .f32⟩
  | .hbm, ⟨7, _⟩ => ⟨S3x2816, .f32⟩
  | .hbm, ⟨8, _⟩ => ⟨S1x2816, .f32⟩
  | .hbm, ⟨9, _⟩ => ⟨S1x2816, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S1024x256, .f32⟩
  | .local _ .vmem, ⟨13, _⟩ => ⟨S1024x256, .f32⟩
  | .local _ .vmem, ⟨14, _⟩ => ⟨S8x256, .f32⟩
  | .local _ .vmem, ⟨15, _⟩ => ⟨S8x256, .f32⟩
  | .local _ .vmem, ⟨16, _⟩ => ⟨S3x256, .f32⟩
  | .local _ .vmem, ⟨17, _⟩ => ⟨S3x256, .f32⟩
  | .local _ .vmem, ⟨18, _⟩ => ⟨S3x256, .f32⟩
  | .local _ .vmem, ⟨19, _⟩ => ⟨S3x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S3x256, .f32⟩
  | .local _ .vmem, ⟨29, _⟩ => ⟨S3x256, .f32⟩
  | .local _ .vmem, ⟨30, _⟩ => ⟨S3x256, .f32⟩
  | .local _ .vmem, ⟨31, _⟩ => ⟨S3x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let v3 : BitVec 32 := Scalar.addi arg0 c0_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c11_i32 : BitVec 32 := 11#32
  let v3 : BitVec 32 := Scalar.addi arg0 c11_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let v3 : BitVec 32 := Scalar.addi arg0 c0_i32
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S3x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S3x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ConvBwdRefIdeal.lean ====
abbrev S8192x5632 : Shape := ⟨2, ![8192, 5632]⟩
abbrev S8192x2816 : Shape := ⟨2, ![8192, 2816]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩
abbrev S5632 : Shape := ⟨1, ![5632]⟩
abbrev S3x2816 : Shape := ⟨2, ![3, 2816]⟩
abbrev S1x2816 : Shape := ⟨2, ![1, 2816]⟩

abbrev nBuf : Space → Nat
  | .hbm => 102
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2816, .f32⟩
  | .hbm, ⟨2, _⟩ => ⟨S3x5632, .f32⟩
  | .hbm, ⟨3, _⟩ => ⟨S1x5632, .f32⟩
  | .hbm, ⟨4, _⟩ => ⟨S1x5632, .f32⟩
  | .hbm, ⟨5, _⟩ => ⟨S_, .f32⟩
  | .hbm, ⟨6, _⟩ => ⟨S2x5632, .f32⟩
  | .hbm, ⟨7, _⟩ => ⟨S8190x5632, .f32⟩
  | .hbm, ⟨8, _⟩ => ⟨S8192x5632, .f32⟩
  | .hbm, ⟨9, _⟩ => ⟨S_, .f32⟩
  | .hbm, ⟨10, _⟩ => ⟨S2x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S_, .f32⟩
  | .hbm, ⟨15, _⟩ => ⟨S1x5632, .f32⟩
  | .hbm, ⟨16, _⟩ => ⟨S8191x5632, .f32⟩
  | .hbm, ⟨17, _⟩ => ⟨S8192x5632, .f32⟩
  | .hbm, ⟨18, _⟩ => ⟨S_, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x5632, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x5632, .f32⟩
  | .hbm, ⟨55, _⟩ => ⟨S8192x5632, .f32⟩
  | .hbm, ⟨56, _⟩ => ⟨S_, .f32⟩
  | .hbm, ⟨57, _⟩ => ⟨S5632, .f32⟩
  | .hbm, ⟨58, _⟩ => ⟨S1x5632, .f32⟩
  | .hbm, ⟨59, _⟩ => ⟨S8192x5632, .f32⟩
  | .hbm, ⟨60, _⟩ => ⟨S8192x5632, .f32⟩
  | .hbm, ⟨61, _⟩ => ⟨S8192x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S_, .f32⟩
  | .hbm, ⟨66, _⟩ => ⟨S3x5632, .f32⟩
  | .hbm, ⟨67, _⟩ => ⟨S8192x5632, .f32⟩
  | .hbm, ⟨68, _⟩ => ⟨S8192x5632, .f32⟩
  | .hbm, ⟨69, _⟩ => ⟨S8192x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S1x5632, .f32⟩
  | .hbm, ⟨74, _⟩ => ⟨S8191x5632, .f32⟩
  | .hbm, ⟨75, _⟩ => ⟨S_, .f32⟩
  | .hbm, ⟨76, _⟩ => ⟨S8192x5632, .f32⟩
  | .hbm, ⟨77, _⟩ => ⟨S8192x5632, .f32⟩
  | .hbm, ⟨78, _⟩ => ⟨S_, .f32⟩
  | .hbm, ⟨79, _⟩ => ⟨S3x5632, .f32⟩
  | .hbm, ⟨80, _⟩ => ⟨S3x5632, .f32⟩
  | .hbm, ⟨81, _⟩ => ⟨S8192x5632, .f32⟩
  | .hbm, ⟨82, _⟩ => ⟨S8192x5632, .f32⟩
  | .hbm, ⟨83, _⟩ => ⟨S8192x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S2x5632, .f32⟩
  | .hbm, ⟨88, _⟩ => ⟨S8190x5632, .f32⟩
  | .hbm, ⟨89, _⟩ => ⟨S_, .f32⟩
  | .hbm, ⟨90, _⟩ => ⟨S8192x5632, .f32⟩
  | .hbm, ⟨91, _⟩ => ⟨S8192x5632, .f32⟩
  | .hbm, ⟨92, _⟩ => ⟨S_, .f32⟩
  | .hbm, ⟨93, _⟩ => ⟨S3x5632, .f32⟩
  | .hbm, ⟨94, _⟩ => ⟨S3x5632, .f32⟩
  | .hbm, ⟨95, _⟩ => ⟨S8192x5632, .bf16⟩
  | .hbm, ⟨96, _⟩ => ⟨S8192x2816, .bf16⟩
  | .hbm, ⟨97, _⟩ => ⟨S8192x2816, .bf16⟩
  | .hbm, ⟨98, _⟩ => ⟨S3x2816, .f32⟩
  | .hbm, ⟨99, _⟩ => ⟨S3x2816, .f32⟩
  | .hbm, ⟨100, _⟩ => ⟨S1x2816, .f32⟩
  | .hbm, ⟨101, _⟩ => ⟨S1x2816, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v22_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v22_1 : Ref sig .tc := ⟨.hbm, 41, rfl⟩
abbrev main_v22_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== ConvFwd.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S1024x256 : Shape := ⟨2, ![1024, 256]⟩
abbrev S8x256 : Shape := ⟨2, ![8, 256]⟩
abbrev S3x256 : Shape := ⟨2, ![3, 256]⟩
abbrev S1x256 : Shape := ⟨2, ![1, 256]⟩
abbrev S1032x256 : Shape := ⟨2, ![1032, 256]⟩

abbrev nBuf : Space → Nat
  | .hbm => 4
  | .vmem => 18
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S8192x2816, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1024x256, .bf16⟩
  | .local _ .vmem, ⟨17, _⟩ => ⟨S1024x256, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg1 c0_i32_0
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg1 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvFwdRefIdeal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩
abbrev S8192x2816 : Shape := ⟨2, ![8192, 2816]⟩

abbrev nBuf : Space → Nat
  | .hbm => 37
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S1x5632, .f32⟩
  | .hbm, ⟨3, _⟩ => ⟨S1x5632, .f32⟩
  | .hbm, ⟨4, _⟩ => ⟨S_, .f32⟩
  | .hbm, ⟨5, _⟩ => ⟨S2x5632, .f32⟩
  | .hbm, ⟨6, _⟩ => ⟨S8190x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S1x5632, .f32⟩
  | .hbm, ⟨11, _⟩ => ⟨S_, .f32⟩
  | .hbm, ⟨12, _⟩ => ⟨S1x5632, .f32⟩
  | .hbm, ⟨13, _⟩ => ⟨S8191x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== NormFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormFwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== MergeBwd.lean ====
abbrev S8192x1024 : Shape := ⟨2, ![8192, 1024]⟩
abbrev S8192x3584 : Shape := ⟨2, ![8192, 3584]⟩
abbrev S1x1024 : Shape := ⟨2, ![1, 1024]⟩
abbrev S256x1024 : Shape := ⟨2, ![256, 1024]⟩
abbrev S1024 : Shape := ⟨1, ![1024]⟩

abbrev nBuf : Space → Nat
  | .hbm => 17
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3584, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MergeBwdRefIdeal.lean ====
abbrev S8192x1024 : Shape := ⟨2, ![8192, 1024]⟩
abbrev S8192x3584 : Shape := ⟨2, ![8192, 3584]⟩
abbrev S1x1024 : Shape := ⟨2, ![1, 1024]⟩
abbrev S_ : Shape := ⟨0, ![]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3584, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .bf16⟩
  | .hbm, ⟨79, _⟩ => ⟨S8192x1024, .bf16⟩
  | .hbm, ⟨80, _⟩ => ⟨S8192x1024, .bf16⟩
  | .hbm, ⟨81, _⟩ => ⟨S8192x1024, .bf16⟩
  | .hbm, ⟨82, _⟩ => ⟨S8192x1024, .bf16⟩
  | .hbm, ⟨83, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== MergeFwd.lean ====
abbrev S8192x1024 : Shape := ⟨2, ![8192, 1024]⟩
abbrev S8192x3584 : Shape := ⟨2, ![8192, 3584]⟩
abbrev S1x1024 : Shape := ⟨2, ![1, 1024]⟩
abbrev S256x1024 : Shape := ⟨2, ![256, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3584, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdRefIdeal.lean ====
abbrev S8192x1024 : Shape := ⟨2, ![8192, 1024]⟩
abbrev S8192x3584 : Shape := ⟨2, ![8192, 3584]⟩
abbrev S1x1024 : Shape := ⟨2, ![1, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x3584, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== CombBwd.lean ====
abbrev S8192x512 : Shape := ⟨2, ![8192, 512]⟩
abbrev S256x512 : Shape := ⟨2, ![256, 512]⟩

abbrev nBuf : Space → Nat
  | .hbm => 13
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x512, .f32⟩
  | .hbm, ⟨11, _⟩ => ⟨S8192x512, .f32⟩
  | .hbm, ⟨12, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== CombBwdRefIdeal.lean ====
abbrev S8192x512 : Shape := ⟨2, ![8192, 512]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .bf16⟩
  | .hbm, ⟨61, _⟩ => ⟨S8192x512, .bf16⟩
  | .hbm, ⟨62, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== CombFwd.lean ====
abbrev S8192x512 : Shape := ⟨2, ![8192, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombFwdRefIdeal.lean ====
abbrev S8192x512 : Shape := ⟨2, ![8192, 512]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Products.lean ====
/-
  A product computed tile by tile along the contracted axis: what the accumulator holds after a run of tiles is the whole sum.
-/
module

public import Idealize.ShloMosaic.Lib.Pipeline.ValueKit
public import Idealize.ShloMosaic.Lib.Pipeline.ReadBack

@[expose] public section

noncomputable section

namespace Cert.Proof.Products

open Idealize.ShloMosaic

theorem tile_lt {J T K n : ℕ} [NeZero J] (hK : K = J * T) (x : Fin T) : n % J * T + x.val < K := by
  have h := Nat.mod_lt n (Nat.pos_of_ne_zero (NeZero.ne J))
  have := x.isLt
  have := Nat.mul_le_mul_right T (Nat.succ_le_of_lt h)
  rw [Nat.succ_mul] at this
  omega

/-- Place `x` of the tile of the contracted axis that point `n` multiplies. -/
abbrev con {J T K : ℕ} [NeZero J] (hK : K = J * T) (n : ℕ) (x : Fin T) : Fin K := ⟨n % J * T + x.val, tile_lt hK x⟩

/-- An accumulator cleared at the first of every `J` points, to which each point adds its tile of the contracted axis,
    holds the whole sum at the last of them. -/
theorem acc_last {N J T K : ℕ} [NeZero J] {ι : Type} (hK : K = J * T) (f : (n : ℕ) → n < N → ι → EReal)
    (g : Fin N → Fin K → ι → EReal) (hg : ∀ s t : Fin N, s.val / J = t.val / J → g s = g t)
    (h0 : ∀ t : Fin N, t.val % J = 0 → ∀ i, f t.val t.isLt i = 0 + ∑ x : Fin T, g t (con hK t.val x) i)
    (hs : ∀ t : Fin N, ¬t.val % J = 0 → ∀ i,
      f t.val t.isLt i = f (t.val - 1) (Nat.lt_of_le_of_lt (Nat.sub_le _ _) t.isLt) i + ∑ x : Fin T, g t (con hK t.val x) i)
    (t : Fin N) (h : t.val % J = J - 1) (i : ι) : f t.val t.isLt i = ∑ k : Fin K, g t k i := by
  have hJ : 0 < J := Nat.pos_of_ne_zero (NeZero.ne J)
  rw [Pipeline.eq_sum_fin_of_reset_step_apply_of_flush f J (fun _ => (0 : EReal)) (fun t i => ∑ x : Fin T, g t (con hK t.val x) i)
    h0 hs t h i, zero_add]
  refine Fin.sum_mul_add_congr (fun s k hl => ?_) hK
  have h1 : (J * (t.val / J) + s.val) / J = t.val / J := by rw [Nat.mul_add_div hJ, Nat.div_eq_of_lt s.isLt, Nat.add_zero]
  have h2 : (J * (t.val / J) + s.val) % J = s.val := by rw [Nat.mul_add_mod, Nat.mod_eq_of_lt s.isLt]
  have h3 : con hK (J * (t.val / J) + s.val) k = ⟨s.val * T + k.val, hl⟩ := Fin.ext (by show (J * (t.val / J) + s.val) % J * T + k.val = _; rw [h2])
  rw [hg _ t h1, h3]

end Cert.Proof.Products

end
-- ==== Proof.DxVal.lean ====
/-
  The gradient of a layer's input through the projections and the residual.
-/
module

public import proofs.«01_k».proof.Defs
public import proofs.«01_k».proof.Proof.Gen.DxIdeal.Value
public import proofs.«01_k».proof.Proof.Gen.DxRefIdeal.Read
public import proofs.«01_k».proof.Proof.Products

@[expose] public section

set_option maxRecDepth 16384

noncomputable section

namespace Cert.Proof.DxIdeal

open Cert.DxIdeal Cert.DxIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x9728 .bf16 := m ((c.tc : Thread nD τ).loc main_arg0)
def A1 : FVec Ideal S1024x9728 .bf16 := m ((c.tc : Thread nD τ).loc main_arg1)
def A2 : FVec Ideal S8192x1024 .f32 := m ((c.tc : Thread nD τ).loc main_arg2)

theorem idx : ∀ t : Fin cfg0.N, win0_0.index t = ![t.val / 4, t.val % 4] ∧ win0_1.index t = ![0, t.val % 4] ∧ win0_2.index t = ![t.val / 4, 0] ∧ win0_3.index t = ![t.val / 4, 0] :=
  (by decide +kernel : ∀ t : Fin grid0.N, _)

/-- Row `r` of a point's tile of rows. -/
abbrev row (t : Fin cfg0.N) (r : Fin 1024) : Fin 8192 := ⟨1024 * (t.val / 4) + r.val, by have := lt_of_lt_of_eq t.isLt N_0; have := r.isLt; omega⟩
theorem contr : 9728 = 4 * 2432 := rfl

theorem in0 (t : Fin cfg0.N) (r : Fin 1024) (x : Fin 2432) : iblk m c 0 t (ix2 r x) = A0 m c (ix2 (row t r) (con contr t.val x)) :=
  congrArg (A0 m c) (by blk_ext [idx t])
theorem in1 (t : Fin cfg0.N) (a : Fin 1024) (x : Fin 2432) : iblk m c 1 t (ix2 a x) = A1 m c (ix2 a (con contr t.val x)) :=
  congrArg (A1 m c) (by blk_ext [idx t])
theorem in2 (t : Fin cfg0.N) (r : Fin 1024) (a : Fin 1024) : iblk m c 2 t (ix2 r a) = A2 m c (ix2 (row t r) a) :=
  congrArg (A2 m c) (by blk_ext [idx t])

theorem pay1_at (i : S1024x1024.Idx) : k0_pay1 (F := Ideal) i = (0 : EReal) := by
  pointwise [k0_pay1]
theorem pay2_at (s : FVec Ideal S1024x1024 .f32) (x : FVec Ideal S1024x2432 .bf16) (y : FVec Ideal S1024x2432 .bf16) (i : Fin 1024) (j : Fin 1024) :
    k0_pay2 (F := Ideal) s x y (ix2 i j) = (s (ix2 i j) : EReal) + ∑ k : Fin 2432, x (ix2 i k) * y (ix2 j k) := by
  pointwise [k0_pay2]
theorem pay3_at (s r : FVec Ideal S1024x1024 .f32) (i : Fin 1024) (j : Fin 1024) :
    k0_pay3 (F := Ideal) s r (ix2 i j) = (s (ix2 i j) : EReal) + Scalar.ofBits (F := Ideal) .f32 0x3FB504F3#32 * r (ix2 i j) := by
  pointwise [k0_pay3]

/-- The summand at place `k` of the contracted axis, for an entry of a point's block. -/
def summand (t : Fin cfg0.N) (k : Fin 9728) (i : S1024x1024.Idx) : EReal := A0 m c (ix2 (row t (i 0)) k) * A1 m c (ix2 (i 1) k)

theorem summand_run (s t : Fin cfg0.N) (h : s.val / 4 = t.val / 4) : summand m c s = summand m c t := by
  funext k i
  simp only [summand, row, h]

theorem step_at (s : FVec Ideal S1024x1024 .f32) (t : Fin cfg0.N) (i : S1024x1024.Idx) :
    k0_pay2 (F := Ideal) s (iblk m c 0 t) (iblk m c 1 t) i = (s i : EReal) + ∑ x : Fin 2432, summand m c t (con contr t.val x) i := by
  idx_vars i
  rw [pay2_at]
  simp only [in0, in1]
  rfl

theorem acc_zero (t : Fin cfg0.N) (h : t.val % 4 = 0) (i : S1024x1024.Idx) :
    (outsAt0 m c t.val t.isLt).2 i = (0 : EReal) + ∑ x : Fin 2432, summand m c t (con contr t.val x) i := by
  rw [outsAt0_A m c t h (by omega)]
  frame_out
  rw [step_at, pay1_at]

theorem acc_succ (t : Fin cfg0.N) (h : ¬t.val % 4 = 0) (i : S1024x1024.Idx) : (outsAt0 m c t.val t.isLt).2 i
    = (outsAt0 m c (t.val - 1) (Nat.lt_of_le_of_lt (Nat.sub_le _ _) t.isLt)).2 i + ∑ x : Fin 2432, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S8192x1024.Idx → EReal := fun i =>
  (∑ k : Fin 9728, A0 m c (ix2 (i 0) k) * A1 m c (ix2 (i 1) k)) + Scalar.ofBits (F := Ideal) .f32 0x3FB504F3#32 * A2 m c i

theorem out_last (t : Fin cfg0.N) (h : t.val % 4 = 3) : (outsAt0 m c t.val t.isLt).1 = k0_pay3 (outsAt0 m c t.val t.isLt).2 (iblk m c 2 t) := by
  rw [outsAt0_C m c t (by omega) h]
  frame_out

theorem final : (dats m 0 c).arrAt 3 cfg0.N = G m c := by
  refine (dats m 0 c).arrAt_eq_of_covers 3 _ (by decide +kernel) fun t hf y => ?_
  have h := (flush0_3 t).mp hf
  blk_simp
  rw [after0_3, out_last m c t h]
  idx_vars y
  rw [pay3_at, acc_last contr (fun n h => (outsAt0 m c n h).2) (summand m c) (summand_run m c) (acc_zero m c) (acc_succ m c) t h, in2]
  have e : ((View.whole main_v0).slice (win0_3.rect t)).emb (ix2 y0 y1) = ix2 (row t y0) y1 := by blk_ext [idx t]
  exact (congrArg (G m c) e).symm

theorem algebraic : Cert.algebraic_DxIdeal_DxRefIdeal := by
  intro m g m' g' _ hagree
  refine ⟨fun c => G m c, (θ_run defs _ _).mono (fun _ h c => ⟨(h c).1.trans (final m c), (h c).2⟩) (Value.run_blocks m g),
    (θ_run Cert.DxRefIdeal.defs _ _).mono (fun r h c => ⟨(h c).1.trans ?_, (h c).2⟩) (Cert.DxRefIdeal.Value.run (F := Ideal) m' g')⟩
  obtain ⟨a0, a1, a2⟩ := hagree c
  rw [Cert.DxRefIdeal.Read.val_main_v5_eq, a0, a1, a2]
  funext i
  rw [Cert.DxRefIdeal.Read.val_main_v5_apply, Cert.DxRefIdeal.Read.val_main_v3_apply, Cert.DxRefIdeal.Read.val_main_v4_apply]
  idx_vars i
  unfold G
  refine Eq.trans ?_ (add_comm (G := EReal) _ _)
  refine congrArg₂ (fun a b : EReal => a + b) rfl (Finset.sum_congr rfl fun k _ => congrArg₂ (fun a b : EReal => a * b) (congrArg (A0 m c) ?_) (congrArg (A1 m c) ?_)) <;>
  · funext a
    fin_cases a <;> rfl

end Cert.Proof.DxIdeal

end
-- ==== Proof.Dx1Val.lean ====
/-
  The gradient of the first norm's output through the feed-forward product and the residual.
-/
module

public import proofs.«01_k».proof.Defs
public import proofs.«01_k».proof.Proof.Gen.Dx1Ideal.Value
public import proofs.«01_k».proof.Proof.Gen.Dx1RefIdeal.Read
public import proofs.«01_k».proof.Proof.Products

@[expose] public section

set_option maxRecDepth 16384

noncomputable section

namespace Cert.Proof.Dx1Ideal

open Cert.Dx1Ideal Cert.Dx1Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x5632 .bf16 := m ((c.tc : Thread nD τ).loc main_arg0)
def A1 : FVec Ideal S1024x5632 .bf16 := m ((c.tc : Thread nD τ).loc main_arg1)
def A2 : FVec Ideal S8192x1024 .f32 := m ((c.tc : Thread nD τ).loc main_arg2)

theorem idx : ∀ t : Fin cfg0.N, win0_0.index t = ![t.val / 4, t.val % 4] ∧ win0_1.index t = ![0, t.val % 4] ∧ win0_2.index t = ![t.val / 4, 0] ∧ win0_3.index t = ![t.val / 4, 0] :=
  (by decide +kernel : ∀ t : Fin grid0.N, _)

/-- Row `r` of a point's tile of rows. -/
abbrev row (t : Fin cfg0.N) (r : Fin 1024) : Fin 8192 := ⟨1024 * (t.val / 4) + r.val, by have := lt_of_lt_of_eq t.isLt N_0; have := r.isLt; omega⟩
theorem contr : 5632 = 4 * 1408 := rfl

theorem in0 (t : Fin cfg0.N) (r : Fin 1024) (x : Fin 1408) : iblk m c 0 t (ix2 r x) = A0 m c (ix2 (row t r) (con contr t.val x)) :=
  congrArg (A0 m c) (by blk_ext [idx t])
theorem in1 (t : Fin cfg0.N) (a : Fin 1024) (x : Fin 1408) : iblk m c 1 t (ix2 a x) = A1 m c (ix2 a (con contr t.val x)) :=
  congrArg (A1 m c) (by blk_ext [idx t])
theorem in2 (t : Fin cfg0.N) (r : Fin 1024) (a : Fin 1024) : iblk m c 2 t (ix2 r a) = A2 m c (ix2 (row t r) a) :=
  congrArg (A2 m c) (by blk_ext [idx t])

theorem pay1_at (i : S1024x1024.Idx) : k0_pay1 (F := Ideal) i = (0 : EReal) := by
  pointwise [k0_pay1]
theorem pay2_at (s : FVec Ideal S1024x1024 .f32) (x : FVec Ideal S1024x1408 .bf16) (y : FVec Ideal S1024x1408 .bf16) (i : Fin 1024) (j : Fin 1024) :
    k0_pay2 (F := Ideal) s x y (ix2 i j) = (s (ix2 i j) : EReal) + ∑ k : Fin 1408, x (ix2 i k) * y (ix2 j k) := by
  pointwise [k0_pay2]
theorem pay3_at (s r : FVec Ideal S1024x1024 .f32) (i : Fin 1024) (j : Fin 1024) :
    k0_pay3 (F := Ideal) s r (ix2 i j) = (s (ix2 i j) : EReal) + Scalar.ofBits (F := Ideal) .f32 0x3FB504F3#32 * r (ix2 i j) := by
  pointwise [k0_pay3]

/-- The summand at place `k` of the contracted axis, for an entry of a point's block. -/
def summand (t : Fin cfg0.N) (k : Fin 5632) (i : S1024x1024.Idx) : EReal := A0 m c (ix2 (row t (i 0)) k) * A1 m c (ix2 (i 1) k)

theorem summand_run (s t : Fin cfg0.N) (h : s.val / 4 = t.val / 4) : summand m c s = summand m c t := by
  funext k i
  simp only [summand, row, h]

theorem step_at (s : FVec Ideal S1024x1024 .f32) (t : Fin cfg0.N) (i : S1024x1024.Idx) :
    k0_pay2 (F := Ideal) s (iblk m c 0 t) (iblk m c 1 t) i = (s i : EReal) + ∑ x : Fin 1408, summand m c t (con contr t.val x) i := by
  idx_vars i
  rw [pay2_at]
  simp only [in0, in1]
  rfl

theorem acc_zero (t : Fin cfg0.N) (h : t.val % 4 = 0) (i : S1024x1024.Idx) :
    (outsAt0 m c t.val t.isLt).2 i = (0 : EReal) + ∑ x : Fin 1408, summand m c t (con contr t.val x) i := by
  rw [outsAt0_A m c t h (by omega)]
  frame_out
  rw [step_at, pay1_at]

theorem acc_succ (t : Fin cfg0.N) (h : ¬t.val % 4 = 0) (i : S1024x1024.Idx) : (outsAt0 m c t.val t.isLt).2 i
    = (outsAt0 m c (t.val - 1) (Nat.lt_of_le_of_lt (Nat.sub_le _ _) t.isLt)).2 i + ∑ x : Fin 1408, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S8192x1024.Idx → EReal := fun i =>
  (∑ k : Fin 5632, A0 m c (ix2 (i 0) k) * A1 m c (ix2 (i 1) k)) + Scalar.ofBits (F := Ideal) .f32 0x3FB504F3#32 * A2 m c i

theorem out_last (t : Fin cfg0.N) (h : t.val % 4 = 3) : (outsAt0 m c t.val t.isLt).1 = k0_pay3 (outsAt0 m c t.val t.isLt).2 (iblk m c 2 t) := by
  rw [outsAt0_C m c t (by omega) h]
  frame_out

theorem final : (dats m 0 c).arrAt 3 cfg0.N = G m c := by
  refine (dats m 0 c).arrAt_eq_of_covers 3 _ (by decide +kernel) fun t hf y => ?_
  have h := (flush0_3 t).mp hf
  blk_simp
  rw [after0_3, out_last m c t h]
  idx_vars y
  rw [pay3_at, acc_last contr (fun n h => (outsAt0 m c n h).2) (summand m c) (summand_run m c) (acc_zero m c) (acc_succ m c) t h, in2]
  have e : ((View.whole main_v0).slice (win0_3.rect t)).emb (ix2 y0 y1) = ix2 (row t y0) y1 := by blk_ext [idx t]
  exact (congrArg (G m c) e).symm

theorem algebraic : Cert.algebraic_Dx1Ideal_Dx1RefIdeal := by
  intro m g m' g' _ hagree
  refine ⟨fun c => G m c, (θ_run defs _ _).mono (fun _ h c => ⟨(h c).1.trans (final m c), (h c).2⟩) (Value.run_blocks m g),
    (θ_run Cert.Dx1RefIdeal.defs _ _).mono (fun r h c => ⟨(h c).1.trans ?_, (h c).2⟩) (Cert.Dx1RefIdeal.Value.run (F := Ideal) m' g')⟩
  obtain ⟨a0, a1, a2⟩ := hagree c
  rw [Cert.Dx1RefIdeal.Read.val_main_v5_eq, a0, a1, a2]
  funext i
  rw [Cert.Dx1RefIdeal.Read.val_main_v5_apply, Cert.Dx1RefIdeal.Read.val_main_v3_apply, Cert.Dx1RefIdeal.Read.val_main_v4_apply]
  idx_vars i
  unfold G
  refine Eq.trans ?_ (add_comm (G := EReal) _ _)
  refine congrArg₂ (fun a b : EReal => a + b) rfl (Finset.sum_congr rfl fun k _ => congrArg₂ (fun a b : EReal => a * b) (congrArg (A0 m c) ?_) (congrArg (A1 m c) ?_)) <;>
  · funext a
    fin_cases a <;> rfl

end Cert.Proof.Dx1Ideal

end
-- ==== Proof.DwUpVal.lean ====
/-
  The gradient of the feed-forward's up weight.
-/
module

public import proofs.«01_k».proof.Defs
public import proofs.«01_k».proof.Proof.Gen.DwUpIdeal.Value
public import proofs.«01_k».proof.Proof.Gen.DwUpRefIdeal.Read
public import proofs.«01_k».proof.Proof.Products

@[expose] public section

set_option maxRecDepth 16384

noncomputable section

namespace Cert.Proof.DwUpIdeal

open Cert.DwUpIdeal Cert.DwUpIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S8192x5632 .bf16 := m ((c.tc : Thread nD τ).loc main_arg1)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- Column `a` of a point's tile of columns. -/
abbrev col (t : Fin cfg0.N) (a : Fin 1408) : Fin 5632 := ⟨1408 * (t.val / 4) + a.val, by have := lt_of_lt_of_eq t.isLt N_0; have := a.isLt; omega⟩
theorem contr : 8192 = 4 * 2048 := rfl

theorem in0 (t : Fin cfg0.N) (r : Fin 1024) (x : Fin 2048) : iblk m c 0 t (ix2 x r) = A0 m c (ix2 (con contr t.val x) r) :=
  congrArg (A0 m c) (by blk_ext [idx t])
theorem in1 (t : Fin cfg0.N) (a : Fin 1408) (x : Fin 2048) : iblk m c 1 t (ix2 x a) = A1 m c (ix2 (con contr t.val x) (col t a)) :=
  congrArg (A1 m c) (by blk_ext [idx t])

theorem pay1_at (i : S1024x1408.Idx) : k0_pay1 (F := Ideal) i = (0 : EReal) := by
  pointwise [k0_pay1]
theorem pay2_at (s : FVec Ideal S1024x1408 .f32) (x : FVec Ideal S2048x1024 .bf16) (y : FVec Ideal S2048x1408 .bf16) (i : Fin 1024) (j : Fin 1408) :
    k0_pay2 (F := Ideal) s x y (ix2 i j) = (s (ix2 i j) : EReal) + ∑ k : Fin 2048, x (ix2 k i) * y (ix2 k j) := by
  pointwise [k0_pay2]

/-- The summand at place `k` of the contracted axis, for an entry of a point's block. -/
def summand (t : Fin cfg0.N) (k : Fin 8192) (i : S1024x1408.Idx) : EReal := A0 m c (ix2 k (i 0)) * A1 m c (ix2 k (col t (i 1)))

theorem summand_run (s t : Fin cfg0.N) (h : s.val / 4 = t.val / 4) : summand m c s = summand m c t := by
  funext k i
  simp only [summand, col, h]

theorem step_at (s : FVec Ideal S1024x1408 .f32) (t : Fin cfg0.N) (i : S1024x1408.Idx) :
    k0_pay2 (F := Ideal) s (iblk m c 0 t) (iblk m c 1 t) i = (s i : EReal) + ∑ x : Fin 2048, summand m c t (con contr t.val x) i := by
  idx_vars i
  rw [pay2_at]
  simp only [in0, in1]
  rfl

theorem acc_zero (t : Fin cfg0.N) (h : t.val % 4 = 0) (i : S1024x1408.Idx) :
    (outsAt0 m c t.val t.isLt).2 i = (0 : EReal) + ∑ x : Fin 2048, summand m c t (con contr t.val x) i := by
  rw [outsAt0_A m c t h (by omega)]
  frame_out
  rw [step_at, pay1_at]

theorem acc_succ (t : Fin cfg0.N) (h : ¬t.val % 4 = 0) (i : S1024x1408.Idx) : (outsAt0 m c t.val t.isLt).2 i
    = (outsAt0 m c (t.val - 1) (Nat.lt_of_le_of_lt (Nat.sub_le _ _) t.isLt)).2 i + ∑ x : Fin 2048, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S1024x5632.Idx → EReal := fun i =>
  ∑ k : Fin 8192, A0 m c (ix2 k (i 0)) * A1 m c (ix2 k (i 1))

theorem out_last (t : Fin cfg0.N) (h : t.val % 4 = 3) : (outsAt0 m c t.val t.isLt).1 = (outsAt0 m c t.val t.isLt).2 := by
  rw [outsAt0_C m c t (by omega) h]
  frame_out

theorem final : (dats m 0 c).arrAt 2 cfg0.N = G m c := by
  refine (dats m 0 c).arrAt_eq_of_covers 2 _ (by decide +kernel) fun t hf y => ?_
  have h := (flush0_2 t).mp hf
  blk_simp
  rw [after0_2, out_last m c t h]
  idx_vars y
  rw [acc_last contr (fun n h => (outsAt0 m c n h).2) (summand m c) (summand_run m c) (acc_zero m c) (acc_succ m c) t h]
  have e : ((View.whole main_v0).slice (win0_2.rect t)).emb (ix2 y0 y1) = ix2 y0 (col t y1) := by blk_ext [idx t]
  exact (congrArg (G m c) e).symm

theorem algebraic : Cert.algebraic_DwUpIdeal_DwUpRefIdeal := by
  intro m g m' g' _ hagree
  refine ⟨fun c => G m c, (θ_run defs _ _).mono (fun _ h c => ⟨(h c).1.trans (final m c), (h c).2⟩) (Value.run_blocks m g),
    (θ_run Cert.DwUpRefIdeal.defs _ _).mono (fun r h c => ⟨(h c).1.trans ?_, (h c).2⟩) (Cert.DwUpRefIdeal.Value.run (F := Ideal) m' g')⟩
  obtain ⟨a0, a1⟩ := hagree c
  rw [Cert.DwUpRefIdeal.Read.val_main_v3_eq, a0, a1]
  funext i
  rw [Cert.DwUpRefIdeal.Read.val_main_v3_apply, Cert.DwUpRefIdeal.Read.val_main_v2_apply]
  idx_vars i
  unfold G
  refine Finset.sum_congr rfl fun k _ => Eq.trans ?_ (mul_comm (G := EReal) _ _)
  refine congrArg₂ (fun a b : EReal => a * b) (congrArg (A1 m c) ?_) (congrArg (A0 m c) ?_) <;>
  · funext a
    fin_cases a <;> rfl

end Cert.Proof.DwUpIdeal

end
-- ==== Proof.DwDownVal.lean ====
/-
  The gradient of the feed-forward's down weight.
-/
module

public import proofs.«01_k».proof.Defs
public import proofs.«01_k».proof.Proof.Gen.DwDownIdeal.Value
public import proofs.«01_k».proof.Proof.Gen.DwDownRefIdeal.Read
public import proofs.«01_k».proof.Proof.Products

@[expose] public section

set_option maxRecDepth 16384

noncomputable section

namespace Cert.Proof.DwDownIdeal

open Cert.DwDownIdeal Cert.DwDownIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x2816 .bf16 := m ((c.tc : Thread nD τ).loc main_arg0)
def A1 : FVec Ideal S8192x1024 .f32 := m ((c.tc : Thread nD τ).loc main_arg1)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- Row `r` of a point's tile of rows. -/
abbrev row (t : Fin cfg0.N) (r : Fin 1408) : Fin 2816 := ⟨1408 * (t.val / 4) + r.val, by have := lt_of_lt_of_eq t.isLt N_0; have := r.isLt; omega⟩
theorem contr : 8192 = 4 * 2048 := rfl

theorem in0 (t : Fin cfg0.N) (r : Fin 1408) (x : Fin 2048) : iblk m c 0 t (ix2 x r) = A0 m c (ix2 (con contr t.val x) (row t r)) :=
  congrArg (A0 m c) (by blk_ext [idx t])
theorem in1 (t : Fin cfg0.N) (a : Fin 1024) (x : Fin 2048) : iblk m c 1 t (ix2 x a) = A1 m c (ix2 (con contr t.val x) a) :=
  congrArg (A1 m c) (by blk_ext [idx t])

theorem pay1_at (i : S1408x1024.Idx) : k0_pay1 (F := Ideal) i = (0 : EReal) := by
  pointwise [k0_pay1]
theorem pay2_at (s : FVec Ideal S1408x1024 .f32) (x : FVec Ideal S2048x1408 .bf16) (y : FVec Ideal S2048x1024 .f32) (i : Fin 1408) (j : Fin 1024) :
    k0_pay2 (F := Ideal) s x y (ix2 i j) = (s (ix2 i j) : EReal) + ∑ k : Fin 2048, x (ix2 k i) * y (ix2 k j) := by
  pointwise [k0_pay2]

/-- The summand at place `k` of the contracted axis, for an entry of a point's block. -/
def summand (t : Fin cfg0.N) (k : Fin 8192) (i : S1408x1024.Idx) : EReal := A0 m c (ix2 k (row t (i 0))) * A1 m c (ix2 k (i 1))

theorem summand_run (s t : Fin cfg0.N) (h : s.val / 4 = t.val / 4) : summand m c s = summand m c t := by
  funext k i
  simp only [summand, row, h]

theorem step_at (s : FVec Ideal S1408x1024 .f32) (t : Fin cfg0.N) (i : S1408x1024.Idx) :
    k0_pay2 (F := Ideal) s (iblk m c 0 t) (iblk m c 1 t) i = (s i : EReal) + ∑ x : Fin 2048, summand m c t (con contr t.val x) i := by
  idx_vars i
  rw [pay2_at]
  simp only [in0, in1]
  rfl

theorem acc_zero (t : Fin cfg0.N) (h : t.val % 4 = 0) (i : S1408x1024.Idx) :
    (outsAt0 m c t.val t.isLt).2 i = (0 : EReal) + ∑ x : Fin 2048, summand m c t (con contr t.val x) i := by
  rw [outsAt0_A m c t h (by omega)]
  frame_out
  rw [step_at, pay1_at]

theorem acc_succ (t : Fin cfg0.N) (h : ¬t.val % 4 = 0) (i : S1408x1024.Idx) : (outsAt0 m c t.val t.isLt).2 i
    = (outsAt0 m c (t.val - 1) (Nat.lt_of_le_of_lt (Nat.sub_le _ _) t.isLt)).2 i + ∑ x : Fin 2048, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S2816x1024.Idx → EReal := fun i =>
  ∑ k : Fin 8192, A0 m c (ix2 k (i 0)) * A1 m c (ix2 k (i 1))

theorem out_last (t : Fin cfg0.N) (h : t.val % 4 = 3) : (outsAt0 m c t.val t.isLt).1 = (outsAt0 m c t.val t.isLt).2 := by
  rw [outsAt0_C m c t (by omega) h]
  frame_out

theorem final : (dats m 0 c).arrAt 2 cfg0.N = G m c := by
  refine (dats m 0 c).arrAt_eq_of_covers 2 _ (by decide +kernel) fun t hf y => ?_
  have h := (flush0_2 t).mp hf
  blk_simp
  rw [after0_2, out_last m c t h]
  idx_vars y
  rw [acc_last contr (fun n h => (outsAt0 m c n h).2) (summand m c) (summand_run m c) (acc_zero m c) (acc_succ m c) t h]
  have e : ((View.whole main_v0).slice (win0_2.rect t)).emb (ix2 y0 y1) = ix2 (row t y0) y1 := by blk_ext [idx t]
  exact (congrArg (G m c) e).symm

theorem algebraic : Cert.algebraic_DwDownIdeal_DwDownRefIdeal := by
  intro m g m' g' _ hagree
  refine ⟨fun c => G m c, (θ_run defs _ _).mono (fun _ h c => ⟨(h c).1.trans (final m c), (h c).2⟩) (Value.run_blocks m g),
    (θ_run Cert.DwDownRefIdeal.defs _ _).mono (fun r h c => ⟨(h c).1.trans ?_, (h c).2⟩) (Cert.DwDownRefIdeal.Value.run (F := Ideal) m' g')⟩
  obtain ⟨a0, a1⟩ := hagree c
  rw [Cert.DwDownRefIdeal.Read.val_main_v2_eq, a0, a1]
  funext i
  rw [Cert.DwDownRefIdeal.Read.val_main_v2_apply, Cert.DwDownRefIdeal.Read.val_main_v1_apply]
  idx_vars i
  unfold G
  refine Finset.sum_congr rfl fun k _ => Eq.trans ?_ (mul_comm (G := EReal) _ _)
  refine congrArg₂ (fun a b : EReal => a * b) (congrArg (A1 m c) ?_) (congrArg (A0 m c) ?_) <;>
  · funext a
    fin_cases a <;> rfl

end Cert.Proof.DwDownIdeal

end
-- ==== Proof.DwInVal.lean ====
/-
  The gradient of the projections' weight.
-/
module

public import proofs.«01_k».proof.Defs
public import proofs.«01_k».proof.Proof.Gen.DwInIdeal.Value
public import proofs.«01_k».proof.Proof.Gen.DwInRefIdeal.Read
public import proofs.«01_k».proof.Proof.Products

@[expose] public section

set_option maxRecDepth 16384

noncomputable section

namespace Cert.Proof.DwInIdeal

open Cert.DwInIdeal Cert.DwInIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S8192x9728 .bf16 := m ((c.tc : Thread nD τ).loc main_arg1)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- Column `a` of a point's tile of columns. -/
abbrev col (t : Fin cfg0.N) (a : Fin 512) : Fin 9728 := ⟨512 * (t.val / 4) + a.val, by have := lt_of_lt_of_eq t.isLt N_0; have := a.isLt; omega⟩
theorem contr : 8192 = 4 * 2048 := rfl

theorem in0 (t : Fin cfg0.N) (r : Fin 1024) (x : Fin 2048) : iblk m c 0 t (ix2 x r) = A0 m c (ix2 (con contr t.val x) r) :=
  congrArg (A0 m c) (by blk_ext [idx t])
theorem in1 (t : Fin cfg0.N) (a : Fin 512) (x : Fin 2048) : iblk m c 1 t (ix2 x a) = A1 m c (ix2 (con contr t.val x) (col t a)) :=
  congrArg (A1 m c) (by blk_ext [idx t])

theorem pay1_at (i : S1024x512.Idx) : k0_pay1 (F := Ideal) i = (0 : EReal) := by
  pointwise [k0_pay1]
theorem pay2_at (s : FVec Ideal S1024x512 .f32) (x : FVec Ideal S2048x1024 .bf16) (y : FVec Ideal S2048x512 .bf16) (i : Fin 1024) (j : Fin 512) :
    k0_pay2 (F := Ideal) s x y (ix2 i j) = (s (ix2 i j) : EReal) + ∑ k : Fin 2048, x (ix2 k i) * y (ix2 k j) := by
  pointwise [k0_pay2]

/-- The summand at place `k` of the contracted axis, for an entry of a point's block. -/
def summand (t : Fin cfg0.N) (k : Fin 8192) (i : S1024x512.Idx) : EReal := A0 m c (ix2 k (i 0)) * A1 m c (ix2 k (col t (i 1)))

theorem summand_run (s t : Fin cfg0.N) (h : s.val / 4 = t.val / 4) : summand m c s = summand m c t := by
  funext k i
  simp only [summand, col, h]

theorem step_at (s : FVec Ideal S1024x512 .f32) (t : Fin cfg0.N) (i : S1024x512.Idx) :
    k0_pay2 (F := Ideal) s (iblk m c 0 t) (iblk m c 1 t) i = (s i : EReal) + ∑ x : Fin 2048, summand m c t (con contr t.val x) i := by
  idx_vars i
  rw [pay2_at]
  simp only [in0, in1]
  rfl

theorem acc_zero (t : Fin cfg0.N) (h : t.val % 4 = 0) (i : S1024x512.Idx) :
    (outsAt0 m c t.val t.isLt).2 i = (0 : EReal) + ∑ x : Fin 2048, summand m c t (con contr t.val x) i := by
  rw [outsAt0_A m c t h (by omega)]
  frame_out
  rw [step_at, pay1_at]

theorem acc_succ (t : Fin cfg0.N) (h : ¬t.val % 4 = 0) (i : S1024x512.Idx) : (outsAt0 m c t.val t.isLt).2 i
    = (outsAt0 m c (t.val - 1) (Nat.lt_of_le_of_lt (Nat.sub_le _ _) t.isLt)).2 i + ∑ x : Fin 2048, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S1024x9728.Idx → EReal := fun i =>
  ∑ k : Fin 8192, A0 m c (ix2 k (i 0)) * A1 m c (ix2 k (i 1))

theorem out_last (t : Fin cfg0.N) (h : t.val % 4 = 3) : (outsAt0 m c t.val t.isLt).1 = (outsAt0 m c t.val t.isLt).2 := by
  rw [outsAt0_C m c t (by omega) h]
  frame_out

theorem final : (dats m 0 c).arrAt 2 cfg0.N = G m c := by
  refine (dats m 0 c).arrAt_eq_of_covers 2 _ (by decide +kernel) fun t hf y => ?_
  have h := (flush0_2 t).mp hf
  blk_simp
  rw [after0_2, out_last m c t h]
  idx_vars y
  rw [acc_last contr (fun n h => (outsAt0 m c n h).2) (summand m c) (summand_run m c) (acc_zero m c) (acc_succ m c) t h]
  have e : ((View.whole main_v0).slice (win0_2.rect t)).emb (ix2 y0 y1) = ix2 y0 (col t y1) := by blk_ext [idx t]
  exact (congrArg (G m c) e).symm

theorem algebraic : Cert.algebraic_DwInIdeal_DwInRefIdeal := by
  intro m g m' g' _ hagree
  refine ⟨fun c => G m c, (θ_run defs _ _).mono (fun _ h c => ⟨(h c).1.trans (final m c), (h c).2⟩) (Value.run_blocks m g),
    (θ_run Cert.DwInRefIdeal.defs _ _).mono (fun r h c => ⟨(h c).1.trans ?_, (h c).2⟩) (Cert.DwInRefIdeal.Value.run (F := Ideal) m' g')⟩
  obtain ⟨a0, a1⟩ := hagree c
  rw [Cert.DwInRefIdeal.Read.val_main_v3_eq, a0, a1]
  funext i
  rw [Cert.DwInRefIdeal.Read.val_main_v3_apply, Cert.DwInRefIdeal.Read.val_main_v2_apply]
  idx_vars i
  unfold G
  refine Finset.sum_congr rfl fun k _ => Eq.trans ?_ (mul_comm (G := EReal) _ _)
  refine congrArg₂ (fun a b : EReal => a * b) (congrArg (A1 m c) ?_) (congrArg (A0 m c) ?_) <;>
  · funext a
    fin_cases a <;> rfl

end Cert.Proof.DwInIdeal

end
-- ==== Proof.DhVal.lean ====
/-
  The gradient of the feed-forward's hidden rows.
-/
module

public import proofs.«01_k».proof.Defs
public import proofs.«01_k».proof.Proof.Gen.DhIdeal.Value
public import proofs.«01_k».proof.Proof.Gen.DhRefIdeal.Read
public import proofs.«01_k».proof.Proof.Products

@[expose] public section

set_option maxRecDepth 16384

noncomputable section

namespace Cert.Proof.DhIdeal

open Cert.DhIdeal Cert.DhIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .f32 := m ((c.tc : Thread nD τ).loc main_arg0)
def A1 : FVec Ideal S2816x1024 .bf16 := m ((c.tc : Thread nD τ).loc main_arg1)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- Row `r` of a point's tile of rows, and column `a` of its tile of columns. -/
abbrev row (t : Fin cfg0.N) (r : Fin 1024) : Fin 8192 := ⟨1024 * (t.val / 2) + r.val, by have := lt_of_lt_of_eq t.isLt N_0; have := r.isLt; omega⟩
abbrev col (t : Fin cfg0.N) (a : Fin 1408) : Fin 2816 := ⟨1408 * (t.val % 2) + a.val, by have := a.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 1408) (x : Fin 1024) : iblk m c 1 t (ix2 a x) = A1 m c (ix2 (col t a) x) :=
  congrArg (A1 m c) (by blk_ext [idx t])

theorem pay1_at (x : FVec Ideal S1024x1024 .f32) (y : FVec Ideal S1408x1024 .bf16) (i : Fin 1024) (j : Fin 1408) :
    k0_pay1 (F := Ideal) x y (ix2 i j) = (∑ k : Fin 1024, x (ix2 i k) * y (ix2 j k) : EReal) := by
  pointwise [k0_pay1]

/-- The array after the run. -/
def G : S8192x2816.Idx → EReal := fun i => ∑ k : Fin 1024, A0 m c (ix2 (i 0) k) * A1 m c (ix2 (i 1) k)

theorem out_eq (x : FVec Ideal S1024x1024 .f32) (y : FVec Ideal S1408x1024 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) (col t y1) := by blk_ext [idx t]
  exact (congrArg (G m c) e).symm

theorem algebraic : Cert.algebraic_DhIdeal_DhRefIdeal := by
  intro m g m' g' _ hagree
  refine ⟨fun c => G m c, (θ_run defs _ _).mono (fun _ h c => ⟨(h c).1.trans (final m c), (h c).2⟩) (Value.run_blocks m g),
    (θ_run Cert.DhRefIdeal.defs _ _).mono (fun r h c => ⟨(h c).1.trans ?_, (h c).2⟩) (Cert.DhRefIdeal.Value.run (F := Ideal) m' g')⟩
  obtain ⟨a0, a1⟩ := hagree c
  rw [Cert.DhRefIdeal.Read.val_main_v1_eq, a0, a1]
  funext i
  rw [Cert.DhRefIdeal.Read.val_main_v1_apply]
  idx_vars i
  refine Finset.sum_congr rfl fun k _ => congrArg₂ (fun a b : EReal => a * b) (congrArg (A0 m c) ?_) (congrArg (A1 m c) ?_) <;>
  · funext a
    fin_cases a <;> rfl

end Cert.Proof.DhIdeal

end
-- ==== Proof.ProjAttnVal.lean ====
/-
  The projections' product for the columns that the banded attentions read.
-/
module

public import proofs.«01_k».proof.Defs
public import proofs.«01_k».proof.Proof.Gen.ProjAttnIdeal.Value
public import proofs.«01_k».proof.Proof.Gen.ProjAttnRefIdeal.Read
public import proofs.«01_k».proof.Proof.Products

@[expose] public section

set_option maxRecDepth 16384

noncomputable section

namespace Cert.Proof.ProjAttnIdeal

open Cert.ProjAttnIdeal Cert.ProjAttnIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S1024x6144 .bf16 := m ((c.tc : Thread nD τ).loc main_arg1)

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- Row `r` of a point's tile of rows, and column `a` of its tile of columns. -/
abbrev row (t : Fin cfg0.N) (r : Fin 1024) : Fin 8192 := ⟨1024 * (t.val / 3) + r.val, by have := lt_of_lt_of_eq t.isLt N_0; have := r.isLt; omega⟩
abbrev col (t : Fin cfg0.N) (a : Fin 2048) : Fin 6144 := ⟨2048 * (t.val % 3) + a.val, by have := a.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 2048) (x : Fin 1024) : iblk m c 1 t (ix2 x a) = A1 m c (ix2 x (col t a)) :=
  congrArg (A1 m c) (by blk_ext [idx t])

theorem pay1_at (x : FVec Ideal S1024x1024 .bf16) (y : FVec Ideal S1024x2048 .bf16) (i : Fin 1024) (j : Fin 2048) :
    k0_pay1 (F := Ideal) x y (ix2 i j) = (∑ k : Fin 1024, x (ix2 i k) * y (ix2 k j) : EReal) := by
  pointwise [k0_pay1]

/-- The array after the run. -/
def G : S8192x6144.Idx → EReal := fun i => ∑ k : Fin 1024, A0 m c (ix2 (i 0) k) * A1 m c (ix2 k (i 1))

theorem out_eq (x : FVec Ideal S1024x1024 .bf16) (y : FVec Ideal S1024x2048 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) (col t y1) := by blk_ext [idx t]
  exact (congrArg (G m c) e).symm

theorem algebraic : Cert.algebraic_ProjAttnIdeal_ProjAttnRefIdeal := by
  intro m g m' g' _ hagree
  refine ⟨fun c => G m c, (θ_run defs _ _).mono (fun _ h c => ⟨(h c).1.trans (final m c), (h c).2⟩) (Value.run_blocks m g),
    (θ_run Cert.ProjAttnRefIdeal.defs _ _).mono (fun r h c => ⟨(h c).1.trans ?_, (h c).2⟩) (Cert.ProjAttnRefIdeal.Value.run (F := Ideal) m' g')⟩
  obtain ⟨a0, a1⟩ := hagree c
  rw [Cert.ProjAttnRefIdeal.Read.val_main_v3_eq, a0, a1]
  funext i
  rw [Cert.ProjAttnRefIdeal.Read.val_main_v3_apply, Cert.ProjAttnRefIdeal.Read.val_main_v2_apply]
  idx_vars i
  refine Finset.sum_congr rfl fun k _ => congrArg₂ (fun a b : EReal => a * b) (congrArg (A0 m c) ?_) (congrArg (A1 m c) ?_) <;>
  · funext a
    fin_cases a <;> rfl

end Cert.Proof.ProjAttnIdeal

end
-- ==== Proof.ProjRestVal.lean ====
/-
  The projections' product for the other columns.
-/
module

public import proofs.«01_k».proof.Defs
public import proofs.«01_k».proof.Proof.Gen.ProjRestIdeal.Value
public import proofs.«01_k».proof.Proof.Gen.ProjRestRefIdeal.Read
public import proofs.«01_k».proof.Proof.Products

@[expose] public section

set_option maxRecDepth 16384

noncomputable section

namespace Cert.Proof.ProjRestIdeal

open Cert.ProjRestIdeal Cert.ProjRestIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S1024x3584 .bf16 := m ((c.tc : Thread nD τ).loc main_arg1)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- Row `r` of a point's tile of rows, and column `a` of its tile of columns. -/
abbrev row (t : Fin cfg0.N) (r : Fin 1024) : Fin 8192 := ⟨1024 * (t.val / 2) + r.val, by have := lt_of_lt_of_eq t.isLt N_0; have := r.isLt; omega⟩
abbrev col (t : Fin cfg0.N) (a : Fin 1792) : Fin 3584 := ⟨1792 * (t.val % 2) + a.val, by have := a.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 1792) (x : Fin 1024) : iblk m c 1 t (ix2 x a) = A1 m c (ix2 x (col t a)) :=
  congrArg (A1 m c) (by blk_ext [idx t])

theorem pay1_at (x : FVec Ideal S1024x1024 .bf16) (y : FVec Ideal S1024x1792 .bf16) (i : Fin 1024) (j : Fin 1792) :
    k0_pay1 (F := Ideal) x y (ix2 i j) = (∑ k : Fin 1024, x (ix2 i k) * y (ix2 k j) : EReal) := by
  pointwise [k0_pay1]

/-- The array after the run. -/
def G : S8192x3584.Idx → EReal := fun i => ∑ k : Fin 1024, A0 m c (ix2 (i 0) k) * A1 m c (ix2 k (i 1))

theorem out_eq (x : FVec Ideal S1024x1024 .bf16) (y : FVec Ideal S1024x1792 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) (col t y1) := by blk_ext [idx t]
  exact (congrArg (G m c) e).symm

theorem algebraic : Cert.algebraic_ProjRestIdeal_ProjRestRefIdeal := by
  intro m g m' g' _ hagree
  refine ⟨fun c => G m c, (θ_run defs _ _).mono (fun _ h c => ⟨(h c).1.trans (final m c), (h c).2⟩) (Value.run_blocks m g),
    (θ_run Cert.ProjRestRefIdeal.defs _ _).mono (fun r h c => ⟨(h c).1.trans ?_, (h c).2⟩) (Cert.ProjRestRefIdeal.Value.run (F := Ideal) m' g')⟩
  obtain ⟨a0, a1⟩ := hagree c
  rw [Cert.ProjRestRefIdeal.Read.val_main_v2_eq, a0, a1]
  funext i
  rw [Cert.ProjRestRefIdeal.Read.val_main_v2_apply]
  idx_vars i
  refine Finset.sum_congr rfl fun k _ => congrArg₂ (fun a b : EReal => a * b) (congrArg (A0 m c) ?_) (congrArg (A1 m c) ?_) <;>
  · funext a
    fin_cases a <;> rfl

end Cert.Proof.ProjRestIdeal

end
-- ==== Proof.FfnUpVal.lean ====
/-
  The feed-forward's up product.
-/
module

public import proofs.«01_k».proof.Defs
public import proofs.«01_k».proof.Proof.Gen.FfnUpIdeal.Value
public import proofs.«01_k».proof.Proof.Gen.FfnUpRefIdeal.Read
public import proofs.«01_k».proof.Proof.Products

@[expose] public section

set_option maxRecDepth 16384

noncomputable section

namespace Cert.Proof.FfnUpIdeal

open Cert.FfnUpIdeal Cert.FfnUpIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S1024x5632 .bf16 := m ((c.tc : Thread nD τ).loc main_arg1)

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- Row `r` of a point's tile of rows, and column `a` of its tile of columns. -/
abbrev row (t : Fin cfg0.N) (r : Fin 1024) : Fin 8192 := ⟨1024 * (t.val / 4) + r.val, by have := lt_of_lt_of_eq t.isLt N_0; have := r.isLt; omega⟩
abbrev col (t : Fin cfg0.N) (a : Fin 1408) : Fin 5632 := ⟨1408 * (t.val % 4) + a.val, by have := a.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 1408) (x : Fin 1024) : iblk m c 1 t (ix2 x a) = A1 m c (ix2 x (col t a)) :=
  congrArg (A1 m c) (by blk_ext [idx t])

theorem pay1_at (x : FVec Ideal S1024x1024 .bf16) (y : FVec Ideal S1024x1408 .bf16) (i : Fin 1024) (j : Fin 1408) :
    k0_pay1 (F := Ideal) x y (ix2 i j) = (∑ k : Fin 1024, x (ix2 i k) * y (ix2 k j) : EReal) := by
  pointwise [k0_pay1]

/-- The array after the run. -/
def G : S8192x5632.Idx → EReal := fun i => ∑ k : Fin 1024, A0 m c (ix2 (i 0) k) * A1 m c (ix2 k (i 1))

theorem out_eq (x : FVec Ideal S1024x1024 .bf16) (y : FVec Ideal S1024x1408 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) (col t y1) := by blk_ext [idx t]
  exact (congrArg (G m c) e).symm

theorem algebraic : Cert.algebraic_FfnUpIdeal_FfnUpRefIdeal := by
  intro m g m' g' _ hagree
  refine ⟨fun c => G m c, (θ_run defs _ _).mono (fun _ h c => ⟨(h c).1.trans (final m c), (h c).2⟩) (Value.run_blocks m g),
    (θ_run Cert.FfnUpRefIdeal.defs _ _).mono (fun r h c => ⟨(h c).1.trans ?_, (h c).2⟩) (Cert.FfnUpRefIdeal.Value.run (F := Ideal) m' g')⟩
  obtain ⟨a0, a1⟩ := hagree c
  rw [Cert.FfnUpRefIdeal.Read.val_main_v2_eq, a0, a1]
  funext i
  rw [Cert.FfnUpRefIdeal.Read.val_main_v2_apply]
  idx_vars i
  refine Finset.sum_congr rfl fun k _ => congrArg₂ (fun a b : EReal => a * b) (congrArg (A0 m c) ?_) (congrArg (A1 m c) ?_) <;>
  · funext a
    fin_cases a <;> rfl

end Cert.Proof.FfnUpIdeal

end
-- ==== Proof.FfnDownVal.lean ====
/-
  The feed-forward's down product.
-/
module

public import proofs.«01_k».proof.Defs
public import proofs.«01_k».proof.Proof.Gen.FfnDownIdeal.Value
public import proofs.«01_k».proof.Proof.Gen.FfnDownRefIdeal.Read
public import proofs.«01_k».proof.Proof.Products

@[expose] public section

set_option maxRecDepth 16384

noncomputable section

namespace Cert.Proof.FfnDownIdeal

open Cert.FfnDownIdeal Cert.FfnDownIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x2816 .bf16 := m ((c.tc : Thread nD τ).loc main_arg0)
def A1 : FVec Ideal S2816x1024 .bf16 := m ((c.tc : Thread nD τ).loc main_arg1)

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- Row `r` of a point's tile of rows. -/
abbrev row (t : Fin cfg0.N) (r : Fin 1024) : Fin 8192 := ⟨1024 * (t.val / 2) + r.val, by have := lt_of_lt_of_eq t.isLt N_0; have := r.isLt; omega⟩
theorem contr : 2816 = 2 * 1408 := rfl

theorem in0 (t : Fin cfg0.N) (r : Fin 1024) (x : Fin 1408) : iblk m c 0 t (ix2 r x) = A0 m c (ix2 (row t r) (con contr t.val x)) :=
  congrArg (A0 m c) (by blk_ext [idx t])
theorem in1 (t : Fin cfg0.N) (a : Fin 1024) (x : Fin 1408) : iblk m c 1 t (ix2 x a) = A1 m c (ix2 (con contr t.val x) a) :=
  congrArg (A1 m c) (by blk_ext [idx t])

theorem pay1_at (i : S1024x1024.Idx) : k0_pay1 (F := Ideal) i = (0 : EReal) := by
  pointwise [k0_pay1]
theorem pay2_at (s : FVec Ideal S1024x1024 .f32) (x : FVec Ideal S1024x1408 .bf16) (y : FVec Ideal S1408x1024 .bf16) (i : Fin 1024) (j : Fin 1024) :
    k0_pay2 (F := Ideal) s x y (ix2 i j) = (s (ix2 i j) : EReal) + ∑ k : Fin 1408, x (ix2 i k) * y (ix2 k j) := by
  pointwise [k0_pay2]

/-- The summand at place `k` of the contracted axis, for an entry of a point's block. -/
def summand (t : Fin cfg0.N) (k : Fin 2816) (i : S1024x1024.Idx) : EReal := A0 m c (ix2 (row t (i 0)) k) * A1 m c (ix2 k (i 1))

theorem summand_run (s t : Fin cfg0.N) (h : s.val / 2 = t.val / 2) : summand m c s = summand m c t := by
  funext k i
  simp only [summand, row, h]

theorem step_at (s : FVec Ideal S1024x1024 .f32) (t : Fin cfg0.N) (i : S1024x1024.Idx) :
    k0_pay2 (F := Ideal) s (iblk m c 0 t) (iblk m c 1 t) i = (s i : EReal) + ∑ x : Fin 1408, summand m c t (con contr t.val x) i := by
  idx_vars i
  rw [pay2_at]
  simp only [in0, in1]
  rfl

theorem acc_zero (t : Fin cfg0.N) (h : t.val % 2 = 0) (i : S1024x1024.Idx) :
    (outsAt0 m c t.val t.isLt).2 i = (0 : EReal) + ∑ x : Fin 1408, summand m c t (con contr t.val x) i := by
  rw [outsAt0_A m c t h (by omega)]
  frame_out
  rw [step_at, pay1_at]

theorem acc_succ (t : Fin cfg0.N) (h : ¬t.val % 2 = 0) (i : S1024x1024.Idx) : (outsAt0 m c t.val t.isLt).2 i
    = (outsAt0 m c (t.val - 1) (Nat.lt_of_le_of_lt (Nat.sub_le _ _) t.isLt)).2 i + ∑ x : Fin 1408, summand m c t (con contr t.val x) i := by
  rw [outsAt0_B m c t h (by omega)]
  frame_out
  rw [step_at, read_unread_whole]

/-- The array after the run. -/
def G : S8192x1024.Idx → EReal := fun i =>
  ∑ k : Fin 2816, A0 m c (ix2 (i 0) k) * A1 m c (ix2 k (i 1))

theorem out_last (t : Fin cfg0.N) (h : t.val % 2 = 1) : (outsAt0 m c t.val t.isLt).1 = (outsAt0 m c t.val t.isLt).2 := by
  rw [outsAt0_B m c t (by omega) h]
  frame_out

theorem final : (dats m 0 c).arrAt 2 cfg0.N = G m c := by
  refine (dats m 0 c).arrAt_eq_of_covers 2 _ (by decide +kernel) fun t hf y => ?_
  have h := (flush0_2 t).mp hf
  blk_simp
  rw [after0_2, out_last m c t h]
  idx_vars y
  rw [acc_last contr (fun n h => (outsAt0 m c n h).2) (summand m c) (summand_run m c) (acc_zero m c) (acc_succ m c) t h]
  have e : ((View.whole main_v0).slice (win0_2.rect t)).emb (ix2 y0 y1) = ix2 (row t y0) y1 := by blk_ext [idx t]
  exact (congrArg (G m c) e).symm

theorem algebraic : Cert.algebraic_FfnDownIdeal_FfnDownRefIdeal := by
  intro m g m' g' _ hagree
  refine ⟨fun c => G m c, (θ_run defs _ _).mono (fun _ h c => ⟨(h c).1.trans (final m c), (h c).2⟩) (Value.run_blocks m g),
    (θ_run Cert.FfnDownRefIdeal.defs _ _).mono (fun r h c => ⟨(h c).1.trans ?_, (h c).2⟩) (Cert.FfnDownRefIdeal.Value.run (F := Ideal) m' g')⟩
  obtain ⟨a0, a1⟩ := hagree c
  rw [Cert.FfnDownRefIdeal.Read.val_main_v2_eq, a0, a1]
  funext i
  rw [Cert.FfnDownRefIdeal.Read.val_main_v2_apply]
  idx_vars i
  unfold G
  refine Finset.sum_congr rfl fun k _ => congrArg₂ (fun a b : EReal => a * b) (congrArg (A0 m c) ?_) (congrArg (A1 m c) ?_) <;>
  · funext a
    fin_cases a <;> rfl

end Cert.Proof.FfnDownIdeal

end
-- ==== Proof.OutProjVal.lean ====
/-
  The output projection.
-/
module

public import proofs.«01_k».proof.Defs
public import proofs.«01_k».proof.Proof.Gen.OutProjIdeal.Value
public import proofs.«01_k».proof.Proof.Gen.OutProjRefIdeal.Read
public import proofs.«01_k».proof.Proof.Products

@[expose] public section

set_option maxRecDepth 16384

noncomputable section

namespace Cert.Proof.OutProjIdeal

open Cert.OutProjIdeal Cert.OutProjIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S1024x1024 .bf16 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `r` of a point's tile of rows. -/
abbrev row (t : Fin cfg0.N) (r : Fin 1024) : Fin 8192 := ⟨1024 * t.val + r.val, by have := lt_of_lt_of_eq t.isLt N_0; have := r.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 1024) (x : Fin 1024) : iblk m c 1 t (ix2 x a) = A1 m c (ix2 x a) :=
  congrArg (A1 m c) (by blk_ext [idx t])

theorem pay1_at (x : FVec Ideal S1024x1024 .bf16) (y : FVec Ideal S1024x1024 .bf16) (i : Fin 1024) (j : Fin 1024) :
    k0_pay1 (F := Ideal) x y (ix2 i j) = (∑ k : Fin 1024, x (ix2 i k) * y (ix2 k j) : EReal) := by
  pointwise [k0_pay1]

/-- The array after the run. -/
def G : S8192x1024.Idx → EReal := fun i => ∑ k : Fin 1024, A0 m c (ix2 (i 0) k) * A1 m c (ix2 k (i 1))

theorem out_eq (x : FVec Ideal S1024x1024 .bf16) (y : FVec Ideal S1024x1024 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) y1 := by blk_ext [idx t]
  exact (congrArg (G m c) e).symm

theorem algebraic : Cert.algebraic_OutProjIdeal_OutProjRefIdeal := by
  intro m g m' g' _ hagree
  refine ⟨fun c => G m c, (θ_run defs _ _).mono (fun _ h c => ⟨(h c).1.trans (final m c), (h c).2⟩) (Value.run_blocks m g),
    (θ_run Cert.OutProjRefIdeal.defs _ _).mono (fun r h c => ⟨(h c).1.trans ?_, (h c).2⟩) (Cert.OutProjRefIdeal.Value.run (F := Ideal) m' g')⟩
  obtain ⟨a0, a1⟩ := hagree c
  rw [Cert.OutProjRefIdeal.Read.val_main_v2_eq, a0, a1]
  funext i
  rw [Cert.OutProjRefIdeal.Read.val_main_v2_apply]
  idx_vars i
  refine Finset.sum_congr rfl fun k _ => congrArg₂ (fun a b : EReal => a * b) (congrArg (A0 m c) ?_) (congrArg (A1 m c) ?_) <;>
  · funext a
    fin_cases a <;> rfl

end Cert.Proof.OutProjIdeal

end
-- ==== Proof.DwOutVal.lean ====
/-
  The gradient of the output projection's weight.
-/
module

public import proofs.«01_k».proof.Defs
public import proofs.«01_k».proof.Proof.Gen.DwOutIdeal.Value
public import proofs.«01_k».proof.Proof.Gen.DwOutRefIdeal.Read
public import proofs.«01_k».proof.Proof.Products

@[expose] public section

set_option maxRecDepth 16384

noncomputable section

namespace Cert.Proof.DwOutIdeal

open Cert.DwOutIdeal Cert.DwOutIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S8192x1024 .f32 := m ((c.tc : Thread nD τ).loc main_arg1)

theorem idx : ∀ t : Fin cfg0.N, win0_0.index t = ![t.val % 4, 0] ∧ win0_1.index t = ![t.val % 4, 0] ∧ win0_2.index t = ![0, 0] :=
  (by decide +kernel : ∀ t : Fin grid0.N, _)

theorem contr : 8192 = 4 * 2048 := rfl

theorem in0 (t : Fin cfg0.N) (r : Fin 1024) (x : Fin 2048) : iblk m c 0 t (ix2 x r) = A0 m c (ix2 (con contr t.val x) r) :=
  congrArg (A0 m c) (by blk_ext [idx t])
theorem in1 (t : Fin cfg0.N) (a : Fin 1024) (x : Fin 2048) : iblk m c 1 t (ix2 x a) = A1 m c (ix2 (con contr t.val x) a) :=
  congrArg (A1 m c) (by blk_ext [idx t])

theorem pay1_at (i : S1024x1024.Idx) : k0_pay1 (F := Ideal) i = (0 : EReal) := by
  pointwise [k0_pay1]
theorem pay2_at (s : FVec Ideal S1024x1024 .f32) (x : FVec Ideal S2048x1024 .bf16) (y : FVec Ideal S2048x1024 .f32) (i : Fin 1024) (j : Fin 1024) :
    k0_pay2 (F := Ideal) s x y (ix2 i j) = (s (ix2 i j) : EReal) + ∑ k : Fin 2048, x (ix2 k i) * y (ix2 k j) := by
  pointwise [k0_pay2]

/-- The summand at place `k` of the contracted axis, for an entry of a point's block. -/
def summand (t : Fin cfg0.N) (k : Fin 8192) (i : S1024x1024.Idx) : EReal := A0 m c (ix2 k (i 0)) * A1 m c (ix2 k (i 1))

theorem summand_run (s t : Fin cfg0.N) (h : s.val / 4 = t.val / 4) : summand m c s = summand m c t := by
  funext k i
  rfl

theorem step_at (s : FVec Ideal S1024x1024 .f32) (t : Fin cfg0.N) (i : S1024x1024.Idx) :
    k0_pay2 (F := Ideal) s (iblk m c 0 t) (iblk m c 1 t) i = (s i : EReal) + ∑ x : Fin 2048, summand m c t (con contr t.val x) i := by
  idx_vars i
  rw [pay2_at]
  simp only [in0, in1]
  rfl

theorem acc_zero (t : Fin cfg0.N) (h : t.val % 4 = 0) (i : S1024x1024.Idx) :
    (outsAt0 m c t.val t.isLt).2 i = (0 : EReal) + ∑ x : Fin 2048, summand m c t (con contr t.val x) i := by
  rw [outsAt0_A m c t h (by omega)]
  frame_out
  rw [step_at, pay1_at]

theorem acc_succ (t : Fin cfg0.N) (h : ¬t.val % 4 = 0) (i : S1024x1024.Idx) : (outsAt0 m c t.val t.isLt).2 i
    = (outsAt0 m c (t.val - 1) (Nat.lt_of_le_of_lt (Nat.sub_le _ _) t.isLt)).2 i + ∑ x : Fin 2048, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S1024x1024.Idx → EReal := fun i =>
  ∑ k : Fin 8192, A0 m c (ix2 k (i 0)) * A1 m c (ix2 k (i 1))

theorem out_last (t : Fin cfg0.N) (h : t.val % 4 = 3) : (outsAt0 m c t.val t.isLt).1 = (outsAt0 m c t.val t.isLt).2 := by
  rw [outsAt0_C m c t (by omega) h]
  frame_out

theorem final : (dats m 0 c).arrAt 2 cfg0.N = G m c := by
  refine (dats m 0 c).arrAt_eq_of_covers 2 _ (by decide +kernel) fun t hf y => ?_
  have h := (flush0_2 t).mp hf
  blk_simp
  rw [after0_2, out_last m c t h]
  idx_vars y
  rw [acc_last contr (fun n h => (outsAt0 m c n h).2) (summand m c) (summand_run m c) (acc_zero m c) (acc_succ m c) t h]
  have e : ((View.whole main_v0).slice (win0_2.rect t)).emb (ix2 y0 y1) = ix2 y0 y1 := by blk_ext [idx t]
  exact (congrArg (G m c) e).symm

theorem algebraic : Cert.algebraic_DwOutIdeal_DwOutRefIdeal := by
  intro m g m' g' _ hagree
  refine ⟨fun c => G m c, (θ_run defs _ _).mono (fun _ h c => ⟨(h c).1.trans (final m c), (h c).2⟩) (Value.run_blocks m g),
    (θ_run Cert.DwOutRefIdeal.defs _ _).mono (fun r h c => ⟨(h c).1.trans ?_, (h c).2⟩) (Cert.DwOutRefIdeal.Value.run (F := Ideal) m' g')⟩
  obtain ⟨a0, a1⟩ := hagree c
  rw [Cert.DwOutRefIdeal.Read.val_main_v2_eq, a0, a1]
  funext i
  rw [Cert.DwOutRefIdeal.Read.val_main_v2_apply, Cert.DwOutRefIdeal.Read.val_main_v1_apply]
  idx_vars i
  unfold G
  refine Finset.sum_congr rfl fun k _ => Eq.trans ?_ (mul_comm (G := EReal) _ _)
  refine congrArg₂ (fun a b : EReal => a * b) (congrArg (A1 m c) ?_) (congrArg (A0 m c) ?_) <;>
  · funext a
    fin_cases a <;> rfl

end Cert.Proof.DwOutIdeal

end
-- ==== Proof.DmergedVal.lean ====
/-
  The gradient of the merged streams.
-/
module

public import proofs.«01_k».proof.Defs
public import proofs.«01_k».proof.Proof.Gen.DmergedIdeal.Value
public import proofs.«01_k».proof.Proof.Gen.DmergedRefIdeal.Read
public import proofs.«01_k».proof.Proof.Products

@[expose] public section

set_option maxRecDepth 16384

noncomputable section

namespace Cert.Proof.DmergedIdeal

open Cert.DmergedIdeal Cert.DmergedIdeal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .f32 := m ((c.tc : Thread nD τ).loc main_arg0)
def A1 : FVec Ideal S1024x1024 .bf16 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `r` of a point's tile of rows. -/
abbrev row (t : Fin cfg0.N) (r : Fin 1024) : Fin 8192 := ⟨1024 * t.val + r.val, by have := lt_of_lt_of_eq t.isLt N_0; have := r.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 1024) (x : Fin 1024) : iblk m c 1 t (ix2 a x) = A1 m c (ix2 a x) :=
  congrArg (A1 m c) (by blk_ext [idx t])

theorem pay1_at (x : FVec Ideal S1024x1024 .f32) (y : FVec Ideal S1024x1024 .bf16) (i : Fin 1024) (j : Fin 1024) :
    k0_pay1 (F := Ideal) x y (ix2 i j) = (∑ k : Fin 1024, x (ix2 i k) * y (ix2 j k) : EReal) := by
  pointwise [k0_pay1]

/-- The array after the run. -/
def G : S8192x1024.Idx → EReal := fun i => ∑ k : Fin 1024, A0 m c (ix2 (i 0) k) * A1 m c (ix2 (i 1) k)

theorem out_eq (x : FVec Ideal S1024x1024 .f32) (y : FVec Ideal S1024x1024 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) y1 := by blk_ext [idx t]
  exact (congrArg (G m c) e).symm

theorem algebraic : Cert.algebraic_DmergedIdeal_DmergedRefIdeal := by
  intro m g m' g' _ hagree
  refine ⟨fun c => G m c, (θ_run defs _ _).mono (fun _ h c => ⟨(h c).1.trans (final m c), (h c).2⟩) (Value.run_blocks m g),
    (θ_run Cert.DmergedRefIdeal.defs _ _).mono (fun r h c => ⟨(h c).1.trans ?_, (h c).2⟩) (Cert.DmergedRefIdeal.Value.run (F := Ideal) m' g')⟩
  obtain ⟨a0, a1⟩ := hagree c
  rw [Cert.DmergedRefIdeal.Read.val_main_v1_eq, a0, a1]
  funext i
  rw [Cert.DmergedRefIdeal.Read.val_main_v1_apply]
  idx_vars i
  refine Finset.sum_congr rfl fun k _ => congrArg₂ (fun a b : EReal => a * b) (congrArg (A0 m c) ?_) (congrArg (A1 m c) ?_) <;>
  · funext a
    fin_cases a <;> rfl

end Cert.Proof.DmergedIdeal

end
-- ==== Proof.Branch0Val.lean ====
/-
  The first branch's product: rows of the first banded attention by its weight.
-/
module

public import proofs.«01_k».proof.Defs
public import proofs.«01_k».proof.Proof.Gen.Branch0Ideal.Value
public import proofs.«01_k».proof.Proof.Gen.Branch0RefIdeal.Read
public import proofs.«01_k».proof.Proof.Products

@[expose] public section

set_option maxRecDepth 16384

noncomputable section

namespace Cert.Proof.Branch0Ideal

open Cert.Branch0Ideal Cert.Branch0Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x512 .bf16 := m ((c.tc : Thread nD τ).loc main_arg0)
def A1 : FVec Ideal S512x1024 .bf16 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `r` of a point's tile of rows. -/
abbrev row (t : Fin cfg0.N) (r : Fin 1024) : Fin 8192 := ⟨1024 * t.val + r.val, by have := lt_of_lt_of_eq t.isLt N_0; have := r.isLt; omega⟩

theorem in0 (t : Fin cfg0.N) (r : Fin 1024) (x : Fin 512) : iblk m c 0 t (ix2 r x) = A0 m c (ix2 (row t r) x) :=
  congrArg (A0 m c) (by blk_ext [idx t])
theorem in1 (t : Fin cfg0.N) (a : Fin 1024) (x : Fin 512) : iblk m c 1 t (ix2 x a) = A1 m c (ix2 x a) :=
  congrArg (A1 m c) (by blk_ext [idx t])

theorem pay1_at (x : FVec Ideal S1024x512 .bf16) (y : FVec Ideal S512x1024 .bf16) (i : Fin 1024) (j : Fin 1024) :
    k0_pay1 (F := Ideal) x y (ix2 i j) = (∑ k : Fin 512, x (ix2 i k) * y (ix2 k j) : EReal) := by
  pointwise [k0_pay1]

/-- The array after the run. -/
def G : S8192x1024.Idx → EReal := fun i => ∑ k : Fin 512, A0 m c (ix2 (i 0) k) * A1 m c (ix2 k (i 1))

theorem out_eq (x : FVec Ideal S1024x512 .bf16) (y : FVec Ideal S512x1024 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) y1 := by blk_ext [idx t]
  exact (congrArg (G m c) e).symm

theorem algebraic : Cert.algebraic_Branch0Ideal_Branch0RefIdeal := by
  intro m g m' g' _ hagree
  refine ⟨fun c => G m c, (θ_run defs _ _).mono (fun _ h c => ⟨(h c).1.trans (final m c), (h c).2⟩) (Value.run_blocks m g),
    (θ_run Cert.Branch0RefIdeal.defs _ _).mono (fun r h c => ⟨(h c).1.trans ?_, (h c).2⟩) (Cert.Branch0RefIdeal.Value.run (F := Ideal) m' g')⟩
  obtain ⟨a0, a1⟩ := hagree c
  rw [Cert.Branch0RefIdeal.Read.val_main_v2_eq, a0, a1]
  funext i
  rw [Cert.Branch0RefIdeal.Read.val_main_v2_apply]
  idx_vars i
  refine Finset.sum_congr rfl fun k _ => congrArg₂ (fun a b : EReal => a * b) (congrArg (A0 m c) ?_) (congrArg (A1 m c) ?_) <;>
  · funext a
    fin_cases a <;> rfl

end Cert.Proof.Branch0Ideal

end
-- ==== Proof.Branch1Val.lean ====
/-
  The second branch's product: rows of the second banded attention by its weight.
-/
module

public import proofs.«01_k».proof.Defs
public import proofs.«01_k».proof.Proof.Gen.Branch1Ideal.Value
public import proofs.«01_k».proof.Proof.Gen.Branch1RefIdeal.Read
public import proofs.«01_k».proof.Proof.Products

@[expose] public section

set_option maxRecDepth 16384

noncomputable section

namespace Cert.Proof.Branch1Ideal

open Cert.Branch1Ideal Cert.Branch1Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x512 .f32 := m ((c.tc : Thread nD τ).loc main_arg0)
def A1 : FVec Ideal S512x1024 .bf16 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `r` of a point's tile of rows. -/
abbrev row (t : Fin cfg0.N) (r : Fin 1024) : Fin 8192 := ⟨1024 * t.val + r.val, by have := lt_of_lt_of_eq t.isLt N_0; have := r.isLt; omega⟩

theorem in0 (t : Fin cfg0.N) (r : Fin 1024) (x : Fin 512) : iblk m c 0 t (ix2 r x) = A0 m c (ix2 (row t r) x) :=
  congrArg (A0 m c) (by blk_ext [idx t])
theorem in1 (t : Fin cfg0.N) (a : Fin 1024) (x : Fin 512) : iblk m c 1 t (ix2 x a) = A1 m c (ix2 x a) :=
  congrArg (A1 m c) (by blk_ext [idx t])

theorem pay1_at (x : FVec Ideal S1024x512 .f32) (y : FVec Ideal S512x1024 .bf16) (i : Fin 1024) (j : Fin 1024) :
    k0_pay1 (F := Ideal) x y (ix2 i j) = (∑ k : Fin 512, x (ix2 i k) * y (ix2 k j) : EReal) := by
  pointwise [k0_pay1]

/-- The array after the run. -/
def G : S8192x1024.Idx → EReal := fun i => ∑ k : Fin 512, A0 m c (ix2 (i 0) k) * A1 m c (ix2 k (i 1))

theorem out_eq (x : FVec Ideal S1024x512 .f32) (y : FVec Ideal S512x1024 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) y1 := by blk_ext [idx t]
  exact (congrArg (G m c) e).symm

theorem algebraic : Cert.algebraic_Branch1Ideal_Branch1RefIdeal := by
  intro m g m' g' _ hagree
  refine ⟨fun c => G m c, (θ_run defs _ _).mono (fun _ h c => ⟨(h c).1.trans (final m c), (h c).2⟩) (Value.run_blocks m g),
    (θ_run Cert.Branch1RefIdeal.defs _ _).mono (fun r h c => ⟨(h c).1.trans ?_, (h c).2⟩) (Cert.Branch1RefIdeal.Value.run (F := Ideal) m' g')⟩
  obtain ⟨a0, a1⟩ := hagree c
  rw [Cert.Branch1RefIdeal.Read.val_main_v1_eq, a0, a1]
  funext i
  rw [Cert.Branch1RefIdeal.Read.val_main_v1_apply]
  idx_vars i
  refine Finset.sum_congr rfl fun k _ => congrArg₂ (fun a b : EReal => a * b) (congrArg (A0 m c) ?_) (congrArg (A1 m c) ?_) <;>
  · funext a
    fin_cases a <;> rfl

end Cert.Proof.Branch1Ideal

end
-- ==== Proof.Branch2Val.lean ====
/-
  The third branch's product: rows of the latent attention by its weight.
-/
module

public import proofs.«01_k».proof.Defs
public import proofs.«01_k».proof.Proof.Gen.Branch2Ideal.Value
public import proofs.«01_k».proof.Proof.Gen.Branch2RefIdeal.Read
public import proofs.«01_k».proof.Proof.Products

@[expose] public section

set_option maxRecDepth 16384

noncomputable section

namespace Cert.Proof.Branch2Ideal

open Cert.Branch2Ideal Cert.Branch2Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .f32 := m ((c.tc : Thread nD τ).loc main_arg0)
def A1 : FVec Ideal S1024x1024 .bf16 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `r` of a point's tile of rows. -/
abbrev row (t : Fin cfg0.N) (r : Fin 1024) : Fin 8192 := ⟨1024 * t.val + r.val, by have := lt_of_lt_of_eq t.isLt N_0; have := r.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 1024) (x : Fin 1024) : iblk m c 1 t (ix2 x a) = A1 m c (ix2 x a) :=
  congrArg (A1 m c) (by blk_ext [idx t])

theorem pay1_at (x : FVec Ideal S1024x1024 .f32) (y : FVec Ideal S1024x1024 .bf16) (i : Fin 1024) (j : Fin 1024) :
    k0_pay1 (F := Ideal) x y (ix2 i j) = (∑ k : Fin 1024, x (ix2 i k) * y (ix2 k j) : EReal) := by
  pointwise [k0_pay1]

/-- The array after the run. -/
def G : S8192x1024.Idx → EReal := fun i => ∑ k : Fin 1024, A0 m c (ix2 (i 0) k) * A1 m c (ix2 k (i 1))

theorem out_eq (x : FVec Ideal S1024x1024 .f32) (y : FVec Ideal S1024x1024 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) y1 := by blk_ext [idx t]
  exact (congrArg (G m c) e).symm

theorem algebraic : Cert.algebraic_Branch2Ideal_Branch2RefIdeal := by
  intro m g m' g' _ hagree
  refine ⟨fun c => G m c, (θ_run defs _ _).mono (fun _ h c => ⟨(h c).1.trans (final m c), (h c).2⟩) (Value.run_blocks m g),
    (θ_run Cert.Branch2RefIdeal.defs _ _).mono (fun r h c => ⟨(h c).1.trans ?_, (h c).2⟩) (Cert.Branch2RefIdeal.Value.run (F := Ideal) m' g')⟩
  obtain ⟨a0, a1⟩ := hagree c
  rw [Cert.Branch2RefIdeal.Read.val_main_v1_eq, a0, a1]
  funext i
  rw [Cert.Branch2RefIdeal.Read.val_main_v1_apply]
  idx_vars i
  refine Finset.sum_congr rfl fun k _ => congrArg₂ (fun a b : EReal => a * b) (congrArg (A0 m c) ?_) (congrArg (A1 m c) ?_) <;>
  · funext a
    fin_cases a <;> rfl

end Cert.Proof.Branch2Ideal

end
-- ==== Proof.DwBranch0Val.lean ====
/-
  The gradient of the first branch's weight.
-/
module

public import proofs.«01_k».proof.Defs
public import proofs.«01_k».proof.Proof.Gen.DwBranch0Ideal.Value
public import proofs.«01_k».proof.Proof.Gen.DwBranch0RefIdeal.Read
public import proofs.«01_k».proof.Proof.Products

@[expose] public section

set_option maxRecDepth 16384

noncomputable section

namespace Cert.Proof.DwBranch0Ideal

open Cert.DwBranch0Ideal Cert.DwBranch0Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x512 .bf16 := m ((c.tc : Thread nD τ).loc main_arg0)
def A1 : FVec Ideal S8192x1024 .bf16 := m ((c.tc : Thread nD τ).loc main_arg1)

theorem idx : ∀ t : Fin cfg0.N, win0_0.index t = ![t.val % 4, 0] ∧ win0_1.index t = ![t.val % 4, 0] ∧ win0_2.index t = ![0, 0] :=
  (by decide +kernel : ∀ t : Fin grid0.N, _)

theorem contr : 8192 = 4 * 2048 := rfl

theorem in0 (t : Fin cfg0.N) (r : Fin 512) (x : Fin 2048) : iblk m c 0 t (ix2 x r) = A0 m c (ix2 (con contr t.val x) r) :=
  congrArg (A0 m c) (by blk_ext [idx t])
theorem in1 (t : Fin cfg0.N) (a : Fin 1024) (x : Fin 2048) : iblk m c 1 t (ix2 x a) = A1 m c (ix2 (con contr t.val x) a) :=
  congrArg (A1 m c) (by blk_ext [idx t])

theorem pay1_at (i : S512x1024.Idx) : k0_pay1 (F := Ideal) i = (0 : EReal) := by
  pointwise [k0_pay1]
theorem pay2_at (s : FVec Ideal S512x1024 .f32) (x : FVec Ideal S2048x512 .bf16) (y : FVec Ideal S2048x1024 .bf16) (i : Fin 512) (j : Fin 1024) :
    k0_pay2 (F := Ideal) s x y (ix2 i j) = (s (ix2 i j) : EReal) + ∑ k : Fin 2048, x (ix2 k i) * y (ix2 k j) := by
  pointwise [k0_pay2]

/-- The summand at place `k` of the contracted axis, for an entry of a point's block. -/
def summand (t : Fin cfg0.N) (k : Fin 8192) (i : S512x1024.Idx) : EReal := A0 m c (ix2 k (i 0)) * A1 m c (ix2 k (i 1))

theorem summand_run (s t : Fin cfg0.N) (h : s.val / 4 = t.val / 4) : summand m c s = summand m c t := by
  funext k i
  rfl

theorem step_at (s : FVec Ideal S512x1024 .f32) (t : Fin cfg0.N) (i : S512x1024.Idx) :
    k0_pay2 (F := Ideal) s (iblk m c 0 t) (iblk m c 1 t) i = (s i : EReal) + ∑ x : Fin 2048, summand m c t (con contr t.val x) i := by
  idx_vars i
  rw [pay2_at]
  simp only [in0, in1]
  rfl

theorem acc_zero (t : Fin cfg0.N) (h : t.val % 4 = 0) (i : S512x1024.Idx) :
    (outsAt0 m c t.val t.isLt).2 i = (0 : EReal) + ∑ x : Fin 2048, summand m c t (con contr t.val x) i := by
  rw [outsAt0_A m c t h (by omega)]
  frame_out
  rw [step_at, pay1_at]

theorem acc_succ (t : Fin cfg0.N) (h : ¬t.val % 4 = 0) (i : S512x1024.Idx) : (outsAt0 m c t.val t.isLt).2 i
    = (outsAt0 m c (t.val - 1) (Nat.lt_of_le_of_lt (Nat.sub_le _ _) t.isLt)).2 i + ∑ x : Fin 2048, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S512x1024.Idx → EReal := fun i =>
  ∑ k : Fin 8192, A0 m c (ix2 k (i 0)) * A1 m c (ix2 k (i 1))

theorem out_last (t : Fin cfg0.N) (h : t.val % 4 = 3) : (outsAt0 m c t.val t.isLt).1 = (outsAt0 m c t.val t.isLt).2 := by
  rw [outsAt0_C m c t (by omega) h]
  frame_out

theorem final : (dats m 0 c).arrAt 2 cfg0.N = G m c := by
  refine (dats m 0 c).arrAt_eq_of_covers 2 _ (by decide +kernel) fun t hf y => ?_
  have h := (flush0_2 t).mp hf
  blk_simp
  rw [after0_2, out_last m c t h]
  idx_vars y
  rw [acc_last contr (fun n h => (outsAt0 m c n h).2) (summand m c) (summand_run m c) (acc_zero m c) (acc_succ m c) t h]
  have e : ((View.whole main_v0).slice (win0_2.rect t)).emb (ix2 y0 y1) = ix2 y0 y1 := by blk_ext [idx t]
  exact (congrArg (G m c) e).symm

theorem algebraic : Cert.algebraic_DwBranch0Ideal_DwBranch0RefIdeal := by
  intro m g m' g' _ hagree
  refine ⟨fun c => G m c, (θ_run defs _ _).mono (fun _ h c => ⟨(h c).1.trans (final m c), (h c).2⟩) (Value.run_blocks m g),
    (θ_run Cert.DwBranch0RefIdeal.defs _ _).mono (fun r h c => ⟨(h c).1.trans ?_, (h c).2⟩) (Cert.DwBranch0RefIdeal.Value.run (F := Ideal) m' g')⟩
  obtain ⟨a0, a1⟩ := hagree c
  rw [Cert.DwBranch0RefIdeal.Read.val_main_v3_eq, a0, a1]
  funext i
  rw [Cert.DwBranch0RefIdeal.Read.val_main_v3_apply, Cert.DwBranch0RefIdeal.Read.val_main_v2_apply]
  idx_vars i
  unfold G
  refine Finset.sum_congr rfl fun k _ => Eq.trans ?_ (mul_comm (G := EReal) _ _)
  refine congrArg₂ (fun a b : EReal => a * b) (congrArg (A1 m c) ?_) (congrArg (A0 m c) ?_) <;>
  · funext a
    fin_cases a <;> rfl

end Cert.Proof.DwBranch0Ideal

end
-- ==== Proof.DwBranch1Val.lean ====
/-
  The gradient of the second branch's weight.
-/
module

public import proofs.«01_k».proof.Defs
public import proofs.«01_k».proof.Proof.Gen.DwBranch1Ideal.Value
public import proofs.«01_k».proof.Proof.Gen.DwBranch1RefIdeal.Read
public import proofs.«01_k».proof.Proof.Products

@[expose] public section

set_option maxRecDepth 16384

noncomputable section

namespace Cert.Proof.DwBranch1Ideal

open Cert.DwBranch1Ideal Cert.DwBranch1Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x512 .f32 := m ((c.tc : Thread nD τ).loc main_arg0)
def A1 : FVec Ideal S8192x1024 .bf16 := m ((c.tc : Thread nD τ).loc main_arg1)

theorem idx : ∀ t : Fin cfg0.N, win0_0.index t = ![t.val % 4, 0] ∧ win0_1.index t = ![t.val % 4, 0] ∧ win0_2.index t = ![0, 0] :=
  (by decide +kernel : ∀ t : Fin grid0.N, _)

theorem contr : 8192 = 4 * 2048 := rfl

theorem in0 (t : Fin cfg0.N) (r : Fin 512) (x : Fin 2048) : iblk m c 0 t (ix2 x r) = A0 m c (ix2 (con contr t.val x) r) :=
  congrArg (A0 m c) (by blk_ext [idx t])
theorem in1 (t : Fin cfg0.N) (a : Fin 1024) (x : Fin 2048) : iblk m c 1 t (ix2 x a) = A1 m c (ix2 (con contr t.val x) a) :=
  congrArg (A1 m c) (by blk_ext [idx t])

theorem pay1_at (i : S512x1024.Idx) : k0_pay1 (F := Ideal) i = (0 : EReal) := by
  pointwise [k0_pay1]
theorem pay2_at (s : FVec Ideal S512x1024 .f32) (x : FVec Ideal S2048x512 .f32) (y : FVec Ideal S2048x1024 .bf16) (i : Fin 512) (j : Fin 1024) :
    k0_pay2 (F := Ideal) s x y (ix2 i j) = (s (ix2 i j) : EReal) + ∑ k : Fin 2048, x (ix2 k i) * y (ix2 k j) := by
  pointwise [k0_pay2]

/-- The summand at place `k` of the contracted axis, for an entry of a point's block. -/
def summand (t : Fin cfg0.N) (k : Fin 8192) (i : S512x1024.Idx) : EReal := A0 m c (ix2 k (i 0)) * A1 m c (ix2 k (i 1))

theorem summand_run (s t : Fin cfg0.N) (h : s.val / 4 = t.val / 4) : summand m c s = summand m c t := by
  funext k i
  rfl

theorem step_at (s : FVec Ideal S512x1024 .f32) (t : Fin cfg0.N) (i : S512x1024.Idx) :
    k0_pay2 (F := Ideal) s (iblk m c 0 t) (iblk m c 1 t) i = (s i : EReal) + ∑ x : Fin 2048, summand m c t (con contr t.val x) i := by
  idx_vars i
  rw [pay2_at]
  simp only [in0, in1]
  rfl

theorem acc_zero (t : Fin cfg0.N) (h : t.val % 4 = 0) (i : S512x1024.Idx) :
    (outsAt0 m c t.val t.isLt).2 i = (0 : EReal) + ∑ x : Fin 2048, summand m c t (con contr t.val x) i := by
  rw [outsAt0_A m c t h (by omega)]
  frame_out
  rw [step_at, pay1_at]

theorem acc_succ (t : Fin cfg0.N) (h : ¬t.val % 4 = 0) (i : S512x1024.Idx) : (outsAt0 m c t.val t.isLt).2 i
    = (outsAt0 m c (t.val - 1) (Nat.lt_of_le_of_lt (Nat.sub_le _ _) t.isLt)).2 i + ∑ x : Fin 2048, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S512x1024.Idx → EReal := fun i =>
  ∑ k : Fin 8192, A0 m c (ix2 k (i 0)) * A1 m c (ix2 k (i 1))

theorem out_last (t : Fin cfg0.N) (h : t.val % 4 = 3) : (outsAt0 m c t.val t.isLt).1 = (outsAt0 m c t.val t.isLt).2 := by
  rw [outsAt0_C m c t (by omega) h]
  frame_out

theorem final : (dats m 0 c).arrAt 2 cfg0.N = G m c := by
  refine (dats m 0 c).arrAt_eq_of_covers 2 _ (by decide +kernel) fun t hf y => ?_
  have h := (flush0_2 t).mp hf
  blk_simp
  rw [after0_2, out_last m c t h]
  idx_vars y
  rw [acc_last contr (fun n h => (outsAt0 m c n h).2) (summand m c) (summand_run m c) (acc_zero m c) (acc_succ m c) t h]
  have e : ((View.whole main_v0).slice (win0_2.rect t)).emb (ix2 y0 y1) = ix2 y0 y1 := by blk_ext [idx t]
  exact (congrArg (G m c) e).symm

theorem algebraic : Cert.algebraic_DwBranch1Ideal_DwBranch1RefIdeal := by
  intro m g m' g' _ hagree
  refine ⟨fun c => G m c, (θ_run defs _ _).mono (fun _ h c => ⟨(h c).1.trans (final m c), (h c).2⟩) (Value.run_blocks m g),
    (θ_run Cert.DwBranch1RefIdeal.defs _ _).mono (fun r h c => ⟨(h c).1.trans ?_, (h c).2⟩) (Cert.DwBranch1RefIdeal.Value.run (F := Ideal) m' g')⟩
  obtain ⟨a0, a1⟩ := hagree c
  rw [Cert.DwBranch1RefIdeal.Read.val_main_v2_eq, a0, a1]
  funext i
  rw [Cert.DwBranch1RefIdeal.Read.val_main_v2_apply, Cert.DwBranch1RefIdeal.Read.val_main_v1_apply]
  idx_vars i
  unfold G
  refine Finset.sum_congr rfl fun k _ => Eq.trans ?_ (mul_comm (G := EReal) _ _)
  refine congrArg₂ (fun a b : EReal => a * b) (congrArg (A1 m c) ?_) (congrArg (A0 m c) ?_) <;>
  · funext a
    fin_cases a <;> rfl

end Cert.Proof.DwBranch1Ideal

end
-- ==== Proof.DwBranch2Val.lean ====
/-
  The gradient of the third branch's weight.
-/
module

public import proofs.«01_k».proof.Defs
public import proofs.«01_k».proof.Proof.Gen.DwBranch2Ideal.Value
public import proofs.«01_k».proof.Proof.Gen.DwBranch2RefIdeal.Read
public import proofs.«01_k».proof.Proof.Products

@[expose] public section

set_option maxRecDepth 16384

noncomputable section

namespace Cert.Proof.DwBranch2Ideal

open Cert.DwBranch2Ideal Cert.DwBranch2Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .f32 := m ((c.tc : Thread nD τ).loc main_arg0)
def A1 : FVec Ideal S8192x1024 .bf16 := m ((c.tc : Thread nD τ).loc main_arg1)

theorem idx : ∀ t : Fin cfg0.N, win0_0.index t = ![t.val % 4, 0] ∧ win0_1.index t = ![t.val % 4, 0] ∧ win0_2.index t = ![0, 0] :=
  (by decide +kernel : ∀ t : Fin grid0.N, _)

theorem contr : 8192 = 4 * 2048 := rfl

theorem in0 (t : Fin cfg0.N) (r : Fin 1024) (x : Fin 2048) : iblk m c 0 t (ix2 x r) = A0 m c (ix2 (con contr t.val x) r) :=
  congrArg (A0 m c) (by blk_ext [idx t])
theorem in1 (t : Fin cfg0.N) (a : Fin 1024) (x : Fin 2048) : iblk m c 1 t (ix2 x a) = A1 m c (ix2 (con contr t.val x) a) :=
  congrArg (A1 m c) (by blk_ext [idx t])

theorem pay1_at (i : S1024x1024.Idx) : k0_pay1 (F := Ideal) i = (0 : EReal) := by
  pointwise [k0_pay1]
theorem pay2_at (s : FVec Ideal S1024x1024 .f32) (x : FVec Ideal S2048x1024 .f32) (y : FVec Ideal S2048x1024 .bf16) (i : Fin 1024) (j : Fin 1024) :
    k0_pay2 (F := Ideal) s x y (ix2 i j) = (s (ix2 i j) : EReal) + ∑ k : Fin 2048, x (ix2 k i) * y (ix2 k j) := by
  pointwise [k0_pay2]

/-- The summand at place `k` of the contracted axis, for an entry of a point's block. -/
def summand (t : Fin cfg0.N) (k : Fin 8192) (i : S1024x1024.Idx) : EReal := A0 m c (ix2 k (i 0)) * A1 m c (ix2 k (i 1))

theorem summand_run (s t : Fin cfg0.N) (h : s.val / 4 = t.val / 4) : summand m c s = summand m c t := by
  funext k i
  rfl

theorem step_at (s : FVec Ideal S1024x1024 .f32) (t : Fin cfg0.N) (i : S1024x1024.Idx) :
    k0_pay2 (F := Ideal) s (iblk m c 0 t) (iblk m c 1 t) i = (s i : EReal) + ∑ x : Fin 2048, summand m c t (con contr t.val x) i := by
  idx_vars i
  rw [pay2_at]
  simp only [in0, in1]
  rfl

theorem acc_zero (t : Fin cfg0.N) (h : t.val % 4 = 0) (i : S1024x1024.Idx) :
    (outsAt0 m c t.val t.isLt).2 i = (0 : EReal) + ∑ x : Fin 2048, summand m c t (con contr t.val x) i := by
  rw [outsAt0_A m c t h (by omega)]
  frame_out
  rw [step_at, pay1_at]

theorem acc_succ (t : Fin cfg0.N) (h : ¬t.val % 4 = 0) (i : S1024x1024.Idx) : (outsAt0 m c t.val t.isLt).2 i
    = (outsAt0 m c (t.val - 1) (Nat.lt_of_le_of_lt (Nat.sub_le _ _) t.isLt)).2 i + ∑ x : Fin 2048, summand m c t (con contr t.val x) i := by
  by_cases h1 : t.val % 4 = 3
  · rw [outsAt0_C m c t h h1]
    frame_out
    rw [step_at, read_unread_whole]
  · rw [outsAt0_B m c t h h1]
    frame_out
    rw [step_at, read_unread_whole]

/-- The array after the run. -/
def G : S1024x1024.Idx → EReal := fun i =>
  ∑ k : Fin 8192, A0 m c (ix2 k (i 0)) * A1 m c (ix2 k (i 1))

theorem out_last (t : Fin cfg0.N) (h : t.val % 4 = 3) : (outsAt0 m c t.val t.isLt).1 = (outsAt0 m c t.val t.isLt).2 := by
  rw [outsAt0_C m c t (by omega) h]
  frame_out

theorem final : (dats m 0 c).arrAt 2 cfg0.N = G m c := by
  refine (dats m 0 c).arrAt_eq_of_covers 2 _ (by decide +kernel) fun t hf y => ?_
  have h := (flush0_2 t).mp hf
  blk_simp
  rw [after0_2, out_last m c t h]
  idx_vars y
  rw [acc_last contr (fun n h => (outsAt0 m c n h).2) (summand m c) (summand_run m c) (acc_zero m c) (acc_succ m c) t h]
  have e : ((View.whole main_v0).slice (win0_2.rect t)).emb (ix2 y0 y1) = ix2 y0 y1 := by blk_ext [idx t]
  exact (congrArg (G m c) e).symm

theorem algebraic : Cert.algebraic_DwBranch2Ideal_DwBranch2RefIdeal := by
  intro m g m' g' _ hagree
  refine ⟨fun c => G m c, (θ_run defs _ _).mono (fun _ h c => ⟨(h c).1.trans (final m c), (h c).2⟩) (Value.run_blocks m g),
    (θ_run Cert.DwBranch2RefIdeal.defs _ _).mono (fun r h c => ⟨(h c).1.trans ?_, (h c).2⟩) (Cert.DwBranch2RefIdeal.Value.run (F := Ideal) m' g')⟩
  obtain ⟨a0, a1⟩ := hagree c
  rw [Cert.DwBranch2RefIdeal.Read.val_main_v2_eq, a0, a1]
  funext i
  rw [Cert.DwBranch2RefIdeal.Read.val_main_v2_apply, Cert.DwBranch2RefIdeal.Read.val_main_v1_apply]
  idx_vars i
  unfold G
  refine Finset.sum_congr rfl fun k _ => Eq.trans ?_ (mul_comm (G := EReal) _ _)
  refine congrArg₂ (fun a b : EReal => a * b) (congrArg (A1 m c) ?_) (congrArg (A0 m c) ?_) <;>
  · funext a
    fin_cases a <;> rfl

end Cert.Proof.DwBranch2Ideal

end
-- ==== Proof.DoBranch0Val.lean ====
/-
  The gradient of the rows that the first or the second branch takes.
-/
module

public import proofs.«01_k».proof.Defs
public import proofs.«01_k».proof.Proof.Gen.DoBranch0Ideal.Value
public import proofs.«01_k».proof.Proof.Gen.DoBranch0RefIdeal.Read
public import proofs.«01_k».proof.Proof.Products

@[expose] public section

set_option maxRecDepth 16384

noncomputable section

namespace Cert.Proof.DoBranch0Ideal

open Cert.DoBranch0Ideal Cert.DoBranch0Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S512x1024 .bf16 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `r` of a point's tile of rows. -/
abbrev row (t : Fin cfg0.N) (r : Fin 1024) : Fin 8192 := ⟨1024 * t.val + r.val, by have := lt_of_lt_of_eq t.isLt N_0; have := r.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 512) (x : Fin 1024) : iblk m c 1 t (ix2 a x) = A1 m c (ix2 a x) :=
  congrArg (A1 m c) (by blk_ext [idx t])

theorem pay1_at (x : FVec Ideal S1024x1024 .bf16) (y : FVec Ideal S512x1024 .bf16) (i : Fin 1024) (j : Fin 512) :
    k0_pay1 (F := Ideal) x y (ix2 i j) = (∑ k : Fin 1024, x (ix2 i k) * y (ix2 j k) : EReal) := by
  pointwise [k0_pay1]

/-- The array after the run. -/
def G : S8192x512.Idx → EReal := fun i => ∑ k : Fin 1024, A0 m c (ix2 (i 0) k) * A1 m c (ix2 (i 1) k)

theorem out_eq (x : FVec Ideal S1024x1024 .bf16) (y : FVec Ideal S512x1024 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) y1 := by blk_ext [idx t]
  exact (congrArg (G m c) e).symm

theorem algebraic : Cert.algebraic_DoBranch0Ideal_DoBranch0RefIdeal := by
  intro m g m' g' _ hagree
  refine ⟨fun c => G m c, (θ_run defs _ _).mono (fun _ h c => ⟨(h c).1.trans (final m c), (h c).2⟩) (Value.run_blocks m g),
    (θ_run Cert.DoBranch0RefIdeal.defs _ _).mono (fun r h c => ⟨(h c).1.trans ?_, (h c).2⟩) (Cert.DoBranch0RefIdeal.Value.run (F := Ideal) m' g')⟩
  obtain ⟨a0, a1⟩ := hagree c
  rw [Cert.DoBranch0RefIdeal.Read.val_main_v2_eq, a0, a1]
  funext i
  rw [Cert.DoBranch0RefIdeal.Read.val_main_v2_apply]
  idx_vars i
  refine Finset.sum_congr rfl fun k _ => congrArg₂ (fun a b : EReal => a * b) (congrArg (A0 m c) ?_) (congrArg (A1 m c) ?_) <;>
  · funext a
    fin_cases a <;> rfl

end Cert.Proof.DoBranch0Ideal

end
-- ==== Proof.DoBranch2Val.lean ====
/-
  The gradient of the rows that the third branch takes.
-/
module

public import proofs.«01_k».proof.Defs
public import proofs.«01_k».proof.Proof.Gen.DoBranch2Ideal.Value
public import proofs.«01_k».proof.Proof.Gen.DoBranch2RefIdeal.Read
public import proofs.«01_k».proof.Proof.Products

@[expose] public section

set_option maxRecDepth 16384

noncomputable section

namespace Cert.Proof.DoBranch2Ideal

open Cert.DoBranch2Ideal Cert.DoBranch2Ideal.Gen Cert.Proof.Products
open Idealize.ShloMosaic Idealize.ShloMosaic.TcCoe Idealize.SL.Sem

variable (m : (ℓ : Loc nD τ sig) → Buf (Elt Ideal) ℓ) (c : Dev nD)

def A0 : FVec Ideal S8192x1024 .bf16 := m ((c.tc : Thread nD τ).loc main_arg0)
def A1 : FVec Ideal S1024x1024 .bf16 := m ((c.tc : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- Row `r` of a point's tile of rows. -/
abbrev row (t : Fin cfg0.N) (r : Fin 1024) : Fin 8192 := ⟨1024 * t.val + r.val, by have := lt_of_lt_of_eq t.isLt N_0; have := r.isLt; omega⟩

theorem in0 (t : Fin cfg0.N) (r : Fin 1024) (x : Fin 1024) : iblk m c 0 t (ix2 r x) = A0 m c (ix2 (row t r) x) :=
  congrArg (A0 m c) (by blk_ext [idx t])
theorem in1 (t : Fin cfg0.N) (a : Fin 1024) (x : Fin 1024) : iblk m c 1 t (ix2 a x) = A1 m c (ix2 a x) :=
  congrArg (A1 m c) (by blk_ext [idx t])

theorem pay1_at (x : FVec Ideal S1024x1024 .bf16) (y : FVec Ideal S1024x1024 .bf16) (i : Fin 1024) (j : Fin 1024) :
    k0_pay1 (F := Ideal) x y (ix2 i j) = (∑ k : Fin 1024, x (ix2 i k) * y (ix2 j k) : EReal) := by
  pointwise [k0_pay1]

/-- The array after the run. -/
def G : S8192x1024.Idx → EReal := fun i => ∑ k : Fin 1024, A0 m c (ix2 (i 0) k) * A1 m c (ix2 (i 1) k)

theorem out_eq (x : FVec Ideal S1024x1024 .bf16) (y : FVec Ideal S1024x1024 .bf16) : out0_2 (F := Ideal) x y = k0_pay1 (F := Ideal) x y := by
  frame_out

theorem final : (dats m 0 c).arrAt 2 cfg0.N = G m c := by
  refine (dats m 0 c).arrAt_eq_of_covers 2 _ (by decide +kernel) fun t hf y => ?_
  blk_simp
  rw [after0_2, out_eq]
  idx_vars y
  rw [pay1_at]
  simp only [in0, in1]
  have e : ((View.whole main_v0).slice (win0_2.rect t)).emb (ix2 y0 y1) = ix2 (row t y0) y1 := by blk_ext [idx t]
  exact (congrArg (G m c) e).symm

theorem algebraic : Cert.algebraic_DoBranch2Ideal_DoBranch2RefIdeal := by
  intro m g m' g' _ hagree
  refine ⟨fun c => G m c, (θ_run defs _ _).mono (fun _ h c => ⟨(h c).1.trans (final m c), (h c).2⟩) (Value.run_blocks m g),
    (θ_run Cert.DoBranch2RefIdeal.defs _ _).mono (fun r h c => ⟨(h c).1.trans ?_, (h c).2⟩) (Cert.DoBranch2RefIdeal.Value.run (F := Ideal) m' g')⟩
  obtain ⟨a0, a1⟩ := hagree c
  rw [Cert.DoBranch2RefIdeal.Read.val_main_v2_eq, a0, a1]
  funext i
  rw [Cert.DoBranch2RefIdeal.Read.val_main_v2_apply]
  idx_vars i
  refine Finset.sum_congr rfl fun k _ => congrArg₂ (fun a b : EReal => a * b) (congrArg (A0 m c) ?_) (congrArg (A1 m c) ?_) <;>
  · funext a
    fin_cases a <;> rfl

end Cert.Proof.DoBranch2Ideal

end
-- ==== Proof.Attn.lean ====
/-
  The gradient of causal softmax attention of one head over the reals: what the kernel computes from the log-sum-exp and
  the row's inner product is what the differentiated softmax gives.
-/
module

public import Idealize.ShloMosaic.Lib.Pipeline.ValueKit
public import Idealize.ShloMosaic.Lib.WordCmp

@[expose] public section

noncomputable section

namespace Cert.Proof.Attn

open Idealize.ShloMosaic

/-- A real sum read as extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real inner product read as extended reals. -/
theorem coe_sum_mul {ι : Type} (s : Finset ι) (f g : ι → ℝ) :
    (∑ i ∈ s, (f i : EReal) * (g i : EReal)) = ((∑ i ∈ s, f i * g i : ℝ) : EReal) := by
  rw [← coe_sum]
  exact Finset.sum_congr rfl fun i _ => (EReal.coe_mul _ _).symm

/-- A quotient of reals. -/
theorem div_real (x : ℝ) {y : ℝ} (h : y ≠ 0) : Ideal.div (x : EReal) (y : EReal) = ((x / y : ℝ) : EReal) := by
  rw [Ideal.div_coe h, ← EReal.coe_mul, mul_one_div]

variable (Q K : Fin 8192 → Fin 96 → ℝ) (V C : Fin 8192 → Fin 64 → ℝ)

/-- The logit of a query and a key. -/
def sc (q k : Fin 8192) : ℝ := ∑ d, Q q d * K k d
/-- The logit where the key is not after the query, and otherwise minus infinity. -/
def lg (q k : Fin 8192) : EReal := if k.val ≤ q.val then (sc Q K q k : EReal) else ⊥
/-- The maximum of a row of logits. -/
def mx (q : Fin 8192) : EReal := Finset.univ.fold max ⊥ (lg Q K q)

theorem mx_real (q : Fin 8192) : mx Q K q = ((mx Q K q).toReal : EReal) := by
  refine (EReal.coe_toReal (ne_of_lt ?_) (ne_of_gt ?_)).symm
  · refine (Finset.fold_max_lt _).mpr ⟨bot_lt_top, fun k _ => ?_⟩
    unfold lg
    split
    · exact EReal.coe_lt_top _
    · exact bot_lt_top
  · refine (Finset.lt_fold_max _).mpr (Or.inr ⟨q, Finset.mem_univ _, ?_⟩)
    unfold lg
    rw [if_pos le_rfl]
    exact EReal.bot_lt_coe _

/-- The exponential of a logit less the row's maximum. -/
def ex (q k : Fin 8192) : ℝ := if k.val ≤ q.val then Real.exp (sc Q K q k - (mx Q K q).toReal) else 0

theorem exp_lg (q k : Fin 8192) : Ideal.exp (lg Q K q k - mx Q K q) = (ex Q K q k : EReal) := by
  rw [mx_real]
  unfold lg ex
  split
  · rw [← EReal.coe_sub, Ideal.exp_coe]
  · rw [EReal.bot_sub, Ideal.exp_bot, EReal.coe_zero]

/-- The sum of a row's exponentials. -/
def den (q : Fin 8192) : ℝ := ∑ k, ex Q K q k

theorem den_pos (q : Fin 8192) : 0 < den Q K q := by
  refine Finset.sum_pos' (fun k _ => ?_) ⟨q, Finset.mem_univ _, ?_⟩
  · unfold ex
    split
    · exact (Real.exp_pos _).le
    · exact le_rfl
  · unfold ex
    rw [if_pos le_rfl]
    exact Real.exp_pos _

/-- A probability. -/
def pr (q k : Fin 8192) : ℝ := ex Q K q k / den Q K q
/-- The logarithm of the sum of the exponentials of a row's logits. -/
def lse (q : Fin 8192) : ℝ := (mx Q K q).toReal + Real.log (den Q K q)

theorem lse_eq (q : Fin 8192) : mx Q K q + Ideal.log (den Q K q : EReal) = (lse Q K q : EReal) := by
  rw [mx_real, Ideal.log_coe, if_neg (not_le.mpr (den_pos Q K q)), ← EReal.coe_add]
  rfl

theorem exp_lse (q k : Fin 8192) : Ideal.exp (lg Q K q k - (lse Q K q : EReal)) = (pr Q K q k : EReal) := by
  unfold lg pr ex
  split
  · rw [← EReal.coe_sub, Ideal.exp_coe]
    refine congrArg _ ?_
    unfold lse
    rw [← sub_sub, Real.exp_sub, Real.exp_log (den_pos Q K q)]
  · rw [EReal.bot_sub, Ideal.exp_bot, zero_div, EReal.coe_zero]

theorem div_ex (q k : Fin 8192) : Ideal.div (ex Q K q k : EReal) (den Q K q : EReal) = (pr Q K q k : EReal) :=
  div_real _ (den_pos Q K q).ne'

/-- The attention's output. -/
def out (q : Fin 8192) (d : Fin 64) : ℝ := ∑ k, V k d * pr Q K q k
/-- The gradient of a probability. -/
def dP (q k : Fin 8192) : ℝ := ∑ d, C q d * V k d
/-- The inner product of a row's cotangent and output. -/
def dl (q : Fin 8192) : ℝ := ∑ d, C q d * out Q K V q d
/-- The gradient of a logit. -/
def dS (q k : Fin 8192) : ℝ := pr Q K q k * (dP V C q k - dl Q K V C q)

theorem dl_eq (q : Fin 8192) : dl Q K V C q = ∑ k, dP V C q k * pr Q K q k := by
  unfold dl out dP
  simp only [Finset.mul_sum, Finset.sum_mul]
  rw [Finset.sum_comm]
  exact Finset.sum_congr rfl fun k _ => Finset.sum_congr rfl fun d _ => (mul_assoc _ _ _).symm

/-- The gradient of a logit as differentiating the quotient of the exponential and the sum of exponentials gives it. -/
theorem dS_ref (q k : Fin 8192) :
    (if k.val ≤ q.val then (dP V C q k / den Q K q + -(∑ j, dP V C q j * (1 / (den Q K q * den Q K q)) * ex Q K q j)) * ex Q K q k else 0)
      = dS Q K V C q k := by
  have h := (den_pos Q K q).ne'
  unfold dS
  split
  · have e : ∑ j, dP V C q j * (1 / (den Q K q * den Q K q)) * ex Q K q j = (1 / den Q K q) * dl Q K V C q := by
      rw [dl_eq, Finset.mul_sum]
      refine Finset.sum_congr rfl fun j _ => ?_
      unfold pr
      field_simp
    rw [e]
    unfold pr
    field_simp
    try ring
  · rename_i hk
    unfold pr ex
    rw [if_neg hk, zero_div, zero_mul]

/-- An inner product over 128 lanes of which one factor is zero past the first `n`. -/
theorem sum_pad {n : ℕ} (hn : n ≤ 128) (A B : Fin 128 → EReal) (f g : Fin n → ℝ) (hA : ∀ (a : Fin 128) (ha : a.val < n), A a = (f ⟨a.val, ha⟩ : EReal))
    (h0 : ∀ a : Fin 128, ¬a.val < n → A a = 0) (hB : ∀ (a : Fin 128) (ha : a.val < n), B a = (g ⟨a.val, ha⟩ : EReal)) :
    ∑ a, A a * B a = ((∑ d, f d * g d : ℝ) : EReal) := by
  rw [← coe_sum_mul]
  symm
  refine Finset.sum_of_injOn (Fin.castLE hn) (fun _ _ _ _ e => Fin.castLE_injective hn e) (fun _ _ => Finset.mem_coe.mpr (Finset.mem_univ _)) (fun a _ ha => ?_) (fun d _ => ?_)
  · rw [h0 a (fun hl => ha ⟨⟨a.val, hl⟩, Finset.mem_coe.mpr (Finset.mem_univ _), rfl⟩), zero_mul]
  · rw [hA (Fin.castLE hn d) d.isLt, hB (Fin.castLE hn d) d.isLt]
    rfl

/-! ## The data of a head -/

/-- The factor on the query. -/
def scl : ℝ := (Ideal.ofBits .f32 0x3DD105EC#32).toReal

theorem scl_eq : Ideal.ofBits .f32 0x3DD105EC#32 = (scl : EReal) := by
  refine (EReal.coe_toReal ?_ ?_).symm
  · simp [Ideal.ofBits, Ideal.ieee, -EReal.coe_mul]
  · simp [Ideal.ofBits, Ideal.ieee, -EReal.coe_mul]

/-- Head `h` of an array of queries, with the factor. -/
def qh (y : (⟨3, ![8192, 8, 96]⟩ : Shape).Idx → ℝ) (h : Fin 8) (q : Fin 8192) (d : Fin 96) : ℝ := y (ix3 q h d) * scl
/-- Head `h` of an array of keys. -/
def kh (y : (⟨3, ![8192, 8, 96]⟩ : Shape).Idx → ℝ) (h : Fin 8) (k : Fin 8192) (d : Fin 96) : ℝ := y (ix3 k h d)
/-- Head `h` of an array of values or of cotangents. -/
def vh (y : (⟨3, ![8192, 8, 64]⟩ : Shape).Idx → ℝ) (h : Fin 8) (k : Fin 8192) (d : Fin 64) : ℝ := y (ix3 k h d)

/-- An array of reals as extended reals. -/
def up {s : Shape} (φ : FTy) (y : s.Idx → ℝ) : FVec Ideal s φ := fun i => (y i : EReal)

/-! ## The results at a row, a head and a lane -/

section
variable (y0 y1 : (⟨3, ![8192, 8, 96]⟩ : Shape).Idx → ℝ) (y2 y3 : (⟨3, ![8192, 8, 64]⟩ : Shape).Idx → ℝ)

/-- The gradient of the scaled query. -/
def gQ (q : Fin 8192) (h : Fin 8) (a : Fin 128) : EReal :=
  if ha : a.val < 96 then ((∑ k, dS (qh y0 h) (kh y1 h) (vh y2 h) (vh y3 h) q k * kh y1 h k ⟨a.val, ha⟩ : ℝ) : EReal) else 0
/-- The gradient of the key. -/
def gK (k : Fin 8192) (h : Fin 8) (a : Fin 128) : EReal :=
  if ha : a.val < 96 then ((∑ q, dS (qh y0 h) (kh y1 h) (vh y2 h) (vh y3 h) q k * qh y0 h q ⟨a.val, ha⟩ : ℝ) : EReal) else 0
/-- The gradient of the value. -/
def gV (k : Fin 8192) (h : Fin 8) (a : Fin 128) : EReal :=
  if ha : a.val < 64 then ((∑ q, pr (qh y0 h) (kh y1 h) q k * vh y3 h q ⟨a.val, ha⟩ : ℝ) : EReal) else 0

end

/-- The comparison that the mask makes, on the words of two positions. -/
theorem mask_word (q k : Fin 8192) : IntOp.cmpi .sle (BitVec.ofNat 32 k.val) (BitVec.ofNat 32 q.val) = BitVec.ofBool (decide (k.val ≤ q.val)) := by
  have hk := k.isLt
  have hq := q.isLt
  word_cmp

theorem neg_inf : Ideal.ofBits .f32 0xFF800000#32 = ⊥ := by simp [Ideal.ofBits, Ideal.ieee]

end Cert.Proof.Attn

end
-- ==== Proof.Finite.lean ====
/-
  Arguments that `finite` holds of are arrays of real numbers.
-/
module

public import proofs.«01_k».proof.Pre_finite
public import Idealize.ShloMosaic.Lib.ReduceAll
public import proofs.«01_k».proof.Proof.Attn

@[expose] public section

noncomputable section

namespace Cert.Proof.Finite

open Cert.Pre_finite Cert.Proof.Attn
open Idealize.ShloMosaic

/-- A value below +∞ in absolute value is a real number. -/
theorem real_of_abs (x : Ideal .f32)
    (h : FloatOps.cmpf .olt (FloatOps.hostAbsf x) (FloatOps.ofBits (F := Ideal) .f32 0x7F800000#32) = 1#1) :
    ((EReal.toReal x : ℝ) : EReal) = x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine EReal.coe_toReal hlt.1.ne fun hb => ?_
  rw [hb] at hlt
  simp at hlt

instance : Subsingleton S_.Idx := ⟨fun a b => funext fun k => k.elim0⟩

theorem up_of_all {s : Shape} (x : FVec Ideal s .f32) (hb : S_.BroadcastsInDim s (![] : Fin 0 → Fin s.rank)) {axes : List (Fin s.rank)}
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) :
    x = up .f32 (fun i => EReal.toReal (x i)) :=
  funext fun i => (real_of_abs (x i) (Host.reduce_andi_all _ _ hr hu j e i)).symm

theorem real_of_finite [Facts] (x0 x1 : FVec Ideal S8192x8x96 .f32) (x2 x3 : FVec Ideal S8192x8x64 .f32)
    (h : fn (F := Ideal) x0 x1 x2 x3 = fun _ => 1#1) :
    ∃ (y0 y1 : S8192x8x96.Idx → ℝ) (y2 y3 : S8192x8x64.Idx → ℝ), x0 = up .f32 y0 ∧ x1 = up .f32 y1 ∧ x2 = up .f32 y2 ∧ x3 = up .f32 y3 := by
  have hj := congrFun h (fun k => k.elim0)
  obtain ⟨h012, h3⟩ := IntOp.andi_eq_one.1 hj
  obtain ⟨h01, h2⟩ := IntOp.andi_eq_one.1 h012
  obtain ⟨h0, h1⟩ := IntOp.andi_eq_one.1 h01
  exact ⟨_, _, _, _, up_of_all x0 _ _ _ _ h0, up_of_all x1 _ _ _ _ h1, up_of_all x2 _ _ _ _ h2, up_of_all x3 _ _ _ _ h3⟩

end Cert.Proof.Finite

end
-- ==== Proof.ConvMath.lean ====
/-
  The causal convolution of three taps with its gate, and the gradients of the two, over extended reals. Row `n` of a padded array is row
  `n - 8` of the array: the eight rows before the first are zeros, and so is every row after the last.
-/
module

public import Idealize.ShloMosaic.PureOps.Ideal
public import Idealize.ShloMosaic.Lib.ValueIdxCore
public import Idealize.ShloMosaic.Lib.Pointwise

@[expose] public section

noncomputable section

namespace Cert.Proof.ConvMath

open Idealize.ShloMosaic

variable {R C : ℕ}

/-- An entry of an array, zero outside it. -/
def tot (x : (⟨2, ![R, C]⟩ : Shape).Idx → EReal) (r a : ℕ) : EReal := if h : r < R ∧ a < C then x (ix2 ⟨r, h.1⟩ ⟨a, h.2⟩) else 0

/-- An entry of the array with eight rows of zeros before it. -/
def Z (x : (⟨2, ![R, C]⟩ : Shape).Idx → EReal) (n a : ℕ) : EReal := if 8 ≤ n then tot x (n - 8) a else 0

theorem tot_of (x : (⟨2, ![R, C]⟩ : Shape).Idx → EReal) (r a : ℕ) (hr : r < R) (ha : a < C) : tot x r a = x (ix2 ⟨r, hr⟩ ⟨a, ha⟩) := dif_pos ⟨hr, ha⟩
theorem Z_add (x : (⟨2, ![R, C]⟩ : Shape).Idx → EReal) (n a : ℕ) : Z x (n + 8) a = tot x n a := by
  unfold Z
  rw [if_pos (by omega), Nat.add_sub_cancel]
/-- An entry of the padded array at a row of the array. -/
theorem Z_of (x : (⟨2, ![R, C]⟩ : Shape).Idx → EReal) (r : Fin R) (a : Fin C) (n b : ℕ) (hn : n = r.val + 8) (hb : b = a.val) : Z x n b = x (ix2 r a) := by
  rw [hn, hb, Z_add, tot_of x _ _ r.isLt a.isLt]
theorem Z_lt (x : (⟨2, ![R, C]⟩ : Shape).Idx → EReal) (n a : ℕ) (h : n < 8) : Z x n a = 0 := if_neg (by omega)
theorem Z_ge (x : (⟨2, ![R, C]⟩ : Shape).Idx → EReal) (n a : ℕ) (h : R + 8 ≤ n) : Z x n a = 0 := by
  unfold Z tot
  rw [if_pos (by omega), dif_neg (by omega)]

/-- One half, as both programs spell it. -/
def half : EReal := Ideal.ofBits .f32 1056964608#32
/-- The logistic function by way of the hyperbolic tangent. -/
def sg (x : EReal) : EReal := half * Ideal.tanh (half * x) + half

section Arrays

variable {W : ℕ} (u : (⟨2, ![R, C]⟩ : Shape).Idx → EReal) (w : (⟨2, ![3, C]⟩ : Shape).Idx → EReal) (b : (⟨2, ![1, C]⟩ : Shape).Idx → EReal)
  (dh : (⟨2, ![R, W]⟩ : Shape).Idx → EReal)

/-- The convolution at a row of the padded array. -/
def conv (n a : ℕ) : EReal := tot w 0 a * Z u (n - 2) a + tot w 1 a * Z u (n - 1) a + tot w 2 a * Z u n a + tot b 0 a

/-- The gradient at the convolution's gate half. -/
def dGate (n a : ℕ) : EReal :=
  Z dh n a * conv u w b n (a + W) * (sg (conv u w b n a) * (1 + conv u w b n a * (1 - sg (conv u w b n a))))
/-- The gradient at the convolution's value half. -/
def dVal (n a : ℕ) : EReal := Z dh n a * (conv u w b n a * sg (conv u w b n a))

theorem dGate_ge (n a : ℕ) (h : R + 8 ≤ n) : dGate u w b dh n a = 0 := by
  unfold dGate
  rw [Z_ge dh n a h, zero_mul, zero_mul]
theorem dVal_ge (n a : ℕ) (h : R + 8 ≤ n) : dVal u w b dh n a = 0 := by
  unfold dVal
  rw [Z_ge dh n a h, zero_mul]

/-- The gradient of the array, from the gradient `D` at one half of the convolution, whose columns begin at `o`. -/
def du (D : ℕ → ℕ → EReal) (o r a : ℕ) : EReal :=
  tot w 2 (a + o) * D (r + 8) a + tot w 1 (a + o) * D (r + 9) a + tot w 0 (a + o) * D (r + 10) a
/-- The gradient of the taps. -/
def dw (D : ℕ → ℕ → EReal) (o k a : ℕ) : EReal := ∑ r : Fin R, D (r.val + 8) a * Z u (r.val + 6 + k) (a + o)
/-- The gradient of the offsets. -/
def db (R : ℕ) (D : ℕ → ℕ → EReal) (a : ℕ) : EReal := ∑ r : Fin R, D (r.val + 8) a

end Arrays

theorem half_eq : half = ((1 / 2 : ℝ) : EReal) := by
  simp [half, Ideal.ofBits, Ideal.ieee]
  rw [← EReal.coe_mul]
  norm_num

theorem tanh_half (x : ℝ) : 1 / 2 * Real.tanh (1 / 2 * x) + 1 / 2 = 1 / (1 + Real.exp (-x)) := by
  rw [Real.tanh_eq_sinh_div_cosh, Real.sinh_eq, Real.cosh_eq]
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  have p := Real.exp_pos (-(1 / 2 * x))
  have q := Real.exp_pos (1 / 2 * x)
  rw [h1]
  generalize Real.exp (-(1 / 2 * x)) = s at *
  generalize Real.exp (1 / 2 * x) = t at *
  have : 0 < t + s := by positivity
  have : 0 < 1 + s * s := by positivity
  field_simp
  nlinarith

theorem sg_eq (x : EReal) : sg x = Ideal.div 1 (1 + Ideal.exp (-x)) := by
  unfold sg
  rw [half_eq]
  induction x with
  | bot =>
    rw [EReal.coe_mul_bot_of_pos (by norm_num), EReal.neg_bot]
    show ((1 / 2 : ℝ) : EReal) * ((-1 : ℝ) : EReal) + ((1 / 2 : ℝ) : EReal) = Ideal.div 1 (1 + ⊤)
    rw [EReal.add_top_of_ne_bot (by decide), Ideal.div, if_neg (by decide), EReal.inv_top, mul_zero, ← EReal.coe_mul, ← EReal.coe_add]
    norm_num
  | top =>
    rw [EReal.coe_mul_top_of_pos (by norm_num), EReal.neg_top]
    show ((1 / 2 : ℝ) : EReal) * ((1 : ℝ) : EReal) + ((1 / 2 : ℝ) : EReal) = Ideal.div 1 (1 + 0)
    rw [add_zero, Ideal.div, if_neg one_ne_zero, one_mul, ← EReal.coe_one, ← EReal.coe_inv, ← EReal.coe_mul, ← EReal.coe_add]
    norm_num
  | coe x =>
    rw [← EReal.coe_mul, ← EReal.coe_neg]
    show ((1 / 2 : ℝ) : EReal) * ((Real.tanh (1 / 2 * x) : ℝ) : EReal) + ((1 / 2 : ℝ) : EReal) = Ideal.div ((1 : ℝ) : EReal) (((1 : ℝ) : EReal) + ((Real.exp (-x) : ℝ) : EReal))
    rw [← EReal.coe_mul, ← EReal.coe_add, ← EReal.coe_add, tanh_half]
    have h : 0 < 1 + Real.exp (-x) := by have := Real.exp_pos (-x); linarith
    rw [Ideal.div, if_neg (by exact_mod_cast h.ne'), ← EReal.coe_inv, ← EReal.coe_mul, one_div, one_mul]

/-- A value that is a real number. -/
def IsR (x : EReal) : Prop := ∃ r : ℝ, x = (r : EReal)

theorem IsR.add {x y : EReal} (hx : IsR x) (hy : IsR y) : IsR (x + y) := by
  obtain ⟨r, rfl⟩ := hx
  obtain ⟨s, rfl⟩ := hy
  exact ⟨r + s, (EReal.coe_add r s).symm⟩
theorem IsR.mul {x y : EReal} (hx : IsR x) (hy : IsR y) : IsR (x * y) := by
  obtain ⟨r, rfl⟩ := hx
  obtain ⟨s, rfl⟩ := hy
  exact ⟨r * s, (EReal.coe_mul r s).symm⟩
theorem isR_zero : IsR 0 := ⟨0, rfl⟩
theorem isR_sg {x : EReal} (hx : IsR x) : IsR (sg x) := by
  obtain ⟨r, rfl⟩ := hx
  unfold sg
  rw [half_eq, ← EReal.coe_mul]
  exact (IsR.mul ⟨_, rfl⟩ ⟨Real.tanh (1 / 2 * r), rfl⟩).add ⟨_, rfl⟩

theorem isR_tot (x : (⟨2, ![R, C]⟩ : Shape).Idx → EReal) (hx : ∀ i, IsR (x i)) (r a : ℕ) : IsR (tot x r a) := by
  unfold tot
  split
  · exact hx _
  · exact isR_zero
theorem isR_Z (x : (⟨2, ![R, C]⟩ : Shape).Idx → EReal) (hx : ∀ i, IsR (x i)) (n a : ℕ) : IsR (Z x n a) := by
  unfold Z
  split
  · exact isR_tot x hx _ _
  · exact isR_zero
theorem isR_conv (u : (⟨2, ![R, C]⟩ : Shape).Idx → EReal) (w : (⟨2, ![3, C]⟩ : Shape).Idx → EReal) (b : (⟨2, ![1, C]⟩ : Shape).Idx → EReal)
    (hu : ∀ i, IsR (u i)) (hw : ∀ i, IsR (w i)) (hb : ∀ i, IsR (b i)) (n a : ℕ) : IsR (conv u w b n a) :=
  ((((isR_tot w hw _ _).mul (isR_Z u hu _ _)).add ((isR_tot w hw _ _).mul (isR_Z u hu _ _))).add
    ((isR_tot w hw _ _).mul (isR_Z u hu _ _))).add (isR_tot b hb _ _)

/-- The gate's derivative, taken by the rule for a product instead of in its factored form: the two agree at real values. -/
theorem gate_rule {d v x s : EReal} (hd : IsR d) (hv : IsR v) (hx : IsR x) (hs : IsR s) :
    d * v * s + x * (d * v) * (s * (1 - s)) = d * v * (s * (1 + x * (1 - s))) := by
  obtain ⟨d, rfl⟩ := hd
  obtain ⟨v, rfl⟩ := hv
  obtain ⟨x, rfl⟩ := hx
  obtain ⟨s, rfl⟩ := hs
  rw [← EReal.coe_one]
  simp only [← EReal.coe_mul, ← EReal.coe_add, ← EReal.coe_sub]
  exact congrArg (fun r : ℝ => (r : EReal)) (by ring)

end Cert.Proof.ConvMath

end
-- ==== Proof.ConvBwdTile.lean ====
/-
  The gradient of the convolution and its gate: what the kernel's tiles and the values it computes from them are.
-/
module

public import proofs.«01_k».proof.Defs
public import proofs.«01_k».proof.Proof.Gen.ConvBwdIdeal.Value
public import proofs.«01_k».proof.Proof.ConvMath
public import proofs.«01_k».proof.Proof.Products

@[expose] public section

set_option maxRecDepth 16384

noncomputable section

namespace Cert.Proof.ConvBwdIdeal

open Cert.ConvBwdIdeal Cert.ConvBwdIdeal.Gen Cert.Proof.Products Cert.Proof.ConvMath
open Idealize.ShloMosaic Idealize.ShloMosaic.TcCoe Idealize.SL.Sem

variable (m : (ℓ : Loc nD τ sig) → Buf (Elt Ideal) ℓ) (c : Dev nD)

def U : FVec Ideal S8192x5632 .f32 := m ((c.tc : Thread nD τ).loc main_arg0)
def Dh : FVec Ideal S8192x2816 .f32 := m ((c.tc : Thread nD τ).loc main_arg1)
def W : FVec Ideal S3x5632 .f32 := m ((c.tc : Thread nD τ).loc main_arg2)
def B : FVec Ideal S1x5632 .f32 := m ((c.tc : Thread nD τ).loc main_arg3)

/-! ## The blocks of the arguments -/

theorem idx : ∀ t : Fin cfg0.N, win0_0.index t = ![t.val % 8, t.val / 8] ∧ win0_1.index t = ![t.val % 8, t.val / 8 + 11]
    ∧ win0_6.index t = ![t.val % 8, t.val / 8] ∧ win0_8.index t = ![0, t.val / 8] ∧ win0_9.index t = ![0, t.val / 8 + 11]
    ∧ win0_10.index t = ![0, t.val / 8] ∧ win0_11.index t = ![0, t.val / 8 + 11] ∧ win0_12.index t = ![t.val % 8, t.val / 8]
    ∧ win0_13.index t = ![t.val % 8, t.val / 8] ∧ win0_14.index t = ![0, t.val / 8] ∧ win0_15.index t = ![0, t.val / 8]
    ∧ win0_16.index t = ![0, t.val / 8] ∧ win0_17.index t = ![0, t.val / 8] :=
  (by decide +kernel : ∀ t : Fin grid0.N, _)
theorem idx_prev : ∀ t : Fin cfg0.N, ¬t.val % 8 = 0 →
    win0_2.index t = ![128 * (t.val % 8) - 1, t.val / 8] ∧ win0_3.index t = ![128 * (t.val % 8) - 1, t.val / 8 + 11] :=
  (by decide +kernel : ∀ t : Fin grid0.N, _)
theorem idx_next : ∀ t : Fin cfg0.N, ¬t.val % 8 = 7 → win0_4.index t = ![128 * (t.val % 8) + 128, t.val / 8]
    ∧ win0_5.index t = ![128 * (t.val % 8) + 128, t.val / 8 + 11] ∧ win0_7.index t = ![128 * (t.val % 8) + 128, t.val / 8] :=
  (by decide +kernel : ∀ t : Fin grid0.N, _)
theorem coord : ∀ t : Fin cfg0.N, (grid0.coords t 1).val = t.val % 8 := (by decide +kernel : ∀ t : Fin grid0.N, _)
theorem point_lt (t : Fin cfg0.N) : t.val < 88 := lt_of_lt_of_eq t.isLt N_0

/-- The column of the array that column `q` of a point's tile is. -/
abbrev col (t : Fin cfg0.N) (q : Fin 256) : ℕ := 256 * (t.val / 8) + q.val
theorem col_lt (t : Fin cfg0.N) (q : Fin 256) : col t q < 2816 := by have := point_lt t; have := q.isLt; unfold col; omega

theorem in0 (t : Fin cfg0.N) (r : Fin 1024) (q : Fin 256) : iblk m c 0 t (ix2 r q) = Z (U m c) (1024 * (t.val % 8) + 8 + r.val) (col t q) := by
  have h := col_lt t q
  have := r.isLt
  rw [show 1024 * (t.val % 8) + 8 + r.val = 1024 * (t.val % 8) + r.val + 8 by omega, Z_add, tot_of _ _ _ (by omega) (by omega)]
  exact congrArg (U m c) (by blk_ext [idx t, col])
theorem in1 (t : Fin cfg0.N) (r : Fin 1024) (q : Fin 256) : iblk m c 1 t (ix2 r q) = Z (U m c) (1024 * (t.val % 8) + 8 + r.val) (col t q + 2816) := by
  have h := col_lt t q
  have := r.isLt
  rw [show 1024 * (t.val % 8) + 8 + r.val = 1024 * (t.val % 8) + r.val + 8 by omega, Z_add, tot_of _ _ _ (by omega) (by omega)]
  exact congrArg (U m c) (by blk_ext [idx t, col])
theorem in6 (t : Fin cfg0.N) (r : Fin 1024) (q : Fin 256) : iblk m c 6 t (ix2 r q) = Z (Dh m c) (1024 * (t.val % 8) + 8 + r.val) (col t q) := by
  have h := col_lt t q
  have := r.isLt
  rw [show 1024 * (t.val % 8) + 8 + r.val = 1024 * (t.val % 8) + r.val + 8 by omega, Z_add, tot_of _ _ _ (by omega) (by omega)]
  exact congrArg (Dh m c) (by blk_ext [idx t, col])
theorem in2 (t : Fin cfg0.N) (h0 : ¬t.val % 8 = 0) (r : Fin 8) (q : Fin 256) : iblk m c 2 t (ix2 r q) = Z (U m c) (1024 * (t.val % 8) + r.val) (col t q) := by
  have h := col_lt t q
  have := r.isLt
  rw [show 1024 * (t.val % 8) + r.val = 1024 * (t.val % 8) - 8 + r.val + 8 by omega, Z_add, tot_of _ _ _ (by omega) (by omega)]
  exact congrArg (U m c) (by blk_ext [idx_prev t h0, col])
theorem in3 (t : Fin cfg0.N) (h0 : ¬t.val % 8 = 0) (r : Fin 8) (q : Fin 256) : iblk m c 3 t (ix2 r q) = Z (U m c) (1024 * (t.val % 8) + r.val) (col t q + 2816) := by
  have h := col_lt t q
  have := r.isLt
  rw [show 1024 * (t.val % 8) + r.val = 1024 * (t.val % 8) - 8 + r.val + 8 by omega, Z_add, tot_of _ _ _ (by omega) (by omega)]
  exact congrArg (U m c) (by blk_ext [idx_prev t h0, col])
theorem in4 (t : Fin cfg0.N) (h7 : ¬t.val % 8 = 7) (r : Fin 8) (q : Fin 256) : iblk m c 4 t (ix2 r q) = Z (U m c) (1024 * (t.val % 8) + 1032 + r.val) (col t q) := by
  have h := col_lt t q
  have := r.isLt
  rw [show 1024 * (t.val % 8) + 1032 + r.val = 1024 * (t.val % 8) + 1024 + r.val + 8 by omega, Z_add, tot_of _ _ _ (by omega) (by omega)]
  exact congrArg (U m c) (by blk_ext [idx_next t h7, col])
theorem in5 (t : Fin cfg0.N) (h7 : ¬t.val % 8 = 7) (r : Fin 8) (q : Fin 256) : iblk m c 5 t (ix2 r q) = Z (U m c) (1024 * (t.val % 8) + 1032 + r.val) (col t q + 2816) := by
  have h := col_lt t q
  have := r.isLt
  rw [show 1024 * (t.val % 8) + 1032 + r.val = 1024 * (t.val % 8) + 1024 + r.val + 8 by omega, Z_add, tot_of _ _ _ (by omega) (by omega)]
  exact congrArg (U m c) (by blk_ext [idx_next t h7, col])
theorem in7 (t : Fin cfg0.N) (h7 : ¬t.val % 8 = 7) (r : Fin 8) (q : Fin 256) : iblk m c 7 t (ix2 r q) = Z (Dh m c) (1024 * (t.val % 8) + 1032 + r.val) (col t q) := by
  have h := col_lt t q
  have := r.isLt
  rw [show 1024 * (t.val % 8) + 1032 + r.val = 1024 * (t.val % 8) + 1024 + r.val + 8 by omega, Z_add, tot_of _ _ _ (by omega) (by omega)]
  exact congrArg (Dh m c) (by blk_ext [idx_next t h7, col])
theorem in8 (t : Fin cfg0.N) (k : Fin 3) (q : Fin 256) : iblk m c 8 t (ix2 k q) = tot (W m c) k.val (col t q) := by
  have h := col_lt t q
  rw [tot_of _ _ _ k.isLt (by omega)]
  exact congrArg (W m c) (by blk_ext [idx t, col])
theorem in9 (t : Fin cfg0.N) (k : Fin 3) (q : Fin 256) : iblk m c 9 t (ix2 k q) = tot (W m c) k.val (col t q + 2816) := by
  have h := col_lt t q
  rw [tot_of _ _ _ k.isLt (by omega)]
  exact congrArg (W m c) (by blk_ext [idx t, col])
theorem in10 (t : Fin cfg0.N) (q : Fin 256) : iblk m c 10 t (ix2 0 q) = tot (B m c) 0 (col t q) := by
  have h := col_lt t q
  rw [tot_of _ _ _ (by omega) (by omega)]
  exact congrArg (B m c) (by blk_ext [idx t, col])
theorem in11 (t : Fin cfg0.N) (q : Fin 256) : iblk m c 11 t (ix2 0 q) = tot (B m c) 0 (col t q + 2816) := by
  have h := col_lt t q
  rw [tot_of _ _ _ (by omega) (by omega)]
  exact congrArg (B m c) (by blk_ext [idx t, col])

/-! ## One tile, with the eight rows before it and after it -/

theorem ld_row (X : Vec Ideal S3x256 .f32) (k : Fin 3) (inb) (q : Fin 256) :
    View.ld X (Rect.unit ![k.val, 0] ![1, 256] inb) (ix2 0 q) = X (ix2 k q) := by
  refine congrArg X ?_
  funext a
  fin_cases a <;> apply Fin.ext <;> simp

/-- The extended tile, at the padded array's row. -/
theorem ext_at (x : S8192x5632.Idx → EReal) (t : Fin cfg0.N) (e0 e2 : Vec Ideal S8x256 .f32) (e1 : Vec Ideal S1024x256 .f32) (q : Fin 256) (a : ℕ)
    (h0 : ¬t.val % 8 = 0 → ∀ r : Fin 8, e0 (ix2 r q) = Z x (1024 * (t.val % 8) + r.val) a)
    (h1 : ∀ r : Fin 1024, e1 (ix2 r q) = Z x (1024 * (t.val % 8) + 8 + r.val) a)
    (h2 : ¬t.val % 8 = 7 → ∀ r : Fin 8, e2 (ix2 r q) = Z x (1024 * (t.val % 8) + 1032 + r.val) a)
    (p : Fin 1040) (hp : 1024 * (t.val % 8) + p.val < 8200) :
    k0_pay5 (F := Ideal) (grid0.coords t) e0 e1 e2 (ix2 p q) = Z x (1024 * (t.val % 8) + p.val) a := by
  pointwise [k0_pay5]
  have := p.isLt
  rw [coord]
  split
  · by_cases h : t.val % 8 = 0
    · rw [h, Z_lt x _ _ (by omega)]
      rfl
    · have e : Scalar.cmpi .eq (BitVec.ofNat 32 (t.val % 8)) 0#32 = 0#1 := by
        have := Nat.mod_lt t.val (by decide : 0 < 8)
        interval_cases (t.val % 8) <;> first | rfl | exact absurd rfl h
      rw [e]
      exact h0 h ⟨p.val, by omega⟩
  · split
    · rw [h1]
      congr 1
      show _ + (p.val - 8) = _
      omega
    · rw [h2 (by omega)]
      congr 1
      show _ + (p.val - 8 - 1024) = _
      omega

/-- The gate half's extended tile. -/
abbrev EG (t : Fin cfg0.N) : FVec Ideal S1040x256 .f32 := k0_pay5 (F := Ideal) (grid0.coords t) (iblk m c 2 t) (iblk m c 0 t) (iblk m c 4 t)
/-- The value half's extended tile. -/
abbrev EV (t : Fin cfg0.N) : FVec Ideal S1040x256 .f32 := k0_pay6 (F := Ideal) (grid0.coords t) (iblk m c 3 t) (iblk m c 1 t) (iblk m c 5 t)

theorem eg_at (t : Fin cfg0.N) (p : Fin 1040) (q : Fin 256) (hp : 1024 * (t.val % 8) + p.val < 8200) :
    k0_pay5 (F := Ideal) (grid0.coords t) (iblk m c 2 t) (iblk m c 0 t) (iblk m c 4 t) (ix2 p q) = Z (U m c) (1024 * (t.val % 8) + p.val) (col t q) :=
  ext_at _ t _ _ _ q _ (fun h r => in2 m c t h r q) (fun r => in0 m c t r q) (fun h r => in4 m c t h r q) p hp
theorem ev_at (t : Fin cfg0.N) (p : Fin 1040) (q : Fin 256) (hp : 1024 * (t.val % 8) + p.val < 8200) :
    EV m c t (ix2 p q) = Z (U m c) (1024 * (t.val % 8) + p.val) (col t q + 2816) :=
  ext_at _ t _ _ _ q _ (fun h r => in3 m c t h r q) (fun r => in1 m c t r q) (fun h r => in5 m c t h r q) p hp

/-- A rotation by one or two rows, at a row it does not wrap around to. -/
theorem roll1_at (i : grid0.Coords) (e0 e2 : Vec Ideal S8x256 .f32) (e1 : Vec Ideal S1024x256 .f32) (p r : Fin 1040) (q : Fin 256) (h : p.val = r.val + 1) :
    k0_pay7 (F := Ideal) i e0 e1 e2 (ix2 p q) = k0_pay5 (F := Ideal) i e0 e1 e2 (ix2 r q) := by
  pointwise [k0_pay7]
  have := p.isLt
  congr 2
  exact Fin.ext (by show (p.val + 1040 - 1) % 1040 = r.val; omega)
theorem roll2_at (x : FVec Ideal S1040x256 .f32) (p r : Fin 1040) (q : Fin 256) (h : p.val = r.val + 2) :
    k0_pay11 (F := Ideal) x (ix2 p q) = x (ix2 r q) := by
  pointwise [k0_pay11]
  have := p.isLt
  congr 2
  exact Fin.ext (by show (p.val + 1040 - 2) % 1040 = r.val; omega)

theorem eg1_at (t : Fin cfg0.N) (p : Fin 1040) (q : Fin 256) (h1 : 1 ≤ p.val) (hp : 1024 * (t.val % 8) + p.val < 8200) :
    k0_pay7 (F := Ideal) (grid0.coords t) (iblk m c 2 t) (iblk m c 0 t) (iblk m c 4 t) (ix2 p q) = Z (U m c) (1024 * (t.val % 8) + p.val - 1) (col t q) := by
  have := p.isLt
  rw [roll1_at _ _ _ _ p ⟨p.val - 1, by omega⟩ q (by show p.val = p.val - 1 + 1; omega), eg_at m c t _ q (by show _ + (p.val - 1) < _; omega)]
  congr 1
  show _ + (p.val - 1) = _
  omega
theorem ev1_at (t : Fin cfg0.N) (p : Fin 1040) (q : Fin 256) (h1 : 1 ≤ p.val) (hp : 1024 * (t.val % 8) + p.val < 8200) :
    k0_pay10 (F := Ideal) (grid0.coords t) (iblk m c 3 t) (iblk m c 1 t) (iblk m c 5 t) (ix2 p q) = Z (U m c) (1024 * (t.val % 8) + p.val - 1) (col t q + 2816) := by
  have := p.isLt
  refine (roll1_at _ _ _ _ p ⟨p.val - 1, by omega⟩ q (by show p.val = p.val - 1 + 1; omega)).trans ((ev_at m c t _ q (by show _ + (p.val - 1) < _; omega)).trans ?_)
  congr 1
  show _ + (p.val - 1) = _
  omega
theorem eg2_at (t : Fin cfg0.N) (p : Fin 1040) (q : Fin 256) (h1 : 2 ≤ p.val) (hp : 1024 * (t.val % 8) + p.val < 8200) :
    k0_pay8 (F := Ideal) (grid0.coords t) (iblk m c 2 t) (iblk m c 0 t) (iblk m c 4 t) (ix2 p q) = Z (U m c) (1024 * (t.val % 8) + p.val - 2) (col t q) := by
  have := p.isLt
  refine (roll2_at (EG m c t) p ⟨p.val - 2, by omega⟩ q (by show p.val = p.val - 2 + 2; omega)).trans ((eg_at m c t _ q (by show _ + (p.val - 2) < _; omega)).trans ?_)
  congr 1
  show _ + (p.val - 2) = _
  omega
theorem ev2_at (t : Fin cfg0.N) (p : Fin 1040) (q : Fin 256) (h1 : 2 ≤ p.val) (hp : 1024 * (t.val % 8) + p.val < 8200) :
    k0_pay11 (F := Ideal) (EV m c t) (ix2 p q) = Z (U m c) (1024 * (t.val % 8) + p.val - 2) (col t q + 2816) := by
  have := p.isLt
  refine (roll2_at (EV m c t) p ⟨p.val - 2, by omega⟩ q (by show p.val = p.val - 2 + 2; omega)).trans ((ev_at m c t _ q (by show _ + (p.val - 2) < _; omega)).trans ?_)
  congr 1
  show _ + (p.val - 2) = _
  omega

/-- The gate half's convolution on the extended tile. -/
abbrev CG (t : Fin cfg0.N) : FVec Ideal S1040x256 .f32 :=
  k0_pay9 (F := Ideal) (grid0.coords t) (iblk m c 2 t) (iblk m c 0 t) (iblk m c 4 t) (View.ld (iblk m c 8 t) (Rect.unit ![0, 0] ![1, 256] inb_S3x256_S1x256_0_0))
    (View.ld (iblk m c 8 t) (Rect.unit ![1, 0] ![1, 256] inb_S3x256_S1x256_1_0)) (View.ld (iblk m c 8 t) (Rect.unit ![2, 0] ![1, 256] inb_S3x256_S1x256_2_0)) (iblk m c 10 t)

theorem cg_at (t : Fin cfg0.N) (p : Fin 1040) (q : Fin 256) (h2 : 2 ≤ p.val) (hp : 1024 * (t.val % 8) + p.val < 8200) :
    CG m c t (ix2 p q) = conv (U m c) (W m c) (B m c) (1024 * (t.val % 8) + p.val) (col t q) := by
  pointwise [CG, k0_pay9]
  rw [eg2_at m c t p q h2 hp, eg1_at m c t p q (by omega) hp, eg_at m c t p q hp, in8, in8, in8, in10]
  rfl

/-- The last tile is the only one with the reading of the rows after it cleared. -/
abbrev last (t : Fin cfg0.N) : BitVec 1 := Scalar.cmpi CmpIPredicate.eq (BitVec.ofNat 32 (grid0.coords t 1).val) 7#32

theorem dh_at (t : Fin cfg0.N) (p : Fin 1040) (q : Fin 256) (h8 : 8 ≤ p.val) :
    k0_pay12 (F := Ideal) (last t) (iblk m c 6 t) (iblk m c 7 t) (ix2 p q) = Z (Dh m c) (1024 * (t.val % 8) + p.val) (col t q) := by
  pointwise [k0_pay12]
  have := p.isLt
  rw [dif_neg (by omega)]
  unfold last
  rw [coord]
  split
  · rw [in6]
    congr 1
    show _ + (p.val - 8) = _
    omega
  · by_cases h : t.val % 8 = 7
    · rw [h, Z_ge (Dh m c) _ _ (by omega)]
      rfl
    · have e : Scalar.cmpi .eq (BitVec.ofNat 32 (t.val % 8)) 7#32 = 0#1 := by
        have := Nat.mod_lt t.val (by decide : 0 < 8)
        interval_cases (t.val % 8) <;> first | rfl | exact absurd rfl h
      rw [e]
      refine (in7 m c t h ⟨p.val - 8 - 1024, by omega⟩ q).trans ?_
      congr 1
      show _ + (p.val - 8 - 1024) = _
      omega

/-- The gradient at the gate half of the convolution, on the extended tile. -/
abbrev DG (t : Fin cfg0.N) : FVec Ideal S1040x256 .f32 :=
  k0_pay14 (F := Ideal) (last t) (EV m c t) (CG m c t) (k0_pay10 (F := Ideal) (grid0.coords t) (iblk m c 3 t) (iblk m c 1 t) (iblk m c 5 t))
    (View.ld (iblk m c 9 t) (Rect.unit ![0, 0] ![1, 256] inb_S3x256_S1x256_0_0)) (View.ld (iblk m c 9 t) (Rect.unit ![1, 0] ![1, 256] inb_S3x256_S1x256_1_0))
    (View.ld (iblk m c 9 t) (Rect.unit ![2, 0] ![1, 256] inb_S3x256_S1x256_2_0)) (iblk m c 11 t) (iblk m c 6 t) (iblk m c 7 t)
/-- The gradient at the value half of the convolution, on the extended tile. -/
abbrev DV (t : Fin cfg0.N) : FVec Ideal S1040x256 .f32 := k0_pay15 (F := Ideal) (last t) (CG m c t) (iblk m c 6 t) (iblk m c 7 t)

/-- The two gradients as functions of the padded array's row and of the column. -/
abbrev dG : ℕ → ℕ → EReal := dGate (U m c) (W m c) (B m c) (Dh m c)
abbrev dV : ℕ → ℕ → EReal := dVal (U m c) (W m c) (B m c) (Dh m c)

theorem pay13_at (x : FVec Ideal S1040x256 .f32) (p : Fin 1040) (q : Fin 256) : k0_pay13 (F := Ideal) x (ix2 p q) = sg (x (ix2 p q)) := by
  pointwise [k0_pay13]
  rfl

theorem dg_at (t : Fin cfg0.N) (p : Fin 1040) (q : Fin 256) (h8 : 8 ≤ p.val) : DG m c t (ix2 p q) = dG m c (1024 * (t.val % 8) + p.val) (col t q) := by
  by_cases hp : 1024 * (t.val % 8) + p.val < 8200
  · pointwise [DG, k0_pay14]
    rw [dh_at m c t p q h8, pay13_at, cg_at m c t p q (by omega) hp, ev2_at m c t p q (by omega) hp, ev1_at m c t p q (by omega) hp, ev_at m c t p q hp, in9, in9, in9, in11]
    rfl
  · rw [dG, dGate_ge _ _ _ _ _ _ (by omega)]
    pointwise [DG, k0_pay14]
    rw [dh_at m c t p q h8, Z_ge (Dh m c) _ _ (by omega), zero_mul, zero_mul]
theorem dv_at (t : Fin cfg0.N) (p : Fin 1040) (q : Fin 256) (h8 : 8 ≤ p.val) : DV m c t (ix2 p q) = dV m c (1024 * (t.val % 8) + p.val) (col t q) := by
  by_cases hp : 1024 * (t.val % 8) + p.val < 8200
  · pointwise [DV, k0_pay15]
    rw [dh_at m c t p q h8, pay13_at, cg_at m c t p q (by omega) hp]
    rfl
  · rw [dV, dVal_ge _ _ _ _ _ _ (by omega)]
    pointwise [DV, k0_pay15]
    rw [dh_at m c t p q h8, Z_ge (Dh m c) _ _ (by omega), zero_mul]

/-- The gradient of the input from a gradient `D` of the convolution: the products with three neighbouring rows. -/
theorem du_tile (t : Fin cfg0.N) (D : FVec Ideal S1040x256 .f32) (d : ℕ → ℕ → EReal) (hD : ∀ (p : Fin 1040) (q : Fin 256), 8 ≤ p.val → D (ix2 p q) = d (1024 * (t.val % 8) + p.val) (col t q))
    (w2 w1 w0 : FVec Ideal S1x256 .f32) (o : ℕ) (q : Fin 256) (h2 : w2 (ix2 0 q) = tot (W m c) 2 (col t q + o)) (h1 : w1 (ix2 0 q) = tot (W m c) 1 (col t q + o))
    (h0 : w0 (ix2 0 q) = tot (W m c) 0 (col t q + o)) (r : Fin 1024) :
    k0_pay20 (F := Ideal) D w2 w1 w0 (ix2 r q) = du (W m c) d o (1024 * (t.val % 8) + r.val) (col t q) := by
  pointwise [k0_pay20]
  have := r.isLt
  rw [h2, h1, h0, hD _ _ (by show 8 ≤ 8 + r.val; omega), hD _ _ (by show 8 ≤ (8 + r.val + 1040 - 1039) % 1040; omega), hD _ _ (by show 8 ≤ (8 + r.val + 1040 - 1038) % 1040; omega)]
  unfold du
  have e0 : 1024 * (t.val % 8) + (8 + r.val) = 1024 * (t.val % 8) + r.val + 8 := by omega
  have e1 : 1024 * (t.val % 8) + (8 + r.val + 1040 - 1039) % 1040 = 1024 * (t.val % 8) + r.val + 9 := by omega
  have e2 : 1024 * (t.val % 8) + (8 + r.val + 1040 - 1038) % 1040 = 1024 * (t.val % 8) + r.val + 10 := by omega
  rw [e0, e1, e2]

/-- One tile's share of a sum over the rows of a gradient `D` against an extended tile `E`. -/
theorem dw_tile (t : Fin cfg0.N) (D E : FVec Ideal S1040x256 .f32) (d e : ℕ → ℕ → EReal) (hD : ∀ (p : Fin 1040) (q : Fin 256), 8 ≤ p.val → D (ix2 p q) = d (1024 * (t.val % 8) + p.val) (col t q))
    (q : Fin 256) (hE : ∀ p : Fin 1040, 8 ≤ p.val → 1024 * (t.val % 8) + p.val < 8200 → E (ix2 p q) = e (1024 * (t.val % 8) + p.val) (col t q)) (x : FVec Ideal S1x256 .f32) (z : Fin 1) :
    k0_pay22 (F := Ideal) E D x (ix2 z q)
      = x (ix2 z q) + ∑ r : Fin 1024, d (1024 * (t.val % 8) + r.val + 8) (col t q) * e (1024 * (t.val % 8) + r.val + 8) (col t q) := by
  pointwise [k0_pay22, k0_pay21]
  congr 1
  refine Finset.sum_congr rfl fun r _ => ?_
  have := r.isLt
  have := Nat.mod_lt t.val (by decide : 0 < 8)
  rw [hD _ _ (by show 8 ≤ 8 + r.val; omega), hE _ (by show 8 ≤ 8 + r.val; omega) (by show _ + (8 + r.val) < _; omega)]
  have e0 : 1024 * (t.val % 8) + (8 + r.val) = 1024 * (t.val % 8) + r.val + 8 := by omega
  rw [e0]

/-- One tile's share of the sum over the rows of a gradient `D`. -/
theorem db_tile (t : Fin cfg0.N) (D : FVec Ideal S1040x256 .f32) (d : ℕ → ℕ → EReal) (hD : ∀ (p : Fin 1040) (q : Fin 256), 8 ≤ p.val → D (ix2 p q) = d (1024 * (t.val % 8) + p.val) (col t q))
    (q : Fin 256) (x : FVec Ideal S1x256 .f32) (z : Fin 1) :
    k0_pay25 (F := Ideal) (k0_pay21 (F := Ideal) D) x (ix2 z q) = x (ix2 z q) + ∑ r : Fin 1024, d (1024 * (t.val % 8) + r.val + 8) (col t q) := by
  pointwise [k0_pay25, k0_pay21]
  congr 1
  refine Finset.sum_congr rfl fun r _ => ?_
  rw [hD _ _ (by show 8 ≤ 8 + r.val; omega)]
  have e0 : 1024 * (t.val % 8) + (8 + r.val) = 1024 * (t.val % 8) + r.val + 8 := by omega
  rw [e0]

end Cert.Proof.ConvBwdIdeal

end
-- ==== Proof.ConvBwdVal.lean ====
/-
  The gradient of the convolution and its gate: the six arrays the kernel leaves.
-/
module

public import proofs.«01_k».proof.Proof.ConvBwdTile

@[expose] public section

set_option maxRecDepth 16384

noncomputable section

namespace Cert.Proof.ConvBwdIdeal

open Cert.ConvBwdIdeal Cert.ConvBwdIdeal.Gen Cert.Proof.Products Cert.Proof.ConvMath
open Idealize.ShloMosaic Idealize.ShloMosaic.TcCoe Idealize.SL.Sem

/-! ## The payloads of the value half are those of the gate half -/

variable (D E : FVec Ideal S1040x256 .f32) (x : FVec Ideal S1x256 .f32)

theorem pay1_eq : k0_pay1 (F := Ideal) (k0_pay28 x) (k0_pay29 E D) = k0_pay22 E D x := rfl
theorem pay2_eq : k0_pay2 (F := Ideal) E (k0_pay27 D) x = k0_pay22 E D x := rfl
theorem pay3_eq : k0_pay3 (F := Ideal) E (k0_pay27 D) x = k0_pay22 E D x := rfl
theorem pay23_eq : k0_pay23 (F := Ideal) E D x = k0_pay22 E D x := rfl
theorem pay24_eq : k0_pay24 (F := Ideal) E (k0_pay21 D) x = k0_pay22 E D x := rfl
theorem pay4_eq : k0_pay4 (F := Ideal) (k0_pay27 D) x = k0_pay25 (k0_pay21 D) x := rfl
theorem pay26_eq (w2 w1 w0 : FVec Ideal S1x256 .f32) : k0_pay26 (F := Ideal) D w2 w1 w0 = k0_pay20 D w2 w1 w0 := rfl

/-! ## The three rows of a stored block -/

theorem row_emb (k : Fin 3) (inb) (q : Fin 256) : (Rect.unit (s := S3x256) ![k.val, 0] ![1, 256] inb).emb (ix2 (0 : Fin 1) q) = ix2 k q := by
  funext a
  fin_cases a <;> apply Fin.ext <;> simp [Rect.emb, Rect.unit]

theorem row_hit (k : Fin 3) (inb) (w : FVec Ideal S1x256 .f32) (L : List (View.Piece (Elt Ideal) S3x256 .f32)) (q : Fin 256) :
    View.canon (⟨Rect.unit ![k.val, 0] ![1, 256] inb, w⟩ :: L) (ix2 k q) = w (ix2 0 q) := by
  rw [← row_emb k inb q]
  exact View.canon_cons_emb (Rect.unit (s := S3x256) ![k.val, 0] ![1, 256] inb) w L _

theorem row_miss (j k : Fin 3) (h : j ≠ k) (inb) (w : FVec Ideal S1x256 .f32) (L : List (View.Piece (Elt Ideal) S3x256 .f32)) (q : Fin 256) :
    View.canon (⟨Rect.unit ![k.val, 0] ![1, 256] inb, w⟩ :: L) (ix2 j q) = View.canon L (ix2 j q) := by
  refine View.canon_cons_of_not_mem _ L ?_
  intro hm
  obtain ⟨x, hx⟩ := LoadRect.exists_idx_of_mem (r := (Rect.unit (s := S3x256) ![k.val, 0] ![1, 256] inb).toLoadRect) hm
  have e : x = ix2 (0 : Fin 1) (x 1) := by
    funext a
    fin_cases a
    · exact Subsingleton.elim (α := Fin 1) _ _
    · rfl
  have e2 := (row_emb k inb (x 1)).symm.trans ((congrArg _ e.symm).trans hx)
  exact h (congrFun e2 0).symm

theorem rows_canon {P2 P1 P0 : FVec Ideal S1x256 .f32} (L : List (View.Piece (Elt Ideal) S3x256 .f32)) (G : FVec Ideal S3x256 .f32) (h2 : ∀ q, P2 (ix2 0 q) = G (ix2 2 q)) (h1 : ∀ q, P1 (ix2 0 q) = G (ix2 1 q))
    (h0 : ∀ q, P0 (ix2 0 q) = G (ix2 0 q)) (i : S3x256.Idx) :
    View.canon (⟨Rect.unit ![2, 0] ![1, 256] inb_S3x256_S1x256_2_0, P2⟩ :: ⟨Rect.unit ![1, 0] ![1, 256] inb_S3x256_S1x256_1_0, P1⟩
      :: ⟨Rect.unit ![0, 0] ![1, 256] inb_S3x256_S1x256_0_0, P0⟩ :: L) i = G i := by
  have e : i = ix2 (i 0) (i 1) := by
    funext a
    fin_cases a <;> rfl
  rw [e]
  generalize i 0 = k
  generalize i 1 = q
  fin_cases k
  · exact (row_miss 0 2 (by decide) inb_S3x256_S1x256_2_0 P2 _ q).trans ((row_miss 0 1 (by decide) inb_S3x256_S1x256_1_0 P1 _ q).trans
      ((row_hit 0 inb_S3x256_S1x256_0_0 P0 L q).trans (h0 q)))
  · exact (row_miss 1 2 (by decide) inb_S3x256_S1x256_2_0 P2 _ q).trans ((row_hit 1 inb_S3x256_S1x256_1_0 P1 _ q).trans (h1 q))
  · exact (row_hit 2 inb_S3x256_S1x256_2_0 P2 _ q).trans (h2 q)

theorem fill_at (X : FVec Ideal S3x256 .f32) (L : List (View.Piece (Elt Ideal) S3x256 .f32)) (y : S3x256.Idx) :
    View.canon (⟨Rect.unit ![0, 0] ![3, 256] inb_S3x256_S3x256_0_0, X⟩ :: L) y = X y := by
  have e : (Rect.unit (s := S3x256) ![0, 0] ![3, 256] inb_S3x256_S3x256_0_0).emb y = y := by
    funext a
    fin_cases a <;> apply Fin.ext <;> simp [Rect.emb, Rect.unit]
  exact (congrArg (View.canon _) e.symm).trans (View.canon_cons_emb (Rect.unit (s := S3x256) ![0, 0] ![3, 256] inb_S3x256_S3x256_0_0) X L y)

variable {P1 P0 : FVec Ideal S1x256 .f32} (v : View sig .tc .vmem S3x256 .f32) (X : FVec Ideal S3x256 .f32)

/-- A row read behind the fill of the whole block alone. -/
theorem read_fill (r : Rect S3x256) : v.readCov (Val := Elt Ideal) [⟨Rect.unit ![0, 0] ![3, 256] inb_S3x256_S3x256_0_0, X⟩] r.toLoadRect = View.ld (Val := Elt Ideal) X r := by
  rw [View.readCov_eq_canon']
  funext j
  exact fill_at X [] _
theorem read1 : v.readCov (Val := Elt Ideal) [⟨Rect.unit ![0, 0] ![1, 256] inb_S3x256_S1x256_0_0, P0⟩, ⟨Rect.unit ![0, 0] ![3, 256] inb_S3x256_S3x256_0_0, X⟩]
    (Rect.unit ![1, 0] ![1, 256] inb_S3x256_S1x256_1_0).toLoadRect = View.ld (Val := Elt Ideal) X (Rect.unit (s := S3x256) ![1, 0] ![1, 256] inb_S3x256_S1x256_1_0) := by
  rw [View.readCov_skip v _ _ _ _ (by decide)]
  exact read_fill v X _
theorem read2 : v.readCov (Val := Elt Ideal) [⟨Rect.unit ![1, 0] ![1, 256] inb_S3x256_S1x256_1_0, P1⟩, ⟨Rect.unit ![0, 0] ![1, 256] inb_S3x256_S1x256_0_0, P0⟩, ⟨Rect.unit ![0, 0] ![3, 256] inb_S3x256_S3x256_0_0, X⟩]
    (Rect.unit ![2, 0] ![1, 256] inb_S3x256_S1x256_2_0).toLoadRect = View.ld (Val := Elt Ideal) X (Rect.unit (s := S3x256) ![2, 0] ![1, 256] inb_S3x256_S1x256_2_0) := by
  rw [View.readCov_skip v _ _ _ _ (by decide), View.readCov_skip v _ _ _ _ (by decide)]
  exact read_fill v X _

variable (q : Fin 256)

/-! ## The sums over the rows -/

theorem contr : 8192 = 8 * 1024 := rfl

variable (m : (ℓ : Loc nD τ sig) → Buf (Elt Ideal) ℓ) (c : Dev nD)

/-- The summand of the weight's gradient. -/
def sw (d : ℕ → ℕ → EReal) (o : ℕ) (t : Fin cfg0.N) (k : Fin 8192) (i : S3x256.Idx) : EReal :=
  d (k.val + 8) (col t (i 1)) * Z (U m c) (k.val + 6 + (i 0).val) (col t (i 1) + o)
/-- The summand of the bias's gradient. -/
def sb (d : ℕ → ℕ → EReal) (t : Fin cfg0.N) (k : Fin 8192) (i : S1x256.Idx) : EReal := d (k.val + 8) (col t (i 1))

theorem con_val (t : Fin cfg0.N) (r : Fin 1024) : (con contr t.val r).val = 1024 * (t.val % 8) + r.val := by
  show t.val % 8 * 1024 + r.val = _
  omega

/-- A gradient's tile holds the function `d`. -/
abbrev Holds (t : Fin cfg0.N) (D : FVec Ideal S1040x256 .f32) (d : ℕ → ℕ → EReal) : Prop :=
  ∀ (p : Fin 1040) (q : Fin 256), 8 ≤ p.val → D (ix2 p q) = d (1024 * (t.val % 8) + p.val) (col t q)

theorem dw_row (t : Fin cfg0.N) (d : ℕ → ℕ → EReal) (hD : Holds t D d) (o : ℕ) (k : Fin 3)
    (hE : ∀ p : Fin 1040, 8 ≤ p.val → 1024 * (t.val % 8) + p.val < 8200 → E (ix2 p q) = Z (U m c) (1024 * (t.val % 8) + p.val - (2 - k.val)) (col t q + o)) :
    k0_pay22 (F := Ideal) E D x (ix2 0 q) = x (ix2 0 q) + ∑ r : Fin 1024, sw m c d o t (con contr t.val r) (ix2 k q) := by
  rw [dw_tile t D E d (fun n a => Z (U m c) (n - (2 - k.val)) (a + o)) hD q hE]
  congr 1
  refine Finset.sum_congr rfl fun r _ => ?_
  unfold sw
  rw [con_val]
  congr 2
  have := k.isLt
  show 1024 * (t.val % 8) + r.val + 8 - (2 - k.val) = 1024 * (t.val % 8) + r.val + 6 + k.val
  omega
theorem db_row (t : Fin cfg0.N) (d : ℕ → ℕ → EReal) (hD : Holds t D d) :
    k0_pay25 (F := Ideal) (k0_pay21 D) x (ix2 0 q) = x (ix2 0 q) + ∑ r : Fin 1024, sb d t (con contr t.val r) (ix2 0 q) := by
  rw [db_tile t D d hD q]
  congr 1
  refine Finset.sum_congr rfl fun r _ => ?_
  unfold sb
  rw [con_val]
  rfl

/-- The values three rows of a block hold after a point: those before it and the point's share. -/
abbrev upd (t : Fin cfg0.N) (d : ℕ → ℕ → EReal) (o : ℕ) : FVec Ideal S3x256 .f32 := fun i => X i + ∑ r : Fin 1024, sw m c d o t (con contr t.val r) i

/-- The three rows of a block after a point. -/
theorem rows_step (t : Fin cfg0.N) (d : ℕ → ℕ → EReal) (hD : Holds t D d) (o : ℕ) (E2 E1 E0 : FVec Ideal S1040x256 .f32)
    (h0 : ∀ (p : Fin 1040) (q : Fin 256), 1024 * (t.val % 8) + p.val < 8200 → E0 (ix2 p q) = Z (U m c) (1024 * (t.val % 8) + p.val) (col t q + o))
    (h1 : ∀ (p : Fin 1040) (q : Fin 256), 1 ≤ p.val → 1024 * (t.val % 8) + p.val < 8200 → E1 (ix2 p q) = Z (U m c) (1024 * (t.val % 8) + p.val - 1) (col t q + o))
    (h2 : ∀ (p : Fin 1040) (q : Fin 256), 2 ≤ p.val → 1024 * (t.val % 8) + p.val < 8200 → E2 (ix2 p q) = Z (U m c) (1024 * (t.val % 8) + p.val - 2) (col t q + o))
    (L : List (View.Piece (Elt Ideal) S3x256 .f32)) (i : S3x256.Idx) :
    View.canon (⟨Rect.unit ![2, 0] ![1, 256] inb_S3x256_S1x256_2_0, k0_pay22 (F := Ideal) E0 D (View.ld (Val := Elt Ideal) X (Rect.unit (s := S3x256) ![2, 0] ![1, 256] inb_S3x256_S1x256_2_0))⟩
      :: ⟨Rect.unit ![1, 0] ![1, 256] inb_S3x256_S1x256_1_0, k0_pay22 (F := Ideal) E1 D (View.ld (Val := Elt Ideal) X (Rect.unit (s := S3x256) ![1, 0] ![1, 256] inb_S3x256_S1x256_1_0))⟩
      :: ⟨Rect.unit ![0, 0] ![1, 256] inb_S3x256_S1x256_0_0, k0_pay22 (F := Ideal) E2 D (View.ld (Val := Elt Ideal) X (Rect.unit (s := S3x256) ![0, 0] ![1, 256] inb_S3x256_S1x256_0_0))⟩ :: L) i
      = X i + ∑ r : Fin 1024, sw m c d o t (con contr t.val r) i := by
  refine rows_canon L (upd X m c t d o) (fun q => ?_) (fun q => ?_) (fun q => ?_) i
  · exact (dw_row D E0 _ q m c t d hD o 2 (fun p h8 hp => h0 p q hp)).trans (congrArg (· + _) (ld_row X 2 _ q))
  · exact (dw_row D E1 _ q m c t d hD o 1 (fun p h8 hp => h1 p q (by omega) hp)).trans (congrArg (· + _) (ld_row X 1 _ q))
  · exact (dw_row D E2 _ q m c t d hD o 0 (fun p h8 hp => h2 p q (by omega) hp)).trans (congrArg (· + _) (ld_row X 0 _ q))

theorem db_step (t : Fin cfg0.N) (d : ℕ → ℕ → EReal) (hD : Holds t D d) (i : S1x256.Idx) :
    k0_pay25 (F := Ideal) (k0_pay21 D) x i = x i + ∑ r : Fin 1024, sb d t (con contr t.val r) i := by
  have e : i = ix2 (0 : Fin 1) (i 1) := by
    funext a
    fin_cases a
    · exact Subsingleton.elim (α := Fin 1) _ _
    · rfl
  rw [e]
  exact db_row D x (i 1) t d hD

theorem dwGate_zero (t : Fin cfg0.N) (h : t.val % 8 = 0) (i : S3x256.Idx) :
    (outsAt0 m c t.val t.isLt).2.2.1 i = (0 : EReal) + ∑ r : Fin 1024, sw m c (dG m c) 0 t (con contr t.val r) i := by
  rw [outsAt0_A m c t h]
  frame_out
  have hD : Holds t (DG m c t) (dG m c) := dg_at m c t
  dsimp only [DG, EV, CG, last] at hD
  generalize k0_pay14 (F := Ideal) _ _ _ _ _ _ _ _ _ _ = D at hD ⊢
  simp only [read_fill, read1, read2, pay24_eq, pay23_eq]
  refine (rows_step D _ m c t _ hD 0 _ _ _ (fun p q => eg_at m c t p q) (fun p q => eg1_at m c t p q) (fun p q => eg2_at m c t p q) _ i).trans ?_
  exact congrArg (· + _) (by pointwise [k0_pay16])
theorem dwGate_succ (t : Fin cfg0.N) (h : ¬t.val % 8 = 0) (i : S3x256.Idx) : (outsAt0 m c t.val t.isLt).2.2.1 i
    = (outsAt0 m c (t.val - 1) (Nat.lt_of_le_of_lt (Nat.sub_le _ _) t.isLt)).2.2.1 i + ∑ r : Fin 1024, sw m c (dG m c) 0 t (con contr t.val r) i := by
  rw [outsAt0_B m c t h]
  frame_out
  have hD : Holds t (DG m c t) (dG m c) := dg_at m c t
  dsimp only [DG, EV, CG, last] at hD
  generalize k0_pay14 (F := Ideal) _ _ _ _ _ _ _ _ _ _ = D at hD ⊢
  generalize (outsAt0 m c (t.val - 1) _).2.2.1 = X
  simp only [pay24_eq, pay23_eq]
  exact rows_step D _ m c t _ hD 0 _ _ _ (fun p q => eg_at m c t p q) (fun p q => eg1_at m c t p q) (fun p q => eg2_at m c t p q) _ i
theorem dbGate_zero (t : Fin cfg0.N) (h : t.val % 8 = 0) (i : S1x256.Idx) :
    (outsAt0 m c t.val t.isLt).2.2.2.2.1 i = (0 : EReal) + ∑ r : Fin 1024, sb (dG m c) t (con contr t.val r) i := by
  rw [outsAt0_A m c t h]
  frame_out
  have hD : Holds t (DG m c t) (dG m c) := dg_at m c t
  dsimp only [DG, EV, CG, last] at hD
  generalize k0_pay14 (F := Ideal) _ _ _ _ _ _ _ _ _ _ = D at hD ⊢
  rw [db_step D _ t _ hD]
  pointwise [k0_pay18]
theorem dbGate_succ (t : Fin cfg0.N) (h : ¬t.val % 8 = 0) (i : S1x256.Idx) : (outsAt0 m c t.val t.isLt).2.2.2.2.1 i
    = (outsAt0 m c (t.val - 1) (Nat.lt_of_le_of_lt (Nat.sub_le _ _) t.isLt)).2.2.2.2.1 i + ∑ r : Fin 1024, sb (dG m c) t (con contr t.val r) i := by
  rw [outsAt0_B m c t h]
  frame_out
  have hD : Holds t (DG m c t) (dG m c) := dg_at m c t
  dsimp only [DG, EV, CG, last] at hD
  generalize k0_pay14 (F := Ideal) _ _ _ _ _ _ _ _ _ _ = D at hD ⊢
  exact db_step D _ t _ hD i

theorem dwVal_zero (t : Fin cfg0.N) (h : t.val % 8 = 0) (i : S3x256.Idx) :
    (outsAt0 m c t.val t.isLt).2.2.2.1 i = (0 : EReal) + ∑ r : Fin 1024, sw m c (dV m c) 2816 t (con contr t.val r) i := by
  rw [outsAt0_A m c t h]
  frame_out
  have hD : Holds t (DV m c t) (dV m c) := dv_at m c t
  dsimp only [DV, CG, last] at hD
  generalize k0_pay15 (F := Ideal) _ _ _ _ = D at hD ⊢
  simp only [read_fill, read1, read2, pay1_eq, pay2_eq, pay3_eq]
  refine (rows_step D _ m c t _ hD 2816 _ _ _ (fun p q => ev_at m c t p q) (fun p q => ev1_at m c t p q) (fun p q => ev2_at m c t p q) _ i).trans ?_
  exact congrArg (· + _) (by pointwise [k0_pay17])
theorem dwVal_succ (t : Fin cfg0.N) (h : ¬t.val % 8 = 0) (i : S3x256.Idx) : (outsAt0 m c t.val t.isLt).2.2.2.1 i
    = (outsAt0 m c (t.val - 1) (Nat.lt_of_le_of_lt (Nat.sub_le _ _) t.isLt)).2.2.2.1 i + ∑ r : Fin 1024, sw m c (dV m c) 2816 t (con contr t.val r) i := by
  rw [outsAt0_B m c t h]
  frame_out
  have hD : Holds t (DV m c t) (dV m c) := dv_at m c t
  dsimp only [DV, CG, last] at hD
  generalize k0_pay15 (F := Ideal) _ _ _ _ = D at hD ⊢
  generalize (outsAt0 m c (t.val - 1) _).2.2.2.1 = X
  simp only [pay1_eq, pay2_eq, pay3_eq]
  exact rows_step D _ m c t _ hD 2816 _ _ _ (fun p q => ev_at m c t p q) (fun p q => ev1_at m c t p q) (fun p q => ev2_at m c t p q) _ i
theorem dbVal_zero (t : Fin cfg0.N) (h : t.val % 8 = 0) (i : S1x256.Idx) :
    (outsAt0 m c t.val t.isLt).2.2.2.2.2 i = (0 : EReal) + ∑ r : Fin 1024, sb (dV m c) t (con contr t.val r) i := by
  rw [outsAt0_A m c t h]
  frame_out
  have hD : Holds t (DV m c t) (dV m c) := dv_at m c t
  dsimp only [DV, CG, last] at hD
  generalize k0_pay15 (F := Ideal) _ _ _ _ = D at hD ⊢
  rw [pay4_eq]
  rw [db_step D _ t _ hD]
  pointwise [k0_pay19]
theorem dbVal_succ (t : Fin cfg0.N) (h : ¬t.val % 8 = 0) (i : S1x256.Idx) : (outsAt0 m c t.val t.isLt).2.2.2.2.2 i
    = (outsAt0 m c (t.val - 1) (Nat.lt_of_le_of_lt (Nat.sub_le _ _) t.isLt)).2.2.2.2.2 i + ∑ r : Fin 1024, sb (dV m c) t (con contr t.val r) i := by
  rw [outsAt0_B m c t h]
  frame_out
  have hD : Holds t (DV m c t) (dV m c) := dv_at m c t
  dsimp only [DV, CG, last] at hD
  generalize k0_pay15 (F := Ideal) _ _ _ _ = D at hD ⊢
  rw [pay4_eq]
  exact db_step D _ t _ hD i

/-! ## The arrays the kernel leaves -/

/-- The gate half of the input's gradient. -/
def GduGate : FVec Ideal S8192x2816 .f32 := fun i => du (W m c) (dG m c) 0 (i 0).val (i 1).val
/-- The gate half of the weight's gradient. -/
def GdwGate : FVec Ideal S3x2816 .f32 := fun i => dw (U m c) (dG m c) 0 (i 0).val (i 1).val
/-- The gate half of the bias's gradient. -/
def GdbGate : FVec Ideal S1x2816 .f32 := fun i => db 8192 (dG m c) (i 1).val

theorem duGate_out (t : Fin cfg0.N) : (outsAt0 m c t.val t.isLt).1 = k0_pay20 (F := Ideal) (DG m c t) (View.ld (iblk m c 8 t) (Rect.unit ![2, 0] ![1, 256] inb_S3x256_S1x256_2_0))
    (View.ld (iblk m c 8 t) (Rect.unit ![1, 0] ![1, 256] inb_S3x256_S1x256_1_0)) (View.ld (iblk m c 8 t) (Rect.unit ![0, 0] ![1, 256] inb_S3x256_S1x256_0_0)) := by
  by_cases h : t.val % 8 = 0
  · rw [outsAt0_A m c t h]
    frame_out
    rfl
  · rw [outsAt0_B m c t h]
    frame_out
    rfl

theorem duGate_final : (dats m 0 c).arrAt 12 cfg0.N = GduGate m c := by
  refine (dats m 0 c).arrAt_eq_of_covers 12 _ (by decide +kernel) fun t hf y => ?_
  blk_simp
  rw [after0_12, duGate_out m c t]
  idx_vars y
  refine (du_tile m c t _ _ (dg_at m c t) _ _ _ 0 y1 ((ld_row _ 2 _ _).trans (in8 m c t _ _)) ((ld_row _ 1 _ _).trans (in8 m c t _ _)) ((ld_row _ 0 _ _).trans (in8 m c t _ _)) y0).trans ?_
  have e : ((View.whole main_v0_0).slice (win0_12.rect t)).emb (ix2 y0 y1) = ix2 (⟨1024 * (t.val % 8) + y0.val, by omega⟩ : Fin 8192) ⟨col t y1, col_lt t y1⟩ := by blk_ext [idx t, col]
  exact (congrArg (GduGate m c) e).symm

theorem swGate_run (s t : Fin cfg0.N) (h : s.val / 8 = t.val / 8) : sw m c (dG m c) 0 s = sw m c (dG m c) 0 t := by
  funext k i
  unfold sw col
  rw [h]
theorem sbGate_run (s t : Fin cfg0.N) (h : s.val / 8 = t.val / 8) : sb (dG m c) s = sb (dG m c) t := by
  funext k i
  unfold sb col
  rw [h]

theorem dwGate_final : (dats m 0 c).arrAt 14 cfg0.N = GdwGate m c := by
  refine (dats m 0 c).arrAt_eq_of_covers 14 _ (by decide +kernel) fun t hf y => ?_
  have h := (flush0_14 t).mp hf
  blk_simp
  rw [after0_14]
  idx_vars y
  rw [acc_last contr (fun n h => (outsAt0 m c n h).2.2.1) (sw m c (dG m c) 0) (swGate_run m c) (dwGate_zero m c) (dwGate_succ m c) t h]
  have e : ((View.whole main_v0_2).slice (win0_14.rect t)).emb (ix2 y0 y1) = ix2 y0 (⟨col t y1, col_lt t y1⟩ : Fin 2816) := by blk_ext [idx t, col]
  exact (congrArg (GdwGate m c) e).symm

theorem dbGate_final : (dats m 0 c).arrAt 16 cfg0.N = GdbGate m c := by
  refine (dats m 0 c).arrAt_eq_of_covers 16 _ (by decide +kernel) fun t hf y => ?_
  have h := (flush0_16 t).mp hf
  blk_simp
  rw [after0_16]
  idx_vars y
  rw [acc_last contr (fun n h => (outsAt0 m c n h).2.2.2.2.1) (sb (dG m c)) (sbGate_run m c) (dbGate_zero m c) (dbGate_succ m c) t h]
  have e : ((View.whole main_v0_4).slice (win0_16.rect t)).emb (ix2 y0 y1) = ix2 y0 (⟨col t y1, col_lt t y1⟩ : Fin 2816) := by blk_ext [idx t, col]
  exact (congrArg (GdbGate m c) e).symm

/-- The value half of the input's gradient. -/
def GduVal : FVec Ideal S8192x2816 .f32 := fun i => du (W m c) (dV m c) 2816 (i 0).val (i 1).val
/-- The value half of the weight's gradient. -/
def GdwVal : FVec Ideal S3x2816 .f32 := fun i => dw (U m c) (dV m c) 2816 (i 0).val (i 1).val
/-- The value half of the bias's gradient. -/
def GdbVal : FVec Ideal S1x2816 .f32 := fun i => db 8192 (dV m c) (i 1).val

theorem duVal_out (t : Fin cfg0.N) : (outsAt0 m c t.val t.isLt).2.1 = k0_pay20 (F := Ideal) (DV m c t) (View.ld (iblk m c 9 t) (Rect.unit ![2, 0] ![1, 256] inb_S3x256_S1x256_2_0))
    (View.ld (iblk m c 9 t) (Rect.unit ![1, 0] ![1, 256] inb_S3x256_S1x256_1_0)) (View.ld (iblk m c 9 t) (Rect.unit ![0, 0] ![1, 256] inb_S3x256_S1x256_0_0)) := by
  by_cases h : t.val % 8 = 0
  · rw [outsAt0_A m c t h]
    frame_out
    rfl
  · rw [outsAt0_B m c t h]
    frame_out
    rfl

theorem duVal_final : (dats m 0 c).arrAt 13 cfg0.N = GduVal m c := by
  refine (dats m 0 c).arrAt_eq_of_covers 13 _ (by decide +kernel) fun t hf y => ?_
  blk_simp
  rw [after0_13, duVal_out m c t]
  idx_vars y
  refine (du_tile m c t _ _ (dv_at m c t) _ _ _ 2816 y1 ((ld_row _ 2 _ _).trans (in9 m c t _ _)) ((ld_row _ 1 _ _).trans (in9 m c t _ _)) ((ld_row _ 0 _ _).trans (in9 m c t _ _)) y0).trans ?_
  have e : ((View.whole main_v0_1).slice (win0_13.rect t)).emb (ix2 y0 y1) = ix2 (⟨1024 * (t.val % 8) + y0.val, by omega⟩ : Fin 8192) ⟨col t y1, col_lt t y1⟩ := by blk_ext [idx t, col]
  exact (congrArg (GduVal m c) e).symm

theorem swVal_run (s t : Fin cfg0.N) (h : s.val / 8 = t.val / 8) : sw m c (dV m c) 2816 s = sw m c (dV m c) 2816 t := by
  funext k i
  unfold sw col
  rw [h]
theorem sbVal_run (s t : Fin cfg0.N) (h : s.val / 8 = t.val / 8) : sb (dV m c) s = sb (dV m c) t := by
  funext k i
  unfold sb col
  rw [h]

theorem dwVal_final : (dats m 0 c).arrAt 15 cfg0.N = GdwVal m c := by
  refine (dats m 0 c).arrAt_eq_of_covers 15 _ (by decide +kernel) fun t hf y => ?_
  have h := (flush0_15 t).mp hf
  blk_simp
  rw [after0_15]
  idx_vars y
  rw [acc_last contr (fun n h => (outsAt0 m c n h).2.2.2.1) (sw m c (dV m c) 2816) (swVal_run m c) (dwVal_zero m c) (dwVal_succ m c) t h]
  have e : ((View.whole main_v0_3).slice (win0_15.rect t)).emb (ix2 y0 y1) = ix2 y0 (⟨col t y1, col_lt t y1⟩ : Fin 2816) := by blk_ext [idx t, col]
  exact (congrArg (GdwVal m c) e).symm

theorem dbVal_final : (dats m 0 c).arrAt 17 cfg0.N = GdbVal m c := by
  refine (dats m 0 c).arrAt_eq_of_covers 17 _ (by decide +kernel) fun t hf y => ?_
  have h := (flush0_17 t).mp hf
  blk_simp
  rw [after0_17]
  idx_vars y
  rw [acc_last contr (fun n h => (outsAt0 m c n h).2.2.2.2.2) (sb (dV m c)) (sbVal_run m c) (dbVal_zero m c) (dbVal_succ m c) t h]
  have e : ((View.whole main_v0_5).slice (win0_17.rect t)).emb (ix2 y0 y1) = ix2 y0 (⟨col t y1, col_lt t y1⟩ : Fin 2816) := by blk_ext [idx t, col]
  exact (congrArg (GdbVal m c) e).symm

end Cert.Proof.ConvBwdIdeal

end
-- ==== Proof.ConvBwdRef.lean ====
/-
  The gradient of the convolution and its gate: what the reference computes, entry by entry.
-/
module

public import proofs.«01_k».proof.Defs
public import proofs.«01_k».proof.Proof.ConvMath
public import proofs.«01_k».proof.Proof.Products
public import proofs.«01_k».proof.Proof.Gen.ConvBwdRefIdeal.Read

@[expose] public section

set_option maxRecDepth 16384

noncomputable section

namespace Cert.Proof.ConvBwdRefIdeal

open Cert.ConvBwdRefIdeal Cert.ConvBwdRefIdeal.Read Cert.Proof.Products Cert.Proof.ConvMath
open Idealize.ShloMosaic Idealize.ShloMosaic.TcCoe Idealize.SL.Sem

variable (x0 : FVec Ideal S8192x5632 .f32) (x1 : FVec Ideal S8192x2816 .f32) (x2 : FVec Ideal S3x5632 .f32) (x3 : FVec Ideal S1x5632 .f32)

theorem shift2_at (r : Fin 8192) (a : Fin 5632) : val_main_v3 (F := Ideal) x0 (ix2 r a) = Z x0 (r.val + 6) a.val := by
  pointwise [val_main_v3, val_main_v1, val_main_cst, val_main_v2]
  split
  · rw [Z_lt _ _ _ (by omega)]
  · rw [Z_of x0 ⟨r.val - 2, by omega⟩ a _ _ (by show r.val + 6 = r.val - 2 + 8; omega) rfl]
theorem shift1_at (r : Fin 8192) (a : Fin 5632) : val_main_v10 (F := Ideal) x0 (ix2 r a) = Z x0 (r.val + 7) a.val := by
  pointwise [val_main_v10, val_main_v8, val_main_cst_1, val_main_v9]
  split
  · rw [Z_lt _ _ _ (by omega)]
  · rw [Z_of x0 ⟨r.val - 1, by omega⟩ a _ _ (by show r.val + 7 = r.val - 1 + 8; omega) rfl]

theorem conv_at (r : Fin 8192) (a : Fin 5632) : val_main_v20 (F := Ideal) x0 x2 x3 (ix2 r a) = conv x0 x2 x3 (r.val + 8) a.val := by
  pointwise [val_main_v20, val_main_v19, val_main_v18, val_main_v17, val_main_v16, val_main_v15, val_main_v14, val_main_v13, val_main_v12, val_main_v7, val_main_v6, val_main_v5, val_main_v0]
  rw [shift2_at, shift1_at]
  unfold conv
  rw [Z_add, tot_of x0 _ _ r.isLt a.isLt, tot_of x2 0 _ (by omega) a.isLt, tot_of x2 1 _ (by omega) a.isLt, tot_of x2 2 _ (by omega) a.isLt, tot_of x3 0 _ (by omega) a.isLt]
  rfl

theorem sg_at (r : Fin 8192) (a : Fin 2816) : val_main_v22_2 (F := Ideal) x0 x2 x3 (ix2 r a) = sg (conv x0 x2 x3 (r.val + 8) a.val) := by
  pointwise [val_main_v22_2, val_main_call0_v0, val_main_call0_v1, val_main_call0_v2, val_main_call0_v3, val_main_call0_v4, val_main_call0_cst, val_main_call0_cst_0, val_main_v21]
  rw [conv_at, sg_eq]

theorem dVal_at (r : Fin 8192) (a : Fin 2816) : val_main_v25 (F := Ideal) x0 x1 x2 x3 (ix2 r a) = dVal x0 x2 x3 x1 (r.val + 8) a.val := by
  pointwise [val_main_v25, val_main_v22_0, val_main_v21]
  rw [conv_at, sg_at]
  unfold dVal
  rw [Z_of x1 r a _ _ rfl rfl]
  exact mul_comm (G := EReal) _ _

variable (h0 : ∀ i, IsR (x0 i)) (h1 : ∀ i, IsR (x1 i)) (h2 : ∀ i, IsR (x2 i)) (h3 : ∀ i, IsR (x3 i))
include h0 h1 h2 h3

theorem dGate_at (r : Fin 8192) (a : Fin 2816) : val_main_v28 (F := Ideal) x0 x1 x2 x3 (ix2 r a) = dGate x0 x2 x3 x1 (r.val + 8) a.val := by
  pointwise [val_main_v28, val_main_call1_v0, val_main_call1_v1, val_main_call1_v2, val_main_v26, val_main_v23, val_main_v22_1, val_main_call0_v7, val_main_call0_v6, val_main_call0_cst_1, val_main_v21]
  rw [conv_at, conv_at, sg_at]
  have hc (n a : ℕ) := isR_conv x0 x2 x3 h0 h2 h3 n a
  refine (gate_rule (h1 _) (hc _ _) (hc _ _) (isR_sg (hc _ _))).trans ?_
  unfold dGate
  rw [Z_of x1 r a _ _ rfl rfl]
  have e : 2816 + a.val = a.val + 2816 := by omega
  show x1 (ix2 r a) * conv x0 x2 x3 (r.val + 8) (2816 + a.val) * _ = _
  rw [e]

theorem gate_at (r : Fin 8192) (a : Fin 2816) (b : Fin 5632) (hb : b.val = a.val + 0) : val_main_v30 (F := Ideal) x0 x1 x2 x3 (ix2 r b) = dGate x0 x2 x3 x1 (r.val + 8) a.val := by
  pointwise [val_main_v30, val_main_v29, val_main_v27, val_main_cst_3, val_main_cst_4]
  have := a.isLt
  rw [dif_neg (by omega), dif_pos (by omega), zero_add]
  refine Eq.trans (congrArg _ ?_) (dGate_at x0 x1 x2 x3 h0 h1 h2 h3 r a)
  exact congrArg (ix2 r) (Fin.ext (by show b.val = a.val; omega))

omit h0 h1 h2 h3
theorem val_at (r : Fin 8192) (a : Fin 2816) (b : Fin 5632) (hb : b.val = a.val + 2816) : val_main_v30 (F := Ideal) x0 x1 x2 x3 (ix2 r b) = dVal x0 x2 x3 x1 (r.val + 8) a.val := by
  pointwise [val_main_v30, val_main_v29, val_main_v27, val_main_cst_3, val_main_cst_4]
  have := a.isLt
  rw [dif_pos (by omega), dif_neg (by omega), add_zero]
  refine Eq.trans (congrArg _ ?_) (dVal_at x0 x1 x2 x3 r a)
  exact congrArg (ix2 r) (Fin.ext (by show b.val - 2816 = a.val; omega))

/-! ## The gradients of the arguments, from the gradient `D` at one half of the convolution -/

variable (D : ℕ → ℕ → EReal) (o : ℕ) (hD : ∀ (r : Fin 8192) (a : Fin 2816) (b : Fin 5632), b.val = a.val + o → val_main_v30 (F := Ideal) x0 x1 x2 x3 (ix2 r b) = D (r.val + 8) a.val)
  (hz : ∀ n a, 8200 ≤ n → D n a = 0)
include hD

theorem db_at (a : Fin 2816) (b : Fin 5632) (hb : b.val = a.val + o) (z : Fin 1) : val_main_v32 (F := Ideal) x0 x1 x2 x3 (ix2 z b) = db 8192 D a.val := by
  pointwise [val_main_v32, val_main_v31, val_main_cst_5]
  unfold db
  exact Finset.sum_congr rfl fun r _ => hD r a b hb

theorem dw_at (a : Fin 2816) (b : Fin 5632) (hb : b.val = a.val + o) (k : Fin 3) : val_main_v60 (F := Ideal) x0 x1 x2 x3 (ix2 k b) = dw x0 D o k.val a.val := by
  pointwise [val_main_v60, val_main_v59, val_main_v54, val_main_v53, val_main_v52, val_main_v49, val_main_v48, val_main_v43, val_main_v42, val_main_v41, val_main_v38, val_main_v37, val_main_v36, val_main_v35, val_main_cst_6, val_main_cst_7, val_main_cst_8, val_main_cst_10, val_main_cst_11, val_main_cst_13]
  unfold dw
  fin_cases k
  · rw [dif_neg (by decide), dif_neg (by decide), dif_pos (by decide), zero_add, zero_add]
    refine Finset.sum_congr rfl fun r _ => ?_
    rw [hD r a b hb, shift2_at, hb]
    rfl
  · rw [dif_neg (by decide), dif_pos (by decide), dif_neg (by decide), zero_add, add_zero]
    refine Finset.sum_congr rfl fun r _ => ?_
    rw [hD r a b hb, shift1_at, hb]
    rfl
  · rw [dif_pos (by decide), dif_neg (by decide), dif_neg (by decide), add_zero, add_zero]
    refine Finset.sum_congr rfl fun r _ => ?_
    rw [hD r a b hb]
    exact congrArg _ (Z_of x0 r b _ _ rfl hb.symm).symm

include hz
theorem du_at (r : Fin 8192) (a : Fin 2816) (b : Fin 5632) (hb : b.val = a.val + o) : val_main_v61 (F := Ideal) x0 x1 x2 x3 (ix2 r b) = du x2 D o r.val a.val := by
  pointwise [val_main_v61, val_main_v58, val_main_v57, val_main_v56, val_main_v51, val_main_v50, val_main_v47, val_main_v46, val_main_v45, val_main_v40, val_main_v39, val_main_v34, val_main_v33, val_main_v15, val_main_v7, val_main_v0, val_main_cst_9, val_main_cst_12]
  unfold du
  have hlt := b.isLt
  rw [hD r a b hb, tot_of x2 2 _ (by omega) (hb ▸ hlt), tot_of x2 1 _ (by omega) (hb ▸ hlt), tot_of x2 0 _ (by omega) (hb ▸ hlt)]
  have e : (⟨a.val + o, hb ▸ hlt⟩ : Fin 5632) = b := Fin.ext hb.symm
  rw [e]
  refine congrArg₂ (· + ·) (congrArg₂ (· + ·) rfl ?_) ?_
  · split
    · rw [hD _ a b hb]
      have e1 : 1 + r.val + 8 = r.val + 9 := by omega
      show _ * D (1 + r.val + 8) _ = _
      rw [e1]
      rfl
    · rw [hz _ _ (by omega), mul_zero]
  · split
    · rw [hD _ a b hb]
      have e1 : 2 + r.val + 8 = r.val + 10 := by omega
      show _ * D (2 + r.val + 8) _ = _
      rw [e1]
      rfl
    · rw [hz _ _ (by omega), mul_zero]

end Cert.Proof.ConvBwdRefIdeal

end
-- ==== Proof.ConvBwdEqual.lean ====
/-
  The gradient of the convolution and its gate: of finite arguments the kernel and the reference leave the same six arrays.
-/
module

public import proofs.«01_k».proof.Defs
public import proofs.«01_k».proof.Pre_conv_finite
public import proofs.«01_k».proof.Proof.Finite
public import proofs.«01_k».proof.Proof.ConvBwdVal
public import proofs.«01_k».proof.Proof.ConvBwdRef
public import proofs.«01_k».proof.Proof.Gen.ConvBwdRefIdeal.Run

@[expose] public section

set_option maxRecDepth 16384

noncomputable section

namespace Cert.Proof.ConvBwdIdeal

open Cert.Proof.Products Cert.Proof.ConvMath
open Idealize.ShloMosaic Idealize.ShloMosaic.TcCoe Idealize.SL.Sem

section
open Cert.Pre_conv_finite

instance : Subsingleton S_.Idx := ⟨fun a b => funext fun k => k.elim0⟩

/-- Every entry of an array is real if all are below +∞ in absolute value. -/
theorem isR_of_all {s : Shape} (x : FVec Ideal s .f32) (hb : S_.BroadcastsInDim s (![] : Fin 0 → Fin s.rank)) {axes : List (Fin s.rank)}
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : IsR (x i) :=
  ⟨EReal.toReal (x i), (Cert.Proof.Finite.real_of_abs (x i) (Host.reduce_andi_all _ _ hr hu j e i)).symm⟩

theorem real_of_conv_finite [Facts] (x0 : FVec Ideal S8192x5632 .f32) (x1 : FVec Ideal S8192x2816 .f32) (x2 : FVec Ideal S3x5632 .f32) (x3 : FVec Ideal S1x5632 .f32)
    (h : fn (F := Ideal) x0 x1 x2 x3 = fun _ => 1#1) : (∀ i, IsR (x0 i)) ∧ (∀ i, IsR (x1 i)) ∧ (∀ i, IsR (x2 i)) ∧ ∀ i, IsR (x3 i) := by
  have hj := congrFun h (fun k => k.elim0)
  obtain ⟨h012, h3⟩ := IntOp.andi_eq_one.1 hj
  obtain ⟨h01, h2⟩ := IntOp.andi_eq_one.1 h012
  obtain ⟨h0, h1⟩ := IntOp.andi_eq_one.1 h01
  exact ⟨isR_of_all x0 _ _ _ _ h0, isR_of_all x1 _ _ _ _ h1, isR_of_all x2 _ _ _ _ h2, isR_of_all x3 _ _ _ _ h3⟩

end

section
open Cert.ConvBwdIdeal Cert.ConvBwdIdeal.Gen

/-- The kernel's run with its six results. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = GduGate m c
      ∧ r.2.mem ((c.tc : Thread nD τ).loc main_v0_1) = GduVal m c
      ∧ r.2.mem ((c.tc : Thread nD τ).loc main_v0_2) = GdwGate m c
      ∧ r.2.mem ((c.tc : Thread nD τ).loc main_v0_3) = GdwVal m c
      ∧ r.2.mem ((c.tc : Thread nD τ).loc main_v0_4) = GdbGate m c
      ∧ r.2.mem ((c.tc : Thread nD τ).loc main_v0_5) = GdbVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(h c).1.trans (duGate_final m c), (h c).2.1.trans (duVal_final m c), (h c).2.2.1.trans (dwGate_final m c), (h c).2.2.2.1.trans (dwVal_final m c),
      (h c).2.2.2.2.1.trans (dbGate_final m c), (h c).2.2.2.2.2.1.trans (dbVal_final m c), (h c).2.2.2.2.2.2⟩)
    (Cert.ConvBwdIdeal.Value.run_blocks m ρ)

end

section
open Cert.ConvBwdRefIdeal Cert.ConvBwdRefIdeal.Read Cert.Proof.ConvBwdRefIdeal

variable (x0 : FVec Ideal S8192x5632 .f32) (x1 : FVec Ideal S8192x2816 .f32) (x2 : FVec Ideal S3x5632 .f32) (x3 : FVec Ideal S1x5632 .f32)

/-- The half of the convolution a result column is of. -/
abbrev g (a : Fin 2816) : Fin 5632 := ⟨a.val, by omega⟩
abbrev v (a : Fin 2816) : Fin 5632 := ⟨2816 + a.val, by omega⟩

theorem v_val (a : Fin 2816) : (v a).val = a.val + 2816 := by show 2816 + a.val = _; omega

theorem ref_duVal : val_main_v63 (F := Ideal) x0 x1 x2 x3 = fun i => du x2 (dVal x0 x2 x3 x1) 2816 (i 0).val (i 1).val := by
  funext i
  idx_vars i
  pointwise [val_main_v63]
  exact du_at x0 x1 x2 x3 _ 2816 (val_at x0 x1 x2 x3) (fun n a h => dVal_ge _ _ _ _ _ _ h) i0 i1 (v i1) (v_val i1)
theorem ref_dwVal : val_main_v65 (F := Ideal) x0 x1 x2 x3 = fun i => dw x0 (dVal x0 x2 x3 x1) 2816 (i 0).val (i 1).val := by
  funext i
  idx_vars i
  pointwise [val_main_v65]
  exact dw_at x0 x1 x2 x3 _ 2816 (val_at x0 x1 x2 x3) i1 (v i1) (v_val i1) i0
theorem ref_dbVal : val_main_v67 (F := Ideal) x0 x1 x2 x3 = fun i => db 8192 (dVal x0 x2 x3 x1) (i 1).val := by
  funext i
  idx_vars i
  pointwise [val_main_v67]
  exact db_at x0 x1 x2 x3 _ 2816 (val_at x0 x1 x2 x3) i1 (v i1) (v_val i1) _

variable (h0 : ∀ i, IsR (x0 i)) (h1 : ∀ i, IsR (x1 i)) (h2 : ∀ i, IsR (x2 i)) (h3 : ∀ i, IsR (x3 i))
include h0 h1 h2 h3

theorem ref_duGate : val_main_v62 (F := Ideal) x0 x1 x2 x3 = fun i => du x2 (dGate x0 x2 x3 x1) 0 (i 0).val (i 1).val := by
  funext i
  idx_vars i
  pointwise [val_main_v62]
  exact du_at x0 x1 x2 x3 _ 0 (gate_at x0 x1 x2 x3 h0 h1 h2 h3) (fun n a h => dGate_ge _ _ _ _ _ _ h) i0 i1 (g i1) rfl
theorem ref_dwGate : val_main_v64 (F := Ideal) x0 x1 x2 x3 = fun i => dw x0 (dGate x0 x2 x3 x1) 0 (i 0).val (i 1).val := by
  funext i
  idx_vars i
  pointwise [val_main_v64]
  exact dw_at x0 x1 x2 x3 _ 0 (gate_at x0 x1 x2 x3 h0 h1 h2 h3) i1 (g i1) rfl i0
theorem ref_dbGate : val_main_v66 (F := Ideal) x0 x1 x2 x3 = fun i => db 8192 (dGate x0 x2 x3 x1) (i 1).val := by
  funext i
  idx_vars i
  pointwise [val_main_v66]
  exact db_at x0 x1 x2 x3 _ 0 (gate_at x0 x1 x2 x3 h0 h1 h2 h3) i1 (g i1) rfl _

end

theorem algebraic [Cert.Pre_conv_finite.Facts] : Cert.algebraic_ConvBwdIdeal_ConvBwdRefIdeal_pre_conv_finite := by
  intro m g m' g' hpre hagree
  refine ⟨fun c => GduGate m c, fun c => GduVal m c, fun c => GdwGate m c, fun c => GdwVal m c, fun c => GdbGate m c, fun c => GdbVal m c, run_kernel m g,
    (θ_run Cert.ConvBwdRefIdeal.defs _ _).mono (fun r h c => ?_) (Cert.ConvBwdRefIdeal.Value.run (F := Ideal) m' g')⟩
  obtain ⟨r0, r1, r2, r3⟩ := real_of_conv_finite _ _ _ _ (hpre c)
  obtain ⟨a0, a1, a2, a3⟩ := hagree c
  obtain ⟨h0, h1, h2, h3, h4, h5, hargs⟩ := h c
  refine ⟨h0.trans ?_, h1.trans ?_, h2.trans ?_, h3.trans ?_, h4.trans ?_, h5.trans ?_, hargs⟩
  · rw [Cert.ConvBwdRefIdeal.Read.val_main_v62_eq, a0, a1, a2, a3]
    exact ref_duGate _ _ _ _ r0 r1 r2 r3
  · rw [Cert.ConvBwdRefIdeal.Read.val_main_v63_eq, a0, a1, a2, a3]
    exact ref_duVal _ _ _ _
  · rw [Cert.ConvBwdRefIdeal.Read.val_main_v64_eq, a0, a1, a2, a3]
    exact ref_dwGate _ _ _ _ r0 r1 r2 r3
  · rw [Cert.ConvBwdRefIdeal.Read.val_main_v65_eq, a0, a1, a2, a3]
    exact ref_dwVal _ _ _ _
  · rw [Cert.ConvBwdRefIdeal.Read.val_main_v66_eq, a0, a1, a2, a3]
    exact ref_dbGate _ _ _ _ r0 r1 r2 r3
  · rw [Cert.ConvBwdRefIdeal.Read.val_main_v67_eq, a0, a1, a2, a3]
    exact ref_dbVal _ _ _ _

end Cert.Proof.ConvBwdIdeal

end
-- ==== Proof.NormMath.lean ====
/-
  The layer norm of a row and its gradient, as functions of the row.
-/
module

public import proofs.«01_k».proof.Proof.ConvMath

@[expose] public section

set_option maxRecDepth 16384

noncomputable section

namespace Cert.Proof.NormMath

open Idealize.ShloMosaic Cert.Proof.ConvMath

/-- The factor of the residual, the length of a row, the small number under the root, minus a half, and two, as written. -/
abbrev al : EReal := FloatOps.ofBits (F := Ideal) .f32 0x3FB504F3#32
abbrev len : EReal := FloatOps.ofBits (F := Ideal) .f32 0x44800000#32
abbrev eps : EReal := FloatOps.ofBits (F := Ideal) .f32 0x3727C5AC#32
abbrev mh : EReal := FloatOps.ofBits (F := Ideal) .f32 0xBF000000#32
abbrev two : EReal := FloatOps.ofBits (F := Ideal) .f32 0x40000000#32

/-- Row `p` of an array. -/
abbrev row {n : ℕ} (v : (⟨2, ![n, 1024]⟩ : Shape).Idx → EReal) (p : Fin n) : Fin 1024 → EReal := fun j => v (ix2 p j)

variable (x r g b d : Fin 1024 → EReal)

/-- The row that is normed. -/
def inp (j : Fin 1024) : EReal := al * x j + r j
def mean : EReal := Ideal.div (∑ j, inp x r j) len
/-- The centred row. -/
def zc (j : Fin 1024) : EReal := inp x r j - mean x r
def var : EReal := Ideal.div (∑ j, zc x r j * zc x r j) len + eps
def rs : EReal := Ideal.rsqrt (var x r)
/-- The normed row, before gain and offset. -/
def hat (j : Fin 1024) : EReal := zc x r j * rs x r
/-- The result's row. -/
def out (j : Fin 1024) : EReal := hat x r j * g j + b j

/-- The gradient at the normed row. -/
def ct (j : Fin 1024) : EReal := d j * g j
/-- The share of the gradient that goes through the centred row. -/
def thr (j : Fin 1024) : EReal := ct g d j * rs x r
/-- The gradient at the variance, divided by the length of a row. -/
def dvar : EReal := Ideal.div ((∑ j, zc x r j * ct g d j) * (mh * Ideal.div (rs x r) (var x r))) len
/-- The gradient at the centred row. -/
def dzc (j : Fin 1024) : EReal := thr x r g d j + zc x r j * dvar x r g d + dvar x r g d * zc x r j
/-- The gradient at the row, as the kernel computes it. -/
def din (j : Fin 1024) : EReal := dzc x r g d j + Ideal.div (∑ k, (0 - dzc x r g d k)) len
/-- The gradient at the row, as the reference computes it. -/
def dinRef (j : Fin 1024) : EReal :=
  thr x r g d j + dvar x r g d * (two * zc x r j) + Ideal.div ((∑ k, -thr x r g d k) + ∑ k, -(dvar x r g d * (two * zc x r k))) len

/-! ## The two gradients are equal when the gradient at the normed row is real -/

theorem two_eq : two = (2 : ℝ) := by
  show Ideal.ofBits .f32 0x40000000#32 = _
  simp [Ideal.ofBits, Ideal.ieee]
  rw [← EReal.coe_mul]
  congr 1
  norm_num
theorem len_eq : len = (1024 : ℝ) := by
  show Ideal.ofBits .f32 0x44800000#32 = _
  simp [Ideal.ofBits, Ideal.ieee]
  rw [← EReal.coe_mul]
  congr 1
  norm_num
theorem eps_pos : 0 < eps := by
  show (0 : EReal) < Ideal.ofBits .f32 0x3727C5AC#32
  simp [Ideal.ofBits, Ideal.ieee]
  try positivity

theorem two_mul_eq (y : EReal) : two * y = y + y := by
  rw [two_eq]
  induction y with
  | bot => exact EReal.coe_mul_bot_of_pos (by norm_num)
  | top => exact EReal.coe_mul_top_of_pos (by norm_num)
  | coe y => rw [← EReal.coe_mul, ← EReal.coe_add, two_mul]

theorem sq_nonneg (y : EReal) : 0 ≤ y * y := by
  induction y with
  | bot => simp
  | top => simp
  | coe y => exact_mod_cast mul_self_nonneg y

theorem rsqrt_real (y : EReal) (h : 0 < y) : IsR (Ideal.rsqrt y) := by
  induction y with
  | bot => exact absurd h (by simp)
  | top => exact ⟨0, rfl⟩
  | coe y =>
    have hy : 0 < y := by exact_mod_cast h
    refine ⟨(Real.sqrt y)⁻¹, ?_⟩
    show (if y < 0 then (⊥ : EReal) else if y = 0 then ⊤ else ((Real.sqrt y)⁻¹ : ℝ)) = _
    rw [if_neg (by linarith), if_neg hy.ne']

theorem div_nonneg (y : EReal) (h : 0 ≤ y) : 0 ≤ Ideal.div y len := by
  rw [len_eq]
  unfold Ideal.div
  rw [if_neg (by norm_num)]
  exact mul_nonneg h (by rw [← EReal.coe_inv]; exact_mod_cast (by norm_num : (0 : ℝ) ≤ 1024⁻¹))

theorem var_pos : 0 < var x r :=
  lt_of_lt_of_le eps_pos (le_add_of_nonneg_left (div_nonneg _ (Finset.sum_nonneg fun j (_ : j ∈ Finset.univ) => sq_nonneg (zc x r j))))

theorem rs_real : IsR (rs x r) := rsqrt_real _ (var_pos x r)

theorem neg_add_real (a y : EReal) (h : IsR a) : -(a + y) = -a + -y := by
  obtain ⟨a, rfl⟩ := h
  exact EReal.neg_add (.inl (EReal.coe_ne_bot a)) (.inl (EReal.coe_ne_top a))

theorem din_eq (hg : ∀ j, IsR (g j)) (hd : ∀ j, IsR (d j)) (j : Fin 1024) : din x r g d j = dinRef x r g d j := by
  have e (k : Fin 1024) : dzc x r g d k = thr x r g d k + dvar x r g d * (two * zc x r k) := by
    unfold dzc
    rw [add_assoc, mul_left_comm, two_mul_eq, mul_comm (zc x r k)]
  have ht (k : Fin 1024) : IsR (thr x r g d k) := ((hd k).mul (hg k)).mul (rs_real x r)
  unfold din dinRef
  rw [e, ← Finset.sum_add_distrib]
  refine congrArg (fun s => _ + Ideal.div s len) (Finset.sum_congr rfl fun k _ => ?_)
  rw [zero_sub, e, neg_add_real _ _ (ht k)]

end Cert.Proof.NormMath

end
-- ==== Proof.NormBwdVal.lean ====
/-
  The gradient of the residual's norm: the kernel and the reference leave the same three arrays.
-/
module

public import proofs.«01_k».proof.Pre_norm_finite
public import proofs.«01_k».proof.Proof.NormMath
public import proofs.«01_k».proof.Defs
public import proofs.«01_k».proof.Proof.Gen.NormBwdIdeal.Value
public import proofs.«01_k».proof.Proof.Gen.NormBwdRefIdeal.Read
public import proofs.«01_k».proof.Proof.Gen.NormBwdRefIdeal.Run
public import proofs.«01_k».proof.Proof.Products
public import proofs.«01_k».proof.Proof.Finite

@[expose] public section

set_option maxRecDepth 16384

noncomputable section

namespace Cert.Proof.NormBwdIdeal

open Cert.Proof.Products Cert.Proof.NormMath
open Idealize.ShloMosaic Idealize.ShloMosaic.TcCoe Idealize.SL.Sem

section Kernel
open Cert.NormBwdIdeal Cert.NormBwdIdeal.Gen

variable (v0 v1 v3 : Vec Ideal S512x1024 .f32) (v2 : Vec Ideal S1x1024 .f32)

/-! ## One block -/

theorem zc_at (p : Fin 512) (j : Fin 1024) : k0_pay6 (F := Ideal) v0 v1 (ix2 p j) = zc (row v0 p) (row v1 p) j := by
  pointwise [k0_pay6]
  rfl
theorem var_at (p : Fin 512) : k0_pay7 (F := Ideal) v0 v1 (ix2 p 0) = var (row v0 p) (row v1 p) := by
  pointwise [k0_pay7]
  simp only [zc_at]
  rfl
theorem rs_at (p : Fin 512) : k0_pay8 (F := Ideal) v0 v1 (ix2 p 0) = rs (row v0 p) (row v1 p) := by
  pointwise [k0_pay8]
  simp only [var_at]
  rfl
theorem ct_at (p : Fin 512) (j : Fin 1024) : k0_pay12 (F := Ideal) v2 v3 (ix2 p j) = ct (row v2 0) (row v3 p) j := by
  pointwise [k0_pay12, k0_pay9]
  rfl
theorem thr_at (p : Fin 512) (j : Fin 1024) : k0_pay13 (F := Ideal) v0 v1 v2 v3 (ix2 p j) = thr (row v0 p) (row v1 p) (row v2 0) (row v3 p) j := by
  pointwise [k0_pay13]
  simp only [ct_at, rs_at]
  rfl
theorem dvar_at (p : Fin 512) : Ideal.div (k0_pay14 (F := Ideal) v0 v1 v2 v3 (ix2 p 0)) (Ideal.ofBits .f32 0x44800000#32) = dvar (row v0 p) (row v1 p) (row v2 0) (row v3 p) := by
  pointwise [k0_pay14]
  simp only [zc_at, ct_at, rs_at, var_at]
  rfl
theorem din_at (p : Fin 512) (j : Fin 1024) :
    k0_pay1 (F := Ideal) (k0_pay6 v0 v1) (k0_pay13 v0 v1 v2 v3) (k0_pay14 v0 v1 v2 v3) (Scalar.ofBits .f32 0x44800000#32) (ix2 p j)
      = din (row v0 p) (row v1 p) (row v2 0) (row v3 p) j := by
  pointwise [k0_pay1]
  simp only [Fin.sum_univ_one, dvar_at, zc_at, thr_at]
  rfl
theorem dg_at (j : Fin 1024) : k0_pay11 (F := Ideal) v0 v1 v3 (ix2 0 j) = ∑ p : Fin 512, hat (row v0 p) (row v1 p) j * v3 (ix2 p j) := by
  pointwise [k0_pay11, k0_pay9]
  simp only [zc_at, rs_at]
  rfl
theorem db_at (j : Fin 1024) : k0_pay10 (F := Ideal) v3 (ix2 0 j) = ∑ p : Fin 512, v3 (ix2 p j) := by
  pointwise [k0_pay10]

/-! ## The arrays -/

variable (m : (ℓ : Loc nD τ sig) → Buf (Elt Ideal) ℓ) (c : Dev nD)

def X : FVec Ideal S8192x1024 .f32 := m ((c.tc : Thread nD τ).loc main_arg0)
def R : FVec Ideal S8192x1024 .f32 := m ((c.tc : Thread nD τ).loc main_arg1)
def G : FVec Ideal S1x1024 .f32 := m ((c.tc : Thread nD τ).loc main_arg2)
def DY : FVec Ideal S8192x1024 .f32 := m ((c.tc : Thread nD τ).loc main_arg4)

theorem idx : ∀ t : Fin cfg0.N, win0_0.index t = ![t.val % 16, 0] ∧ win0_1.index t = ![t.val % 16, 0] ∧ win0_2.index t = ![0, 0] ∧ win0_4.index t = ![t.val % 16, 0]
    ∧ win0_5.index t = ![t.val % 16, 0] ∧ win0_6.index t = ![0, 0] ∧ win0_7.index t = ![0, 0] :=
  (by decide +kernel : ∀ t : Fin grid0.N, _)

theorem contr : 8192 = 16 * 512 := rfl

/-- The row of the arrays that row `p` of a point's block is. -/
abbrev at_ (t : Fin cfg0.N) (p : Fin 512) : Fin 8192 := con contr t.val p

theorem in0 (t : Fin cfg0.N) (p : Fin 512) : row (iblk m c 0 t) p = row (X m c) (at_ t p) := by
  funext j
  exact congrArg (X m c) (by blk_ext [idx t])
theorem in1 (t : Fin cfg0.N) (p : Fin 512) : row (iblk m c 1 t) p = row (R m c) (at_ t p) := by
  funext j
  exact congrArg (R m c) (by blk_ext [idx t])
theorem in2 (t : Fin cfg0.N) : row (iblk m c 2 t) 0 = row (G m c) 0 := by
  funext j
  exact congrArg (G m c) (by blk_ext [idx t])
theorem in4 (t : Fin cfg0.N) (p : Fin 512) : row (iblk m c 4 t) p = row (DY m c) (at_ t p) := by
  funext j
  exact congrArg (DY m c) (by blk_ext [idx t])

/-- The gradient at the normed rows. -/
def Gdr : FVec Ideal S8192x1024 .f32 := fun i => din (row (X m c) (i 0)) (row (R m c) (i 0)) (row (G m c) 0) (row (DY m c) (i 0)) (i 1)
/-- The summand of the gain's gradient. -/
def sg (t : Fin cfg0.N) (k : Fin 8192) (i : S1x1024.Idx) : EReal := hat (row (X m c) k) (row (R m c) k) (i 1) * row (DY m c) k (i 1)
/-- The summand of the offset's gradient. -/
def sb (t : Fin cfg0.N) (k : Fin 8192) (i : S1x1024.Idx) : EReal := row (DY m c) k (i 1)
/-- The gain's gradient. -/
def Gdg : FVec Ideal S1x1024 .f32 := fun i => ∑ k : Fin 8192, hat (row (X m c) k) (row (R m c) k) (i 1) * row (DY m c) k (i 1)
/-- The offset's gradient. -/
def Gdb : FVec Ideal S1x1024 .f32 := fun i => ∑ k : Fin 8192, row (DY m c) k (i 1)

theorem one_row (i : S1x1024.Idx) : ∃ j : Fin 1024, i = ix2 (0 : Fin 1) j := ⟨i 1, by
  funext a
  fin_cases a
  · exact Subsingleton.elim (α := Fin 1) _ _
  · rfl⟩

theorem dg_step (t : Fin cfg0.N) (x : FVec Ideal S1x1024 .f32) (i : S1x1024.Idx) :
    k0_pay4 (F := Ideal) (k0_pay11 (iblk m c 0 t) (iblk m c 1 t) (iblk m c 4 t)) x i = x i + ∑ p : Fin 512, sg m c t (con contr t.val p) i := by
  obtain ⟨j, rfl⟩ := one_row i
  pointwise [k0_pay4]
  rw [dg_at]
  refine congrArg (_ + ·) (Finset.sum_congr rfl fun p _ => ?_)
  rw [in0, in1]
  exact congrArg (_ * ·) (congrFun (in4 m c t p) j)
theorem db_step (t : Fin cfg0.N) (x : FVec Ideal S1x1024 .f32) (i : S1x1024.Idx) :
    k0_pay5 (F := Ideal) (k0_pay10 (iblk m c 4 t)) x i = x i + ∑ p : Fin 512, sb m c t (con contr t.val p) i := by
  obtain ⟨j, rfl⟩ := one_row i
  pointwise [k0_pay5]
  rw [db_at]
  exact congrArg (_ + ·) (Finset.sum_congr rfl fun p _ => congrFun (in4 m c t p) j)

theorem dr_out (t : Fin cfg0.N) (p : Fin 512) (j : Fin 1024) : (outsAt0 m c t.val t.isLt).1 (ix2 p j) = Gdr m c (ix2 (at_ t p) j) := by
  by_cases h : t.val % 16 = 0
  · rw [outsAt0_A m c t h]
    frame_out
    refine (din_at _ _ _ _ p j).trans ?_
    rw [in0, in1, in2, in4]
    rfl
  · rw [outsAt0_B m c t h]
    frame_out
    refine (din_at _ _ _ _ p j).trans ?_
    rw [in0, in1, in2, in4]
    rfl

theorem dg_zero (t : Fin cfg0.N) (h : t.val % 16 = 0) (i : S1x1024.Idx) :
    (outsAt0 m c t.val t.isLt).2.1 i = (0 : EReal) + ∑ p : Fin 512, sg m c t (con contr t.val p) i := by
  rw [outsAt0_A m c t h]
  frame_out
  refine (dg_step m c t _ i).trans ?_
  exact congrArg (· + _) (by pointwise [k0_pay2])
theorem dg_succ (t : Fin cfg0.N) (h : ¬t.val % 16 = 0) (i : S1x1024.Idx) : (outsAt0 m c t.val t.isLt).2.1 i
    = (outsAt0 m c (t.val - 1) (Nat.lt_of_le_of_lt (Nat.sub_le _ _) t.isLt)).2.1 i + ∑ p : Fin 512, sg m c t (con contr t.val p) i := by
  rw [outsAt0_B m c t h]
  frame_out
  exact dg_step m c t _ i
theorem db_zero (t : Fin cfg0.N) (h : t.val % 16 = 0) (i : S1x1024.Idx) :
    (outsAt0 m c t.val t.isLt).2.2 i = (0 : EReal) + ∑ p : Fin 512, sb m c t (con contr t.val p) i := by
  rw [outsAt0_A m c t h]
  frame_out
  refine (db_step m c t _ i).trans ?_
  exact congrArg (· + _) (by pointwise [k0_pay3])
theorem db_succ (t : Fin cfg0.N) (h : ¬t.val % 16 = 0) (i : S1x1024.Idx) : (outsAt0 m c t.val t.isLt).2.2 i
    = (outsAt0 m c (t.val - 1) (Nat.lt_of_le_of_lt (Nat.sub_le _ _) t.isLt)).2.2 i + ∑ p : Fin 512, sb m c t (con contr t.val p) i := by
  rw [outsAt0_B m c t h]
  frame_out
  exact db_step m c t _ i

theorem dr_final : (dats m 0 c).arrAt 5 cfg0.N = Gdr m c := by
  refine (dats m 0 c).arrAt_eq_of_covers 5 _ (by decide +kernel) fun t hf y => ?_
  blk_simp
  rw [after0_5]
  idx_vars y
  rw [dr_out]
  have e : ((View.whole main_v0_0).slice (win0_5.rect t)).emb (ix2 y0 y1) = ix2 (at_ t y0) y1 := by blk_ext [idx t]
  exact (congrArg (Gdr m c) e).symm
theorem dg_final : (dats m 0 c).arrAt 6 cfg0.N = Gdg m c := by
  refine (dats m 0 c).arrAt_eq_of_covers 6 _ (by decide +kernel) fun t hf y => ?_
  have h := (flush0_6 t).mp hf
  blk_simp
  rw [after0_6]
  idx_vars y
  rw [acc_last contr (fun n h => (outsAt0 m c n h).2.1) (sg m c) (fun _ _ _ => rfl) (dg_zero m c) (dg_succ m c) t h]
  have e : ((View.whole main_v0_1).slice (win0_6.rect t)).emb (ix2 y0 y1) = ix2 y0 y1 := by blk_ext [idx t]
  exact (congrArg (Gdg m c) e).symm
theorem db_final : (dats m 0 c).arrAt 7 cfg0.N = Gdb m c := by
  refine (dats m 0 c).arrAt_eq_of_covers 7 _ (by decide +kernel) fun t hf y => ?_
  have h := (flush0_7 t).mp hf
  blk_simp
  rw [after0_7]
  idx_vars y
  rw [acc_last contr (fun n h => (outsAt0 m c n h).2.2) (sb m c) (fun _ _ _ => rfl) (db_zero m c) (db_succ m c) t h]
  have e : ((View.whole main_v0_2).slice (win0_7.rect t)).emb (ix2 y0 y1) = ix2 y0 y1 := by blk_ext [idx t]
  exact (congrArg (Gdb m c) e).symm

end Kernel

section Reference
open Cert.NormBwdRefIdeal Cert.NormBwdRefIdeal.Read

variable (x0 x1 x4 : FVec Ideal S8192x1024 .f32) (x2 : FVec Ideal S1x1024 .f32) (k : Fin 8192) (j : Fin 1024)

theorem ref_mean : val_main_v6 (F := Ideal) x0 x1 (ix2 k 0) = mean (row x0 k) (row x1 k) := by
  pointwise [val_main_v6, val_main_v5, val_main_v4, val_main_v3, val_main_v2, val_main_v1, val_main_v0, val_main_cst, val_main_cst_0, val_main_cst_1]
  try rfl
theorem ref_zc8 : val_main_v8 (F := Ideal) x0 x1 (ix2 k j) = zc (row x0 k) (row x1 k) j := by
  pointwise [val_main_v8, val_main_v7, val_main_v2, val_main_v1, val_main_v0, val_main_cst]
  simp only [ref_mean]
  try rfl
theorem ref_zc : val_main_v17 (F := Ideal) x0 x1 (ix2 k j) = zc (row x0 k) (row x1 k) j := by
  pointwise [val_main_v17, val_main_v16, val_main_v2, val_main_v1, val_main_v0, val_main_cst]
  simp only [ref_mean]
  try rfl
theorem ref_var : val_main_v19 (F := Ideal) x0 x1 (ix2 k 0) = var (row x0 k) (row x1 k) := by
  pointwise [val_main_v19, val_main_v18, val_main_v15, val_main_v14, val_main_v13, val_main_v12, val_main_v9, val_main_cst_3, val_main_cst_4, val_main_cst_5]
  simp only [ref_zc8]
  try rfl
theorem ref_rs : val_main_v20 (F := Ideal) x0 x1 (ix2 k 0) = rs (row x0 k) (row x1 k) := by
  pointwise [val_main_v20]
  simp only [ref_var]
  try rfl
theorem ref_hat : val_main_v25 (F := Ideal) x0 x1 (ix2 k j) = hat (row x0 k) (row x1 k) j := by
  pointwise [val_main_v25, val_main_v24]
  simp only [ref_zc, ref_rs]
  try rfl
theorem ref_ct : val_main_v37 (F := Ideal) x2 x4 (ix2 k j) = ct (row x2 0) (row x4 k) j := by
  pointwise [val_main_v37, val_main_v36, val_main_v30]
  try rfl
theorem ref_thr : val_main_v42 (F := Ideal) x0 x1 x2 x4 (ix2 k j) = thr (row x0 k) (row x1 k) (row x2 0) (row x4 k) j := by
  pointwise [val_main_v42, val_main_v41]
  simp only [ref_ct, ref_rs]
  try rfl
theorem ref_dvar : val_main_v48 (F := Ideal) x0 x1 x2 x4 (ix2 k 0) = dvar (row x0 k) (row x1 k) (row x2 0) (row x4 k) := by
  pointwise [val_main_v48, val_main_v47, val_main_v43, val_main_v40, val_main_v39, val_main_v38, val_main_v23, val_main_v22, val_main_v21, val_main_cst_6, val_main_cst_9, val_main_cst_11]
  simp only [ref_zc, ref_ct, ref_rs, ref_var]
  try rfl
theorem ref_sq : val_main_v51 (F := Ideal) x0 x1 x2 x4 (ix2 k j) = dvar (row x0 k) (row x1 k) (row x2 0) (row x4 k) * (two * zc (row x0 k) (row x1 k) j) := by
  pointwise [val_main_v51, val_main_v50, val_main_v49, val_main_v11, val_main_v10, val_main_cst_2, val_main_cst_12]
  simp only [Fin.sum_univ_one, ref_dvar, ref_zc8]
  try rfl
theorem ref_din : val_main_v61 (F := Ideal) x0 x1 x2 x4 (ix2 k j) = dinRef (row x0 k) (row x1 k) (row x2 0) (row x4 k) j := by
  pointwise [val_main_v61, val_main_v60, val_main_v59, val_main_v58, val_main_v57, val_main_v56, val_main_v55, val_main_v54, val_main_v53, val_main_v52, val_main_v46, val_main_v45, val_main_v44,
    val_main_cst_10, val_main_cst_13, val_main_cst_14, val_main_cst_15]
  simp only [Fin.sum_univ_one, ref_thr, ref_sq]
  try rfl
theorem ref_dg : val_main_v35 (F := Ideal) x0 x1 x4 (ix2 0 j) = ∑ k : Fin 8192, hat (row x0 k) (row x1 k) j * row x4 k j := by
  pointwise [val_main_v35, val_main_v34, val_main_v33, val_main_v30, val_main_cst_8]
  simp only [ref_hat]
  try rfl
theorem ref_db : val_main_v32 (F := Ideal) x4 (ix2 0 j) = ∑ k : Fin 8192, row x4 k j := by
  pointwise [val_main_v32, val_main_v31, val_main_cst_7]
  try rfl

end Reference

section Precondition
open Cert.Pre_norm_finite

theorem real_of_norm_finite [Facts] (x0 x1 x4 : FVec Ideal S8192x1024 .f32) (x2 x3 : FVec Ideal S1x1024 .f32)
    (h : fn (F := Ideal) x0 x1 x2 x3 x4 = fun _ => 1#1) : (∀ i, ConvMath.IsR (x2 i)) ∧ ∀ i, ConvMath.IsR (x4 i) := by
  have hj := congrFun h (fun k => k.elim0)
  obtain ⟨h2, h4⟩ := IntOp.andi_eq_one.1 hj
  haveI : Subsingleton S_.Idx := ⟨fun a b => funext fun k => k.elim0⟩
  exact ⟨fun i => ⟨_, congrFun (Cert.Proof.Finite.up_of_all x2 _ _ _ _ h2) i⟩, fun i => ⟨_, congrFun (Cert.Proof.Finite.up_of_all x4 _ _ _ _ h4) i⟩⟩

end Precondition

theorem algebraic [Cert.Pre_norm_finite.Facts] : Cert.algebraic_NormBwdIdeal_NormBwdRefIdeal_pre_norm_finite := by
  intro m g m' g' hpre hagree
  refine ⟨fun c => Gdr m c, fun c => Gdg m c, fun c => Gdb m c,
    (θ_run Cert.NormBwdIdeal.defs _ _).mono (fun _ h c => ⟨(h c).1.trans (dr_final m c), (h c).2.1.trans (dg_final m c), (h c).2.2.1.trans (db_final m c), (h c).2.2.2⟩)
      (Cert.NormBwdIdeal.Value.run_blocks m g),
    (θ_run Cert.NormBwdRefIdeal.defs _ _).mono (fun r h c => ?_) (Cert.NormBwdRefIdeal.Value.run (F := Ideal) m' g')⟩
  obtain ⟨r2, r4⟩ := real_of_norm_finite _ _ _ _ _ (hpre c)
  obtain ⟨a0, a1, a2, a3, a4⟩ := hagree c
  obtain ⟨h0, h1, h2, hargs⟩ := h c
  refine ⟨h0.trans ?_, h1.trans ?_, h2.trans ?_, hargs⟩
  · rw [Cert.NormBwdRefIdeal.Read.val_main_v61_eq, a0, a1, a2, a4]
    funext i
    idx_vars i
    exact (ref_din _ _ _ _ i0 i1).trans (din_eq _ _ _ _ (fun j => r2 _) (fun j => r4 _) i1).symm
  · rw [Cert.NormBwdRefIdeal.Read.val_main_v35_eq, a0, a1, a4]
    funext i
    obtain ⟨j, rfl⟩ := one_row i
    exact ref_dg _ _ _ j
  · rw [Cert.NormBwdRefIdeal.Read.val_main_v32_eq, a4]
    funext i
    obtain ⟨j, rfl⟩ := one_row i
    exact ref_db _ j

end Cert.Proof.NormBwdIdeal

end
-- ==== Proof.NormFwdVal.lean ====
/-
  The residual's norm: the kernel and the reference leave the same two arrays.
-/
module

public import proofs.«01_k».proof.Proof.NormMath
public import proofs.«01_k».proof.Proof.Products
public import proofs.«01_k».proof.Defs
public import proofs.«01_k».proof.Proof.Gen.NormFwdIdeal.Value
public import proofs.«01_k».proof.Proof.Gen.NormFwdRefIdeal.Read
public import proofs.«01_k».proof.Proof.Gen.NormFwdRefIdeal.Run

@[expose] public section

set_option maxRecDepth 16384

noncomputable section

namespace Cert.Proof.NormFwdIdeal

open Cert.Proof.NormMath
open Idealize.ShloMosaic Idealize.ShloMosaic.TcCoe Idealize.SL.Sem

section Kernel
open Cert.NormFwdIdeal Cert.NormFwdIdeal.Gen

theorem out_at (v0 v1 : Vec Ideal S512x1024 .f32) (v2 v3 : Vec Ideal S1x1024 .f32) (p : Fin 512) (j : Fin 1024) :
    k0_pay1 (F := Ideal) v0 v1 v2 v3 (ix2 p j) = out (row v0 p) (row v1 p) (row v2 0) (row v3 0) j := by
  pointwise [k0_pay1]
  rfl

variable (m : (ℓ : Loc nD τ sig) → Buf (Elt Ideal) ℓ) (c : Dev nD)

def X : FVec Ideal S8192x1024 .f32 := m ((c.tc : Thread nD τ).loc main_arg0)
def R : FVec Ideal S8192x1024 .f32 := m ((c.tc : Thread nD τ).loc main_arg1)
def G : FVec Ideal S1x1024 .f32 := m ((c.tc : Thread nD τ).loc main_arg2)
def B : FVec Ideal S1x1024 .f32 := m ((c.tc : Thread nD τ).loc main_arg3)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

/-- The row of the arrays that row `p` of a point's block is. -/
def at_ (t : Fin cfg0.N) (p : Fin 512) : Fin 8192 := ⟨512 * t.val + p.val, by have := lt_of_lt_of_eq t.isLt N_0; omega⟩

theorem in0 (t : Fin cfg0.N) (p : Fin 512) : row (iblk m c 0 t) p = row (X m c) (at_ t p) := by
  funext j
  exact congrArg (X m c) (by blk_ext [idx t, at_])
theorem in1 (t : Fin cfg0.N) (p : Fin 512) : row (iblk m c 1 t) p = row (R m c) (at_ t p) := by
  funext j
  exact congrArg (R m c) (by blk_ext [idx t, at_])
theorem in2 (t : Fin cfg0.N) : row (iblk m c 2 t) 0 = row (G m c) 0 := by
  funext j
  exact congrArg (G m c) (by blk_ext [idx t])
theorem in3 (t : Fin cfg0.N) : row (iblk m c 3 t) 0 = row (B m c) 0 := by
  funext j
  exact congrArg (B m c) (by blk_ext [idx t])

/-- The normed rows, with gain and offset. -/
def Gout : FVec Ideal S8192x1024 .f32 := fun i => out (row (X m c) (i 0)) (row (R m c) (i 0)) (row (G m c) 0) (row (B m c) 0) (i 1)

theorem blk_out (t : Fin cfg0.N) (p : Fin 512) (j : Fin 1024) :
    k0_pay1 (F := Ideal) (iblk m c 0 t) (iblk m c 1 t) (iblk m c 2 t) (iblk m c 3 t) (ix2 p j) = Gout m c (ix2 (at_ t p) j) := by
  rw [out_at, in0, in1, in2, in3]
  rfl

theorem final : (dats m 0 c).arrAt 4 cfg0.N = Gout m c := by
  refine (dats m 0 c).arrAt_eq_of_covers 4 _ (by decide +kernel) fun t hf y => ?_
  blk_simp
  rw [after0_4]
  unfold out0_4
  frame_out
  idx_vars y
  have e : ((View.whole main_v0_0).slice (win0_4.rect t)).emb (ix2 y0 y1) = ix2 (at_ t y0) y1 := by blk_ext [idx t, at_]
  exact (blk_out m c t y0 y1).trans (congrArg (Gout m c) e).symm
theorem final_bf16 : (dats m 0 c).arrAt 5 cfg0.N = Gout m c := by
  refine (dats m 0 c).arrAt_eq_of_covers 5 _ (by decide +kernel) fun t hf y => ?_
  blk_simp
  rw [after0_5]
  unfold out0_5
  frame_out
  idx_vars y
  have e : ((View.whole main_v0_1).slice (win0_5.rect t)).emb (ix2 y0 y1) = ix2 (at_ t y0) y1 := by blk_ext [idx t, at_]
  exact (blk_out m c t y0 y1).trans (congrArg (Gout m c) e).symm

end Kernel

section Reference
open Cert.NormFwdRefIdeal Cert.NormFwdRefIdeal.Read

variable (x0 x1 : FVec Ideal S8192x1024 .f32) (x2 x3 : FVec Ideal S1x1024 .f32) (k : Fin 8192) (j : Fin 1024)

theorem ref_mean : val_main_v6 (F := Ideal) x0 x1 (ix2 k 0) = mean (row x0 k) (row x1 k) := by
  pointwise [val_main_v6, val_main_v5, val_main_v4, val_main_v3, val_main_v2, val_main_v1, val_main_v0, val_main_cst, val_main_cst_0, val_main_cst_1]
  rfl
theorem ref_zc8 : val_main_v8 (F := Ideal) x0 x1 (ix2 k j) = zc (row x0 k) (row x1 k) j := by
  pointwise [val_main_v8, val_main_v7, val_main_v2, val_main_v1, val_main_v0, val_main_cst]
  simp only [ref_mean]
  rfl
theorem ref_rs : val_main_v18 (F := Ideal) x0 x1 (ix2 k 0) = rs (row x0 k) (row x1 k) := by
  pointwise [val_main_v18, val_main_v17, val_main_v16, val_main_v13, val_main_v12, val_main_v11, val_main_v10, val_main_v9, val_main_cst_2, val_main_cst_3, val_main_cst_4]
  simp only [ref_zc8]
  rfl
theorem ref_out : val_main_v24 (F := Ideal) x0 x1 x2 x3 (ix2 k j) = out (row x0 k) (row x1 k) (row x2 0) (row x3 0) j := by
  pointwise [val_main_v24, val_main_v23, val_main_v22, val_main_v21, val_main_v20, val_main_v19, val_main_v15, val_main_v14, val_main_v2, val_main_v1, val_main_v0, val_main_cst]
  simp only [ref_mean, ref_rs]
  rfl
theorem ref_out_bf16 : val_main_v25 (F := Ideal) x0 x1 x2 x3 (ix2 k j) = out (row x0 k) (row x1 k) (row x2 0) (row x3 0) j :=
  ref_out x0 x1 x2 x3 k j

end Reference

theorem algebraic : Cert.algebraic_NormFwdIdeal_NormFwdRefIdeal := by
  intro m g m' g' _ hagree
  refine ⟨fun c => Gout m c, fun c => Gout m c,
    (θ_run Cert.NormFwdIdeal.defs _ _).mono (fun _ h c => ⟨(h c).1.trans (final m c), (h c).2.1.trans (final_bf16 m c), (h c).2.2⟩) (Cert.NormFwdIdeal.Value.run_blocks m g),
    (θ_run Cert.NormFwdRefIdeal.defs _ _).mono (fun r h c => ?_) (Cert.NormFwdRefIdeal.Value.run (F := Ideal) m' g')⟩
  obtain ⟨a0, a1, a2, a3⟩ := hagree c
  obtain ⟨h0, h1, hargs⟩ := h c
  refine ⟨h0.trans ?_, h1.trans ?_, hargs⟩
  · rw [Cert.NormFwdRefIdeal.Read.val_main_v24_eq, a0, a1, a2, a3]
    funext i
    idx_vars i
    exact ref_out _ _ _ _ i0 i1
  · rw [Cert.NormFwdRefIdeal.Read.val_main_v25_eq, a0, a1, a2, a3]
    funext i
    idx_vars i
    exact ref_out_bf16 _ _ _ _ i0 i1

end Cert.Proof.NormFwdIdeal

end
-- ==== Proof.MergeMath.lean ====
/-
  The gates of the merge: the derivative of the gate, written with the hyperbolic tangent and with the gate itself.
-/
module

public import proofs.«01_k».proof.Proof.ConvMath
public import proofs.«01_k».proof.Proof.NormMath

@[expose] public section

noncomputable section

namespace Cert.Proof.MergeMath

open Cert.Proof.ConvMath Cert.Proof.NormMath
open Idealize.ShloMosaic

/-- The gate written with an exponential. -/
def lg (x : EReal) : EReal := Ideal.div 1 (1 + Ideal.exp (-x))

theorem lg_eq (x : EReal) : lg x = sg x := (sg_eq x).symm

/-- The gradient at a gate's argument: `z` is the gradient at the gate. -/
def dgate (x z : EReal) : EReal := half * (half * z * ((1 + Ideal.tanh (half * x)) * (1 - Ideal.tanh (half * x))))

theorem isR_tanh (x : EReal) : IsR (Ideal.tanh x) := by
  induction x with
  | bot => exact ⟨-1, rfl⟩
  | top => exact ⟨1, rfl⟩
  | coe x => exact ⟨Real.tanh x, rfl⟩

/-- Both ways of writing the gradient are `z` times the same real number, so they agree whatever `z` and `x` are. -/
theorem dgate_eq (x z : EReal) : z * (lg x * (1 - lg x)) = dgate x z := by
  obtain ⟨t, ht⟩ := isR_tanh (half * x)
  rw [lg_eq]
  unfold sg dgate
  rw [ht, half_eq]
  have a : ((1 / 2 : ℝ) : EReal) * (((1 / 2 : ℝ) : EReal) * z * ((1 + (t : EReal)) * (1 - (t : EReal))))
      = z * (((1 / 2 : ℝ) : EReal) * (((1 / 2 : ℝ) : EReal) * ((1 + (t : EReal)) * (1 - (t : EReal))))) := by ac_rfl
  rw [a, ← EReal.coe_one]
  simp only [← EReal.coe_mul, ← EReal.coe_add, ← EReal.coe_sub]
  exact congrArg (fun r : ℝ => z * (r : EReal)) (by ring)

/-! ## Rows -/

/-- Lane `j` of stream `o`'s gates, among the lanes of the projection. -/
def col (o : Fin 3) (j : Fin 1024) : Fin 3584 := ⟨1024 * o.val + j.val, by omega⟩
/-- The gates of stream `o` in row `k` of the projection. -/
def slab (p : (⟨2, ![8192, 3584]⟩ : Shape).Idx → EReal) (o : Fin 3) (k : Fin 8192) (j : Fin 1024) : EReal := p (ix2 k (col o j))

theorem slab_zero (p : (⟨2, ![8192, 3584]⟩ : Shape).Idx → EReal) (k : Fin 8192) (j : Fin 1024) : slab p 0 k j = p (ix2 k ⟨j.val, by omega⟩) :=
  congrArg (fun l => p (ix2 k l)) (Fin.ext (by show 1024 * 0 + j.val = j.val; omega))

/-- A row under its gates. -/
def gated (g b y : Fin 1024 → EReal) (j : Fin 1024) : EReal := sg (g j + b j) * y j
/-- The gradient at the gates of a row. -/
def dg (y g b d : Fin 1024 → EReal) (j : Fin 1024) : EReal := dgate (g j + b j) (d j * y j)

section Arrays
variable (y d : (⟨2, ![8192, 1024]⟩ : Shape).Idx → EReal) (p : (⟨2, ![8192, 3584]⟩ : Shape).Idx → EReal) (b : (⟨2, ![1, 1024]⟩ : Shape).Idx → EReal) (o : Fin 3)

/-- The gradient at stream `o`'s rows. -/
def Dy : (⟨2, ![8192, 1024]⟩ : Shape).Idx → EReal := fun i => gated (slab p o (i 0)) (row b 0) (row d (i 0)) (i 1)
/-- The gradient at stream `o`'s gates. -/
def Dg : (⟨2, ![8192, 1024]⟩ : Shape).Idx → EReal := fun i => dg (row y (i 0)) (slab p o (i 0)) (row b 0) (row d (i 0)) (i 1)
/-- Row `k`'s summand of the gradient at stream `o`'s gate biases. -/
def part (k : Fin 8192) (i : (⟨2, ![1, 1024]⟩ : Shape).Idx) : EReal := dg (row y k) (slab p o k) (row b 0) (row d k) (i 1)
/-- The gradient at stream `o`'s gate biases. -/
def Db : (⟨2, ![1, 1024]⟩ : Shape).Idx → EReal := fun i => ∑ k : Fin 8192, part y d p b o k i

/-- The three streams' rows under their gates, added. -/
def merged (y0 y1 y2 : (⟨2, ![8192, 1024]⟩ : Shape).Idx → EReal) (p : (⟨2, ![8192, 3584]⟩ : Shape).Idx → EReal) (b0 b1 b2 : (⟨2, ![1, 1024]⟩ : Shape).Idx → EReal) :
    (⟨2, ![8192, 1024]⟩ : Shape).Idx → EReal := fun i =>
  gated (slab p 0 (i 0)) (row b0 0) (row y0 (i 0)) (i 1) + gated (slab p 1 (i 0)) (row b1 0) (row y1 (i 0)) (i 1) + gated (slab p 2 (i 0)) (row b2 0) (row y2 (i 0)) (i 1)

theorem one_row (i : (⟨2, ![1, 1024]⟩ : Shape).Idx) : ∃ j : Fin 1024, i = ix2 (0 : Fin 1) j := ⟨i 1, by
  funext a
  fin_cases a
  · exact Subsingleton.elim (α := Fin 1) _ _
  · rfl⟩

end Arrays

end Cert.Proof.MergeMath

end
-- ==== Proof.MergeBwdVal.lean ====
/-
  The gradient of the merge: the kernel and the reference leave the same nine arrays.
-/
module

public import proofs.«01_k».proof.Proof.MergeMath
public import proofs.«01_k».proof.Proof.Products
public import proofs.«01_k».proof.Defs
public import proofs.«01_k».proof.Proof.Gen.MergeBwdIdeal.Value
public import proofs.«01_k».proof.Proof.Gen.MergeBwdRefIdeal.Read
public import proofs.«01_k».proof.Proof.Gen.MergeBwdRefIdeal.Run

@[expose] public section

set_option maxRecDepth 16384

noncomputable section

namespace Cert.Proof.MergeBwdIdeal

open Cert.Proof.Products Cert.Proof.NormMath Cert.Proof.MergeMath
open Idealize.ShloMosaic Idealize.ShloMosaic.TcCoe Idealize.SL.Sem

section Kernel
open Cert.MergeBwdIdeal Cert.MergeBwdIdeal.Gen

/-! ## One block -/

section Block
variable (y g d : Vec Ideal S256x1024 .f32) (b x : Vec Ideal S1x1024 .f32) (p : Fin 256) (j : Fin 1024)

theorem dy0_at : k0_pay19 (F := Ideal) (k0_pay16 d (k0_pay4 g b)) (ix2 p j) = gated (row g p) (row b 0) (row d p) j := by
  pointwise [k0_pay19, k0_pay16, k0_pay4, k0_pay2, k0_pay8]
  try rfl
theorem dy1_at : k0_pay20 (F := Ideal) (k0_pay13 d (k0_pay5 g b)) (ix2 p j) = gated (row g p) (row b 0) (row d p) j := by
  pointwise [k0_pay20, k0_pay13, k0_pay5, k0_pay8]
  try rfl
theorem dy2_at : k0_pay21 (F := Ideal) (k0_pay10 g b d) (ix2 p j) = gated (row g p) (row b 0) (row d p) j := by
  pointwise [k0_pay21, k0_pay10, k0_pay7, k0_pay9]
  try rfl
theorem dg0_at : k0_pay18 (F := Ideal) (k0_pay17 y d (k0_pay3 g b)) (ix2 p j) = dg (row y p) (row g p) (row b 0) (row d p) j := by
  pointwise [k0_pay18, k0_pay17, k0_pay3, k0_pay2, k0_pay8]
  try rfl
theorem dg1_at : k0_pay14 (F := Ideal) y d (k0_pay5 g b) (k0_pay6 g b) (Scalar.ofBits .f32 0x3F800000#32) (ix2 p j) = dg (row y p) (row g p) (row b 0) (row d p) j := by
  pointwise [k0_pay14, k0_pay5, k0_pay6, k0_pay8]
  try rfl
theorem dg2_at : k0_pay11 (F := Ideal) y g b d (ix2 p j) = dg (row y p) (row g p) (row b 0) (row d p) j := by
  pointwise [k0_pay11, k0_pay7, k0_pay9]
  try rfl
theorem db0_at : k0_pay28 (F := Ideal) (k0_pay17 y d (k0_pay3 g b)) x (ix2 0 j) = x (ix2 0 j) + ∑ p : Fin 256, dg (row y p) (row g p) (row b 0) (row d p) j := by
  pointwise [k0_pay28]
  simp only [dg0_at]
theorem db1_sum (a u : FVec Ideal S256x1024 .f32) (w : Ideal .f32) : k0_pay29 (F := Ideal) (k0_pay15 y d a u w) x (ix2 0 j)
    = x (ix2 0 j) + ∑ p : Fin 256, k0_pay14 y d a u w (ix2 p j) := by
  pointwise [k0_pay29, k0_pay15]
theorem db1_at : k0_pay29 (F := Ideal) (k0_pay15 y d (k0_pay5 g b) (k0_pay6 g b) (Scalar.ofBits .f32 0x3F800000#32)) x (ix2 0 j)
    = x (ix2 0 j) + ∑ p : Fin 256, dg (row y p) (row g p) (row b 0) (row d p) j := by
  rw [db1_sum]
  simp only [dg1_at]
theorem db2_at : k0_pay1 (F := Ideal) (k0_pay12 y g b d) x (ix2 0 j) = x (ix2 0 j) + ∑ p : Fin 256, dg (row y p) (row g p) (row b 0) (row d p) j := by
  pointwise [k0_pay1, k0_pay12]
  simp only [dg2_at]

end Block

/-! ## The arrays -/

variable (m : (ℓ : Loc nD τ sig) → Buf (Elt Ideal) ℓ) (c : Dev nD)

def Y0 : FVec Ideal S8192x1024 .f32 := m ((c.tc : Thread nD τ).loc main_arg0)
def Y1 : FVec Ideal S8192x1024 .f32 := m ((c.tc : Thread nD τ).loc main_arg1)
def Y2 : FVec Ideal S8192x1024 .f32 := m ((c.tc : Thread nD τ).loc main_arg2)
def P : FVec Ideal S8192x3584 .f32 := m ((c.tc : Thread nD τ).loc main_arg3)
def B0 : FVec Ideal S1x1024 .f32 := m ((c.tc : Thread nD τ).loc main_arg4)
def B1 : FVec Ideal S1x1024 .f32 := m ((c.tc : Thread nD τ).loc main_arg5)
def B2 : FVec Ideal S1x1024 .f32 := m ((c.tc : Thread nD τ).loc main_arg6)
def D : FVec Ideal S8192x1024 .f32 := m ((c.tc : Thread nD τ).loc main_arg7)

theorem idx : ∀ t : Fin cfg0.N, win0_0.index t = ![t.val % 32, 0] ∧ win0_1.index t = ![t.val % 32, 0] ∧ win0_2.index t = ![t.val % 32, 0]
    ∧ win0_3.index t = ![t.val % 32, 0] ∧ win0_4.index t = ![t.val % 32, 1] ∧ win0_5.index t = ![t.val % 32, 2]
    ∧ win0_6.index t = ![0, 0] ∧ win0_7.index t = ![0, 0] ∧ win0_8.index t = ![0, 0] ∧ win0_9.index t = ![t.val % 32, 0]
    ∧ win0_10.index t = ![t.val % 32, 0] ∧ win0_11.index t = ![t.val % 32, 0] ∧ win0_12.index t = ![t.val % 32, 0]
    ∧ win0_13.index t = ![t.val % 32, 0] ∧ win0_14.index t = ![t.val % 32, 0] ∧ win0_15.index t = ![t.val % 32, 0]
    ∧ win0_16.index t = ![0, 0] ∧ win0_17.index t = ![0, 0] ∧ win0_18.index t = ![0, 0] :=
  (by decide +kernel : ∀ t : Fin grid0.N, _)

theorem contr : 8192 = 32 * 256 := rfl

/-- The row of the arrays that row `p` of a point's block is. -/
abbrev at_ (t : Fin cfg0.N) (p : Fin 256) : Fin 8192 := con contr t.val p

variable (t : Fin cfg0.N) (p : Fin 256)

theorem in0 : row (iblk m c 0 t) p = row (Y0 m c) (at_ t p) := by
  funext j
  exact congrArg (Y0 m c) (by blk_ext [idx t])
theorem in1 : row (iblk m c 1 t) p = row (Y1 m c) (at_ t p) := by
  funext j
  exact congrArg (Y1 m c) (by blk_ext [idx t])
theorem in2 : row (iblk m c 2 t) p = row (Y2 m c) (at_ t p) := by
  funext j
  exact congrArg (Y2 m c) (by blk_ext [idx t])
theorem in3 : row (X0_3 m c t) p = slab (P m c) 0 (at_ t p) := by
  funext j
  show X0_3 m c t (ix2 p j) = _
  unfold X0_3 Pipeline.Window.fill
  rw [dif_pos (moved0_3 t _)]
  exact congrArg (P m c) (by blk_ext [idx t, col])
theorem in4 : row (X0_4 m c t) p = slab (P m c) 1 (at_ t p) := by
  funext j
  show X0_4 m c t (ix2 p j) = _
  unfold X0_4 Pipeline.Window.fill
  rw [dif_pos (moved0_4 t _)]
  exact congrArg (P m c) (by blk_ext [idx t, col])
theorem in5 : row (X0_5 m c t) p = slab (P m c) 2 (at_ t p) := by
  funext j
  show X0_5 m c t (ix2 p j) = _
  unfold X0_5 Pipeline.Window.fill
  rw [dif_pos (moved0_5 t _)]
  exact congrArg (P m c) (by blk_ext [idx t, col])
theorem in6 : row (iblk m c 6 t) 0 = row (B0 m c) 0 := by
  funext j
  exact congrArg (B0 m c) (by blk_ext [idx t])
theorem in7 : row (iblk m c 7 t) 0 = row (B1 m c) 0 := by
  funext j
  exact congrArg (B1 m c) (by blk_ext [idx t])
theorem in8 : row (iblk m c 8 t) 0 = row (B2 m c) 0 := by
  funext j
  exact congrArg (B2 m c) (by blk_ext [idx t])
theorem in9 : row (iblk m c 9 t) p = row (D m c) (at_ t p) := by
  funext j
  exact congrArg (D m c) (by blk_ext [idx t])

/-- What a point leaves in the blocks of the six arrays of rows. -/
theorem rows_out (j : Fin 1024) :
    (outsAt0 m c t.val t.isLt).1 (ix2 p j) = Dy (D m c) (P m c) (B0 m c) 0 (ix2 (at_ t p) j)
    ∧ (outsAt0 m c t.val t.isLt).2.1 (ix2 p j) = Dy (D m c) (P m c) (B1 m c) 1 (ix2 (at_ t p) j)
    ∧ (outsAt0 m c t.val t.isLt).2.2.1 (ix2 p j) = Dy (D m c) (P m c) (B2 m c) 2 (ix2 (at_ t p) j)
    ∧ (outsAt0 m c t.val t.isLt).2.2.2.1 (ix2 p j) = Dg (Y0 m c) (D m c) (P m c) (B0 m c) 0 (ix2 (at_ t p) j)
    ∧ (outsAt0 m c t.val t.isLt).2.2.2.2.1 (ix2 p j) = Dg (Y1 m c) (D m c) (P m c) (B1 m c) 1 (ix2 (at_ t p) j)
    ∧ (outsAt0 m c t.val t.isLt).2.2.2.2.2.1 (ix2 p j) = Dg (Y2 m c) (D m c) (P m c) (B2 m c) 2 (ix2 (at_ t p) j) := by
  have e0 := (dy0_at (X0_3 m c t) (iblk m c 9 t) (iblk m c 6 t) p j).trans (by rw [in3, in6, in9])
  have e1 := (dy1_at (X0_4 m c t) (iblk m c 9 t) (iblk m c 7 t) p j).trans (by rw [in4, in7, in9])
  have e2 := (dy2_at (X0_5 m c t) (iblk m c 9 t) (iblk m c 8 t) p j).trans (by rw [in5, in8, in9])
  have f0 := (dg0_at (iblk m c 0 t) (X0_3 m c t) (iblk m c 9 t) (iblk m c 6 t) p j).trans (by rw [in0, in3, in6, in9])
  have f1 := (dg1_at (iblk m c 1 t) (X0_4 m c t) (iblk m c 9 t) (iblk m c 7 t) p j).trans (by rw [in1, in4, in7, in9])
  have f2 := (dg2_at (iblk m c 2 t) (X0_5 m c t) (iblk m c 9 t) (iblk m c 8 t) p j).trans (by rw [in2, in5, in8, in9])
  by_cases h : t.val % 32 = 0
  · rw [outsAt0_A m c t h]
    refine ⟨?_, ?_, ?_, ?_, ?_, ?_⟩
    · frame_out
      exact e0
    · frame_out
      exact e1
    · frame_out
      exact e2
    · frame_out
      exact f0
    · frame_out
      exact f1
    · frame_out
      exact f2
  · rw [outsAt0_B m c t h]
    refine ⟨?_, ?_, ?_, ?_, ?_, ?_⟩
    · frame_out
      exact e0
    · frame_out
      exact e1
    · frame_out
      exact e2
    · frame_out
      exact f0
    · frame_out
      exact f1
    · frame_out
      exact f2

variable (x : FVec Ideal S1x1024 .f32) (i : S1x1024.Idx)

theorem db0_step : k0_pay28 (F := Ideal) (k0_pay17 (iblk m c 0 t) (iblk m c 9 t) (k0_pay3 (X0_3 m c t) (iblk m c 6 t))) x i
    = x i + ∑ q : Fin 256, part (Y0 m c) (D m c) (P m c) (B0 m c) 0 (con contr t.val q) i := by
  obtain ⟨j, rfl⟩ := one_row i
  refine (db0_at _ _ _ _ x j).trans (congrArg (_ + ·) (Finset.sum_congr rfl fun q _ => ?_))
  rw [in0, in3, in6, in9]
  rfl
theorem db1_step : k0_pay29 (F := Ideal) (k0_pay15 (iblk m c 1 t) (iblk m c 9 t) (k0_pay5 (X0_4 m c t) (iblk m c 7 t)) (k0_pay6 (X0_4 m c t) (iblk m c 7 t)) (Scalar.ofBits .f32 0x3F800000#32)) x i
    = x i + ∑ q : Fin 256, part (Y1 m c) (D m c) (P m c) (B1 m c) 1 (con contr t.val q) i := by
  obtain ⟨j, rfl⟩ := one_row i
  refine (db1_at _ _ _ _ x j).trans (congrArg (_ + ·) (Finset.sum_congr rfl fun q _ => ?_))
  rw [in1, in4, in7, in9]
  rfl
theorem db2_step : k0_pay1 (F := Ideal) (k0_pay12 (iblk m c 2 t) (X0_5 m c t) (iblk m c 8 t) (iblk m c 9 t)) x i
    = x i + ∑ q : Fin 256, part (Y2 m c) (D m c) (P m c) (B2 m c) 2 (con contr t.val q) i := by
  obtain ⟨j, rfl⟩ := one_row i
  refine (db2_at _ _ _ _ x j).trans (congrArg (_ + ·) (Finset.sum_congr rfl fun q _ => ?_))
  rw [in2, in5, in8, in9]
  rfl

/-- What the three accumulators hold after a point: the first point clears them. -/
theorem acc_zero (h : t.val % 32 = 0) :
    (outsAt0 m c t.val t.isLt).2.2.2.2.2.2.1 i = (0 : EReal) + ∑ q : Fin 256, part (Y0 m c) (D m c) (P m c) (B0 m c) 0 (con contr t.val q) i
    ∧ (outsAt0 m c t.val t.isLt).2.2.2.2.2.2.2.1 i = (0 : EReal) + ∑ q : Fin 256, part (Y1 m c) (D m c) (P m c) (B1 m c) 1 (con contr t.val q) i
    ∧ (outsAt0 m c t.val t.isLt).2.2.2.2.2.2.2.2 i = (0 : EReal) + ∑ q : Fin 256, part (Y2 m c) (D m c) (P m c) (B2 m c) 2 (con contr t.val q) i := by
  rw [outsAt0_A m c t h]
  refine ⟨?_, ?_, ?_⟩
  · frame_out
    refine (db0_step m c t _ i).trans ?_
    exact congrArg (· + _) (by pointwise [k0_pay25])
  · frame_out
    refine (db1_step m c t _ i).trans ?_
    exact congrArg (· + _) (by pointwise [k0_pay26])
  · frame_out
    refine (db2_step m c t _ i).trans ?_
    exact congrArg (· + _) (by pointwise [k0_pay27])
theorem acc_succ (h : ¬t.val % 32 = 0) :
    (outsAt0 m c t.val t.isLt).2.2.2.2.2.2.1 i = (outsAt0 m c (t.val - 1) (Nat.lt_of_le_of_lt (Nat.sub_le _ _) t.isLt)).2.2.2.2.2.2.1 i
        + ∑ q : Fin 256, part (Y0 m c) (D m c) (P m c) (B0 m c) 0 (con contr t.val q) i
    ∧ (outsAt0 m c t.val t.isLt).2.2.2.2.2.2.2.1 i = (outsAt0 m c (t.val - 1) (Nat.lt_of_le_of_lt (Nat.sub_le _ _) t.isLt)).2.2.2.2.2.2.2.1 i
        + ∑ q : Fin 256, part (Y1 m c) (D m c) (P m c) (B1 m c) 1 (con contr t.val q) i
    ∧ (outsAt0 m c t.val t.isLt).2.2.2.2.2.2.2.2 i = (outsAt0 m c (t.val - 1) (Nat.lt_of_le_of_lt (Nat.sub_le _ _) t.isLt)).2.2.2.2.2.2.2.2 i
        + ∑ q : Fin 256, part (Y2 m c) (D m c) (P m c) (B2 m c) 2 (con contr t.val q) i := by
  rw [outsAt0_B m c t h]
  refine ⟨?_, ?_, ?_⟩
  · frame_out
    exact db0_step m c t _ i
  · frame_out
    exact db1_step m c t _ i
  · frame_out
    exact db2_step m c t _ i

theorem dy0_final : (dats m 0 c).arrAt 10 cfg0.N = Dy (D m c) (P m c) (B0 m c) 0 := by
  refine (dats m 0 c).arrAt_eq_of_covers 10 _ (by decide +kernel) fun t hf y => ?_
  blk_simp
  rw [after0_10]
  idx_vars y
  have e : ((View.whole main_v0_0).slice (win0_10.rect t)).emb (ix2 y0 y1) = ix2 (at_ t y0) y1 := by blk_ext [idx t]
  exact (rows_out m c t y0 y1).1.trans (congrArg (Dy (D m c) (P m c) (B0 m c) 0) e).symm
theorem dy1_final : (dats m 0 c).arrAt 11 cfg0.N = Dy (D m c) (P m c) (B1 m c) 1 := by
  refine (dats m 0 c).arrAt_eq_of_covers 11 _ (by decide +kernel) fun t hf y => ?_
  blk_simp
  rw [after0_11]
  idx_vars y
  have e : ((View.whole main_v0_1).slice (win0_11.rect t)).emb (ix2 y0 y1) = ix2 (at_ t y0) y1 := by blk_ext [idx t]
  exact (rows_out m c t y0 y1).2.1.trans (congrArg (Dy (D m c) (P m c) (B1 m c) 1) e).symm
theorem dy2_final : (dats m 0 c).arrAt 12 cfg0.N = Dy (D m c) (P m c) (B2 m c) 2 := by
  refine (dats m 0 c).arrAt_eq_of_covers 12 _ (by decide +kernel) fun t hf y => ?_
  blk_simp
  rw [after0_12]
  idx_vars y
  have e : ((View.whole main_v0_2).slice (win0_12.rect t)).emb (ix2 y0 y1) = ix2 (at_ t y0) y1 := by blk_ext [idx t]
  exact (rows_out m c t y0 y1).2.2.1.trans (congrArg (Dy (D m c) (P m c) (B2 m c) 2) e).symm
theorem dg0_final : (dats m 0 c).arrAt 13 cfg0.N = Dg (Y0 m c) (D m c) (P m c) (B0 m c) 0 := by
  refine (dats m 0 c).arrAt_eq_of_covers 13 _ (by decide +kernel) fun t hf y => ?_
  blk_simp
  rw [after0_13]
  idx_vars y
  have e : ((View.whole main_v0_3).slice (win0_13.rect t)).emb (ix2 y0 y1) = ix2 (at_ t y0) y1 := by blk_ext [idx t]
  exact (rows_out m c t y0 y1).2.2.2.1.trans (congrArg (Dg (Y0 m c) (D m c) (P m c) (B0 m c) 0) e).symm
theorem dg1_final : (dats m 0 c).arrAt 14 cfg0.N = Dg (Y1 m c) (D m c) (P m c) (B1 m c) 1 := by
  refine (dats m 0 c).arrAt_eq_of_covers 14 _ (by decide +kernel) fun t hf y => ?_
  blk_simp
  rw [after0_14]
  idx_vars y
  have e : ((View.whole main_v0_4).slice (win0_14.rect t)).emb (ix2 y0 y1) = ix2 (at_ t y0) y1 := by blk_ext [idx t]
  exact (rows_out m c t y0 y1).2.2.2.2.1.trans (congrArg (Dg (Y1 m c) (D m c) (P m c) (B1 m c) 1) e).symm
theorem dg2_final : (dats m 0 c).arrAt 15 cfg0.N = Dg (Y2 m c) (D m c) (P m c) (B2 m c) 2 := by
  refine (dats m 0 c).arrAt_eq_of_covers 15 _ (by decide +kernel) fun t hf y => ?_
  blk_simp
  rw [after0_15]
  idx_vars y
  have e : ((View.whole main_v0_5).slice (win0_15.rect t)).emb (ix2 y0 y1) = ix2 (at_ t y0) y1 := by blk_ext [idx t]
  exact (rows_out m c t y0 y1).2.2.2.2.2.trans (congrArg (Dg (Y2 m c) (D m c) (P m c) (B2 m c) 2) e).symm
theorem db0_final : (dats m 0 c).arrAt 16 cfg0.N = Db (Y0 m c) (D m c) (P m c) (B0 m c) 0 := by
  refine (dats m 0 c).arrAt_eq_of_covers 16 _ (by decide +kernel) fun t hf y => ?_
  have h := (flush0_16 t).mp hf
  blk_simp
  rw [after0_16]
  idx_vars y
  rw [acc_last contr (fun n h => (outsAt0 m c n h).2.2.2.2.2.2.1) (fun _ => part (Y0 m c) (D m c) (P m c) (B0 m c) 0) (fun _ _ _ => rfl)
    (fun t h i => (acc_zero m c t i h).1) (fun t h i => (acc_succ m c t i h).1) t h]
  have e : ((View.whole main_v0_6).slice (win0_16.rect t)).emb (ix2 y0 y1) = ix2 y0 y1 := by blk_ext [idx t]
  exact (congrArg (Db (Y0 m c) (D m c) (P m c) (B0 m c) 0) e).symm
theorem db1_final : (dats m 0 c).arrAt 17 cfg0.N = Db (Y1 m c) (D m c) (P m c) (B1 m c) 1 := by
  refine (dats m 0 c).arrAt_eq_of_covers 17 _ (by decide +kernel) fun t hf y => ?_
  have h := (flush0_17 t).mp hf
  blk_simp
  rw [after0_17]
  idx_vars y
  rw [acc_last contr (fun n h => (outsAt0 m c n h).2.2.2.2.2.2.2.1) (fun _ => part (Y1 m c) (D m c) (P m c) (B1 m c) 1) (fun _ _ _ => rfl)
    (fun t h i => (acc_zero m c t i h).2.1) (fun t h i => (acc_succ m c t i h).2.1) t h]
  have e : ((View.whole main_v0_7).slice (win0_17.rect t)).emb (ix2 y0 y1) = ix2 y0 y1 := by blk_ext [idx t]
  exact (congrArg (Db (Y1 m c) (D m c) (P m c) (B1 m c) 1) e).symm
theorem db2_final : (dats m 0 c).arrAt 18 cfg0.N = Db (Y2 m c) (D m c) (P m c) (B2 m c) 2 := by
  refine (dats m 0 c).arrAt_eq_of_covers 18 _ (by decide +kernel) fun t hf y => ?_
  have h := (flush0_18 t).mp hf
  blk_simp
  rw [after0_18]
  idx_vars y
  rw [acc_last contr (fun n h => (outsAt0 m c n h).2.2.2.2.2.2.2.2) (fun _ => part (Y2 m c) (D m c) (P m c) (B2 m c) 2) (fun _ _ _ => rfl)
    (fun t h i => (acc_zero m c t i h).2.2) (fun t h i => (acc_succ m c t i h).2.2) t h]
  have e : ((View.whole main_v0_8).slice (win0_18.rect t)).emb (ix2 y0 y1) = ix2 y0 y1 := by blk_ext [idx t]
  exact (congrArg (Db (Y2 m c) (D m c) (P m c) (B2 m c) 2) e).symm

end Kernel

section Reference
open Cert.MergeBwdRefIdeal Cert.MergeBwdRefIdeal.Read

variable (x0 x1 x2 x7 : FVec Ideal S8192x1024 .f32) (x3 : FVec Ideal S8192x3584 .f32) (x4 x5 x6 : FVec Ideal S1x1024 .f32) (k : Fin 8192) (j : Fin 1024)

theorem ref_gate0 : val_main_v10 (F := Ideal) x3 x4 (ix2 k j) = lg (slab x3 0 k j + row x4 0 j) := by
  pointwise [val_main_v0, val_main_v3, val_main_v4, val_main_v5, val_main_v6, val_main_cst, val_main_v7, val_main_v8, val_main_cst_0, val_main_v9, val_main_v10]
  rw [slab_zero]
  rfl
theorem ref_gate1 : val_main_v22 (F := Ideal) x3 x5 (ix2 k j) = lg (slab x3 1 k j + row x5 0 j) := by
  pointwise [val_main_v1, val_main_v15, val_main_v16, val_main_v17, val_main_v18, val_main_cst_2, val_main_v19, val_main_v20, val_main_cst_3, val_main_v21, val_main_v22]
  rfl
theorem ref_gate2 : val_main_v35 (F := Ideal) x3 x6 (ix2 k j) = lg (slab x3 2 k j + row x6 0 j) := by
  pointwise [val_main_v2, val_main_v28, val_main_v29, val_main_v30, val_main_v31, val_main_cst_5, val_main_v32, val_main_v33, val_main_cst_6, val_main_v34, val_main_v35]
  rfl

theorem ref_dy0 : val_main_v58 (F := Ideal) x3 x4 x7 (ix2 k j) = Dy x7 x3 x4 0 (ix2 k j) := by
  pointwise [val_main_v58, val_main_v53, val_main_v41, val_main_v42]
  rw [ref_gate0, lg_eq]
  rfl
theorem ref_dg0 : val_main_v55 (F := Ideal) x0 x3 x4 x7 (ix2 k j) = Dg x0 x7 x3 x4 0 (ix2 k j) := by
  pointwise [val_main_v55, val_main_v54, val_main_v13, val_main_v12, val_main_v11, val_main_cst_1, val_main_v41, val_main_v42]
  simp only [ref_gate0]
  exact dgate_eq _ _
theorem ref_db0 : val_main_v57 (F := Ideal) x0 x3 x4 x7 (ix2 0 j) = Db x0 x7 x3 x4 0 (ix2 0 j) := by
  pointwise [val_main_v57, val_main_v56, val_main_cst_10]
  simp only [ref_dg0]
  rfl
theorem ref_dy1 : val_main_v59 (F := Ideal) x3 x5 x7 (ix2 k j) = Dy x7 x3 x5 1 (ix2 k j) := by
  pointwise [val_main_v59, val_main_v48, val_main_v41, val_main_v42]
  rw [ref_gate1, lg_eq]
  rfl
theorem ref_dg1 : val_main_v50 (F := Ideal) x1 x3 x5 x7 (ix2 k j) = Dg x1 x7 x3 x5 1 (ix2 k j) := by
  pointwise [val_main_v50, val_main_v49, val_main_v25, val_main_v24, val_main_v23, val_main_cst_4, val_main_v41, val_main_v42]
  simp only [ref_gate1]
  exact dgate_eq _ _
theorem ref_db1 : val_main_v52 (F := Ideal) x1 x3 x5 x7 (ix2 0 j) = Db x1 x7 x3 x5 1 (ix2 0 j) := by
  pointwise [val_main_v52, val_main_v51, val_main_cst_9]
  simp only [ref_dg1]
  rfl
theorem ref_dy2 : val_main_v60 (F := Ideal) x3 x6 x7 (ix2 k j) = Dy x7 x3 x6 2 (ix2 k j) := by
  pointwise [val_main_v60, val_main_v43, val_main_v41, val_main_v42]
  rw [ref_gate2, lg_eq]
  rfl
theorem ref_dg2 : val_main_v45 (F := Ideal) x2 x3 x6 x7 (ix2 k j) = Dg x2 x7 x3 x6 2 (ix2 k j) := by
  pointwise [val_main_v45, val_main_v44, val_main_v38, val_main_v37, val_main_v36, val_main_cst_7, val_main_v41, val_main_v42]
  simp only [ref_gate2]
  exact dgate_eq _ _
theorem ref_db2 : val_main_v47 (F := Ideal) x2 x3 x6 x7 (ix2 0 j) = Db x2 x7 x3 x6 2 (ix2 0 j) := by
  pointwise [val_main_v47, val_main_v46, val_main_cst_8]
  simp only [ref_dg2]
  rfl

end Reference

theorem algebraic : Cert.algebraic_MergeBwdIdeal_MergeBwdRefIdeal := by
  intro m g m' g' _ hagree
  refine ⟨fun c => Dy (D m c) (P m c) (B0 m c) 0, fun c => Dy (D m c) (P m c) (B1 m c) 1, fun c => Dy (D m c) (P m c) (B2 m c) 2,
    fun c => Dg (Y0 m c) (D m c) (P m c) (B0 m c) 0, fun c => Dg (Y1 m c) (D m c) (P m c) (B1 m c) 1, fun c => Dg (Y2 m c) (D m c) (P m c) (B2 m c) 2,
    fun c => Db (Y0 m c) (D m c) (P m c) (B0 m c) 0, fun c => Db (Y1 m c) (D m c) (P m c) (B1 m c) 1, fun c => Db (Y2 m c) (D m c) (P m c) (B2 m c) 2,
    (θ_run Cert.MergeBwdIdeal.defs _ _).mono (fun _ h c => ?_) (Cert.MergeBwdIdeal.Value.run_blocks m g),
    (θ_run Cert.MergeBwdRefIdeal.defs _ _).mono (fun r h c => ?_) (Cert.MergeBwdRefIdeal.Value.run (F := Ideal) m' g')⟩
  · obtain ⟨h0, h1, h2, h3, h4, h5, h6, h7, h8, hargs⟩ := h c
    exact ⟨h0.trans (dy0_final m c), h1.trans (dy1_final m c), h2.trans (dy2_final m c), h3.trans (dg0_final m c), h4.trans (dg1_final m c), h5.trans (dg2_final m c),
      h6.trans (db0_final m c), h7.trans (db1_final m c), h8.trans (db2_final m c), hargs⟩
  obtain ⟨a0, a1, a2, a3, a4, a5, a6, a7⟩ := hagree c
  obtain ⟨h0, h1, h2, h3, h4, h5, h6, h7, h8, hargs⟩ := h c
  refine ⟨h0.trans ?_, h1.trans ?_, h2.trans ?_, h3.trans ?_, h4.trans ?_, h5.trans ?_, h6.trans ?_, h7.trans ?_, h8.trans ?_, hargs⟩
  · rw [Cert.MergeBwdRefIdeal.Read.val_main_v58_eq, a3, a4, a7]
    funext i
    idx_vars i
    exact ref_dy0 _ _ _ i0 i1
  · rw [Cert.MergeBwdRefIdeal.Read.val_main_v59_eq, a3, a5, a7]
    funext i
    idx_vars i
    exact ref_dy1 _ _ _ i0 i1
  · rw [Cert.MergeBwdRefIdeal.Read.val_main_v60_eq, a3, a6, a7]
    funext i
    idx_vars i
    exact ref_dy2 _ _ _ i0 i1
  · rw [Cert.MergeBwdRefIdeal.Read.val_main_v61_eq, a0, a3, a4, a7]
    funext i
    idx_vars i
    exact ref_dg0 _ _ _ _ i0 i1
  · rw [Cert.MergeBwdRefIdeal.Read.val_main_v62_eq, a1, a3, a5, a7]
    funext i
    idx_vars i
    exact ref_dg1 _ _ _ _ i0 i1
  · rw [Cert.MergeBwdRefIdeal.Read.val_main_v63_eq, a2, a3, a6, a7]
    funext i
    idx_vars i
    exact ref_dg2 _ _ _ _ i0 i1
  · rw [Cert.MergeBwdRefIdeal.Read.val_main_v57_eq, a0, a3, a4, a7]
    funext i
    obtain ⟨j, rfl⟩ := one_row i
    exact ref_db0 _ _ _ _ j
  · rw [Cert.MergeBwdRefIdeal.Read.val_main_v52_eq, a1, a3, a5, a7]
    funext i
    obtain ⟨j, rfl⟩ := one_row i
    exact ref_db1 _ _ _ _ j
  · rw [Cert.MergeBwdRefIdeal.Read.val_main_v47_eq, a2, a3, a6, a7]
    funext i
    obtain ⟨j, rfl⟩ := one_row i
    exact ref_db2 _ _ _ _ j

end Cert.Proof.MergeBwdIdeal

end
-- ==== Proof.MergeFwdVal.lean ====
/-
  The merge: the kernel and the reference leave the same array.
-/
module

public import proofs.«01_k».proof.Proof.MergeMath
public import proofs.«01_k».proof.Proof.Products
public import proofs.«01_k».proof.Defs
public import proofs.«01_k».proof.Proof.Gen.MergeFwdIdeal.Value
public import proofs.«01_k».proof.Proof.Gen.MergeFwdRefIdeal.Read
public import proofs.«01_k».proof.Proof.Gen.MergeFwdRefIdeal.Run

@[expose] public section

set_option maxRecDepth 16384

noncomputable section

namespace Cert.Proof.MergeFwdIdeal

open Cert.Proof.NormMath Cert.Proof.MergeMath
open Idealize.ShloMosaic Idealize.ShloMosaic.TcCoe Idealize.SL.Sem

section Kernel
open Cert.MergeFwdIdeal Cert.MergeFwdIdeal.Gen

theorem out_at (y0 y1 y2 g0 g1 g2 : Vec Ideal S256x1024 .f32) (b0 b1 b2 : Vec Ideal S1x1024 .f32) (p : Fin 256) (j : Fin 1024) :
    k0_pay1 (F := Ideal) y2 (k0_pay2 y0 y1 g0 g1 b0 b1) (k0_pay3 g2 b2) (ix2 p j)
      = gated (row g0 p) (row b0 0) (row y0 p) j + gated (row g1 p) (row b1 0) (row y1 p) j + gated (row g2 p) (row b2 0) (row y2 p) j := by
  pointwise [k0_pay1, k0_pay2, k0_pay3]
  try rfl

variable (m : (ℓ : Loc nD τ sig) → Buf (Elt Ideal) ℓ) (c : Dev nD)

def Y0 : FVec Ideal S8192x1024 .f32 := m ((c.tc : Thread nD τ).loc main_arg0)
def Y1 : FVec Ideal S8192x1024 .f32 := m ((c.tc : Thread nD τ).loc main_arg1)
def Y2 : FVec Ideal S8192x1024 .f32 := m ((c.tc : Thread nD τ).loc main_arg2)
def P : FVec Ideal S8192x3584 .f32 := m ((c.tc : Thread nD τ).loc main_arg3)
def B0 : FVec Ideal S1x1024 .f32 := m ((c.tc : Thread nD τ).loc main_arg4)
def B1 : FVec Ideal S1x1024 .f32 := m ((c.tc : Thread nD τ).loc main_arg5)
def B2 : FVec Ideal S1x1024 .f32 := m ((c.tc : Thread nD τ).loc main_arg6)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 2]
    ∧ win0_6.index t = ![0, 0] ∧ win0_7.index t = ![0, 0] ∧ win0_8.index t = ![0, 0] ∧ win0_9.index t = ![t.val, 0] :=
  (by decide +kernel : ∀ t : Fin grid0.N, _)

/-- The row of the arrays that row `p` of a point's block is. -/
def at_ (t : Fin cfg0.N) (p : Fin 256) : Fin 8192 := ⟨256 * t.val + p.val, by have := lt_of_lt_of_eq t.isLt N_0; omega⟩

variable (t : Fin cfg0.N) (p : Fin 256)

theorem in0 : row (iblk m c 0 t) p = row (Y0 m c) (at_ t p) := by
  funext j
  exact congrArg (Y0 m c) (by blk_ext [idx t, at_])
theorem in1 : row (iblk m c 1 t) p = row (Y1 m c) (at_ t p) := by
  funext j
  exact congrArg (Y1 m c) (by blk_ext [idx t, at_])
theorem in2 : row (iblk m c 2 t) p = row (Y2 m c) (at_ t p) := by
  funext j
  exact congrArg (Y2 m c) (by blk_ext [idx t, at_])
theorem in3 : row (X0_3 m c t) p = slab (P m c) 0 (at_ t p) := by
  funext j
  show X0_3 m c t (ix2 p j) = _
  unfold X0_3 Pipeline.Window.fill
  rw [dif_pos (moved0_3 t _)]
  exact congrArg (P m c) (by blk_ext [idx t, at_, col])
theorem in4 : row (X0_4 m c t) p = slab (P m c) 1 (at_ t p) := by
  funext j
  show X0_4 m c t (ix2 p j) = _
  unfold X0_4 Pipeline.Window.fill
  rw [dif_pos (moved0_4 t _)]
  exact congrArg (P m c) (by blk_ext [idx t, at_, col])
theorem in5 : row (X0_5 m c t) p = slab (P m c) 2 (at_ t p) := by
  funext j
  show X0_5 m c t (ix2 p j) = _
  unfold X0_5 Pipeline.Window.fill
  rw [dif_pos (moved0_5 t _)]
  exact congrArg (P m c) (by blk_ext [idx t, at_, col])
theorem in6 : row (iblk m c 6 t) 0 = row (B0 m c) 0 := by
  funext j
  exact congrArg (B0 m c) (by blk_ext [idx t])
theorem in7 : row (iblk m c 7 t) 0 = row (B1 m c) 0 := by
  funext j
  exact congrArg (B1 m c) (by blk_ext [idx t])
theorem in8 : row (iblk m c 8 t) 0 = row (B2 m c) 0 := by
  funext j
  exact congrArg (B2 m c) (by blk_ext [idx t])

theorem blk_out (j : Fin 1024) :
    k0_pay1 (F := Ideal) (iblk m c 2 t) (k0_pay2 (iblk m c 0 t) (iblk m c 1 t) (X0_3 m c t) (X0_4 m c t) (iblk m c 6 t) (iblk m c 7 t)) (k0_pay3 (X0_5 m c t) (iblk m c 8 t)) (ix2 p j)
      = merged (Y0 m c) (Y1 m c) (Y2 m c) (P m c) (B0 m c) (B1 m c) (B2 m c) (ix2 (at_ t p) j) := by
  rw [out_at, in0, in1, in2, in3, in4, in5, in6, in7, in8]
  rfl

theorem final : (dats m 0 c).arrAt 9 cfg0.N = merged (Y0 m c) (Y1 m c) (Y2 m c) (P m c) (B0 m c) (B1 m c) (B2 m c) := by
  refine (dats m 0 c).arrAt_eq_of_covers 9 _ (by decide +kernel) fun t hf y => ?_
  blk_simp
  rw [after0_9]
  unfold outsAt0
  frame_out
  idx_vars y
  have e : ((View.whole main_v0).slice (win0_9.rect t)).emb (ix2 y0 y1) = ix2 (at_ t y0) y1 := by blk_ext [idx t, at_]
  exact (blk_out m c t y0 y1).trans (congrArg (merged (Y0 m c) (Y1 m c) (Y2 m c) (P m c) (B0 m c) (B1 m c) (B2 m c)) e).symm

end Kernel

section Reference
open Cert.MergeFwdRefIdeal Cert.MergeFwdRefIdeal.Read

variable (x0 x1 x2 : FVec Ideal S8192x1024 .f32) (x3 : FVec Ideal S8192x3584 .f32) (x4 x5 x6 : FVec Ideal S1x1024 .f32) (k : Fin 8192) (j : Fin 1024)

theorem ref_gate0 : val_main_v10 (F := Ideal) x3 x4 (ix2 k j) = lg (slab x3 0 k j + row x4 0 j) := by
  pointwise [val_main_v0, val_main_v3, val_main_v4, val_main_v5, val_main_v6, val_main_cst, val_main_v7, val_main_v8, val_main_cst_0, val_main_v9, val_main_v10]
  rw [slab_zero]
  rfl
theorem ref_gate1 : val_main_v19 (F := Ideal) x3 x5 (ix2 k j) = lg (slab x3 1 k j + row x5 0 j) := by
  pointwise [val_main_v1, val_main_v12, val_main_v13, val_main_v14, val_main_v15, val_main_cst_1, val_main_v16, val_main_v17, val_main_cst_2, val_main_v18, val_main_v19]
  rfl
theorem ref_gate2 : val_main_v29 (F := Ideal) x3 x6 (ix2 k j) = lg (slab x3 2 k j + row x6 0 j) := by
  pointwise [val_main_v2, val_main_v22, val_main_v23, val_main_v24, val_main_v25, val_main_cst_3, val_main_v26, val_main_v27, val_main_cst_4, val_main_v28, val_main_v29]
  rfl
theorem ref_out : val_main_v32 (F := Ideal) x0 x1 x2 x3 x4 x5 x6 (ix2 k j) = merged x0 x1 x2 x3 x4 x5 x6 (ix2 k j) := by
  pointwise [val_main_v32, val_main_v31, val_main_v30, val_main_v21, val_main_v20, val_main_v11]
  rw [ref_gate0, ref_gate1, ref_gate2, lg_eq, lg_eq, lg_eq]
  rfl

end Reference

theorem algebraic : Cert.algebraic_MergeFwdIdeal_MergeFwdRefIdeal := by
  intro m g m' g' _ hagree
  refine ⟨fun c => merged (Y0 m c) (Y1 m c) (Y2 m c) (P m c) (B0 m c) (B1 m c) (B2 m c),
    (θ_run Cert.MergeFwdIdeal.defs _ _).mono (fun _ h c => ⟨(h c).1.trans (final m c), (h c).2⟩) (Cert.MergeFwdIdeal.Value.run_blocks m g),
    (θ_run Cert.MergeFwdRefIdeal.defs _ _).mono (fun r h c => ?_) (Cert.MergeFwdRefIdeal.Value.run (F := Ideal) m' g')⟩
  obtain ⟨a0, a1, a2, a3, a4, a5, a6⟩ := hagree c
  obtain ⟨h0, hargs⟩ := h c
  refine ⟨h0.trans ?_, hargs⟩
  rw [Cert.MergeFwdRefIdeal.Read.val_main_v32_eq, a0, a1, a2, a3, a4, a5, a6]
  funext i
  idx_vars i
  exact ref_out _ _ _ _ _ _ _ i0 i1

end Cert.Proof.MergeFwdIdeal

end
-- ==== Proof.CombMath.lean ====
/-
  The combination of three groups' outputs by their log-sum-exps, entry by entry: the weights are exponentials less the largest log-sum-exp in the
  kernel and plain exponentials in the reference, and the quotients are the same.
-/
module

public import proofs.«01_k».proof.Proof.Attn
public import proofs.«01_k».proof.Proof.ConvMath

@[expose] public section

noncomputable section

namespace Cert.Proof.CombMath

open Cert.Proof.ConvMath Cert.Proof.Attn
open Idealize.ShloMosaic

variable (l o o1 o2 o3 l1 l2 l3 d : EReal)

/-! ## The kernel's formulas -/

/-- A weight: the exponential of a log-sum-exp less the largest. -/
def wt : EReal := Ideal.exp (l - max (max l1 l2) l3)
def wts : EReal := wt l1 l1 l2 l3 + wt l2 l1 l2 l3 + wt l3 l1 l2 l3
def top : EReal := wt l1 l1 l2 l3 * o1 + wt l2 l1 l2 l3 * o2 + wt l3 l1 l2 l3 * o3
def comb : EReal := Ideal.div (top o1 o2 o3 l1 l2 l3) (wts l1 l2 l3)
/-- The gradient at the output whose log-sum-exp is `l`. -/
def dout : EReal := wt l l1 l2 l3 * Ideal.div d (wts l1 l2 l3)
/-- The gradient at the log-sum-exp `l` of the output `o`. -/
def dlse : EReal :=
  (0 - d * Ideal.div 1 (wts l1 l2 l3 * wts l1 l2 l3) * top o1 o2 o3 l1 l2 l3 + Ideal.div d (wts l1 l2 l3) * o) * wt l l1 l2 l3

/-! ## The reference's formulas -/

def rs : EReal := Ideal.exp l1 + Ideal.exp l2 + Ideal.exp l3
def rcomb : EReal := Ideal.div (Ideal.exp l1) (rs l1 l2 l3) * o1 + Ideal.div (Ideal.exp l2) (rs l1 l2 l3) * o2 + Ideal.div (Ideal.exp l3) (rs l1 l2 l3) * o3
def rdout : EReal := Ideal.div (Ideal.exp l) (rs l1 l2 l3) * d
/-- What one quotient sends to the sum of the exponentials. -/
def back : EReal := -(d * o * Ideal.div 1 (rs l1 l2 l3 * rs l1 l2 l3) * Ideal.exp l)
def rdlse : EReal :=
  (Ideal.div (d * o) (rs l1 l2 l3) + (back l3 o3 l1 l2 l3 d + back l2 o2 l1 l2 l3 d + back l1 o1 l1 l2 l3 d)) * Ideal.exp l

/-! ## They agree -/

theorem wt_real (x a b c : ℝ) : wt x a b c = ((Real.exp x * Real.exp (-max (max a b) c) : ℝ) : EReal) := by
  unfold wt
  rw [← EReal.coe_strictMono.monotone.map_max, ← EReal.coe_strictMono.monotone.map_max, ← EReal.coe_sub, Ideal.exp_coe, sub_eq_add_neg, Real.exp_add]

theorem wts_real (a b c : ℝ) : wts a b c = (((Real.exp a + Real.exp b + Real.exp c) * Real.exp (-max (max a b) c) : ℝ) : EReal) := by
  unfold wts
  rw [wt_real, wt_real, wt_real, ← EReal.coe_add, ← EReal.coe_add, add_mul, add_mul]

theorem rs_real (a b c : ℝ) : rs a b c = ((Real.exp a + Real.exp b + Real.exp c : ℝ) : EReal) := by
  unfold rs
  rw [Ideal.exp_coe, Ideal.exp_coe, Ideal.exp_coe, ← EReal.coe_add, ← EReal.coe_add]

/-- A quotient of a weighted entry and the weights' sum. -/
theorem share (x a b c : ℝ) (o : EReal) : wt x a b c * o * ((1 / ((Real.exp a + Real.exp b + Real.exp c) * Real.exp (-max (max a b) c)) : ℝ) : EReal)
    = Ideal.div (Ideal.exp x) (rs a b c) * o := by
  rw [wt_real, rs_real, Ideal.exp_coe, div_real _ (by positivity), mul_right_comm, ← EReal.coe_mul]
  refine congrArg (fun r : ℝ => (r : EReal) * o) ?_
  have h := (Real.exp_pos (-max (max a b) c)).ne'
  have hs : Real.exp a + Real.exp b + Real.exp c ≠ 0 := by positivity
  field_simp

theorem comb_eq (h1 : IsR l1) (h2 : IsR l2) (h3 : IsR l3) : rcomb o1 o2 o3 l1 l2 l3 = comb o1 o2 o3 l1 l2 l3 := by
  obtain ⟨a, rfl⟩ := h1
  obtain ⟨b, rfl⟩ := h2
  obtain ⟨c, rfl⟩ := h3
  have hp : 0 < (Real.exp a + Real.exp b + Real.exp c) * Real.exp (-max (max a b) c) := by positivity
  unfold comb top rcomb
  have h0 : (0 : EReal) ≤ ((1 / ((Real.exp a + Real.exp b + Real.exp c) * Real.exp (-max (max a b) c)) : ℝ) : EReal) := by
    exact_mod_cast (one_div_pos.2 hp).le
  rw [wts_real, Ideal.div_coe hp.ne', EReal.right_distrib_of_nonneg_of_ne_top h0 (EReal.coe_ne_top _),
    EReal.right_distrib_of_nonneg_of_ne_top h0 (EReal.coe_ne_top _), share, share, share]

theorem dout_eq (h : IsR l) (h1 : IsR l1) (h2 : IsR l2) (h3 : IsR l3) (hd : IsR d) : rdout l l1 l2 l3 d = dout l l1 l2 l3 d := by
  obtain ⟨x, rfl⟩ := h
  obtain ⟨a, rfl⟩ := h1
  obtain ⟨b, rfl⟩ := h2
  obtain ⟨c, rfl⟩ := h3
  obtain ⟨d, rfl⟩ := hd
  have hs : Real.exp a + Real.exp b + Real.exp c ≠ 0 := by positivity
  have hp : (Real.exp a + Real.exp b + Real.exp c) * Real.exp (-max (max a b) c) ≠ 0 := by positivity
  have h := (Real.exp_pos (-max (max a b) c)).ne'
  unfold dout rdout
  rw [wts_real, rs_real, wt_real, Ideal.exp_coe, div_real _ hs, div_real _ hp, ← EReal.coe_mul, ← EReal.coe_mul]
  refine congrArg Real.toEReal ?_
  field_simp

theorem dlse_eq (h : IsR l) (ho : IsR o) (g1 : IsR o1) (g2 : IsR o2) (g3 : IsR o3) (h1 : IsR l1) (h2 : IsR l2) (h3 : IsR l3) (hd : IsR d) :
    rdlse l o o1 o2 o3 l1 l2 l3 d = dlse l o o1 o2 o3 l1 l2 l3 d := by
  obtain ⟨x, rfl⟩ := h
  obtain ⟨y, rfl⟩ := ho
  obtain ⟨p, rfl⟩ := g1
  obtain ⟨q, rfl⟩ := g2
  obtain ⟨r, rfl⟩ := g3
  obtain ⟨a, rfl⟩ := h1
  obtain ⟨b, rfl⟩ := h2
  obtain ⟨c, rfl⟩ := h3
  obtain ⟨d, rfl⟩ := hd
  unfold dlse rdlse back top
  simp only [wts_real, rs_real, wt_real, Ideal.exp_coe]
  have A := Real.exp_pos a
  have B := Real.exp_pos b
  have C := Real.exp_pos c
  have K := Real.exp_pos (-max (max a b) c)
  generalize Real.exp (-max (max a b) c) = k at *
  generalize Real.exp a = a at *
  generalize Real.exp b = b at *
  generalize Real.exp c = c at *
  generalize Real.exp x = x
  have hs : a + b + c ≠ 0 := by positivity
  have hss : (a + b + c) * (a + b + c) ≠ 0 := by positivity
  have hp : (a + b + c) * k ≠ 0 := by positivity
  have hpp : (a + b + c) * k * ((a + b + c) * k) ≠ 0 := by positivity
  have hk : k ≠ 0 := K.ne'
  rw [← EReal.coe_zero, ← EReal.coe_one]
  simp only [← EReal.coe_mul, ← EReal.coe_add, ← EReal.coe_sub, ← EReal.coe_neg, div_real _ hs, div_real _ hss, div_real _ hp, div_real _ hpp]
  refine congrArg Real.toEReal ?_
  field_simp
  ring

end Cert.Proof.CombMath

end
-- ==== Proof.CombBwdVal.lean ====
/-
  The gradient of the combination: the kernel and the reference leave the same six arrays.
-/
module

public import proofs.«01_k».proof.Proof.CombMath
public import proofs.«01_k».proof.Proof.Finite
public import proofs.«01_k».proof.Proof.Products
public import proofs.«01_k».proof.Pre_combine_bwd_finite
public import proofs.«01_k».proof.Defs
public import proofs.«01_k».proof.Proof.Gen.CombBwdIdeal.Value
public import proofs.«01_k».proof.Proof.Gen.CombBwdRefIdeal.Read
public import proofs.«01_k».proof.Proof.Gen.CombBwdRefIdeal.Run

@[expose] public section

set_option maxRecDepth 16384

noncomputable section

namespace Cert.Proof.CombBwdIdeal

open Cert.Proof.CombMath Cert.Proof.ConvMath
open Idealize.ShloMosaic Idealize.ShloMosaic.TcCoe Idealize.SL.Sem

section Kernel
open Cert.CombBwdIdeal Cert.CombBwdIdeal.Gen

section Blocks
variable (v0 v1 v2 v3 v4 v5 v6 : Vec Ideal S256x512 .f32) (i : S256x512.Idx)

theorem do1_at : k0_pay15 (F := Ideal) v3 v4 v5 v6 i = dout (v3 i) (v3 i) (v4 i) (v5 i) (v6 i) := rfl
theorem do2_at : k0_pay1 (F := Ideal) (k0_pay11 v3 v4 v5 v6) i = dout (v4 i) (v3 i) (v4 i) (v5 i) (v6 i) := rfl
theorem do3_at : k0_pay2 (F := Ideal) (k0_pay10 v3 v4 v5 v6) i = dout (v5 i) (v3 i) (v4 i) (v5 i) (v6 i) := rfl
theorem back_at (p : Fin 256) (j : Fin 512) : k0_pay8 (F := Ideal) v0 v1 v2 v3 v4 v5 v6 (ix2 p j)
    = 0 - v6 (ix2 p j) * Ideal.div 1 (wts (v3 (ix2 p j)) (v4 (ix2 p j)) (v5 (ix2 p j)) * wts (v3 (ix2 p j)) (v4 (ix2 p j)) (v5 (ix2 p j)))
      * top (v0 (ix2 p j)) (v1 (ix2 p j)) (v2 (ix2 p j)) (v3 (ix2 p j)) (v4 (ix2 p j)) (v5 (ix2 p j)) := by
  pointwise [k0_pay8, k0_pay7, k0_pay6, k0_pay5, k0_pay4, k0_pay3]
  try rfl
theorem dl1_at (p : Fin 256) (j : Fin 512) : k0_pay14 (F := Ideal) v0 v1 v2 v3 v4 v5 v6 (ix2 p j)
    = dlse (v3 (ix2 p j)) (v0 (ix2 p j)) (v0 (ix2 p j)) (v1 (ix2 p j)) (v2 (ix2 p j)) (v3 (ix2 p j)) (v4 (ix2 p j)) (v5 (ix2 p j)) (v6 (ix2 p j)) := by
  have e := back_at v0 v1 v2 v3 v4 v5 v6 p j
  exact congrArg (fun z => (z + _) * _) e
theorem dl2_at (p : Fin 256) (j : Fin 512) : k0_pay13 (F := Ideal) v0 v1 v2 v3 v4 v5 v6 (ix2 p j)
    = dlse (v4 (ix2 p j)) (v1 (ix2 p j)) (v0 (ix2 p j)) (v1 (ix2 p j)) (v2 (ix2 p j)) (v3 (ix2 p j)) (v4 (ix2 p j)) (v5 (ix2 p j)) (v6 (ix2 p j)) := by
  have e := back_at v0 v1 v2 v3 v4 v5 v6 p j
  exact congrArg (fun z => (z + _) * _) e
theorem dl3_at (p : Fin 256) (j : Fin 512) : k0_pay12 (F := Ideal) v0 v1 v2 v3 v4 v5 v6 (ix2 p j)
    = dlse (v5 (ix2 p j)) (v2 (ix2 p j)) (v0 (ix2 p j)) (v1 (ix2 p j)) (v2 (ix2 p j)) (v3 (ix2 p j)) (v4 (ix2 p j)) (v5 (ix2 p j)) (v6 (ix2 p j)) := by
  have e := back_at v0 v1 v2 v3 v4 v5 v6 p j
  exact congrArg (fun z => (z + _) * _) e

end Blocks

variable (m : (ℓ : Loc nD τ sig) → Buf (Elt Ideal) ℓ) (c : Dev nD)

def O1 : FVec Ideal S8192x512 .f32 := m ((c.tc : Thread nD τ).loc main_arg0)
def O2 : FVec Ideal S8192x512 .f32 := m ((c.tc : Thread nD τ).loc main_arg1)
def O3 : FVec Ideal S8192x512 .f32 := m ((c.tc : Thread nD τ).loc main_arg2)
def L1 : FVec Ideal S8192x512 .f32 := m ((c.tc : Thread nD τ).loc main_arg3)
def L2 : FVec Ideal S8192x512 .f32 := m ((c.tc : Thread nD τ).loc main_arg4)
def L3 : FVec Ideal S8192x512 .f32 := m ((c.tc : Thread nD τ).loc main_arg5)
def D : FVec Ideal S8192x512 .f32 := m ((c.tc : Thread nD τ).loc main_arg6)

/-- The gradient at the output whose log-sum-exps are `l`. -/
def Go (l : FVec Ideal S8192x512 .f32) : FVec Ideal S8192x512 .f32 := fun i => dout (l i) (L1 m c i) (L2 m c i) (L3 m c i) (D m c i)
/-- The gradient at the log-sum-exps `l` of the output `o`. -/
def Gl (l o : FVec Ideal S8192x512 .f32) : FVec Ideal S8192x512 .f32 := fun i =>
  dlse (l i) (o i) (O1 m c i) (O2 m c i) (O3 m c i) (L1 m c i) (L2 m c i) (L3 m c i) (D m c i)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

/-- The row of the arrays that row `p` of a point's block is. -/
def at_ (t : Fin cfg0.N) (p : Fin 256) : Fin 8192 := ⟨256 * t.val + p.val, by have := lt_of_lt_of_eq t.isLt N_0; omega⟩

variable (t : Fin cfg0.N) (p : Fin 256) (j : Fin 512)

theorem in0 : iblk m c 0 t (ix2 p j) = O1 m c (ix2 (at_ t p) j) := congrArg (O1 m c) (by blk_ext [idx t, at_])
theorem in1 : iblk m c 1 t (ix2 p j) = O2 m c (ix2 (at_ t p) j) := congrArg (O2 m c) (by blk_ext [idx t, at_])
theorem in2 : iblk m c 2 t (ix2 p j) = O3 m c (ix2 (at_ t p) j) := congrArg (O3 m c) (by blk_ext [idx t, at_])
theorem in3 : iblk m c 3 t (ix2 p j) = L1 m c (ix2 (at_ t p) j) := congrArg (L1 m c) (by blk_ext [idx t, at_])
theorem in4 : iblk m c 4 t (ix2 p j) = L2 m c (ix2 (at_ t p) j) := congrArg (L2 m c) (by blk_ext [idx t, at_])
theorem in5 : iblk m c 5 t (ix2 p j) = L3 m c (ix2 (at_ t p) j) := congrArg (L3 m c) (by blk_ext [idx t, at_])
theorem in6 : iblk m c 6 t (ix2 p j) = D m c (ix2 (at_ t p) j) := congrArg (D m c) (by blk_ext [idx t, at_])

theorem final7 : (dats m 0 c).arrAt 7 cfg0.N = Go m c (L1 m c) := by
  refine (dats m 0 c).arrAt_eq_of_covers 7 _ (by decide +kernel) fun t hf y => ?_
  blk_simp
  rw [after0_7]
  unfold out0_7
  frame_out
  idx_vars y
  have e : ((View.whole main_v0_0).slice (win0_7.rect t)).emb (ix2 y0 y1) = ix2 (at_ t y0) y1 := by blk_ext [idx t, at_]
  refine ((do1_at _ _ _ _ (ix2 y0 y1)).trans ?_).trans (congrArg (Go m c (L1 m c)) e).symm
  rw [in3, in4, in5, in6]
  rfl
theorem final8 : (dats m 0 c).arrAt 8 cfg0.N = Go m c (L2 m c) := by
  refine (dats m 0 c).arrAt_eq_of_covers 8 _ (by decide +kernel) fun t hf y => ?_
  blk_simp
  rw [after0_8]
  unfold out0_8
  frame_out
  idx_vars y
  have e : ((View.whole main_v0_1).slice (win0_8.rect t)).emb (ix2 y0 y1) = ix2 (at_ t y0) y1 := by blk_ext [idx t, at_]
  refine ((do2_at _ _ _ _ (ix2 y0 y1)).trans ?_).trans (congrArg (Go m c (L2 m c)) e).symm
  rw [in3, in4, in5, in6]
  rfl
theorem final9 : (dats m 0 c).arrAt 9 cfg0.N = Go m c (L3 m c) := by
  refine (dats m 0 c).arrAt_eq_of_covers 9 _ (by decide +kernel) fun t hf y => ?_
  blk_simp
  rw [after0_9]
  unfold out0_9
  frame_out
  idx_vars y
  have e : ((View.whole main_v0_2).slice (win0_9.rect t)).emb (ix2 y0 y1) = ix2 (at_ t y0) y1 := by blk_ext [idx t, at_]
  refine ((do3_at _ _ _ _ (ix2 y0 y1)).trans ?_).trans (congrArg (Go m c (L3 m c)) e).symm
  rw [in3, in4, in5, in6]
  rfl
theorem final10 : (dats m 0 c).arrAt 10 cfg0.N = Gl m c (L1 m c) (O1 m c) := by
  refine (dats m 0 c).arrAt_eq_of_covers 10 _ (by decide +kernel) fun t hf y => ?_
  blk_simp
  rw [after0_10]
  unfold out0_10
  frame_out
  idx_vars y
  have e : ((View.whole main_v0_3).slice (win0_10.rect t)).emb (ix2 y0 y1) = ix2 (at_ t y0) y1 := by blk_ext [idx t, at_]
  refine ((dl1_at _ _ _ _ _ _ _ y0 y1).trans ?_).trans (congrArg (Gl m c (L1 m c) (O1 m c)) e).symm
  rw [in0, in1, in2, in3, in4, in5, in6]
  rfl
theorem final11 : (dats m 0 c).arrAt 11 cfg0.N = Gl m c (L2 m c) (O2 m c) := by
  refine (dats m 0 c).arrAt_eq_of_covers 11 _ (by decide +kernel) fun t hf y => ?_
  blk_simp
  rw [after0_11]
  unfold out0_11
  frame_out
  idx_vars y
  have e : ((View.whole main_v0_4).slice (win0_11.rect t)).emb (ix2 y0 y1) = ix2 (at_ t y0) y1 := by blk_ext [idx t, at_]
  refine ((dl2_at _ _ _ _ _ _ _ y0 y1).trans ?_).trans (congrArg (Gl m c (L2 m c) (O2 m c)) e).symm
  rw [in0, in1, in2, in3, in4, in5, in6]
  rfl
theorem final12 : (dats m 0 c).arrAt 12 cfg0.N = Gl m c (L3 m c) (O3 m c) := by
  refine (dats m 0 c).arrAt_eq_of_covers 12 _ (by decide +kernel) fun t hf y => ?_
  blk_simp
  rw [after0_12]
  unfold out0_12
  frame_out
  idx_vars y
  have e : ((View.whole main_v0_5).slice (win0_12.rect t)).emb (ix2 y0 y1) = ix2 (at_ t y0) y1 := by blk_ext [idx t, at_]
  refine ((dl3_at _ _ _ _ _ _ _ y0 y1).trans ?_).trans (congrArg (Gl m c (L3 m c) (O3 m c)) e).symm
  rw [in0, in1, in2, in3, in4, in5, in6]
  rfl

end Kernel

section Reference
open Cert.CombBwdRefIdeal Cert.CombBwdRefIdeal.Read

variable (x0 x1 x2 x3 x4 x5 x6 : FVec Ideal S8192x512 .f32) (k : Fin 8192) (j : Fin 512)

theorem ct22 : val_main_v22 (F := Ideal) x6 (ix2 k j) = x6 (ix2 k j) := by
  pointwise [val_main_v22]
theorem ct23 : val_main_v23 (F := Ideal) x6 (ix2 k j) = x6 (ix2 k j) := by
  pointwise [val_main_v23]
theorem ref_do1 : val_main_v37 (F := Ideal) x3 x4 x5 x6 (ix2 k j) = rdout (x3 (ix2 k j)) (x3 (ix2 k j)) (x4 (ix2 k j)) (x5 (ix2 k j)) (x6 (ix2 k j)) :=
  congrArg (_ * ·) (ct22 x6 k j)
theorem ref_do2 : val_main_v30 (F := Ideal) x3 x4 x5 x6 (ix2 k j) = rdout (x4 (ix2 k j)) (x3 (ix2 k j)) (x4 (ix2 k j)) (x5 (ix2 k j)) (x6 (ix2 k j)) :=
  congrArg (_ * ·) (ct22 x6 k j)
theorem ref_do3 : val_main_v24 (F := Ideal) x3 x4 x5 x6 (ix2 k j) = rdout (x5 (ix2 k j)) (x3 (ix2 k j)) (x4 (ix2 k j)) (x5 (ix2 k j)) (x6 (ix2 k j)) :=
  congrArg (_ * ·) (ct23 x6 k j)
theorem ref_back : val_main_v42 (F := Ideal) x0 x1 x2 x3 x4 x5 x6 (ix2 k j)
    = back (x5 (ix2 k j)) (x2 (ix2 k j)) (x3 (ix2 k j)) (x4 (ix2 k j)) (x5 (ix2 k j)) (x6 (ix2 k j))
      + back (x4 (ix2 k j)) (x1 (ix2 k j)) (x3 (ix2 k j)) (x4 (ix2 k j)) (x5 (ix2 k j)) (x6 (ix2 k j))
      + back (x3 (ix2 k j)) (x0 (ix2 k j)) (x3 (ix2 k j)) (x4 (ix2 k j)) (x5 (ix2 k j)) (x6 (ix2 k j)) := by
  pointwise [val_main_v42, val_main_v41, val_main_v40, val_main_v39, val_main_v38, val_main_v35, val_main_v34, val_main_v33, val_main_v32, val_main_v31, val_main_v28, val_main_v27, val_main_v26, val_main_v25, val_main_v19, val_main_v18, val_main_v17, val_main_v13, val_main_v12, val_main_v11, val_main_v8, val_main_v7, val_main_v6, val_main_v4, val_main_v3, val_main_v2, val_main_v1, val_main_v0, val_main_cst, val_main_cst_0, val_main_cst_1]
  rw [ct22, ct23]
  rfl
theorem ref_dl1 : val_main_v49 (F := Ideal) x0 x1 x2 x3 x4 x5 x6 (ix2 k j)
    = rdlse (x3 (ix2 k j)) (x0 (ix2 k j)) (x0 (ix2 k j)) (x1 (ix2 k j)) (x2 (ix2 k j)) (x3 (ix2 k j)) (x4 (ix2 k j)) (x5 (ix2 k j)) (x6 (ix2 k j)) := by
  pointwise [val_main_v49, val_main_v45, val_main_v43, val_main_v38]
  rw [ref_back, ct22]
  rfl
theorem ref_dl2 : val_main_v48 (F := Ideal) x0 x1 x2 x3 x4 x5 x6 (ix2 k j)
    = rdlse (x4 (ix2 k j)) (x1 (ix2 k j)) (x0 (ix2 k j)) (x1 (ix2 k j)) (x2 (ix2 k j)) (x3 (ix2 k j)) (x4 (ix2 k j)) (x5 (ix2 k j)) (x6 (ix2 k j)) := by
  pointwise [val_main_v48, val_main_v46, val_main_v36, val_main_v31]
  rw [ref_back, ct22]
  rfl
theorem ref_dl3 : val_main_v47 (F := Ideal) x0 x1 x2 x3 x4 x5 x6 (ix2 k j)
    = rdlse (x5 (ix2 k j)) (x2 (ix2 k j)) (x0 (ix2 k j)) (x1 (ix2 k j)) (x2 (ix2 k j)) (x3 (ix2 k j)) (x4 (ix2 k j)) (x5 (ix2 k j)) (x6 (ix2 k j)) := by
  pointwise [val_main_v47, val_main_v44, val_main_v29, val_main_v25]
  rw [ref_back, ct23]
  rfl

end Reference

section Precondition
open Cert.Pre_combine_bwd_finite

theorem real_of_finite [Facts] (x0 x1 x2 x3 x4 x5 x6 : FVec Ideal S8192x512 .f32) (h : fn (F := Ideal) x0 x1 x2 x3 x4 x5 x6 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) ∧ ∀ i, IsR (x6 i) := by
  have hj := congrFun h (fun k => k.elim0)
  obtain ⟨h05, h6⟩ := IntOp.andi_eq_one.1 hj
  obtain ⟨h04, h5⟩ := IntOp.andi_eq_one.1 h05
  obtain ⟨h03, h4⟩ := IntOp.andi_eq_one.1 h04
  obtain ⟨h02, h3⟩ := IntOp.andi_eq_one.1 h03
  obtain ⟨h01, h2⟩ := IntOp.andi_eq_one.1 h02
  obtain ⟨h0, h1⟩ := IntOp.andi_eq_one.1 h01
  haveI : Subsingleton S_.Idx := ⟨fun a b => funext fun k => k.elim0⟩
  exact ⟨fun i => ⟨_, congrFun (Cert.Proof.Finite.up_of_all x0 _ _ _ _ h0) i⟩, fun i => ⟨_, congrFun (Cert.Proof.Finite.up_of_all x1 _ _ _ _ h1) i⟩, fun i => ⟨_, congrFun (Cert.Proof.Finite.up_of_all x2 _ _ _ _ h2) i⟩, fun i => ⟨_, congrFun (Cert.Proof.Finite.up_of_all x3 _ _ _ _ h3) i⟩, fun i => ⟨_, congrFun (Cert.Proof.Finite.up_of_all x4 _ _ _ _ h4) i⟩, fun i => ⟨_, congrFun (Cert.Proof.Finite.up_of_all x5 _ _ _ _ h5) i⟩, fun i => ⟨_, congrFun (Cert.Proof.Finite.up_of_all x6 _ _ _ _ h6) i⟩⟩

end Precondition

theorem algebraic [Cert.Pre_combine_bwd_finite.Facts] : Cert.algebraic_CombBwdIdeal_CombBwdRefIdeal_pre_combine_bwd_finite := by
  intro m g m' g' hpre hagree
  refine ⟨fun c => Go m c (L1 m c), fun c => Go m c (L2 m c), fun c => Go m c (L3 m c), fun c => Gl m c (L1 m c) (O1 m c), fun c => Gl m c (L2 m c) (O2 m c), fun c => Gl m c (L3 m c) (O3 m c),
    (θ_run Cert.CombBwdIdeal.defs _ _).mono (fun _ h c => ⟨(h c).1.trans (final7 m c), (h c).2.1.trans (final8 m c), (h c).2.2.1.trans (final9 m c), (h c).2.2.2.1.trans (final10 m c),
      (h c).2.2.2.2.1.trans (final11 m c), (h c).2.2.2.2.2.1.trans (final12 m c), (h c).2.2.2.2.2.2⟩) (Cert.CombBwdIdeal.Value.run_blocks m g),
    (θ_run Cert.CombBwdRefIdeal.defs _ _).mono (fun r h c => ?_) (Cert.CombBwdRefIdeal.Value.run (F := Ideal) m' g')⟩
  obtain ⟨r0, r1, r2, r3, r4, r5, r6⟩ := real_of_finite _ _ _ _ _ _ _ (hpre c)
  obtain ⟨a0, a1, a2, a3, a4, a5, a6⟩ := hagree c
  obtain ⟨h0, h1, h2, h3, h4, h5, hargs⟩ := h c
  refine ⟨h0.trans ?_, h1.trans ?_, h2.trans ?_, h3.trans ?_, h4.trans ?_, h5.trans ?_, hargs⟩ <;> clear h0 h1 h2 h3 h4 h5 hargs
  · refine (Cert.CombBwdRefIdeal.Read.val_main_v50_eq (F := Ideal) (m' ((c.tc : Thread Cert.CombBwdRefIdeal.nD Cert.CombBwdRefIdeal.τ).loc Cert.CombBwdRefIdeal.main_arg3)) (m' ((c.tc : Thread Cert.CombBwdRefIdeal.nD Cert.CombBwdRefIdeal.τ).loc Cert.CombBwdRefIdeal.main_arg4)) (m' ((c.tc : Thread Cert.CombBwdRefIdeal.nD Cert.CombBwdRefIdeal.τ).loc Cert.CombBwdRefIdeal.main_arg5)) (m' ((c.tc : Thread Cert.CombBwdRefIdeal.nD Cert.CombBwdRefIdeal.τ).loc Cert.CombBwdRefIdeal.main_arg6))).trans ?_
    rw [a3, a4, a5, a6]
    funext i
    idx_vars i
    exact (ref_do1 _ _ _ _ i0 i1).trans (dout_eq _ _ _ _ _ (r3 _) (r3 _) (r4 _) (r5 _) (r6 _))
  · refine (Cert.CombBwdRefIdeal.Read.val_main_v51_eq (F := Ideal) (m' ((c.tc : Thread Cert.CombBwdRefIdeal.nD Cert.CombBwdRefIdeal.τ).loc Cert.CombBwdRefIdeal.main_arg3)) (m' ((c.tc : Thread Cert.CombBwdRefIdeal.nD Cert.CombBwdRefIdeal.τ).loc Cert.CombBwdRefIdeal.main_arg4)) (m' ((c.tc : Thread Cert.CombBwdRefIdeal.nD Cert.CombBwdRefIdeal.τ).loc Cert.CombBwdRefIdeal.main_arg5)) (m' ((c.tc : Thread Cert.CombBwdRefIdeal.nD Cert.CombBwdRefIdeal.τ).loc Cert.CombBwdRefIdeal.main_arg6))).trans ?_
    rw [a3, a4, a5, a6]
    funext i
    idx_vars i
    exact (ref_do2 _ _ _ _ i0 i1).trans (dout_eq _ _ _ _ _ (r4 _) (r3 _) (r4 _) (r5 _) (r6 _))
  · refine (Cert.CombBwdRefIdeal.Read.val_main_v52_eq (F := Ideal) (m' ((c.tc : Thread Cert.CombBwdRefIdeal.nD Cert.CombBwdRefIdeal.τ).loc Cert.CombBwdRefIdeal.main_arg3)) (m' ((c.tc : Thread Cert.CombBwdRefIdeal.nD Cert.CombBwdRefIdeal.τ).loc Cert.CombBwdRefIdeal.main_arg4)) (m' ((c.tc : Thread Cert.CombBwdRefIdeal.nD Cert.CombBwdRefIdeal.τ).loc Cert.CombBwdRefIdeal.main_arg5)) (m' ((c.tc : Thread Cert.CombBwdRefIdeal.nD Cert.CombBwdRefIdeal.τ).loc Cert.CombBwdRefIdeal.main_arg6))).trans ?_
    rw [a3, a4, a5, a6]
    funext i
    idx_vars i
    exact (ref_do3 _ _ _ _ i0 i1).trans (dout_eq _ _ _ _ _ (r5 _) (r3 _) (r4 _) (r5 _) (r6 _))
  · refine (Cert.CombBwdRefIdeal.Read.val_main_v49_eq (F := Ideal) (m' ((c.tc : Thread Cert.CombBwdRefIdeal.nD Cert.CombBwdRefIdeal.τ).loc Cert.CombBwdRefIdeal.main_arg0)) (m' ((c.tc : Thread Cert.CombBwdRefIdeal.nD Cert.CombBwdRefIdeal.τ).loc Cert.CombBwdRefIdeal.main_arg1)) (m' ((c.tc : Thread Cert.CombBwdRefIdeal.nD Cert.CombBwdRefIdeal.τ).loc Cert.CombBwdRefIdeal.main_arg2)) (m' ((c.tc : Thread Cert.CombBwdRefIdeal.nD Cert.CombBwdRefIdeal.τ).loc Cert.CombBwdRefIdeal.main_arg3)) (m' ((c.tc : Thread Cert.CombBwdRefIdeal.nD Cert.CombBwdRefIdeal.τ).loc Cert.CombBwdRefIdeal.main_arg4)) (m' ((c.tc : Thread Cert.CombBwdRefIdeal.nD Cert.CombBwdRefIdeal.τ).loc Cert.CombBwdRefIdeal.main_arg5)) (m' ((c.tc : Thread Cert.CombBwdRefIdeal.nD Cert.CombBwdRefIdeal.τ).loc Cert.CombBwdRefIdeal.main_arg6))).trans ?_
    rw [a0, a1, a2, a3, a4, a5, a6]
    funext i
    idx_vars i
    exact (ref_dl1 _ _ _ _ _ _ _ i0 i1).trans (dlse_eq _ _ _ _ _ _ _ _ _ (r3 _) (r0 _) (r0 _) (r1 _) (r2 _) (r3 _) (r4 _) (r5 _) (r6 _))
  · refine (Cert.CombBwdRefIdeal.Read.val_main_v48_eq (F := Ideal) (m' ((c.tc : Thread Cert.CombBwdRefIdeal.nD Cert.CombBwdRefIdeal.τ).loc Cert.CombBwdRefIdeal.main_arg0)) (m' ((c.tc : Thread Cert.CombBwdRefIdeal.nD Cert.CombBwdRefIdeal.τ).loc Cert.CombBwdRefIdeal.main_arg1)) (m' ((c.tc : Thread Cert.CombBwdRefIdeal.nD Cert.CombBwdRefIdeal.τ).loc Cert.CombBwdRefIdeal.main_arg2)) (m' ((c.tc : Thread Cert.CombBwdRefIdeal.nD Cert.CombBwdRefIdeal.τ).loc Cert.CombBwdRefIdeal.main_arg3)) (m' ((c.tc : Thread Cert.CombBwdRefIdeal.nD Cert.CombBwdRefIdeal.τ).loc Cert.CombBwdRefIdeal.main_arg4)) (m' ((c.tc : Thread Cert.CombBwdRefIdeal.nD Cert.CombBwdRefIdeal.τ).loc Cert.CombBwdRefIdeal.main_arg5)) (m' ((c.tc : Thread Cert.CombBwdRefIdeal.nD Cert.CombBwdRefIdeal.τ).loc Cert.CombBwdRefIdeal.main_arg6))).trans ?_
    rw [a0, a1, a2, a3, a4, a5, a6]
    funext i
    idx_vars i
    exact (ref_dl2 _ _ _ _ _ _ _ i0 i1).trans (dlse_eq _ _ _ _ _ _ _ _ _ (r4 _) (r1 _) (r0 _) (r1 _) (r2 _) (r3 _) (r4 _) (r5 _) (r6 _))
  · refine (Cert.CombBwdRefIdeal.Read.val_main_v47_eq (F := Ideal) (m' ((c.tc : Thread Cert.CombBwdRefIdeal.nD Cert.CombBwdRefIdeal.τ).loc Cert.CombBwdRefIdeal.main_arg0)) (m' ((c.tc : Thread Cert.CombBwdRefIdeal.nD Cert.CombBwdRefIdeal.τ).loc Cert.CombBwdRefIdeal.main_arg1)) (m' ((c.tc : Thread Cert.CombBwdRefIdeal.nD Cert.CombBwdRefIdeal.τ).loc Cert.CombBwdRefIdeal.main_arg2)) (m' ((c.tc : Thread Cert.CombBwdRefIdeal.nD Cert.CombBwdRefIdeal.τ).loc Cert.CombBwdRefIdeal.main_arg3)) (m' ((c.tc : Thread Cert.CombBwdRefIdeal.nD Cert.CombBwdRefIdeal.τ).loc Cert.CombBwdRefIdeal.main_arg4)) (m' ((c.tc : Thread Cert.CombBwdRefIdeal.nD Cert.CombBwdRefIdeal.τ).loc Cert.CombBwdRefIdeal.main_arg5)) (m' ((c.tc : Thread Cert.CombBwdRefIdeal.nD Cert.CombBwdRefIdeal.τ).loc Cert.CombBwdRefIdeal.main_arg6))).trans ?_
    rw [a0, a1, a2, a3, a4, a5, a6]
    funext i
    idx_vars i
    exact (ref_dl3 _ _ _ _ _ _ _ i0 i1).trans (dlse_eq _ _ _ _ _ _ _ _ _ (r5 _) (r2 _) (r0 _) (r1 _) (r2 _) (r3 _) (r4 _) (r5 _) (r6 _))

end Cert.Proof.CombBwdIdeal

end
-- ==== Proof.CombFwdVal.lean ====
/-
  The combination of the groups' outputs: the kernel and the reference leave the same array.
-/
module

public import proofs.«01_k».proof.Proof.CombMath
public import proofs.«01_k».proof.Proof.Finite
public import proofs.«01_k».proof.Proof.Products
public import proofs.«01_k».proof.Pre_combine_finite
public import proofs.«01_k».proof.Defs
public import proofs.«01_k».proof.Proof.Gen.CombFwdIdeal.Value
public import proofs.«01_k».proof.Proof.Gen.CombFwdRefIdeal.Read
public import proofs.«01_k».proof.Proof.Gen.CombFwdRefIdeal.Run

@[expose] public section

set_option maxRecDepth 16384

noncomputable section

namespace Cert.Proof.CombFwdIdeal

open Cert.Proof.CombMath Cert.Proof.ConvMath
open Idealize.ShloMosaic Idealize.ShloMosaic.TcCoe Idealize.SL.Sem

section Kernel
open Cert.CombFwdIdeal Cert.CombFwdIdeal.Gen

theorem out_at (v0 v1 v2 v3 v4 v5 : Vec Ideal S256x512 .f32) (p : Fin 256) (j : Fin 512) :
    k0_pay1 (F := Ideal) v0 v1 v2 v3 v4 v5 (ix2 p j) = comb (v0 (ix2 p j)) (v1 (ix2 p j)) (v2 (ix2 p j)) (v3 (ix2 p j)) (v4 (ix2 p j)) (v5 (ix2 p j)) := by
  pointwise [k0_pay1]
  try rfl

variable (m : (ℓ : Loc nD τ sig) → Buf (Elt Ideal) ℓ) (c : Dev nD)

def O1 : FVec Ideal S8192x512 .f32 := m ((c.tc : Thread nD τ).loc main_arg0)
def O2 : FVec Ideal S8192x512 .f32 := m ((c.tc : Thread nD τ).loc main_arg1)
def O3 : FVec Ideal S8192x512 .f32 := m ((c.tc : Thread nD τ).loc main_arg2)
def L1 : FVec Ideal S8192x512 .f32 := m ((c.tc : Thread nD τ).loc main_arg3)
def L2 : FVec Ideal S8192x512 .f32 := m ((c.tc : Thread nD τ).loc main_arg4)
def L3 : FVec Ideal S8192x512 .f32 := m ((c.tc : Thread nD τ).loc main_arg5)
def G : FVec Ideal S8192x512 .f32 := fun i => comb (O1 m c i) (O2 m c i) (O3 m c i) (L1 m c i) (L2 m c i) (L3 m c i)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The row of the arrays that row `p` of a point's block is. -/
def at_ (t : Fin cfg0.N) (p : Fin 256) : Fin 8192 := ⟨256 * t.val + p.val, by have := lt_of_lt_of_eq t.isLt N_0; omega⟩

variable (t : Fin cfg0.N) (p : Fin 256) (j : Fin 512)

theorem in0 : iblk m c 0 t (ix2 p j) = O1 m c (ix2 (at_ t p) j) := congrArg (O1 m c) (by blk_ext [idx t, at_])
theorem in1 : iblk m c 1 t (ix2 p j) = O2 m c (ix2 (at_ t p) j) := congrArg (O2 m c) (by blk_ext [idx t, at_])
theorem in2 : iblk m c 2 t (ix2 p j) = O3 m c (ix2 (at_ t p) j) := congrArg (O3 m c) (by blk_ext [idx t, at_])
theorem in3 : iblk m c 3 t (ix2 p j) = L1 m c (ix2 (at_ t p) j) := congrArg (L1 m c) (by blk_ext [idx t, at_])
theorem in4 : iblk m c 4 t (ix2 p j) = L2 m c (ix2 (at_ t p) j) := congrArg (L2 m c) (by blk_ext [idx t, at_])
theorem in5 : iblk m c 5 t (ix2 p j) = L3 m c (ix2 (at_ t p) j) := congrArg (L3 m c) (by blk_ext [idx t, at_])

theorem final : (dats m 0 c).arrAt 6 cfg0.N = G m c := by
  refine (dats m 0 c).arrAt_eq_of_covers 6 _ (by decide +kernel) fun t hf y => ?_
  blk_simp
  rw [after0_6]
  unfold out0_6
  frame_out
  idx_vars y
  have e : ((View.whole main_v0).slice (win0_6.rect t)).emb (ix2 y0 y1) = ix2 (at_ t y0) y1 := by blk_ext [idx t, at_]
  refine ((out_at _ _ _ _ _ _ y0 y1).trans ?_).trans (congrArg (G m c) e).symm
  rw [in0, in1, in2, in3, in4, in5]
  rfl

end Kernel

section Reference
open Cert.CombFwdRefIdeal Cert.CombFwdRefIdeal.Read

theorem ref_out (x0 x1 x2 x3 x4 x5 : FVec Ideal S8192x512 .f32) (i : S8192x512.Idx) :
    val_main_v13 (F := Ideal) x0 x1 x2 x3 x4 x5 i = rcomb (x0 i) (x1 i) (x2 i) (x3 i) (x4 i) (x5 i) := rfl

end Reference

section Precondition
open Cert.Pre_combine_finite

theorem real_of_finite [Facts] (x0 x1 x2 x3 x4 x5 : FVec Ideal S8192x512 .f32)
    (h : fn (F := Ideal) x0 x1 x2 x3 x4 x5 = fun _ => 1#1) : (∀ i, IsR (x3 i)) ∧ (∀ i, IsR (x4 i)) ∧ ∀ i, IsR (x5 i) := by
  have hj := congrFun h (fun k => k.elim0)
  obtain ⟨h34, h5⟩ := IntOp.andi_eq_one.1 hj
  obtain ⟨h3, h4⟩ := IntOp.andi_eq_one.1 h34
  haveI : Subsingleton S_.Idx := ⟨fun a b => funext fun k => k.elim0⟩
  exact ⟨fun i => ⟨_, congrFun (Cert.Proof.Finite.up_of_all x3 _ _ _ _ h3) i⟩, fun i => ⟨_, congrFun (Cert.Proof.Finite.up_of_all x4 _ _ _ _ h4) i⟩,
    fun i => ⟨_, congrFun (Cert.Proof.Finite.up_of_all x5 _ _ _ _ h5) i⟩⟩

end Precondition

theorem algebraic [Cert.Pre_combine_finite.Facts] : Cert.algebraic_CombFwdIdeal_CombFwdRefIdeal_pre_combine_finite := by
  intro m g m' g' hpre hagree
  refine ⟨fun c => G m c,
    (θ_run Cert.CombFwdIdeal.defs _ _).mono (fun _ h c => ⟨(h c).1.trans (final m c), (h c).2⟩) (Cert.CombFwdIdeal.Value.run_blocks m g),
    (θ_run Cert.CombFwdRefIdeal.defs _ _).mono (fun r h c => ?_) (Cert.CombFwdRefIdeal.Value.run (F := Ideal) m' g')⟩
  obtain ⟨r3, r4, r5⟩ := real_of_finite _ _ _ _ _ _ (hpre c)
  obtain ⟨a0, a1, a2, a3, a4, a5⟩ := hagree c
  obtain ⟨h0, hargs⟩ := h c
  refine ⟨h0.trans ?_, hargs⟩
  rw [Cert.CombFwdRefIdeal.Read.val_main_v13_eq, a0, a1, a2, a3, a4, a5]
  funext i
  exact (ref_out _ _ _ _ _ _ i).trans (comb_eq _ _ _ _ _ _ (r3 i) (r4 i) (r5 i))

end Cert.Proof.CombFwdIdeal

end
-- ==== Proof.ConvFwdVal.lean ====
/-
  The convolution and its gate: the kernel and the reference leave the same array.
-/
module

public import proofs.«01_k».proof.Defs
public import proofs.«01_k».proof.Proof.Gen.ConvFwdIdeal.Value
public import proofs.«01_k».proof.Proof.Gen.ConvFwdRefIdeal.Read
public import proofs.«01_k».proof.Proof.Gen.ConvFwdRefIdeal.Run
public import proofs.«01_k».proof.Proof.ConvMath
public import proofs.«01_k».proof.Proof.Products

@[expose] public section

set_option maxRecDepth 16384

noncomputable section

namespace Cert.Proof.ConvFwdIdeal

open Cert.Proof.Products Cert.Proof.ConvMath
open Idealize.ShloMosaic Idealize.ShloMosaic.TcCoe Idealize.SL.Sem

/-- The gated product at a row of the padded array. -/
def gated (x0 : (⟨2, ![8192, 5632]⟩ : Shape).Idx → EReal) (x1 : (⟨2, ![3, 5632]⟩ : Shape).Idx → EReal) (x2 : (⟨2, ![1, 5632]⟩ : Shape).Idx → EReal) (n a : ℕ) : EReal :=
  conv x0 x1 x2 n a * sg (conv x0 x1 x2 n a) * conv x0 x1 x2 n (a + 2816)

section Kernel
open Cert.ConvFwdIdeal Cert.ConvFwdIdeal.Gen

variable (m : (ℓ : Loc nD τ sig) → Buf (Elt Ideal) ℓ) (c : Dev nD)

def U : FVec Ideal S8192x5632 .f32 := m ((c.tc : Thread nD τ).loc main_arg0)
def W : FVec Ideal S3x5632 .f32 := m ((c.tc : Thread nD τ).loc main_arg1)
def B : FVec Ideal S1x5632 .f32 := m ((c.tc : Thread nD τ).loc main_arg2)

/-! ## The blocks of the arguments -/

theorem idx : ∀ t : Fin cfg0.N, win0_0.index t = ![t.val / 11, t.val % 11] ∧ win0_1.index t = ![t.val / 11, t.val % 11 + 11]
    ∧ win0_4.index t = ![0, t.val % 11] ∧ win0_5.index t = ![0, t.val % 11 + 11] ∧ win0_6.index t = ![0, t.val % 11] ∧ win0_7.index t = ![0, t.val % 11 + 11]
    ∧ win0_8.index t = ![t.val / 11, t.val % 11] :=
  (by decide +kernel : ∀ t : Fin grid0.N, _)
theorem idx_prev : ∀ t : Fin cfg0.N, ¬t.val / 11 = 0 →
    win0_2.index t = ![128 * (t.val / 11) - 1, t.val % 11] ∧ win0_3.index t = ![128 * (t.val / 11) - 1, t.val % 11 + 11] :=
  (by decide +kernel : ∀ t : Fin grid0.N, _)
theorem coord : ∀ t : Fin cfg0.N, (grid0.coords t 0).val = t.val / 11 := (by decide +kernel : ∀ t : Fin grid0.N, _)
theorem tile_lt (t : Fin cfg0.N) : t.val / 11 < 8 := by have := lt_of_lt_of_eq t.isLt N_0; omega

/-- The column of the array that column `q` of a point's tile is. -/
abbrev col (t : Fin cfg0.N) (q : Fin 256) : ℕ := 256 * (t.val % 11) + q.val
theorem col_lt (t : Fin cfg0.N) (q : Fin 256) : col t q < 2816 := by have := q.isLt; unfold col; omega

theorem in0 (t : Fin cfg0.N) (r : Fin 1024) (q : Fin 256) : iblk m c 0 t (ix2 r q) = Z (U m c) (1024 * (t.val / 11) + 8 + r.val) (col t q) := by
  have h := col_lt t q
  have := tile_lt t
  refine Eq.trans ?_ (Z_of (U m c) ⟨1024 * (t.val / 11) + r.val, by omega⟩ ⟨col t q, by omega⟩ _ _ (by show _ = 1024 * (t.val / 11) + r.val + 8; omega) rfl).symm
  exact congrArg (U m c) (by blk_ext [idx t, col])
theorem in1 (t : Fin cfg0.N) (r : Fin 1024) (q : Fin 256) : iblk m c 1 t (ix2 r q) = Z (U m c) (1024 * (t.val / 11) + 8 + r.val) (col t q + 2816) := by
  have h := col_lt t q
  have := tile_lt t
  refine Eq.trans ?_ (Z_of (U m c) ⟨1024 * (t.val / 11) + r.val, by omega⟩ ⟨col t q + 2816, by omega⟩ _ _ (by show _ = 1024 * (t.val / 11) + r.val + 8; omega) rfl).symm
  exact congrArg (U m c) (by blk_ext [idx t, col])
theorem in2 (t : Fin cfg0.N) (h0 : ¬t.val / 11 = 0) (r : Fin 8) (q : Fin 256) : iblk m c 2 t (ix2 r q) = Z (U m c) (1024 * (t.val / 11) + r.val) (col t q) := by
  have h := col_lt t q
  have := tile_lt t
  refine Eq.trans ?_ (Z_of (U m c) ⟨1024 * (t.val / 11) - 8 + r.val, by omega⟩ ⟨col t q, by omega⟩ _ _ (by show _ = 1024 * (t.val / 11) - 8 + r.val + 8; omega) rfl).symm
  exact congrArg (U m c) (by blk_ext [idx_prev t h0, col])
theorem in3 (t : Fin cfg0.N) (h0 : ¬t.val / 11 = 0) (r : Fin 8) (q : Fin 256) : iblk m c 3 t (ix2 r q) = Z (U m c) (1024 * (t.val / 11) + r.val) (col t q + 2816) := by
  have h := col_lt t q
  have := tile_lt t
  refine Eq.trans ?_ (Z_of (U m c) ⟨1024 * (t.val / 11) - 8 + r.val, by omega⟩ ⟨col t q + 2816, by omega⟩ _ _ (by show _ = 1024 * (t.val / 11) - 8 + r.val + 8; omega) rfl).symm
  exact congrArg (U m c) (by blk_ext [idx_prev t h0, col])
theorem in4 (t : Fin cfg0.N) (k : Fin 3) (q : Fin 256) : iblk m c 4 t (ix2 k q) = tot (W m c) k.val (col t q) := by
  have h := col_lt t q
  rw [tot_of _ _ _ k.isLt (by omega)]
  exact congrArg (W m c) (by blk_ext [idx t, col])
theorem in5 (t : Fin cfg0.N) (k : Fin 3) (q : Fin 256) : iblk m c 5 t (ix2 k q) = tot (W m c) k.val (col t q + 2816) := by
  have h := col_lt t q
  rw [tot_of _ _ _ k.isLt (by omega)]
  exact congrArg (W m c) (by blk_ext [idx t, col])
theorem in6 (t : Fin cfg0.N) (q : Fin 256) : iblk m c 6 t (ix2 0 q) = tot (B m c) 0 (col t q) := by
  have h := col_lt t q
  rw [tot_of _ _ _ (by omega) (by omega)]
  exact congrArg (B m c) (by blk_ext [idx t, col])
theorem in7 (t : Fin cfg0.N) (q : Fin 256) : iblk m c 7 t (ix2 0 q) = tot (B m c) 0 (col t q + 2816) := by
  have h := col_lt t q
  rw [tot_of _ _ _ (by omega) (by omega)]
  exact congrArg (B m c) (by blk_ext [idx t, col])

/-! ## One tile, with the eight rows before it -/

/-- The extended tile, at the padded array's row. -/
theorem ext_at (x : S8192x5632.Idx → EReal) (t : Fin cfg0.N) (e0 : Vec Ideal S8x256 .f32) (e1 : Vec Ideal S1024x256 .f32) (q : Fin 256) (a : ℕ)
    (h0 : ¬t.val / 11 = 0 → ∀ r : Fin 8, e0 (ix2 r q) = Z x (1024 * (t.val / 11) + r.val) a)
    (h1 : ∀ r : Fin 1024, e1 (ix2 r q) = Z x (1024 * (t.val / 11) + 8 + r.val) a) (p : Fin 1032) :
    k0_pay3 (F := Ideal) (grid0.coords t) e0 e1 (ix2 p q) = Z x (1024 * (t.val / 11) + p.val) a := by
  pointwise [k0_pay3]
  rw [coord]
  split
  · by_cases h : t.val / 11 = 0
    · rw [h, Z_lt x _ _ (by omega)]
      rfl
    · have e : Scalar.cmpi .eq (BitVec.ofNat 32 (t.val / 11)) 0#32 = 0#1 := by
        have := tile_lt t
        interval_cases (t.val / 11) <;> first | rfl | exact absurd rfl h
      rw [e]
      exact h0 h ⟨p.val, by omega⟩
  · rw [h1]
    congr 1
    show _ + (p.val - 8) = _
    omega

/-- The gate half of the convolution is computed from the same extended tile. -/
theorem pay2_eq (i : grid0.Coords) (e0 : Vec Ideal S8x256 .f32) (e1 : Vec Ideal S1024x256 .f32) (w0 w1 w2 b : Vec Ideal S1x256 .f32) :
    k0_pay2 (F := Ideal) i e0 e1 w0 w1 w2 b = extractStridedSlice S1024x256 ![8, 0] (addf (addf (addf (k0_pay5 (F := Ideal) i e0 e1 w0)
      (mulf (broadcastTo S1032x256 w1 broadcasts_S1x256_S1032x256) (k0_pay4 (F := Ideal) i e0 e1)))
      (mulf (broadcastTo S1032x256 w2 broadcasts_S1x256_S1032x256) (k0_pay3 (F := Ideal) i e0 e1))) (broadcastTo S1032x256 b broadcasts_S1x256_S1032x256)) slices_S1032x256_o8_0_S1024x256 := rfl

section Taps
variable (t : Fin cfg0.N) (e0 : Vec Ideal S8x256 .f32) (e1 : Vec Ideal S1024x256 .f32) (w0 w1 w2 b : Vec Ideal S1x256 .f32) (q : Fin 256) (a : ℕ)
  (h0 : ¬t.val / 11 = 0 → ∀ r : Fin 8, e0 (ix2 r q) = Z (U m c) (1024 * (t.val / 11) + r.val) a)
  (h1 : ∀ r : Fin 1024, e1 (ix2 r q) = Z (U m c) (1024 * (t.val / 11) + 8 + r.val) a)
include h0 h1

theorem roll1_at (p : Fin 1032) (h : 1 ≤ p.val) : k0_pay4 (F := Ideal) (grid0.coords t) e0 e1 (ix2 p q) = Z (U m c) (1024 * (t.val / 11) + p.val - 1) a := by
  pointwise [k0_pay4]
  rw [ext_at (U m c) t e0 e1 q a h0 h1]
  congr 1
  show _ + (p.val + 1032 - 1) % 1032 = _
  omega
theorem roll2_at (p : Fin 1032) (h : 2 ≤ p.val) : k0_pay5 (F := Ideal) (grid0.coords t) e0 e1 w0 (ix2 p q) = w0 (ix2 0 q) * Z (U m c) (1024 * (t.val / 11) + p.val - 2) a := by
  pointwise [k0_pay5]
  rw [ext_at (U m c) t e0 e1 q a h0 h1]
  congr 2
  show _ + (p.val + 1032 - 2) % 1032 = _
  omega

variable (hw0 : w0 (ix2 0 q) = tot (W m c) 0 a) (hw1 : w1 (ix2 0 q) = tot (W m c) 1 a) (hw2 : w2 (ix2 0 q) = tot (W m c) 2 a) (hb : b (ix2 0 q) = tot (B m c) 0 a)
include hw0 hw1 hw2 hb

/-- One half of the convolution on the tile. -/
theorem conv_at (r : Fin 1024) : k0_pay2 (F := Ideal) (grid0.coords t) e0 e1 w0 w1 w2 b (ix2 r q) = conv (U m c) (W m c) (B m c) (1024 * (t.val / 11) + r.val + 8) a := by
  rw [pay2_eq]
  pointwise []
  rw [roll2_at m c t e0 e1 w0 q a h0 h1 _ (by show 2 ≤ 8 + r.val; omega), roll1_at m c t e0 e1 q a h0 h1 _ (by show 1 ≤ 8 + r.val; omega), ext_at (U m c) t e0 e1 q a h0 h1, hw0, hw1, hw2, hb]
  have e : 1024 * (t.val / 11) + (8 + r.val) = 1024 * (t.val / 11) + r.val + 8 := by omega
  unfold conv
  rw [e]

end Taps

/-- The result is the gate of the two halves. -/
theorem pay1_at (i : grid0.Coords) (x : FVec Ideal S1024x256 .f32) (e0 : Vec Ideal S8x256 .f32) (e1 : Vec Ideal S1024x256 .f32) (w0 w1 w2 b : Vec Ideal S1x256 .f32) (r : Fin 1024) (q : Fin 256) :
    k0_pay1 (F := Ideal) x (k0_pay3 i e0 e1) (k0_pay4 i e0 e1) (k0_pay5 i e0 e1 w0) w1 w2 b (ix2 r q)
      = (x (ix2 r q) * sg (x (ix2 r q)) * k0_pay2 (F := Ideal) i e0 e1 w0 w1 w2 b (ix2 r q) : EReal) := by
  rw [pay2_eq]
  generalize k0_pay3 (F := Ideal) i e0 e1 = y3
  generalize k0_pay4 (F := Ideal) i e0 e1 = y4
  generalize k0_pay5 (F := Ideal) i e0 e1 w0 = y5
  pointwise [k0_pay1]
  rfl

theorem ld_row (X : Vec Ideal S3x256 .f32) (k : Fin 3) (inb) (q : Fin 256) :
    View.ld (Val := Elt Ideal) (S := S3x256) X (Rect.unit ![k.val, 0] ![1, 256] inb) (ix2 0 q) = X (ix2 k q) := by
  refine congrArg X ?_
  funext a
  fin_cases a <;> apply Fin.ext <;> simp

/-- The array after the run. -/
def G : FVec Ideal S8192x2816 .bf16 := fun i => gated (U m c) (W m c) (B m c) ((i 0).val + 8) (i 1).val

theorem final : (dats m 0 c).arrAt 8 cfg0.N = G m c := by
  refine (dats m 0 c).arrAt_eq_of_covers 8 _ (by decide +kernel) fun t hf y => ?_
  blk_simp
  rw [after0_8]
  unfold out0_8
  frame_out
  idx_vars y
  rw [pay1_at]
  have hl := tile_lt t
  have e : ((View.whole main_v0).slice (win0_8.rect t)).emb (ix2 y0 y1) = ix2 (⟨1024 * (t.val / 11) + y0.val, by omega⟩ : Fin 8192) ⟨col t y1, col_lt t y1⟩ := by blk_ext [idx t, col]
  refine Eq.trans ?_ (congrArg (G m c) e).symm
  refine congrArg₂ (fun a b : EReal => a * sg a * b) ?_ ?_
  · exact conv_at m c t _ _ _ _ _ _ y1 _ (fun h r => in2 m c t h r y1) (fun r => in0 m c t r y1) ((ld_row _ 0 _ _).trans (in4 m c t _ _)) ((ld_row _ 1 _ _).trans (in4 m c t _ _))
      ((ld_row _ 2 _ _).trans (in4 m c t _ _)) (in6 m c t _) y0
  · exact conv_at m c t _ _ _ _ _ _ y1 _ (fun h r => in3 m c t h r y1) (fun r => in1 m c t r y1) ((ld_row _ 0 _ _).trans (in5 m c t _ _)) ((ld_row _ 1 _ _).trans (in5 m c t _ _))
      ((ld_row _ 2 _ _).trans (in5 m c t _ _)) (in7 m c t _) y0

end Kernel

section Reference
open Cert.ConvFwdRefIdeal Cert.ConvFwdRefIdeal.Read

variable (x0 : FVec Ideal S8192x5632 .f32) (x1 : FVec Ideal S3x5632 .f32) (x2 : FVec Ideal S1x5632 .f32)

theorem ref_shift2 (r : Fin 8192) (a : Fin 5632) : val_main_v3 (F := Ideal) x0 (ix2 r a) = Z x0 (r.val + 6) a.val := by
  pointwise [val_main_v3, val_main_v1, val_main_cst, val_main_v2]
  split
  · rw [Z_lt _ _ _ (by omega)]
  · rw [Z_of x0 ⟨r.val - 2, by omega⟩ a _ _ (by show r.val + 6 = r.val - 2 + 8; omega) rfl]
theorem ref_shift1 (r : Fin 8192) (a : Fin 5632) : val_main_v9 (F := Ideal) x0 (ix2 r a) = Z x0 (r.val + 7) a.val := by
  pointwise [val_main_v9, val_main_v7, val_main_cst_0, val_main_v8]
  split
  · rw [Z_lt _ _ _ (by omega)]
  · rw [Z_of x0 ⟨r.val - 1, by omega⟩ a _ _ (by show r.val + 7 = r.val - 1 + 8; omega) rfl]

theorem ref_conv (r : Fin 8192) (a : Fin 5632) : val_main_v18 (F := Ideal) x0 x1 x2 (ix2 r a) = conv x0 x1 x2 (r.val + 8) a.val := by
  pointwise [val_main_v18, val_main_v17, val_main_v16, val_main_v15, val_main_v14, val_main_v13, val_main_v12, val_main_v11, val_main_v10, val_main_v6, val_main_v5, val_main_v4, val_main_v0]
  rw [ref_shift2, ref_shift1]
  unfold conv
  rw [Z_add, tot_of x0 _ _ r.isLt a.isLt, tot_of x1 0 _ (by omega) a.isLt, tot_of x1 1 _ (by omega) a.isLt, tot_of x1 2 _ (by omega) a.isLt, tot_of x2 0 _ (by omega) a.isLt]
  rfl

theorem ref_final : val_main_v23 (F := Ideal) x0 x1 x2 = fun i => gated x0 x1 x2 ((i 0).val + 8) (i 1).val := by
  funext i
  idx_vars i
  pointwise [val_main_v23, val_main_v22, val_main_v21, val_main_v20, val_main_call0_v5, val_main_call0_v4, val_main_call0_v3, val_main_call0_v2, val_main_call0_v1, val_main_call0_v0, val_main_call0_cst, val_main_call0_cst_0, val_main_v19]
  rw [ref_conv, ref_conv]
  have e : 2816 + i1.val = i1.val + 2816 := by omega
  unfold gated
  rw [sg_eq]
  show _ * conv x0 x1 x2 (i0.val + 8) (2816 + i1.val) = _
  rw [e]

end Reference

theorem algebraic : Cert.algebraic_ConvFwdIdeal_ConvFwdRefIdeal := by
  intro m g m' g' _ hagree
  refine ⟨fun c => G m c,
    (θ_run Cert.ConvFwdIdeal.defs _ _).mono (fun _ h c => ⟨(h c).1.trans (final m c), (h c).2⟩) (Cert.ConvFwdIdeal.Value.run_blocks m g),
    (θ_run Cert.ConvFwdRefIdeal.defs _ _).mono (fun r h c => ⟨(h c).1.trans ?_, (h c).2⟩) (Cert.ConvFwdRefIdeal.Value.run (F := Ideal) m' g')⟩
  obtain ⟨a0, a1, a2⟩ := hagree c
  rw [Cert.ConvFwdRefIdeal.Read.val_main_v23_eq, a0, a1, a2]
  exact ref_final _ _ _

end Cert.Proof.ConvFwdIdeal

end
-- ==== Proof.Chunk.lean ====
/-
  The kernel body's chunks as functions of values: the tile of query rows `o` (512 of the 8192 rows) is read as a
  window, the two scratch accumulators and the tile of the query gradient take their products. `stepD` is the
  diagonal chunk (masked), `step` an off-diagonal one; `run j n` is the chunks `j, …, j + n - 1` in order. One trip
  of the counted loop is two chunks.
-/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Offsets in closed form -/

theorem off2_eq : ∀ (i : grid0.Coords) (k : Fin (k0_t1_loop i).trips) (r : Fin 2),
    k0_off2 i k (BitVec.ofNat 32 (1 + r.val)) = ![512 * ((i 1).val + 1 + 2 * k.val + r.val), 0] := by decide +kernel
theorem trips1_eq : ∀ i : grid0.Coords, (k0_t1_loop i).trips = (15 - (i 1).val) / 2 := by decide +kernel
theorem trips2_eq : ∀ i : grid0.Coords, (k0_t2_loop i).trips = 0 := by decide +kernel
theorem cond2_iff : ∀ i : grid0.Coords, k0_cond2 i = 1#1 ↔ (15 - (i 1).val) % 2 = 1 := by decide +kernel

theorem off2_1 (i : grid0.Coords) (k : Fin (k0_t1_loop i).trips) : k0_off2 i k 1#32 = ![512 * ((i 1).val + 1 + 2 * k.val), 0] := off2_eq i k 0
theorem off2_2 (i : grid0.Coords) (k : Fin (k0_t1_loop i).trips) : k0_off2 i k 2#32 = ![512 * ((i 1).val + 1 + 2 * k.val + 1), 0] := off2_eq i k 1
instance (i : grid0.Coords) (k : Fin (k0_t1_loop i).trips) : ClosedOff (k0_off2 i k 1#32) := ⟨_, off2_1 i k⟩
instance (i : grid0.Coords) (k : Fin (k0_t1_loop i).trips) : ClosedOff (k0_off2 i k 2#32) := ⟨_, off2_2 i k⟩

/-! ## A chunk as a function of values -/

theorem rowInb (o : Fin 16) : ∀ a, (![512 * o.val, 0] : Fin 2 → ℕ) a + S512x128.size a ≤ S8192x128.size a := by
  have := o.isLt
  intro a; fin_cases a
  · show 512 * o.val + 512 ≤ 8192; omega
  · show 0 + 128 ≤ 128; omega

/-- The rows of tile `o`. -/
abbrev tile {α : Type} (x : S8192x128.Idx → α) (o : Fin 16) : S512x128.Idx → α :=
  VecWindow.window x ![512 * o.val, 0] S512x128.size (rowInb o)
/-- `x` with the rows of tile `o` replaced. -/
abbrev putTile {α : Type} (x : S8192x128.Idx → α) (o : Fin 16) (w : S512x128.Idx → α) : S8192x128.Idx → α :=
  VecWindow.put x ![512 * o.val, 0] S512x128.size w

/-- A load of the rows of tile `o`, at an offset known to be theirs, of a buffer that reads `X`. -/
theorem read_tile {κ : Kind} {sp : Space} {e : EltTy} (v : View sig κ sp S8192x128 e) (f : v.ty.Contents (Elt F)) (X : S8192x128.Idx → Elt F e) (hX : v.read (Elt F) f = X)
    (off : Fin 2 → ℕ) (o : Fin 16) (inb : ∀ a, off a + S512x128.size a ≤ S8192x128.size a) (h : off = ![512 * o.val, 0]) :
    v.readAt (Elt F) (Rect.unit (s := S8192x128) off S512x128.size inb).toLoadRect f = tile X o :=
  (View.readAt_unit v f inb h (rowInb o)).trans (by rw [hX])

/-- Another tile's rows are kept by a store to tile `o`. -/
theorem tile_putTile {α : Type} (x : S8192x128.Idx → α) (o o' : Fin 16) (w : S512x128.Idx → α) (h : o ≠ o') : tile (putTile x o w) o' = tile x o' := by
  have : o.val ≠ o'.val := fun e => h (Fin.ext e)
  refine VecWindow.window_put_of_disjoint _ _ _ _ _ _ _ 0 ?_
  show 512 * o'.val + 512 ≤ 512 * o.val ∨ 512 * o.val + 512 ≤ 512 * o'.val
  omega

/-- What the body reads: the query, output-gradient, log-sum-exp and delta rows of the head, and one tile of keys and values. -/
structure Ins (F : FTy → Type) where
  q : FVec F S8192x128 .bf16
  k : FVec F S512x128 .bf16
  v : FVec F S512x128 .bf16
  ct : FVec F S8192x128 .bf16
  l : FVec F S8192x128 .f32
  d : FVec F S8192x128 .f32

/-- What the body accumulates: the query gradient, the key gradient's and the value gradient's tile. -/
@[ext] structure Acc (F : FTy → Type) where
  dq : FVec F S8192x128 .f32
  dk : FVec F S512x128 .f32
  dv : FVec F S512x128 .f32

/-- The chunk of query tile `o`, off the diagonal. -/
def step (x : Ins F) (o : Fin 16) (s : Acc F) : Acc F where
  dv := k0_pay5 (k0_pay36 x.k) (tile x.q o) (tile x.ct o) (tile x.l o) s.dv
  dk := k0_pay6 (k0_pay36 x.k) (k0_pay37 x.v) (tile x.q o) (tile x.ct o) (tile x.l o) (tile x.d o) s.dk
  dq := putTile s.dq o (k0_pay7 (k0_pay36 x.k) (k0_pay4 (k0_pay36 x.k) (k0_pay37 x.v) (tile x.q o) (tile x.ct o) (tile x.l o) (tile x.d o)) (tile s.dq o))
/-- The chunk of query tile `o` on the diagonal. -/
def stepD (x : Ins F) (o : Fin 16) (s : Acc F) : Acc F where
  dv := k0_pay43 (k0_pay39 (tile x.ct o)) (k0_pay40 x.k (tile x.q o) (tile x.l o)) s.dv
  dk := k0_pay44 (k0_pay38 (tile x.q o)) (k0_pay40 x.k (tile x.q o) (tile x.l o)) (k0_pay41 x.v (tile x.ct o)) (tile x.d o) s.dk
  dq := putTile s.dq o (k0_pay45 (k0_pay36 x.k) (k0_pay40 x.k (tile x.q o) (tile x.l o)) (k0_pay41 x.v (tile x.ct o)) (tile x.d o) (tile s.dq o))

/-- The off-diagonal chunks `j, …, j + n - 1`, in order (those below 16). -/
def run (x : Ins F) (j : ℕ) : ℕ → Acc F → Acc F
  | 0, s => s
  | n + 1, s => if h : j + n < 16 then step x ⟨j + n, h⟩ (run x j n s) else run x j n s

theorem run_succ (x : Ins F) (j n : ℕ) (s : Acc F) (h : j + n < 16) : run x j (n + 1) s = step x ⟨j + n, h⟩ (run x j n s) := by
  rw [run, dif_pos h]

section Trip

variable (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)

local notation "𝕄" => MT nD τ sig Unit (Elt F) ℕ (UR sig nD τ) ℕ

/-- The operands of the chunks: the inputs at `x`, the accumulators at `s`. -/
def held (x : Ins F) (s : Acc F) : sProp 𝕄 :=
  iprop(owns (c : Thread nD τ) arg2 fullShare x.q ∗ owns (c : Thread nD τ) arg3 fullShare x.k ∗ owns (c : Thread nD τ) arg4 fullShare x.v
    ∗ owns (c : Thread nD τ) arg5 fullShare x.ct ∗ owns (c : Thread nD τ) arg6 fullShare x.l ∗ owns (c : Thread nD τ) arg7 fullShare x.d
    ∗ owns (c : Thread nD τ) arg8 fullShare s.dq ∗ owns (c : Thread nD τ) arg11 fullShare s.dk ∗ owns (c : Thread nD τ) arg12 fullShare s.dv)

set_option maxHeartbeats 2000000 in
/-- One trip of the loop is two chunks. -/
theorem trip1 (x : Ins F) (s : Acc F) (a1 : BitVec 32) (k : Fin (k0_t1_loop i).trips) (h1 : (i 1).val + 1 + 2 * k.val < 16) (h2 : (i 1).val + 1 + 2 * k.val + 1 < 16) :
    held c arg2 arg3 arg4 arg5 arg6 arg7 arg8 arg11 arg12 x s ⊢ wp frame (wpE (defs₀ (F := F)) Variants.none (c : Thread nD τ) none) Set.univ
      (k0_t1_body (F := F) i arg2 harg2 arg3 harg3 arg4 harg4 arg5 harg5 arg6 harg6 arg7 harg7 arg8 harg8 arg9 harg9 arg10 harg10 arg11 harg11 arg12 harg12 a1 (k0_pay36 x.k) (k0_pay37 x.v) k ())
      (fun _ => held c arg2 arg3 arg4 arg5 arg6 arg7 arg8 arg11 arg12 x (step x ⟨_, h2⟩ (step x ⟨_, h1⟩ s))) := by
  unfold held owns k0_t1_body
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f11, %e11, H11⟩, ⟨%f12, %e12, H12⟩⟩
  sl_exec
  sl_step
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  have o1 := off2_1 i k
  have o2 := off2_2 i k
  have q1 := read_tile _ f2 _ e2 (k0_off2 i k 1#32) ⟨_, h1⟩ (k0_off2_inb i k 0) o1
  have q2 := read_tile _ f2 _ e2 (k0_off2 i k 2#32) ⟨_, h2⟩ (k0_off2_inb i k 1) o2
  have ct1 := read_tile _ f5 _ e5 (k0_off2 i k 1#32) ⟨_, h1⟩ (k0_off2_inb i k 0) o1
  have ct2 := read_tile _ f5 _ e5 (k0_off2 i k 2#32) ⟨_, h2⟩ (k0_off2_inb i k 1) o2
  have l1 := read_tile _ f6 _ e6 (k0_off2 i k 1#32) ⟨_, h1⟩ (k0_off2_inb i k 0) o1
  have l2 := read_tile _ f6 _ e6 (k0_off2 i k 2#32) ⟨_, h2⟩ (k0_off2_inb i k 1) o2
  have d1 := read_tile _ f7 _ e7 (k0_off2 i k 1#32) ⟨_, h1⟩ (k0_off2_inb i k 0) o1
  have d2 := read_tile _ f7 _ e7 (k0_off2 i k 2#32) ⟨_, h2⟩ (k0_off2_inb i k 1) o2
  have s1 := read_tile _ f8 _ e8 (k0_off2 i k 1#32) ⟨_, h1⟩ (k0_off2_inb i k 0) o1
  have s2 : ∀ w, arg8.view.readAt (Elt F) (Rect.unit (s := S8192x128) (k0_off2 i k 2#32) S512x128.size (k0_off2_inb i k 1)).toLoadRect f8 = tile (putTile s.dq ⟨_, h1⟩ w) ⟨_, h2⟩ := fun w =>
    (read_tile _ f8 _ e8 (k0_off2 i k 2#32) ⟨_, h2⟩ (k0_off2_inb i k 1) o2).trans (tile_putTile _ _ _ _ (fun e => absurd (congrArg Fin.val e) (by simp))).symm
  isplitl [H8]
  · iexists _; isplitr; swap; (· iexact H8); ipureintro
    refine (View.read_writes_cons_put _ _ _ _ _ o2).trans ?_
    refine (congrArg (fun z => VecWindow.put z _ _ _) ((View.read_writes_cons_put _ _ _ _ _ o1).trans (by rw [View.writes_nil, e8]))).trans ?_
    sl_unfold_run_names
    rw [s2]
    rw [q1, q2, ct1, ct2, l1, l2, d1, d2, s1]
    rfl
  isplitl [H11]
  · iexists _; isplitr; swap; (· iexact H11); ipureintro
    refine (View.read_writes_full (s := S512x128) _ _ _ _ _).trans ?_
    sl_unfold_run_names
    rw [View.readCov_full, View.readAt_full, e11]
    rw [q1, q2, ct1, ct2, l1, l2, d1, d2]
    rfl
  · iexists _; isplitr; swap; (· iexact H12); ipureintro
    refine (View.read_writes_full (s := S512x128) _ _ _ _ _).trans ?_
    sl_unfold_run_names
    rw [View.readCov_full, View.readAt_full, e12]
    rw [q1, q2, ct1, ct2, l1, l2]
    rfl

/-! ## The diagonal chunk -/

theorem zero_iff : ∀ i : grid0.Coords, (Scalar.cmpi .ne (Scalar.extui (Scalar.cmpi .eq (BitVec.ofNat 32 (i 1).val) 0#32) : BitVec 32) 0#32 = 1#1) ↔ (i 1).val = 0 := by decide +kernel

/-- What a point starts from: the tile accumulators at zero, the query gradient at zero on a head's first point. -/
def start (s : Acc F) : Acc F where
  dq := if (i 1).val = 0 then k0_pay33 else s.dq
  dk := k0_pay34
  dv := k0_pay35

/-- The tiles and products the first part hands on. -/
def handed (x : Ins F) : Σ' (arg1 : BitVec 32) (v12 : FVec F S512x128 .bf16) (v14 : FVec F S512x128 .bf16) (v16 : BitVec 32) (v19 : FVec F S512x128 .bf16) (v22 : FVec F S512x128 .bf16) (v34 : FVec F S512x512 .f32), FVec F S512x512 .f32 :=
  ⟨BitVec.ofNat 32 (i 1).val, k0_pay36 x.k, k0_pay37 x.v, Scalar.muli (BitVec.ofNat 32 (i 1).val) 512#32, k0_pay38 (tile x.q (i 1)), k0_pay39 (tile x.ct (i 1)), k0_pay40 x.k (tile x.q (i 1)) (tile x.l (i 1)), k0_pay41 x.v (tile x.ct (i 1))⟩

set_option maxHeartbeats 2000000 in
theorem part6 (x : Ins F) (s : Acc F) :
    held c arg2 arg3 arg4 arg5 arg6 arg7 arg8 arg11 arg12 x s ⊢ wp frame (wpE (defs₀ (F := F)) Variants.none (c : Thread nD τ) none) Set.univ
      (k0_part6 (F := F) i arg2 harg2 arg3 harg3 arg4 harg4 arg5 harg5 arg6 harg6 arg7 harg7 arg8 harg8 arg9 harg9 arg10 harg10 arg11 harg11 arg12 harg12)
      (fun r => iprop(⌜r = handed i x⌝ ∗ held c arg2 arg3 arg4 arg5 arg6 arg7 arg8 arg11 arg12 x (start i s))) := by
  rw [k0_part6_eq_skeleton]
  unfold k0_part6_skel held owns
  dsimp only
  by_cases hz : (i 1).val = 0
  · rw [dif_pos ((zero_iff i).mpr hz)]
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f11, %e11, H11⟩, ⟨%f12, %e12, H12⟩⟩
    sl_exec
    sl_step
    have q1 := read_tile _ f2 _ e2 (k0_off1 i) (i 1) (k0_off1_inb i) (k0_off1_eq i)
    have ct1 := read_tile _ f5 _ e5 (k0_off1 i) (i 1) (k0_off1_inb i) (k0_off1_eq i)
    have l1 := read_tile _ f6 _ e6 (k0_off1 i) (i 1) (k0_off1_inb i) (k0_off1_eq i)
    have k1 := View.readAt_full arg3.view f3 inb_S512x128_S512x128_0_0
    have v1 := View.readAt_full arg4.view f4 inb_S512x128_S512x128_0_0
    rw [e3] at k1; rw [e4] at v1
    isplitr
    · ipureintro
      sl_unfold_run_names
      rw [k1, v1, q1, ct1, l1]; rfl
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    isplitl [H7]; · iexists f7; isplitr; · ipureintro; exact e7
                    iexact H7
    isplitl [H8]
    · iexists _; isplitr; swap; (· iexact H8); ipureintro
      refine (View.read_writes_full (s := S8192x128) _ _ _ _ _).trans (if_pos hz).symm
    isplitl [H11]
    · iexists _; isplitr; swap; (· iexact H11); ipureintro
      exact View.read_writes_full (s := S512x128) _ _ _ _ _
    · iexists _; isplitr; swap; (· iexact H12); ipureintro
      exact View.read_writes_full (s := S512x128) _ _ _ _ _
  · rw [dif_neg (fun h => hz ((zero_iff i).mp h))]
    iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f11, %e11, H11⟩, ⟨%f12, %e12, H12⟩⟩
    sl_exec
    sl_step
    have q1 := read_tile _ f2 _ e2 (k0_off1 i) (i 1) (k0_off1_inb i) (k0_off1_eq i)
    have ct1 := read_tile _ f5 _ e5 (k0_off1 i) (i 1) (k0_off1_inb i) (k0_off1_eq i)
    have l1 := read_tile _ f6 _ e6 (k0_off1 i) (i 1) (k0_off1_inb i) (k0_off1_eq i)
    have k1 := View.readAt_full arg3.view f3 inb_S512x128_S512x128_0_0
    have v1 := View.readAt_full arg4.view f4 inb_S512x128_S512x128_0_0
    rw [e3] at k1; rw [e4] at v1
    isplitr
    · ipureintro
      sl_unfold_run_names
      rw [k1, v1, q1, ct1, l1]; rfl
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists f6; isplitr; · ipureintro; exact e6
                    iexact H6
    isplitl [H7]; · iexists f7; isplitr; · ipureintro; exact e7
                    iexact H7
    isplitl [H8]
    · iexists f8; isplitr; swap; (· iexact H8); ipureintro
      exact e8.trans (if_neg hz).symm
    isplitl [H11]
    · iexists _; isplitr; swap; (· iexact H11); ipureintro
      exact View.read_writes_full (s := S512x128) _ _ _ _ _
    · iexists _; isplitr; swap; (· iexact H12); ipureintro
      exact View.read_writes_full (s := S512x128) _ _ _ _ _

set_option maxHeartbeats 2000000 in
theorem part7 (x : Ins F) (s : Acc F) (a1 v16 : BitVec 32) :
    held c arg2 arg3 arg4 arg5 arg6 arg7 arg8 arg11 arg12 x s ⊢ wp frame (wpE (defs₀ (F := F)) Variants.none (c : Thread nD τ) none) Set.univ
      (k0_part7 (F := F) i arg2 harg2 arg3 harg3 arg4 harg4 arg5 harg5 arg6 harg6 arg7 harg7 arg8 harg8 arg9 harg9 arg10 harg10 arg11 harg11 arg12 harg12 a1 (k0_pay36 x.k) v16 (k0_pay38 (tile x.q (i 1))) (k0_pay39 (tile x.ct (i 1))) (k0_pay40 x.k (tile x.q (i 1)) (tile x.l (i 1))) (k0_pay41 x.v (tile x.ct (i 1))))
      (fun _ => held c arg2 arg3 arg4 arg5 arg6 arg7 arg8 arg11 arg12 x (stepD x (i 1) s)) := by
  rw [k0_part7_eq_skeleton]
  unfold k0_part7_skel held owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f11, %e11, H11⟩, ⟨%f12, %e12, H12⟩⟩
  sl_exec
  sl_step
  have q1 := read_tile _ f2 _ e2 (k0_off1 i) (i 1) (k0_off1_inb i) (k0_off1_eq i)
  have ct1 := read_tile _ f5 _ e5 (k0_off1 i) (i 1) (k0_off1_inb i) (k0_off1_eq i)
  have l1 := read_tile _ f6 _ e6 (k0_off1 i) (i 1) (k0_off1_inb i) (k0_off1_eq i)
  have d1 := read_tile _ f7 _ e7 (k0_off1 i) (i 1) (k0_off1_inb i) (k0_off1_eq i)
  have s1 := read_tile _ f8 _ e8 (k0_off1 i) (i 1) (k0_off1_inb i) (k0_off1_eq i)
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]
  · iexists _; isplitr; swap; (· iexact H8); ipureintro
    refine (View.read_writes_cons_put _ _ _ _ _ (k0_off1_eq i)).trans ?_
    rw [View.writes_nil, e8]
    rw [d1, s1]
    rfl
  isplitl [H11]
  · iexists _; isplitr; swap; (· iexact H11); ipureintro
    refine (View.read_writes_full (s := S512x128) _ _ _ _ _).trans ?_
    rw [View.readAt_full, e11, d1]
    rfl
  · iexists _; isplitr; swap; (· iexact H12); ipureintro
    refine (View.read_writes_full (s := S512x128) _ _ _ _ _).trans ?_
    rw [View.readAt_full, e12]
    rfl

/-! ## The odd chunk -/

set_option maxHeartbeats 2000000 in
theorem odd {β : Type} (x : Ins F) (s : Acc F) (kk : PUnit → Prog (TpuEff nD τ sig (Elt F) Λ₀ .tc) β) (Q : β → sProp 𝕄) :
    iprop(held c arg2 arg3 arg4 arg5 arg6 arg7 arg8 arg11 arg12 x s ∗ (held c arg2 arg3 arg4 arg5 arg6 arg7 arg8 arg11 arg12 x (step x 15 s) -∗ wp frame (wpE (defs₀ (F := F)) Variants.none (c : Thread nD τ) none) Set.univ (kk ⟨⟩) Q)) ⊢ wp frame (wpE (defs₀ (F := F)) Variants.none (c : Thread nD τ) none) Set.univ
      (do
        let ⟨v104, v141, v142, cst_72⟩ : Σ' (v104 : BitVec 32) (v141 : FVec F S512x128 .f32) (v142 : FVec F S512x512 .bf16), FVec F S512x128 .f32 ← k0_part5 (F := F) i arg2 harg2 arg3 harg3 arg4 harg4 arg5 harg5 arg6 harg6 arg7 harg7 arg8 harg8 arg9 harg9 arg10 harg10 arg11 harg11 arg12 harg12 (k0_pay36 x.k) (k0_pay37 x.v)
        let v146 : Vec F S512x128 .f32 ← Prog.lift (.load arg8 (Rect.unit (s := S8192x128) ![7680, 0] S512x128.size inb_S8192x128_S512x128_7680_0).toLoadRect (View.loadsAt_vmem h_S512x128))
        Prog.lift (.store arg8 (Rect.unit (s := S8192x128) ![7680, 0] S512x128.size inb_S8192x128_S512x128_7680_0) (k0_pay50 (k0_pay36 x.k) v141 v142 cst_72) Finset.univ (View.stores_vmem_bits_univ h_S512x128 rfl) (.inl rfl))
        kk ⟨⟩ : Prog (TpuEff nD τ sig (Elt F) Λ₀ .tc) β)
      Q := by
  unfold held owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f11, %e11, H11⟩, ⟨%f12, %e12, H12⟩⟩, HK⟩
  sl_exec
  iapply HK
  have q1 := read_tile _ f2 _ e2 ![7680, 0] 15 inb_S8192x128_S512x128_7680_0 rfl
  have ct1 := read_tile _ f5 _ e5 ![7680, 0] 15 inb_S8192x128_S512x128_7680_0 rfl
  have l1 := read_tile _ f6 _ e6 ![7680, 0] 15 inb_S8192x128_S512x128_7680_0 rfl
  have d1 := read_tile _ f7 _ e7 ![7680, 0] 15 inb_S8192x128_S512x128_7680_0 rfl
  have s1 := read_tile _ f8 _ e8 ![7680, 0] 15 inb_S8192x128_S512x128_7680_0 rfl
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]
  · iexists _; isplitr; swap; (· iexact H8); ipureintro
    refine (View.read_writes_cons_put _ _ _ _ _ (show ![7680, 0] = ![512 * (15 : Fin 16).val, 0] from rfl)).trans ?_
    rw [View.writes_nil, e8]
    sl_unfold_run_names
    rw [q1, ct1, l1, d1, s1]
    rfl
  isplitl [H11]
  · iexists _; isplitr; swap; (· iexact H11); ipureintro
    refine (View.read_writes_full (s := S512x128) _ _ _ _ _).trans ?_
    sl_unfold_run_names
    rw [View.readAt_full, e11, q1, ct1, l1, d1]
    rfl
  · iexists _; isplitr; swap; (· iexact H12); ipureintro
    refine (View.read_writes_full (s := S512x128) _ _ _ _ _).trans ?_
    sl_unfold_run_names
    rw [View.readAt_full, e12, q1, ct1, l1]
    rfl

/-- The copies of the two tile accumulators to their output tiles, up to the second's store, as the body has them. -/
abbrev tailP : Prog (TpuEff nD τ sig (Elt F) Λ₀ .tc) (Vec F S512x128 .f32) :=
  (do
        let v100 : Vec F S512x128 .f32 ← Prog.lift (.load arg11 (Rect.unit (s := S512x128) ![0, 0] S512x128.size inb_S512x128_S512x128_0_0).toLoadRect (View.loadsAt_vmem h_S512x128))
        let v101 : Vec F S512x128 .f32 ← Prog.lift (.load arg9 (Rect.unit (s := S512x128) ![0, 0] S512x128.size inb_S512x128_S512x128_0_0).toLoadRect (View.loadsAt_vmem h_S512x128))
        Prog.lift (.store arg9 (Rect.unit (s := S512x128) ![0, 0] S512x128.size inb_S512x128_S512x128_0_0) v100 Finset.univ (View.stores_vmem_bits_univ h_S512x128 rfl) (.inl rfl))
        let v102 : Vec F S512x128 .f32 ← Prog.lift (.load arg12 (Rect.unit (s := S512x128) ![0, 0] S512x128.size inb_S512x128_S512x128_0_0).toLoadRect (View.loadsAt_vmem h_S512x128))
        let v103 : Vec F S512x128 .f32 ← Prog.lift (.load arg10 (Rect.unit (s := S512x128) ![0, 0] S512x128.size inb_S512x128_S512x128_0_0).toLoadRect (View.loadsAt_vmem h_S512x128))
        pure v102 : Prog (TpuEff nD τ sig (Elt F) Λ₀ .tc) (Vec F S512x128 .f32))

set_option maxHeartbeats 2000000 in
/-- The copies of the two tile accumulators to their output tiles, up to the second's store. -/
theorem tail (x : Ins F) (s : Acc F) (y9 y10 : FVec F S512x128 .f32) :
    iprop(held c arg2 arg3 arg4 arg5 arg6 arg7 arg8 arg11 arg12 x s ∗ owns (c : Thread nD τ) arg9 fullShare y9 ∗ owns (c : Thread nD τ) arg10 fullShare y10) ⊢ wp frame (wpE (defs₀ (F := F)) Variants.none (c : Thread nD τ) none) Set.univ
      (tailP arg9 arg10 arg11 arg12)
      (fun v => iprop(⌜v = s.dv⌝ ∗ held c arg2 arg3 arg4 arg5 arg6 arg7 arg8 arg11 arg12 x s ∗ owns (c : Thread nD τ) arg9 fullShare s.dk ∗ owns (c : Thread nD τ) arg10 fullShare y10)) := by
  unfold held owns tailP
  iintro ⟨⟨H2, H3, H4, H5, H6, H7, H8, ⟨%f11, %e11, H11⟩, ⟨%f12, %e12, H12⟩⟩, ⟨%f9, %e9, H9⟩, ⟨%f10, %e10, H10⟩⟩
  sl_exec
  sl_step
  isplitr
  · ipureintro
    sl_unfold_run_names
    rw [View.readAt_full, e12]
  isplitl [H2 H3 H4 H5 H6 H7 H8 H11 H12]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]
    · iexists f11; isplitr; swap; (· iexact H11); ipureintro; exact e11
    · iexists f12; isplitr; swap; (· iexact H12); ipureintro; exact e12
  isplitl [H9]
  · iexists _; isplitr; swap; (· iexact H9); ipureintro
    refine (View.read_writes_full (s := S512x128) _ _ _ _ _).trans ?_
    sl_unfold_run_names
    rw [View.readAt_full, e11]
  · iexists f10; isplitr; swap; (· iexact H10); ipureintro; exact e10

/-- The second accumulator's store. -/
theorem store10 (v y10 : FVec F S512x128 .f32) :
    (owns (c : Thread nD τ) arg10 fullShare y10 : sProp 𝕄) ⊢ wp frame (wpE (defs₀ (F := F)) Variants.none (c : Thread nD τ) none) Set.univ
      (do
        Prog.lift (.store arg10 (Rect.unit (s := S512x128) ![0, 0] S512x128.size inb_S512x128_S512x128_0_0) v Finset.univ (View.stores_vmem_bits_univ h_S512x128 rfl) (.inl rfl))
        pure ⟨⟩ : Prog (TpuEff nD τ sig (Elt F) Λ₀ .tc) PUnit)
      (fun _ => owns (c : Thread nD τ) arg10 fullShare v) := by
  unfold owns
  iintro ⟨%f10, %e10, H10⟩
  sl_exec
  sl_step
  iexists _; isplitr; swap; (· iexact H10); ipureintro
  exact View.read_writes_full (s := S512x128) _ _ _ _ _

end Trip

end Cert.Proof.KernelIdeal

end
-- ==== Proof.Point.lean ====
/-
  One grid point of the kernel: the diagonal chunk, the counted loop of pairs, the odd chunk, the copies out. The point
  leaves the chunks `j, …, 15` of `Chunk.lean` run over what it started from.
-/
module

public import proofs.«01_k».proof.Proof.Chunk

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

section Point

variable (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .f32) (harg6 : arg6.IsWhole) (arg7 : Memref sig .tc .vmem S8192x128 .f32) (harg7 : arg7.IsWhole) (arg8 : Memref sig .tc .vmem S8192x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)

local notation "𝕄" => MT nD τ sig Unit (Elt F) ℕ (UR sig nD τ) ℕ

/-- What a point makes of the accumulators: the diagonal chunk and the chunks after it. -/
def point (x : Ins F) (s : Acc F) : Acc F := run x ((i 1).val + 1) (15 - (i 1).val) (stepD x (i 1) (start i s))

/-- Two programs in sequence. -/
theorem seq {α β : Type} {p : Prog (TpuEff nD τ sig (Elt F) Λ₀ .tc) α} {k : α → Prog (TpuEff nD τ sig (Elt F) Λ₀ .tc) β} {P : sProp 𝕄} {R : α → sProp 𝕄} {Q : β → sProp 𝕄}
    (h1 : P ⊢ wp frame (wpE (defs₀ (F := F)) Variants.none (c : Thread nD τ) none) Set.univ p R)
    (h2 : ∀ a, R a ⊢ wp frame (wpE (defs₀ (F := F)) Variants.none (c : Thread nD τ) none) Set.univ (k a) Q) :
    P ⊢ wp frame (wpE (defs₀ (F := F)) Variants.none (c : Thread nD τ) none) Set.univ (p >>= k) Q := by
  rw [wp_bind]; exact h1.trans (wp_mono _ _ _ h2)

/-- The same inside a proof: the first program takes its resources, the rest goes on from what it leaves. -/
theorem seq' {α β : Type} {p : Prog (TpuEff nD τ sig (Elt F) Λ₀ .tc) α} {k : α → Prog (TpuEff nD τ sig (Elt F) Λ₀ .tc) β} {P : sProp 𝕄} {R : α → sProp 𝕄} {Q : β → sProp 𝕄}
    (h1 : P ⊢ wp frame (wpE (defs₀ (F := F)) Variants.none (c : Thread nD τ) none) Set.univ p R) :
    iprop(P ∗ (∀ a, R a -∗ wp frame (wpE (defs₀ (F := F)) Variants.none (c : Thread nD τ) none) Set.univ (k a) Q)) ⊢ wp frame (wpE (defs₀ (F := F)) Variants.none (c : Thread nD τ) none) Set.univ (p >>= k) Q := by
  rw [wp_bind]; exact (BI.sep_mono_l h1).trans (wp_wand_r _ _ _)

/-- The counted loop of pairs runs the chunks two by two. -/
theorem loop1 (x : Ins F) (s : Acc F) (a1 : BitVec 32) :
    held c arg2 arg3 arg4 arg5 arg6 arg7 arg8 arg11 arg12 x s ⊢ wp frame (wpE (defs₀ (F := F)) Variants.none (c : Thread nD τ) none) Set.univ
      (Scf.Loop.for (k0_t1_loop i) (k0_t1_ok i) ⟨⟩ (k0_t1_body (F := F) i arg2 harg2 arg3 harg3 arg4 harg4 arg5 harg5 arg6 harg6 arg7 harg7 arg8 harg8 arg9 harg9 arg10 harg10 arg11 harg11 arg12 harg12 a1 (k0_pay36 x.k) (k0_pay37 x.v)))
      (fun _ => held c arg2 arg3 arg4 arg5 arg6 arg7 arg8 arg11 arg12 x (run x ((i 1).val + 1) (2 * ((15 - (i 1).val) / 2)) s)) := by
  have hj : (i 1).val < 16 := (i 1).isLt
  refine BI.BIBase.Entails.trans ?_ (Scf.wp_for frame (wpE (defs₀ (F := F)) Variants.none (c : Thread nD τ) none) Set.univ _ _ _ _ _ _
    (fun k _ => held c arg2 arg3 arg4 arg5 arg6 arg7 arg8 arg11 arg12 x (run x ((i 1).val + 1) (2 * k) s)) ?_)
  · iintro H
    isplitl [H]; · iexact H
    iintro %a H
    rw [← trips1_eq i]; iexact H
  · intro k a
    have hk : k.val < (15 - (i 1).val) / 2 := lt_of_lt_of_eq k.isLt (trips1_eq i)
    have e : run x ((i 1).val + 1) (2 * (k.val + 1)) s = step x ⟨(i 1).val + 1 + 2 * k.val + 1, by omega⟩ (step x ⟨(i 1).val + 1 + 2 * k.val, by omega⟩ (run x ((i 1).val + 1) (2 * k.val) s)) := by
      rw [show 2 * (k.val + 1) = 2 * k.val + 1 + 1 from rfl, run_succ _ _ _ _ (by omega), run_succ _ _ _ _ (by omega)]; rfl
    dsimp only
    rw [e]
    exact trip1 c i arg2 harg2 arg3 harg3 arg4 harg4 arg5 harg5 arg6 harg6 arg7 harg7 arg8 harg8 arg9 harg9 arg10 harg10 arg11 harg11 arg12 harg12 x _ a1 k _ _

/-- The second loop, of single chunks left over by the counted one, makes no trip. -/
theorem loop2 (x : Ins F) (s : Acc F) (a1 : BitVec 32) (v86 : BitVec 32) :
    held c arg2 arg3 arg4 arg5 arg6 arg7 arg8 arg11 arg12 x s ⊢ wp frame (wpE (defs₀ (F := F)) Variants.none (c : Thread nD τ) none) Set.univ
      (Scf.Loop.for (k0_t2_loop i) (k0_t2_ok i) ⟨⟩ (k0_t2_body (F := F) i arg2 harg2 arg3 harg3 arg4 harg4 arg5 harg5 arg6 harg6 arg7 harg7 arg8 harg8 arg9 harg9 arg10 harg10 arg11 harg11 arg12 harg12 a1 (k0_pay36 x.k) (k0_pay37 x.v) v86))
      (fun _ => held c arg2 arg3 arg4 arg5 arg6 arg7 arg8 arg11 arg12 x s) := by
  refine BI.BIBase.Entails.trans ?_ (Scf.wp_for frame (wpE (defs₀ (F := F)) Variants.none (c : Thread nD τ) none) Set.univ _ _ _ _ _ _
    (fun _ _ => held c arg2 arg3 arg4 arg5 arg6 arg7 arg8 arg11 arg12 x s) ?_)
  · iintro H
    isplitl [H]; · iexact H
    iintro %a H
    iexact H
  · intro k
    exact absurd (lt_of_lt_of_eq k.isLt (trips2_eq i)) (Nat.not_lt_zero _)

set_option maxHeartbeats 400000 in
/-- One grid point. -/
theorem whole (x : Ins F) (s : Acc F) (y9 y10 : FVec F S512x128 .f32) :
    iprop(held c arg2 arg3 arg4 arg5 arg6 arg7 arg8 arg11 arg12 x s ∗ owns (c : Thread nD τ) arg9 fullShare y9 ∗ owns (c : Thread nD τ) arg10 fullShare y10) ⊢ wp frame (wpE (defs₀ (F := F)) Variants.none (c : Thread nD τ) none) Set.univ
      (cc0_l1_mla_bwd (F := F) i arg2 harg2 arg3 harg3 arg4 harg4 arg5 harg5 arg6 harg6 arg7 harg7 arg8 harg8 arg9 harg9 arg10 harg10 arg11 harg11 arg12 harg12)
      (fun _ => iprop(held c arg2 arg3 arg4 arg5 arg6 arg7 arg8 arg11 arg12 x (point i x s) ∗ owns (c : Thread nD τ) arg9 fullShare (point i x s).dk ∗ owns (c : Thread nD τ) arg10 fullShare (point i x s).dv)) := by
  unfold cc0_l1_mla_bwd
  rw [k0_part8_eq_skeleton]
  unfold k0_part8_skel
  refine seq c (R := fun v => iprop(⌜v = (point i x s).dv⌝ ∗ held c arg2 arg3 arg4 arg5 arg6 arg7 arg8 arg11 arg12 x (point i x s) ∗ owns (c : Thread nD τ) arg9 fullShare (point i x s).dk ∗ owns (c : Thread nD τ) arg10 fullShare y10)) ?_ fun v102 => ?_
  rotate_left
  · iintro ⟨%hv, H, H9, H10⟩
    subst hv
    iapply (wp_wand_r _ _ _)
    isplitl [H10]; · iapply (store10 c arg10 _ y10); iexact H10
    iintro %_ H10
    isplitl [H]; · iexact H
    isplitl [H9] <;> iassumption
  have hj : (i 1).val < 16 := (i 1).isLt
  refine seq c ((BI.sep_mono_l (part6 c i arg2 harg2 arg3 harg3 arg4 harg4 arg5 harg5 arg6 harg6 arg7 harg7 arg8 harg8 arg9 harg9 arg10 harg10 arg11 harg11 arg12 harg12 x s)).trans (wp_frame_r _ _ _)) fun r => ?_
  iintro ⟨⟨%hr, H⟩, HO⟩
  subst hr
  unfold handed
  dsimp only
  iapply (seq' c (part7 c i arg2 harg2 arg3 harg3 arg4 harg4 arg5 harg5 arg6 harg6 arg7 harg7 arg8 harg8 arg9 harg9 arg10 harg10 arg11 harg11 arg12 harg12 x (start i s) _ _))
  isplitl [H]; · iexact H
  iintro %r H
  dsimp only
  iapply (seq' c (loop1 c i arg2 harg2 arg3 harg3 arg4 harg4 arg5 harg5 arg6 harg6 arg7 harg7 arg8 harg8 arg9 harg9 arg10 harg10 arg11 harg11 arg12 harg12 x _ _))
  isplitl [H]; · iexact H
  iintro %_ H
  iapply (seq' c (loop2 c i arg2 harg2 arg3 harg3 arg4 harg4 arg5 harg5 arg6 harg6 arg7 harg7 arg8 harg8 arg9 harg9 arg10 harg10 arg11 harg11 arg12 harg12 x _ _ _))
  isplitl [H]; · iexact H
  iintro %_ H
  by_cases ho : k0_cond2 i = 1#1
  · have h1 := (cond2_iff i).mp ho
    rw [dif_pos ho]
    have e : point i x s = step x 15 (run x ((i 1).val + 1) (2 * ((15 - (i 1).val) / 2)) (stepD x (i 1) (start i s))) := by
      unfold point
      rw [show 15 - (i 1).val = 2 * ((15 - (i 1).val) / 2) + 1 by omega, run_succ _ _ _ _ (by omega)]
      congr 1
      · exact Fin.ext (by show (i 1).val + 1 + _ = 15; omega)
      · congr 1; omega
    iapply (odd c i arg2 harg2 arg3 harg3 arg4 harg4 arg5 harg5 arg6 harg6 arg7 harg7 arg8 harg8 arg9 harg9 arg10 harg10 arg11 harg11 arg12 harg12 x (run x ((i 1).val + 1) (2 * ((15 - (i 1).val) / 2)) (stepD x (i 1) (start i s))) (fun _ : PUnit.{1} => tailP arg9 arg10 arg11 arg12) _)
    isplitl [H]; · iexact H
    iintro H
    rw [← e]
    iapply (tail c arg2 arg3 arg4 arg5 arg6 arg7 arg8 arg9 arg10 arg11 arg12 x _ y9 y10)
    isplitl [H] <;> iassumption
  · have h1 := mt (cond2_iff i).mpr ho
    rw [dif_neg ho]
    have e : point i x s = run x ((i 1).val + 1) (2 * ((15 - (i 1).val) / 2)) (stepD x (i 1) (start i s)) := by
      unfold point
      rw [show 2 * ((15 - (i 1).val) / 2) = 15 - (i 1).val by omega]
    rw [← e]
    iapply (tail c arg2 arg3 arg4 arg5 arg6 arg7 arg8 arg9 arg10 arg11 arg12 x _ y9 y10)
    isplitl [H] <;> iassumption

end Point

end Cert.Proof.KernelIdeal

end
-- ==== Proof.Run.lean ====
/-
  The run of the kernel and its frame: at every grid point the windows hold the blocks of the arrays, the query
  gradient's buffer what the head's points before left in it, and the point leaves `accAt`.
-/
module

public import proofs.«01_k».proof.Proof.Point
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- What the body reads at point `t`. -/
def ins (c : Dev nD) (t : Fin cfg0.N) : Ins F :=
  ⟨iblk m c 0 t, iblk m c 1 t, iblk m c 2 t, iblk m c 3 t, iblk m c 4 t, iblk m c 5 t⟩

/-- What point `n` leaves: its chunks run over what the point before left. -/
def accAt (c : Dev nD) : (n : ℕ) → n < cfg0.N → Acc F
  | 0, h => point (grid0.coords ⟨0, h⟩) (ins m c ⟨0, h⟩) ⟨k0_pay33, k0_pay34, k0_pay35⟩
  | n + 1, h => point (grid0.coords ⟨n + 1, h⟩) (ins m c ⟨n + 1, h⟩) (accAt c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).dq
    | ⟨7, _⟩ => (accAt m c t.val t.isLt).dk
    | ⟨8, _⟩ => (accAt m c t.val t.isLt).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (accAt m c t.val t.isLt).dq := by dsimp only [dats]
theorem after7 (c : Dev nD) (t : Fin cfg0.N) : (dats m 0 c).after 7 t = (accAt m c t.val t.isLt).dk := by dsimp only [dats]
theorem after8 (c : Dev nD) (t : Fin cfg0.N) : (dats m 0 c).after 8 t = (accAt m c t.val t.isLt).dv := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The tile number of a point. -/
theorem coord1 : ∀ t : Fin grid0.N, (grid0.coords t 1).val = t.val % 16 := by decide +kernel
theorem coord0 : ∀ t : Fin grid0.N, (grid0.coords t 0).val = t.val / 16 := by decide +kernel

/-- A head's later points find what the point before left in the query gradient's buffer. -/
theorem before6 (c : Dev nD) (n : ℕ) (h : n + 1 < cfg0.N) (hn : (n + 1) % 16 ≠ 0) (d) :
    (dats m 0 c).before 6 ⟨n + 1, h⟩ d = (accAt m c n (Nat.lt_of_succ_lt h)).dq := by
  refine ((dats m 0 c).before_out_kept 6 rfl ⟨n + 1, h⟩ (Nat.succ_ne_zero n) ?_ (fun _ => rfl) (fun _ _ => rfl) d).trans (after6 m c _)
  refine Bool.eq_false_iff.mpr fun e => ?_
  have := (flush0_6 _).mp e
  dsimp only at this
  omega

/-- A point looks at nothing but the query gradient of what it starts from, and on a head's first point not even that. -/
theorem point_congr (i : grid0.Coords) (x : Ins F) (s s' : Acc F) (h : (i 1).val = 0 ∨ s.dq = s'.dq) : point i x s = point i x s' := by
  have e : start i s = start i s' := by
    rcases h with h | h
    · unfold start; rw [if_pos h, if_pos h]
    · unfold start; rw [h]
  unfold point; rw [e]

theorem point_eq (c : Dev nD) (t : Fin cfg0.N) (d) (f0 f1 : FVec F S512x128 .f32) :
    point (grid0.coords t) (ins m c t) ⟨(dats m 0 c).before 6 t d, f0, f1⟩ = accAt m c t.val t.isLt := by
  obtain ⟨n, h⟩ := t
  have h1 := coord1 ⟨n, h⟩
  cases n with
  | zero => exact point_congr _ _ _ _ (Or.inl h1)
  | succ n =>
    refine point_congr _ _ _ _ ?_
    by_cases hn : (n + 1) % 16 = 0
    · exact Or.inl (h1.trans hn)
    · exact Or.inr (before6 m c n h hn d)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  rw [show (dats m 0 c).Φ t.castSucc = Pipeline.ΦA spec0 c from rfl]
  unfold Pipeline.ΦA
  rw [scopedRest0_eq]
  iintro ⟨⟨⟨⟨%f0, S0⟩, ⟨%f1, S1⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r _ _ _)
  isplitl [H0 H1 H2 H3 H4 H5 H6 H7 H8 S0 S1]
  · iapply (whole c (grid0.coords t) _ _ _ _ _ _ _ _ _ _ _ _ _ _ _ _ _ _ _ _ _ _ (ins m c t) ⟨(dats m 0 c).before 6 t d6, f0, f1⟩ ((dats m 0 c).before 7 t d7) ((dats m 0 c).before 8 t d8))
    unfold held
    rw [owns_whole_eq, owns_whole_eq]
    isplitl [H0 H1 H2 H3 H4 H5 H6 S0 S1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexists f0; isplitr; · ipureintro; rfl
                      iexact S0
      iexists f1; isplitr; · ipureintro; rfl
      iexact S1
    isplitl [H7]; · iexact H7
    iexact H8
  iintro %_ ⟨H, H7, H8⟩
  rw [point_eq m c t d6 f0 f1]
  unfold held
  rw [owns_whole_eq, owns_whole_eq]
  icases H with ⟨H0, H1, H2, H3, H4, H5, H6, ⟨%g0, -, S0⟩, ⟨%g1, -, S1⟩⟩
  isplitl [S0 S1 Hr]
  · isplitl [S0 S1]
    · isplitl [S0]; · iexists g0; iexact S0
      iexists g1; iexact S1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends, with the arrays at what the proof data say, every other buffer as the region found it, the semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments unchanged, the semaphores at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.ChunkVal.lean ====
/-
  The chunks read at an index over the extended reals: one probability, one entry of the logits' gradient, and what a
  chunk adds to the three accumulators.
-/
module

public import proofs.«01_k».proof.Proof.Point
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe

/-- The lane of column `c` of a 512-wide tile. -/
abbrev lane (c : Fin 512) : Fin 128 := ⟨c.val % 128, Nat.mod_lt _ (by decide)⟩

/-- Row `r` of tile `o`. -/
abbrev row (o : Fin 16) (r : Fin 512) : Fin 8192 := ⟨512 * o.val + r.val, by have := o.isLt; have := r.isLt; omega⟩

theorem ladder (f : Fin 128 → EReal) (c : Fin 512) :
    (if h : c.val < 128 then f ⟨c.val, h⟩
      else if h : c.val - 128 < 128 then f ⟨c.val - 128, h⟩
      else if h : c.val - 128 - 128 < 128 then f ⟨c.val - 128 - 128, h⟩
      else f ⟨c.val - 128 - 128 - 128, by have := c.isLt; omega⟩) = f (lane c) := by
  have := c.isLt
  split_ifs <;> (congr 1; apply Fin.ext; simp only; omega)

/-- Four copies of the lanes side by side, read at a column. -/
theorem lanes_at (x : FVec Ideal S512x128 .f32) (r c : Fin 512) :
    concatenate S512x512 1 [⟨S512x128, x⟩, ⟨S512x128, x⟩, ⟨S512x128, x⟩, ⟨S512x128, x⟩] concatenates_S512x128_S512x128_S512x128_S512x128_S512x512_d1 (ix2 r c)
      = x (ix2 r (lane c)) := by
  pointwise []
  exact ladder (fun a => x (ix2 r a)) c

theorem mask_eq : (Named.named κ "mask" 0xF149F2CA#32 : Ideal .f32) = (⊥ : EReal) := rfl

/-! ## What a point computes, at an index -/

/-- One probability: the query row `q` against column `c` of the key tile `j`, zero above the diagonal. -/
def prob (x : Ins Ideal) (j : ℕ) (q : Fin 8192) (c : Fin 512) : EReal :=
  Ideal.exp ((if 512 * j + c.val ≤ q.val then ∑ a : Fin 128, x.q (ix2 q a) * x.k (ix2 c a) else ⊥) - x.l (ix2 q (lane c)))

/-- One entry of the logits' gradient. -/
def grad (x : Ins Ideal) (j : ℕ) (q : Fin 8192) (c : Fin 512) : EReal :=
  prob x j q c * ((∑ a : Fin 128, x.ct (ix2 q a) * x.v (ix2 c a)) - x.d (ix2 q (lane c)))

theorem tile_at {α : Type} (x : S8192x128.Idx → α) (o : Fin 16) (r : Fin 512) (a : Fin 128) : tile x o (ix2 r a) = x (ix2 (row o r) a) := by
  unfold tile VecWindow.window
  congr 1
  funext b; fin_cases b
  · refine Fin.ext ?_
    show 512 * o.val + 1 * r.val = 512 * o.val + r.val
    omega
  · refine Fin.ext ?_
    show 0 + 1 * a.val = a.val
    omega

theorem putTile_at {α : Type} (x : S8192x128.Idx → α) (o : Fin 16) (w : S512x128.Idx → α) (q : Fin 8192) (a : Fin 128) :
    putTile x o w (ix2 q a) = if q.val / 512 = o.val then w (ix2 ⟨q.val % 512, Nat.mod_lt _ (by decide)⟩ a) else x (ix2 q a) := by
  have ha := a.isLt
  unfold putTile VecWindow.put
  split_ifs with h h' h'
  · congr 1
    funext b; fin_cases b
    · refine Fin.ext ?_
      show q.val - 512 * o.val = q.val % 512
      omega
    · refine Fin.ext ?_
      show a.val - 0 = a.val
      omega
  · have h0 : 512 * o.val ≤ q.val ∧ q.val < 512 * o.val + 512 := h 0
    omega
  · refine absurd (fun b => ?_) h
    fin_cases b
    · show 512 * o.val ≤ q.val ∧ q.val < 512 * o.val + 512
      omega
    · show 0 ≤ a.val ∧ a.val < 0 + 128
      omega
  · rfl

theorem pay3_at (x : Ins Ideal) (j o : Fin 16) (h : j < o) (r c : Fin 512) :
    k0_pay3 (F := Ideal) (k0_pay36 x.k) (tile x.q o) (tile x.l o) (ix2 r c) = prob x j.val (row o r) c := by
  have e := lanes_at (tile x.l o) r c
  have h' : j.val < o.val := h
  have hc := c.isLt
  unfold prob
  rw [if_pos (by show 512 * j.val + c.val ≤ 512 * o.val + r.val; omega)]
  unfold k0_pay3
  pointwise [k0_pay1, k0_pay36] at e ⊢
  rw [e]
  simp only [tile_at]

theorem pay40_at (x : Ins Ideal) (j : Fin 16) (r c : Fin 512) :
    k0_pay40 (F := Ideal) x.k (tile x.q j) (tile x.l j) (ix2 r c) = prob x j.val (row j r) c := by
  have e := lanes_at (tile x.l j) r c
  unfold prob
  have hc := c.isLt
  have hr := r.isLt
  have hs : IntOp.cmpi CmpIPredicate.sle (BitVec.ofNat 32 c.val) (BitVec.ofNat 32 r.val) = BitVec.ofBool (decide (c.val ≤ r.val)) := by word_cmp
  unfold k0_pay40
  pointwise [k0_pay38, k0_pay36] at e ⊢
  rw [e, mask_eq, hs, WordCmp.select_ofBool]
  simp only [tile_at, decide_eq_true_eq]
  congr 3
  refine propext ?_
  show _ ↔ 512 * j.val + c.val ≤ 512 * j.val + r.val
  omega

theorem pay4_at (x : Ins Ideal) (j o : Fin 16) (h : j < o) (r c : Fin 512) :
    k0_pay4 (F := Ideal) (k0_pay36 x.k) (k0_pay37 x.v) (tile x.q o) (tile x.ct o) (tile x.l o) (tile x.d o) (ix2 r c) = grad x j.val (row o r) c := by
  have e := lanes_at (tile x.d o) r c
  unfold grad
  rw [← pay3_at x j o h]
  unfold k0_pay4
  generalize k0_pay3 (F := Ideal) (k0_pay36 x.k) (tile x.q o) (tile x.l o) = p
  pointwise [k0_pay2, k0_pay37] at e ⊢
  rw [e]
  simp only [tile_at]

theorem pay42_at (x : Ins Ideal) (j : Fin 16) (r c : Fin 512) :
    k0_pay42 (F := Ideal) (k0_pay40 x.k (tile x.q j) (tile x.l j)) (k0_pay41 x.v (tile x.ct j)) (tile x.d j) (ix2 r c) = grad x j.val (row j r) c := by
  have e := lanes_at (tile x.d j) r c
  unfold grad
  rw [← pay40_at x j]
  unfold k0_pay42
  generalize k0_pay40 (F := Ideal) x.k (tile x.q j) (tile x.l j) = p
  pointwise [k0_pay41, k0_pay37, k0_pay39] at e ⊢
  rw [e]
  simp only [tile_at]

/-! ## The chunks -/

theorem step_dv (x : Ins Ideal) (j o : Fin 16) (h : j < o) (s : Acc Ideal) (c : Fin 512) (a : Fin 128) :
    (step x o s).dv (ix2 c a) = s.dv (ix2 c a) + ∑ r : Fin 512, prob x j.val (row o r) c * x.ct (ix2 (row o r) a) := by
  simp only [step, ← pay3_at x j o h, ← tile_at]
  unfold k0_pay5
  generalize k0_pay3 (F := Ideal) (k0_pay36 x.k) (tile x.q o) (tile x.l o) = p
  generalize tile x.ct o = ct
  pointwise [k0_pay2]

theorem step_dk (x : Ins Ideal) (j o : Fin 16) (h : j < o) (s : Acc Ideal) (c : Fin 512) (a : Fin 128) :
    (step x o s).dk (ix2 c a) = s.dk (ix2 c a) + ∑ r : Fin 512, grad x j.val (row o r) c * x.q (ix2 (row o r) a) := by
  simp only [step, ← pay4_at x j o h, ← tile_at x.q]
  unfold k0_pay6
  generalize k0_pay4 (F := Ideal) (k0_pay36 x.k) (k0_pay37 x.v) (tile x.q o) (tile x.ct o) (tile x.l o) (tile x.d o) = p
  generalize tile x.q o = q
  pointwise [k0_pay1]

theorem row_divmod (o : Fin 16) (q : Fin 8192) (h : q.val / 512 = o.val) : row o ⟨q.val % 512, Nat.mod_lt _ (by decide)⟩ = q :=
  Fin.ext (by show 512 * o.val + q.val % 512 = q.val; omega)

theorem step_dq (x : Ins Ideal) (j o : Fin 16) (h : j < o) (s : Acc Ideal) (q : Fin 8192) (a : Fin 128) :
    (step x o s).dq (ix2 q a) = s.dq (ix2 q a) + if q.val / 512 = o.val then ∑ c : Fin 512, grad x j.val q c * x.k (ix2 c a) else 0 := by
  simp only [step, putTile_at]
  split_ifs with hq
  · have e := fun c => pay4_at x j o h ⟨q.val % 512, Nat.mod_lt _ (by decide)⟩ c
    simp only [row_divmod o q hq] at e
    simp only [← e]
    have es := tile_at s.dq o ⟨q.val % 512, Nat.mod_lt _ (by decide)⟩ a
    rw [row_divmod o q hq] at es
    rw [← es]
    unfold k0_pay7
    generalize k0_pay4 (F := Ideal) (k0_pay36 x.k) (k0_pay37 x.v) (tile x.q o) (tile x.ct o) (tile x.l o) (tile x.d o) = p
    generalize tile s.dq o = t
    pointwise [k0_pay36]
  · exact (add_zero _).symm

theorem stepD_dv (x : Ins Ideal) (j : Fin 16) (s : Acc Ideal) (c : Fin 512) (a : Fin 128) :
    (stepD x j s).dv (ix2 c a) = s.dv (ix2 c a) + ∑ r : Fin 512, prob x j.val (row j r) c * x.ct (ix2 (row j r) a) := by
  simp only [stepD, ← pay40_at x j, ← tile_at]
  unfold k0_pay43
  generalize k0_pay40 (F := Ideal) x.k (tile x.q j) (tile x.l j) = p
  generalize tile x.ct j = ct
  pointwise [k0_pay39]

theorem stepD_dk (x : Ins Ideal) (j : Fin 16) (s : Acc Ideal) (c : Fin 512) (a : Fin 128) :
    (stepD x j s).dk (ix2 c a) = s.dk (ix2 c a) + ∑ r : Fin 512, grad x j.val (row j r) c * x.q (ix2 (row j r) a) := by
  simp only [stepD, ← pay42_at x j, ← tile_at x.q]
  unfold k0_pay44
  generalize k0_pay42 (F := Ideal) (k0_pay40 x.k (tile x.q j) (tile x.l j)) (k0_pay41 x.v (tile x.ct j)) (tile x.d j) = p
  generalize tile x.q j = q
  pointwise [k0_pay38]

theorem stepD_dq (x : Ins Ideal) (j : Fin 16) (s : Acc Ideal) (q : Fin 8192) (a : Fin 128) :
    (stepD x j s).dq (ix2 q a) = s.dq (ix2 q a) + if q.val / 512 = j.val then ∑ c : Fin 512, grad x j.val q c * x.k (ix2 c a) else 0 := by
  simp only [stepD, putTile_at]
  split_ifs with hq
  · have e := fun c => pay42_at x j ⟨q.val % 512, Nat.mod_lt _ (by decide)⟩ c
    simp only [row_divmod j q hq] at e
    simp only [← e]
    have es := tile_at s.dq j ⟨q.val % 512, Nat.mod_lt _ (by decide)⟩ a
    rw [row_divmod j q hq] at es
    rw [← es]
    unfold k0_pay45
    generalize k0_pay42 (F := Ideal) (k0_pay40 x.k (tile x.q j) (tile x.l j)) (k0_pay41 x.v (tile x.ct j)) (tile x.d j) = p
    generalize tile s.dq j = t
    pointwise [k0_pay36]
  · exact (add_zero _).symm

end Cert.Proof.KernelIdeal

end
-- ==== Proof.PointVal.lean ====
/-
  What a grid point leaves, at an index over the extended reals: the key and value gradients of its tile summed over
  every query row, and the query gradient with the tile's contribution added.
-/
module

public import proofs.«01_k».proof.Proof.ChunkVal

@[expose] public section

set_option maxRecDepth 16384

noncomputable section

namespace Cert.Proof.KernelIdeal

open Cert.KernelIdeal Cert.KernelIdeal.Gen
open Idealize.ShloMosaic Idealize.ShloMosaic.TcCoe

/-- One more tile in a sum over a span of tiles. -/
theorem sum_span_succ (g : Fin 16 → EReal) (j n : ℕ) (h : j + n < 16) :
    (∑ o : Fin 16, if j ≤ o.val ∧ o.val < j + n then g o else 0) + g ⟨j + n, h⟩ = ∑ o : Fin 16, if j ≤ o.val ∧ o.val < j + (n + 1) then g o else 0 := by
  have e : g ⟨j + n, h⟩ = ∑ o : Fin 16, if o = ⟨j + n, h⟩ then g o else 0 := by
    rw [Finset.sum_ite_eq' Finset.univ _ g, if_pos (Finset.mem_univ _)]
  rw [e, ← Finset.sum_add_distrib]
  refine Finset.sum_congr rfl fun o _ => ?_
  by_cases ho : o = ⟨j + n, h⟩
  · subst ho
    rw [if_neg (by simp), if_pos rfl, if_pos ⟨Nat.le_add_right _ _, by simp⟩, zero_add]
  · have : o.val ≠ j + n := fun e => ho (Fin.ext e)
    rw [if_neg ho, add_zero]
    exact if_congr (by omega) rfl rfl

/-- A sum over no tile. -/
theorem sum_span_zero (g : Fin 16 → EReal) (j : ℕ) : (∑ o : Fin 16, if j ≤ o.val ∧ o.val < j + 0 then g o else 0) = 0 :=
  Finset.sum_eq_zero fun o _ => if_neg (by omega)

/-- The first tile of a span to the end. -/
theorem sum_span_first (g : Fin 16 → EReal) (j : Fin 16) (h : ∀ o : Fin 16, o < j → g o = 0) :
    g j + (∑ o : Fin 16, if j.val + 1 ≤ o.val ∧ o.val < j.val + 1 + (15 - j.val) then g o else 0) = ∑ o : Fin 16, g o := by
  have e : g j = ∑ o : Fin 16, if o = j then g o else 0 := by
    rw [Finset.sum_ite_eq' Finset.univ _ g, if_pos (Finset.mem_univ _)]
  conv_lhs => rw [e]
  rw [← Finset.sum_add_distrib]
  refine Finset.sum_congr rfl fun o _ => ?_
  have hj := j.isLt
  have hl := o.isLt
  rcases lt_trichotomy o j with ho | ho | ho
  · have ho' : o.val < j.val := ho
    rw [if_neg (ne_of_lt ho), if_neg (by omega), h o ho, add_zero]
  · subst ho
    rw [if_pos rfl, if_neg (by omega), add_zero]
  · have ho' : j.val < o.val := ho
    rw [if_neg (ne_of_gt ho), if_pos (by omega), zero_add]

/-- A sum over the rows, tile by tile. -/
theorem sum_rows (f : Fin 8192 → EReal) : ∑ o : Fin 16, ∑ r : Fin 512, f (row o r) = ∑ q : Fin 8192, f q := by
  rw [Fin.sum_univ_tiles 16 512 (by decide) f]
  refine Finset.sum_congr rfl fun o _ => Finset.sum_congr rfl fun r _ => ?_
  exact congrArg f (Fin.ext (by show 512 * o.val + r.val = o.val * 512 + r.val; omega))

theorem prob_above (x : Ins Ideal) (j : ℕ) (q : Fin 8192) (c : Fin 512) (h : q.val < 512 * j + c.val) : prob x j q c = 0 := by
  unfold prob
  rw [if_neg (by omega), sub_eq_add_neg, EReal.bot_add]
  rfl

theorem grad_above (x : Ins Ideal) (j : ℕ) (q : Fin 8192) (c : Fin 512) (h : q.val < 512 * j + c.val) : grad x j q c = 0 := by
  unfold grad
  rw [prob_above x j q c h, zero_mul]

/-! ## The span of chunks after the diagonal -/

theorem run_dv (x : Ins Ideal) (j : Fin 16) (s : Acc Ideal) (c : Fin 512) (a : Fin 128) : ∀ n : ℕ, j.val + 1 + n ≤ 16 →
    (run x (j.val + 1) n s).dv (ix2 c a) = s.dv (ix2 c a) + ∑ o : Fin 16, if j.val + 1 ≤ o.val ∧ o.val < j.val + 1 + n then ∑ r : Fin 512, prob x j.val (row o r) c * x.ct (ix2 (row o r) a) else 0
  | 0, _ => by rw [sum_span_zero, add_zero]; rfl
  | n + 1, h => by
    have h' : j.val + 1 + n < 16 := by omega
    rw [run_succ x _ n s h', step_dv x j ⟨j.val + 1 + n, h'⟩ (by show j.val < j.val + 1 + n; omega), run_dv x j s c a n (by omega), add_assoc,
      ← sum_span_succ _ _ n h']

theorem run_dk (x : Ins Ideal) (j : Fin 16) (s : Acc Ideal) (c : Fin 512) (a : Fin 128) : ∀ n : ℕ, j.val + 1 + n ≤ 16 →
    (run x (j.val + 1) n s).dk (ix2 c a) = s.dk (ix2 c a) + ∑ o : Fin 16, if j.val + 1 ≤ o.val ∧ o.val < j.val + 1 + n then ∑ r : Fin 512, grad x j.val (row o r) c * x.q (ix2 (row o r) a) else 0
  | 0, _ => by rw [sum_span_zero, add_zero]; rfl
  | n + 1, h => by
    have h' : j.val + 1 + n < 16 := by omega
    rw [run_succ x _ n s h', step_dk x j ⟨j.val + 1 + n, h'⟩ (by show j.val < j.val + 1 + n; omega), run_dk x j s c a n (by omega), add_assoc,
      ← sum_span_succ _ _ n h']

theorem run_dq (x : Ins Ideal) (j : Fin 16) (s : Acc Ideal) (q : Fin 8192) (a : Fin 128) : ∀ n : ℕ, j.val + 1 + n ≤ 16 →
    (run x (j.val + 1) n s).dq (ix2 q a) = s.dq (ix2 q a) + ∑ o : Fin 16, if j.val + 1 ≤ o.val ∧ o.val < j.val + 1 + n then (if q.val / 512 = o.val then ∑ c : Fin 512, grad x j.val q c * x.k (ix2 c a) else 0) else 0
  | 0, _ => by rw [sum_span_zero, add_zero]; rfl
  | n + 1, h => by
    have h' : j.val + 1 + n < 16 := by omega
    rw [run_succ x _ n s h', step_dq x j ⟨j.val + 1 + n, h'⟩ (by show j.val < j.val + 1 + n; omega), run_dq x j s q a n (by omega), add_assoc,
      ← sum_span_succ _ _ n h']

/-! ## A grid point -/

theorem pay33_at (i : S8192x128.Idx) : k0_pay33 (F := Ideal) i = (0 : EReal) := by pointwise [k0_pay33]
theorem pay34_at (i : S512x128.Idx) : k0_pay34 (F := Ideal) i = (0 : EReal) := by pointwise [k0_pay34]
theorem pay35_at (i : S512x128.Idx) : k0_pay35 (F := Ideal) i = (0 : EReal) := by pointwise [k0_pay35]

theorem point_dv (i : grid0.Coords) (x : Ins Ideal) (s : Acc Ideal) (c : Fin 512) (a : Fin 128) :
    (point i x s).dv (ix2 c a) = ∑ q : Fin 8192, prob x (i 1).val q c * x.ct (ix2 q a) := by
  unfold point
  have hi : (i 1).val < 16 := (i 1).isLt
  rw [run_dv x (i 1) _ c a _ (by omega), stepD_dv x (i 1)]
  have e : (start i s).dv (ix2 c a) = (0 : EReal) := pay35_at (ix2 c a)
  rw [e, zero_add, sum_span_first (fun o => ∑ r : Fin 512, prob x (i 1).val (row o r) c * x.ct (ix2 (row o r) a)) (i 1)
    (fun o ho => Finset.sum_eq_zero fun r _ => by
      have h1 : o.val < (i 1).val := ho
      have h2 := r.isLt
      rw [prob_above x _ _ _ (by show 512 * o.val + r.val < 512 * (i 1).val + c.val; omega), zero_mul])]
  exact sum_rows fun q => prob x (i 1).val q c * x.ct (ix2 q a)

theorem point_dk (i : grid0.Coords) (x : Ins Ideal) (s : Acc Ideal) (c : Fin 512) (a : Fin 128) :
    (point i x s).dk (ix2 c a) = ∑ q : Fin 8192, grad x (i 1).val q c * x.q (ix2 q a) := by
  unfold point
  have hi : (i 1).val < 16 := (i 1).isLt
  rw [run_dk x (i 1) _ c a _ (by omega), stepD_dk x (i 1)]
  have e : (start i s).dk (ix2 c a) = (0 : EReal) := pay34_at (ix2 c a)
  rw [e, zero_add, sum_span_first (fun o => ∑ r : Fin 512, grad x (i 1).val (row o r) c * x.q (ix2 (row o r) a)) (i 1)
    (fun o ho => Finset.sum_eq_zero fun r _ => by
      have h1 : o.val < (i 1).val := ho
      have h2 := r.isLt
      rw [grad_above x _ _ _ (by show 512 * o.val + r.val < 512 * (i 1).val + c.val; omega), zero_mul])]
  exact sum_rows fun q => grad x (i 1).val q c * x.q (ix2 q a)

theorem point_dq (i : grid0.Coords) (x : Ins Ideal) (s : Acc Ideal) (q : Fin 8192) (a : Fin 128) :
    (point i x s).dq (ix2 q a) = (if (i 1).val = 0 then (0 : EReal) else s.dq (ix2 q a)) + ∑ c : Fin 512, grad x (i 1).val q c * x.k (ix2 c a) := by
  unfold point
  have hi : (i 1).val < 16 := (i 1).isLt
  have hq := q.isLt
  have e : (start i s).dq (ix2 q a) = if (i 1).val = 0 then (0 : EReal) else s.dq (ix2 q a) := by
    show (if (i 1).val = 0 then k0_pay33 (F := Ideal) else s.dq) (ix2 q a) = _
    by_cases h : (i 1).val = 0
    · rw [if_pos h, if_pos h]; exact pay33_at _
    · rw [if_neg h, if_neg h]
  rw [run_dq x (i 1) _ q a _ (by omega), stepD_dq x (i 1), e, add_assoc, sum_span_first (fun o => if q.val / 512 = o.val then ∑ c : Fin 512, grad x (i 1).val q c * x.k (ix2 c a) else 0) (i 1)
    (fun o ho => by
      have h1 : o.val < (i 1).val := ho
      split_ifs with h
      · exact Finset.sum_eq_zero fun c _ => by rw [grad_above x _ _ _ (by omega), zero_mul]
      · rfl)]
  refine congrArg (fun z : EReal => (if (i 1).val = 0 then (0 : EReal) else s.dq (ix2 q a)) + z) ?_
  refine (Finset.sum_congr rfl fun o _ => (if_congr (?_ : _ ↔ o = (⟨q.val / 512, by omega⟩ : Fin 16)) rfl rfl)).trans ?_
  · exact ⟨fun h => Fin.ext h.symm, fun h => by rw [h]⟩
  · rw [Finset.sum_ite_eq', if_pos (Finset.mem_univ _)]

end Cert.Proof.KernelIdeal

end
-- ==== Proof.Arrays.lean ====
/-
  The three result arrays after the run, as sums over the arrays that the call is given.
-/
module

public import proofs.«01_k».proof.Proof.PointVal
public import proofs.«01_k».proof.Proof.Run

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

/-- Lane `a` of head `h` in a row of 1024. -/
abbrev col (h : Fin 8) (a : Fin 128) : Fin 1024 := ⟨128 * h.val + a.val, by have := h.isLt; have := a.isLt; omega⟩

/-- The probability of key `k` for query `q` in head `h`, from the call's operands. -/
def gprob (A0 A1 A4 : S8192x1024.Idx → EReal) (h : Fin 8) (q k : Fin 8192) : EReal :=
  Ideal.exp ((if k.val ≤ q.val then ∑ a : Fin 128, A0 (ix2 q (col h a)) * A1 (ix2 k (col h a)) else ⊥) - A4 (ix2 q (col h ⟨k.val % 128, Nat.mod_lt _ (by decide)⟩)))

/-- The gradient of the logit of `q` and `k` in head `h`, from the call's operands. -/
def ggrad (A0 A1 A2 A3 A4 A5 : S8192x1024.Idx → EReal) (h : Fin 8) (q k : Fin 8192) : EReal :=
  gprob A0 A1 A4 h q k * ((∑ a : Fin 128, A3 (ix2 q (col h a)) * A2 (ix2 k (col h a))) - A5 (ix2 q (col h ⟨k.val % 128, Nat.mod_lt _ (by decide)⟩)))

/-- The head of a column. -/
abbrev headOf (a : Fin 1024) : Fin 8 := ⟨a.val / 128, by have := a.isLt; omega⟩

variable (m : (ℓ : Loc nD τ sig) → Buf (Elt Ideal) ℓ) (c : Dev nD)

def O0 : FVec Ideal S8192x1024 .bf16 := V m c main_v31
def O1 : FVec Ideal S8192x1024 .bf16 := V m c main_v34
def O2 : FVec Ideal S8192x1024 .bf16 := V m c main_v37
def O3 : FVec Ideal S8192x1024 .bf16 := V m c main_v40
def O4 : FVec Ideal S8192x1024 .f32 := V m c main_v43
def O5 : FVec Ideal S8192x1024 .f32 := V m c main_v46

theorem idx : ∀ t : Fin cfg0.N, win0_0.index t = ![0, t.val / 16] ∧ win0_1.index t = ![t.val % 16, t.val / 16] ∧ win0_2.index t = ![t.val % 16, t.val / 16]
    ∧ win0_3.index t = ![0, t.val / 16] ∧ win0_4.index t = ![0, t.val / 16] ∧ win0_5.index t = ![0, t.val / 16]
    ∧ win0_6.index t = ![0, t.val / 16] ∧ win0_7.index t = ![t.val % 16, t.val / 16] ∧ win0_8.index t = ![t.val % 16, t.val / 16] :=
  (by decide +kernel : ∀ t : Fin grid0.N, _)

/-- The head and the tile of a grid point. -/
abbrev hd (t : Fin cfg0.N) : Fin 8 := ⟨t.val / 16, by have := lt_of_lt_of_eq t.isLt N_0; omega⟩
abbrev tl (t : Fin cfg0.N) : Fin 16 := ⟨t.val % 16, Nat.mod_lt _ (by decide)⟩

/-- Contents of the buffers of a core. -/
abbrev Bufs := (b : Ref sig .tc) → Buf (Elt Ideal) ((c : Thread nD τ).loc b)

theorem read0 (W : Bufs c) (t : Fin cfg0.N) (q : Fin 8192) (a : Fin 128) :
    ((cfg0.win 0).blk t).view.read (Elt Ideal) (W (Pipeline.arrRef spec0 0)) (ix2 q a) = W main_v31 (ix2 q (col (hd t) a)) := by
  refine congrArg (W main_v31) ?_
  blk_ext [idx t]
theorem read1 (W : Bufs c) (t : Fin cfg0.N) (r : Fin 512) (a : Fin 128) :
    ((cfg0.win 1).blk t).view.read (Elt Ideal) (W (Pipeline.arrRef spec0 1)) (ix2 r a) = W main_v34 (ix2 (row (tl t) r) (col (hd t) a)) := by
  refine congrArg (W main_v34) ?_
  blk_ext [idx t]
theorem read2 (W : Bufs c) (t : Fin cfg0.N) (r : Fin 512) (a : Fin 128) :
    ((cfg0.win 2).blk t).view.read (Elt Ideal) (W (Pipeline.arrRef spec0 2)) (ix2 r a) = W main_v37 (ix2 (row (tl t) r) (col (hd t) a)) := by
  refine congrArg (W main_v37) ?_
  blk_ext [idx t]
theorem read3 (W : Bufs c) (t : Fin cfg0.N) (q : Fin 8192) (a : Fin 128) :
    ((cfg0.win 3).blk t).view.read (Elt Ideal) (W (Pipeline.arrRef spec0 3)) (ix2 q a) = W main_v40 (ix2 q (col (hd t) a)) := by
  refine congrArg (W main_v40) ?_
  blk_ext [idx t]
theorem read4 (W : Bufs c) (t : Fin cfg0.N) (q : Fin 8192) (a : Fin 128) :
    ((cfg0.win 4).blk t).view.read (Elt Ideal) (W (Pipeline.arrRef spec0 4)) (ix2 q a) = W main_v43 (ix2 q (col (hd t) a)) := by
  refine congrArg (W main_v43) ?_
  blk_ext [idx t]
theorem read5 (W : Bufs c) (t : Fin cfg0.N) (q : Fin 8192) (a : Fin 128) :
    ((cfg0.win 5).blk t).view.read (Elt Ideal) (W (Pipeline.arrRef spec0 5)) (ix2 q a) = W main_v46 (ix2 q (col (hd t) a)) := by
  refine congrArg (W main_v46) ?_
  blk_ext [idx t]

theorem ins_q (t : Fin cfg0.N) (q : Fin 8192) (a : Fin 128) : (ins m c t).q (ix2 q a) = O0 m c (ix2 q (col (hd t) a)) :=
  read0 c (V m c) t q a
theorem ins_k (t : Fin cfg0.N) (r : Fin 512) (a : Fin 128) : (ins m c t).k (ix2 r a) = O1 m c (ix2 (row (tl t) r) (col (hd t) a)) :=
  read1 c (V m c) t r a
theorem ins_v (t : Fin cfg0.N) (r : Fin 512) (a : Fin 128) : (ins m c t).v (ix2 r a) = O2 m c (ix2 (row (tl t) r) (col (hd t) a)) :=
  read2 c (V m c) t r a
theorem ins_ct (t : Fin cfg0.N) (q : Fin 8192) (a : Fin 128) : (ins m c t).ct (ix2 q a) = O3 m c (ix2 q (col (hd t) a)) :=
  read3 c (V m c) t q a
theorem ins_l (t : Fin cfg0.N) (q : Fin 8192) (a : Fin 128) : (ins m c t).l (ix2 q a) = O4 m c (ix2 q (col (hd t) a)) :=
  read4 c (V m c) t q a
theorem ins_d (t : Fin cfg0.N) (q : Fin 8192) (a : Fin 128) : (ins m c t).d (ix2 q a) = O5 m c (ix2 q (col (hd t) a)) :=
  read5 c (V m c) t q a

theorem prob_eq (t : Fin cfg0.N) (q : Fin 8192) (r : Fin 512) :
    prob (ins m c t) (t.val % 16) q r = gprob (O0 m c) (O1 m c) (O4 m c) (hd t) q (row (tl t) r) := by
  unfold prob gprob
  rw [ins_l]
  simp only [ins_q, ins_k]
  have e : lane r = ⟨(row (tl t) r).val % 128, Nat.mod_lt _ (by decide)⟩ := Fin.ext (by show r.val % 128 = (512 * (t.val % 16) + r.val) % 128; omega)
  rw [← e]

theorem grad_eq (t : Fin cfg0.N) (q : Fin 8192) (r : Fin 512) :
    grad (ins m c t) (t.val % 16) q r = ggrad (O0 m c) (O1 m c) (O2 m c) (O3 m c) (O4 m c) (O5 m c) (hd t) q (row (tl t) r) := by
  unfold grad ggrad
  rw [prob_eq, ins_d]
  simp only [ins_ct, ins_v]
  have e : lane r = ⟨(row (tl t) r).val % 128, Nat.mod_lt _ (by decide)⟩ := Fin.ext (by show r.val % 128 = (512 * (t.val % 16) + r.val) % 128; omega)
  rw [← e]

/-- What a point leaves is its chunks over something. -/
theorem accAt_point (t : Fin cfg0.N) : ∃ s : Acc Ideal, accAt m c t.val t.isLt = point (grid0.coords t) (ins m c t) s := by
  obtain ⟨n, h⟩ := t
  cases n with
  | zero => exact ⟨_, rfl⟩
  | succ n => exact ⟨_, rfl⟩

theorem acc_dv (t : Fin cfg0.N) (r : Fin 512) (a : Fin 128) : (accAt m c t.val t.isLt).dv (ix2 r a)
    = ∑ q : Fin 8192, gprob (O0 m c) (O1 m c) (O4 m c) (hd t) q (row (tl t) r) * O3 m c (ix2 q (col (hd t) a)) := by
  obtain ⟨s, e⟩ := accAt_point m c t
  rw [e, point_dv, coord1 t]
  exact Finset.sum_congr rfl fun q _ => by rw [prob_eq, ins_ct]

theorem acc_dk (t : Fin cfg0.N) (r : Fin 512) (a : Fin 128) : (accAt m c t.val t.isLt).dk (ix2 r a)
    = ∑ q : Fin 8192, ggrad (O0 m c) (O1 m c) (O2 m c) (O3 m c) (O4 m c) (O5 m c) (hd t) q (row (tl t) r) * O0 m c (ix2 q (col (hd t) a)) := by
  obtain ⟨s, e⟩ := accAt_point m c t
  rw [e, point_dk, coord1 t]
  exact Finset.sum_congr rfl fun q _ => by rw [grad_eq, ins_q]

/-- What a point adds to the query gradient. -/
def term (t : Fin cfg0.N) (i : S8192x128.Idx) : EReal :=
  ∑ r : Fin 512, ggrad (O0 m c) (O1 m c) (O2 m c) (O3 m c) (O4 m c) (O5 m c) (hd t) (i 0) (row (tl t) r) * O1 m c (ix2 (row (tl t) r) (col (hd t) (i 1)))

theorem acc_dq_zero (t : Fin cfg0.N) (h : t.val % 16 = 0) (i : S8192x128.Idx) : (accAt m c t.val t.isLt).dq i = (0 : EReal) + term m c t i := by
  idx_vars i
  obtain ⟨s, e⟩ := accAt_point m c t
  rw [e, point_dq, coord1 t, if_pos h]
  refine congrArg (fun z : EReal => 0 + z) (Finset.sum_congr rfl fun r _ => by rw [grad_eq, ins_k]; rfl)

theorem acc_dq_succ (t : Fin cfg0.N) (h : ¬t.val % 16 = 0) (i : S8192x128.Idx) :
    (accAt m c t.val t.isLt).dq i = (accAt m c (t.val - 1) (Nat.lt_of_le_of_lt (Nat.sub_le _ _) t.isLt)).dq i + term m c t i := by
  idx_vars i
  obtain ⟨n, hn⟩ := t
  cases n with
  | zero => exact absurd rfl h
  | succ n =>
    have e : accAt m c (n + 1) hn = point (grid0.coords ⟨n + 1, hn⟩) (ins m c ⟨n + 1, hn⟩) (accAt m c n (Nat.lt_of_succ_lt hn)) := rfl
    show (accAt m c (n + 1) hn).dq _ = _
    rw [e, point_dq, coord1 ⟨n + 1, hn⟩, if_neg h]
    refine congrArg (fun z : EReal => (accAt m c n (Nat.lt_of_succ_lt hn)).dq _ + z) (Finset.sum_congr rfl fun r _ => by rw [grad_eq m c ⟨n + 1, hn⟩, ins_k]; rfl)

theorem acc_dq_last (t : Fin cfg0.N) (h : t.val % 16 = 16 - 1) (q : Fin 8192) (a : Fin 128) : (accAt m c t.val t.isLt).dq (ix2 q a)
    = ∑ k : Fin 8192, ggrad (O0 m c) (O1 m c) (O2 m c) (O3 m c) (O4 m c) (O5 m c) (hd t) q k * O1 m c (ix2 k (col (hd t) a)) := by
  rw [Pipeline.eq_sum_fin_of_reset_step_apply_of_flush (fun n h => (accAt m c n h).dq) 16 (fun _ => (0 : EReal)) (term m c)
    (acc_dq_zero m c) (acc_dq_succ m c) t h (ix2 q a), zero_add, ← sum_rows]
  refine Finset.sum_congr rfl fun s _ => ?_
  have h1 : hd ⟨16 * (t.val / 16) + s.val, Pipeline.run_point_lt_of_flush t h s⟩ = hd t := Fin.ext (by show (16 * (t.val / 16) + s.val) / 16 = t.val / 16; have := s.isLt; omega)
  have h2 : tl ⟨16 * (t.val / 16) + s.val, Pipeline.run_point_lt_of_flush t h s⟩ = s := Fin.ext (by show (16 * (t.val / 16) + s.val) % 16 = s.val; have := s.isLt; omega)
  unfold term
  rw [h1, h2]
  rfl

/-! ## The arrays -/

/-- The query gradient's array. -/
def G6 : S8192x1024.Idx → EReal := fun i =>
  ∑ k : Fin 8192, ggrad (O0 m c) (O1 m c) (O2 m c) (O3 m c) (O4 m c) (O5 m c) (headOf (i 1)) (i 0) k * O1 m c (ix2 k (i 1))
/-- The key gradient's array. -/
def G7 : S8192x1024.Idx → EReal := fun i =>
  ∑ q : Fin 8192, ggrad (O0 m c) (O1 m c) (O2 m c) (O3 m c) (O4 m c) (O5 m c) (headOf (i 1)) q (i 0) * O0 m c (ix2 q (i 1))
/-- The value gradient's array. -/
def G8 : S8192x1024.Idx → EReal := fun i =>
  ∑ q : Fin 8192, gprob (O0 m c) (O1 m c) (O4 m c) (headOf (i 1)) q (i 0) * O3 m c (ix2 q (i 1))

theorem headOf_col (h : Fin 8) (a : Fin 128) : headOf (col h a) = h := Fin.ext (by show (128 * h.val + a.val) / 128 = h.val; have := a.isLt; omega)

theorem final6 : (dats m 0 c).arrAt 6 (cfgs 0).N = G6 m c := by
  refine (dats m 0 c).arrAt_eq_of_covers 6 _ (by decide +kernel) fun t hf y => ?_
  blk_simp
  rw [after6]
  idx_vars y
  rw [acc_dq_last m c t ((flush0_6 t).mp hf)]
  have e : ((View.whole main_v47_0).slice (win0_6.rect t)).emb (ix2 y0 y1) = ix2 y0 (col (hd t) y1) := by blk_ext [idx t]
  refine Eq.trans ?_ (congrArg (G6 m c) e).symm
  show _ = ∑ k : Fin 8192, ggrad (O0 m c) (O1 m c) (O2 m c) (O3 m c) (O4 m c) (O5 m c) (headOf (col (hd t) y1)) y0 k * O1 m c (ix2 k (col (hd t) y1))
  rw [headOf_col]

theorem final7 : (dats m 0 c).arrAt 7 (cfgs 0).N = G7 m c := by
  refine (dats m 0 c).arrAt_eq_of_covers 7 _ (by decide +kernel) fun t hf y => ?_
  blk_simp
  rw [after7]
  idx_vars y
  rw [acc_dk m c t]
  have e : ((View.whole main_v47_1).slice (win0_7.rect t)).emb (ix2 y0 y1) = ix2 (row (tl t) y0) (col (hd t) y1) := by blk_ext [idx t]
  refine Eq.trans ?_ (congrArg (G7 m c) e).symm
  show _ = ∑ q : Fin 8192, ggrad (O0 m c) (O1 m c) (O2 m c) (O3 m c) (O4 m c) (O5 m c) (headOf (col (hd t) y1)) q (row (tl t) y0) * O0 m c (ix2 q (col (hd t) y1))
  rw [headOf_col]

theorem final8 : (dats m 0 c).arrAt 8 (cfgs 0).N = G8 m c := by
  refine (dats m 0 c).arrAt_eq_of_covers 8 _ (by decide +kernel) fun t hf y => ?_
  blk_simp
  rw [after8]
  idx_vars y
  rw [acc_dv m c t]
  have e : ((View.whole main_v47_2).slice (win0_8.rect t)).emb (ix2 y0 y1) = ix2 (row (tl t) y0) (col (hd t) y1) := by blk_ext [idx t]
  refine Eq.trans ?_ (congrArg (G8 m c) e).symm
  show _ = ∑ q : Fin 8192, gprob (O0 m c) (O1 m c) (O4 m c) (headOf (col (hd t) y1)) q (row (tl t) y0) * O3 m c (ix2 q (col (hd t) y1))
  rw [headOf_col]

end Cert.Proof.KernelIdeal

end
-- ==== Proof.HostVal.lean ====
/-
  The six arrays that the call is given, from the arguments.
-/
module

public import proofs.«01_k».proof.Proof.Arrays
public import Idealize.ShloMosaic.Lib.StableHlo.RunRead

@[expose] public section

set_option maxRecDepth 16384

noncomputable section

namespace Cert.Proof.KernelIdeal

open Cert.KernelIdeal Cert.KernelIdeal.Gen
open Idealize.ShloMosaic Idealize.ShloMosaic.TcCoe Idealize.SL.Sem

variable (m : (ℓ : Loc nD τ sig) → Buf (Elt Ideal) ℓ) (c : Dev nD)

def X0 : FVec Ideal S8192x8x96 .f32 := m ((c : Thread nD τ).loc main_arg0)
def X1 : FVec Ideal S8192x8x96 .f32 := m ((c : Thread nD τ).loc main_arg1)
def X2 : FVec Ideal S8192x8x64 .f32 := m ((c : Thread nD τ).loc main_arg2)
def X3 : FVec Ideal S8192x8x64 .f32 := m ((c : Thread nD τ).loc main_arg3)

/-! ## The host line, stage by stage -/

section
variable (x0 x1 : FVec Ideal S8192x8x96 .f32) (x2 x3 : FVec Ideal S8192x8x64 .f32)

/-- The scaled query. -/
def hQ : FVec Ideal S8192x8x96 .f32 := mulf x0 (broadcastInDim S8192x8x96 ![] bcast_S_S8192x8x96 (constant S_ .f32 0x3DD105EC#32))
/-- Key position at most query position. -/
def hMask : IVec S1x8192x8192 1 :=
  cmpi .sle (broadcastInDim S1x8192x8192 ![0, 1, 2] bcast_S1x1x8192_S1x8192x8192_0_1_2 (broadcastInDim S1x1x8192 ![2] bcast_S8192_S1x1x8192_2 (iotaInDim S8192 32 0)))
    (broadcastInDim S1x8192x8192 ![0, 1, 2] bcast_S1x8192x1_S1x8192x8192_0_1_2 (broadcastInDim S1x8192x1 ![1] bcast_S8192_S1x8192x1_1 (iotaInDim S8192 32 0)))
/-- The masked logits. -/
def hLogits : FVec Ideal S8x8192x8192 .f32 :=
  select (broadcastInDim S8x8192x8192 ![0, 1, 2] bcast_S1x8192x8192_S8x8192x8192_0_1_2 hMask)
    (Host.dotGeneral (F := Ideal) dot_S8192x8x96_S8192x8x96_S8x8192x8192_2_2_0_0_1_1 none (hQ x0) x1)
    (broadcastInDim S8x8192x8192 ![] bcast_S_S8x8192x8192 (id (constant (F := Ideal) S_ .f32 0xFF800000#32)))
/-- The maximum of a row. -/
def hMax : FVec Ideal S8x8192 .f32 := Host.reduce FloatOps.maximumf (hLogits x0 x1) (constant (F := Ideal) S_ .f32 0xFF800000#32) reducesTo_S8x8192x8192_S8x8192_d2 h_S_
def hMax1 : FVec Ideal S8x8192x1 .f32 := broadcastInDim S8x8192x1 ![0, 1] bcast_S8x8192_S8x8192x1_0_1 (hMax x0 x1)
/-- The exponentials of a row. -/
def hExp : FVec Ideal S8x8192x8192 .f32 :=
  Host.exp (subf (hLogits x0 x1) (broadcastInDim S8x8192x8192 ![0, 1, 2] bcast_S8x8192x1_S8x8192x8192_0_1_2 (hMax1 x0 x1)))
/-- Their sum. -/
def hDen : FVec Ideal S8x8192 .f32 := Host.reduceAdd (hExp x0 x1) (constant (F := Ideal) S_ .f32 0x00000000#32) reducesTo_S8x8192x8192_S8x8192_d2 h_S_
def hDen1 : FVec Ideal S8x8192x1 .f32 := broadcastInDim S8x8192x1 ![0, 1] bcast_S8x8192_S8x8192x1_0_1 (hDen x0 x1)
/-- The attention's output. -/
def hOut : FVec Ideal S8192x8x64 .f32 :=
  transpose S8192x8x64 [2, 0, 1] (Host.dotGeneral (F := Ideal) dot_S8192x8x64_S8x8192x8192_S8x64x8192_0_2_2_1_1_0 none x2
    (Host.divf (hExp x0 x1) (broadcastInDim S8x8192x8192 ![0, 1, 2] bcast_S8x8192x1_S8x8192x8192_0_1_2 (hDen1 x0 x1)))) transposes_S8x64x8192_S8192x8x64_2_0_1
/-- The logarithm of the sum of the exponentials of a row. -/
def hLse : FVec Ideal S8192x8 .f32 :=
  transpose S8192x8 [1, 0] (shapeCast S8x8192 (addf (hMax1 x0 x1) (Host.log (hDen1 x0 x1))) shapeCasts_S8x8192x1_S8x8192) transposes_S8x8192_S8192x8_1_0
/-- The inner product of a row's cotangent and output. -/
def hDelta : FVec Ideal S8192x8 .f32 :=
  Host.reduceAdd (mulf x3 (hOut x0 x1 x2)) (constant (F := Ideal) S_ .f32 0x00000000#32) reducesTo_S8192x8x64_S8192x8_d2 h_S_

end

theorem O4_eq : O4 m c = shapeCast S8192x1024 (broadcastInDim S8192x8x128 ![0, 1, 2] bcast_S8192x8x1_S8192x8x128_0_1_2
    (broadcastInDim S8192x8x1 ![0, 1] bcast_S8192x8_S8192x8x1_0_1 (hLse (X0 m c) (X1 m c)))) shapeCasts_S8192x8x128_S8192x1024 := by
  unfold O4
  after_reads_simp
  rfl
theorem O5_eq : O5 m c = shapeCast S8192x1024 (broadcastInDim S8192x8x128 ![0, 1, 2] bcast_S8192x8x1_S8192x8x128_0_1_2
    (broadcastInDim S8192x8x1 ![0, 1] bcast_S8192x8_S8192x8x1_0_1 (hDelta (X0 m c) (X1 m c) (X2 m c) (X3 m c)))) shapeCasts_S8192x8x128_S8192x1024 := by
  unfold O5
  after_reads_simp
  rfl
theorem O0_eq : O0 m c = truncf .bf16 (shapeCast S8192x1024 (pad S8192x8x128 ![0, 0, 0] ![0, 0, 32] ![0, 0, 0] (hQ (X0 m c)) (sitofp .f32 (constantI S_ 32 0#32))
    pads_S8192x8x96_S8192x8x128_000_000_0320 h_S_) shapeCasts_S8192x8x128_S8192x1024) bitsLt_bf16_f32 := by
  unfold O0
  after_reads_simp
  rfl
theorem O1_eq : O1 m c = truncf .bf16 (shapeCast S8192x1024 (pad S8192x8x128 ![0, 0, 0] ![0, 0, 32] ![0, 0, 0] (X1 m c) (sitofp .f32 (constantI S_ 32 0#32))
    pads_S8192x8x96_S8192x8x128_000_000_0320 h_S_) shapeCasts_S8192x8x128_S8192x1024) bitsLt_bf16_f32 := by
  unfold O1
  after_reads_simp
  rfl
theorem O3_eq : O3 m c = truncf .bf16 (shapeCast S8192x1024 (pad S8192x8x128 ![0, 0, 0] ![0, 0, 64] ![0, 0, 0] (X3 m c) (sitofp .f32 (constantI S_ 32 0#32))
    pads_S8192x8x64_S8192x8x128_000_000_0640 h_S_) shapeCasts_S8192x8x128_S8192x1024) bitsLt_bf16_f32 := by
  unfold O3
  after_reads_simp
  rfl
theorem O2_eq : O2 m c = truncf .bf16 (shapeCast S8192x1024 (pad S8192x8x128 ![0, 0, 0] ![0, 0, 63] ![0, 0, 0]
    (concatenate S8192x8x65 2 [⟨S8192x8x64, X2 m c⟩, ⟨S8192x8x1, broadcastInDim S8192x8x1 ![] bcast_S_S8192x8x1 (constant (F := Ideal) S_ .f32 0x3F800000#32)⟩] concatenates_S8192x8x64_S8192x8x1_S8192x8x65_d2)
    (sitofp .f32 (constantI S_ 32 0#32)) pads_S8192x8x65_S8192x8x128_000_000_0630 h_S_) shapeCasts_S8192x8x128_S8192x1024) bitsLt_bf16_f32 := by
  unfold O2
  after_reads_simp
  have e1 : StableHlo.upto (List.flatten [hostOps0, hostOps0_1, hostOps0_2, hostOps0_3, hostOps0_4, hostOps0_5, hostOps0_6, hostOps0_7, hostOps0_8, hostOps0_9, hostOps0_10]) (fun b => m (c, b)) 37 (Proc.tc.devRef main_arg2) = X2 m c := by
    after_reads_simp
    rfl
  have e2 : StableHlo.upto (List.flatten [hostOps0, hostOps0_1, hostOps0_2, hostOps0_3, hostOps0_4, hostOps0_5, hostOps0_6, hostOps0_7, hostOps0_8, hostOps0_9, hostOps0_10]) (fun b => m (c, b)) 37 (Proc.tc.devRef main_v27)
      = broadcastInDim S8192x8x1 ![] bcast_S_S8192x8x1 (constant (F := Ideal) S_ .f32 0x3F800000#32) := by
    after_reads_simp
    try rfl
  rw [e1, e2]
  rfl

end Cert.Proof.KernelIdeal

end
-- ==== Proof.HostRead.lean ====
/-
  The arrays that the call is given, read at an index, where the arguments are real.
-/
module

public import proofs.«01_k».proof.Proof.HostVal
public import proofs.«01_k».proof.Proof.Attn

@[expose] public section

set_option maxRecDepth 16384

noncomputable section

namespace Cert.Proof.KernelIdeal

open Cert.KernelIdeal Cert.KernelIdeal.Gen Cert.Proof.Attn
open Idealize.ShloMosaic Idealize.ShloMosaic.TcCoe Idealize.SL.Sem

variable (y0 y1 : S8192x8x96.Idx → ℝ) (y2 y3 : S8192x8x64.Idx → ℝ)

theorem hQ_at (q : Fin 8192) (h : Fin 8) (d : Fin 96) : hQ (up .f32 y0) (ix3 q h d) = (qh y0 h q d : EReal) := by
  unfold hQ
  pointwise
  rw [scl_eq]
  exact (EReal.coe_mul _ _).symm

theorem hMask_at (q k : Fin 8192) : hMask (ix3 0 q k) = BitVec.ofBool (decide (k.val ≤ q.val)) := by
  unfold hMask
  pointwise
  exact mask_word q k

theorem hLogits_at (h : Fin 8) (q k : Fin 8192) : hLogits (up .f32 y0) (up .f32 y1) (ix3 h q k) = lg (qh y0 h) (kh y1 h) q k := by
  unfold hLogits
  pointwise
  rw [hMask_at, WordCmp.select_ofBool]
  simp only [hQ_at, decide_eq_true_eq]
  unfold lg
  refine if_congr Iff.rfl ?_ ?_
  · exact coe_sum_mul _ _ _
  · exact neg_inf

theorem hMax_at (h : Fin 8) (q : Fin 8192) : hMax (up .f32 y0) (up .f32 y1) (ix2 h q) = mx (qh y0 h) (kh y1 h) q := by
  unfold hMax
  pointwise
  simp only [hLogits_at]
  rw [neg_inf]
  rfl

theorem hExp_at (h : Fin 8) (q k : Fin 8192) : hExp (up .f32 y0) (up .f32 y1) (ix3 h q k) = (ex (qh y0 h) (kh y1 h) q k : EReal) := by
  unfold hExp hMax1
  pointwise
  rw [hLogits_at, hMax_at, exp_lg]

theorem hDen_at (h : Fin 8) (q : Fin 8192) : hDen (up .f32 y0) (up .f32 y1) (ix2 h q) = (den (qh y0 h) (kh y1 h) q : EReal) := by
  unfold hDen
  pointwise
  simp only [hExp_at]
  exact coe_sum _ _

theorem hOut_at (q : Fin 8192) (h : Fin 8) (d : Fin 64) :
    hOut (up .f32 y0) (up .f32 y1) (up .f32 y2) (ix3 q h d) = (out (qh y0 h) (kh y1 h) (vh y2 h) q d : EReal) := by
  unfold hOut hDen1
  pointwise
  simp only [hExp_at, hDen_at, div_ex]
  exact coe_sum_mul _ _ _

theorem drop_last (x : FVec Ideal S8x8192x1 .f32) (h : Fin 8) (q : Fin 8192) :
    shapeCast S8x8192 x shapeCasts_S8x8192x1_S8x8192 (ix2 h q) = x (ix3 h q 0) := by
  pointwise

theorem hMax1_at (h : Fin 8) (q : Fin 8192) : hMax1 (up .f32 y0) (up .f32 y1) (ix3 h q 0) = mx (qh y0 h) (kh y1 h) q := by
  unfold hMax1
  pointwise
  exact hMax_at y0 y1 h q

theorem hDen1_at (h : Fin 8) (q : Fin 8192) : hDen1 (up .f32 y0) (up .f32 y1) (ix3 h q 0) = (den (qh y0 h) (kh y1 h) q : EReal) := by
  unfold hDen1
  pointwise
  exact hDen_at y0 y1 h q

theorem turn (x : FVec Ideal S8x8192 .f32) (h : Fin 8) (q : Fin 8192) :
    transpose S8192x8 [1, 0] x transposes_S8x8192_S8192x8_1_0 (ix2 q h) = x (ix2 h q) := by
  pointwise

theorem add_log (x z : FVec Ideal S8x8192x1 .f32) (i : S8x8192x1.Idx) : addf x (Host.log z) i = (x i + Ideal.log (z i) : EReal) := rfl

theorem hLse_at (q : Fin 8192) (h : Fin 8) : hLse (up .f32 y0) (up .f32 y1) (ix2 q h) = (lse (qh y0 h) (kh y1 h) q : EReal) := by
  unfold hLse
  rw [turn, drop_last, add_log, hMax1_at, hDen1_at, lse_eq]

theorem hDelta_at (q : Fin 8192) (h : Fin 8) :
    hDelta (up .f32 y0) (up .f32 y1) (up .f32 y2) (up .f32 y3) (ix2 q h) = (dl (qh y0 h) (kh y1 h) (vh y2 h) (vh y3 h) q : EReal) := by
  unfold hDelta
  pointwise
  simp only [hOut_at]
  exact coe_sum_mul _ _ _

/-! ## The operands -/

variable (m : (ℓ : Loc nD τ sig) → Buf (Elt Ideal) ℓ) (c : Dev nD)

theorem zero_int : (FloatOps.sitofp FTy.f32 0#32 : Ideal .f32) = (0 : EReal) := by
  show ((((0#32 : BitVec 32).toInt : ℝ)) : EReal) = 0
  simp

theorem O0_at (e0 : X0 m c = up .f32 y0) (q : Fin 8192) (h : Fin 8) (a : Fin 128) :
    O0 m c (ix2 q (col h a)) = if ha : a.val < 96 then (qh y0 h q ⟨a.val, ha⟩ : EReal) else 0 := by
  rw [O0_eq, e0]
  pointwise
  have h1 : (128 * h.val + a.val) / 128 = h.val := by have := a.isLt; omega
  have h2 : (128 * h.val + a.val) % 128 = a.val := by have := a.isLt; omega
  simp only [h1, h2, h.isLt, true_and, zero_int, hQ_at]

theorem O1_at (e1 : X1 m c = up .f32 y1) (q : Fin 8192) (h : Fin 8) (a : Fin 128) :
    O1 m c (ix2 q (col h a)) = if ha : a.val < 96 then (kh y1 h q ⟨a.val, ha⟩ : EReal) else 0 := by
  rw [O1_eq, e1]
  pointwise
  have h1 : (128 * h.val + a.val) / 128 = h.val := by have := a.isLt; omega
  have h2 : (128 * h.val + a.val) % 128 = a.val := by have := a.isLt; omega
  simp only [h1, h2, h.isLt, true_and, zero_int]
  rfl

theorem O3_at (e3 : X3 m c = up .f32 y3) (q : Fin 8192) (h : Fin 8) (a : Fin 128) :
    O3 m c (ix2 q (col h a)) = if ha : a.val < 64 then (vh y3 h q ⟨a.val, ha⟩ : EReal) else 0 := by
  rw [O3_eq, e3]
  pointwise
  have h1 : (128 * h.val + a.val) / 128 = h.val := by have := a.isLt; omega
  have h2 : (128 * h.val + a.val) % 128 = a.val := by have := a.isLt; omega
  simp only [h1, h2, h.isLt, true_and, zero_int]
  rfl

theorem O2_at (e2 : X2 m c = up .f32 y2) (q : Fin 8192) (h : Fin 8) (a : Fin 128) (ha : a.val < 64) :
    O2 m c (ix2 q (col h a)) = (vh y2 h q ⟨a.val, ha⟩ : EReal) := by
  rw [O2_eq, e2]
  pointwise
  have h1 : (128 * h.val + a.val) / 128 = h.val := by have := a.isLt; omega
  have h2 : (128 * h.val + a.val) % 128 = a.val := by have := a.isLt; omega
  have h3 : a.val < 65 := by omega
  simp only [h1, h2, h3, ha, h.isLt, true_and, dite_true]
  rfl

theorem O4_at (e0 : X0 m c = up .f32 y0) (e1 : X1 m c = up .f32 y1) (q : Fin 8192) (h : Fin 8) (a : Fin 128) :
    O4 m c (ix2 q (col h a)) = (lse (qh y0 h) (kh y1 h) q : EReal) := by
  rw [O4_eq, e0, e1, ← hLse_at]
  pointwise
  have h1 : (128 * h.val + a.val) / 128 = h.val := by have := a.isLt; omega
  simp only [h1]

theorem O5_at (e0 : X0 m c = up .f32 y0) (e1 : X1 m c = up .f32 y1) (e2 : X2 m c = up .f32 y2) (e3 : X3 m c = up .f32 y3)
    (q : Fin 8192) (h : Fin 8) (a : Fin 128) :
    O5 m c (ix2 q (col h a)) = (dl (qh y0 h) (kh y1 h) (vh y2 h) (vh y3 h) q : EReal) := by
  rw [O5_eq, e0, e1, e2, e3, ← hDelta_at]
  pointwise
  have h1 : (128 * h.val + a.val) / 128 = h.val := by have := a.isLt; omega
  simp only [h1]

end Cert.Proof.KernelIdeal

end
-- ==== Proof.KerVal.lean ====
/-
  What the kernel computes where the arguments are real.
-/
module

public import proofs.«01_k».proof.Proof.HostRead

@[expose] public section

set_option maxRecDepth 16384

noncomputable section

namespace Cert.Proof.KernelIdeal

open Cert.KernelIdeal Cert.KernelIdeal.Gen Cert.Proof.Attn
open Idealize.ShloMosaic Idealize.ShloMosaic.TcCoe Idealize.SL.Sem

variable (y0 y1 : S8192x8x96.Idx → ℝ) (y2 y3 : S8192x8x64.Idx → ℝ)
variable (m : (ℓ : Loc nD τ sig) → Buf (Elt Ideal) ℓ) (c : Dev nD)
variable (e0 : X0 m c = up .f32 y0) (e1 : X1 m c = up .f32 y1) (e2 : X2 m c = up .f32 y2) (e3 : X3 m c = up .f32 y3)

include e0 e1 in
theorem gprob_real (h : Fin 8) (q k : Fin 8192) :
    gprob (O0 m c) (O1 m c) (O4 m c) h q k = (pr (qh y0 h) (kh y1 h) q k : EReal) := by
  rw [← exp_lse]
  unfold gprob lg
  rw [O4_at y0 y1 m c e0 e1]
  have e : ∑ a : Fin 128, O0 m c (ix2 q (col h a)) * O1 m c (ix2 k (col h a)) = (sc (qh y0 h) (kh y1 h) q k : EReal) := by
    refine sum_pad (by decide) _ _ (qh y0 h q) (kh y1 h k) (fun a ha => ?_) (fun a ha => ?_) (fun a ha => ?_)
    · rw [O0_at y0 m c e0, dif_pos ha]
    · rw [O0_at y0 m c e0, dif_neg ha]
    · rw [O1_at y1 m c e1, dif_pos ha]
  rw [e]

include e0 e1 e2 e3 in
theorem ggrad_real (h : Fin 8) (q k : Fin 8192) :
    ggrad (O0 m c) (O1 m c) (O2 m c) (O3 m c) (O4 m c) (O5 m c) h q k = (dS (qh y0 h) (kh y1 h) (vh y2 h) (vh y3 h) q k : EReal) := by
  unfold ggrad dS
  rw [gprob_real y0 y1 m c e0 e1, O5_at y0 y1 y2 y3 m c e0 e1 e2 e3]
  have e : ∑ a : Fin 128, O3 m c (ix2 q (col h a)) * O2 m c (ix2 k (col h a)) = (dP (vh y2 h) (vh y3 h) q k : EReal) := by
    refine sum_pad (by decide) _ _ (vh y3 h q) (vh y2 h k) (fun a ha => ?_) (fun a ha => ?_) (fun a ha => ?_)
    · rw [O3_at y3 m c e3, dif_pos ha]
    · rw [O3_at y3 m c e3, dif_neg ha]
    · rw [O2_at y2 m c e2 k h a ha]
  rw [e, ← EReal.coe_sub, ← EReal.coe_mul]

include e0 e1 e2 e3 in
theorem G6_real (q : Fin 8192) (h : Fin 8) (a : Fin 128) : G6 m c (ix2 q (col h a)) = gQ y0 y1 y2 y3 q h a := by
  show ∑ k : Fin 8192, ggrad (O0 m c) (O1 m c) (O2 m c) (O3 m c) (O4 m c) (O5 m c) (headOf (col h a)) q k * O1 m c (ix2 k (col h a)) = _
  rw [headOf_col]
  simp only [ggrad_real y0 y1 y2 y3 m c e0 e1 e2 e3, O1_at y1 m c e1]
  unfold gQ
  split
  · exact coe_sum_mul _ _ _
  · exact Finset.sum_eq_zero fun k _ => mul_zero _

include e0 e1 e2 e3 in
theorem G7_real (k : Fin 8192) (h : Fin 8) (a : Fin 128) : G7 m c (ix2 k (col h a)) = gK y0 y1 y2 y3 k h a := by
  show ∑ q : Fin 8192, ggrad (O0 m c) (O1 m c) (O2 m c) (O3 m c) (O4 m c) (O5 m c) (headOf (col h a)) q k * O0 m c (ix2 q (col h a)) = _
  rw [headOf_col]
  simp only [ggrad_real y0 y1 y2 y3 m c e0 e1 e2 e3, O0_at y0 m c e0]
  unfold gK
  split
  · exact coe_sum_mul _ _ _
  · exact Finset.sum_eq_zero fun k _ => mul_zero _

include e0 e1 e3 in
theorem G8_real (k : Fin 8192) (h : Fin 8) (a : Fin 128) : G8 m c (ix2 k (col h a)) = gV y0 y1 y3 k h a := by
  show ∑ q : Fin 8192, gprob (O0 m c) (O1 m c) (O4 m c) (headOf (col h a)) q k * O3 m c (ix2 q (col h a)) = _
  rw [headOf_col]
  simp only [gprob_real y0 y1 m c e0 e1, O3_at y3 m c e3]
  unfold gV
  split
  · exact coe_sum_mul _ _ _
  · exact Finset.sum_eq_zero fun k _ => mul_zero _

end Cert.Proof.KernelIdeal

end
-- ==== Proof.RefVal.lean ====
/-
  What the reference computes where the arguments are real.
-/
module

public import proofs.«01_k».proof.Proof.Gen.ReferenceIdeal.Read
public import proofs.«01_k».proof.Proof.Attn

@[expose] public section

set_option maxRecDepth 16384

noncomputable section

namespace Cert.Proof.ReferenceIdeal

open Cert.ReferenceIdeal Cert.ReferenceIdeal.Gen Cert.ReferenceIdeal.Read Cert.Proof.Attn
open Idealize.ShloMosaic Idealize.ShloMosaic.TcCoe

variable (y0 y1 : S8192x8x96.Idx → ℝ) (y2 y3 : S8192x8x64.Idx → ℝ)

theorem v1_at (q : Fin 8192) (h : Fin 8) (d : Fin 96) : val_main_v1 (F := Ideal) (up .f32 y0) (ix3 q h d) = (qh y0 h q d : EReal) := by
  unfold val_main_v1 val_main_v0 val_main_cst
  pointwise
  rw [scl_eq]
  exact (EReal.coe_mul _ _).symm

theorem v8_at (q k : Fin 8192) : val_main_v8 (F := Ideal) (ix3 0 q k) = BitVec.ofBool (decide (k.val ≤ q.val)) := by
  unfold val_main_v8 val_main_v6 val_main_v7 val_main_v4 val_main_v5 val_main_v3
  pointwise
  exact mask_word q k

theorem mask_at (h : Fin 8) (q k : Fin 8192) : val_main_v9_1 (F := Ideal) (ix3 h q k) = BitVec.ofBool (decide (k.val ≤ q.val)) := by
  unfold val_main_v9_1
  pointwise
  exact v8_at q k

theorem v2_at (h : Fin 8) (q k : Fin 8192) : val_main_v2 (F := Ideal) (up .f32 y0) (up .f32 y1) (ix3 h q k) = (sc (qh y0 h) (kh y1 h) q k : EReal) := by
  unfold val_main_v2
  pointwise
  simp only [v1_at]
  exact coe_sum_mul _ _ _

theorem logits_at (h : Fin 8) (q k : Fin 8192) : val_main_v9_0 (F := Ideal) (up .f32 y0) (up .f32 y1) (ix3 h q k) = lg (qh y0 h) (kh y1 h) q k := by
  unfold val_main_v9_0 val_main_call0_v2 val_main_call0_v0 val_main_cst_0
  pointwise
  rw [mask_at, v2_at, WordCmp.select_ofBool]
  simp only [decide_eq_true_eq]
  unfold lg
  exact if_congr Iff.rfl rfl neg_inf

theorem v10_at (h : Fin 8) (q : Fin 8192) : val_main_v10 (F := Ideal) (up .f32 y0) (up .f32 y1) (ix2 h q) = mx (qh y0 h) (kh y1 h) q := by
  unfold val_main_v10 val_main_cst_1
  pointwise
  simp only [logits_at]
  rw [neg_inf]
  rfl

theorem max_bot (a b : Ideal .f32) (ha : a = (⊥ : EReal)) : FloatOps.maximumf a b = b := by
  subst ha
  exact max_eq_right (bot_le (α := EReal) (a := b))

theorem v16_at (i : S8x8192.Idx) : val_main_v16 (F := Ideal) i = (⊥ : EReal) := by
  rw [val_main_v16_apply]
  exact neg_inf

theorem v17_at (h : Fin 8) (q : Fin 8192) : val_main_v17 (F := Ideal) (up .f32 y0) (up .f32 y1) (ix2 h q) = mx (qh y0 h) (kh y1 h) q := by
  rw [val_main_v17_apply, max_bot _ _ (v16_at _), v10_at]

theorem v30_at (h : Fin 8) (q k : Fin 8192) : val_main_v30 (F := Ideal) (up .f32 y0) (up .f32 y1) (ix3 h q k) = (ex (qh y0 h) (kh y1 h) q k : EReal) := by
  unfold val_main_v30 val_main_v29 val_main_v28 val_main_v27
  pointwise
  rw [logits_at, v17_at, exp_lg]

theorem v31_at (h : Fin 8) (q : Fin 8192) : val_main_v31 (F := Ideal) (up .f32 y0) (up .f32 y1) (ix2 h q) = (den (qh y0 h) (kh y1 h) q : EReal) := by
  unfold val_main_v31 val_main_cst_9
  pointwise
  simp only [v30_at]
  exact coe_sum _ _

theorem v34_at (h : Fin 8) (q k : Fin 8192) : val_main_v34 (F := Ideal) (up .f32 y0) (up .f32 y1) (ix3 h q k) = (pr (qh y0 h) (kh y1 h) q k : EReal) := by
  unfold val_main_v34 val_main_v33 val_main_v32
  pointwise
  rw [v30_at, v31_at, div_ex]

theorem v41_at (h : Fin 8) (q k : Fin 8192) : val_main_v41 (F := Ideal) (up .f32 y2) (up .f32 y3) (ix3 h q k) = (dP (vh y2 h) (vh y3 h) q k : EReal) := by
  unfold val_main_v41 val_main_v40
  pointwise
  exact coe_sum_mul _ _ _

/-- The factor of the quotient's derivative in its divisor. -/
theorem v37_at (h : Fin 8) (q : Fin 8192) : val_main_v37 (F := Ideal) (up .f32 y0) (up .f32 y1) (ix3 h q 0)
    = ((1 / (den (qh y0 h) (kh y1 h) q * den (qh y0 h) (kh y1 h) q) : ℝ) : EReal) := by
  unfold val_main_v37 val_main_v36 val_main_v35 val_main_v32 val_main_cst_10
  pointwise
  rw [v31_at, ← EReal.coe_mul]
  have h := (den_pos (qh y0 h) (kh y1 h) q).ne'
  exact div_real 1 (mul_ne_zero h h)

theorem v46_at (h : Fin 8) (q k : Fin 8192) : val_main_v46 (F := Ideal) (up .f32 y0) (up .f32 y1) (up .f32 y2) (up .f32 y3) (ix3 h q k)
    = ((dP (vh y2 h) (vh y3 h) q k * (1 / (den (qh y0 h) (kh y1 h) q * den (qh y0 h) (kh y1 h) q)) * ex (qh y0 h) (kh y1 h) q k : ℝ) : EReal) := by
  unfold val_main_v46 val_main_v45 val_main_v44
  pointwise
  rw [v41_at, v37_at, v30_at, ← EReal.coe_mul, ← EReal.coe_mul]

theorem v47_at (h : Fin 8) (q : Fin 8192) : val_main_v47 (F := Ideal) (up .f32 y0) (up .f32 y1) (up .f32 y2) (up .f32 y3) (ix2 h q)
    = ((∑ k, dP (vh y2 h) (vh y3 h) q k * (1 / (den (qh y0 h) (kh y1 h) q * den (qh y0 h) (kh y1 h) q)) * ex (qh y0 h) (kh y1 h) q k : ℝ) : EReal) := by
  unfold val_main_v47 val_main_cst_11
  pointwise
  simp only [v46_at]
  exact coe_sum _ _

theorem v52_at (h : Fin 8) (q : Fin 8192) : val_main_v52 (F := Ideal) (up .f32 y0) (up .f32 y1) (up .f32 y2) (up .f32 y3) (ix2 h q)
    = ((-(∑ k, dP (vh y2 h) (vh y3 h) q k * (1 / (den (qh y0 h) (kh y1 h) q * den (qh y0 h) (kh y1 h) q)) * ex (qh y0 h) (kh y1 h) q k) : ℝ) : EReal) := by
  unfold val_main_v52 val_main_v49 val_main_v48 val_main_cst_12
  pointwise
  rw [Fin.sum_univ_one, v47_at, EReal.coe_neg]

theorem v56_at (h : Fin 8) (q k : Fin 8192) : val_main_v56 (F := Ideal) (up .f32 y0) (up .f32 y1) (up .f32 y2) (up .f32 y3) (ix3 h q k)
    = (dS (qh y0 h) (kh y1 h) (vh y2 h) (vh y3 h) q k : EReal) := by
  unfold val_main_v56 val_main_v55 val_main_v54 val_main_v53 val_main_v51 val_main_v50 val_main_v32 val_main_call1_v0 val_main_call1_cst
  pointwise
  rw [mask_at, v41_at, v31_at, v52_at, v30_at, WordCmp.select_ofBool, div_real _ (den_pos _ _ q).ne', ← EReal.coe_add, ← EReal.coe_mul, ← dS_ref]
  simp only [decide_eq_true_eq]
  split
  · rfl
  · exact EReal.coe_zero.symm

theorem v58_at (k : Fin 8192) (h : Fin 8) (d : Fin 96) : val_main_v58 (F := Ideal) (up .f32 y0) (up .f32 y1) (up .f32 y2) (up .f32 y3) (ix3 k h d)
    = ((∑ q, dS (qh y0 h) (kh y1 h) (vh y2 h) (vh y3 h) q k * qh y0 h q d : ℝ) : EReal) := by
  unfold val_main_v58 val_main_v57
  pointwise
  simp only [v56_at, v1_at]
  exact coe_sum_mul _ _ _

theorem v60_at (q : Fin 8192) (h : Fin 8) (d : Fin 96) : val_main_v60 (F := Ideal) (up .f32 y0) (up .f32 y1) (up .f32 y2) (up .f32 y3) (ix3 q h d)
    = ((∑ k, dS (qh y0 h) (kh y1 h) (vh y2 h) (vh y3 h) q k * kh y1 h k d : ℝ) : EReal) := by
  unfold val_main_v60 val_main_v59
  pointwise
  simp only [v56_at]
  exact coe_sum_mul _ _ _

theorem v43_at (k : Fin 8192) (h : Fin 8) (d : Fin 64) : val_main_v43 (F := Ideal) (up .f32 y0) (up .f32 y1) (up .f32 y3) (ix3 k h d)
    = ((∑ q, pr (qh y0 h) (kh y1 h) q k * vh y3 h q d : ℝ) : EReal) := by
  unfold val_main_v43 val_main_v42 val_main_v40
  pointwise
  simp only [v34_at]
  refine (Finset.sum_congr rfl fun q _ => mul_comm _ _).trans (coe_sum_mul _ _ _)

/-! ## The results -/

theorem zero_int : (FloatOps.sitofp FTy.f32 0#32 : Ideal .f32) = (0 : EReal) := by
  show ((((0#32 : BitVec 32).toInt : ℝ)) : EReal) = 0
  simp

/-- Lane `a` of head `h` in a row of 1024. -/
abbrev lane (h : Fin 8) (a : Fin 128) : Fin 1024 := ⟨128 * h.val + a.val, by have := h.isLt; have := a.isLt; omega⟩

theorem v62_at (q : Fin 8192) (h : Fin 8) (a : Fin 128) :
    val_main_v62 (F := Ideal) (up .f32 y0) (up .f32 y1) (up .f32 y2) (up .f32 y3) (ix2 q (lane h a)) = gQ y0 y1 y2 y3 q h a := by
  unfold val_main_v62 val_main_v61 val_main_call2_v0 val_main_c
  pointwise
  have h1 : (128 * h.val + a.val) / 128 = h.val := by have := a.isLt; omega
  have h2 : (128 * h.val + a.val) % 128 = a.val := by have := a.isLt; omega
  simp only [h1, h2, h.isLt, true_and, zero_int, v60_at]
  rfl

theorem v64_at (k : Fin 8192) (h : Fin 8) (a : Fin 128) :
    val_main_v64 (F := Ideal) (up .f32 y0) (up .f32 y1) (up .f32 y2) (up .f32 y3) (ix2 k (lane h a)) = gK y0 y1 y2 y3 k h a := by
  unfold val_main_v64 val_main_v63 val_main_call3_v0 val_main_c_13
  pointwise
  have h1 : (128 * h.val + a.val) / 128 = h.val := by have := a.isLt; omega
  have h2 : (128 * h.val + a.val) % 128 = a.val := by have := a.isLt; omega
  simp only [h1, h2, h.isLt, true_and, zero_int, v58_at]
  rfl

theorem v66_at (k : Fin 8192) (h : Fin 8) (a : Fin 128) :
    val_main_v66 (F := Ideal) (up .f32 y0) (up .f32 y1) (up .f32 y3) (ix2 k (lane h a)) = gV y0 y1 y3 k h a := by
  unfold val_main_v66 val_main_v65 val_main_call4_v0 val_main_c_14
  pointwise
  have h1 : (128 * h.val + a.val) / 128 = h.val := by have := a.isLt; omega
  have h2 : (128 * h.val + a.val) % 128 = a.val := by have := a.isLt; omega
  simp only [h1, h2, h.isLt, true_and, zero_int, v43_at]
  rfl

end Cert.Proof.ReferenceIdeal

end
-- ==== Proof.Equal.lean ====
/-
  The two programs' results, as arrays, where the arguments are real.
-/
module

public import proofs.«01_k».proof.Proof.KerVal
public import proofs.«01_k».proof.Proof.RefVal

@[expose] public section

set_option maxRecDepth 16384

noncomputable section

namespace Cert.Proof.Equal

open Cert.KernelIdeal Cert.KernelIdeal.Gen Cert.Proof.KernelIdeal Cert.Proof.Attn Cert.ReferenceIdeal.Read
open Idealize.ShloMosaic Idealize.ShloMosaic.TcCoe Idealize.SL.Sem

/-- Two arrays of 8192 rows and 8 heads of 128 lanes that agree at every row, head and lane are equal. -/
theorem ext_lanes {X Y : S8192x1024.Idx → EReal} (h : ∀ (q : Fin 8192) (n : Fin 8) (a : Fin 128), X (ix2 q (col n a)) = Y (ix2 q (col n a))) : X = Y := by
  funext i
  have e : i = ix2 (i 0) (col (headOf (i 1)) ⟨(i 1).val % 128, Nat.mod_lt _ (by decide)⟩) := by
    idx_vars i
    refine congrArg (ix2 i0) (Fin.ext ?_)
    show i1.val = 128 * (i1.val / 128) + i1.val % 128
    omega
  rw [e]
  exact h _ _ _

variable (y0 y1 : S8192x8x96.Idx → ℝ) (y2 y3 : S8192x8x64.Idx → ℝ)
variable (m : (ℓ : Loc nD τ sig) → Buf (Elt Ideal) ℓ) (c : Dev nD)
variable (e0 : X0 m c = up .f32 y0) (e1 : X1 m c = up .f32 y1) (e2 : X2 m c = up .f32 y2) (e3 : X3 m c = up .f32 y3)

include e0 e1 e2 e3 in
theorem dq_eq : val_main_v62 (F := Ideal) (X0 m c) (X1 m c) (X2 m c) (X3 m c) = G6 m c := by
  refine ext_lanes fun q n a => ?_
  rw [G6_real y0 y1 y2 y3 m c e0 e1 e2 e3, e0, e1, e2, e3]
  exact Cert.Proof.ReferenceIdeal.v62_at y0 y1 y2 y3 q n a

include e0 e1 e2 e3 in
theorem dk_eq : val_main_v64 (F := Ideal) (X0 m c) (X1 m c) (X2 m c) (X3 m c) = G7 m c := by
  refine ext_lanes fun q n a => ?_
  rw [G7_real y0 y1 y2 y3 m c e0 e1 e2 e3, e0, e1, e2, e3]
  exact Cert.Proof.ReferenceIdeal.v64_at y0 y1 y2 y3 q n a

include e0 e1 e3 in
theorem dv_eq : val_main_v66 (F := Ideal) (X0 m c) (X1 m c) (X3 m c) = G8 m c := by
  refine ext_lanes fun q n a => ?_
  rw [G8_real y0 y1 y3 m c e0 e1 e3, e0, e1, e3]
  exact Cert.Proof.ReferenceIdeal.v66_at y0 y1 y3 q n a

end Cert.Proof.Equal

end
-- ==== Proof.Algebraic.lean ====
/-
  The value claim: under `finite`, the kernel's idealization and the reference's end with the same three results.
-/
module

public import proofs.«01_k».proof.Defs
public import proofs.«01_k».proof.Proof.Gen.ReferenceIdeal.Run
public import proofs.«01_k».proof.Proof.Gen.Pre_finite
public import proofs.«01_k».proof.Proof.Equal
public import proofs.«01_k».proof.Proof.Finite

@[expose] public section

set_option maxRecDepth 16384

noncomputable section

namespace Cert.Proof

open Idealize.ShloMosaic Idealize.ShloMosaic.TcCoe Idealize.SL.Sem

section
open Cert.KernelIdeal Cert.KernelIdeal.Gen Cert.Proof.KernelIdeal

/-- The kernel's run with its three results. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v47_0) = G6 m c
      ∧ r.2.mem ((c.tc : Thread nD τ).loc main_v47_1) = G7 m c
      ∧ r.2.mem ((c.tc : Thread nD τ).loc main_v47_2) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨((h.1 c).1 6).trans (final6 m c), ((h.1 c).1 7).trans (final7 m c), ((h.1 c).1 8).trans (final8 m c), h.2.1 c⟩)
    (θ_run_and (run_main m ρ) (frame_quiescent m ρ))

end

theorem algebraic : Cert.algebraic_KernelIdeal_ReferenceIdeal_pre_finite := by
  intro m g m' g' hpre hagree
  refine ⟨fun c => Cert.Proof.KernelIdeal.G6 m c, fun c => Cert.Proof.KernelIdeal.G7 m c, fun c => Cert.Proof.KernelIdeal.G8 m c,
    run_kernel m g, (θ_run Cert.ReferenceIdeal.defs _ _).mono (fun r h c => ?_) (Cert.ReferenceIdeal.Value.run (F := Ideal) m' g')⟩
  obtain ⟨y0, y1, y2, y3, e0, e1, e2, e3⟩ := Cert.Proof.Finite.real_of_finite _ _ _ _ (hpre c)
  obtain ⟨a0, a1, a2, a3⟩ := hagree c
  obtain ⟨h0, h1, h2, hargs⟩ := h c
  refine ⟨h0.trans ?_, h1.trans ?_, h2.trans ?_, hargs⟩
  · rw [Cert.ReferenceIdeal.Read.val_main_v62_eq, a0, a1, a2, a3]
    exact Cert.Proof.Equal.dq_eq y0 y1 y2 y3 m c e0 e1 e2 e3
  · rw [Cert.ReferenceIdeal.Read.val_main_v64_eq, a0, a1, a2, a3]
    exact Cert.Proof.Equal.dk_eq y0 y1 y2 y3 m c e0 e1 e2 e3
  · rw [Cert.ReferenceIdeal.Read.val_main_v66_eq, a0, a1, a3]
    exact Cert.Proof.Equal.dv_eq y0 y1 y3 m c e0 e1 e3

end Cert.Proof

end
-- ==== Proof.FwdChunk.lean ====
/-
  The forward latent attention's body as a function of values. A grid point works on a tile of 512 query rows of two
  heads, each head on its own half of the 256 lanes; the state of a head is the running maximum and the accumulator.
  `step` takes one chunk of 512 keys, `stepD` the chunk on the diagonal, and the point's outputs are read off the
  state after the chunks `0, …, n - 1` and the diagonal chunk `n`.
-/
module

public import proofs.«01_k».proof.Proof.Gen.AttentionIdeal.Frame
public import Idealize.ShloMosaic.Lib.VecWindow

@[expose] public section

set_option maxRecDepth 16384

noncomputable section

namespace Cert.Proof.AttentionIdeal

open Cert.AttentionIdeal Cert.AttentionIdeal.Gen
open Idealize.ShloMosaic Idealize.ShloMosaic.TcCoe
open Idealize.SL.Sem

variable {F : FTy → Type} [FloatOps F] [Named F]

/-! ## The two halves of the lanes -/

/-- The first head's lanes. -/
abbrev lo {α : Type} (x : S512x256.Idx → α) : S512x128.Idx → α := VecWindow.window x ![0, 0] S512x128.size inb_S512x256_S512x128_0_0
/-- The second head's lanes. -/
abbrev hi {α : Type} (x : S512x256.Idx → α) : S512x128.Idx → α := VecWindow.window x ![0, 128] S512x128.size inb_S512x256_S512x128_0_128

section Halves

variable {κ : Kind} {sp : Space} {e : EltTy} (v : View sig κ sp S512x256 e) (f : v.ty.Contents (Elt F)) (a b : S512x128.Idx → Elt F e) (L : List (View.Piece (Elt F) S512x256 e))

theorem lo_lo : lo (v.read (Elt F) (v.writes (Elt F) f (⟨Rect.unit (s := S512x256) ![0, 0] S512x128.size inb_S512x256_S512x128_0_0, a⟩ :: L))) = a := by
  exact (congrArg lo (View.read_writes_cons_put (size := S512x128.size) v f inb_S512x256_S512x128_0_0 a L rfl)).trans
    (VecWindow.window_put_same (s := S512x256) (v.read (Elt F) (v.writes (Elt F) f L)) ![0, 0] S512x128.size inb_S512x256_S512x128_0_0 a)
theorem hi_hi : hi (v.read (Elt F) (v.writes (Elt F) f (⟨Rect.unit (s := S512x256) ![0, 128] S512x128.size inb_S512x256_S512x128_0_128, a⟩ :: L))) = a := by
  exact (congrArg hi (View.read_writes_cons_put (size := S512x128.size) v f inb_S512x256_S512x128_0_128 a L rfl)).trans
    (VecWindow.window_put_same (s := S512x256) (v.read (Elt F) (v.writes (Elt F) f L)) ![0, 128] S512x128.size inb_S512x256_S512x128_0_128 a)
theorem hi_lo : hi (v.read (Elt F) (v.writes (Elt F) f (⟨Rect.unit (s := S512x256) ![0, 0] S512x128.size inb_S512x256_S512x128_0_0, a⟩ :: L)))
    = hi (v.read (Elt F) (v.writes (Elt F) f L)) := by
  exact (congrArg hi (View.read_writes_cons_put (size := S512x128.size) v f inb_S512x256_S512x128_0_0 a L rfl)).trans
    (VecWindow.window_put_of_disjoint (s := S512x256) (v.read (Elt F) (v.writes (Elt F) f L)) ![0, 0] S512x128.size ![0, 128] S512x128.size inb_S512x256_S512x128_0_128 a (1 : Fin 2) (Or.inr (le_refl 128)))
theorem lo_hi : lo (v.read (Elt F) (v.writes (Elt F) f (⟨Rect.unit (s := S512x256) ![0, 128] S512x128.size inb_S512x256_S512x128_0_128, a⟩ :: L)))
    = lo (v.read (Elt F) (v.writes (Elt F) f L)) := by
  exact (congrArg lo (View.read_writes_cons_put (size := S512x128.size) v f inb_S512x256_S512x128_0_128 a L rfl)).trans
    (VecWindow.window_put_of_disjoint (s := S512x256) (v.read (Elt F) (v.writes (Elt F) f L)) ![0, 128] S512x128.size ![0, 0] S512x128.size inb_S512x256_S512x128_0_0 a (1 : Fin 2) (Or.inl (le_refl 128)))

end Halves

/-! ## The chunks of keys and values -/

theorem chunk_inb (n : Fin 16) (h : Fin 2) : ∀ a, (![512 * n.val, 128 * h.val] : Fin 2 → ℕ) a + S512x128.size a ≤ S8192x256.size a := by
  have := n.isLt
  have := h.isLt
  intro a; fin_cases a
  · show 512 * n.val + 512 ≤ 8192; omega
  · show 128 * h.val + 128 ≤ 256; omega

/-- The rows of chunk `n`, on the lanes of head `h`. -/
abbrev chunk {α : Type} (x : S8192x256.Idx → α) (h : Fin 2) (n : Fin 16) : S512x128.Idx → α :=
  VecWindow.window x ![512 * n.val, 128 * h.val] S512x128.size (chunk_inb n h)

theorem read_chunk {κ : Kind} {sp : Space} {e : EltTy} (v : View sig κ sp S8192x256 e) (f : v.ty.Contents (Elt F)) (X : S8192x256.Idx → Elt F e) (hX : v.read (Elt F) f = X)
    (off : Fin 2 → ℕ) (h : Fin 2) (n : Fin 16) (inb : ∀ a, off a + S512x128.size a ≤ S8192x256.size a) (ho : off = ![512 * n.val, 128 * h.val]) :
    v.readAt (Elt F) (Rect.unit (s := S8192x256) off S512x128.size inb).toLoadRect f = chunk X h n :=
  (View.readAt_unit v f inb ho (chunk_inb n h)).trans (by rw [hX])

theorem trips1_eq : ∀ i : grid0.Coords, (k0_t1_loop i).trips = (i 1).val := by decide +kernel
theorem trips2_eq : ∀ i : grid0.Coords, (k0_t2_loop i).trips = 0 := by decide +kernel
theorem off1_eq : ∀ (i : grid0.Coords) (k : Fin (k0_t1_loop i).trips), k0_off1 i k = ![512 * k.val, 0] := by decide +kernel
theorem off2_eq : ∀ (i : grid0.Coords) (k : Fin (k0_t1_loop i).trips), k0_off2 i k = ![512 * k.val, 128] := by decide +kernel
theorem off5_eq : ∀ i : grid0.Coords, k0_off5 i = ![512 * (i 1).val, 0] := by decide +kernel
theorem off6_eq : ∀ i : grid0.Coords, k0_off6 i = ![512 * (i 1).val, 128] := by decide +kernel

/-! ## A head's state -/

/-- The running maximum and the accumulator of a head. -/
@[ext] structure St (F : FTy → Type) where
  m : FVec F S512x128 .f32
  acc : FVec F S512x128 .f32

/-- A chunk of keys below the diagonal. -/
def step (q k v : FVec F S512x128 .bf16) (s : St F) : St F := ⟨k0_pay4 q k s.m, k0_pay3 q k s.m s.acc v⟩
/-- The chunk of keys on the diagonal. -/
def stepD (q k v : FVec F S512x128 .bf16) (s : St F) : St F :=
  ⟨k0_pay28 (k0_pay24 q k s.m), k0_pay27 (k0_pay23 q k) (k0_pay25 q k s.m) (k0_pay26 q k s.m) s.acc v⟩

/-- The state after the chunks `0, …, n - 1`. -/
def run (q : FVec F S512x128 .bf16) (k v : Fin 16 → FVec F S512x128 .bf16) : ℕ → St F
  | 0 => ⟨lo k0_pay13, lo k0_pay14⟩
  | n + 1 => if h : n < 16 then step q (k ⟨n, h⟩) (v ⟨n, h⟩) (run q k v n) else run q k v n

theorem run_succ (q : FVec F S512x128 .bf16) (k v : Fin 16 → FVec F S512x128 .bf16) (n : ℕ) (h : n < 16) :
    run q k v (n + 1) = step q (k ⟨n, h⟩) (v ⟨n, h⟩) (run q k v n) := by
  rw [run, dif_pos h]

/-- The state of a head at the end of the grid point of tile `n`. -/
def fin (q : FVec F S512x128 .bf16) (k v : Fin 16 → FVec F S512x128 .bf16) (n : Fin 16) : St F := stepD q (k n) (v n) (run q k v n.val)

section Body

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
  (x0 : Vec F S512x256 .bf16) (x1 x2 : Vec F S8192x256 .bf16)

/-- What the two scratch buffers hold of the two heads' states. -/
structure Holding (f7 : arg7.view.ty.Contents (Elt F)) (f8 : arg8.view.ty.Contents (Elt F)) (s0 s1 : St F) : Prop where
  m0 : lo (arg7.view.read (Elt F) f7) = s0.m
  m1 : hi (arg7.view.read (Elt F) f7) = s1.m
  acc0 : lo (arg8.view.read (Elt F) f8) = s0.acc
  acc1 : hi (arg8.view.read (Elt F) f8) = s1.acc

/-- One trip of the loop is one chunk of each head. -/
theorem trip (k : Fin (k0_t1_loop i).trips) (hk : k.val < 16) (f7 : arg7.view.ty.Contents (Elt F)) (f8 : arg8.view.ty.Contents (Elt F)) (s0 s1 : St F)
    (h : Holding arg7 arg8 f7 f8 s0 s1) :
    Holding arg7 arg8 (arg7.view.writes (Elt F) f7 (tripL_k0_t1 Variants.none c none i arg2 harg2 arg3 harg3 arg4 harg4 arg5 harg5 arg6 harg6 arg7 harg7 arg8 harg8 (harg2.unread x0) (harg3.unread x1) (harg4.unread x2) k f7 f8).1)
      (arg8.view.writes (Elt F) f8 (tripL_k0_t1 Variants.none c none i arg2 harg2 arg3 harg3 arg4 harg4 arg5 harg5 arg6 harg6 arg7 harg7 arg8 harg8 (harg2.unread x0) (harg3.unread x1) (harg4.unread x2) k f7 f8).2)
      (step (lo x0) (chunk x1 0 ⟨k.val, hk⟩) (chunk x2 0 ⟨k.val, hk⟩) s0) (step (hi x0) (chunk x1 1 ⟨k.val, hk⟩) (chunk x2 1 ⟨k.val, hk⟩) s1) := by
  obtain ⟨hm0, hm1, ha0, ha1⟩ := h
  have e2 := harg2.read_unread (Val := Elt F) x0
  have k0 := read_chunk arg3.view _ x1 (harg3.read_unread (Val := Elt F) x1) (k0_off1 i k) 0 ⟨k.val, hk⟩ (k0_off1_inb i k) (off1_eq i k)
  have k1 := read_chunk arg3.view _ x1 (harg3.read_unread (Val := Elt F) x1) (k0_off2 i k) 1 ⟨k.val, hk⟩ (k0_off2_inb i k) (off2_eq i k)
  have v0 := read_chunk arg4.view _ x2 (harg4.read_unread (Val := Elt F) x2) (k0_off1 i k) 0 ⟨k.val, hk⟩ (k0_off1_inb i k) (off1_eq i k)
  have v1 := read_chunk arg4.view _ x2 (harg4.read_unread (Val := Elt F) x2) (k0_off2 i k) 1 ⟨k.val, hk⟩ (k0_off2_inb i k) (off2_eq i k)
  have q0 := View.readAt_unit arg2.view (harg2.unread (Val := Elt F) x0) inb_S512x256_S512x128_0_0 rfl inb_S512x256_S512x128_0_0
  have q1 := View.readAt_unit arg2.view (harg2.unread (Val := Elt F) x0) inb_S512x256_S512x128_0_128 rfl inb_S512x256_S512x128_0_128
  have m0 := (View.readAt_unit arg7.view f7 inb_S512x256_S512x128_0_0 rfl inb_S512x256_S512x128_0_0).trans hm0
  have m1 := (View.readAt_unit arg7.view f7 inb_S512x256_S512x128_0_128 rfl inb_S512x256_S512x128_0_128).trans hm1
  have a0 := (View.readAt_unit arg8.view f8 inb_S512x256_S512x128_0_0 rfl inb_S512x256_S512x128_0_0).trans ha0
  have a1 := (View.readAt_unit arg8.view f8 inb_S512x256_S512x128_0_128 rfl inb_S512x256_S512x128_0_128).trans ha1
  rw [e2] at q0 q1
  unfold tripL_k0_t1 trip_k0_t1
  dsimp only
  refine ⟨?_, ?_, ?_, ?_⟩
  · refine (lo_hi _ _ _ _).trans ((lo_lo _ _ _ _).trans ?_)
    show k0_pay4 _ _ _ = k0_pay4 _ _ _
    exact congr (congrArg₂ k0_pay4 q0 k0) m0
  · refine (hi_hi _ _ _ _).trans ?_
    show k0_pay4 _ _ _ = k0_pay4 _ _ _
    exact congr (congrArg₂ k0_pay4 q1 k1) m1
  · refine (lo_hi _ _ _ _).trans ((lo_lo _ _ _ _).trans ?_)
    show k0_pay3 _ _ _ _ _ = k0_pay3 _ _ _ _ _
    exact congr (congr (congr (congrArg₂ k0_pay3 q0 k0) m0) a0) v0
  · refine (hi_hi _ _ _ _).trans ?_
    show k0_pay3 _ _ _ _ _ = k0_pay3 _ _ _ _ _
    exact congr (congr (congr (congrArg₂ k0_pay3 q1 k1) m1) a1) v1

/-- After `n` trips the buffers hold the states after `n` chunks. -/
theorem trips (G7 : arg7.view.ty.Contents (Elt F)) (G8 : arg8.view.ty.Contents (Elt F))
    (h : Holding arg7 arg8 G7 G8 (run (lo x0) (chunk x1 0) (chunk x2 0) 0) (run (hi x0) (chunk x1 1) (chunk x2 1) 0)) (n : ℕ) (hn : n ≤ (k0_t1_loop i).trips) :
    Holding arg7 arg8 (arg7.view.writes (Elt F) G7 (pb_k0_t1 Variants.none c none i arg2 harg2 arg3 harg3 arg4 harg4 arg5 harg5 arg6 harg6 arg7 harg7 arg8 harg8 (harg2.unread x0) (harg3.unread x1) (harg4.unread x2) G7 G8 n).1)
      (arg8.view.writes (Elt F) G8 (pb_k0_t1 Variants.none c none i arg2 harg2 arg3 harg3 arg4 harg4 arg5 harg5 arg6 harg6 arg7 harg7 arg8 harg8 (harg2.unread x0) (harg3.unread x1) (harg4.unread x2) G7 G8 n).2)
      (run (lo x0) (chunk x1 0) (chunk x2 0) n) (run (hi x0) (chunk x1 1) (chunk x2 1) n) := by
  have hl : (k0_t1_loop i).trips ≤ 16 := by rw [trips1_eq]; exact (i 1).isLt.le
  induction n with
  | zero => exact h
  | succ n ih =>
    have h16 : n < 16 := by omega
    have e := pb_k0_t1_succ Variants.none c none i arg2 harg2 arg3 harg3 arg4 harg4 arg5 harg5 arg6 harg6 arg7 harg7 arg8 harg8 (harg2.unread x0) (harg3.unread x1) (harg4.unread x2) G7 G8 ⟨n, hn⟩
    have t := trip c i arg2 harg2 arg3 harg3 arg4 harg4 arg5 harg5 arg6 harg6 arg7 harg7 arg8 harg8 x0 x1 x2 ⟨n, hn⟩ h16 _ _ _ _ (ih (by omega))
    rw [run_succ _ _ _ n h16, run_succ _ _ _ n h16]
    rw [← View.writes_append, ← View.writes_append] at t
    rw [show n + 1 = (⟨n, hn⟩ : Fin (k0_t1_loop i).trips).val + 1 from rfl, e]
    exact t

end Body

end Cert.Proof.AttentionIdeal
-- ==== Proof.FwdPoint.lean ====
/-
  A grid point's outputs as functions of the two heads' states at its end.
-/
module

public import proofs.«01_k».proof.Proof.FwdChunk

@[expose] public section

set_option maxRecDepth 16384

noncomputable section

namespace Cert.Proof.AttentionIdeal

open Cert.AttentionIdeal Cert.AttentionIdeal.Gen
open Idealize.ShloMosaic Idealize.ShloMosaic.TcCoe
open Idealize.SL.Sem

variable {F : FTy → Type} [FloatOps F] [Named F]

section Body

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole)
  (x0 : Vec F S512x256 .bf16) (x1 x2 : Vec F S8192x256 .bf16)

/-- The tile of the grid point. -/
abbrev tileOf (i : grid0.Coords) : Fin 16 := ⟨(i 1).val, (i 1).isLt⟩

/-- The stores to the maximum's buffer before the diagonal chunk. -/
abbrev L7 : List (View.Piece (Elt F) S512x256 .f32) :=
  (pb_k0_t1 Variants.none c none i arg2 harg2 arg3 harg3 arg4 harg4 arg5 harg5 arg6 harg6 arg7 harg7 arg8 harg8 (harg2.unread x0) (harg3.unread x1) (harg4.unread x2)
    (arg7.view.writes (Elt F) arg7.view.junk kernelRun0_A.sl.HS0_1) (arg8.view.writes (Elt F) arg8.view.junk kernelRun0_A.sl.HS1_1) (k0_t1_loop i).trips).1 ++ kernelRun0_A.sl.HS0_1
/-- The stores to the accumulator's buffer before the diagonal chunk. -/
abbrev L8 : List (View.Piece (Elt F) S512x256 .f32) :=
  (pb_k0_t1 Variants.none c none i arg2 harg2 arg3 harg3 arg4 harg4 arg5 harg5 arg6 harg6 arg7 harg7 arg8 harg8 (harg2.unread x0) (harg3.unread x1) (harg4.unread x2)
    (arg7.view.writes (Elt F) arg7.view.junk kernelRun0_A.sl.HS0_1) (arg8.view.writes (Elt F) arg8.view.junk kernelRun0_A.sl.HS1_1) (k0_t1_loop i).trips).2 ++ kernelRun0_A.sl.HS1_1

theorem start : Holding arg7 arg8 (arg7.view.writes (Elt F) arg7.view.junk kernelRun0_A.sl.HS0_1) (arg8.view.writes (Elt F) arg8.view.junk kernelRun0_A.sl.HS1_1)
    (run (F := F) (lo x0) (chunk x1 0) (chunk x2 0) 0) (run (hi x0) (chunk x1 1) (chunk x2 1) 0) := by
  unfold kernelRun0_A.sl.HS0_1 kernelRun0_A.sl.HS1_1
  have e7 := View.read_writes_full (s := S512x256) arg7.view (arg7.view.junk (Val := Elt F)) inb_S512x256_S512x256_0_0 k0_pay13 []
  have e8 := View.read_writes_full (s := S512x256) arg8.view (arg8.view.junk (Val := Elt F)) inb_S512x256_S512x256_0_0 k0_pay14 []
  exact ⟨congrArg lo e7, congrArg hi e7, congrArg lo e8, congrArg hi e8⟩

/-- Before the diagonal chunk the buffers hold the states after the chunks below it. -/
theorem before : Holding arg7 arg8 (arg7.view.writes (Elt F) arg7.view.junk (L7 c i arg2 harg2 arg3 harg3 arg4 harg4 arg5 harg5 arg6 harg6 arg7 harg7 arg8 harg8 x0 x1 x2)) (arg8.view.writes (Elt F) arg8.view.junk (L8 c i arg2 harg2 arg3 harg3 arg4 harg4 arg5 harg5 arg6 harg6 arg7 harg7 arg8 harg8 x0 x1 x2))
    (run (lo x0) (chunk x1 0) (chunk x2 0) (i 1).val) (run (hi x0) (chunk x1 1) (chunk x2 1) (i 1).val) := by
  have t := trips c i arg2 harg2 arg3 harg3 arg4 harg4 arg5 harg5 arg6 harg6 arg7 harg7 arg8 harg8 x0 x1 x2 _ _ (start arg7 arg8 x0 x1 x2) _ le_rfl
  rw [← View.writes_append, ← View.writes_append] at t
  have e := trips1_eq i
  rw [← e]
  exact t

theorem t2_nil (a : BitVec 32) (G7 : arg7.view.ty.Contents (Elt F)) (G8 : arg8.view.ty.Contents (Elt F)) :
    pb_k0_t2 Variants.none c none i arg2 harg2 arg3 harg3 arg4 harg4 arg5 harg5 arg6 harg6 arg7 harg7 arg8 harg8 a (harg2.unread x0) (harg3.unread x1) (harg4.unread x2) G7 G8 (k0_t2_loop i).trips = ([], []) := by
  rw [trips2_eq i]
  rfl

theorem q0_eq : arg2.view.readAt (Elt F) (Rect.unit (s := S512x256) ![0, 0] S512x128.size inb_S512x256_S512x128_0_0).toLoadRect (harg2.unread (Val := Elt F) x0) = lo x0 :=
  congrArg lo (harg2.read_unread (Val := Elt F) x0)
theorem q1_eq : arg2.view.readAt (Elt F) (Rect.unit (s := S512x256) ![0, 128] S512x128.size inb_S512x256_S512x128_0_128).toLoadRect (harg2.unread (Val := Elt F) x0) = hi x0 :=
  congrArg hi (harg2.read_unread (Val := Elt F) x0)
theorem k0_eq {a : Memref sig .tc .vmem S8192x256 .bf16} (ha : a.IsWhole) (x : Vec F S8192x256 .bf16) :
    a.view.readAt (Elt F) (Rect.unit (s := S8192x256) (k0_off5 i) S512x128.size (k0_off5_inb i)).toLoadRect (ha.unread (Val := Elt F) x) = chunk x 0 (tileOf i) :=
  read_chunk a.view _ x (ha.read_unread (Val := Elt F) x) (k0_off5 i) 0 (tileOf i) (k0_off5_inb i) (off5_eq i)
theorem k1_eq {a : Memref sig .tc .vmem S8192x256 .bf16} (ha : a.IsWhole) (x : Vec F S8192x256 .bf16) :
    a.view.readAt (Elt F) (Rect.unit (s := S8192x256) (k0_off6 i) S512x128.size (k0_off6_inb i)).toLoadRect (ha.unread (Val := Elt F) x) = chunk x 1 (tileOf i) :=
  read_chunk a.view _ x (ha.read_unread (Val := Elt F) x) (k0_off6 i) 1 (tileOf i) (k0_off6_inb i) (off6_eq i)

/-- The first head's maximum before the diagonal chunk. -/
theorem v26_eq : kernelRun0_A.sl.v26 c i arg2 harg2 arg3 harg3 arg4 harg4 arg5 harg5 arg6 harg6 arg7 harg7 arg8 harg8 x0 x1 x2 = (run (lo x0) (chunk x1 0) (chunk x2 0) (i 1).val).m := by
  unfold kernelRun0_A.sl.v26
  have t := t2_nil c i arg2 harg2 arg3 harg3 arg4 harg4 arg5 harg5 arg6 harg6 arg7 harg7 arg8 harg8 x0 x1 x2 (kernelRun0_A.sl.v12 i) (arg7.view.writes (Elt F) arg7.view.junk (L7 c i arg2 harg2 arg3 harg3 arg4 harg4 arg5 harg5 arg6 harg6 arg7 harg7 arg8 harg8 x0 x1 x2)) (arg8.view.writes (Elt F) arg8.view.junk (L8 c i arg2 harg2 arg3 harg3 arg4 harg4 arg5 harg5 arg6 harg6 arg7 harg7 arg8 harg8 x0 x1 x2))
  refine Eq.trans (congrArg (fun p => arg7.view.readCov (Prod.fst p ++ L7 c i arg2 harg2 arg3 harg3 arg4 harg4 arg5 harg5 arg6 harg6 arg7 harg7 arg8 harg8 x0 x1 x2) (Rect.unit (s := S512x256) ![0, 0] S512x128.size inb_S512x256_S512x128_0_0).toLoadRect) t) ?_
  exact (before c i arg2 harg2 arg3 harg3 arg4 harg4 arg5 harg5 arg6 harg6 arg7 harg7 arg8 harg8 x0 x1 x2).m0

theorem v36_eq : kernelRun0_A.sl.v36 c i arg2 harg2 arg3 harg3 arg4 harg4 arg5 harg5 arg6 harg6 arg7 harg7 arg8 harg8 x0 x1 x2 = (run (lo x0) (chunk x1 0) (chunk x2 0) (i 1).val).acc := by
  unfold kernelRun0_A.sl.v36
  have t := t2_nil c i arg2 harg2 arg3 harg3 arg4 harg4 arg5 harg5 arg6 harg6 arg7 harg7 arg8 harg8 x0 x1 x2 (kernelRun0_A.sl.v12 i) (arg7.view.writes (Elt F) arg7.view.junk (L7 c i arg2 harg2 arg3 harg3 arg4 harg4 arg5 harg5 arg6 harg6 arg7 harg7 arg8 harg8 x0 x1 x2)) (arg8.view.writes (Elt F) arg8.view.junk (L8 c i arg2 harg2 arg3 harg3 arg4 harg4 arg5 harg5 arg6 harg6 arg7 harg7 arg8 harg8 x0 x1 x2))
  refine Eq.trans (congrArg (fun p => arg8.view.readCov (Prod.snd p ++ L8 c i arg2 harg2 arg3 harg3 arg4 harg4 arg5 harg5 arg6 harg6 arg7 harg7 arg8 harg8 x0 x1 x2) (Rect.unit (s := S512x256) ![0, 0] S512x128.size inb_S512x256_S512x128_0_0).toLoadRect) t) ?_
  exact (before c i arg2 harg2 arg3 harg3 arg4 harg4 arg5 harg5 arg6 harg6 arg7 harg7 arg8 harg8 x0 x1 x2).acc0

/-- The second head's maximum before the diagonal chunk. -/
theorem v61_eq : kernelRun0_A.sl.v61 c i arg2 harg2 arg3 harg3 arg4 harg4 arg5 harg5 arg6 harg6 arg7 harg7 arg8 harg8 x0 x1 x2 = (run (hi x0) (chunk x1 1) (chunk x2 1) (i 1).val).m := by
  unfold kernelRun0_A.sl.v61 kernelRun0_A.sl.HS0_1_1
  have t := t2_nil c i arg2 harg2 arg3 harg3 arg4 harg4 arg5 harg5 arg6 harg6 arg7 harg7 arg8 harg8 x0 x1 x2 (kernelRun0_A.sl.v12 i) (arg7.view.writes (Elt F) arg7.view.junk (L7 c i arg2 harg2 arg3 harg3 arg4 harg4 arg5 harg5 arg6 harg6 arg7 harg7 arg8 harg8 x0 x1 x2)) (arg8.view.writes (Elt F) arg8.view.junk (L8 c i arg2 harg2 arg3 harg3 arg4 harg4 arg5 harg5 arg6 harg6 arg7 harg7 arg8 harg8 x0 x1 x2))
  refine (hi_lo _ _ _ _).trans ?_
  refine Eq.trans (congrArg (fun p => hi (arg7.view.read (Elt F) (arg7.view.writes (Elt F) arg7.view.junk (Prod.fst p ++ L7 c i arg2 harg2 arg3 harg3 arg4 harg4 arg5 harg5 arg6 harg6 arg7 harg7 arg8 harg8 x0 x1 x2)))) t) ?_
  exact (before c i arg2 harg2 arg3 harg3 arg4 harg4 arg5 harg5 arg6 harg6 arg7 harg7 arg8 harg8 x0 x1 x2).m1

theorem v71_eq : kernelRun0_A.sl.v71 c i arg2 harg2 arg3 harg3 arg4 harg4 arg5 harg5 arg6 harg6 arg7 harg7 arg8 harg8 x0 x1 x2 = (run (hi x0) (chunk x1 1) (chunk x2 1) (i 1).val).acc := by
  unfold kernelRun0_A.sl.v71 kernelRun0_A.sl.HS1_1_1
  have t := t2_nil c i arg2 harg2 arg3 harg3 arg4 harg4 arg5 harg5 arg6 harg6 arg7 harg7 arg8 harg8 x0 x1 x2 (kernelRun0_A.sl.v12 i) (arg7.view.writes (Elt F) arg7.view.junk (L7 c i arg2 harg2 arg3 harg3 arg4 harg4 arg5 harg5 arg6 harg6 arg7 harg7 arg8 harg8 x0 x1 x2)) (arg8.view.writes (Elt F) arg8.view.junk (L8 c i arg2 harg2 arg3 harg3 arg4 harg4 arg5 harg5 arg6 harg6 arg7 harg7 arg8 harg8 x0 x1 x2))
  refine (hi_lo _ _ _ _).trans ?_
  refine Eq.trans (congrArg (fun p => hi (arg8.view.read (Elt F) (arg8.view.writes (Elt F) arg8.view.junk (Prod.snd p ++ L8 c i arg2 harg2 arg3 harg3 arg4 harg4 arg5 harg5 arg6 harg6 arg7 harg7 arg8 harg8 x0 x1 x2)))) t) ?_
  exact (before c i arg2 harg2 arg3 harg3 arg4 harg4 arg5 harg5 arg6 harg6 arg7 harg7 arg8 harg8 x0 x1 x2).acc1

/-- The heads' states at the end of the point. -/
theorem v90_eq : kernelRun0_A.sl.v90 c i arg2 harg2 arg3 harg3 arg4 harg4 arg5 harg5 arg6 harg6 arg7 harg7 arg8 harg8 x0 x1 x2 = (fin (lo x0) (chunk x1 0) (chunk x2 0) (tileOf i)).m := by
  unfold kernelRun0_A.sl.v90 kernelRun0_A.sl.HS0_2 kernelRun0_A.sl.HS0_1_1
  refine (lo_hi _ _ _ _).trans ((lo_lo _ _ _ _).trans ?_)
  unfold kernelRun0_A.sl.r_1
  rw [v26_eq, q0_eq, k0_eq]
  rfl

theorem v85_eq : kernelRun0_A.sl.v85 c i arg2 harg2 arg3 harg3 arg4 harg4 arg5 harg5 arg6 harg6 arg7 harg7 arg8 harg8 x0 x1 x2 = (fin (lo x0) (chunk x1 0) (chunk x2 0) (tileOf i)).acc := by
  unfold kernelRun0_A.sl.v85 kernelRun0_A.sl.HS1_2 kernelRun0_A.sl.HS1_1_1
  refine (lo_hi _ _ _ _).trans ((lo_lo _ _ _ _).trans ?_)
  unfold kernelRun0_A.sl.r kernelRun0_A.sl.r_2 kernelRun0_A.sl.r_3
  rw [v26_eq, v36_eq, q0_eq, k0_eq, k0_eq]
  rfl

theorem v100_eq : kernelRun0_A.sl.v100 c i arg2 harg2 arg3 harg3 arg4 harg4 arg5 harg5 arg6 harg6 arg7 harg7 arg8 harg8 x0 x1 x2 = (fin (hi x0) (chunk x1 1) (chunk x2 1) (tileOf i)).m := by
  unfold kernelRun0_A.sl.v100 kernelRun0_A.sl.HS0_2
  refine (hi_hi _ _ _ _).trans ?_
  unfold kernelRun0_A.sl.r_4
  rw [v61_eq, q1_eq, k1_eq]
  rfl

theorem v95_eq : kernelRun0_A.sl.v95 c i arg2 harg2 arg3 harg3 arg4 harg4 arg5 harg5 arg6 harg6 arg7 harg7 arg8 harg8 x0 x1 x2 = (fin (hi x0) (chunk x1 1) (chunk x2 1) (tileOf i)).acc := by
  unfold kernelRun0_A.sl.v95 kernelRun0_A.sl.HS1_2
  refine (hi_hi _ _ _ _).trans ?_
  unfold kernelRun0_A.sl.r_5 kernelRun0_A.sl.r_6
  rw [v61_eq, v71_eq, q1_eq, k1_eq, k1_eq]
  rfl

/-- A head's output: the accumulator over its sum of exponentials. -/
def outO (s : St F) : FVec F S512x128 .f32 := k0_pay36 s.acc
/-- A head's log-sum-exp. -/
def outL (s : St F) : FVec F S512x128 .f32 := k0_pay37 s.acc s.m

theorem out3_lo : lo (out0_A_3 c i arg2 harg2 arg3 harg3 arg4 harg4 arg5 harg5 arg6 harg6 arg7 harg7 arg8 harg8 x0 x1 x2) = outO (fin (lo x0) (chunk x1 0) (chunk x2 0) (tileOf i)) := by
  unfold out0_A_3 kernelRun0_A
  dsimp only
  refine (lo_hi _ _ _ _).trans ((lo_lo _ _ _ _).trans ?_)
  rw [v85_eq]
  rfl
theorem out3_hi : hi (out0_A_3 c i arg2 harg2 arg3 harg3 arg4 harg4 arg5 harg5 arg6 harg6 arg7 harg7 arg8 harg8 x0 x1 x2) = outO (fin (hi x0) (chunk x1 1) (chunk x2 1) (tileOf i)) := by
  unfold out0_A_3 kernelRun0_A
  dsimp only
  refine (hi_hi _ _ _ _).trans ?_
  rw [v95_eq]
  rfl
theorem out4_lo : lo (out0_A_4 c i arg2 harg2 arg3 harg3 arg4 harg4 arg5 harg5 arg6 harg6 arg7 harg7 arg8 harg8 x0 x1 x2) = outL (fin (lo x0) (chunk x1 0) (chunk x2 0) (tileOf i)) := by
  unfold out0_A_4 kernelRun0_A
  dsimp only
  refine (lo_hi _ _ _ _).trans ((lo_lo _ _ _ _).trans ?_)
  rw [v85_eq, v90_eq]
  rfl
theorem out4_hi : hi (out0_A_4 c i arg2 harg2 arg3 harg3 arg4 harg4 arg5 harg5 arg6 harg6 arg7 harg7 arg8 harg8 x0 x1 x2) = outL (fin (hi x0) (chunk x1 1) (chunk x2 1) (tileOf i)) := by
  unfold out0_A_4 kernelRun0_A
  dsimp only
  refine (hi_hi _ _ _ _).trans ?_
  unfold kernelRun0_A.sl.r_7
  rw [v95_eq, v100_eq]
  rfl

end Body

end Cert.Proof.AttentionIdeal
-- ==== Proof.Online.lean ====
/-
  The softmax over tiles of keys: a running maximum and a running sum that is rescaled when the maximum grows. Whatever real
  number the running maximum is, the rescaled sums give the same quotient and the same logarithm.
-/
module

public import proofs.«01_k».proof.Proof.Attn

@[expose] public section

set_option maxRecDepth 16384

noncomputable section

namespace Cert.Proof.Online

open Idealize.ShloMosaic Cert.Proof.Attn

/-- A factor that is a real number, and not negative, goes into a sum of extended reals. -/
theorem mul_sum {ι : Type} (s : Finset ι) (f : ι → EReal) (r : ℝ) (h : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr h) (EReal.coe_ne_top r) _ _

variable (Q K : Fin 8192 → Fin 96 → ℝ)

/-- The exponential of a logit less `M`. -/
def exm (M : ℝ) (q k : Fin 8192) : ℝ := if k.val ≤ q.val then Real.exp (sc Q K q k - M) else 0

theorem exm_nonneg (M : ℝ) (q k : Fin 8192) : 0 ≤ exm Q K M q k := by
  unfold exm
  split
  · exact (Real.exp_pos _).le
  · exact le_rfl

theorem exp_lg_sub (M : ℝ) (q k : Fin 8192) : Ideal.exp (lg Q K q k - (M : EReal)) = (exm Q K M q k : EReal) := by
  unfold lg exm
  split
  · rw [← EReal.coe_sub, Ideal.exp_coe]
  · rw [EReal.bot_sub, Ideal.exp_bot, EReal.coe_zero]

/-- Another number in the place of `M` is a factor. -/
theorem exm_shift (M N : ℝ) (q k : Fin 8192) : Real.exp (M - N) * exm Q K M q k = exm Q K N q k := by
  unfold exm
  split
  · rw [← Real.exp_add]
    congr 1
    ring
  · exact mul_zero _

theorem exm_mx (q k : Fin 8192) : exm Q K (mx Q K q).toReal q k = ex Q K q k := rfl

/-- The key at column `c` of tile `n`. -/
def key (n : ℕ) (c : Fin 512) : Fin 8192 := ⟨512 * (n % 16) + c.val, by have := c.isLt; have := Nat.mod_lt n (show 0 < 16 by decide); omega⟩

/-- The sum over the keys of the first `n` tiles. -/
def part (w : Fin 8192 → EReal) (M : ℝ) (q : Fin 8192) (n : ℕ) : EReal :=
  ∑ x ∈ Finset.range n, ∑ c : Fin 512, (exm Q K M q (key x c) : EReal) * w (key x c)

theorem part_shift (w : Fin 8192 → EReal) (M N : ℝ) (q : Fin 8192) (n : ℕ) :
    ((Real.exp (M - N) : ℝ) : EReal) * part Q K w M q n = part Q K w N q n := by
  unfold part
  rw [mul_sum _ _ _ (Real.exp_pos _).le]
  refine Finset.sum_congr rfl fun x _ => ?_
  rw [mul_sum _ _ _ (Real.exp_pos _).le]
  refine Finset.sum_congr rfl fun c _ => ?_
  rw [← mul_assoc, ← EReal.coe_mul, exm_shift]

/-- What the running maximum and the running sums of a row hold after `n` tiles. -/
def Holds (w : Fin 128 → Fin 8192 → EReal) (q : Fin 8192) (n : ℕ) (m : EReal) (acc : Fin 128 → EReal) : Prop :=
  (n = 0 ∧ m = ⊥ ∧ ∀ a, acc a = 0) ∨ ∃ M : ℝ, m = M ∧ ∀ a, acc a = part Q K (w a) M q n

/-- A row's greatest logit in a tile that the row sees is a real number. -/
theorem max_real (q : Fin 8192) (n : ℕ) (h : (key n 0).val ≤ q.val) (m : EReal) (hm : m ≠ ⊤) :
    ∃ M : ℝ, max m (Finset.univ.fold max ⊥ fun c : Fin 512 => lg Q K q (key n c)) = M := by
  refine ⟨_, (EReal.coe_toReal (ne_of_lt (max_lt (lt_top_iff_ne_top.mpr hm) ?_)) (ne_of_gt (lt_max_of_lt_right ?_))).symm⟩
  · refine (Finset.fold_max_lt _).mpr ⟨bot_lt_top, fun c _ => ?_⟩
    unfold lg
    split
    · exact EReal.coe_lt_top _
    · exact bot_lt_top
  · refine (Finset.lt_fold_max _).mpr (Or.inr ⟨0, Finset.mem_univ _, ?_⟩)
    unfold lg
    rw [if_pos h]
    exact EReal.bot_lt_coe _

/-- One more tile. -/
theorem holds_step (w : Fin 128 → Fin 8192 → EReal) (q : Fin 8192) (n : ℕ) (h : (key n 0).val ≤ q.val) (m m' : EReal) (acc acc' : Fin 128 → EReal)
    (hH : Holds Q K w q n m acc) (hm' : m' = max m (Finset.univ.fold max ⊥ fun c : Fin 512 => lg Q K q (key n c)))
    (hacc : ∀ a, acc' a = Ideal.exp (m - m') * acc a + ∑ c : Fin 512, Ideal.exp (lg Q K q (key n c) - m') * w a (key n c)) :
    Holds Q K w q (n + 1) m' acc' := by
  have hm : m ≠ ⊤ := by
    rcases hH with ⟨-, e, -⟩ | ⟨M, e, -⟩ <;> rw [e]
    · exact bot_ne_top
    · exact EReal.coe_ne_top M
  obtain ⟨N, hN⟩ := max_real Q K q n h m hm
  rw [hN] at hm'
  refine Or.inr ⟨N, hm', fun a => ?_⟩
  rw [hacc a, hm']
  simp only [exp_lg_sub]
  unfold part
  rw [Finset.sum_range_succ]
  refine congrArg₂ (fun x y : EReal => x + y) ?_ rfl
  rcases hH with ⟨n0, e, ea⟩ | ⟨M, e, ea⟩
  · rw [ea a, mul_zero, n0, Finset.range_zero, Finset.sum_empty]
  · rw [ea a, e, ← EReal.coe_sub, Ideal.exp_coe, part_shift]
    rfl

/-- The tiles up to a row's own hold all the keys that the row sees. -/
theorem part_all (w : Fin 8192 → EReal) (M : ℝ) (q : Fin 8192) (n : ℕ) (hn : n ≤ 16) (hq : q.val < 512 * n) :
    part Q K w M q n = ∑ k, (exm Q K M q k : EReal) * w k := by
  unfold part
  have e : ∑ x ∈ Finset.range n, ∑ c : Fin 512, (exm Q K M q (key x c) : EReal) * w (key x c)
      = ∑ x ∈ Finset.range 16, ∑ c : Fin 512, (exm Q K M q (key x c) : EReal) * w (key x c) := by
    refine Finset.sum_subset (fun x hx => Finset.mem_range.mpr (lt_of_lt_of_le (Finset.mem_range.mp hx) hn)) fun x hx hx' => ?_
    refine Finset.sum_eq_zero fun c _ => ?_
    have h1 := Finset.mem_range.mp hx
    have h2 : n ≤ x := by
      by_contra hc
      exact hx' (Finset.mem_range.mpr (by omega))
    have h3 : ¬(key x c).val ≤ q.val := by
      show ¬512 * (x % 16) + c.val ≤ q.val
      rw [Nat.mod_eq_of_lt h1]
      omega
    unfold exm
    rw [if_neg h3, EReal.coe_zero, zero_mul]
  rw [e, Finset.sum_range, ← Fintype.sum_prod_type']
  refine Fintype.sum_bijective (fun p : Fin 16 × Fin 512 => key p.1.val p.2) ⟨fun p p' hp => ?_, fun k => ?_⟩ _ _ fun p => rfl
  · have hv := congrArg Fin.val hp
    have hv' : 512 * (p.1.val % 16) + p.2.val = 512 * (p'.1.val % 16) + p'.2.val := hv
    have := p.1.isLt; have := p'.1.isLt; have := p.2.isLt; have := p'.2.isLt
    exact Prod.ext (Fin.ext (by omega)) (Fin.ext (by omega))
  · refine ⟨(⟨k.val / 512, by have := k.isLt; omega⟩, ⟨k.val % 512, Nat.mod_lt _ (by decide)⟩), Fin.ext ?_⟩
    show 512 * (k.val / 512 % 16) + k.val % 512 = k.val
    have := k.isLt
    omega

/-- The sum of the exponentials. -/
theorem sum_exm (M : ℝ) (q : Fin 8192) : ∑ k, exm Q K M q k = Real.exp ((mx Q K q).toReal - M) * den Q K q := by
  unfold den
  rw [Finset.mul_sum]
  exact Finset.sum_congr rfl fun k _ => (exm_shift Q K _ M q k).symm

theorem sum_one (M : ℝ) (q : Fin 8192) : ∑ k, (exm Q K M q k : EReal) * 1 = ((∑ k, exm Q K M q k : ℝ) : EReal) := by
  rw [← coe_sum]
  exact Finset.sum_congr rfl fun k _ => mul_one _

theorem sum_exm_pos (M : ℝ) (q : Fin 8192) : 0 < ∑ k, exm Q K M q k := by
  rw [sum_exm]
  exact mul_pos (Real.exp_pos _) (den_pos Q K q)

/-- The quotient of the two running sums is the sum with the softmax's weights. -/
theorem quot (w : Fin 8192 → EReal) (M : ℝ) (q : Fin 8192) :
    Ideal.div (∑ k, (exm Q K M q k : EReal) * w k) (∑ k, (exm Q K M q k : EReal) * 1) = ∑ k, (pr Q K q k : EReal) * w k := by
  rw [sum_one, Ideal.div_coe (sum_exm_pos Q K M q).ne', mul_comm, mul_sum _ _ _ (one_div_nonneg.mpr (sum_exm_pos Q K M q).le)]
  refine Finset.sum_congr rfl fun k _ => ?_
  rw [← mul_assoc, ← EReal.coe_mul]
  congr 2
  unfold pr
  have h := (den_pos Q K q).ne'
  have h' := (Real.exp_pos ((mx Q K q).toReal - M)).ne'
  rw [sum_exm, ← exm_shift Q K (mx Q K q).toReal M q k, exm_mx]
  field_simp

/-- The maximum and the logarithm of the sum together do not depend on the maximum. -/
theorem lse_any (M : ℝ) (q : Fin 8192) : (M : EReal) + Ideal.log (∑ k, (exm Q K M q k : EReal) * 1) = (lse Q K q : EReal) := by
  rw [sum_one, Ideal.log_coe, if_neg (not_le.mpr (sum_exm_pos Q K M q)), ← EReal.coe_add]
  congr 1
  unfold lse
  rw [sum_exm, Real.log_mul (Real.exp_pos _).ne' (den_pos Q K q).ne', Real.log_exp]
  ring

theorem sum_pr (q : Fin 8192) : ∑ k, pr Q K q k = 1 := by
  unfold pr
  rw [← Finset.sum_div]
  rw [show ∑ k, ex Q K q k = den Q K q from rfl]
  exact div_self (den_pos Q K q).ne'

end Cert.Proof.Online

end
-- ==== Proof.FwdVal.lean ====
/-
  The forward latent attention's chunks read at an index over the extended reals, and the state of a head's row after
  them: the running maximum and the sums of the rescaled exponentials.
-/
module

public import proofs.«01_k».proof.Proof.FwdPoint
public import proofs.«01_k».proof.Proof.ChunkVal
public import proofs.«01_k».proof.Proof.Online
public import Idealize.ShloMosaic.Lib.Pipeline.ValueKit

@[expose] public section

set_option maxRecDepth 16384

noncomputable section

namespace Cert.Proof.AttentionIdeal

open Cert.AttentionIdeal Cert.AttentionIdeal.Gen Cert.Proof.Attn Cert.Proof.Online
open Cert.Proof.KernelIdeal (lane ladder row)
open Idealize.ShloMosaic Idealize.ShloMosaic.TcCoe

/-- Four copies of the lanes side by side, read at a column. -/
theorem lanes_at (x : FVec Ideal S512x128 .f32) (r c : Fin 512) :
    concatenate S512x512 1 [⟨S512x128, x⟩, ⟨S512x128, x⟩, ⟨S512x128, x⟩, ⟨S512x128, x⟩] concatenates_S512x128_S512x128_S512x128_S512x128_S512x512_d1 (ix2 r c)
      = x (ix2 r (lane c)) := by
  pointwise []
  exact ladder (fun a => x (ix2 r a)) c

theorem mask_eq : (Named.named κ "mask" 0xF149F2CA#32 : Ideal .f32) = (⊥ : EReal) := rfl

variable (q k v : FVec Ideal S512x128 .bf16) (s : St Ideal)

/-- A row's logit below the diagonal. -/
def dotv (r c : Fin 512) : EReal := ∑ d : Fin 128, q (ix2 r d) * k (ix2 c d)
/-- A row's logit on the diagonal. -/
def dotD (r c : Fin 512) : EReal := if c.val ≤ r.val then dotv q k r c else ⊥

theorem pay1_at (r c : Fin 512) : k0_pay1 (F := Ideal) q k (ix2 r c) = dotv q k r c := by
  unfold k0_pay1 dotv
  pointwise

theorem pay23_at (r c : Fin 512) : k0_pay23 (F := Ideal) q k (ix2 r c) = dotD q k r c := by
  have hc := c.isLt
  have hr := r.isLt
  have hs : IntOp.cmpi CmpIPredicate.sle (BitVec.ofNat 32 c.val) (BitVec.ofNat 32 r.val) = BitVec.ofBool (decide (c.val ≤ r.val)) := by word_cmp
  unfold k0_pay23 dotD dotv
  pointwise
  rw [mask_eq, hs, WordCmp.select_ofBool]
  simp only [decide_eq_true_eq]

theorem step_m (r : Fin 512) (a : Fin 128) :
    (step q k v s).m (ix2 r a) = max (s.m (ix2 r a)) (Finset.univ.fold max ⊥ fun c : Fin 512 => dotv q k r c) := by
  show k0_pay4 (F := Ideal) q k s.m (ix2 r a) = _
  have e := fun c : Fin 512 => pay1_at q k r c
  unfold k0_pay4 k0_pay2
  generalize k0_pay1 (F := Ideal) q k = p at e ⊢
  pointwise
  simp only [e]
  rw [neg_inf]

theorem stepD_m (r : Fin 512) (a : Fin 128) :
    (stepD q k v s).m (ix2 r a) = max (s.m (ix2 r a)) (Finset.univ.fold max ⊥ fun c : Fin 512 => dotD q k r c) := by
  show k0_pay28 (F := Ideal) (k0_pay24 (F := Ideal) q k s.m) (ix2 r a) = _
  have e := fun c : Fin 512 => pay23_at q k r c
  unfold k0_pay28 k0_pay24
  generalize k0_pay23 (F := Ideal) q k = p at e ⊢
  pointwise
  simp only [e]
  rw [neg_inf]

theorem same (x : FVec Ideal S512x128 .f32) (r : Fin 512) (a : Fin 128) : shapeCast S512x128 x shapeCasts_S512x128_S512x128 (ix2 r a) = x (ix2 r a) := by
  pointwise

theorem step_acc (r : Fin 512) (a : Fin 128) :
    (step q k v s).acc (ix2 r a) = Ideal.exp (s.m (ix2 r a) - (step q k v s).m (ix2 r a)) * s.acc (ix2 r a)
      + ∑ c : Fin 512, Ideal.exp (dotv q k r c - (step q k v s).m (ix2 r (lane c))) * v (ix2 c a) := by
  have hm := fun b => same (k0_pay2 (F := Ideal) q k s.m) r b
  change ∀ b, (step q k v s).m (ix2 r b) = _ at hm
  simp only [hm]
  show k0_pay3 (F := Ideal) q k s.m s.acc v (ix2 r a) = Ideal.exp (s.m (ix2 r a) - k0_pay2 (F := Ideal) q k s.m (ix2 r a)) * s.acc (ix2 r a)
      + ∑ c : Fin 512, Ideal.exp (dotv q k r c - k0_pay2 (F := Ideal) q k s.m (ix2 r (lane c))) * v (ix2 c a)
  have e := fun c : Fin 512 => pay1_at q k r c
  unfold k0_pay3
  generalize k0_pay1 (F := Ideal) q k = p at e ⊢
  generalize k0_pay2 (F := Ideal) q k s.m = m'
  have e' := fun c : Fin 512 => lanes_at m' r c
  pointwise at e' ⊢
  simp only [e, e']

theorem stepD_acc (r : Fin 512) (a : Fin 128) :
    (stepD q k v s).acc (ix2 r a) = Ideal.exp (s.m (ix2 r a) - (stepD q k v s).m (ix2 r a)) * s.acc (ix2 r a)
      + ∑ c : Fin 512, Ideal.exp (dotD q k r c - (stepD q k v s).m (ix2 r (lane c))) * v (ix2 c a) := by
  have hm := fun b => same (k0_pay24 (F := Ideal) q k s.m) r b
  change ∀ b, (stepD q k v s).m (ix2 r b) = _ at hm
  simp only [hm]
  show k0_pay27 (F := Ideal) (k0_pay23 (F := Ideal) q k) (k0_pay25 (F := Ideal) q k s.m) (k0_pay26 (F := Ideal) q k s.m) s.acc v (ix2 r a)
    = Ideal.exp (s.m (ix2 r a) - k0_pay24 (F := Ideal) q k s.m (ix2 r a)) * s.acc (ix2 r a)
      + ∑ c : Fin 512, Ideal.exp (dotD q k r c - k0_pay24 (F := Ideal) q k s.m (ix2 r (lane c))) * v (ix2 c a)
  have e := fun c : Fin 512 => pay23_at q k r c
  unfold k0_pay27 k0_pay25 k0_pay26
  generalize k0_pay23 (F := Ideal) q k = p at e ⊢
  generalize k0_pay24 (F := Ideal) q k s.m = m'
  have e' := fun c : Fin 512 => lanes_at m' r c
  pointwise at e' ⊢
  simp only [e, e']

end Cert.Proof.AttentionIdeal
-- ==== Proof.FwdRow.lean ====
/-
  A row of a head after all its chunks: the output's lanes are the sums of the probabilities times the values' lanes,
  and the log-sum-exp's lanes are the row's.
-/
module

public import proofs.«01_k».proof.Proof.FwdVal

@[expose] public section

set_option maxRecDepth 16384

noncomputable section

namespace Cert.Proof.AttentionIdeal

open Cert.AttentionIdeal Cert.AttentionIdeal.Gen Cert.Proof.Attn Cert.Proof.Online
open Cert.Proof.KernelIdeal (lane ladder row)
open Idealize.ShloMosaic Idealize.ShloMosaic.TcCoe

variable (Q K : Fin 8192 → Fin 96 → ℝ) (w : Fin 128 → Fin 8192 → EReal) (o : Fin 16)
  (q : FVec Ideal S512x128 .bf16) (k v : Fin 16 → FVec Ideal S512x128 .bf16)

theorem key_row (n : Fin 16) (c : Fin 512) : key n.val c = row n c := Fin.ext (by
  show 512 * (n.val % 16) + c.val = 512 * n.val + c.val
  rw [Nat.mod_eq_of_lt n.isLt])

/-- The chunks' logits and values are those of the head. -/
structure Data : Prop where
  dot : ∀ (n : Fin 16) (r c : Fin 512), dotv q (k n) r c = (sc Q K (row o r) (row n c) : EReal)
  val : ∀ (n : Fin 16) (c : Fin 512) (a : Fin 128), v n (ix2 c a) = w a (row n c)

/-- What a head's state says of row `r` after `n` chunks. -/
def RowHolds (r : Fin 512) (n : ℕ) (s : St Ideal) : Prop :=
  ∃ μ : EReal, (∀ a : Fin 128, s.m (ix2 r a) = μ) ∧ Holds Q K w (row o r) n μ (fun a => s.acc (ix2 r a))

variable {Q K w o q k v}

theorem lg_below (d : Data Q K w o q k v) (n : Fin 16) (h : n < o) (r c : Fin 512) : dotv q (k n) r c = lg Q K (row o r) (key n.val c) := by
  have h' : n.val < o.val := h
  have hc := c.isLt
  rw [d.dot, key_row]
  unfold lg
  rw [if_pos (by show 512 * n.val + c.val ≤ 512 * o.val + r.val; omega)]

theorem lg_diag (d : Data Q K w o q k v) (r c : Fin 512) : dotD q (k o) r c = lg Q K (row o r) (key o.val c) := by
  unfold dotD lg
  rw [d.dot, key_row]
  refine if_congr ?_ rfl rfl
  show _ ↔ 512 * o.val + c.val ≤ 512 * o.val + r.val
  omega

theorem rowHolds_step (d : Data Q K w o q k v) (n : Fin 16) (h : n < o) (r : Fin 512) (s : St Ideal) (hs : RowHolds Q K w o r n.val s) :
    RowHolds Q K w o r (n.val + 1) (step q (k n) (v n) s) := by
  obtain ⟨μ, hm, hH⟩ := hs
  have h' : n.val < o.val := h
  have hm' := fun a => step_m q (k n) (v n) s r a
  simp only [hm, lg_below d n h] at hm'
  refine ⟨_, hm', holds_step Q K w (row o r) n.val ?_ μ _ _ _ hH rfl fun a => ?_⟩
  · rw [key_row]
    show 512 * n.val + 0 ≤ 512 * o.val + r.val
    omega
  · refine (step_acc q (k n) (v n) s r a).trans ?_
    simp only [hm, hm', lg_below d n h, d.val, key_row]

theorem rowHolds_stepD (d : Data Q K w o q k v) (r : Fin 512) (s : St Ideal) (hs : RowHolds Q K w o r o.val s) :
    RowHolds Q K w o r (o.val + 1) (stepD q (k o) (v o) s) := by
  obtain ⟨μ, hm, hH⟩ := hs
  have hm' := fun a => stepD_m q (k o) (v o) s r a
  simp only [hm, lg_diag d] at hm'
  refine ⟨_, hm', holds_step Q K w (row o r) o.val ?_ μ _ _ _ hH rfl fun a => ?_⟩
  · rw [key_row]
    show 512 * o.val + 0 ≤ 512 * o.val + r.val
    omega
  · refine (stepD_acc q (k o) (v o) s r a).trans ?_
    simp only [hm, hm', lg_diag d, d.val, key_row]

theorem rowHolds_run (d : Data Q K w o q k v) (r : Fin 512) (n : ℕ) (hn : n ≤ o.val) : RowHolds Q K w o r n (run q k v n) := by
  induction n with
  | zero =>
    refine ⟨⊥, fun a => ?_, Or.inl ⟨rfl, rfl, fun a => ?_⟩⟩
    · rfl
    · show (Ideal.ofBits .f32 0x00000000#32 : EReal) = 0
      exact Ideal.ofBits_zero _
  | succ n ih =>
    have h16 : n < 16 := by have := o.isLt; omega
    rw [run_succ _ _ _ n h16]
    exact rowHolds_step d ⟨n, h16⟩ (show n < o.val by omega) r _ (ih (by omega))

theorem rowHolds_fin (d : Data Q K w o q k v) (r : Fin 512) : RowHolds Q K w o r (o.val + 1) (fin q k v o) :=
  rowHolds_stepD d r _ (rowHolds_run d r o.val le_rfl)

theorem outO_at (s : St Ideal) (r : Fin 512) (a : Fin 128) : outO s (ix2 r a) = Ideal.div (s.acc (ix2 r a)) (s.acc (ix2 r 64)) := by
  unfold outO k0_pay36 k0_pay35
  pointwise

theorem outL_at (s : St Ideal) (r : Fin 512) (a : Fin 128) : outL s (ix2 r a) = s.m (ix2 r a) + Ideal.log (s.acc (ix2 r 64)) := by
  unfold outL k0_pay37 k0_pay35
  pointwise

/-- The output of a row whose lane 64 holds ones. -/
theorem fin_out (d : Data Q K w o q k v) (h1 : ∀ x, w 64 x = 1) (r : Fin 512) (a : Fin 128) :
    outO (fin q k v o) (ix2 r a) = ∑ x, (pr Q K (row o r) x : EReal) * w a x := by
  have hr : (row o r).val < 512 * (o.val + 1) := by
    show 512 * o.val + r.val < 512 * (o.val + 1)
    have := r.isLt
    omega
  have ho : o.val + 1 ≤ 16 := o.isLt
  obtain ⟨μ, -, ⟨e, -⟩ | ⟨M, -, ha⟩⟩ := rowHolds_fin d r
  · exact absurd e (Nat.succ_ne_zero _)
  · rw [outO_at]
    refine (congrArg₂ Ideal.div ((ha a).trans (part_all Q K (w a) M _ _ ho hr)) ((ha 64).trans (part_all Q K (w 64) M _ _ ho hr))).trans ?_
    simp only [h1]
    exact quot Q K (w a) M (row o r)

theorem fin_lse (d : Data Q K w o q k v) (h1 : ∀ x, w 64 x = 1) (r : Fin 512) (a : Fin 128) :
    outL (fin q k v o) (ix2 r a) = (lse Q K (row o r) : EReal) := by
  have hr : (row o r).val < 512 * (o.val + 1) := by
    show 512 * o.val + r.val < 512 * (o.val + 1)
    have := r.isLt
    omega
  have ho : o.val + 1 ≤ 16 := o.isLt
  obtain ⟨μ, hm, ⟨e, -⟩ | ⟨M, hM, ha⟩⟩ := rowHolds_fin d r
  · exact absurd e (Nat.succ_ne_zero _)
  · rw [outL_at]
    refine (congrArg₂ (fun x y : EReal => x + Ideal.log y) ((hm a).trans hM) ((ha 64).trans (part_all Q K (w 64) M _ _ ho hr))).trans ?_
    simp only [h1]
    exact lse_any Q K M (row o r)

end Cert.Proof.AttentionIdeal
-- ==== Proof.FwdHost.lean ====
/-
  The three arrays that the forward attention call is given, read at a row, a head and a lane.
-/
module

public import proofs.«01_k».proof.Proof.Gen.AttentionIdeal.Frame
public import proofs.«01_k».proof.Proof.Attn
public import Idealize.ShloMosaic.Lib.StableHlo.RunRead

@[expose] public section

set_option maxRecDepth 16384

noncomputable section

namespace Cert.Proof.AttentionIdeal

open Cert.AttentionIdeal Cert.AttentionIdeal.Gen Cert.Proof.Attn
open Idealize.ShloMosaic Idealize.ShloMosaic.TcCoe Idealize.SL.Sem

/-- Lane `a` of head `h` in a row of 1024. -/
abbrev col (h : Fin 8) (a : Fin 128) : Fin 1024 := ⟨128 * h.val + a.val, by have := h.isLt; have := a.isLt; omega⟩

variable (m : (ℓ : Loc nD τ sig) → Buf (Elt Ideal) ℓ) (c : Dev nD)

def X0 : FVec Ideal S8192x8x96 .f32 := m ((c : Thread nD τ).loc main_arg0)
def X1 : FVec Ideal S8192x8x96 .f32 := m ((c : Thread nD τ).loc main_arg1)
def X2 : FVec Ideal S8192x8x64 .f32 := m ((c : Thread nD τ).loc main_arg2)

def O0 : FVec Ideal S8192x1024 .bf16 := V m c main_v6
def O1 : FVec Ideal S8192x1024 .bf16 := V m c main_v9
def O2 : FVec Ideal S8192x1024 .bf16 := V m c main_v12

/-- The scaled query. -/
def hQ (x0 : FVec Ideal S8192x8x96 .f32) : FVec Ideal S8192x8x96 .f32 := mulf x0 (broadcastInDim S8192x8x96 ![] bcast_S_S8192x8x96 (constant S_ .f32 0x3DD105EC#32))

theorem O0_eq : O0 m c = truncf .bf16 (shapeCast S8192x1024 (pad S8192x8x128 ![0, 0, 0] ![0, 0, 32] ![0, 0, 0] (hQ (X0 m c)) (sitofp .f32 (constantI S_ 32 0#32))
    pads_S8192x8x96_S8192x8x128_000_000_0320 h_S_) shapeCasts_S8192x8x128_S8192x1024) bitsLt_bf16_f32 := by
  unfold O0
  after_reads_simp
  rfl
theorem O1_eq : O1 m c = truncf .bf16 (shapeCast S8192x1024 (pad S8192x8x128 ![0, 0, 0] ![0, 0, 32] ![0, 0, 0] (X1 m c) (sitofp .f32 (constantI S_ 32 0#32))
    pads_S8192x8x96_S8192x8x128_000_000_0320 h_S_) shapeCasts_S8192x8x128_S8192x1024) bitsLt_bf16_f32 := by
  unfold O1
  after_reads_simp
  rfl
theorem O2_eq : O2 m c = truncf .bf16 (shapeCast S8192x1024 (pad S8192x8x128 ![0, 0, 0] ![0, 0, 63] ![0, 0, 0]
    (concatenate S8192x8x65 2 [⟨S8192x8x64, X2 m c⟩, ⟨S8192x8x1, broadcastInDim S8192x8x1 ![] bcast_S_S8192x8x1 (constant (F := Ideal) S_ .f32 0x3F800000#32)⟩] concatenates_S8192x8x64_S8192x8x1_S8192x8x65_d2)
    (sitofp .f32 (constantI S_ 32 0#32)) pads_S8192x8x65_S8192x8x128_000_000_0630 h_S_) shapeCasts_S8192x8x128_S8192x1024) bitsLt_bf16_f32 := by
  unfold O2
  after_reads_simp
  rfl

theorem zero_int : (FloatOps.sitofp FTy.f32 0#32 : Ideal .f32) = (0 : EReal) := by
  show ((((0#32 : BitVec 32).toInt : ℝ)) : EReal) = 0
  simp

variable (y0 y1 : S8192x8x96.Idx → ℝ)

theorem hQ_at (q : Fin 8192) (h : Fin 8) (d : Fin 96) : hQ (up .f32 y0) (ix3 q h d) = (qh y0 h q d : EReal) := by
  unfold hQ
  pointwise
  rw [scl_eq]
  exact (EReal.coe_mul _ _).symm

theorem O0_at (e0 : X0 m c = up .f32 y0) (q : Fin 8192) (h : Fin 8) (a : Fin 128) :
    O0 m c (ix2 q (col h a)) = if ha : a.val < 96 then (qh y0 h q ⟨a.val, ha⟩ : EReal) else 0 := by
  rw [O0_eq, e0]
  pointwise
  have h1 : (128 * h.val + a.val) / 128 = h.val := by have := a.isLt; omega
  have h2 : (128 * h.val + a.val) % 128 = a.val := by have := a.isLt; omega
  simp only [h1, h2, h.isLt, true_and, zero_int, hQ_at]

theorem O1_at (e1 : X1 m c = up .f32 y1) (q : Fin 8192) (h : Fin 8) (a : Fin 128) :
    O1 m c (ix2 q (col h a)) = if ha : a.val < 96 then (kh y1 h q ⟨a.val, ha⟩ : EReal) else 0 := by
  rw [O1_eq, e1]
  pointwise
  have h1 : (128 * h.val + a.val) / 128 = h.val := by have := a.isLt; omega
  have h2 : (128 * h.val + a.val) % 128 = a.val := by have := a.isLt; omega
  simp only [h1, h2, h.isLt, true_and, zero_int]
  rfl

/-- The logits of a head from the call's operands. -/
theorem dot_at (e0 : X0 m c = up .f32 y0) (e1 : X1 m c = up .f32 y1) (h : Fin 8) (q k : Fin 8192) :
    ∑ a : Fin 128, O0 m c (ix2 q (col h a)) * O1 m c (ix2 k (col h a)) = (sc (qh y0 h) (kh y1 h) q k : EReal) := by
  refine sum_pad (by decide) _ _ (qh y0 h q) (kh y1 h k) (fun a ha => ?_) (fun a ha => ?_) (fun a ha => ?_)
  · rw [O0_at m c y0 e0, dif_pos ha]
  · rw [O0_at m c y0 e0, dif_neg ha]
  · rw [O1_at m c y1 e1, dif_pos ha]

/-- The values of a head, with a lane of ones after them and zeros after that. -/
theorem O2_at (q : Fin 8192) (h : Fin 8) (a : Fin 128) :
    O2 m c (ix2 q (col h a)) = if ha : a.val < 64 then X2 m c (ix3 q h ⟨a.val, ha⟩) else if a.val = 64 then (1 : EReal) else 0 := by
  rw [O2_eq]
  generalize X2 m c = X
  pointwise
  have h1 : (128 * h.val + a.val) / 128 = h.val := by have := a.isLt; omega
  have h2 : (128 * h.val + a.val) % 128 = a.val := by have := a.isLt; omega
  simp only [h1, h2, h.isLt, true_and, zero_int]
  by_cases h3 : a.val < 64
  · have h5 : a.val < 65 := by omega
    simp only [h3, h5, dite_true]
  · by_cases h4 : a.val = 64
    · have h5 : a.val < 65 := by omega
      simp only [h3, h5, dite_true, dite_false, if_pos h4]
    · have h5 : ¬a.val < 65 := by omega
      simp only [h3, h5, h4, dite_false, if_false]

/-- The lane of ones. -/
theorem O2_one (q : Fin 8192) (h : Fin 8) (a : Fin 128) (h4 : a.val = 64) : O2 m c (ix2 q (col h a)) = (1 : EReal) := by
  have h3 : ¬a.val < 64 := by omega
  rw [O2_at]
  simp only [dif_neg h3, if_pos h4]

end Cert.Proof.AttentionIdeal

end
-- ==== Proof.FwdArrays.lean ====
/-
  The two result arrays of the forward attention call after its run.
-/
module

public import proofs.«01_k».proof.Proof.FwdRow
public import proofs.«01_k».proof.Proof.FwdHost

@[expose] public section

set_option maxRecDepth 16384

noncomputable section

namespace Cert.Proof.AttentionIdeal

open Cert.AttentionIdeal Cert.AttentionIdeal.Gen Cert.Proof.Attn
open Cert.Proof.KernelIdeal (row)
open Idealize.ShloMosaic Idealize.ShloMosaic.TcCoe Idealize.SL.Sem
open Idealize.ShloMosaic.Pipeline (Dat)

/-! ## The two heads of a block -/

theorem lo_at {α : Type} (x : S512x256.Idx → α) (r : Fin 512) (a : Fin 128) : lo x (ix2 r a) = x (ix2 r ⟨a.val, by have := a.isLt; omega⟩) :=
  congrArg x (by blk_ext [])
theorem hi_at {α : Type} (x : S512x256.Idx → α) (r : Fin 512) (a : Fin 128) : hi x (ix2 r a) = x (ix2 r ⟨128 + a.val, by have := a.isLt; omega⟩) :=
  congrArg x (by blk_ext [])
theorem chunk_at {α : Type} (x : S8192x256.Idx → α) (h : Fin 2) (n : Fin 16) (r : Fin 512) (a : Fin 128) :
    chunk x h n (ix2 r a) = x (ix2 (row n r) ⟨128 * h.val + a.val, by have := a.isLt; have := h.isLt; omega⟩) :=
  congrArg x (by blk_ext [])

theorem idx : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val % 16, t.val / 16] ∧ (grid0.coords t 1).val = t.val % 16 :=
  (by decide +kernel : ∀ t : Fin grid0.N, _)

/-- The tile of a grid point, and its two heads. -/
abbrev tl (t : Fin cfg0.N) : Fin 16 := ⟨t.val % 16, Nat.mod_lt _ (by decide)⟩
abbrev hd (t : Fin cfg0.N) (u : Fin 2) : Fin 8 := ⟨2 * (t.val / 16) + u.val, by have := lt_of_lt_of_eq t.isLt N_0; have := u.isLt; omega⟩

theorem tileOf_eq (t : Fin cfg0.N) : tileOf (grid0.coords t) = tl t := Fin.ext (idx t).2.2.2.2.2

variable (m : (ℓ : Loc nD τ sig) → Buf (Elt Ideal) ℓ) (c : Dev nD)

/-- Contents of the buffers of a core. -/
abbrev Bufs := (b : Ref sig .tc) → Buf (Elt Ideal) ((c : Thread nD τ).loc b)

theorem read0 (W : Bufs c) (t : Fin cfg0.N) (r : Fin 512) (u : Fin 2) (a : Fin 128) :
    ((cfg0.win 0).blk t).view.read (Elt Ideal) (W (Pipeline.arrRef spec0 0)) (ix2 r ⟨128 * u.val + a.val, by have := a.isLt; have := u.isLt; omega⟩)
      = W main_v6 (ix2 (row (tl t) r) (col (hd t u) a)) := by
  refine congrArg (W main_v6) ?_
  blk_ext [idx t]
theorem read1 (W : Bufs c) (t : Fin cfg0.N) (k : Fin 8192) (u : Fin 2) (a : Fin 128) :
    ((cfg0.win 1).blk t).view.read (Elt Ideal) (W (Pipeline.arrRef spec0 1)) (ix2 k ⟨128 * u.val + a.val, by have := a.isLt; have := u.isLt; omega⟩)
      = W main_v9 (ix2 k (col (hd t u) a)) := by
  refine congrArg (W main_v9) ?_
  blk_ext [idx t]
theorem read2 (W : Bufs c) (t : Fin cfg0.N) (k : Fin 8192) (u : Fin 2) (a : Fin 128) :
    ((cfg0.win 2).blk t).view.read (Elt Ideal) (W (Pipeline.arrRef spec0 2)) (ix2 k ⟨128 * u.val + a.val, by have := a.isLt; have := u.isLt; omega⟩)
      = W main_v12 (ix2 k (col (hd t u) a)) := by
  refine congrArg (W main_v12) ?_
  blk_ext [idx t]

theorem q_lo (t : Fin cfg0.N) (r : Fin 512) (a : Fin 128) : lo (iblk m c 0 t) (ix2 r a) = O0 m c (ix2 (row (tl t) r) (col (hd t 0) a)) := by
  refine (lo_at _ r a).trans (Eq.trans (congrArg _ ?_) (read0 c (V m c) t r 0 a))
  blk_ext []
theorem q_hi (t : Fin cfg0.N) (r : Fin 512) (a : Fin 128) : hi (iblk m c 0 t) (ix2 r a) = O0 m c (ix2 (row (tl t) r) (col (hd t 1) a)) := by
  refine (hi_at _ r a).trans (Eq.trans (congrArg _ ?_) (read0 c (V m c) t r 1 a))
  blk_ext []
theorem k_at (t : Fin cfg0.N) (u : Fin 2) (n : Fin 16) (r : Fin 512) (a : Fin 128) : chunk (iblk m c 1 t) u n (ix2 r a) = O1 m c (ix2 (row n r) (col (hd t u) a)) :=
  (chunk_at _ u n r a).trans (read1 c (V m c) t (row n r) u a)
theorem v_at (t : Fin cfg0.N) (u : Fin 2) (n : Fin 16) (r : Fin 512) (a : Fin 128) : chunk (iblk m c 2 t) u n (ix2 r a) = O2 m c (ix2 (row n r) (col (hd t u) a)) :=
  (chunk_at _ u n r a).trans (read2 c (V m c) t (row n r) u a)

/-- The values' lanes of a head. -/
def vals (h : Fin 8) (a : Fin 128) (x : Fin 8192) : EReal := O2 m c (ix2 x (col h a))

theorem vals_one (h : Fin 8) (x : Fin 8192) : vals m c h 64 x = 1 := O2_one m c x h 64 rfl

variable (y0 y1 : S8192x8x96.Idx → ℝ) (e0 : X0 m c = up .f32 y0) (e1 : X1 m c = up .f32 y1)

include e0 e1

theorem data (t : Fin cfg0.N) (u : Fin 2) (q : FVec Ideal S512x128 .bf16) (hq : ∀ r a, q (ix2 r a) = O0 m c (ix2 (row (tl t) r) (col (hd t u) a))) :
    Data (qh y0 (hd t u)) (kh y1 (hd t u)) (vals m c (hd t u)) (tl t) q (chunk (iblk m c 1 t) u) (chunk (iblk m c 2 t) u) where
  dot n r x := by
    unfold dotv
    refine Eq.trans (Finset.sum_congr rfl fun a _ => ?_) (dot_at m c y0 y1 e0 e1 (hd t u) (row (tl t) r) (row n x))
    exact congrArg₂ (fun p z : EReal => p * z) (hq r a) (k_at m c t u n x a)
  val n x a := v_at m c t u n x a

/-- The output of a point on a head's lanes. -/
theorem point3 (t : Fin cfg0.N) (u : Fin 2) (r : Fin 512) (a : Fin 128) :
    (outsAt0 m c t).1 (ix2 r ⟨128 * u.val + a.val, by have := a.isLt; have := u.isLt; omega⟩)
      = ∑ x, (pr (qh y0 (hd t u)) (kh y1 (hd t u)) (row (tl t) r) x : EReal) * vals m c (hd t u) a x := by
  unfold outsAt0
  dsimp only
  match u with
  | 0 =>
    refine Eq.trans ?_ (fin_out (data m c y0 y1 e0 e1 t 0 (lo (iblk m c 0 t)) (q_lo m c t)) (vals_one m c _) r a)
    rw [← tileOf_eq, ← out3_lo, lo_at]
    refine congrArg _ ?_
    blk_ext []
  | 1 =>
    refine Eq.trans ?_ (fin_out (data m c y0 y1 e0 e1 t 1 (hi (iblk m c 0 t)) (q_hi m c t)) (vals_one m c _) r a)
    rw [← tileOf_eq, ← out3_hi, hi_at]
    refine congrArg _ ?_
    blk_ext []

/-- The log-sum-exp of a point on a head's lanes. -/
theorem point4 (t : Fin cfg0.N) (u : Fin 2) (r : Fin 512) (a : Fin 128) :
    (outsAt0 m c t).2 (ix2 r ⟨128 * u.val + a.val, by have := a.isLt; have := u.isLt; omega⟩)
      = (lse (qh y0 (hd t u)) (kh y1 (hd t u)) (row (tl t) r) : EReal) := by
  unfold outsAt0
  dsimp only
  match u with
  | 0 =>
    refine Eq.trans ?_ (fin_lse (data m c y0 y1 e0 e1 t 0 (lo (iblk m c 0 t)) (q_lo m c t)) (vals_one m c _) r a)
    rw [← tileOf_eq, ← out4_lo, lo_at]
    refine congrArg _ ?_
    blk_ext []
  | 1 =>
    refine Eq.trans ?_ (fin_lse (data m c y0 y1 e0 e1 t 1 (hi (iblk m c 0 t)) (q_hi m c t)) (vals_one m c _) r a)
    rw [← tileOf_eq, ← out4_hi, hi_at]
    refine congrArg _ ?_
    blk_ext []

omit e0 e1

/-- The head and the lane of a column. -/
abbrev headOf (a : Fin 1024) : Fin 8 := ⟨a.val / 128, by have := a.isLt; omega⟩
abbrev laneOf (a : Fin 1024) : Fin 128 := ⟨a.val % 128, Nat.mod_lt _ (by decide)⟩

/-- The output, and the log-sum-exp. -/
def G3 : S8192x1024.Idx → EReal := fun i => ∑ x, (pr (qh y0 (headOf (i 1))) (kh y1 (headOf (i 1))) (i 0) x : EReal) * vals m c (headOf (i 1)) (laneOf (i 1)) x
def G4 : S8192x1024.Idx → EReal := fun i => (lse (qh y0 (headOf (i 1))) (kh y1 (headOf (i 1))) (i 0) : EReal)

theorem headOf_col (h : Fin 8) (a : Fin 128) : headOf (col h a) = h := Fin.ext (by show (128 * h.val + a.val) / 128 = h.val; have := a.isLt; omega)
theorem laneOf_col (h : Fin 8) (a : Fin 128) : laneOf (col h a) = a := Fin.ext (by show (128 * h.val + a.val) % 128 = a.val; have := a.isLt; omega)

/-- An index of a block is a row, one of the two heads and a lane. -/
theorem split_col (a : Fin 256) : ∃ (u : Fin 2) (b : Fin 128), a = ⟨128 * u.val + b.val, by have := b.isLt; have := u.isLt; omega⟩ :=
  ⟨⟨a.val / 128, by have := a.isLt; omega⟩, ⟨a.val % 128, Nat.mod_lt _ (by decide)⟩, Fin.ext (by show a.val = 128 * (a.val / 128) + a.val % 128; omega)⟩

include e0 e1

theorem final3 : (dats m 0 c).arrAt 3 (cfgs 0).N = G3 m c y0 y1 := by
  refine (dats m 0 c).arrAt_eq_of_covers 3 _ (by decide +kernel) fun t hf z => ?_
  blk_simp
  rw [after0_3]
  idx_vars z
  obtain ⟨u, b, rfl⟩ := split_col z1
  rw [point3 m c y0 y1 e0 e1]
  have e : ((View.whole main_v13_0).slice (win0_3.rect t)).emb (ix2 z0 ⟨128 * u.val + b.val, by have := b.isLt; have := u.isLt; omega⟩) = ix2 (row (tl t) z0) (col (hd t u) b) := by blk_ext [idx t]
  refine Eq.trans ?_ (congrArg (G3 m c y0 y1) e).symm
  show _ = ∑ x, (pr (qh y0 (headOf (col (hd t u) b))) (kh y1 (headOf (col (hd t u) b))) (row (tl t) z0) x : EReal) * vals m c (headOf (col (hd t u) b)) (laneOf (col (hd t u) b)) x
  rw [headOf_col, laneOf_col]

theorem final4 : (dats m 0 c).arrAt 4 (cfgs 0).N = G4 y0 y1 := by
  refine (dats m 0 c).arrAt_eq_of_covers 4 _ (by decide +kernel) fun t hf z => ?_
  blk_simp
  rw [after0_4]
  idx_vars z
  obtain ⟨u, b, rfl⟩ := split_col z1
  rw [point4 m c y0 y1 e0 e1]
  have e : ((View.whole main_v13_1).slice (win0_4.rect t)).emb (ix2 z0 ⟨128 * u.val + b.val, by have := b.isLt; have := u.isLt; omega⟩) = ix2 (row (tl t) z0) (col (hd t u) b) := by blk_ext [idx t]
  refine Eq.trans ?_ (congrArg (G4 y0 y1) e).symm
  show _ = (lse (qh y0 (headOf (col (hd t u) b))) (kh y1 (headOf (col (hd t u) b))) (row (tl t) z0) : EReal)
  rw [headOf_col]

end Cert.Proof.AttentionIdeal

end
-- ==== Proof.FwdRef.lean ====
/-
  What the reference of the forward attention computes where the queries and the keys are real.
-/
module

public import proofs.«01_k».proof.Proof.Gen.AttentionRefIdeal.Read
public import proofs.«01_k».proof.Proof.Attn

@[expose] public section

set_option maxRecDepth 16384

noncomputable section

namespace Cert.Proof.AttentionRefIdeal

open Cert.AttentionRefIdeal Cert.AttentionRefIdeal.Gen Cert.AttentionRefIdeal.Read Cert.Proof.Attn
open Idealize.ShloMosaic Idealize.ShloMosaic.TcCoe

variable (y0 y1 : S8192x8x96.Idx → ℝ) (x2 : FVec Ideal S8192x8x64 .f32)

theorem v1_at (q : Fin 8192) (h : Fin 8) (d : Fin 96) : val_main_v1 (F := Ideal) (up .f32 y0) (ix3 q h d) = (qh y0 h q d : EReal) := by
  unfold val_main_v1 val_main_v0 val_main_cst
  pointwise
  rw [scl_eq]
  exact (EReal.coe_mul _ _).symm

theorem v8_at (q k : Fin 8192) : val_main_v8 (F := Ideal) (ix3 0 q k) = BitVec.ofBool (decide (k.val ≤ q.val)) := by
  unfold val_main_v8 val_main_v6 val_main_v7 val_main_v4 val_main_v5 val_main_v3
  pointwise
  exact mask_word q k

theorem v2_at (h : Fin 8) (q k : Fin 8192) : val_main_v2 (F := Ideal) (up .f32 y0) (up .f32 y1) (ix3 h q k) = (sc (qh y0 h) (kh y1 h) q k : EReal) := by
  unfold val_main_v2
  pointwise
  simp only [v1_at]
  exact coe_sum_mul _ _ _

theorem logits_at (h : Fin 8) (q k : Fin 8192) : val_main_v9 (F := Ideal) (up .f32 y0) (up .f32 y1) (ix3 h q k) = lg (qh y0 h) (kh y1 h) q k := by
  unfold val_main_v9 val_main_call0_v2 val_main_call0_v1 val_main_call0_v0 val_main_cst_0
  pointwise
  rw [v8_at, v2_at, WordCmp.select_ofBool]
  simp only [decide_eq_true_eq]
  unfold lg
  exact if_congr Iff.rfl rfl neg_inf

theorem v10_at (h : Fin 8) (q : Fin 8192) : val_main_v10 (F := Ideal) (up .f32 y0) (up .f32 y1) (ix2 h q) = mx (qh y0 h) (kh y1 h) q := by
  unfold val_main_v10 val_main_cst_1
  pointwise
  simp only [logits_at]
  rw [neg_inf]
  rfl

theorem v23_at (h : Fin 8) (q : Fin 8192) : val_main_v23 (F := Ideal) (up .f32 y0) (up .f32 y1) (ix2 h q) = mx (qh y0 h) (kh y1 h) q :=
  v10_at y0 y1 h q

theorem max_bot (a b : Ideal .f32) (ha : a = (⊥ : EReal)) : FloatOps.maximumf a b = b := by
  subst ha
  exact max_eq_right (bot_le (α := EReal) (a := b))

theorem v11_at (i : S8x8192.Idx) : val_main_v11 (F := Ideal) i = (⊥ : EReal) := by
  rw [val_main_v11_apply]
  exact neg_inf

theorem v12_at (h : Fin 8) (q : Fin 8192) : val_main_v12 (F := Ideal) (up .f32 y0) (up .f32 y1) (ix2 h q) = mx (qh y0 h) (kh y1 h) q := by
  rw [val_main_v12_apply, max_bot _ _ (v11_at _), v10_at]

theorem v16_at (h : Fin 8) (q k : Fin 8192) : val_main_v16 (F := Ideal) (up .f32 y0) (up .f32 y1) (ix3 h q k) = (ex (qh y0 h) (kh y1 h) q k : EReal) := by
  unfold val_main_v16 val_main_v15 val_main_v14 val_main_v13
  pointwise
  rw [logits_at, v12_at, exp_lg]

theorem v17_at (h : Fin 8) (q : Fin 8192) : val_main_v17 (F := Ideal) (up .f32 y0) (up .f32 y1) (ix2 h q) = (den (qh y0 h) (kh y1 h) q : EReal) := by
  unfold val_main_v17 val_main_cst_3
  pointwise
  simp only [v16_at]
  exact coe_sum _ _

theorem v20_at (h : Fin 8) (q k : Fin 8192) : val_main_v20 (F := Ideal) (up .f32 y0) (up .f32 y1) (ix3 h q k) = (pr (qh y0 h) (kh y1 h) q k : EReal) := by
  unfold val_main_v20 val_main_v19 val_main_v18
  pointwise
  rw [v16_at, v17_at, div_ex]

theorem v22_at (q : Fin 8192) (h : Fin 8) (d : Fin 64) : val_main_v22 (F := Ideal) (up .f32 y0) (up .f32 y1) x2 (ix3 q h d)
    = ∑ k : Fin 8192, (pr (qh y0 h) (kh y1 h) q k : EReal) * x2 (ix3 k h d) := by
  unfold val_main_v22 val_main_v21
  pointwise
  simp only [v20_at]
  exact Finset.sum_congr rfl fun k _ => mul_comm _ _

theorem v27_at (h : Fin 8) (q k : Fin 8192) : val_main_v27 (F := Ideal) (up .f32 y0) (up .f32 y1) (ix3 h q k) = (ex (qh y0 h) (kh y1 h) q k : EReal) := by
  unfold val_main_v27 val_main_v26 val_main_v25 val_main_v24
  pointwise
  rw [logits_at, v23_at, exp_lg]

theorem v28_at (h : Fin 8) (q : Fin 8192) : val_main_v28 (F := Ideal) (up .f32 y0) (up .f32 y1) (ix2 h q) = (den (qh y0 h) (kh y1 h) q : EReal) := by
  unfold val_main_v28 val_main_cst_5
  pointwise
  simp only [v27_at]
  exact coe_sum _ _

theorem v30_at (h : Fin 8) (q : Fin 8192) : val_main_v30 (F := Ideal) (up .f32 y0) (up .f32 y1) (ix2 h q) = (lse (qh y0 h) (kh y1 h) q : EReal) := by
  rw [val_main_v30_apply, val_main_v29_apply, v23_at, v28_at]
  exact lse_eq _ _ _

/-! ## The results -/

/-- Lane `a` of head `h` in a row of 1024. -/
abbrev lane (h : Fin 8) (a : Fin 128) : Fin 1024 := ⟨128 * h.val + a.val, by have := h.isLt; have := a.isLt; omega⟩

theorem v37_at (q : Fin 8192) (h : Fin 8) (a : Fin 128) :
    val_main_v37 (F := Ideal) (up .f32 y0) (up .f32 y1) (ix2 q (lane h a)) = (lse (qh y0 h) (kh y1 h) q : EReal) := by
  rw [← v30_at]
  unfold val_main_v37 val_main_v36 val_main_v31
  pointwise
  have h1 : (128 * h.val + a.val) / 128 = h.val := by have := a.isLt; omega
  simp only [h1]

theorem v35_at (q : Fin 8192) (h : Fin 8) (a : Fin 128) :
    val_main_v35 (F := Ideal) (up .f32 y0) (up .f32 y1) x2 (ix2 q (lane h a))
      = if ha : a.val < 64 then ∑ k : Fin 8192, (pr (qh y0 h) (kh y1 h) q k : EReal) * x2 (ix3 k h ⟨a.val, ha⟩) else if a.val = 64 then (1 : EReal) else 0 := by
  unfold val_main_v35 val_main_v34 val_main_v33 val_main_v32 val_main_cst_6 val_main_cst_7
  pointwise
  have h1 : (128 * h.val + a.val) / 128 = h.val := by have := a.isLt; omega
  have h2 : (128 * h.val + a.val) % 128 = a.val := by have := a.isLt; omega
  simp only [h1, h2, v22_at]
  by_cases h3 : a.val < 64
  · rw [dif_pos h3, dif_pos h3]
  · rw [dif_neg h3, dif_neg h3]
    by_cases h4 : a.val = 64
    · rw [dif_pos (show a.val - 64 < 1 by omega), if_pos h4]
    · rw [dif_neg (show ¬a.val - 64 < 1 by omega), if_neg h4]

end Cert.Proof.AttentionRefIdeal

end
-- ==== Proof.FwdAlgebraic.lean ====
/-
  The value claim of the forward attention: where the queries and the keys are finite, the kernel's idealization and the
  reference's end with the same output and the same log-sum-exp. The values may be anything.
-/
module

public import proofs.«01_k».proof.Defs
public import proofs.«01_k».proof.Proof.Gen.AttentionRefIdeal.Run
public import proofs.«01_k».proof.Proof.Gen.Pre_attn_finite
public import proofs.«01_k».proof.Proof.FwdArrays
public import proofs.«01_k».proof.Proof.FwdRef
public import proofs.«01_k».proof.Proof.Finite

@[expose] public section

set_option maxRecDepth 16384

noncomputable section

namespace Cert.Proof.AttentionIdeal

open Cert.AttentionIdeal Cert.AttentionIdeal.Gen Cert.Proof.Attn Cert.Proof.Online
open Idealize.ShloMosaic Idealize.ShloMosaic.TcCoe Idealize.SL.Sem

theorem real_of_finite [Cert.Pre_attn_finite.Facts] (x0 x1 : FVec Ideal S8192x8x96 .f32) (x2 : FVec Ideal S8192x8x64 .f32)
    (h : Cert.Pre_attn_finite.fn (F := Ideal) x0 x1 x2 = fun _ => 1#1) :
    ∃ y0 y1 : S8192x8x96.Idx → ℝ, x0 = up .f32 y0 ∧ x1 = up .f32 y1 := by
  have hj := congrFun h (fun k => k.elim0)
  obtain ⟨h0, h1⟩ := IntOp.andi_eq_one.1 hj
  exact ⟨_, _, Cert.Proof.Finite.up_of_all x0 _ _ _ _ h0, Cert.Proof.Finite.up_of_all x1 _ _ _ _ h1⟩

/-- Two arrays of 8192 rows and 8 heads of 128 lanes that agree at every row, head and lane are equal. -/
theorem ext_lanes {X Y : S8192x1024.Idx → EReal} (h : ∀ (q : Fin 8192) (n : Fin 8) (a : Fin 128), X (ix2 q (col n a)) = Y (ix2 q (col n a))) : X = Y := by
  funext i
  have e : i = ix2 (i 0) (col (headOf (i 1)) (laneOf (i 1))) := by
    idx_vars i
    refine congrArg (ix2 i0) (Fin.ext ?_)
    show i1.val = 128 * (i1.val / 128) + i1.val % 128
    omega
  rw [e]
  exact h _ _ _

variable (y0 y1 : S8192x8x96.Idx → ℝ) (m : (ℓ : Loc nD τ sig) → Buf (Elt Ideal) ℓ) (c : Dev nD)
variable (e0 : X0 m c = up .f32 y0) (e1 : X1 m c = up .f32 y1)

include e0 e1

theorem out_eq : Cert.AttentionRefIdeal.Read.val_main_v35 (F := Ideal) (X0 m c) (X1 m c) (X2 m c) = G3 m c y0 y1 := by
  refine ext_lanes fun q h a => ?_
  rw [e0, e1]
  refine (Cert.Proof.AttentionRefIdeal.v35_at y0 y1 (X2 m c) q h a).trans ?_
  show _ = ∑ x, (pr (qh y0 (headOf (col h a))) (kh y1 (headOf (col h a))) q x : EReal) * vals m c (headOf (col h a)) (laneOf (col h a)) x
  rw [headOf_col, laneOf_col]
  unfold vals
  simp only [O2_at]
  by_cases h3 : a.val < 64
  · simp only [dif_pos h3]
  · simp only [dif_neg h3]
    by_cases h4 : a.val = 64
    · simp only [if_pos h4, mul_one]
      rw [coe_sum, sum_pr]
      rfl
    · simp only [if_neg h4, mul_zero, Finset.sum_const_zero]

theorem lse_arr_eq : Cert.AttentionRefIdeal.Read.val_main_v37 (F := Ideal) (X0 m c) (X1 m c) = G4 y0 y1 := by
  refine ext_lanes fun q h a => ?_
  rw [e0, e1]
  refine (Cert.Proof.AttentionRefIdeal.v37_at y0 y1 q h a).trans ?_
  show _ = (lse (qh y0 (headOf (col h a))) (kh y1 (headOf (col h a))) q : EReal)
  rw [headOf_col]

omit e0 e1

/-- The kernel's run with its two results. -/
theorem run_kernel (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13_0) = (dats m 0 c).arrAt 3 (cfgs 0).N
      ∧ r.2.mem ((c.tc : Thread nD τ).loc main_v13_1) = (dats m 0 c).arrAt 4 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h.1 c).1 3, (h.1 c).1 4, h.2.1 c⟩)
    (θ_run_and (run_main m ρ) (frame m ρ))

theorem algebraic : Cert.algebraic_AttentionIdeal_AttentionRefIdeal_pre_attn_finite := by
  intro m g m' g' hpre hagree
  refine ⟨fun c => (dats m 0 c).arrAt 3 (cfgs 0).N, fun c => (dats m 0 c).arrAt 4 (cfgs 0).N,
    run_kernel m g, (θ_run Cert.AttentionRefIdeal.defs _ _).mono (fun r h c => ?_) (Cert.AttentionRefIdeal.Value.run (F := Ideal) m' g')⟩
  obtain ⟨y0, y1, e0, e1⟩ := real_of_finite _ _ _ (hpre c)
  obtain ⟨a0, a1, a2⟩ := hagree c
  obtain ⟨h0, h1, hargs⟩ := h c
  refine ⟨h0.trans ?_, h1.trans ?_, hargs⟩
  · rw [Cert.AttentionRefIdeal.Read.val_main_v35_eq, a0, a1, a2]
    exact (out_eq y0 y1 m c e0 e1).trans (final3 m c y0 y1 e0 e1).symm
  · rw [Cert.AttentionRefIdeal.Read.val_main_v37_eq, a0, a1]
    exact (lse_arr_eq y0 y1 m c e0 e1).trans (final4 m c y0 y1 e0 e1).symm

end Cert.Proof.AttentionIdeal

end
-- ==== Proof.lean ====
module

public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.NormBwd
public import proofs.«01_k».proof.Proof.Gen.NormBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.MergeBwd
public import proofs.«01_k».proof.Proof.Gen.MergeBwd.Frame
public import proofs.«01_k».proof.Proof.Gen.CombBwdIdeal
public import proofs.«01_k».proof.Proof.Gen.CombBwdIdeal.Frame
public import proofs.«01_k».proof.Proof.Gen.CombBwdIdeal.Value
public import proofs.«01_k».proof.Proof.Gen.CombBwdRefIdeal
public import proofs.«01_k».proof.Proof.Gen.CombBwdRefIdeal.Run
public import proofs.«01_k».proof.Proof.Gen.CombBwdRefIdeal.Read
public import proofs.«01_k».proof.Proof.Gen.CombBwd
public import proofs.«01_k».proof.Proof.Gen.CombBwd.Frame
public import proofs.«01_k».proof.Proof.Gen.CombFwdIdeal
public import proofs.«01_k».proof.Proof.Gen.CombFwdIdeal.Frame
public import proofs.«01_k».proof.Proof.Gen.CombFwdIdeal.Value
public import proofs.«01_k».proof.Proof.Gen.CombFwdRefIdeal
public import proofs.«01_k».proof.Proof.Gen.CombFwdRefIdeal.Run
public import proofs.«01_k».proof.Proof.Gen.CombFwdRefIdeal.Read
public import proofs.«01_k».proof.Proof.Gen.CombFwd
public import proofs.«01_k».proof.Proof.Gen.CombFwd.Frame
public import proofs.«01_k».proof.Proof.Gen.NormFwd
public import proofs.«01_k».proof.Proof.Gen.NormFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.MergeFwd
public import proofs.«01_k».proof.Proof.Gen.MergeFwd.Frame
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Attention
public import proofs.«01_k».proof.Proof.Gen.AttentionIdeal
public import proofs.«01_k».proof.Proof.Gen.Attention.Frame
public import proofs.«01_k».proof.Proof.Gen.AttentionIdeal.Frame
public import proofs.«01_k».proof.Proof.Gen.AttentionRefIdeal
public import proofs.«01_k».proof.Proof.Gen.AttentionRefIdeal.Run
public import proofs.«01_k».proof.Proof.Gen.AttentionRefIdeal.Read
public import proofs.«01_k».proof.Proof.Gen.Pre_attn_finite
public import proofs.«01_k».proof.Proof.Gen.Pre_finite
public import proofs.«01_k».proof.Proof.Gen.Pre_conv_finite
public import proofs.«01_k».proof.Proof.Gen.Pre_norm_finite
public import proofs.«01_k».proof.Proof.Gen.Pre_combine_bwd_finite
public import proofs.«01_k».proof.Proof.Gen.Pre_combine_finite
public import proofs.«01_k».proof.Proof.Gen.Dx
public import proofs.«01_k».proof.Proof.Gen.Dx.Frame
public import proofs.«01_k».proof.Proof.DxVal
public import proofs.«01_k».proof.Proof.Gen.Dx1
public import proofs.«01_k».proof.Proof.Gen.Dx1.Frame
public import proofs.«01_k».proof.Proof.Dx1Val
public import proofs.«01_k».proof.Proof.Gen.DwUp
public import proofs.«01_k».proof.Proof.Gen.DwUp.Frame
public import proofs.«01_k».proof.Proof.DwUpVal
public import proofs.«01_k».proof.Proof.Gen.DwDown
public import proofs.«01_k».proof.Proof.Gen.DwDown.Frame
public import proofs.«01_k».proof.Proof.DwDownVal
public import proofs.«01_k».proof.Proof.Gen.DwIn
public import proofs.«01_k».proof.Proof.Gen.DwIn.Frame
public import proofs.«01_k».proof.Proof.DwInVal
public import proofs.«01_k».proof.Proof.Gen.Dh
public import proofs.«01_k».proof.Proof.Gen.Dh.Frame
public import proofs.«01_k».proof.Proof.DhVal
public import proofs.«01_k».proof.Proof.Gen.ProjAttn
public import proofs.«01_k».proof.Proof.Gen.ProjAttn.Frame
public import proofs.«01_k».proof.Proof.ProjAttnVal
public import proofs.«01_k».proof.Proof.Gen.ProjRest
public import proofs.«01_k».proof.Proof.Gen.ProjRest.Frame
public import proofs.«01_k».proof.Proof.ProjRestVal
public import proofs.«01_k».proof.Proof.Gen.FfnUp
public import proofs.«01_k».proof.Proof.Gen.FfnUp.Frame
public import proofs.«01_k».proof.Proof.FfnUpVal
public import proofs.«01_k».proof.Proof.Gen.FfnDown
public import proofs.«01_k».proof.Proof.Gen.FfnDown.Frame
public import proofs.«01_k».proof.Proof.FfnDownVal
public import proofs.«01_k».proof.Proof.Gen.OutProj
public import proofs.«01_k».proof.Proof.Gen.OutProj.Frame
public import proofs.«01_k».proof.Proof.OutProjVal
public import proofs.«01_k».proof.Proof.Gen.DwOut
public import proofs.«01_k».proof.Proof.Gen.DwOut.Frame
public import proofs.«01_k».proof.Proof.DwOutVal
public import proofs.«01_k».proof.Proof.Gen.Dmerged
public import proofs.«01_k».proof.Proof.Gen.Dmerged.Frame
public import proofs.«01_k».proof.Proof.DmergedVal
public import proofs.«01_k».proof.Proof.Gen.Branch0
public import proofs.«01_k».proof.Proof.Gen.Branch0.Frame
public import proofs.«01_k».proof.Proof.Branch0Val
public import proofs.«01_k».proof.Proof.Gen.Branch1
public import proofs.«01_k».proof.Proof.Gen.Branch1.Frame
public import proofs.«01_k».proof.Proof.Branch1Val
public import proofs.«01_k».proof.Proof.Gen.Branch2
public import proofs.«01_k».proof.Proof.Gen.Branch2.Frame
public import proofs.«01_k».proof.Proof.Branch2Val
public import proofs.«01_k».proof.Proof.Gen.DwBranch0
public import proofs.«01_k».proof.Proof.Gen.DwBranch0.Frame
public import proofs.«01_k».proof.Proof.DwBranch0Val
public import proofs.«01_k».proof.Proof.Gen.DwBranch1
public import proofs.«01_k».proof.Proof.Gen.DwBranch1.Frame
public import proofs.«01_k».proof.Proof.DwBranch1Val
public import proofs.«01_k».proof.Proof.Gen.DwBranch2
public import proofs.«01_k».proof.Proof.Gen.DwBranch2.Frame
public import proofs.«01_k».proof.Proof.DwBranch2Val
public import proofs.«01_k».proof.Proof.Gen.DoBranch0
public import proofs.«01_k».proof.Proof.Gen.DoBranch0.Frame
public import proofs.«01_k».proof.Proof.DoBranch0Val
public import proofs.«01_k».proof.Proof.Gen.DoBranch2
public import proofs.«01_k».proof.Proof.Gen.DoBranch2.Frame
public import proofs.«01_k».proof.Proof.DoBranch2Val
public import proofs.«01_k».proof.Proof.Gen.ConvBwd
public import proofs.«01_k».proof.Proof.Gen.ConvBwd.Frame
public import proofs.«01_k».proof.Proof.ConvBwdEqual
public import proofs.«01_k».proof.Proof.NormBwdVal
public import proofs.«01_k».proof.Proof.NormFwdVal
public import proofs.«01_k».proof.Proof.MergeBwdVal
public import proofs.«01_k».proof.Proof.MergeFwdVal
public import proofs.«01_k».proof.Proof.CombBwdVal
public import proofs.«01_k».proof.Proof.CombFwdVal
public import proofs.«01_k».proof.Proof.Gen.ConvFwd
public import proofs.«01_k».proof.Proof.Gen.ConvFwd.Frame
public import proofs.«01_k».proof.Proof.ConvFwdVal
public import proofs.«01_k».proof.Proof.Run
public import proofs.«01_k».proof.Proof.BitsRun
public import proofs.«01_k».proof.Proof.Algebraic
public import proofs.«01_k».proof.Proof.FwdAlgebraic

@[expose] public section

noncomputable section

namespace Cert.Proof

open Idealize.ShloMosaic Idealize.SL.Sem

theorem frame_r : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

theorem frame_r_finite : Cert.quiescent_ReferenceIdeal_pre_finite := fun m g _ => frame_r m g trivial

theorem frame_AttentionRef : Cert.quiescent_AttentionRefIdeal := fun m g _ =>
  (θ_run Cert.AttentionRefIdeal.defs _ _).mono
    (fun r h => ⟨fun c => (h c).2.2, Idealize.ShloMosaic.sem_eq_zero_of_no_sems (by decide) r.2⟩)
    (Cert.AttentionRefIdeal.Value.run (F := Ideal) m g)

theorem frame_DxRef : Cert.quiescent_DxRefIdeal := fun m g _ =>
  (θ_run Cert.DxRefIdeal.defs _ _).mono
    (fun r h => ⟨fun c => (h c).2, Idealize.ShloMosaic.sem_eq_zero_of_no_sems (by decide) r.2⟩)
    (Cert.DxRefIdeal.Value.run (F := Ideal) m g)

theorem frame_Dx1Ref : Cert.quiescent_Dx1RefIdeal := fun m g _ =>
  (θ_run Cert.Dx1RefIdeal.defs _ _).mono
    (fun r h => ⟨fun c => (h c).2, Idealize.ShloMosaic.sem_eq_zero_of_no_sems (by decide) r.2⟩)
    (Cert.Dx1RefIdeal.Value.run (F := Ideal) m g)

theorem frame_DwUpRef : Cert.quiescent_DwUpRefIdeal := fun m g _ =>
  (θ_run Cert.DwUpRefIdeal.defs _ _).mono
    (fun r h => ⟨fun c => (h c).2, Idealize.ShloMosaic.sem_eq_zero_of_no_sems (by decide) r.2⟩)
    (Cert.DwUpRefIdeal.Value.run (F := Ideal) m g)

theorem frame_DwDownRef : Cert.quiescent_DwDownRefIdeal := fun m g _ =>
  (θ_run Cert.DwDownRefIdeal.defs _ _).mono
    (fun r h => ⟨fun c => (h c).2, Idealize.ShloMosaic.sem_eq_zero_of_no_sems (by decide) r.2⟩)
    (Cert.DwDownRefIdeal.Value.run (F := Ideal) m g)

theorem frame_DwInRef : Cert.quiescent_DwInRefIdeal := fun m g _ =>
  (θ_run Cert.DwInRefIdeal.defs _ _).mono
    (fun r h => ⟨fun c => (h c).2, Idealize.ShloMosaic.sem_eq_zero_of_no_sems (by decide) r.2⟩)
    (Cert.DwInRefIdeal.Value.run (F := Ideal) m g)

theorem frame_DhRef : Cert.quiescent_DhRefIdeal := fun m g _ =>
  (θ_run Cert.DhRefIdeal.defs _ _).mono
    (fun r h => ⟨fun c => (h c).2, Idealize.ShloMosaic.sem_eq_zero_of_no_sems (by decide) r.2⟩)
    (Cert.DhRefIdeal.Value.run (F := Ideal) m g)

theorem frame_ProjAttnRef : Cert.quiescent_ProjAttnRefIdeal := fun m g _ =>
  (θ_run Cert.ProjAttnRefIdeal.defs _ _).mono
    (fun r h => ⟨fun c => (h c).2, Idealize.ShloMosaic.sem_eq_zero_of_no_sems (by decide) r.2⟩)
    (Cert.ProjAttnRefIdeal.Value.run (F := Ideal) m g)

theorem frame_ProjRestRef : Cert.quiescent_ProjRestRefIdeal := fun m g _ =>
  (θ_run Cert.ProjRestRefIdeal.defs _ _).mono
    (fun r h => ⟨fun c => (h c).2, Idealize.ShloMosaic.sem_eq_zero_of_no_sems (by decide) r.2⟩)
    (Cert.ProjRestRefIdeal.Value.run (F := Ideal) m g)

theorem frame_FfnUpRef : Cert.quiescent_FfnUpRefIdeal := fun m g _ =>
  (θ_run Cert.FfnUpRefIdeal.defs _ _).mono
    (fun r h => ⟨fun c => (h c).2, Idealize.ShloMosaic.sem_eq_zero_of_no_sems (by decide) r.2⟩)
    (Cert.FfnUpRefIdeal.Value.run (F := Ideal) m g)

theorem frame_FfnDownRef : Cert.quiescent_FfnDownRefIdeal := fun m g _ =>
  (θ_run Cert.FfnDownRefIdeal.defs _ _).mono
    (fun r h => ⟨fun c => (h c).2, Idealize.ShloMosaic.sem_eq_zero_of_no_sems (by decide) r.2⟩)
    (Cert.FfnDownRefIdeal.Value.run (F := Ideal) m g)

theorem frame_OutProjRef : Cert.quiescent_OutProjRefIdeal := fun m g _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m g)

theorem frame_DwOutRef : Cert.quiescent_DwOutRefIdeal := fun m g _ =>
  (θ_run Cert.DwOutRefIdeal.defs _ _).mono
    (fun r h => ⟨fun c => (h c).2, Idealize.ShloMosaic.sem_eq_zero_of_no_sems (by decide) r.2⟩)
    (Cert.DwOutRefIdeal.Value.run (F := Ideal) m g)

theorem frame_DmergedRef : Cert.quiescent_DmergedRefIdeal := fun m g _ =>
  (θ_run Cert.DmergedRefIdeal.defs _ _).mono
    (fun r h => ⟨fun c => (h c).2, Idealize.ShloMosaic.sem_eq_zero_of_no_sems (by decide) r.2⟩)
    (Cert.DmergedRefIdeal.Value.run (F := Ideal) m g)

theorem frame_Branch0Ref : Cert.quiescent_Branch0RefIdeal := fun m g _ =>
  (θ_run Cert.Branch0RefIdeal.defs _ _).mono
    (fun r h => ⟨fun c => (h c).2, Idealize.ShloMosaic.sem_eq_zero_of_no_sems (by decide) r.2⟩)
    (Cert.Branch0RefIdeal.Value.run (F := Ideal) m g)

theorem frame_Branch1Ref : Cert.quiescent_Branch1RefIdeal := fun m g _ =>
  (θ_run Cert.Branch1RefIdeal.defs _ _).mono
    (fun r h => ⟨fun c => (h c).2, Idealize.ShloMosaic.sem_eq_zero_of_no_sems (by decide) r.2⟩)
    (Cert.Branch1RefIdeal.Value.run (F := Ideal) m g)

theorem frame_Branch2Ref : Cert.quiescent_Branch2RefIdeal := fun m g _ =>
  (θ_run Cert.Branch2RefIdeal.defs _ _).mono
    (fun r h => ⟨fun c => (h c).2, Idealize.ShloMosaic.sem_eq_zero_of_no_sems (by decide) r.2⟩)
    (Cert.Branch2RefIdeal.Value.run (F := Ideal) m g)

theorem frame_DwBranch0Ref : Cert.quiescent_DwBranch0RefIdeal := fun m g _ =>
  (θ_run Cert.DwBranch0RefIdeal.defs _ _).mono
    (fun r h => ⟨fun c => (h c).2, Idealize.ShloMosaic.sem_eq_zero_of_no_sems (by decide) r.2⟩)
    (Cert.DwBranch0RefIdeal.Value.run (F := Ideal) m g)

theorem frame_DwBranch1Ref : Cert.quiescent_DwBranch1RefIdeal := fun m g _ =>
  (θ_run Cert.DwBranch1RefIdeal.defs _ _).mono
    (fun r h => ⟨fun c => (h c).2, Idealize.ShloMosaic.sem_eq_zero_of_no_sems (by decide) r.2⟩)
    (Cert.DwBranch1RefIdeal.Value.run (F := Ideal) m g)

theorem frame_DwBranch2Ref : Cert.quiescent_DwBranch2RefIdeal := fun m g _ =>
  (θ_run Cert.DwBranch2RefIdeal.defs _ _).mono
    (fun r h => ⟨fun c => (h c).2, Idealize.ShloMosaic.sem_eq_zero_of_no_sems (by decide) r.2⟩)
    (Cert.DwBranch2RefIdeal.Value.run (F := Ideal) m g)

theorem frame_DoBranch0Ref : Cert.quiescent_DoBranch0RefIdeal := fun m g _ =>
  (θ_run Cert.DoBranch0RefIdeal.defs _ _).mono
    (fun r h => ⟨fun c => (h c).2, Idealize.ShloMosaic.sem_eq_zero_of_no_sems (by decide) r.2⟩)
    (Cert.DoBranch0RefIdeal.Value.run (F := Ideal) m g)

theorem frame_DoBranch2Ref : Cert.quiescent_DoBranch2RefIdeal := fun m g _ =>
  (θ_run Cert.DoBranch2RefIdeal.defs _ _).mono
    (fun r h => ⟨fun c => (h c).2, Idealize.ShloMosaic.sem_eq_zero_of_no_sems (by decide) r.2⟩)
    (Cert.DoBranch2RefIdeal.Value.run (F := Ideal) m g)

theorem frame_ConvBwdRef : Cert.quiescent_ConvBwdRefIdeal := fun m g _ =>
  (θ_run Cert.ConvBwdRefIdeal.defs _ _).mono
    (fun r h => ⟨fun c => (h c).2.2.2.2.2.2, Idealize.ShloMosaic.sem_eq_zero_of_no_sems (by decide) r.2⟩)
    (Cert.ConvBwdRefIdeal.Value.run (F := Ideal) m g)

theorem frame_ConvFwdRef : Cert.quiescent_ConvFwdRefIdeal := fun m g _ =>
  (θ_run Cert.ConvFwdRefIdeal.defs _ _).mono
    (fun r h => ⟨fun c => (h c).2, Idealize.ShloMosaic.sem_eq_zero_of_no_sems (by decide) r.2⟩)
    (Cert.ConvFwdRefIdeal.Value.run (F := Ideal) m g)

theorem frame_NormBwdRef : Cert.quiescent_NormBwdRefIdeal := fun m g _ =>
  (θ_run Cert.NormBwdRefIdeal.defs _ _).mono
    (fun r h => ⟨fun c => (h c).2.2.2, Idealize.ShloMosaic.sem_eq_zero_of_no_sems (by decide) r.2⟩)
    (Cert.NormBwdRefIdeal.Value.run (F := Ideal) m g)

theorem frame_NormFwdRef : Cert.quiescent_NormFwdRefIdeal := fun m g _ =>
  (θ_run Cert.NormFwdRefIdeal.defs _ _).mono
    (fun r h => ⟨fun c => (h c).2.2, Idealize.ShloMosaic.sem_eq_zero_of_no_sems (by decide) r.2⟩)
    (Cert.NormFwdRefIdeal.Value.run (F := Ideal) m g)

theorem frame_MergeBwdRef : Cert.quiescent_MergeBwdRefIdeal := fun m g _ =>
  (θ_run Cert.MergeBwdRefIdeal.defs _ _).mono
    (fun r h => ⟨fun c => (h c).2.2.2.2.2.2.2.2.2, Idealize.ShloMosaic.sem_eq_zero_of_no_sems (by decide) r.2⟩)
    (Cert.MergeBwdRefIdeal.Value.run (F := Ideal) m g)

theorem frame_MergeFwdRef : Cert.quiescent_MergeFwdRefIdeal := fun m g _ =>
  (θ_run Cert.MergeFwdRefIdeal.defs _ _).mono
    (fun r h => ⟨fun c => (h c).2, Idealize.ShloMosaic.sem_eq_zero_of_no_sems (by decide) r.2⟩)
    (Cert.MergeFwdRefIdeal.Value.run (F := Ideal) m g)

theorem frame_CombBwdRef : Cert.quiescent_CombBwdRefIdeal := fun m g _ =>
  (θ_run Cert.CombBwdRefIdeal.defs _ _).mono
    (fun r h => ⟨fun c => (h c).2.2.2.2.2.2, Idealize.ShloMosaic.sem_eq_zero_of_no_sems (by decide) r.2⟩)
    (Cert.CombBwdRefIdeal.Value.run (F := Ideal) m g)

theorem frame_CombFwdRef : Cert.quiescent_CombFwdRefIdeal := fun m g _ =>
  (θ_run Cert.CombFwdRefIdeal.defs _ _).mono
    (fun r h => ⟨fun c => (h c).2, Idealize.ShloMosaic.sem_eq_zero_of_no_sems (by decide) r.2⟩)
    (Cert.CombFwdRefIdeal.Value.run (F := Ideal) m g)

theorem claim : Cert.Claim := ⟨Cert.Kernel.Gen.facts, Cert.KernelIdeal.Gen.facts, Cert.ReferenceIdeal.Gen.facts,
  Cert.Attention.Gen.facts, Cert.AttentionIdeal.Gen.facts, Cert.AttentionRefIdeal.Gen.facts,
  Cert.Dx.Gen.facts, Cert.DxIdeal.Gen.facts, Cert.DxRefIdeal.Gen.facts,
  Cert.Dx1.Gen.facts, Cert.Dx1Ideal.Gen.facts, Cert.Dx1RefIdeal.Gen.facts,
  Cert.DwUp.Gen.facts, Cert.DwUpIdeal.Gen.facts, Cert.DwUpRefIdeal.Gen.facts,
  Cert.DwDown.Gen.facts, Cert.DwDownIdeal.Gen.facts, Cert.DwDownRefIdeal.Gen.facts,
  Cert.DwIn.Gen.facts, Cert.DwInIdeal.Gen.facts, Cert.DwInRefIdeal.Gen.facts,
  Cert.Dh.Gen.facts, Cert.DhIdeal.Gen.facts, Cert.DhRefIdeal.Gen.facts,
  Cert.ProjAttn.Gen.facts, Cert.ProjAttnIdeal.Gen.facts, Cert.ProjAttnRefIdeal.Gen.facts,
  Cert.ProjRest.Gen.facts, Cert.ProjRestIdeal.Gen.facts, Cert.ProjRestRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.OutProj.Gen.facts, Cert.OutProjIdeal.Gen.facts, Cert.OutProjRefIdeal.Gen.facts,
  Cert.DwOut.Gen.facts, Cert.DwOutIdeal.Gen.facts, Cert.DwOutRefIdeal.Gen.facts,
  Cert.Dmerged.Gen.facts, Cert.DmergedIdeal.Gen.facts, Cert.DmergedRefIdeal.Gen.facts,
  Cert.Branch0.Gen.facts, Cert.Branch0Ideal.Gen.facts, Cert.Branch0RefIdeal.Gen.facts,
  Cert.Branch1.Gen.facts, Cert.Branch1Ideal.Gen.facts, Cert.Branch1RefIdeal.Gen.facts,
  Cert.Branch2.Gen.facts, Cert.Branch2Ideal.Gen.facts, Cert.Branch2RefIdeal.Gen.facts,
  Cert.DwBranch0.Gen.facts, Cert.DwBranch0Ideal.Gen.facts, Cert.DwBranch0RefIdeal.Gen.facts,
  Cert.DwBranch1.Gen.facts, Cert.DwBranch1Ideal.Gen.facts, Cert.DwBranch1RefIdeal.Gen.facts,
  Cert.DwBranch2.Gen.facts, Cert.DwBranch2Ideal.Gen.facts, Cert.DwBranch2RefIdeal.Gen.facts,
  Cert.DoBranch0.Gen.facts, Cert.DoBranch0Ideal.Gen.facts, Cert.DoBranch0RefIdeal.Gen.facts,
  Cert.DoBranch2.Gen.facts, Cert.DoBranch2Ideal.Gen.facts, Cert.DoBranch2RefIdeal.Gen.facts,
  Cert.ConvBwd.Gen.facts, Cert.ConvBwdIdeal.Gen.facts, Cert.ConvBwdRefIdeal.Gen.facts,
  Cert.ConvFwd.Gen.facts, Cert.ConvFwdIdeal.Gen.facts, Cert.ConvFwdRefIdeal.Gen.facts,
  Cert.NormBwd.Gen.facts, Cert.NormBwdIdeal.Gen.facts, Cert.NormBwdRefIdeal.Gen.facts,
  Cert.NormFwd.Gen.facts, Cert.NormFwdIdeal.Gen.facts, Cert.NormFwdRefIdeal.Gen.facts,
  Cert.MergeBwd.Gen.facts, Cert.MergeBwdIdeal.Gen.facts, Cert.MergeBwdRefIdeal.Gen.facts,
  Cert.MergeFwd.Gen.facts, Cert.MergeFwdIdeal.Gen.facts, Cert.MergeFwdRefIdeal.Gen.facts,
  Cert.CombBwd.Gen.facts, Cert.CombBwdIdeal.Gen.facts, Cert.CombBwdRefIdeal.Gen.facts,
  Cert.CombFwd.Gen.facts, Cert.CombFwdIdeal.Gen.facts, Cert.CombFwdRefIdeal.Gen.facts,
  Cert.Pre_finite.Gen.facts, Cert.Pre_attn_finite.Gen.facts, Cert.Pre_conv_finite.Gen.facts, Cert.Pre_norm_finite.Gen.facts,
  Cert.Pre_combine_bwd_finite.Gen.facts, Cert.Pre_combine_finite.Gen.facts,
  fun m g _ => Cert.Proof.Kernel.frame_quiescent m g,
  fun m g _ => Cert.Proof.KernelIdeal.frame_quiescent m g,
  fun m g _ => Cert.Proof.KernelIdeal.frame_quiescent m g,
  frame_r,
  frame_r_finite,
  fun m g _ => Cert.Attention.Gen.frame m g, fun m g _ => Cert.AttentionIdeal.Gen.frame m g, fun m g _ => Cert.AttentionIdeal.Gen.frame m g,
  frame_AttentionRef, fun m g _ => frame_AttentionRef m g trivial,
  fun m g _ => Cert.Dx.Gen.frame m g, fun m g _ => Cert.DxIdeal.Gen.frame m g, frame_DxRef,
  fun m g _ => Cert.Dx1.Gen.frame m g, fun m g _ => Cert.Dx1Ideal.Gen.frame m g, frame_Dx1Ref,
  fun m g _ => Cert.DwUp.Gen.frame m g, fun m g _ => Cert.DwUpIdeal.Gen.frame m g, frame_DwUpRef,
  fun m g _ => Cert.DwDown.Gen.frame m g, fun m g _ => Cert.DwDownIdeal.Gen.frame m g, frame_DwDownRef,
  fun m g _ => Cert.DwIn.Gen.frame m g, fun m g _ => Cert.DwInIdeal.Gen.frame m g, frame_DwInRef,
  fun m g _ => Cert.Dh.Gen.frame m g, fun m g _ => Cert.DhIdeal.Gen.frame m g, frame_DhRef,
  fun m g _ => Cert.ProjAttn.Gen.frame m g, fun m g _ => Cert.ProjAttnIdeal.Gen.frame m g, frame_ProjAttnRef,
  fun m g _ => Cert.ProjRest.Gen.frame m g, fun m g _ => Cert.ProjRestIdeal.Gen.frame m g, frame_ProjRestRef,
  fun m g _ => Cert.FfnUp.Gen.frame m g, fun m g _ => Cert.FfnUpIdeal.Gen.frame m g, frame_FfnUpRef,
  fun m g _ => Cert.FfnDown.Gen.frame m g, fun m g _ => Cert.FfnDownIdeal.Gen.frame m g, frame_FfnDownRef,
  fun m g _ => Cert.OutProj.Gen.frame m g, fun m g _ => Cert.OutProjIdeal.Gen.frame m g, frame_OutProjRef,
  fun m g _ => Cert.DwOut.Gen.frame m g, fun m g _ => Cert.DwOutIdeal.Gen.frame m g, frame_DwOutRef,
  fun m g _ => Cert.Dmerged.Gen.frame m g, fun m g _ => Cert.DmergedIdeal.Gen.frame m g, frame_DmergedRef,
  fun m g _ => Cert.Branch0.Gen.frame m g, fun m g _ => Cert.Branch0Ideal.Gen.frame m g, frame_Branch0Ref,
  fun m g _ => Cert.Branch1.Gen.frame m g, fun m g _ => Cert.Branch1Ideal.Gen.frame m g, frame_Branch1Ref,
  fun m g _ => Cert.Branch2.Gen.frame m g, fun m g _ => Cert.Branch2Ideal.Gen.frame m g, frame_Branch2Ref,
  fun m g _ => Cert.DwBranch0.Gen.frame m g, fun m g _ => Cert.DwBranch0Ideal.Gen.frame m g, frame_DwBranch0Ref,
  fun m g _ => Cert.DwBranch1.Gen.frame m g, fun m g _ => Cert.DwBranch1Ideal.Gen.frame m g, frame_DwBranch1Ref,
  fun m g _ => Cert.DwBranch2.Gen.frame m g, fun m g _ => Cert.DwBranch2Ideal.Gen.frame m g, frame_DwBranch2Ref,
  fun m g _ => Cert.DoBranch0.Gen.frame m g, fun m g _ => Cert.DoBranch0Ideal.Gen.frame m g, frame_DoBranch0Ref,
  fun m g _ => Cert.DoBranch2.Gen.frame m g, fun m g _ => Cert.DoBranch2Ideal.Gen.frame m g, frame_DoBranch2Ref,
  fun m g _ => Cert.ConvBwd.Gen.frame m g, fun m g _ => Cert.ConvBwdIdeal.Gen.frame m g, fun m g _ => Cert.ConvBwdIdeal.Gen.frame m g,
  frame_ConvBwdRef, fun m g _ => frame_ConvBwdRef m g trivial,
  fun m g _ => Cert.ConvFwd.Gen.frame m g, fun m g _ => Cert.ConvFwdIdeal.Gen.frame m g, frame_ConvFwdRef,
  fun m g _ => Cert.NormBwd.Gen.frame m g, fun m g _ => Cert.NormBwdIdeal.Gen.frame m g, fun m g _ => Cert.NormBwdIdeal.Gen.frame m g,
  frame_NormBwdRef, fun m g _ => frame_NormBwdRef m g trivial,
  fun m g _ => Cert.NormFwd.Gen.frame m g, fun m g _ => Cert.NormFwdIdeal.Gen.frame m g, frame_NormFwdRef,
  fun m g _ => Cert.MergeBwd.Gen.frame m g, fun m g _ => Cert.MergeBwdIdeal.Gen.frame m g, frame_MergeBwdRef,
  fun m g _ => Cert.MergeFwd.Gen.frame m g, fun m g _ => Cert.MergeFwdIdeal.Gen.frame m g, frame_MergeFwdRef,
  fun m g _ => Cert.CombBwd.Gen.frame m g, fun m g _ => Cert.CombBwdIdeal.Gen.frame m g, fun m g _ => Cert.CombBwdIdeal.Gen.frame m g,
  frame_CombBwdRef, fun m g _ => frame_CombBwdRef m g trivial,
  fun m g _ => Cert.CombFwd.Gen.frame m g, fun m g _ => Cert.CombFwdIdeal.Gen.frame m g, fun m g _ => Cert.CombFwdIdeal.Gen.frame m g,
  frame_CombFwdRef, fun m g _ => frame_CombFwdRef m g trivial,
  IdealRules.named_const.statement Cert.KernelIdeal.κ "mask" .f32 0xF149F2CA#32 ⊥ rfl,
  algebraic,
  IdealRules.named_const.statement Cert.AttentionIdeal.κ "mask" .f32 0xF149F2CA#32 ⊥ rfl,
  Cert.Proof.AttentionIdeal.algebraic,
  trivial, Cert.Proof.DxIdeal.algebraic,
  trivial, Cert.Proof.Dx1Ideal.algebraic,
  trivial, Cert.Proof.DwUpIdeal.algebraic,
  trivial, Cert.Proof.DwDownIdeal.algebraic,
  trivial, Cert.Proof.DwInIdeal.algebraic,
  trivial, Cert.Proof.DhIdeal.algebraic,
  trivial, Cert.Proof.ProjAttnIdeal.algebraic,
  trivial, Cert.Proof.ProjRestIdeal.algebraic,
  trivial, Cert.Proof.FfnUpIdeal.algebraic,
  trivial, Cert.Proof.FfnDownIdeal.algebraic,
  trivial, Cert.Proof.OutProjIdeal.algebraic,
  trivial, Cert.Proof.DwOutIdeal.algebraic,
  trivial, Cert.Proof.DmergedIdeal.algebraic,
  trivial, Cert.Proof.Branch0Ideal.algebraic,
  trivial, Cert.Proof.Branch1Ideal.algebraic,
  trivial, Cert.Proof.Branch2Ideal.algebraic,
  trivial, Cert.Proof.DwBranch0Ideal.algebraic,
  trivial, Cert.Proof.DwBranch1Ideal.algebraic,
  trivial, Cert.Proof.DwBranch2Ideal.algebraic,
  trivial, Cert.Proof.DoBranch0Ideal.algebraic,
  trivial, Cert.Proof.DoBranch2Ideal.algebraic,
  trivial, Cert.Proof.ConvBwdIdeal.algebraic,
  trivial, Cert.Proof.ConvFwdIdeal.algebraic,
  trivial, Cert.Proof.NormBwdIdeal.algebraic,
  trivial, Cert.Proof.NormFwdIdeal.algebraic,
  trivial, Cert.Proof.MergeBwdIdeal.algebraic,
  trivial, Cert.Proof.MergeFwdIdeal.algebraic,
  trivial, Cert.Proof.CombBwdIdeal.algebraic,
  trivial, Cert.Proof.CombFwdIdeal.algebraic⟩

end Cert.Proof

end
